-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v371_0)) (v1 : (c : Dev Cert.KernelIdeal.nD) → Buf (Elt Ideal) ((c.tc : Thread Cert.KernelIdeal.nD Cert.KernelIdeal.τ).loc Cert.KernelIdeal.main_v371_1)) (v2 : (c : Dev Cert.KernelIdeal.nD) → Buf (Elt Ideal) ((c.tc : Thread Cert.KernelIdeal.nD Cert.KernelIdeal.τ).loc Cert.KernelIdeal.main_v371_2)) (v3 : (c : Dev Cert.KernelIdeal.nD) → Buf (Elt Ideal) ((c.tc : Thread Cert.KernelIdeal.nD Cert.KernelIdeal.τ).loc Cert.KernelIdeal.main_v371_3)) (v4 : (c : Dev Cert.KernelIdeal.nD) → Buf (Elt Ideal) ((c.tc : Thread Cert.KernelIdeal.nD Cert.KernelIdeal.τ).loc Cert.KernelIdeal.main_v371_4)) (v5 : (c : Dev Cert.KernelIdeal.nD) → Buf (Elt Ideal) ((c.tc : Thread Cert.KernelIdeal.nD Cert.KernelIdeal.τ).loc Cert.KernelIdeal.main_v371_5)) (v6 : (c : Dev Cert.KernelIdeal.nD) → Buf (Elt Ideal) ((c.tc : Thread Cert.KernelIdeal.nD Cert.KernelIdeal.τ).loc Cert.KernelIdeal.main_v371_6)) (v7 : (c : Dev Cert.KernelIdeal.nD) → Buf (Elt Ideal) ((c.tc : Thread Cert.KernelIdeal.nD Cert.KernelIdeal.τ).loc Cert.KernelIdeal.main_v371_7)) (v8 : (c : Dev Cert.KernelIdeal.nD) → Buf (Elt Ideal) ((c.tc : Thread Cert.KernelIdeal.nD Cert.KernelIdeal.τ).loc Cert.KernelIdeal.main_v371_8)) (v9 : (c : Dev Cert.KernelIdeal.nD) → Buf (Elt Ideal) ((c.tc : Thread Cert.KernelIdeal.nD Cert.KernelIdeal.τ).loc Cert.KernelIdeal.main_v371_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v371_0) = v0 c
          ∧ r.2.mem ((c.tc : Thread Cert.KernelIdeal.nD Cert.KernelIdeal.τ).loc Cert.KernelIdeal.main_v371_1) = v1 c
          ∧ r.2.mem ((c.tc : Thread Cert.KernelIdeal.nD Cert.KernelIdeal.τ).loc Cert.KernelIdeal.main_v371_2) = v2 c
          ∧ r.2.mem ((c.tc : Thread Cert.KernelIdeal.nD Cert.KernelIdeal.τ).loc Cert.KernelIdeal.main_v371_3) = v3 c
          ∧ r.2.mem ((c.tc : Thread Cert.KernelIdeal.nD Cert.KernelIdeal.τ).loc Cert.KernelIdeal.main_v371_4) = v4 c
          ∧ r.2.mem ((c.tc : Thread Cert.KernelIdeal.nD Cert.KernelIdeal.τ).loc Cert.KernelIdeal.main_v371_5) = v5 c
          ∧ r.2.mem ((c.tc : Thread Cert.KernelIdeal.nD Cert.KernelIdeal.τ).loc Cert.KernelIdeal.main_v371_6) = v6 c
          ∧ r.2.mem ((c.tc : Thread Cert.KernelIdeal.nD Cert.KernelIdeal.τ).loc Cert.KernelIdeal.main_v371_7) = v7 c
          ∧ r.2.mem ((c.tc : Thread Cert.KernelIdeal.nD Cert.KernelIdeal.τ).loc Cert.KernelIdeal.main_v371_8) = v8 c
          ∧ r.2.mem ((c.tc : Thread Cert.KernelIdeal.nD Cert.KernelIdeal.τ).loc Cert.KernelIdeal.main_v371_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_v296) = v2 c
          ∧ r.2.mem ((c.tc : Thread Cert.ReferenceIdeal.nD Cert.ReferenceIdeal.τ).loc Cert.ReferenceIdeal.main_v297) = v3 c
          ∧ r.2.mem ((c.tc : Thread Cert.ReferenceIdeal.nD Cert.ReferenceIdeal.τ).loc Cert.ReferenceIdeal.main_v298) = v4 c
          ∧ r.2.mem ((c.tc : Thread Cert.ReferenceIdeal.nD Cert.ReferenceIdeal.τ).loc Cert.ReferenceIdeal.main_v299) = v5 c
          ∧ r.2.mem ((c.tc : Thread Cert.ReferenceIdeal.nD Cert.ReferenceIdeal.τ).loc Cert.ReferenceIdeal.main_v300) = v6 c
          ∧ r.2.mem ((c.tc : Thread Cert.ReferenceIdeal.nD Cert.ReferenceIdeal.τ).loc Cert.ReferenceIdeal.main_v301) = v7 c
          ∧ r.2.mem ((c.tc : Thread Cert.ReferenceIdeal.nD Cert.ReferenceIdeal.τ).loc Cert.ReferenceIdeal.main_v302) = v8 c
          ∧ r.2.mem ((c.tc : Thread Cert.ReferenceIdeal.nD Cert.ReferenceIdeal.τ).loc Cert.ReferenceIdeal.main_v303) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_v7) = v2 c
          ∧ r.2.mem ((c.tc : Thread Cert.Reference3Ideal.nD Cert.Reference3Ideal.τ).loc Cert.Reference3Ideal.main_v8) = v3 c
          ∧ r.2.mem ((c.tc : Thread Cert.Reference3Ideal.nD Cert.Reference3Ideal.τ).loc Cert.Reference3Ideal.main_v9) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_v23) = v2 c
          ∧ r.2.mem ((c.tc : Thread Cert.Reference7Ideal.nD Cert.Reference7Ideal.τ).loc Cert.Reference7Ideal.main_v24) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v53) = v0 c
          ∧ r.2.mem ((c.tc : Thread Cert.Reference10Ideal.nD Cert.Reference10Ideal.τ).loc Cert.Reference10Ideal.main_v54) = v1 c
          ∧ r.2.mem ((c.tc : Thread Cert.Reference10Ideal.nD Cert.Reference10Ideal.τ).loc Cert.Reference10Ideal.main_v55) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2064x5376 : Shape := ⟨2, ![2064, 5376]⟩
abbrev S4x512 : Shape := ⟨2, ![4, 512]⟩
abbrev S512 : Shape := ⟨1, ![512]⟩
abbrev S8x64x64 : Shape := ⟨3, ![8, 64, 64]⟩
abbrev S2112x512 : Shape := ⟨2, ![2112, 512]⟩
abbrev S_ : Shape := ⟨0, ![]⟩

class Facts : Prop where
  bcast_S_S2064x5376 : S_.BroadcastsInDim S2064x5376 (![] : Fin 0 → Fin S2064x5376.rank)
  bcast_S_S4x512 : S_.BroadcastsInDim S4x512 (![] : Fin 0 → Fin S4x512.rank)
  bcast_S_S512 : S_.BroadcastsInDim S512 (![] : Fin 0 → Fin S512.rank)
  bcast_S_S8x64x64 : S_.BroadcastsInDim S8x64x64 (![] : Fin 0 → Fin S8x64x64.rank)
  bcast_S_S2112x512 : S_.BroadcastsInDim S2112x512 (![] : Fin 0 → Fin S2112x512.rank)

variable [Facts]

def fn_part1 {F : FTy → Type} [FloatOps F] (main_arg6 : FVec F S512 .f32) (main_arg7 : FVec F S512 .f32) (main_arg8 : FVec F S512 .f32) (main_arg9 : FVec F S2112x512 .f32) (main_v2 : IVec S2064x5376 1) (main_v5 : IVec S4x512 1) (main_v8 : IVec S512 1) (main_v11 : IVec S8x64x64 1) (main_v14 : IVec S512 1) (main_v17 : IVec S8x64x64 1) : IVec S2064x5376 1 × IVec S4x512 1 × IVec S512 1 × IVec S8x64x64 1 × IVec S512 1 × IVec S8x64x64 1 × IVec S512 1 × IVec S512 1 × IVec S512 1 × IVec S2112x512 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S512 .f32 := Host.absf main_arg8
  let main_cst_7 : FVec F S_ .f32 := constant S_ .f32 0x7F800000#32
  let main_v25 : FVec F S512 .f32 := broadcastInDim S512 ![] bcast_S_S512 main_cst_7
  let main_v26 : IVec S512 1 := cmpf .olt main_v24 main_v25
  let main_v27 : FVec F S2112x512 .f32 := Host.absf main_arg9
  let main_cst_8 : FVec F S_ .f32 := constant S_ .f32 0x7F800000#32
  let main_v28 : FVec F S2112x512 .f32 := broadcastInDim S2112x512 ![] bcast_S_S2112x512 main_cst_8
  let main_v29 : IVec S2112x512 1 := cmpf .olt main_v27 main_v28
  (main_v2, main_v5, main_v8, main_v11, main_v14, main_v17, main_v20, main_v23, main_v26, main_v29)

def fn {F : FTy → Type} [FloatOps F] (main_arg0 : FVec F S2064x5376 .f32) (main_arg1 : FVec F S4x512 .f32) (main_arg2 : FVec F S512 .f32) (main_arg3 : FVec F S8x64x64 .f32) (main_arg4 : FVec F S512 .f32) (main_arg5 : FVec F S8x64x64 .f32) (main_arg6 : FVec F S512 .f32) (main_arg7 : FVec F S512 .f32) (main_arg8 : FVec F S512 .f32) (main_arg9 : FVec F S2112x512 .f32) : IVec S2064x5376 1 × IVec S4x512 1 × IVec S512 1 × IVec S8x64x64 1 × IVec S512 1 × IVec S8x64x64 1 × IVec S512 1 × IVec S512 1 × IVec S512 1 × IVec S2112x512 1 :=
  let main_v0 : FVec F S2064x5376 .f32 := Host.absf main_arg0
  let main_cst : FVec F S_ .f32 := constant S_ .f32 0x7F800000#32
  let main_v1 : FVec F S2064x5376 .f32 := broadcastInDim S2064x5376 ![] bcast_S_S2064x5376 main_cst
  let main_v2 : IVec S2064x5376 1 := cmpf .olt main_v0 main_v1
  let main_v3 : FVec F S4x512 .f32 := Host.absf main_arg1
  let main_cst_0 : FVec F S_ .f32 := constant S_ .f32 0x7F800000#32
  let main_v4 : FVec F S4x512 .f32 := broadcastInDim S4x512 ![] bcast_S_S4x512 main_cst_0
  let main_v5 : IVec S4x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S8x64x64 .f32 := Host.absf main_arg3
  let main_cst_2 : FVec F S_ .f32 := constant S_ .f32 0x7F800000#32
  let main_v10 : FVec F S8x64x64 .f32 := broadcastInDim S8x64x64 ![] bcast_S_S8x64x64 main_cst_2
  let main_v11 : IVec S8x64x64 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S8x64x64 .f32 := Host.absf main_arg5
  let main_cst_4 : FVec F S_ .f32 := constant S_ .f32 0x7F800000#32
  let main_v16 : FVec F S8x64x64 .f32 := broadcastInDim S8x64x64 ![] bcast_S_S8x64x64 main_cst_4
  let main_v17 : IVec S8x64x64 1 := cmpf .olt main_v15 main_v16
  fn_part1 (F := F) main_arg6 main_arg7 main_arg8 main_arg9 main_v2 main_v5 main_v8 main_v11 main_v14 main_v17
-- ==== Pre_finite7.lean ====
abbrev S2112x1024 : Shape := ⟨2, ![2112, 1024]⟩
abbrev S1024x2816 : Shape := ⟨2, ![1024, 2816]⟩
abbrev S2816x1024 : Shape := ⟨2, ![2816, 1024]⟩
abbrev S_ : Shape := ⟨0, ![]⟩

class Facts : Prop where
  bcast_S_S2112x1024 : S_.BroadcastsInDim S2112x1024 (![] : Fin 0 → Fin S2112x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2112x1024 .f32) (main_arg1 : FVec F S2112x1024 .f32) (main_arg2 : FVec F S1024x2816 .f32) (main_arg3 : FVec F S1024x2816 .f32) (main_arg4 : FVec F S2816x1024 .f32) : IVec S2112x1024 1 × IVec S2112x1024 1 × IVec S1024x2816 1 × IVec S1024x2816 1 × IVec S2816x1024 1 :=
  let main_v0 : FVec F S2112x1024 .f32 := Host.absf main_arg0
  let main_cst : FVec F S_ .f32 := constant S_ .f32 0x7F800000#32
  let main_v1 : FVec F S2112x1024 .f32 := broadcastInDim S2112x1024 ![] bcast_S_S2112x1024 main_cst
  let main_v2 : IVec S2112x1024 1 := cmpf .olt main_v0 main_v1
  let main_v3 : FVec F S2112x1024 .f32 := Host.absf main_arg1
  let main_cst_0 : FVec F S_ .f32 := constant S_ .f32 0x7F800000#32
  let main_v4 : FVec F S2112x1024 .f32 := broadcastInDim S2112x1024 ![] bcast_S_S2112x1024 main_cst_0
  let main_v5 : IVec S2112x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S2064x5376 : Shape := ⟨2, ![2064, 5376]⟩
abbrev S4x512 : Shape := ⟨2, ![4, 512]⟩
abbrev S512 : Shape := ⟨1, ![512]⟩
abbrev S8x64x64 : Shape := ⟨3, ![8, 64, 64]⟩
abbrev S2112x512 : Shape := ⟨2, ![2112, 512]⟩
abbrev S_ : Shape := ⟨0, ![]⟩
abbrev S2112x5376 : Shape := ⟨2, ![2112, 5376]⟩
abbrev S1x512 : Shape := ⟨2, ![1, 512]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S2064x512 : Shape := ⟨2, ![2064, 512]⟩
abbrev S1032x512 : Shape := ⟨2, ![1032, 512]⟩
abbrev S516x512 : Shape := ⟨2, ![516, 512]⟩
abbrev S258x512 : Shape := ⟨2, ![258, 512]⟩
abbrev S129x512 : Shape := ⟨2, ![129, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S2x512 : Shape := ⟨2, ![2, 512]⟩
abbrev S0x512 : Shape := ⟨2, ![0, 512]⟩
abbrev S3x512 : Shape := ⟨2, ![3, 512]⟩
abbrev S7x512 : Shape := ⟨2, ![7, 512]⟩
abbrev S15x512 : Shape := ⟨2, ![15, 512]⟩
abbrev S31x512 : Shape := ⟨2, ![31, 512]⟩
abbrev S65x512 : Shape := ⟨2, ![65, 512]⟩
abbrev S128x512 : Shape := ⟨2, ![128, 512]⟩
abbrev S257x512 : Shape := ⟨2, ![257, 512]⟩
abbrev S515x512 : Shape := ⟨2, ![515, 512]⟩
abbrev S1031x512 : Shape := ⟨2, ![1031, 512]⟩
abbrev S1x8x512 : Shape := ⟨3, ![1, 8, 512]⟩
abbrev S11x192x512 : Shape := ⟨3, ![11, 192, 512]⟩
abbrev S10x8x512 : Shape := ⟨3, ![10, 8, 512]⟩
abbrev S11x8x512 : Shape := ⟨3, ![11, 8, 512]⟩
abbrev S1x11x8x512 : Shape := ⟨4, ![1, 11, 8, 512]⟩
abbrev S1x1x512 : Shape := ⟨3, ![1, 1, 512]⟩
abbrev S48x512 : Shape := ⟨2, ![48, 512]⟩
abbrev S10x1x512 : Shape := ⟨3, ![10, 1, 512]⟩
abbrev S11x1x512 : Shape := ⟨3, ![11, 1, 512]⟩
abbrev S1x11x1x512 : Shape := ⟨4, ![1, 11, 1, 512]⟩
abbrev S1x4x512 : Shape := ⟨3, ![1, 4, 512]⟩
abbrev S1x512x512 : Shape := ⟨3, ![1, 512, 512]⟩
abbrev S192x512 : Shape := ⟨2, ![192, 512]⟩
abbrev S1x1x8x512 : Shape := ⟨4, ![1, 1, 8, 512]⟩
abbrev S1x1x1x512 : Shape := ⟨4, ![1, 1, 1, 512]⟩
abbrev S192x1 : Shape := ⟨2, ![192, 1]⟩
abbrev S200x512 : Shape := ⟨2, ![200, 512]⟩
abbrev S191x512 : Shape := ⟨2, ![191, 512]⟩
abbrev S190x512 : Shape := ⟨2, ![190, 512]⟩
abbrev S188x512 : Shape := ⟨2, ![188, 512]⟩
abbrev S184x512 : Shape := ⟨2, ![184, 512]⟩
abbrev S176x512 : Shape := ⟨2, ![176, 512]⟩
abbrev S160x512 : Shape := ⟨2, ![160, 512]⟩
abbrev S192 : Shape := ⟨1, ![192]⟩
abbrev S199x512 : Shape := ⟨2, ![199, 512]⟩
abbrev S6x512 : Shape := ⟨2, ![6, 512]⟩
abbrev S198x512 : Shape := ⟨2, ![198, 512]⟩
abbrev S5x512 : Shape := ⟨2, ![5, 512]⟩
abbrev S197x512 : Shape := ⟨2, ![197, 512]⟩

abbrev nBuf : Space → Nat
  | .hbm => 461
  | .vmem => 32
  | .smem => 0
  | _ => 0

abbrev hbmTy0_0 (i : Nat) : BufTy := match i % 128 with
  | 0 => ⟨S2064x5376, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S512, .f32⟩
  | 9 => ⟨S2112x512, .f32⟩
  | 10 => ⟨S_, .i32⟩
  | 11 => ⟨S_, .f32⟩
  | 12 => ⟨S2112x5376, .f32⟩
  | 13 => ⟨S1x512, .f32⟩
  | 14 => ⟨S8x8, .i32⟩
  | 15 => ⟨S8x8, .i32⟩
  | 16 => ⟨S_, .i32⟩
  | 17 => ⟨S8x8, .i32⟩
  | 18 => ⟨S8x8, .i32⟩
  | 19 => ⟨S8x8, .i1⟩
  | 20 => ⟨S8x8, .f32⟩
  | 21 => ⟨S8x64x1x64, .f32⟩
  | 22 => ⟨S8x1x8x1, .f32⟩
  | 23 => ⟨S8x64x8x64, .f32⟩
  | 24 => ⟨S8x64x8x64, .f32⟩
  | 25 => ⟨S8x64x8x64, .f32⟩
  | 26 => ⟨S512x512, .f32⟩
  | 27 => ⟨S1x512, .f32⟩
  | 28 => ⟨S8x8, .i32⟩
  | 29 => ⟨S8x8, .i32⟩
  | 30 => ⟨S_, .i32⟩
  | 31 => ⟨S8x8, .i32⟩
  | 32 => ⟨S8x8, .i32⟩
  | 33 => ⟨S8x8, .i1⟩
  | 34 => ⟨S8x8, .f32⟩
  | 35 => ⟨S8x64x1x64, .f32⟩
  | 36 => ⟨S8x1x8x1, .f32⟩
  | 37 => ⟨S8x64x8x64, .f32⟩
  | 38 => ⟨S8x64x8x64, .f32⟩
  | 39 => ⟨S8x64x8x64, .f32⟩
  | 40 => ⟨S512x512, .f32⟩
  | 41 => ⟨S1x512, .f32⟩
  | 42 => ⟨S1x512, .f32⟩
  | 43 => ⟨S1x512, .f32⟩
  | 44 => ⟨S2112x512, .f32⟩
  | 45 => ⟨S1x512, .f32⟩
  | 46 => ⟨S512, .f32⟩
  | 47 => ⟨S2064x512, .f32⟩
  | 48 => ⟨S1x512, .f32⟩
  | 49 => ⟨S2064x512, .f32⟩
  | 50 => ⟨S2064x512, .f32⟩
  | 51 => ⟨S1x512, .f32⟩
  | 52 => ⟨S512, .f32⟩
  | 53 => ⟨S2064x512, .f32⟩
  | 54 => ⟨S1x512, .f32⟩
  | 55 => ⟨S2064x512, .f32⟩
  | 56 => ⟨S2064x512, .f32⟩
  | 57 => ⟨S2064x512, .f32⟩
  | 58 => ⟨S1x512, .f32⟩
  | 59 => ⟨S512, .f32⟩
  | 60 => ⟨S2064x512, .f32⟩
  | 61 => ⟨S1x512, .f32⟩
  | 62 => ⟨S2064x512, .f32⟩
  | 63 => ⟨S2064x512, .f32⟩
  | 64 => ⟨S2064x512, .f32⟩
  | 65 => ⟨S1x512, .f32⟩
  | 66 => ⟨S512, .f32⟩
  | 67 => ⟨S2064x512, .f32⟩
  | 68 => ⟨S1x512, .f32⟩
  | 69 => ⟨S2064x512, .f32⟩
  | 70 => ⟨S2064x512, .f32⟩
  | 71 => ⟨S2064x512, .f32⟩
  | 72 => ⟨S1x512, .f32⟩
  | 73 => ⟨S2064x512, .f32⟩
  | 74 => ⟨S2064x512, .f32⟩
  | 75 => ⟨S2064x512, .f32⟩
  | 76 => ⟨S1x512, .f32⟩
  | 77 => ⟨S2064x512, .f32⟩
  | 78 => ⟨S2064x512, .f32⟩
  | 79 => ⟨S2064x512, .f32⟩
  | 80 => ⟨S2064x512, .f32⟩
  | 81 => ⟨S_, .f32⟩
  | 82 => ⟨S2064x512, .f32⟩
  | 83 => ⟨S2064x512, .f32⟩
  | 84 => ⟨S_, .f32⟩
  | 85 => ⟨S2064x512, .f32⟩
  | 86 => ⟨S2064x512, .f32⟩
  | 87 => ⟨S2064x512, .f32⟩
  | 88 => ⟨S1x512, .f32⟩
  | 89 => ⟨S2064x512, .f32⟩
  | 90 => ⟨S2064x512, .f32⟩
  | 91 => ⟨S2064x512, .f32⟩
  | 92 => ⟨S2064x512, .f32⟩
  | 93 => ⟨S_, .f32⟩
  | 94 => ⟨S2064x512, .f32⟩
  | 95 => ⟨S2064x512, .f32⟩
  | 96 => ⟨S_, .f32⟩
  | 97 => ⟨S2064x512, .f32⟩
  | 98 => ⟨S2064x512, .f32⟩
  | 99 => ⟨S_, .f32⟩
  | 100 => ⟨S2064x512, .f32⟩
  | 101 => ⟨S2064x512, .f32⟩
  | 102 => ⟨S512, .f32⟩
  | 103 => ⟨S_, .f32⟩
  | 104 => ⟨S512, .f32⟩
  | 105 => ⟨S512, .f32⟩
  | 106 => ⟨S512, .f32⟩
  | 107 => ⟨S512, .f32⟩
  | 108 => ⟨S512, .i1⟩
  | 109 => ⟨S512, .f32⟩
  | 110 => ⟨S512, .f32⟩
  | 111 => ⟨S512, .f32⟩
  | 112 => ⟨S512, .f32⟩
  | 113 => ⟨S512, .f32⟩
  | 114 => ⟨S512, .f32⟩
  | 115 => ⟨S512, .f32⟩
  | 116 => ⟨S512, .f32⟩
  | 117 => ⟨S1x512, .f32⟩
  | 118 => ⟨S2064x512, .f32⟩
  | 119 => ⟨S2064x512, .f32⟩
  | 120 => ⟨S2064x512, .f32⟩
  | 121 => ⟨S_, .f32⟩
  | 122 => ⟨S2064x512, .f32⟩
  | 123 => ⟨S2064x512, .f32⟩
  | 124 => ⟨S2064x512, .f32⟩
  | 125 => ⟨S2064x512, .f32⟩
  | 126 => ⟨S2064x512, .f32⟩
  | 127 => ⟨S2064x512, .f32⟩
  | _ => ⟨S2064x5376, .f32⟩

abbrev hbmTy0_1 (i : Nat) : BufTy := match i % 128 with
  | 0 => ⟨S2064x512, .f32⟩
  | 1 => ⟨S1032x512, .f32⟩
  | 2 => ⟨S1032x512, .f32⟩
  | 3 => ⟨S1032x512, .f32⟩
  | 4 => ⟨S1032x512, .f32⟩
  | 5 => ⟨S1032x512, .f32⟩
  | 6 => ⟨S1032x512, .f32⟩
  | 7 => ⟨S1032x512, .f32⟩
  | 8 => ⟨S516x512, .f32⟩
  | 9 => ⟨S516x512, .f32⟩
  | 10 => ⟨S516x512, .f32⟩
  | 11 => ⟨S516x512, .f32⟩
  | 12 => ⟨S516x512, .f32⟩
  | 13 => ⟨S516x512, .f32⟩
  | 14 => ⟨S516x512, .f32⟩
  | 15 => ⟨S258x512, .f32⟩
  | 16 => ⟨S258x512, .f32⟩
  | 17 => ⟨S258x512, .f32⟩
  | 18 => ⟨S258x512, .f32⟩
  | 19 => ⟨S258x512, .f32⟩
  | 20 => ⟨S258x512, .f32⟩
  | 21 => ⟨S258x512, .f32⟩
  | 22 => ⟨S129x512, .f32⟩
  | 23 => ⟨S129x512, .f32⟩
  | 24 => ⟨S129x512, .f32⟩
  | 25 => ⟨S129x512, .f32⟩
  | 26 => ⟨S129x512, .f32⟩
  | 27 => ⟨S129x512, .f32⟩
  | 28 => ⟨S129x512, .f32⟩
  | 29 => ⟨S64x512, .f32⟩
  | 30 => ⟨S64x512, .f32⟩
  | 31 => ⟨S64x512, .f32⟩
  | 32 => ⟨S64x512, .f32⟩
  | 33 => ⟨S64x512, .f32⟩
  | 34 => ⟨S64x512, .f32⟩
  | 35 => ⟨S64x512, .f32⟩
  | 36 => ⟨S32x512, .f32⟩
  | 37 => ⟨S32x512, .f32⟩
  | 38 => ⟨S32x512, .f32⟩
  | 39 => ⟨S32x512, .f32⟩
  | 40 => ⟨S32x512, .f32⟩
  | 41 => ⟨S32x512, .f32⟩
  | 42 => ⟨S32x512, .f32⟩
  | 43 => ⟨S16x512, .f32⟩
  | 44 => ⟨S16x512, .f32⟩
  | 45 => ⟨S16x512, .f32⟩
  | 46 => ⟨S16x512, .f32⟩
  | 47 => ⟨S16x512, .f32⟩
  | 48 => ⟨S16x512, .f32⟩
  | 49 => ⟨S16x512, .f32⟩
  | 50 => ⟨S8x512, .f32⟩
  | 51 => ⟨S8x512, .f32⟩
  | 52 => ⟨S8x512, .f32⟩
  | 53 => ⟨S8x512, .f32⟩
  | 54 => ⟨S8x512, .f32⟩
  | 55 => ⟨S8x512, .f32⟩
  | 56 => ⟨S8x512, .f32⟩
  | 57 => ⟨S4x512, .f32⟩
  | 58 => ⟨S4x512, .f32⟩
  | 59 => ⟨S4x512, .f32⟩
  | 60 => ⟨S4x512, .f32⟩
  | 61 => ⟨S4x512, .f32⟩
  | 62 => ⟨S4x512, .f32⟩
  | 63 => ⟨S4x512, .f32⟩
  | 64 => ⟨S2x512, .f32⟩
  | 65 => ⟨S2x512, .f32⟩
  | 66 => ⟨S2x512, .f32⟩
  | 67 => ⟨S2x512, .f32⟩
  | 68 => ⟨S2x512, .f32⟩
  | 69 => ⟨S2x512, .f32⟩
  | 70 => ⟨S2x512, .f32⟩
  | 71 => ⟨S1x512, .f32⟩
  | 72 => ⟨S1x512, .f32⟩
  | 73 => ⟨S1x512, .f32⟩
  | 74 => ⟨S1x512, .f32⟩
  | 75 => ⟨S1x512, .f32⟩
  | 76 => ⟨S1x512, .f32⟩
  | 77 => ⟨S1x512, .f32⟩
  | 78 => ⟨S0x512, .f32⟩
  | 79 => ⟨S0x512, .f32⟩
  | 80 => ⟨S0x512, .f32⟩
  | 81 => ⟨S0x512, .f32⟩
  | 82 => ⟨S0x512, .f32⟩
  | 83 => ⟨S0x512, .f32⟩
  | 84 => ⟨S0x512, .f32⟩
  | 85 => ⟨S1x512, .f32⟩
  | 86 => ⟨S1x512, .f32⟩
  | 87 => ⟨S1x512, .f32⟩
  | 88 => ⟨S1x512, .f32⟩
  | 89 => ⟨S_, .f32⟩
  | 90 => ⟨S2x512, .f32⟩
  | 91 => ⟨S_, .f32⟩
  | 92 => ⟨S2x512, .f32⟩
  | 93 => ⟨S2x512, .f32⟩
  | 94 => ⟨S_, .f32⟩
  | 95 => ⟨S2x512, .f32⟩
  | 96 => ⟨S_, .f32⟩
  | 97 => ⟨S2x512, .f32⟩
  | 98 => ⟨S2x512, .f32⟩
  | 99 => ⟨S1x512, .f32⟩
  | 100 => ⟨S1x512, .f32⟩
  | 101 => ⟨S1x512, .f32⟩
  | 102 => ⟨S1x512, .f32⟩
  | 103 => ⟨S1x512, .f32⟩
  | 104 => ⟨S1x512, .f32⟩
  | 105 => ⟨S1x512, .f32⟩
  | 106 => ⟨S1x512, .f32⟩
  | 107 => ⟨S2x512, .f32⟩
  | 108 => ⟨S1x512, .f32⟩
  | 109 => ⟨S2x512, .f32⟩
  | 110 => ⟨S_, .f32⟩
  | 111 => ⟨S4x512, .f32⟩
  | 112 => ⟨S_, .f32⟩
  | 113 => ⟨S4x512, .f32⟩
  | 114 => ⟨S4x512, .f32⟩
  | 115 => ⟨S_, .f32⟩
  | 116 => ⟨S4x512, .f32⟩
  | 117 => ⟨S_, .f32⟩
  | 118 => ⟨S4x512, .f32⟩
  | 119 => ⟨S4x512, .f32⟩
  | 120 => ⟨S3x512, .f32⟩
  | 121 => ⟨S3x512, .f32⟩
  | 122 => ⟨S3x512, .f32⟩
  | 123 => ⟨S3x512, .f32⟩
  | 124 => ⟨S3x512, .f32⟩
  | 125 => ⟨S3x512, .f32⟩
  | 126 => ⟨S3x512, .f32⟩
  | 127 => ⟨S1x512, .f32⟩
  | _ => ⟨S2064x5376, .f32⟩

abbrev hbmTy0_2 (i : Nat) : BufTy := match i % 128 with
  | 0 => ⟨S4x512, .f32⟩
  | 1 => ⟨S1x512, .f32⟩
  | 2 => ⟨S4x512, .f32⟩
  | 3 => ⟨S_, .f32⟩
  | 4 => ⟨S8x512, .f32⟩
  | 5 => ⟨S_, .f32⟩
  | 6 => ⟨S8x512, .f32⟩
  | 7 => ⟨S8x512, .f32⟩
  | 8 => ⟨S_, .f32⟩
  | 9 => ⟨S8x512, .f32⟩
  | 10 => ⟨S_, .f32⟩
  | 11 => ⟨S8x512, .f32⟩
  | 12 => ⟨S8x512, .f32⟩
  | 13 => ⟨S7x512, .f32⟩
  | 14 => ⟨S7x512, .f32⟩
  | 15 => ⟨S7x512, .f32⟩
  | 16 => ⟨S7x512, .f32⟩
  | 17 => ⟨S7x512, .f32⟩
  | 18 => ⟨S7x512, .f32⟩
  | 19 => ⟨S7x512, .f32⟩
  | 20 => ⟨S1x512, .f32⟩
  | 21 => ⟨S8x512, .f32⟩
  | 22 => ⟨S1x512, .f32⟩
  | 23 => ⟨S8x512, .f32⟩
  | 24 => ⟨S_, .f32⟩
  | 25 => ⟨S16x512, .f32⟩
  | 26 => ⟨S_, .f32⟩
  | 27 => ⟨S16x512, .f32⟩
  | 28 => ⟨S16x512, .f32⟩
  | 29 => ⟨S_, .f32⟩
  | 30 => ⟨S16x512, .f32⟩
  | 31 => ⟨S_, .f32⟩
  | 32 => ⟨S16x512, .f32⟩
  | 33 => ⟨S16x512, .f32⟩
  | 34 => ⟨S15x512, .f32⟩
  | 35 => ⟨S15x512, .f32⟩
  | 36 => ⟨S15x512, .f32⟩
  | 37 => ⟨S15x512, .f32⟩
  | 38 => ⟨S15x512, .f32⟩
  | 39 => ⟨S15x512, .f32⟩
  | 40 => ⟨S15x512, .f32⟩
  | 41 => ⟨S1x512, .f32⟩
  | 42 => ⟨S16x512, .f32⟩
  | 43 => ⟨S1x512, .f32⟩
  | 44 => ⟨S16x512, .f32⟩
  | 45 => ⟨S_, .f32⟩
  | 46 => ⟨S32x512, .f32⟩
  | 47 => ⟨S_, .f32⟩
  | 48 => ⟨S32x512, .f32⟩
  | 49 => ⟨S32x512, .f32⟩
  | 50 => ⟨S_, .f32⟩
  | 51 => ⟨S32x512, .f32⟩
  | 52 => ⟨S_, .f32⟩
  | 53 => ⟨S32x512, .f32⟩
  | 54 => ⟨S32x512, .f32⟩
  | 55 => ⟨S31x512, .f32⟩
  | 56 => ⟨S31x512, .f32⟩
  | 57 => ⟨S31x512, .f32⟩
  | 58 => ⟨S31x512, .f32⟩
  | 59 => ⟨S31x512, .f32⟩
  | 60 => ⟨S31x512, .f32⟩
  | 61 => ⟨S31x512, .f32⟩
  | 62 => ⟨S1x512, .f32⟩
  | 63 => ⟨S32x512, .f32⟩
  | 64 => ⟨S1x512, .f32⟩
  | 65 => ⟨S32x512, .f32⟩
  | 66 => ⟨S_, .f32⟩
  | 67 => ⟨S64x512, .f32⟩
  | 68 => ⟨S_, .f32⟩
  | 69 => ⟨S64x512, .f32⟩
  | 70 => ⟨S64x512, .f32⟩
  | 71 => ⟨S_, .f32⟩
  | 72 => ⟨S64x512, .f32⟩
  | 73 => ⟨S_, .f32⟩
  | 74 => ⟨S64x512, .f32⟩
  | 75 => ⟨S64x512, .f32⟩
  | 76 => ⟨S64x512, .f32⟩
  | 77 => ⟨S64x512, .f32⟩
  | 78 => ⟨S64x512, .f32⟩
  | 79 => ⟨S64x512, .f32⟩
  | 80 => ⟨S64x512, .f32⟩
  | 81 => ⟨S1x512, .f32⟩
  | 82 => ⟨S65x512, .f32⟩
  | 83 => ⟨S1x512, .f32⟩
  | 84 => ⟨S65x512, .f32⟩
  | 85 => ⟨S_, .f32⟩
  | 86 => ⟨S129x512, .f32⟩
  | 87 => ⟨S_, .f32⟩
  | 88 => ⟨S129x512, .f32⟩
  | 89 => ⟨S129x512, .f32⟩
  | 90 => ⟨S_, .f32⟩
  | 91 => ⟨S129x512, .f32⟩
  | 92 => ⟨S_, .f32⟩
  | 93 => ⟨S129x512, .f32⟩
  | 94 => ⟨S129x512, .f32⟩
  | 95 => ⟨S128x512, .f32⟩
  | 96 => ⟨S128x512, .f32⟩
  | 97 => ⟨S128x512, .f32⟩
  | 98 => ⟨S128x512, .f32⟩
  | 99 => ⟨S128x512, .f32⟩
  | 100 => ⟨S128x512, .f32⟩
  | 101 => ⟨S128x512, .f32⟩
  | 102 => ⟨S1x512, .f32⟩
  | 103 => ⟨S129x512, .f32⟩
  | 104 => ⟨S1x512, .f32⟩
  | 105 => ⟨S129x512, .f32⟩
  | 106 => ⟨S_, .f32⟩
  | 107 => ⟨S258x512, .f32⟩
  | 108 => ⟨S_, .f32⟩
  | 109 => ⟨S258x512, .f32⟩
  | 110 => ⟨S258x512, .f32⟩
  | 111 => ⟨S_, .f32⟩
  | 112 => ⟨S258x512, .f32⟩
  | 113 => ⟨S_, .f32⟩
  | 114 => ⟨S258x512, .f32⟩
  | 115 => ⟨S258x512, .f32⟩
  | 116 => ⟨S257x512, .f32⟩
  | 117 => ⟨S257x512, .f32⟩
  | 118 => ⟨S257x512, .f32⟩
  | 119 => ⟨S257x512, .f32⟩
  | 120 => ⟨S257x512, .f32⟩
  | 121 => ⟨S257x512, .f32⟩
  | 122 => ⟨S257x512, .f32⟩
  | 123 => ⟨S1x512, .f32⟩
  | 124 => ⟨S258x512, .f32⟩
  | 125 => ⟨S1x512, .f32⟩
  | 126 => ⟨S258x512, .f32⟩
  | 127 => ⟨S_, .f32⟩
  | _ => ⟨S2064x5376, .f32⟩

abbrev hbmTy0_3 (i : Nat) : BufTy := match i % 128 with
  | 0 => ⟨S516x512, .f32⟩
  | 1 => ⟨S_, .f32⟩
  | 2 => ⟨S516x512, .f32⟩
  | 3 => ⟨S516x512, .f32⟩
  | 4 => ⟨S_, .f32⟩
  | 5 => ⟨S516x512, .f32⟩
  | 6 => ⟨S_, .f32⟩
  | 7 => ⟨S516x512, .f32⟩
  | 8 => ⟨S516x512, .f32⟩
  | 9 => ⟨S515x512, .f32⟩
  | 10 => ⟨S515x512, .f32⟩
  | 11 => ⟨S515x512, .f32⟩
  | 12 => ⟨S515x512, .f32⟩
  | 13 => ⟨S515x512, .f32⟩
  | 14 => ⟨S515x512, .f32⟩
  | 15 => ⟨S515x512, .f32⟩
  | 16 => ⟨S1x512, .f32⟩
  | 17 => ⟨S516x512, .f32⟩
  | 18 => ⟨S1x512, .f32⟩
  | 19 => ⟨S516x512, .f32⟩
  | 20 => ⟨S_, .f32⟩
  | 21 => ⟨S1032x512, .f32⟩
  | 22 => ⟨S_, .f32⟩
  | 23 => ⟨S1032x512, .f32⟩
  | 24 => ⟨S1032x512, .f32⟩
  | 25 => ⟨S_, .f32⟩
  | 26 => ⟨S1032x512, .f32⟩
  | 27 => ⟨S_, .f32⟩
  | 28 => ⟨S1032x512, .f32⟩
  | 29 => ⟨S1032x512, .f32⟩
  | 30 => ⟨S1031x512, .f32⟩
  | 31 => ⟨S1031x512, .f32⟩
  | 32 => ⟨S1031x512, .f32⟩
  | 33 => ⟨S1031x512, .f32⟩
  | 34 => ⟨S1031x512, .f32⟩
  | 35 => ⟨S1031x512, .f32⟩
  | 36 => ⟨S1031x512, .f32⟩
  | 37 => ⟨S1x512, .f32⟩
  | 38 => ⟨S1032x512, .f32⟩
  | 39 => ⟨S1x512, .f32⟩
  | 40 => ⟨S1032x512, .f32⟩
  | 41 => ⟨S_, .f32⟩
  | 42 => ⟨S2064x512, .f32⟩
  | 43 => ⟨S_, .f32⟩
  | 44 => ⟨S2064x512, .f32⟩
  | 45 => ⟨S2064x512, .f32⟩
  | 46 => ⟨S_, .f32⟩
  | 47 => ⟨S2064x512, .f32⟩
  | 48 => ⟨S_, .f32⟩
  | 49 => ⟨S2064x512, .f32⟩
  | 50 => ⟨S2064x512, .f32⟩
  | 51 => ⟨S_, .f32⟩
  | 52 => ⟨S1x8x512, .f32⟩
  | 53 => ⟨S2112x512, .f32⟩
  | 54 => ⟨S11x192x512, .f32⟩
  | 55 => ⟨S10x8x512, .f32⟩
  | 56 => ⟨S11x8x512, .f32⟩
  | 57 => ⟨S1x11x8x512, .f32⟩
  | 58 => ⟨S_, .f32⟩
  | 59 => ⟨S1x1x512, .f32⟩
  | 60 => ⟨S_, .f32⟩
  | 61 => ⟨S48x512, .f32⟩
  | 62 => ⟨S2112x512, .f32⟩
  | 63 => ⟨S11x192x512, .f32⟩
  | 64 => ⟨S10x1x512, .f32⟩
  | 65 => ⟨S11x1x512, .f32⟩
  | 66 => ⟨S1x11x1x512, .f32⟩
  | 67 => ⟨S2112x512, .f32⟩
  | 68 => ⟨S2112x512, .f32⟩
  | 69 => ⟨S1x4x512, .f32⟩
  | 70 => ⟨S1x1x512, .f32⟩
  | 71 => ⟨S1x512x512, .f32⟩
  | 72 => ⟨S1x1x512, .f32⟩
  | 73 => ⟨S1x512x512, .f32⟩
  | 74 => ⟨S1x1x512, .f32⟩
  | 75 => ⟨S1x1x512, .f32⟩
  | 76 => ⟨S1x1x512, .f32⟩
  | _ => ⟨S2064x5376, .f32⟩

abbrev hbmTy (i : Nat) : BufTy := match i / 128 with
  | 0 => hbmTy0_0 i
  | 1 => hbmTy0_1 i
  | 2 => hbmTy0_2 i
  | 3 => hbmTy0_3 i
  | _ => ⟨S2064x5376, .f32⟩

abbrev bufTy : (tb : Table) → Fin (tcTables nBuf tb) → BufTy
  | .hbm, ⟨i, _⟩ => hbmTy i
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S4x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x1x8x512, .f32⟩
  | .local _ .vmem, ⟨15, _⟩ => ⟨S1x1x8x512, .f32⟩
  | .local _ .vmem, ⟨16, _⟩ => ⟨S1x1x1x512, .f32⟩
  | .local _ .vmem, ⟨17, _⟩ => ⟨S1x1x1x512, .f32⟩
  | .local _ .vmem, ⟨18, _⟩ => ⟨S192x512, .f32⟩
  | .local _ .vmem, ⟨19, _⟩ => ⟨S192x512, .f32⟩
  | .local _ .vmem, ⟨20, _⟩ => ⟨S192x512, .f32⟩
  | .local _ .vmem, ⟨21, _⟩ => ⟨S192x512, .f32⟩
  | .local _ .vmem, ⟨22, _⟩ => ⟨S1x4x512, .f32⟩
  | .local _ .vmem, ⟨23, _⟩ => ⟨S1x1x512, .f32⟩
  | .local _ .vmem, ⟨24, _⟩ => ⟨S1x512x512, .f32⟩
  | .local _ .vmem, ⟨25, _⟩ => ⟨S1x1x512, .f32⟩
  | .local _ .vmem, ⟨26, _⟩ => ⟨S1x512x512, .f32⟩
  | .local _ .vmem, ⟨27, _⟩ => ⟨S1x1x512, .f32⟩
  | .local _ .vmem, ⟨28, _⟩ => ⟨S1x1x512, .f32⟩
  | .local _ .vmem, ⟨29, _⟩ => ⟨S1x1x512, .f32⟩
  | .local _ .vmem, ⟨30, _⟩ => ⟨S8x512, .f32⟩
  | .local _ .vmem, ⟨31, _⟩ => ⟨S1x512, .f32⟩
  | _, _ => ⟨S2064x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst : Ref sig .tc := ⟨.hbm, 81, rfl⟩
abbrev main_v67 : Ref sig .tc := ⟨.hbm, 82, rfl⟩
abbrev main_v68 : Ref sig .tc := ⟨.hbm, 83, rfl⟩
abbrev main_cst_2 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_3 : Ref sig .tc := ⟨.hbm, 93, rfl⟩
abbrev main_v77 : Ref sig .tc := ⟨.hbm, 94, rfl⟩
abbrev main_v78 : Ref sig .tc := ⟨.hbm, 95, rfl⟩
abbrev main_cst_4 : Ref sig .tc := ⟨.hbm, 96, rfl⟩
abbrev main_v79 : Ref sig .tc := ⟨.hbm, 97, rfl⟩
abbrev main_v80 : Ref sig .tc := ⟨.hbm, 98, rfl⟩
abbrev main_cst_5 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_6 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_cst_7 : Ref sig .tc := ⟨.hbm, 217, rfl⟩
abbrev main_v184 : Ref sig .tc := ⟨.hbm, 218, rfl⟩
abbrev main_cst_8 : Ref sig .tc := ⟨.hbm, 219, rfl⟩
abbrev main_v185 : Ref sig .tc := ⟨.hbm, 220, rfl⟩
abbrev main_v186 : Ref sig .tc := ⟨.hbm, 221, rfl⟩
abbrev main_cst_9 : Ref sig .tc := ⟨.hbm, 222, rfl⟩
abbrev main_v187 : Ref sig .tc := ⟨.hbm, 223, rfl⟩
abbrev main_cst_10 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_cst_11 : Ref sig .tc := ⟨.hbm, 238, rfl⟩
abbrev main_v201 : Ref sig .tc := ⟨.hbm, 239, rfl⟩
abbrev main_cst_12 : Ref sig .tc := ⟨.hbm, 240, rfl⟩
abbrev main_v202 : Ref sig .tc := ⟨.hbm, 241, rfl⟩
abbrev main_v203 : Ref sig .tc := ⟨.hbm, 242, rfl⟩
abbrev main_cst_13 : Ref sig .tc := ⟨.hbm, 243, rfl⟩
abbrev main_v204 : Ref sig .tc := ⟨.hbm, 244, rfl⟩
abbrev main_cst_14 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_cst_15 : Ref sig .tc := ⟨.hbm, 259, rfl⟩
abbrev main_v218 : Ref sig .tc := ⟨.hbm, 260, rfl⟩
abbrev main_cst_16 : Ref sig .tc := ⟨.hbm, 261, rfl⟩
abbrev main_v219 : Ref sig .tc := ⟨.hbm, 262, rfl⟩
abbrev main_v220 : Ref sig .tc := ⟨.hbm, 263, rfl⟩
abbrev main_cst_17 : Ref sig .tc := ⟨.hbm, 264, rfl⟩
abbrev main_v221 : Ref sig .tc := ⟨.hbm, 265, rfl⟩
abbrev main_cst_18 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_cst_19 : Ref sig .tc := ⟨.hbm, 280, rfl⟩
abbrev main_v235 : Ref sig .tc := ⟨.hbm, 281, rfl⟩
abbrev main_cst_20 : Ref sig .tc := ⟨.hbm, 282, rfl⟩
abbrev main_v236 : Ref sig .tc := ⟨.hbm, 283, rfl⟩
abbrev main_v237 : Ref sig .tc := ⟨.hbm, 284, rfl⟩
abbrev main_cst_21 : Ref sig .tc := ⟨.hbm, 285, rfl⟩
abbrev main_v238 : Ref sig .tc := ⟨.hbm, 286, rfl⟩
abbrev main_cst_22 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_cst_23 : Ref sig .tc := ⟨.hbm, 301, rfl⟩
abbrev main_v252 : Ref sig .tc := ⟨.hbm, 302, rfl⟩
abbrev main_cst_24 : Ref sig .tc := ⟨.hbm, 303, rfl⟩
abbrev main_v253 : Ref sig .tc := ⟨.hbm, 304, rfl⟩
abbrev main_v254 : Ref sig .tc := ⟨.hbm, 305, rfl⟩
abbrev main_cst_25 : Ref sig .tc := ⟨.hbm, 306, rfl⟩
abbrev main_v255 : Ref sig .tc := ⟨.hbm, 307, rfl⟩
abbrev main_cst_26 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_cst_27 : Ref sig .tc := ⟨.hbm, 322, rfl⟩
abbrev main_v269 : Ref sig .tc := ⟨.hbm, 323, rfl⟩
abbrev main_cst_28 : Ref sig .tc := ⟨.hbm, 324, rfl⟩
abbrev main_v270 : Ref sig .tc := ⟨.hbm, 325, rfl⟩
abbrev main_v271 : Ref sig .tc := ⟨.hbm, 326, rfl⟩
abbrev main_cst_29 : Ref sig .tc := ⟨.hbm, 327, rfl⟩
abbrev main_v272 : Ref sig .tc := ⟨.hbm, 328, rfl⟩
abbrev main_cst_30 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_cst_31 : Ref sig .tc := ⟨.hbm, 341, rfl⟩
abbrev main_v284 : Ref sig .tc := ⟨.hbm, 342, rfl⟩
abbrev main_cst_32 : Ref sig .tc := ⟨.hbm, 343, rfl⟩
abbrev main_v285 : Ref sig .tc := ⟨.hbm, 344, rfl⟩
abbrev main_v286 : Ref sig .tc := ⟨.hbm, 345, rfl⟩
abbrev main_cst_33 : Ref sig .tc := ⟨.hbm, 346, rfl⟩
abbrev main_v287 : Ref sig .tc := ⟨.hbm, 347, rfl⟩
abbrev main_cst_34 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_cst_35 : Ref sig .tc := ⟨.hbm, 362, rfl⟩
abbrev main_v301 : Ref sig .tc := ⟨.hbm, 363, rfl⟩
abbrev main_cst_36 : Ref sig .tc := ⟨.hbm, 364, rfl⟩
abbrev main_v302 : Ref sig .tc := ⟨.hbm, 365, rfl⟩
abbrev main_v303 : Ref sig .tc := ⟨.hbm, 366, rfl⟩
abbrev main_cst_37 : Ref sig .tc := ⟨.hbm, 367, rfl⟩
abbrev main_v304 : Ref sig .tc := ⟨.hbm, 368, rfl⟩
abbrev main_cst_38 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_cst_39 : Ref sig .tc := ⟨.hbm, 383, rfl⟩
abbrev main_v318 : Ref sig .tc := ⟨.hbm, 384, rfl⟩
abbrev main_cst_40 : Ref sig .tc := ⟨.hbm, 385, rfl⟩
abbrev main_v319 : Ref sig .tc := ⟨.hbm, 386, rfl⟩
abbrev main_v320 : Ref sig .tc := ⟨.hbm, 387, rfl⟩
abbrev main_cst_41 : Ref sig .tc := ⟨.hbm, 388, rfl⟩
abbrev main_v321 : Ref sig .tc := ⟨.hbm, 389, rfl⟩
abbrev main_cst_42 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_v334 : Ref sig .tc := ⟨.hbm, 403, rfl⟩
abbrev main_cst_43 : Ref sig .tc := ⟨.hbm, 404, rfl⟩
abbrev main_v335 : Ref sig .tc := ⟨.hbm, 405, rfl⟩
abbrev main_cst_44 : Ref sig .tc := ⟨.hbm, 406, rfl⟩
abbrev main_v336 : Ref sig .tc := ⟨.hbm, 407, rfl⟩
abbrev main_v337 : Ref sig .tc := ⟨.hbm, 408, rfl⟩
abbrev main_cst_45 : Ref sig .tc := ⟨.hbm, 409, rfl⟩
abbrev main_v338 : Ref sig .tc := ⟨.hbm, 410, rfl⟩
abbrev main_cst_46 : Ref sig .tc := ⟨.hbm, 411, rfl⟩
abbrev main_v339 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_v344 : Ref sig .tc := ⟨.hbm, 417, rfl⟩
abbrev main_v345 : Ref sig .tc := ⟨.hbm, 418, rfl⟩
abbrev main_v346 : Ref sig .tc := ⟨.hbm, 419, rfl⟩
abbrev main_v347 : Ref sig .tc := ⟨.hbm, 420, rfl⟩
abbrev main_v348 : Ref sig .tc := ⟨.hbm, 421, rfl⟩
abbrev main_v349 : Ref sig .tc := ⟨.hbm, 422, rfl⟩
abbrev main_v350 : Ref sig .tc := ⟨.hbm, 423, rfl⟩
abbrev main_v351 : Ref sig .tc := ⟨.hbm, 424, rfl⟩
abbrev main_cst_47 : Ref sig .tc := ⟨.hbm, 425, rfl⟩
abbrev main_v352 : Ref sig .tc := ⟨.hbm, 426, rfl⟩
abbrev main_cst_48 : Ref sig .tc := ⟨.hbm, 427, rfl⟩
abbrev main_v353 : Ref sig .tc := ⟨.hbm, 428, rfl⟩
abbrev main_v354 : Ref sig .tc := ⟨.hbm, 429, rfl⟩
abbrev main_cst_49 : Ref sig .tc := ⟨.hbm, 430, rfl⟩
abbrev main_v355 : Ref sig .tc := ⟨.hbm, 431, rfl⟩
abbrev main_cst_50 : Ref sig .tc := ⟨.hbm, 432, rfl⟩
abbrev main_v356 : Ref sig .tc := ⟨.hbm, 433, rfl⟩
abbrev main_v357 : Ref sig .tc := ⟨.hbm, 434, rfl⟩
abbrev main_cst_51 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩
abbrev main_v362 : Ref sig .tc := ⟨.hbm, 440, rfl⟩
abbrev main_v363 : Ref sig .tc := ⟨.hbm, 441, rfl⟩
abbrev main_cst_52 : Ref sig .tc := ⟨.hbm, 442, rfl⟩
abbrev main_v364 : Ref sig .tc := ⟨.hbm, 443, rfl⟩
abbrev main_cst_53 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_v371_0 : Ref sig .tc := ⟨.hbm, 451, rfl⟩
abbrev main_v371_1 : Ref sig .tc := ⟨.hbm, 452, rfl⟩
abbrev main_v371_2 : Ref sig .tc := ⟨.hbm, 453, rfl⟩
abbrev main_v371_3 : Ref sig .tc := ⟨.hbm, 454, rfl⟩
abbrev main_v371_4 : Ref sig .tc := ⟨.hbm, 455, rfl⟩
abbrev main_v371_5 : Ref sig .tc := ⟨.hbm, 456, rfl⟩
abbrev main_v371_6 : Ref sig .tc := ⟨.hbm, 457, rfl⟩
abbrev main_v371_7 : Ref sig .tc := ⟨.hbm, 458, rfl⟩
abbrev main_v371_8 : Ref sig .tc := ⟨.hbm, 459, rfl⟩
abbrev main_v371_9 : Ref sig .tc := ⟨.hbm, 460, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S192x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S192x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S1x4x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 1 → Memref sig .tc .vmem S1x1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 1 → Memref sig .tc .vmem S1x512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S1x1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]

abbrev stage0_19 : Fin 1 → Memref sig .tc .vmem S1x512x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, false]

abbrev stage0_20 : Fin 1 → Memref sig .tc .vmem S1x1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, false]

abbrev stage0_21 : Fin 1 → Memref sig .tc .vmem S1x1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, false]

abbrev stage0_22 : Fin 1 → Memref sig .tc .vmem S1x1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true, false]
-- ==== ReferenceIdeal.lean ====
abbrev S2064x5376 : Shape := ⟨2, ![2064, 5376]⟩
abbrev S4x512 : Shape := ⟨2, ![4, 512]⟩
abbrev S512 : Shape := ⟨1, ![512]⟩
abbrev S8x64x64 : Shape := ⟨3, ![8, 64, 64]⟩
abbrev S2112x512 : Shape := ⟨2, ![2112, 512]⟩
abbrev S_ : Shape := ⟨0, ![]⟩
abbrev S48x5376 : Shape := ⟨2, ![48, 5376]⟩
abbrev S2112x5376 : Shape := ⟨2, ![2112, 5376]⟩
abbrev S64x64 : Shape := ⟨2, ![64, 64]⟩
abbrev S1x64x64 : Shape := ⟨3, ![1, 64, 64]⟩
abbrev S64x512 : Shape := ⟨2, ![64, 512]⟩
abbrev S512x512 : Shape := ⟨2, ![512, 512]⟩
abbrev S1x512 : Shape := ⟨2, ![1, 512]⟩
abbrev S2064x512 : Shape := ⟨2, ![2064, 512]⟩
abbrev S2064 : Shape := ⟨1, ![2064]⟩
abbrev S2064x1 : Shape := ⟨2, ![2064, 1]⟩
abbrev S1x4x512 : Shape := ⟨3, ![1, 4, 512]⟩
abbrev S1x1x512 : Shape := ⟨3, ![1, 1, 512]⟩
abbrev S1x512x512 : Shape := ⟨3, ![1, 512, 512]⟩

abbrev nBuf : Space → Nat
  | .hbm => 481
  | .vmem => 0
  | .smem => 0
  | _ => 0

abbrev hbmTy0_0 (i : Nat) : BufTy := match i % 128 with
  | 0 => ⟨S2064x5376, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S512, .f32⟩
  | 9 => ⟨S2112x512, .f32⟩
  | 10 => ⟨S_, .f32⟩
  | 11 => ⟨S48x5376, .f32⟩
  | 12 => ⟨S2112x5376, .f32⟩
  | 13 => ⟨S2112x512, .f32⟩
  | 14 => ⟨S2112x512, .f32⟩
  | 15 => ⟨S_, .f32⟩
  | 16 => ⟨S64x64, .f32⟩
  | 17 => ⟨S1x64x64, .f32⟩
  | 18 => ⟨S64x64, .f32⟩
  | 19 => ⟨S64x512, .f32⟩
  | 20 => ⟨S1x64x64, .f32⟩
  | 21 => ⟨S64x64, .f32⟩
  | 22 => ⟨S64x512, .f32⟩
  | 23 => ⟨S1x64x64, .f32⟩
  | 24 => ⟨S64x64, .f32⟩
  | 25 => ⟨S64x512, .f32⟩
  | 26 => ⟨S1x64x64, .f32⟩
  | 27 => ⟨S64x64, .f32⟩
  | 28 => ⟨S64x512, .f32⟩
  | 29 => ⟨S1x64x64, .f32⟩
  | 30 => ⟨S64x64, .f32⟩
  | 31 => ⟨S64x512, .f32⟩
  | 32 => ⟨S1x64x64, .f32⟩
  | 33 => ⟨S64x64, .f32⟩
  | 34 => ⟨S64x512, .f32⟩
  | 35 => ⟨S1x64x64, .f32⟩
  | 36 => ⟨S64x64, .f32⟩
  | 37 => ⟨S64x512, .f32⟩
  | 38 => ⟨S1x64x64, .f32⟩
  | 39 => ⟨S64x64, .f32⟩
  | 40 => ⟨S64x512, .f32⟩
  | 41 => ⟨S512x512, .f32⟩
  | 42 => ⟨S_, .f32⟩
  | 43 => ⟨S64x64, .f32⟩
  | 44 => ⟨S1x64x64, .f32⟩
  | 45 => ⟨S64x64, .f32⟩
  | 46 => ⟨S64x512, .f32⟩
  | 47 => ⟨S1x64x64, .f32⟩
  | 48 => ⟨S64x64, .f32⟩
  | 49 => ⟨S64x512, .f32⟩
  | 50 => ⟨S1x64x64, .f32⟩
  | 51 => ⟨S64x64, .f32⟩
  | 52 => ⟨S64x512, .f32⟩
  | 53 => ⟨S1x64x64, .f32⟩
  | 54 => ⟨S64x64, .f32⟩
  | 55 => ⟨S64x512, .f32⟩
  | 56 => ⟨S1x64x64, .f32⟩
  | 57 => ⟨S64x64, .f32⟩
  | 58 => ⟨S64x512, .f32⟩
  | 59 => ⟨S1x64x64, .f32⟩
  | 60 => ⟨S64x64, .f32⟩
  | 61 => ⟨S64x512, .f32⟩
  | 62 => ⟨S1x64x64, .f32⟩
  | 63 => ⟨S64x64, .f32⟩
  | 64 => ⟨S64x512, .f32⟩
  | 65 => ⟨S1x64x64, .f32⟩
  | 66 => ⟨S64x64, .f32⟩
  | 67 => ⟨S64x512, .f32⟩
  | 68 => ⟨S512x512, .f32⟩
  | 69 => ⟨S1x512, .f32⟩
  | 70 => ⟨S512, .f32⟩
  | 71 => ⟨S2064x512, .f32⟩
  | 72 => ⟨S1x512, .f32⟩
  | 73 => ⟨S2064x512, .f32⟩
  | 74 => ⟨S2064x512, .f32⟩
  | 75 => ⟨S1x512, .f32⟩
  | 76 => ⟨S512, .f32⟩
  | 77 => ⟨S2064x512, .f32⟩
  | 78 => ⟨S1x512, .f32⟩
  | 79 => ⟨S2064x512, .f32⟩
  | 80 => ⟨S2064x512, .f32⟩
  | 81 => ⟨S2064x512, .f32⟩
  | 82 => ⟨S1x512, .f32⟩
  | 83 => ⟨S512, .f32⟩
  | 84 => ⟨S2064x512, .f32⟩
  | 85 => ⟨S1x512, .f32⟩
  | 86 => ⟨S2064x512, .f32⟩
  | 87 => ⟨S2064x512, .f32⟩
  | 88 => ⟨S2064x512, .f32⟩
  | 89 => ⟨S1x512, .f32⟩
  | 90 => ⟨S512, .f32⟩
  | 91 => ⟨S2064x512, .f32⟩
  | 92 => ⟨S1x512, .f32⟩
  | 93 => ⟨S2064x512, .f32⟩
  | 94 => ⟨S2064x512, .f32⟩
  | 95 => ⟨S2064x512, .f32⟩
  | 96 => ⟨S1x512, .f32⟩
  | 97 => ⟨S2064x512, .f32⟩
  | 98 => ⟨S2064x512, .f32⟩
  | 99 => ⟨S2064x512, .f32⟩
  | 100 => ⟨S1x512, .f32⟩
  | 101 => ⟨S2064x512, .f32⟩
  | 102 => ⟨S2064x512, .f32⟩
  | 103 => ⟨S2064x512, .f32⟩
  | 104 => ⟨S2064x512, .f32⟩
  | 105 => ⟨S_, .f32⟩
  | 106 => ⟨S2064x512, .f32⟩
  | 107 => ⟨S2064x512, .f32⟩
  | 108 => ⟨S_, .f32⟩
  | 109 => ⟨S2064x512, .f32⟩
  | 110 => ⟨S2064x512, .f32⟩
  | 111 => ⟨S_, .f32⟩
  | 112 => ⟨S2064x512, .f32⟩
  | 113 => ⟨S2064x512, .f32⟩
  | 114 => ⟨S2064x512, .f32⟩
  | 115 => ⟨S2064x512, .f32⟩
  | 116 => ⟨S1x512, .f32⟩
  | 117 => ⟨S2064x512, .f32⟩
  | 118 => ⟨S2064x512, .f32⟩
  | 119 => ⟨S2064x512, .f32⟩
  | 120 => ⟨S2064x512, .f32⟩
  | 121 => ⟨S_, .f32⟩
  | 122 => ⟨S2064x512, .f32⟩
  | 123 => ⟨S2064x512, .f32⟩
  | 124 => ⟨S_, .f32⟩
  | 125 => ⟨S2064x512, .f32⟩
  | 126 => ⟨S2064x512, .f32⟩
  | 127 => ⟨S_, .f32⟩
  | _ => ⟨S2064x5376, .f32⟩

abbrev hbmTy0_1 (i : Nat) : BufTy := match i % 128 with
  | 0 => ⟨S2064x512, .f32⟩
  | 1 => ⟨S2064x512, .f32⟩
  | 2 => ⟨S2064x512, .f32⟩
  | 3 => ⟨S_, .f32⟩
  | 4 => ⟨S2064x512, .f32⟩
  | 5 => ⟨S2064x512, .f32⟩
  | 6 => ⟨S512, .f32⟩
  | 7 => ⟨S_, .f32⟩
  | 8 => ⟨S512, .f32⟩
  | 9 => ⟨S512, .f32⟩
  | 10 => ⟨S512, .f32⟩
  | 11 => ⟨S512, .f32⟩
  | 12 => ⟨S512, .i1⟩
  | 13 => ⟨S512, .f32⟩
  | 14 => ⟨S512, .f32⟩
  | 15 => ⟨S512, .f32⟩
  | 16 => ⟨S512, .f32⟩
  | 17 => ⟨S512, .f32⟩
  | 18 => ⟨S512, .f32⟩
  | 19 => ⟨S512, .f32⟩
  | 20 => ⟨S512, .f32⟩
  | 21 => ⟨S_, .f32⟩
  | 22 => ⟨S512, .f32⟩
  | 23 => ⟨S512, .i1⟩
  | 24 => ⟨S_, .f32⟩
  | 25 => ⟨S512, .f32⟩
  | 26 => ⟨S512, .f32⟩
  | 27 => ⟨S_, .f32⟩
  | 28 => ⟨S512, .f32⟩
  | 29 => ⟨S512, .i1⟩
  | 30 => ⟨S_, .f32⟩
  | 31 => ⟨S512, .f32⟩
  | 32 => ⟨S512, .f32⟩
  | 33 => ⟨S512, .f32⟩
  | 34 => ⟨S512, .f32⟩
  | 35 => ⟨S_, .f32⟩
  | 36 => ⟨S_, .f32⟩
  | 37 => ⟨S_, .i1⟩
  | 38 => ⟨S_, .f32⟩
  | 39 => ⟨S_, .f32⟩
  | 40 => ⟨S_, .f32⟩
  | 41 => ⟨S_, .f32⟩
  | 42 => ⟨S512, .f32⟩
  | 43 => ⟨S512, .i1⟩
  | 44 => ⟨S_, .f32⟩
  | 45 => ⟨S512, .f32⟩
  | 46 => ⟨S512, .f32⟩
  | 47 => ⟨S512, .f32⟩
  | 48 => ⟨S512, .f32⟩
  | 49 => ⟨S512, .f32⟩
  | 50 => ⟨S_, .f32⟩
  | 51 => ⟨S512, .f32⟩
  | 52 => ⟨S512, .f32⟩
  | 53 => ⟨S1x512, .f32⟩
  | 54 => ⟨S2064x512, .f32⟩
  | 55 => ⟨S2064x512, .f32⟩
  | 56 => ⟨S2064x512, .f32⟩
  | 57 => ⟨S_, .f32⟩
  | 58 => ⟨S2064x512, .f32⟩
  | 59 => ⟨S2064x512, .f32⟩
  | 60 => ⟨S2064x512, .f32⟩
  | 61 => ⟨S2064x512, .f32⟩
  | 62 => ⟨S2064x512, .f32⟩
  | 63 => ⟨S2064x512, .f32⟩
  | 64 => ⟨S_, .f32⟩
  | 65 => ⟨S2064x512, .f32⟩
  | 66 => ⟨S2064x512, .f32⟩
  | 67 => ⟨S2064x512, .f32⟩
  | 68 => ⟨S2064x512, .f32⟩
  | 69 => ⟨S_, .f32⟩
  | 70 => ⟨S512, .f32⟩
  | 71 => ⟨S_, .f32⟩
  | 72 => ⟨S2064x512, .f32⟩
  | 73 => ⟨S_, .f32⟩
  | 74 => ⟨S2064x512, .f32⟩
  | 75 => ⟨S_, .i32⟩
  | 76 => ⟨S2064x512, .f32⟩
  | 77 => ⟨S2064x512, .f32⟩
  | 78 => ⟨S_, .i32⟩
  | 79 => ⟨S512, .f32⟩
  | 80 => ⟨S2064x512, .f32⟩
  | 81 => ⟨S2064x512, .f32⟩
  | 82 => ⟨S_, .i32⟩
  | 83 => ⟨S_, .i1⟩
  | 84 => ⟨S_, .i32⟩
  | 85 => ⟨S1x512, .f32⟩
  | 86 => ⟨S512, .f32⟩
  | 87 => ⟨S_, .i32⟩
  | 88 => ⟨S1x512, .f32⟩
  | 89 => ⟨S512, .f32⟩
  | 90 => ⟨S512, .f32⟩
  | 91 => ⟨S512, .f32⟩
  | 92 => ⟨S1x512, .f32⟩
  | 93 => ⟨S_, .i32⟩
  | 94 => ⟨S2064x512, .f32⟩
  | 95 => ⟨S1x512, .f32⟩
  | 96 => ⟨S_, .i32⟩
  | 97 => ⟨S2064x512, .f32⟩
  | 98 => ⟨S_, .i32⟩
  | 99 => ⟨S_, .i32⟩
  | 100 => ⟨S2064x512, .f32⟩
  | 101 => ⟨S2064x512, .f32⟩
  | 102 => ⟨S2064x512, .f32⟩
  | 103 => ⟨S2064x512, .f32⟩
  | 104 => ⟨S_, .f32⟩
  | 105 => ⟨S2064x512, .f32⟩
  | 106 => ⟨S2064x512, .f32⟩
  | 107 => ⟨S_, .f32⟩
  | 108 => ⟨S2064x512, .f32⟩
  | 109 => ⟨S2064x512, .f32⟩
  | 110 => ⟨S2064x512, .f32⟩
  | 111 => ⟨S_, .f32⟩
  | 112 => ⟨S2064x512, .f32⟩
  | 113 => ⟨S2064x512, .f32⟩
  | 114 => ⟨S2064x512, .f32⟩
  | 115 => ⟨S_, .f32⟩
  | 116 => ⟨S2064x512, .f32⟩
  | 117 => ⟨S2064x512, .f32⟩
  | 118 => ⟨S_, .f32⟩
  | 119 => ⟨S2064x512, .f32⟩
  | 120 => ⟨S2064x512, .f32⟩
  | 121 => ⟨S2064x512, .f32⟩
  | 122 => ⟨S_, .f32⟩
  | 123 => ⟨S2064x512, .f32⟩
  | 124 => ⟨S2064x512, .f32⟩
  | 125 => ⟨S_, .f32⟩
  | 126 => ⟨S2064x512, .f32⟩
  | 127 => ⟨S2064x512, .f32⟩
  | _ => ⟨S2064x5376, .f32⟩

abbrev hbmTy0_2 (i : Nat) : BufTy := match i % 128 with
  | 0 => ⟨S2064x512, .f32⟩
  | 1 => ⟨S2064x512, .f32⟩
  | 2 => ⟨S2064x512, .f32⟩
  | 3 => ⟨S_, .f32⟩
  | 4 => ⟨S2064, .f32⟩
  | 5 => ⟨S2064x1, .f32⟩
  | 6 => ⟨S_, .f32⟩
  | 7 => ⟨S2064x1, .f32⟩
  | 8 => ⟨S2064x1, .f32⟩
  | 9 => ⟨S_, .f32⟩
  | 10 => ⟨S2064x1, .f32⟩
  | 11 => ⟨S2064x1, .f32⟩
  | 12 => ⟨S2064x1, .f32⟩
  | 13 => ⟨S2064x1, .f32⟩
  | 14 => ⟨S_, .f32⟩
  | 15 => ⟨S2064x1, .f32⟩
  | 16 => ⟨S2064x1, .f32⟩
  | 17 => ⟨S2064x512, .f32⟩
  | 18 => ⟨S2064x512, .f32⟩
  | 19 => ⟨S1x512, .f32⟩
  | 20 => ⟨S2064x512, .f32⟩
  | 21 => ⟨S2064x512, .f32⟩
  | 22 => ⟨S2064x512, .f32⟩
  | 23 => ⟨S_, .f32⟩
  | 24 => ⟨S512, .f32⟩
  | 25 => ⟨S2064x512, .f32⟩
  | 26 => ⟨S_, .f32⟩
  | 27 => ⟨S512, .f32⟩
  | 28 => ⟨S1x512, .f32⟩
  | 29 => ⟨S2064x512, .f32⟩
  | 30 => ⟨S2064x512, .f32⟩
  | 31 => ⟨S_, .f32⟩
  | 32 => ⟨S512, .f32⟩
  | 33 => ⟨S2064x512, .f32⟩
  | 34 => ⟨S_, .f32⟩
  | 35 => ⟨S2064, .f32⟩
  | 36 => ⟨S2064x1, .f32⟩
  | 37 => ⟨S2064x512, .f32⟩
  | 38 => ⟨S2064x512, .f32⟩
  | 39 => ⟨S2064x1, .f32⟩
  | 40 => ⟨S_, .f32⟩
  | 41 => ⟨S2064x1, .f32⟩
  | 42 => ⟨S2064x1, .f32⟩
  | 43 => ⟨S_, .f32⟩
  | 44 => ⟨S2064, .f32⟩
  | 45 => ⟨S2064x512, .f32⟩
  | 46 => ⟨S2064x512, .f32⟩
  | 47 => ⟨S2064x512, .f32⟩
  | 48 => ⟨S2064x512, .f32⟩
  | 49 => ⟨S2064x512, .f32⟩
  | 50 => ⟨S2064x512, .f32⟩
  | 51 => ⟨S2064x512, .f32⟩
  | 52 => ⟨S2064x512, .f32⟩
  | 53 => ⟨S2064x512, .f32⟩
  | 54 => ⟨S_, .f32⟩
  | 55 => ⟨S2064x512, .f32⟩
  | 56 => ⟨S2064x512, .f32⟩
  | 57 => ⟨S2064x512, .f32⟩
  | 58 => ⟨S_, .f32⟩
  | 59 => ⟨S2064x512, .f32⟩
  | 60 => ⟨S2064x512, .f32⟩
  | 61 => ⟨S2064x512, .f32⟩
  | 62 => ⟨S_, .f32⟩
  | 63 => ⟨S2064x512, .f32⟩
  | 64 => ⟨S2064x512, .f32⟩
  | 65 => ⟨S2064x512, .f32⟩
  | 66 => ⟨S2064x512, .f32⟩
  | 67 => ⟨S_, .f32⟩
  | 68 => ⟨S2112x512, .f32⟩
  | 69 => ⟨S_, .f32⟩
  | 70 => ⟨S512, .f32⟩
  | 71 => ⟨S_, .f32⟩
  | 72 => ⟨S2064x512, .f32⟩
  | 73 => ⟨S_, .f32⟩
  | 74 => ⟨S2064x512, .f32⟩
  | 75 => ⟨S_, .i32⟩
  | 76 => ⟨S2064x512, .f32⟩
  | 77 => ⟨S2064x512, .f32⟩
  | 78 => ⟨S2064x512, .f32⟩
  | 79 => ⟨S_, .i32⟩
  | 80 => ⟨S512, .f32⟩
  | 81 => ⟨S2064x512, .f32⟩
  | 82 => ⟨S2064x512, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x512, .f32⟩
  | 91 => ⟨S512, .f32⟩
  | 92 => ⟨S_, .i32⟩
  | 93 => ⟨S1x512, .f32⟩
  | 94 => ⟨S512, .f32⟩
  | 95 => ⟨S_, .i32⟩
  | 96 => ⟨S1x512, .f32⟩
  | 97 => ⟨S512, .f32⟩
  | 98 => ⟨S512, .f32⟩
  | 99 => ⟨S512, .f32⟩
  | 100 => ⟨S512, .f32⟩
  | 101 => ⟨S1x512, .f32⟩
  | 102 => ⟨S_, .i32⟩
  | 103 => ⟨S2064x512, .f32⟩
  | 104 => ⟨S1x512, .f32⟩
  | 105 => ⟨S_, .i32⟩
  | 106 => ⟨S2064x512, .f32⟩
  | 107 => ⟨S_, .i32⟩
  | 108 => ⟨S_, .i32⟩
  | 109 => ⟨S2064x512, .f32⟩
  | 110 => ⟨S2064x512, .f32⟩
  | 111 => ⟨S2064x512, .f32⟩
  | 112 => ⟨S2064x512, .f32⟩
  | 113 => ⟨S2064x512, .f32⟩
  | 114 => ⟨S2064x512, .f32⟩
  | 115 => ⟨S2064x512, .f32⟩
  | 116 => ⟨S_, .f32⟩
  | 117 => ⟨S2064x512, .f32⟩
  | 118 => ⟨S2064x512, .f32⟩
  | 119 => ⟨S2064x512, .f32⟩
  | 120 => ⟨S2064x512, .f32⟩
  | 121 => ⟨S2064x512, .f32⟩
  | 122 => ⟨S_, .f32⟩
  | 123 => ⟨S512, .f32⟩
  | 124 => ⟨S1x512, .f32⟩
  | 125 => ⟨S2064x512, .f32⟩
  | 126 => ⟨S2064x512, .f32⟩
  | 127 => ⟨S_, .f32⟩
  | _ => ⟨S2064x5376, .f32⟩

abbrev hbmTy0_3 (i : Nat) : BufTy := match i % 128 with
  | 0 => ⟨S512, .f32⟩
  | 1 => ⟨S512, .f32⟩
  | 2 => ⟨S512, .f32⟩
  | 3 => ⟨S_, .f32⟩
  | 4 => ⟨S2064x512, .f32⟩
  | 5 => ⟨S2064x512, .f32⟩
  | 6 => ⟨S2064x512, .f32⟩
  | 7 => ⟨S_, .f32⟩
  | 8 => ⟨S512, .f32⟩
  | 9 => ⟨S1x512, .f32⟩
  | 10 => ⟨S_, .f32⟩
  | 11 => ⟨S512, .f32⟩
  | 12 => ⟨S512x512, .f32⟩
  | 13 => ⟨S512x512, .f32⟩
  | 14 => ⟨S2064x512, .f32⟩
  | 15 => ⟨S2064x512, .f32⟩
  | 16 => ⟨S2064x512, .f32⟩
  | 17 => ⟨S_, .f32⟩
  | 18 => ⟨S512, .f32⟩
  | 19 => ⟨S1x512, .f32⟩
  | 20 => ⟨S_, .f32⟩
  | 21 => ⟨S512, .f32⟩
  | 22 => ⟨S512x512, .f32⟩
  | 23 => ⟨S512x512, .f32⟩
  | 24 => ⟨S2064x512, .f32⟩
  | 25 => ⟨S2064x512, .f32⟩
  | 26 => ⟨S_, .f32⟩
  | 27 => ⟨S512, .f32⟩
  | 28 => ⟨S1x512, .f32⟩
  | 29 => ⟨S_, .f32⟩
  | 30 => ⟨S512, .f32⟩
  | 31 => ⟨S2064x512, .f32⟩
  | 32 => ⟨S2064x512, .f32⟩
  | 33 => ⟨S2064x512, .f32⟩
  | 34 => ⟨S_, .f32⟩
  | 35 => ⟨S512, .f32⟩
  | 36 => ⟨S1x512, .f32⟩
  | 37 => ⟨S_, .f32⟩
  | 38 => ⟨S512, .f32⟩
  | 39 => ⟨S_, .f32⟩
  | 40 => ⟨S2112x512, .f32⟩
  | 41 => ⟨S1x512, .f32⟩
  | 42 => ⟨S_, .f32⟩
  | 43 => ⟨S4x512, .f32⟩
  | 44 => ⟨S2064x512, .f32⟩
  | 45 => ⟨S2064x512, .f32⟩
  | 46 => ⟨S2064x512, .f32⟩
  | 47 => ⟨S_, .f32⟩
  | 48 => ⟨S512, .f32⟩
  | 49 => ⟨S1x512, .f32⟩
  | 50 => ⟨S_, .f32⟩
  | 51 => ⟨S512, .f32⟩
  | 52 => ⟨S_, .f32⟩
  | 53 => ⟨S2112x512, .f32⟩
  | 54 => ⟨S2112x512, .f32⟩
  | 55 => ⟨S1x512, .f32⟩
  | 56 => ⟨S_, .f32⟩
  | 57 => ⟨S4x512, .f32⟩
  | 58 => ⟨S4x512, .f32⟩
  | 59 => ⟨S2064x512, .f32⟩
  | 60 => ⟨S2064x512, .f32⟩
  | 61 => ⟨S2064x512, .f32⟩
  | 62 => ⟨S_, .f32⟩
  | 63 => ⟨S512, .f32⟩
  | 64 => ⟨S1x512, .f32⟩
  | 65 => ⟨S_, .f32⟩
  | 66 => ⟨S512, .f32⟩
  | 67 => ⟨S_, .f32⟩
  | 68 => ⟨S2112x512, .f32⟩
  | 69 => ⟨S2112x512, .f32⟩
  | 70 => ⟨S1x512, .f32⟩
  | 71 => ⟨S_, .f32⟩
  | 72 => ⟨S4x512, .f32⟩
  | 73 => ⟨S4x512, .f32⟩
  | 74 => ⟨S2064x512, .f32⟩
  | 75 => ⟨S2064x512, .f32⟩
  | 76 => ⟨S2064x512, .f32⟩
  | 77 => ⟨S_, .f32⟩
  | 78 => ⟨S512, .f32⟩
  | 79 => ⟨S1x512, .f32⟩
  | 80 => ⟨S_, .f32⟩
  | 81 => ⟨S512, .f32⟩
  | 82 => ⟨S_, .f32⟩
  | 83 => ⟨S2112x512, .f32⟩
  | 84 => ⟨S2112x512, .f32⟩
  | 85 => ⟨S1x512, .f32⟩
  | 86 => ⟨S_, .f32⟩
  | 87 => ⟨S4x512, .f32⟩
  | 88 => ⟨S4x512, .f32⟩
  | 89 => ⟨S1x4x512, .f32⟩
  | 90 => ⟨S1x1x512, .f32⟩
  | 91 => ⟨S1x512x512, .f32⟩
  | 92 => ⟨S1x1x512, .f32⟩
  | 93 => ⟨S1x512x512, .f32⟩
  | 94 => ⟨S1x1x512, .f32⟩
  | 95 => ⟨S1x1x512, .f32⟩
  | 96 => ⟨S1x1x512, .f32⟩
  | _ => ⟨S2064x5376, .f32⟩

abbrev hbmTy (i : Nat) : BufTy := match i / 128 with
  | 0 => hbmTy0_0 i
  | 1 => hbmTy0_1 i
  | 2 => hbmTy0_2 i
  | 3 => hbmTy0_3 i
  | _ => ⟨S2064x5376, .f32⟩

abbrev bufTy : (tb : Table) → Fin (tcTables nBuf tb) → BufTy
  | .hbm, ⟨i, _⟩ => hbmTy i
  | _, _ => ⟨S2064x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_cst_2 : Ref sig .tc := ⟨.hbm, 105, rfl⟩
abbrev main_v92 : Ref sig .tc := ⟨.hbm, 106, rfl⟩
abbrev main_v93 : Ref sig .tc := ⟨.hbm, 107, rfl⟩
abbrev main_cst_3 : Ref sig .tc := ⟨.hbm, 108, rfl⟩
abbrev main_v94 : Ref sig .tc := ⟨.hbm, 109, rfl⟩
abbrev main_v95 : Ref sig .tc := ⟨.hbm, 110, rfl⟩
abbrev main_cst_4 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_5 : Ref sig .tc := ⟨.hbm, 121, rfl⟩
abbrev main_v105 : Ref sig .tc := ⟨.hbm, 122, rfl⟩
abbrev main_v106 : Ref sig .tc := ⟨.hbm, 123, rfl⟩
abbrev main_cst_6 : Ref sig .tc := ⟨.hbm, 124, rfl⟩
abbrev main_v107 : Ref sig .tc := ⟨.hbm, 125, rfl⟩
abbrev main_v108 : Ref sig .tc := ⟨.hbm, 126, rfl⟩
abbrev main_cst_7 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_8 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_call0_cst : Ref sig .tc := ⟨.hbm, 135, rfl⟩
abbrev main_call0_v0 : Ref sig .tc := ⟨.hbm, 136, rfl⟩
abbrev main_call0_v1 : Ref sig .tc := ⟨.hbm, 137, rfl⟩
abbrev main_call0_v2 : Ref sig .tc := ⟨.hbm, 138, rfl⟩
abbrev main_call0_v3 : Ref sig .tc := ⟨.hbm, 139, rfl⟩
abbrev main_call0_v4 : Ref sig .tc := ⟨.hbm, 140, rfl⟩
abbrev main_call0_v5 : Ref sig .tc := ⟨.hbm, 141, rfl⟩
abbrev main_call0_v6 : Ref sig .tc := ⟨.hbm, 142, rfl⟩
abbrev main_call0_v7 : Ref sig .tc := ⟨.hbm, 143, rfl⟩
abbrev main_call0_v8 : Ref sig .tc := ⟨.hbm, 144, rfl⟩
abbrev main_call0_v9 : Ref sig .tc := ⟨.hbm, 145, rfl⟩
abbrev main_call0_v10 : Ref sig .tc := ⟨.hbm, 146, rfl⟩
abbrev main_call0_v11 : Ref sig .tc := ⟨.hbm, 147, rfl⟩
abbrev main_v115_0 : Ref sig .tc := ⟨.hbm, 148, rfl⟩
abbrev main_call0_cst_0 : Ref sig .tc := ⟨.hbm, 149, rfl⟩
abbrev main_call0_v13 : Ref sig .tc := ⟨.hbm, 150, rfl⟩
abbrev main_call0_v14 : Ref sig .tc := ⟨.hbm, 151, rfl⟩
abbrev main_call0_cst_1 : Ref sig .tc := ⟨.hbm, 152, rfl⟩
abbrev main_call0_v15 : Ref sig .tc := ⟨.hbm, 153, rfl⟩
abbrev main_call0_v16 : Ref sig .tc := ⟨.hbm, 154, rfl⟩
abbrev main_call0_cst_2 : Ref sig .tc := ⟨.hbm, 155, rfl⟩
abbrev main_call0_v17 : Ref sig .tc := ⟨.hbm, 156, rfl⟩
abbrev main_call0_v18 : Ref sig .tc := ⟨.hbm, 157, rfl⟩
abbrev main_call0_cst_3 : Ref sig .tc := ⟨.hbm, 158, rfl⟩
abbrev main_call0_v19 : Ref sig .tc := ⟨.hbm, 159, rfl⟩
abbrev main_call0_v20 : Ref sig .tc := ⟨.hbm, 160, rfl⟩
abbrev main_call0_v21 : Ref sig .tc := ⟨.hbm, 161, rfl⟩
abbrev main_v115_1 : Ref sig .tc := ⟨.hbm, 162, rfl⟩
abbrev main_call0_cst_4 : Ref sig .tc := ⟨.hbm, 163, rfl⟩
abbrev main_call0_cst_5 : Ref sig .tc := ⟨.hbm, 164, rfl⟩
abbrev main_call0_v23 : Ref sig .tc := ⟨.hbm, 165, rfl⟩
abbrev main_call0_cst_6 : Ref sig .tc := ⟨.hbm, 166, rfl⟩
abbrev main_call0_cst_7 : Ref sig .tc := ⟨.hbm, 167, rfl⟩
abbrev main_call0_v24 : Ref sig .tc := ⟨.hbm, 168, rfl⟩
abbrev main_call0_cst_8 : Ref sig .tc := ⟨.hbm, 169, rfl⟩
abbrev main_call0_v25 : Ref sig .tc := ⟨.hbm, 170, rfl⟩
abbrev main_call0_v26 : Ref sig .tc := ⟨.hbm, 171, rfl⟩
abbrev main_call0_cst_9 : Ref sig .tc := ⟨.hbm, 172, rfl⟩
abbrev main_call0_v27 : Ref sig .tc := ⟨.hbm, 173, rfl⟩
abbrev main_call0_v28 : Ref sig .tc := ⟨.hbm, 174, rfl⟩
abbrev main_call0_v29 : Ref sig .tc := ⟨.hbm, 175, rfl⟩
abbrev main_call0_v30 : Ref sig .tc := ⟨.hbm, 176, rfl⟩
abbrev main_call0_v31 : Ref sig .tc := ⟨.hbm, 177, rfl⟩
abbrev main_call0_cst_10 : Ref sig .tc := ⟨.hbm, 178, rfl⟩
abbrev main_call0_v32 : Ref sig .tc := ⟨.hbm, 179, rfl⟩
abbrev main_v115_2 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_cst_9 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_10 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_11 : Ref sig .tc := ⟨.hbm, 197, rfl⟩
abbrev main_v130 : Ref sig .tc := ⟨.hbm, 198, rfl⟩
abbrev main_cst_12 : Ref sig .tc := ⟨.hbm, 199, rfl⟩
abbrev main_v131 : Ref sig .tc := ⟨.hbm, 200, rfl⟩
abbrev main_cst_13 : Ref sig .tc := ⟨.hbm, 201, rfl⟩
abbrev main_v132 : Ref sig .tc := ⟨.hbm, 202, rfl⟩
abbrev main_c : Ref sig .tc := ⟨.hbm, 203, rfl⟩
abbrev main_v133_0 : Ref sig .tc := ⟨.hbm, 204, rfl⟩
abbrev main_v133_1 : Ref sig .tc := ⟨.hbm, 205, rfl⟩
abbrev main_v133_2 : Ref sig .tc := ⟨.hbm, 206, rfl⟩
abbrev main_v133_3 : Ref sig .tc := ⟨.hbm, 207, rfl⟩
abbrev main_v133_4 : Ref sig .tc := ⟨.hbm, 208, rfl⟩
abbrev main_v133_5 : Ref sig .tc := ⟨.hbm, 209, rfl⟩
abbrev main_while0c_c_70 : Ref sig .tc := ⟨.hbm, 210, rfl⟩
abbrev main_while0c_v304 : Ref sig .tc := ⟨.hbm, 211, rfl⟩
abbrev main_while0b_call1_c : Ref sig .tc := ⟨.hbm, 212, rfl⟩
abbrev main_while0b_call1_v0 : Ref sig .tc := ⟨.hbm, 213, rfl⟩
abbrev main_while0b_v304 : Ref sig .tc := ⟨.hbm, 214, rfl⟩
abbrev main_while0b_call2_c : Ref sig .tc := ⟨.hbm, 215, rfl⟩
abbrev main_while0b_call2_v0 : Ref sig .tc := ⟨.hbm, 216, rfl⟩
abbrev main_while0b_v305 : Ref sig .tc := ⟨.hbm, 217, rfl⟩
abbrev main_while0b_v306 : Ref sig .tc := ⟨.hbm, 218, rfl⟩
abbrev main_while0b_v307 : Ref sig .tc := ⟨.hbm, 219, rfl⟩
abbrev main_while0b_call3_v0 : Ref sig .tc := ⟨.hbm, 220, rfl⟩
abbrev main_while0b_call3_c : Ref sig .tc := ⟨.hbm, 221, rfl⟩
abbrev main_while0b_v308 : Ref sig .tc := ⟨.hbm, 222, rfl⟩
abbrev main_while0b_call4_v0 : Ref sig .tc := ⟨.hbm, 223, rfl⟩
abbrev main_while0b_call4_c : Ref sig .tc := ⟨.hbm, 224, rfl⟩
abbrev main_while0b_v309 : Ref sig .tc := ⟨.hbm, 225, rfl⟩
abbrev main_while0b_c_70 : Ref sig .tc := ⟨.hbm, 226, rfl⟩
abbrev main_while0b_v310 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_cst_14 : Ref sig .tc := ⟨.hbm, 232, rfl⟩
abbrev main_v138 : Ref sig .tc := ⟨.hbm, 233, rfl⟩
abbrev main_v139 : Ref sig .tc := ⟨.hbm, 234, rfl⟩
abbrev main_cst_15 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_cst_16 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_cst_17 : Ref sig .tc := ⟨.hbm, 243, rfl⟩
abbrev main_v146 : Ref sig .tc := ⟨.hbm, 244, rfl⟩
abbrev main_v147 : Ref sig .tc := ⟨.hbm, 245, rfl⟩
abbrev main_cst_18 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_cst_19 : Ref sig .tc := ⟨.hbm, 250, rfl⟩
abbrev main_v151 : Ref sig .tc := ⟨.hbm, 251, rfl⟩
abbrev main_v152 : Ref sig .tc := ⟨.hbm, 252, rfl⟩
abbrev main_cst_20 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_cst_21 : Ref sig .tc := ⟨.hbm, 259, rfl⟩
abbrev main_v158 : Ref sig .tc := ⟨.hbm, 260, rfl⟩
abbrev main_v159 : Ref sig .tc := ⟨.hbm, 261, rfl⟩
abbrev main_cst_22 : Ref sig .tc := ⟨.hbm, 262, rfl⟩
abbrev main_v160 : Ref sig .tc := ⟨.hbm, 263, rfl⟩
abbrev main_v161 : Ref sig .tc := ⟨.hbm, 264, rfl⟩
abbrev main_cst_23 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_cst_24 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_cst_25 : Ref sig .tc := ⟨.hbm, 279, rfl⟩
abbrev main_v174 : Ref sig .tc := ⟨.hbm, 280, rfl⟩
abbrev main_v175 : Ref sig .tc := ⟨.hbm, 281, rfl⟩
abbrev main_cst_26 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_cst_27 : Ref sig .tc := ⟨.hbm, 287, rfl⟩
abbrev main_v180 : Ref sig .tc := ⟨.hbm, 288, rfl⟩
abbrev main_v181 : Ref sig .tc := ⟨.hbm, 289, rfl⟩
abbrev main_cst_28 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_cst_29 : Ref sig .tc := ⟨.hbm, 296, rfl⟩
abbrev main_v187 : Ref sig .tc := ⟨.hbm, 297, rfl⟩
abbrev main_v188 : Ref sig .tc := ⟨.hbm, 298, rfl⟩
abbrev main_cst_30 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_cst_31 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_cst_32 : Ref sig .tc := ⟨.hbm, 314, rfl⟩
abbrev main_v202 : Ref sig .tc := ⟨.hbm, 315, rfl⟩
abbrev main_v203 : Ref sig .tc := ⟨.hbm, 316, rfl⟩
abbrev main_v204 : Ref sig .tc := ⟨.hbm, 317, rfl⟩
abbrev main_cst_33 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_cst_34 : Ref sig .tc := ⟨.hbm, 323, rfl⟩
abbrev main_v209 : Ref sig .tc := ⟨.hbm, 324, rfl⟩
abbrev main_cst_35 : Ref sig .tc := ⟨.hbm, 325, rfl⟩
abbrev main_v210 : Ref sig .tc := ⟨.hbm, 326, rfl⟩
abbrev main_cst_36 : Ref sig .tc := ⟨.hbm, 327, rfl⟩
abbrev main_v211 : Ref sig .tc := ⟨.hbm, 328, rfl⟩
abbrev main_cst_37 : Ref sig .tc := ⟨.hbm, 329, rfl⟩
abbrev main_v212 : Ref sig .tc := ⟨.hbm, 330, rfl⟩
abbrev main_c_38 : Ref sig .tc := ⟨.hbm, 331, rfl⟩
abbrev main_v213_0 : Ref sig .tc := ⟨.hbm, 332, rfl⟩
abbrev main_v213_1 : Ref sig .tc := ⟨.hbm, 333, rfl⟩
abbrev main_v213_2 : Ref sig .tc := ⟨.hbm, 334, rfl⟩
abbrev main_v213_3 : Ref sig .tc := ⟨.hbm, 335, rfl⟩
abbrev main_v213_4 : Ref sig .tc := ⟨.hbm, 336, rfl⟩
abbrev main_v213_5 : Ref sig .tc := ⟨.hbm, 337, rfl⟩
abbrev main_v213_6 : Ref sig .tc := ⟨.hbm, 338, rfl⟩
abbrev main_while1c_c_71 : Ref sig .tc := ⟨.hbm, 339, rfl⟩
abbrev main_while1c_v304 : Ref sig .tc := ⟨.hbm, 340, rfl⟩
abbrev main_while1b_c_71 : Ref sig .tc := ⟨.hbm, 341, rfl⟩
abbrev main_while1b_v304 : Ref sig .tc := ⟨.hbm, 342, rfl⟩
abbrev main_while1b_c_72 : Ref sig .tc := ⟨.hbm, 343, rfl⟩
abbrev main_while1b_v305 : Ref sig .tc := ⟨.hbm, 344, rfl⟩
abbrev main_while1b_call5_c : Ref sig .tc := ⟨.hbm, 345, rfl⟩
abbrev main_while1b_call5_v0 : Ref sig .tc := ⟨.hbm, 346, rfl⟩
abbrev main_while1b_v306 : Ref sig .tc := ⟨.hbm, 347, rfl⟩
abbrev main_while1b_call6_c : Ref sig .tc := ⟨.hbm, 348, rfl⟩
abbrev main_while1b_call6_v0 : Ref sig .tc := ⟨.hbm, 349, rfl⟩
abbrev main_while1b_v307 : Ref sig .tc := ⟨.hbm, 350, rfl⟩
abbrev main_while1b_call7_c : Ref sig .tc := ⟨.hbm, 351, rfl⟩
abbrev main_while1b_call7_v0 : Ref sig .tc := ⟨.hbm, 352, rfl⟩
abbrev main_while1b_v308 : Ref sig .tc := ⟨.hbm, 353, rfl⟩
abbrev main_while1b_v309 : Ref sig .tc := ⟨.hbm, 354, rfl⟩
abbrev main_while1b_v310 : Ref sig .tc := ⟨.hbm, 355, rfl⟩
abbrev main_while1b_v311 : Ref sig .tc := ⟨.hbm, 356, rfl⟩
abbrev main_while1b_call8_v0 : Ref sig .tc := ⟨.hbm, 357, rfl⟩
abbrev main_while1b_call8_c : Ref sig .tc := ⟨.hbm, 358, rfl⟩
abbrev main_while1b_v312 : Ref sig .tc := ⟨.hbm, 359, rfl⟩
abbrev main_while1b_call9_v0 : Ref sig .tc := ⟨.hbm, 360, rfl⟩
abbrev main_while1b_call9_c : Ref sig .tc := ⟨.hbm, 361, rfl⟩
abbrev main_while1b_v313 : Ref sig .tc := ⟨.hbm, 362, rfl⟩
abbrev main_while1b_c_73 : Ref sig .tc := ⟨.hbm, 363, rfl⟩
abbrev main_while1b_v314 : Ref sig .tc := ⟨.hbm, 364, rfl⟩
abbrev main_v214 : Ref sig .tc := ⟨.hbm, 365, rfl⟩
abbrev main_v215 : Ref sig .tc := ⟨.hbm, 366, rfl⟩
abbrev main_v216 : Ref sig .tc := ⟨.hbm, 367, rfl⟩
abbrev main_v217 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_cst_39 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_cst_40 : Ref sig .tc := ⟨.hbm, 378, rfl⟩
abbrev main_v226 : Ref sig .tc := ⟨.hbm, 379, rfl⟩
abbrev main_v227 : Ref sig .tc := ⟨.hbm, 380, rfl⟩
abbrev main_v228 : Ref sig .tc := ⟨.hbm, 381, rfl⟩
abbrev main_v229 : Ref sig .tc := ⟨.hbm, 382, rfl⟩
abbrev main_cst_41 : Ref sig .tc := ⟨.hbm, 383, rfl⟩
abbrev main_v230 : Ref sig .tc := ⟨.hbm, 384, rfl⟩
abbrev main_v231 : Ref sig .tc := ⟨.hbm, 385, rfl⟩
abbrev main_v232 : Ref sig .tc := ⟨.hbm, 386, rfl⟩
abbrev main_cst_42 : Ref sig .tc := ⟨.hbm, 387, rfl⟩
abbrev main_v233 : Ref sig .tc := ⟨.hbm, 388, rfl⟩
abbrev main_v234 : Ref sig .tc := ⟨.hbm, 389, rfl⟩
abbrev main_v235 : Ref sig .tc := ⟨.hbm, 390, rfl⟩
abbrev main_cst_43 : Ref sig .tc := ⟨.hbm, 391, rfl⟩
abbrev main_v236 : Ref sig .tc := ⟨.hbm, 392, rfl⟩
abbrev main_v237 : Ref sig .tc := ⟨.hbm, 393, rfl⟩
abbrev main_cst_44 : Ref sig .tc := ⟨.hbm, 394, rfl⟩
abbrev main_v238 : Ref sig .tc := ⟨.hbm, 395, rfl⟩
abbrev main_v239 : Ref sig .tc := ⟨.hbm, 396, rfl⟩
abbrev main_v240 : Ref sig .tc := ⟨.hbm, 397, rfl⟩
abbrev main_v241 : Ref sig .tc := ⟨.hbm, 398, rfl⟩
abbrev main_v242 : Ref sig .tc := ⟨.hbm, 399, rfl⟩
abbrev main_v243 : Ref sig .tc := ⟨.hbm, 400, rfl⟩
abbrev main_cst_45 : Ref sig .tc := ⟨.hbm, 401, rfl⟩
abbrev main_v244 : Ref sig .tc := ⟨.hbm, 402, rfl⟩
abbrev main_v245 : Ref sig .tc := ⟨.hbm, 403, rfl⟩
abbrev main_cst_46 : Ref sig .tc := ⟨.hbm, 404, rfl⟩
abbrev main_v246 : Ref sig .tc := ⟨.hbm, 405, rfl⟩
abbrev main_v247 : Ref sig .tc := ⟨.hbm, 406, rfl⟩
abbrev main_v248 : Ref sig .tc := ⟨.hbm, 407, rfl⟩
abbrev main_v249 : Ref sig .tc := ⟨.hbm, 408, rfl⟩
abbrev main_v250 : Ref sig .tc := ⟨.hbm, 409, rfl⟩
abbrev main_cst_47 : Ref sig .tc := ⟨.hbm, 410, rfl⟩
abbrev main_v251 : Ref sig .tc := ⟨.hbm, 411, rfl⟩
abbrev main_v252 : Ref sig .tc := ⟨.hbm, 412, rfl⟩
abbrev main_cst_48 : Ref sig .tc := ⟨.hbm, 413, rfl⟩
abbrev main_v253 : Ref sig .tc := ⟨.hbm, 414, rfl⟩
abbrev main_v254 : Ref sig .tc := ⟨.hbm, 415, rfl⟩
abbrev main_v255 : Ref sig .tc := ⟨.hbm, 416, rfl⟩
abbrev main_v256 : Ref sig .tc := ⟨.hbm, 417, rfl⟩
abbrev main_cst_49 : Ref sig .tc := ⟨.hbm, 418, rfl⟩
abbrev main_v257 : Ref sig .tc := ⟨.hbm, 419, rfl⟩
abbrev main_v258 : Ref sig .tc := ⟨.hbm, 420, rfl⟩
abbrev main_cst_50 : Ref sig .tc := ⟨.hbm, 421, rfl⟩
abbrev main_v259 : Ref sig .tc := ⟨.hbm, 422, rfl⟩
abbrev main_cst_51 : Ref sig .tc := ⟨.hbm, 423, rfl⟩
abbrev main_v260 : Ref sig .tc := ⟨.hbm, 424, rfl⟩
abbrev main_v261 : Ref sig .tc := ⟨.hbm, 425, rfl⟩
abbrev main_cst_52 : Ref sig .tc := ⟨.hbm, 426, rfl⟩
abbrev main_v262 : Ref sig .tc := ⟨.hbm, 427, rfl⟩
abbrev main_v263 : Ref sig .tc := ⟨.hbm, 428, rfl⟩
abbrev main_v264 : Ref sig .tc := ⟨.hbm, 429, rfl⟩
abbrev main_v265 : Ref sig .tc := ⟨.hbm, 430, rfl⟩
abbrev main_cst_53 : Ref sig .tc := ⟨.hbm, 431, rfl⟩
abbrev main_v266 : Ref sig .tc := ⟨.hbm, 432, rfl⟩
abbrev main_v267 : Ref sig .tc := ⟨.hbm, 433, rfl⟩
abbrev main_cst_54 : Ref sig .tc := ⟨.hbm, 434, rfl⟩
abbrev main_v268 : Ref sig .tc := ⟨.hbm, 435, rfl⟩
abbrev main_cst_55 : Ref sig .tc := ⟨.hbm, 436, rfl⟩
abbrev main_v269 : Ref sig .tc := ⟨.hbm, 437, rfl⟩
abbrev main_v270 : Ref sig .tc := ⟨.hbm, 438, rfl⟩
abbrev main_v271 : Ref sig .tc := ⟨.hbm, 439, rfl⟩
abbrev main_cst_56 : Ref sig .tc := ⟨.hbm, 440, rfl⟩
abbrev main_v272 : Ref sig .tc := ⟨.hbm, 441, rfl⟩
abbrev main_v273 : Ref sig .tc := ⟨.hbm, 442, rfl⟩
abbrev main_v274 : Ref sig .tc := ⟨.hbm, 443, rfl⟩
abbrev main_v275 : Ref sig .tc := ⟨.hbm, 444, rfl⟩
abbrev main_v276 : Ref sig .tc := ⟨.hbm, 445, rfl⟩
abbrev main_cst_57 : Ref sig .tc := ⟨.hbm, 446, rfl⟩
abbrev main_v277 : Ref sig .tc := ⟨.hbm, 447, rfl⟩
abbrev main_v278 : Ref sig .tc := ⟨.hbm, 448, rfl⟩
abbrev main_cst_58 : Ref sig .tc := ⟨.hbm, 449, rfl⟩
abbrev main_v279 : Ref sig .tc := ⟨.hbm, 450, rfl⟩
abbrev main_cst_59 : Ref sig .tc := ⟨.hbm, 451, rfl⟩
abbrev main_v280 : Ref sig .tc := ⟨.hbm, 452, rfl⟩
abbrev main_v281 : Ref sig .tc := ⟨.hbm, 453, rfl⟩
abbrev main_v282 : Ref sig .tc := ⟨.hbm, 454, rfl⟩
abbrev main_cst_60 : Ref sig .tc := ⟨.hbm, 455, rfl⟩
abbrev main_v283 : Ref sig .tc := ⟨.hbm, 456, rfl⟩
abbrev main_v284 : Ref sig .tc := ⟨.hbm, 457, rfl⟩
abbrev main_v285 : Ref sig .tc := ⟨.hbm, 458, rfl⟩
abbrev main_v286 : Ref sig .tc := ⟨.hbm, 459, rfl⟩
abbrev main_v287 : Ref sig .tc := ⟨.hbm, 460, rfl⟩
abbrev main_cst_61 : Ref sig .tc := ⟨.hbm, 461, rfl⟩
abbrev main_v288 : Ref sig .tc := ⟨.hbm, 462, rfl⟩
abbrev main_v289 : Ref sig .tc := ⟨.hbm, 463, rfl⟩
abbrev main_cst_62 : Ref sig .tc := ⟨.hbm, 464, rfl⟩
abbrev main_v290 : Ref sig .tc := ⟨.hbm, 465, rfl⟩
abbrev main_cst_63 : Ref sig .tc := ⟨.hbm, 466, rfl⟩
abbrev main_v291 : Ref sig .tc := ⟨.hbm, 467, rfl⟩
abbrev main_v292 : Ref sig .tc := ⟨.hbm, 468, rfl⟩
abbrev main_v293 : Ref sig .tc := ⟨.hbm, 469, rfl⟩
abbrev main_cst_64 : Ref sig .tc := ⟨.hbm, 470, rfl⟩
abbrev main_v294 : Ref sig .tc := ⟨.hbm, 471, rfl⟩
abbrev main_v295 : Ref sig .tc := ⟨.hbm, 472, rfl⟩
abbrev main_v296 : Ref sig .tc := ⟨.hbm, 473, rfl⟩
abbrev main_v297 : Ref sig .tc := ⟨.hbm, 474, rfl⟩
abbrev main_v298 : Ref sig .tc := ⟨.hbm, 475, rfl⟩
abbrev main_v299 : Ref sig .tc := ⟨.hbm, 476, rfl⟩
abbrev main_v300 : Ref sig .tc := ⟨.hbm, 477, rfl⟩
abbrev main_v301 : Ref sig .tc := ⟨.hbm, 478, rfl⟩
abbrev main_v302 : Ref sig .tc := ⟨.hbm, 479, rfl⟩
abbrev main_v303 : Ref sig .tc := ⟨.hbm, 480, rfl⟩

abbrev nD : Nat := 1
abbrev τ : Topo := Topo.v7x

variable {F : FTy → Type} [FloatOps F]

abbrev main_while0_count : Scf.Loop 32 := ⟨0#32, 2064#32, 1#32⟩

abbrev main_while1_count : Scf.Loop 32 := ⟨0#32, 2064#32, 1#32⟩
-- ==== Kernel2.lean ====
abbrev S2112x1024 : Shape := ⟨2, ![2112, 1024]⟩
abbrev S2112x5376 : Shape := ⟨2, ![2112, 5376]⟩
abbrev S1024x5376 : Shape := ⟨2, ![1024, 5376]⟩
abbrev S2112x256 : Shape := ⟨2, ![2112, 256]⟩
abbrev S1024x256 : Shape := ⟨2, ![1024, 256]⟩

abbrev nBuf : Space → Nat
  | .hbm => 7
  | .vmem => 8
  | .smem => 0
  | _ => 0

abbrev bufTy : (tb : Table) → Fin (tcTables nBuf tb) → BufTy
  | .hbm, ⟨0, _⟩ => ⟨S2112x1024, .f32⟩
  | .hbm, ⟨1, _⟩ => ⟨S2112x5376, .f32⟩
  | .hbm, ⟨2, _⟩ => ⟨S1024x5376, .f32⟩
  | .hbm, ⟨3, _⟩ => ⟨S2112x1024, .bf16⟩
  | .hbm, ⟨4, _⟩ => ⟨S1024x5376, .bf16⟩
  | .hbm, ⟨5, _⟩ => ⟨S2112x1024, .f32⟩
  | .hbm, ⟨6, _⟩ => ⟨S1024x5376, .bf16⟩
  | .local _ .vmem, ⟨0, _⟩ => ⟨S2112x1024, .bf16⟩
  | .local _ .vmem, ⟨1, _⟩ => ⟨S2112x256, .f32⟩
  | .local _ .vmem, ⟨2, _⟩ => ⟨S2112x256, .f32⟩
  | .local _ .vmem, ⟨3, _⟩ => ⟨S1024x256, .bf16⟩
  | .local _ .vmem, ⟨4, _⟩ => ⟨S1024x256, .bf16⟩
  | .local _ .vmem, ⟨5, _⟩ => ⟨S2112x1024, .f32⟩
  | .local _ .vmem, ⟨6, _⟩ => ⟨S1024x256, .bf16⟩
  | .local _ .vmem, ⟨7, _⟩ => ⟨S1024x256, .bf16⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![21], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_8 : BitVec 32 := 0#32
  let v12 : BitVec 1 := Scalar.cmpi .ne v11 c0_i32_8
  v12

def k0_cond2 (i : grid0.Coords) : BitVec 1 :=
  let arg0 : BitVec 32 := BitVec.ofNat 32 (i 0).val
  let c0_i32_9 : BitVec 32 := 0#32
  let v13 : BitVec 1 := Scalar.cmpi .sgt arg0 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2112x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2112x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2112x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2112x1024 : Shape := ⟨2, ![2112, 1024]⟩
abbrev S2112x5376 : Shape := ⟨2, ![2112, 5376]⟩
abbrev S1024x5376 : Shape := ⟨2, ![1024, 5376]⟩
abbrev S5376x1024 : Shape := ⟨2, ![5376, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2112x5376, .f32⟩
  | .hbm, ⟨2, _⟩ => ⟨S1024x5376, .f32⟩
  | .hbm, ⟨3, _⟩ => ⟨S2112x5376, .f32⟩
  | .hbm, ⟨4, _⟩ => ⟨S5376x1024, .f32⟩
  | .hbm, ⟨5, _⟩ => ⟨S1024x5376, .f32⟩
  | .hbm, ⟨6, _⟩ => ⟨S2112x1024, .f32⟩
  | .hbm, ⟨7, _⟩ => ⟨S1024x5376, .bf16⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S2112x512 : Shape := ⟨2, ![2112, 512]⟩
abbrev S2048x1024 : Shape := ⟨2, ![2048, 1024]⟩
abbrev S2112x1024 : Shape := ⟨2, ![2112, 1024]⟩
abbrev S1x2048x1024 : Shape := ⟨3, ![1, 2048, 1024]⟩
abbrev S192x512 : Shape := ⟨2, ![192, 512]⟩
abbrev S192x1024 : Shape := ⟨2, ![192, 1024]⟩
abbrev S512x1024 : Shape := ⟨2, ![512, 1024]⟩
abbrev S1536x1024 : Shape := ⟨2, ![1536, 1024]⟩
abbrev S1024x1024 : Shape := ⟨2, ![1024, 1024]⟩

abbrev nBuf : Space → Nat
  | .hbm => 12
  | .vmem => 20
  | .smem => 0
  | _ => 0

abbrev bufTy : (tb : Table) → Fin (tcTables nBuf tb) → BufTy
  | .hbm, ⟨0, _⟩ => ⟨S2112x512, .f32⟩
  | .hbm, ⟨1, _⟩ => ⟨S2112x512, .f32⟩
  | .hbm, ⟨2, _⟩ => ⟨S2112x512, .f32⟩
  | .hbm, ⟨3, _⟩ => ⟨S2112x512, .f32⟩
  | .hbm, ⟨4, _⟩ => ⟨S2048x1024, .f32⟩
  | .hbm, ⟨5, _⟩ => ⟨S2112x1024, .f32⟩
  | .hbm, ⟨6, _⟩ => ⟨S2048x1024, .bf16⟩
  | .hbm, ⟨7, _⟩ => ⟨S2112x512, .f32⟩
  | .hbm, ⟨8, _⟩ => ⟨S2112x512, .f32⟩
  | .hbm, ⟨9, _⟩ => ⟨S2112x512, .f32⟩
  | .hbm, ⟨10, _⟩ => ⟨S2112x512, .f32⟩
  | .hbm, ⟨11, _⟩ => ⟨S1x2048x1024, .f32⟩
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S192x512, .f32⟩
  | .local _ .vmem, ⟨7, _⟩ => ⟨S192x512, .f32⟩
  | .local _ .vmem, ⟨8, _⟩ => ⟨S192x1024, .f32⟩
  | .local _ .vmem, ⟨9, _⟩ => ⟨S192x1024, .f32⟩
  | .local _ .vmem, ⟨10, _⟩ => ⟨S2048x1024, .bf16⟩
  | .local _ .vmem, ⟨11, _⟩ => ⟨S192x512, .f32⟩
  | .local _ .vmem, ⟨12, _⟩ => ⟨S192x512, .f32⟩
  | .local _ .vmem, ⟨13, _⟩ => ⟨S192x512, .f32⟩
  | .local _ .vmem, ⟨14, _⟩ => ⟨S192x512, .f32⟩
  | .local _ .vmem, ⟨15, _⟩ => ⟨S192x512, .f32⟩
  | .local _ .vmem, ⟨16, _⟩ => ⟨S192x512, .f32⟩
  | .local _ .vmem, ⟨17, _⟩ => ⟨S192x512, .f32⟩
  | .local _ .vmem, ⟨18, _⟩ => ⟨S192x512, .f32⟩
  | .local _ .vmem, ⟨19, _⟩ => ⟨S1x2048x1024, .f32⟩
  | _, _ => ⟨S2112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S192x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S192x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S192x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== Reference3Ideal.lean ====
abbrev S2112x512 : Shape := ⟨2, ![2112, 512]⟩
abbrev S2048x1024 : Shape := ⟨2, ![2048, 1024]⟩
abbrev S2112x1024 : Shape := ⟨2, ![2112, 1024]⟩
abbrev S2112x2048 : Shape := ⟨2, ![2112, 2048]⟩
abbrev S1024x2048 : Shape := ⟨2, ![1024, 2048]⟩
abbrev S1x2048x1024 : Shape := ⟨3, ![1, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2112x512, .f32⟩
  | .hbm, ⟨1, _⟩ => ⟨S2112x512, .f32⟩
  | .hbm, ⟨2, _⟩ => ⟨S2112x512, .f32⟩
  | .hbm, ⟨3, _⟩ => ⟨S2112x512, .f32⟩
  | .hbm, ⟨4, _⟩ => ⟨S2048x1024, .f32⟩
  | .hbm, ⟨5, _⟩ => ⟨S2112x1024, .f32⟩
  | .hbm, ⟨6, _⟩ => ⟨S2112x2048, .f32⟩
  | .hbm, ⟨7, _⟩ => ⟨S2112x1024, .f32⟩
  | .hbm, ⟨8, _⟩ => ⟨S1024x2048, .f32⟩
  | .hbm, ⟨9, _⟩ => ⟨S2048x1024, .f32⟩
  | .hbm, ⟨10, _⟩ => ⟨S2112x2048, .f32⟩
  | .hbm, ⟨11, _⟩ => ⟨S2112x512, .f32⟩
  | .hbm, ⟨12, _⟩ => ⟨S2112x512, .f32⟩
  | .hbm, ⟨13, _⟩ => ⟨S2112x512, .f32⟩
  | .hbm, ⟨14, _⟩ => ⟨S2112x512, .f32⟩
  | .hbm, ⟨15, _⟩ => ⟨S1x2048x1024, .f32⟩
  | _, _ => ⟨S2112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel4.lean ====
abbrev S2112x1024 : Shape := ⟨2, ![2112, 1024]⟩
abbrev S1024x2816 : Shape := ⟨2, ![1024, 2816]⟩
abbrev S2816x1024 : Shape := ⟨2, ![2816, 1024]⟩
abbrev S1056x1024 : Shape := ⟨2, ![1056, 1024]⟩
abbrev S1024x256 : Shape := ⟨2, ![1024, 256]⟩
abbrev S256x1024 : Shape := ⟨2, ![256, 1024]⟩
abbrev S1056x256 : Shape := ⟨2, ![1056, 256]⟩

abbrev nBuf : Space → Nat
  | .hbm => 10
  | .vmem => 13
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2112x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S2112x1024, .f32⟩
  | .local _ .vmem, ⟨0, _⟩ => ⟨S1056x1024, .f32⟩
  | .local _ .vmem, ⟨1, _⟩ => ⟨S1056x1024, .f32⟩
  | .local _ .vmem, ⟨2, _⟩ => ⟨S1056x1024, .bf16⟩
  | .local _ .vmem, ⟨3, _⟩ => ⟨S1056x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1056x1024, .f32⟩
  | .local _ .vmem, ⟨11, _⟩ => ⟨S1056x1024, .f32⟩
  | .local _ .vmem, ⟨12, _⟩ => ⟨S1056x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1056x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S2112x1024 : Shape := ⟨2, ![2112, 1024]⟩
abbrev S1024x2816 : Shape := ⟨2, ![1024, 2816]⟩
abbrev S2816x1024 : Shape := ⟨2, ![2816, 1024]⟩
abbrev S2112x2816 : Shape := ⟨2, ![2112, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2112x2816, .f32⟩
  | .hbm, ⟨6, _⟩ => ⟨S2112x2816, .f32⟩
  | .hbm, ⟨7, _⟩ => ⟨S2112x2816, .f32⟩
  | .hbm, ⟨8, _⟩ => ⟨S_, .f32⟩
  | .hbm, ⟨9, _⟩ => ⟨S2112x2816, .f32⟩
  | .hbm, ⟨10, _⟩ => ⟨S2112x2816, .f32⟩
  | .hbm, ⟨11, _⟩ => ⟨S_, .f32⟩
  | .hbm, ⟨12, _⟩ => ⟨S2112x2816, .f32⟩
  | .hbm, ⟨13, _⟩ => ⟨S2112x2816, .f32⟩
  | .hbm, ⟨14, _⟩ => ⟨S2112x2816, .f32⟩
  | .hbm, ⟨15, _⟩ => ⟨S2112x2816, .f32⟩
  | .hbm, ⟨16, _⟩ => ⟨S2112x2816, .f32⟩
  | .hbm, ⟨17, _⟩ => ⟨S2112x1024, .f32⟩
  | .hbm, ⟨18, _⟩ => ⟨S_, .f32⟩
  | .hbm, ⟨19, _⟩ => ⟨S2112x1024, .f32⟩
  | .hbm, ⟨20, _⟩ => ⟨S2112x1024, .f32⟩
  | .hbm, ⟨21, _⟩ => ⟨S2112x1024, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [FloatOps F]
-- ==== Kernel5.lean ====
abbrev S2112x1024 : Shape := ⟨2, ![2112, 1024]⟩
abbrev S1024x5376 : Shape := ⟨2, ![1024, 5376]⟩
abbrev S2112x5376 : Shape := ⟨2, ![2112, 5376]⟩
abbrev S1024x256 : Shape := ⟨2, ![1024, 256]⟩
abbrev S2112x256 : Shape := ⟨2, ![2112, 256]⟩

abbrev nBuf : Space → Nat
  | .hbm => 5
  | .vmem => 5
  | .smem => 0
  | _ => 0

abbrev bufTy : (tb : Table) → Fin (tcTables nBuf tb) → BufTy
  | .hbm, ⟨0, _⟩ => ⟨S2112x1024, .f32⟩
  | .hbm, ⟨1, _⟩ => ⟨S1024x5376, .f32⟩
  | .hbm, ⟨2, _⟩ => ⟨S2112x1024, .bf16⟩
  | .hbm, ⟨3, _⟩ => ⟨S1024x5376, .bf16⟩
  | .hbm, ⟨4, _⟩ => ⟨S2112x5376, .f32⟩
  | .local _ .vmem, ⟨0, _⟩ => ⟨S2112x1024, .bf16⟩
  | .local _ .vmem, ⟨1, _⟩ => ⟨S1024x256, .bf16⟩
  | .local _ .vmem, ⟨2, _⟩ => ⟨S1024x256, .bf16⟩
  | .local _ .vmem, ⟨3, _⟩ => ⟨S2112x256, .f32⟩
  | .local _ .vmem, ⟨4, _⟩ => ⟨S2112x256, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2112x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2112x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2112x1024 : Shape := ⟨2, ![2112, 1024]⟩
abbrev S1024x5376 : Shape := ⟨2, ![1024, 5376]⟩
abbrev S2112x5376 : Shape := ⟨2, ![2112, 5376]⟩

abbrev nBuf : Space → Nat
  | .hbm => 3
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S1024x5376, .f32⟩
  | .hbm, ⟨2, _⟩ => ⟨S2112x5376, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S2112x1024 : Shape := ⟨2, ![2112, 1024]⟩
abbrev S2112x512 : Shape := ⟨2, ![2112, 512]⟩
abbrev S2048x1024 : Shape := ⟨2, ![2048, 1024]⟩
abbrev S192x1024 : Shape := ⟨2, ![192, 1024]⟩
abbrev S192x512 : Shape := ⟨2, ![192, 512]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S2112x1024, .f32⟩
  | .hbm, ⟨1, _⟩ => ⟨S2112x512, .f32⟩
  | .hbm, ⟨2, _⟩ => ⟨S2112x512, .f32⟩
  | .hbm, ⟨3, _⟩ => ⟨S2112x512, .f32⟩
  | .hbm, ⟨4, _⟩ => ⟨S2112x512, .f32⟩
  | .hbm, ⟨5, _⟩ => ⟨S2048x1024, .f32⟩
  | .hbm, ⟨6, _⟩ => ⟨S2048x1024, .bf16⟩
  | .hbm, ⟨7, _⟩ => ⟨S2112x1024, .f32⟩
  | .local _ .vmem, ⟨0, _⟩ => ⟨S192x1024, .f32⟩
  | .local _ .vmem, ⟨1, _⟩ => ⟨S192x1024, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S192x512, .f32⟩
  | .local _ .vmem, ⟨7, _⟩ => ⟨S192x512, .f32⟩
  | .local _ .vmem, ⟨8, _⟩ => ⟨S192x512, .f32⟩
  | .local _ .vmem, ⟨9, _⟩ => ⟨S192x512, .f32⟩
  | .local _ .vmem, ⟨10, _⟩ => ⟨S2048x1024, .bf16⟩
  | .local _ .vmem, ⟨11, _⟩ => ⟨S192x1024, .f32⟩
  | .local _ .vmem, ⟨12, _⟩ => ⟨S192x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference6Ideal.lean ====
abbrev S2112x1024 : Shape := ⟨2, ![2112, 1024]⟩
abbrev S2112x512 : Shape := ⟨2, ![2112, 512]⟩
abbrev S2048x1024 : Shape := ⟨2, ![2048, 1024]⟩
abbrev S2112x2048 : Shape := ⟨2, ![2112, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2112x512, .f32⟩
  | .hbm, ⟨2, _⟩ => ⟨S2112x512, .f32⟩
  | .hbm, ⟨3, _⟩ => ⟨S2112x512, .f32⟩
  | .hbm, ⟨4, _⟩ => ⟨S2112x512, .f32⟩
  | .hbm, ⟨5, _⟩ => ⟨S2048x1024, .f32⟩
  | .hbm, ⟨6, _⟩ => ⟨S2112x2048, .f32⟩
  | .hbm, ⟨7, _⟩ => ⟨S2112x1024, .f32⟩
  | .hbm, ⟨8, _⟩ => ⟨S2112x1024, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Kernel7.lean ====
abbrev S2112x1024 : Shape := ⟨2, ![2112, 1024]⟩
abbrev S1024x2816 : Shape := ⟨2, ![1024, 2816]⟩
abbrev S2816x1024 : Shape := ⟨2, ![2816, 1024]⟩
abbrev S1056x1024 : Shape := ⟨2, ![1056, 1024]⟩
abbrev S1024x256 : Shape := ⟨2, ![1024, 256]⟩
abbrev S256x1024 : Shape := ⟨2, ![256, 1024]⟩
abbrev S1056x256 : Shape := ⟨2, ![1056, 256]⟩

abbrev nBuf : Space → Nat
  | .hbm => 13
  | .vmem => 19
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2112x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S2112x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .local _ .vmem, ⟨0, _⟩ => ⟨S2112x1024, .bf16⟩
  | .local _ .vmem, ⟨1, _⟩ => ⟨S1056x1024, .f32⟩
  | .local _ .vmem, ⟨2, _⟩ => ⟨S1056x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S2112x1024, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S256x1024, .bf16⟩
  | .local _ .vmem, ⟨16, _⟩ => ⟨S1024x256, .f32⟩
  | .local _ .vmem, ⟨17, _⟩ => ⟨S1024x256, .f32⟩
  | .local _ .vmem, ⟨18, _⟩ => ⟨S256x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![11, 2], ![false, false]⟩

def k0_mult1 (i : grid0.Coords) : BitVec 32 :=
  let arg1 : BitVec 32 := BitVec.ofNat 32 (i 1).val
  let c1056_i32 : BitVec 32 := 1056#32
  let v0 : BitVec 32 := Scalar.muli arg1 c1056_i32
  v0
def k0_off1 (i : grid0.Coords) : Fin 2 → Nat :=
  let arg1 : BitVec 32 := BitVec.ofNat 32 (i 1).val
  let c1056_i32 : BitVec 32 := 1056#32
  let v0 : BitVec 32 := Scalar.muli arg1 c1056_i32
  let v1 : BitVec 32 := v0
  let v2 : Index := Scalar.indexCast v1
  let c0 : Index := 0#32
  ![v2.toNat, 0]
def k0_cond4 (i : grid0.Coords) : BitVec 1 :=
  let arg0 : BitVec 32 := BitVec.ofNat 32 (i 0).val
  let c0_i32_22 : BitVec 32 := 0#32
  let v48 : BitVec 1 := Scalar.cmpi .eq arg0 c0_i32_22
  let v49 : BitVec 32 := Scalar.extui v48
  let c0_i32_23 : BitVec 32 := 0#32
  let v50 : BitVec 1 := Scalar.cmpi .ne v49 c0_i32_23
  v50

def k0_off2 (i : grid0.Coords) : Fin 2 → Nat :=
  let arg1 : BitVec 32 := BitVec.ofNat 32 (i 1).val
  let c1056_i32 : BitVec 32 := 1056#32
  let v0 : BitVec 32 := Scalar.muli arg1 c1056_i32
  let v1 : BitVec 32 := v0
  let v54 : Index := Scalar.indexCast v1
  let c0_26 : Index := 0#32
  ![v54.toNat, 0]
def k0_cond5 (i : grid0.Coords) : BitVec 1 :=
  let arg0 : BitVec 32 := BitVec.ofNat 32 (i 0).val
  let c0_i32_24 : BitVec 32 := 0#32
  let v51 : BitVec 1 := Scalar.cmpi .sgt arg0 c0_i32_24
  let v52 : BitVec 32 := Scalar.extui v51
  let c0_i32_25 : BitVec 32 := 0#32
  let v53 : BitVec 1 := Scalar.cmpi .ne v52 c0_i32_25
  v53

def k0_off3 (i : grid0.Coords) : Fin 2 → Nat :=
  let arg1 : BitVec 32 := BitVec.ofNat 32 (i 1).val
  let c1056_i32 : BitVec 32 := 1056#32
  let v0 : BitVec 32 := Scalar.muli arg1 c1056_i32
  let v1 : BitVec 32 := v0
  let v54 : Index := Scalar.indexCast v1
  let c0_26 : Index := 0#32
  ![v54.toNat, 0]
def k0_cond3 (i : grid0.Coords) : BitVec 1 :=
  let arg1 : BitVec 32 := BitVec.ofNat 32 (i 1).val
  let c1_i32 : BitVec 32 := 1#32
  let v45 : BitVec 1 := Scalar.cmpi .eq arg1 c1_i32
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2112x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2112x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S2112x1024 : Shape := ⟨2, ![2112, 1024]⟩
abbrev S1024x2816 : Shape := ⟨2, ![1024, 2816]⟩
abbrev S2816x1024 : Shape := ⟨2, ![2816, 1024]⟩
abbrev S2112x2816 : Shape := ⟨2, ![2112, 2816]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2112x2816, .f32⟩
  | .hbm, ⟨6, _⟩ => ⟨S2112x2816, .f32⟩
  | .hbm, ⟨7, _⟩ => ⟨S2112x2816, .f32⟩
  | .hbm, ⟨8, _⟩ => ⟨S_, .f32⟩
  | .hbm, ⟨9, _⟩ => ⟨S2112x2816, .f32⟩
  | .hbm, ⟨10, _⟩ => ⟨S2112x2816, .f32⟩
  | .hbm, ⟨11, _⟩ => ⟨S_, .f32⟩
  | .hbm, ⟨12, _⟩ => ⟨S2112x2816, .f32⟩
  | .hbm, ⟨13, _⟩ => ⟨S2112x2816, .f32⟩
  | .hbm, ⟨14, _⟩ => ⟨S_, .f32⟩
  | .hbm, ⟨15, _⟩ => ⟨S2112x2816, .f32⟩
  | .hbm, ⟨16, _⟩ => ⟨S2112x2816, .f32⟩
  | .hbm, ⟨17, _⟩ => ⟨S2112x2816, .f32⟩
  | .hbm, ⟨18, _⟩ => ⟨S2112x2816, .f32⟩
  | .hbm, ⟨19, _⟩ => ⟨S2112x2816, .f32⟩
  | .hbm, ⟨20, _⟩ => ⟨S2112x2816, .f32⟩
  | .hbm, ⟨21, _⟩ => ⟨S2112x1024, .f32⟩
  | .hbm, ⟨22, _⟩ => ⟨S_, .f32⟩
  | .hbm, ⟨23, _⟩ => ⟨S2112x1024, .f32⟩
  | .hbm, ⟨24, _⟩ => ⟨S2112x1024, .f32⟩
  | .hbm, ⟨25, _⟩ => ⟨S_, .f32⟩
  | .hbm, ⟨26, _⟩ => ⟨S2112x1024, .f32⟩
  | .hbm, ⟨27, _⟩ => ⟨S2112x1024, .f32⟩
  | .hbm, ⟨28, _⟩ => ⟨S1024x2816, .f32⟩
  | .hbm, ⟨29, _⟩ => ⟨S2816x1024, .f32⟩
  | .hbm, ⟨30, _⟩ => ⟨S2112x2816, .f32⟩
  | .hbm, ⟨31, _⟩ => ⟨S2112x2816, .f32⟩
  | .hbm, ⟨32, _⟩ => ⟨S2112x2816, .f32⟩
  | .hbm, ⟨33, _⟩ => ⟨S2816x1024, .f32⟩
  | .hbm, ⟨34, _⟩ => ⟨S1024x2816, .f32⟩
  | .hbm, ⟨35, _⟩ => ⟨S2112x1024, .f32⟩
  | .hbm, ⟨36, _⟩ => ⟨S2112x2816, .f32⟩
  | .hbm, ⟨37, _⟩ => ⟨S2112x2816, .f32⟩
  | .hbm, ⟨38, _⟩ => ⟨S2112x2816, .f32⟩
  | .hbm, ⟨39, _⟩ => ⟨S2112x2816, .f32⟩
  | .hbm, ⟨40, _⟩ => ⟨S2816x1024, .f32⟩
  | .hbm, ⟨41, _⟩ => ⟨S1024x2816, .f32⟩
  | .hbm, ⟨42, _⟩ => ⟨S2112x1024, .f32⟩
  | .hbm, ⟨43, _⟩ => ⟨S2112x1024, .f32⟩
  | .hbm, ⟨44, _⟩ => ⟨S1024x2816, .bf16⟩
  | .hbm, ⟨45, _⟩ => ⟨S1024x2816, .bf16⟩
  | .hbm, ⟨46, _⟩ => ⟨S2816x1024, .bf16⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Kernel8.lean ====
abbrev S2112x1024 : Shape := ⟨2, ![2112, 1024]⟩
abbrev S1024 : Shape := ⟨1, ![1024]⟩
abbrev S1x1024 : Shape := ⟨2, ![1, 1024]⟩
abbrev S1x1x1024 : Shape := ⟨3, ![1, 1, 1024]⟩
abbrev S1056x1024 : Shape := ⟨2, ![1056, 1024]⟩
abbrev S1056 : Shape := ⟨1, ![1056]⟩
abbrev S1056x1 : Shape := ⟨2, ![1056, 1]⟩

abbrev nBuf : Space → Nat
  | .hbm => 7
  | .vmem => 10
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S2112x1024, .f32⟩
  | .hbm, ⟨3, _⟩ => ⟨S1024, .f32⟩
  | .hbm, ⟨4, _⟩ => ⟨S1x1024, .f32⟩
  | .hbm, ⟨5, _⟩ => ⟨S2112x1024, .f32⟩
  | .hbm, ⟨6, _⟩ => ⟨S1x1x1024, .f32⟩
  | .local _ .vmem, ⟨0, _⟩ => ⟨S1056x1024, .f32⟩
  | .local _ .vmem, ⟨1, _⟩ => ⟨S1056x1024, .f32⟩
  | .local _ .vmem, ⟨2, _⟩ => ⟨S1056x1024, .f32⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | .local _ .vmem, ⟨6, _⟩ => ⟨S1x1024, .f32⟩
  | .local _ .vmem, ⟨7, _⟩ => ⟨S1056x1024, .f32⟩
  | .local _ .vmem, ⟨8, _⟩ => ⟨S1056x1024, .f32⟩
  | .local _ .vmem, ⟨9, _⟩ => ⟨S1x1x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference8Ideal.lean ====
abbrev S2112x1024 : Shape := ⟨2, ![2112, 1024]⟩
abbrev S1024 : Shape := ⟨1, ![1024]⟩
abbrev S_ : Shape := ⟨0, ![]⟩
abbrev S2112 : Shape := ⟨1, ![2112]⟩
abbrev S2112x1 : Shape := ⟨2, ![2112, 1]⟩
abbrev S1x1024 : Shape := ⟨2, ![1, 1024]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S2112x1024, .f32⟩
  | .hbm, ⟨3, _⟩ => ⟨S1024, .f32⟩
  | .hbm, ⟨4, _⟩ => ⟨S2112x1024, .f32⟩
  | .hbm, ⟨5, _⟩ => ⟨S_, .f32⟩
  | .hbm, ⟨6, _⟩ => ⟨S2112, .f32⟩
  | .hbm, ⟨7, _⟩ => ⟨S2112x1, .f32⟩
  | .hbm, ⟨8, _⟩ => ⟨S_, .f32⟩
  | .hbm, ⟨9, _⟩ => ⟨S2112x1, .f32⟩
  | .hbm, ⟨10, _⟩ => ⟨S2112x1, .f32⟩
  | .hbm, ⟨11, _⟩ => ⟨S_, .f32⟩
  | .hbm, ⟨12, _⟩ => ⟨S2112x1, .f32⟩
  | .hbm, ⟨13, _⟩ => ⟨S2112x1, .f32⟩
  | .hbm, ⟨14, _⟩ => ⟨S2112x1, .f32⟩
  | .hbm, ⟨15, _⟩ => ⟨S2112x1, .f32⟩
  | .hbm, ⟨16, _⟩ => ⟨S_, .f32⟩
  | .hbm, ⟨17, _⟩ => ⟨S2112x1, .f32⟩
  | .hbm, ⟨18, _⟩ => ⟨S2112x1, .f32⟩
  | .hbm, ⟨19, _⟩ => ⟨S2112x1024, .f32⟩
  | .hbm, ⟨20, _⟩ => ⟨S2112x1024, .f32⟩
  | .hbm, ⟨21, _⟩ => ⟨S1x1024, .f32⟩
  | .hbm, ⟨22, _⟩ => ⟨S2112x1024, .f32⟩
  | .hbm, ⟨23, _⟩ => ⟨S2112x1024, .f32⟩
  | .hbm, ⟨24, _⟩ => ⟨S2112x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2112x1024, .f32⟩
  | .hbm, ⟨29, _⟩ => ⟨S2112x1024, .f32⟩
  | .hbm, ⟨30, _⟩ => ⟨S_, .f32⟩
  | .hbm, ⟨31, _⟩ => ⟨S1024, .f32⟩
  | .hbm, ⟨32, _⟩ => ⟨S2112x1024, .f32⟩
  | .hbm, ⟨33, _⟩ => ⟨S_, .f32⟩
  | .hbm, ⟨34, _⟩ => ⟨S2112, .f32⟩
  | .hbm, ⟨35, _⟩ => ⟨S2112x1, .f32⟩
  | .hbm, ⟨36, _⟩ => ⟨S2112x1024, .f32⟩
  | .hbm, ⟨37, _⟩ => ⟨S2112x1024, .f32⟩
  | .hbm, ⟨38, _⟩ => ⟨S2112x1, .f32⟩
  | .hbm, ⟨39, _⟩ => ⟨S_, .f32⟩
  | .hbm, ⟨40, _⟩ => ⟨S2112x1, .f32⟩
  | .hbm, ⟨41, _⟩ => ⟨S2112x1, .f32⟩
  | .hbm, ⟨42, _⟩ => ⟨S_, .f32⟩
  | .hbm, ⟨43, _⟩ => ⟨S2112, .f32⟩
  | .hbm, ⟨44, _⟩ => ⟨S2112x1024, .f32⟩
  | .hbm, ⟨45, _⟩ => ⟨S2112x1024, .f32⟩
  | .hbm, ⟨46, _⟩ => ⟨S2112x1024, .f32⟩
  | .hbm, ⟨47, _⟩ => ⟨S2112x1024, .f32⟩
  | .hbm, ⟨48, _⟩ => ⟨S2112x1024, .f32⟩
  | .hbm, ⟨49, _⟩ => ⟨S2112x1024, .f32⟩
  | .hbm, ⟨50, _⟩ => ⟨S1x1x1024, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel9.lean ====
abbrev S2112x1024 : Shape := ⟨2, ![2112, 1024]⟩
abbrev S1024 : Shape := ⟨1, ![1024]⟩
abbrev S1x1024 : Shape := ⟨2, ![1, 1024]⟩
abbrev S1056x1024 : Shape := ⟨2, ![1056, 1024]⟩
abbrev S1056 : Shape := ⟨1, ![1056]⟩
abbrev S1056x1 : Shape := ⟨2, ![1056, 1]⟩

abbrev nBuf : Space → Nat
  | .hbm => 4
  | .vmem => 5
  | .smem => 0
  | _ => 0

abbrev bufTy : (tb : Table) → Fin (tcTables nBuf tb) → BufTy
  | .hbm, ⟨0, _⟩ => ⟨S2112x1024, .f32⟩
  | .hbm, ⟨1, _⟩ => ⟨S1024, .f32⟩
  | .hbm, ⟨2, _⟩ => ⟨S1x1024, .f32⟩
  | .hbm, ⟨3, _⟩ => ⟨S2112x1024, .bf16⟩
  | .local _ .vmem, ⟨0, _⟩ => ⟨S1056x1024, .f32⟩
  | .local _ .vmem, ⟨1, _⟩ => ⟨S1056x1024, .f32⟩
  | .local _ .vmem, ⟨2, _⟩ => ⟨S1x1024, .f32⟩
  | .local _ .vmem, ⟨3, _⟩ => ⟨S1056x1024, .bf16⟩
  | .local _ .vmem, ⟨4, _⟩ => ⟨S1056x1024, .bf16⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference9Ideal.lean ====
abbrev S2112x1024 : Shape := ⟨2, ![2112, 1024]⟩
abbrev S1024 : Shape := ⟨1, ![1024]⟩
abbrev S_ : Shape := ⟨0, ![]⟩
abbrev S2112 : Shape := ⟨1, ![2112]⟩
abbrev S2112x1 : Shape := ⟨2, ![2112, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S1024, .f32⟩
  | .hbm, ⟨2, _⟩ => ⟨S2112x1024, .f32⟩
  | .hbm, ⟨3, _⟩ => ⟨S_, .f32⟩
  | .hbm, ⟨4, _⟩ => ⟨S2112, .f32⟩
  | .hbm, ⟨5, _⟩ => ⟨S2112x1, .f32⟩
  | .hbm, ⟨6, _⟩ => ⟨S_, .f32⟩
  | .hbm, ⟨7, _⟩ => ⟨S2112x1, .f32⟩
  | .hbm, ⟨8, _⟩ => ⟨S2112x1, .f32⟩
  | .hbm, ⟨9, _⟩ => ⟨S_, .f32⟩
  | .hbm, ⟨10, _⟩ => ⟨S2112x1, .f32⟩
  | .hbm, ⟨11, _⟩ => ⟨S2112x1, .f32⟩
  | .hbm, ⟨12, _⟩ => ⟨S2112x1, .f32⟩
  | .hbm, ⟨13, _⟩ => ⟨S2112x1024, .f32⟩
  | .hbm, ⟨14, _⟩ => ⟨S2112x1024, .f32⟩
  | .hbm, ⟨15, _⟩ => ⟨S1x1024, .f32⟩
  | .hbm, ⟨16, _⟩ => ⟨S2112x1024, .f32⟩
  | .hbm, ⟨17, _⟩ => ⟨S2112x1024, .f32⟩
  | .hbm, ⟨18, _⟩ => ⟨S2112x1024, .bf16⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S2112x1024 : Shape := ⟨2, ![2112, 1024]⟩
abbrev S2048x1024 : Shape := ⟨2, ![2048, 1024]⟩
abbrev S1024 : Shape := ⟨1, ![1024]⟩
abbrev S_ : Shape := ⟨0, ![]⟩
abbrev S64x1024 : Shape := ⟨2, ![64, 1024]⟩
abbrev S1x1024 : Shape := ⟨2, ![1, 1024]⟩
abbrev S1x1x128 : Shape := ⟨3, ![1, 1, 128]⟩
abbrev S1x1x1024 : Shape := ⟨3, ![1, 1, 1024]⟩
abbrev S1056x1024 : Shape := ⟨2, ![1056, 1024]⟩
abbrev S1x128 : Shape := ⟨2, ![1, 128]⟩
abbrev S1056x1 : Shape := ⟨2, ![1056, 1]⟩
abbrev S1056 : Shape := ⟨1, ![1056]⟩
abbrev S1 : Shape := ⟨1, ![1]⟩
abbrev S1x1 : Shape := ⟨2, ![1, 1]⟩
abbrev S1x1x1 : Shape := ⟨3, ![1, 1, 1]⟩

abbrev nBuf : Space → Nat
  | .hbm => 10
  | .vmem => 9
  | .smem => 0
  | _ => 0

abbrev bufTy : (tb : Table) → Fin (tcTables nBuf tb) → BufTy
  | .hbm, ⟨0, _⟩ => ⟨S2112x1024, .f32⟩
  | .hbm, ⟨1, _⟩ => ⟨S2048x1024, .f32⟩
  | .hbm, ⟨2, _⟩ => ⟨S1024, .f32⟩
  | .hbm, ⟨3, _⟩ => ⟨S_, .f32⟩
  | .hbm, ⟨4, _⟩ => ⟨S64x1024, .f32⟩
  | .hbm, ⟨5, _⟩ => ⟨S2112x1024, .f32⟩
  | .hbm, ⟨6, _⟩ => ⟨S1x1024, .f32⟩
  | .hbm, ⟨7, _⟩ => ⟨S2112x1024, .f32⟩
  | .hbm, ⟨8, _⟩ => ⟨S1x1x128, .f32⟩
  | .hbm, ⟨9, _⟩ => ⟨S1x1x1024, .f32⟩
  | .local _ .vmem, ⟨0, _⟩ => ⟨S1056x1024, .f32⟩
  | .local _ .vmem, ⟨1, _⟩ => ⟨S1056x1024, .f32⟩
  | .local _ .vmem, ⟨2, _⟩ => ⟨S1056x1024, .f32⟩
  | .local _ .vmem, ⟨3, _⟩ => ⟨S1056x1024, .f32⟩
  | .local _ .vmem, ⟨4, _⟩ => ⟨S1x1024, .f32⟩
  | .local _ .vmem, ⟨5, _⟩ => ⟨S1056x1024, .f32⟩
  | .local _ .vmem, ⟨6, _⟩ => ⟨S1056x1024, .f32⟩
  | .local _ .vmem, ⟨7, _⟩ => ⟨S1x1x128, .f32⟩
  | .local _ .vmem, ⟨8, _⟩ => ⟨S1x1x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference10Ideal.lean ====
abbrev S2112x1024 : Shape := ⟨2, ![2112, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S64x1024 : Shape := ⟨2, ![64, 1024]⟩
abbrev S1x1x128 : Shape := ⟨3, ![1, 1, 128]⟩
abbrev S1x1x1024 : Shape := ⟨3, ![1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S64x1024, .f32⟩
  | .hbm, ⟨74, _⟩ => ⟨S2112x1024, .f32⟩
  | .hbm, ⟨75, _⟩ => ⟨S1x1x128, .f32⟩
  | .hbm, ⟨76, _⟩ => ⟨S1x1x1024, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Real.lean ====
/- Vectors of the ideal instance that hold real numbers, given by functions of natural-number indices, and what each
vector operation does to them. -/
module

public import Idealize.ShloMosaic.Lib.Pointwise
public import Idealize.ShloMosaic.Init

@[expose] public section

set_option maxRecDepth 16384

noncomputable section

namespace Cert.Emb

open Idealize.ShloMosaic

/-- The scalar `x`. -/
def E0 (x : ℝ) : (⟨0, ![]⟩ : Shape).Idx → EReal := fun _ => (x : EReal)
/-- The vector of the first `n` values of `f`. -/
def E1 (n : ℕ) (f : ℕ → ℝ) : (⟨1, ![n]⟩ : Shape).Idx → EReal := fun i => ((f (i 0).val : ℝ) : EReal)
/-- The `n` by `m` matrix of the values of `f`. -/
def E2 (n m : ℕ) (f : ℕ → ℕ → ℝ) : (⟨2, ![n, m]⟩ : Shape).Idx → EReal :=
  fun i => ((f (i 0).val (i 1).val : ℝ) : EReal)
/-- The rank 3 array of the values of `f`. -/
def E3 (n m k : ℕ) (f : ℕ → ℕ → ℕ → ℝ) : (⟨3, ![n, m, k]⟩ : Shape).Idx → EReal :=
  fun i => ((f (i 0).val (i 1).val (i 2).val : ℝ) : EReal)
/-- The rank 4 array of the values of `f`. -/
def E4 (n m k l : ℕ) (f : ℕ → ℕ → ℕ → ℕ → ℝ) : (⟨4, ![n, m, k, l]⟩ : Shape).Idx → EReal :=
  fun i => ((f (i 0).val (i 1).val (i 2).val (i 3).val : ℝ) : EReal)

section Congr
variable {n m k : ℕ}
/-- Two vectors agree when their values below `n` do. -/
theorem E1_congr {f g : ℕ → ℝ} (h : ∀ i < n, f i = g i) : E1 n f = E1 n g :=
  funext fun i => congrArg _ (h _ (i 0).isLt)
/-- Two matrices agree when their values in range do. -/
theorem E2_congr {f g : ℕ → ℕ → ℝ} (h : ∀ i < n, ∀ j < m, f i j = g i j) : E2 n m f = E2 n m g :=
  funext fun i => congrArg _ (h _ (i 0).isLt _ (i 1).isLt)
/-- Two rank 3 arrays agree when their values in range do. -/
theorem E3_congr {f g : ℕ → ℕ → ℕ → ℝ} (h : ∀ i < n, ∀ j < m, ∀ l < k, f i j l = g i j l) : E3 n m k f = E3 n m k g :=
  funext fun i => congrArg _ (h _ (i 0).isLt _ (i 1).isLt _ (i 2).isLt)
end Congr

/-- Sums of reals are sums of their images. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over `Fin n` of real values is the real sum over the range. -/
theorem coe_sum_fin (n : ℕ) (f : ℕ → ℝ) : (∑ i : Fin n, ((f i.val : ℝ) : EReal)) = ((∑ i ∈ Finset.range n, f i : ℝ) : EReal) := by
  rw [coe_sum, Finset.sum_range]

/-- The small constant added to the mean square. -/
def eps : ℝ := 8796093 / 8796093022208
/-- The cubic coefficient of the activation. -/
def cub : ℝ := 12003091 / 268435456
/-- The slope of the activation's argument. -/
def slo : ℝ := 13386282 / 16777216

section Lit
theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul]; norm_num
theorem lit_neg_eight : Ideal.ofBits .f32 0xC1000000#32 = ((-8 : ℝ) : EReal) := by
  simp [Ideal.ofBits, Ideal.ieee, -EReal.coe_mul]; norm_num
theorem lit_eps : Ideal.ofBits .f32 0x358637BD#32 = ((eps : ℝ) : EReal) := by
  simp [Ideal.ofBits, Ideal.ieee, -EReal.coe_mul, eps]; norm_num
theorem lit_cub : Ideal.ofBits .f32 0x3D372713#32 = ((cub : ℝ) : EReal) := by
  simp [Ideal.ofBits, Ideal.ieee, -EReal.coe_mul, cub]; norm_num
theorem lit_slo : Ideal.ofBits .f32 0x3F4C422A#32 = ((slo : ℝ) : EReal) := by
  simp [Ideal.ofBits, Ideal.ieee, -EReal.coe_mul, slo]; norm_num
theorem lit_top : Ideal.ofBits .f32 0x7F800000#32 = ⊤ := by simp [Ideal.ofBits, Ideal.ieee]
end Lit

theorem eps_pos : 0 < eps := by unfold eps; norm_num

/-- A quotient of reals with a nonzero divisor. -/
theorem div_real (x y : ℝ) (h : y ≠ 0) : Ideal.div (x : EReal) (y : EReal) = ((x / y : ℝ) : EReal) := by
  rw [Ideal.div_coe h, ← EReal.coe_mul, mul_one_div]

/-- The logarithm of `1 + x` for `-1 < x`. -/
theorem log1p_real (x : ℝ) (h : -1 < x) : Ideal.log1p (x : EReal) = ((Real.log (1 + x) : ℝ) : EReal) := by
  have e : (1 : EReal) + (x : EReal) = ((1 + x : ℝ) : EReal) := by rw [EReal.coe_add, EReal.coe_one]
  rw [Ideal.log1p, e, Ideal.log_coe, if_neg (by linarith)]

/-- The larger of two reals. -/
theorem max_real (x y : ℝ) : max (x : EReal) (y : EReal) = ((max x y : ℝ) : EReal) :=
  (EReal.coe_strictMono.monotone.map_max).symm

/-- The logistic function of a real. -/
def sig (x : ℝ) : ℝ := (1 + Real.exp (-x))⁻¹

/-- The softplus of a real. -/
def spl (x : ℝ) : ℝ := max x 0 + Real.log (1 + Real.exp (-|x|))

section Elementwise
variable {n m k : ℕ}

theorem addf_E2 (f g : ℕ → ℕ → ℝ) :
    addf (F := Ideal) (φ := .f32) (E2 n m f) (E2 n m g) = E2 n m (fun i j => f i j + g i j) :=
  funext fun _ => (EReal.coe_add _ _).symm
theorem subf_E2 (f g : ℕ → ℕ → ℝ) :
    subf (F := Ideal) (φ := .f32) (E2 n m f) (E2 n m g) = E2 n m (fun i j => f i j - g i j) :=
  funext fun _ => (EReal.coe_sub _ _).symm
theorem mulf_E2 (f g : ℕ → ℕ → ℝ) :
    mulf (F := Ideal) (φ := .f32) (E2 n m f) (E2 n m g) = E2 n m (fun i j => f i j * g i j) :=
  funext fun _ => (EReal.coe_mul _ _).symm
theorem addf_E1 (f g : ℕ → ℝ) :
    addf (F := Ideal) (φ := .f32) (E1 n f) (E1 n g) = E1 n (fun i => f i + g i) :=
  funext fun _ => (EReal.coe_add _ _).symm
theorem subf_E1 (f g : ℕ → ℝ) :
    subf (F := Ideal) (φ := .f32) (E1 n f) (E1 n g) = E1 n (fun i => f i - g i) :=
  funext fun _ => (EReal.coe_sub _ _).symm
theorem mulf_E1 (f g : ℕ → ℝ) :
    mulf (F := Ideal) (φ := .f32) (E1 n f) (E1 n g) = E1 n (fun i => f i * g i) :=
  funext fun _ => (EReal.coe_mul _ _).symm
theorem exp_E2 (f : ℕ → ℕ → ℝ) :
    exp (F := Ideal) (φ := .f32) (E2 n m f) = E2 n m (fun i j => Real.exp (f i j)) :=
  funext fun _ => Ideal.exp_coe _
theorem tanh_E2 (f : ℕ → ℕ → ℝ) :
    tanh (F := Ideal) (φ := .f32) (E2 n m f) = E2 n m (fun i j => Real.tanh (f i j)) :=
  funext fun _ => Ideal.tanh_coe _
theorem logistic_E2 (f : ℕ → ℕ → ℝ) :
    logistic (F := Ideal) (φ := .f32) (E2 n m f) = E2 n m (fun i j => sig (f i j)) :=
  funext fun _ => Ideal.logistic_coe _
theorem divf_E2 (f g : ℕ → ℕ → ℝ) (h : ∀ i < n, ∀ j < m, g i j ≠ 0) :
    divf (F := Ideal) (φ := .f32) (E2 n m f) (E2 n m g) = E2 n m (fun i j => f i j / g i j) :=
  funext fun i => div_real _ _ (h _ (i 0).isLt _ (i 1).isLt)
theorem sqrt_E2 (f : ℕ → ℕ → ℝ) (h : ∀ i < n, ∀ j < m, 0 ≤ f i j) :
    sqrt (F := Ideal) (φ := .f32) (E2 n m f) = E2 n m (fun i j => Real.sqrt (f i j)) :=
  funext fun i => (Ideal.sqrt_coe _).trans (if_neg (not_lt.2 (h _ (i 0).isLt _ (i 1).isLt)))
theorem rsqrt_E2 (f : ℕ → ℕ → ℝ) (h : ∀ i < n, ∀ j < m, 0 < f i j) :
    rsqrt (F := Ideal) (φ := .f32) (E2 n m f) = E2 n m (fun i j => (Real.sqrt (f i j))⁻¹) :=
  funext fun i => (Ideal.rsqrt_coe _).trans ((if_neg (h _ (i 0).isLt _ (i 1).isLt).not_gt).trans
    (if_neg (h _ (i 0).isLt _ (i 1).isLt).ne'))
theorem truncf_E2 (f : ℕ → ℕ → ℝ) (h : FTy.bf16.bits < FTy.f32.bits) :
    truncf (F := Ideal) (φ := .f32) .bf16 (E2 n m f) h = E2 n m f := rfl
theorem broadcast_E2 (x : ℝ) : broadcast (⟨2, ![n, m]⟩ : Shape) ((x : ℝ) : EReal) = E2 n m (fun _ _ => x) := rfl
theorem broadcast_lit (w : BitVec 32) (s : Shape) :
    broadcast s (Scalar.ofBits (F := Ideal) .f32 w) = broadcast s (Ideal.ofBits .f32 w) := rfl
theorem constant_lit (w : BitVec 32) (s : Shape) :
    constant (F := Ideal) s .f32 w = broadcast s (Ideal.ofBits .f32 w) := rfl
theorem matmul_ideal {sl sr so : Shape} (d : DotDims sl sr so) (φ ψ : FTy) (x : FVec Ideal sl φ) (y : FVec Ideal sr ψ)
    (z : FVec Ideal so .f32) : matmul (F := Ideal) d none x y z = Ideal.matmul d x y z := rfl

theorem softplus_real (x : ℝ) :
    max (x : EReal) ((0 : ℝ) : EReal) + Ideal.log1p (Ideal.exp (((0 : ℝ) : EReal)
      - max ((x : EReal) - ((0 : ℝ) : EReal)) (-((x : EReal) - ((0 : ℝ) : EReal))))) = ((spl x : ℝ) : EReal) := by
  rw [← EReal.coe_sub, ← EReal.coe_neg, max_real, max_real, ← EReal.coe_sub, Ideal.exp_coe, log1p_real _ (by
    linarith [Real.exp_pos (0 - max (x - 0) (-(x - 0)))]), ← EReal.coe_add, sub_zero, zero_sub]
  rfl

theorem softplus_E2 (f : ℕ → ℕ → ℝ) :
    select (cmpf (F := Ideal) (φ := .f32) .one (subf (F := Ideal) (φ := .f32) (E2 n m f) (E2 n m fun _ _ => 0))
        (subf (F := Ideal) (φ := .f32) (E2 n m f) (E2 n m fun _ _ => 0)))
      (addf (F := Ideal) (φ := .f32) (E2 n m f) (E2 n m fun _ _ => 0))
      (addf (F := Ideal) (φ := .f32) (maximumf (F := Ideal) (φ := .f32) (E2 n m f) (E2 n m fun _ _ => 0))
        (log1p (F := Ideal) (φ := .f32) (exp (F := Ideal) (φ := .f32) (subf (F := Ideal) (φ := .f32) (E2 n m fun _ _ => 0)
          (absf (F := Ideal) (φ := .f32) (subf (F := Ideal) (φ := .f32) (E2 n m f) (E2 n m fun _ _ => 0)))))))
      = E2 n m (fun i j => spl (f i j)) := by
  funext i
  refine Eq.trans (b := _) (if_neg ?_) (softplus_real (f (i 0).val (i 1).val))
  show ¬ Ideal.cmp .one _ _ = 1
  simp [Ideal.cmp]
theorem top_E2 (f : ℕ → ℕ → ℝ) (g : (⟨2, ![n, m]⟩ : Shape).Idx → EReal) :
    select (cmpf (F := Ideal) (φ := .f32) .oeq (E2 n m f) (broadcast (⟨2, ![n, m]⟩ : Shape) (⊤ : EReal))) g (E2 n m f)
      = E2 n m f := by
  funext i
  refine (if_neg ?_ : (if Ideal.cmp .oeq (E2 n m f i) ⊤ = 1 then g i else E2 n m f i) = _)
  have h : E2 n m f i ≠ ⊤ := EReal.coe_ne_top _
  simp [Ideal.cmp, h]

end Elementwise

section Layout
variable {n m k l a : ℕ}

theorem bto_row (f : ℕ → ℕ → ℝ) (h : (⟨2, ![1, m]⟩ : Shape).Broadcasts ⟨2, ![n, m]⟩) :
    broadcastTo (⟨2, ![n, m]⟩ : Shape) (E2 1 m f) h = E2 n m (fun _ j => f 0 j) := by
  funext i
  rw [Pointwise.broadcastTo_apply]
  simp only [E2, Shape.Idx.norm_def]
  congr 2
  have hb := (i 1).isLt
  by_cases h1 : m = 1
  · subst h1; simp at hb ⊢; omega
  · rw [dif_neg (by simpa using h1)]; rfl
theorem bto_col (f : ℕ → ℕ → ℝ) (h : (⟨2, ![n, 1]⟩ : Shape).Broadcasts ⟨2, ![n, m]⟩) :
    broadcastTo (⟨2, ![n, m]⟩ : Shape) (E2 n 1 f) h = E2 n m (fun i _ => f i 0) := by
  funext i
  rw [Pointwise.broadcastTo_apply]
  simp only [E2, Shape.Idx.norm_def]
  congr 2
  have hb := (i 0).isLt
  by_cases h1 : n = 1
  · subst h1; simp at hb ⊢; omega
  · rw [dif_neg (by simpa using h1)]; rfl
theorem slice_E2 (f : ℕ → ℕ → ℝ) (o p : ℕ) (h : (⟨2, ![n, m]⟩ : Shape).Slices ![o, p] ⟨2, ![k, l]⟩) :
    extractStridedSlice (⟨2, ![k, l]⟩ : Shape) ![o, p] (E2 n m f) h = E2 k l (fun i j => f (i + o) (j + p)) := by
  funext i
  show ((f (o + (i 0).val) (p + (i 1).val) : ℝ) : EReal) = _
  rw [Nat.add_comm o, Nat.add_comm p]; rfl
theorem hslice_E2 (f : ℕ → ℕ → ℝ) (o p s t : ℕ) (h : (⟨2, ![n, m]⟩ : Shape).SlicesBy ![o, p] ![s, t] ⟨2, ![k, l]⟩) :
    Host.slice (⟨2, ![k, l]⟩ : Shape) ![o, p] ![s, t] (E2 n m f) h = E2 k l (fun i j => f (o + s * i) (p + t * j)) := rfl
theorem concat_E2 (f g : ℕ → ℕ → ℝ) (h : Shape.Concatenates [⟨2, ![n, m]⟩, ⟨2, ![k, m]⟩] ⟨2, ![l, m]⟩ 0) :
    concatenate (⟨2, ![l, m]⟩ : Shape) 0 [⟨⟨2, ![n, m]⟩, E2 n m f⟩, ⟨⟨2, ![k, m]⟩, E2 k m g⟩] h
      = E2 l m (fun i j => if i < n then f i j else g (i - n) j) := by
  funext i
  rw [concatenate_pair_apply]
  by_cases hi : (i 0).val < n
  · refine (dif_pos hi).trans (congrArg Real.toEReal ?_)
    exact (if_pos hi).symm
  · refine (dif_neg hi).trans (congrArg Real.toEReal ?_)
    exact (if_neg hi).symm
/-- Two arrays put one after the other along the first axis. -/
def cat2 {α : Type} (s s₁ s₂ : Shape) (d : Fin s.rank) (x : s₁.Idx → α) (y : s₂.Idx → α)
    (h : Shape.Concatenates [s₁, s₂] s d) : s.Idx → α := concatenate s d [⟨s₁, x⟩, ⟨s₂, y⟩] h
theorem cat2_eq {α : Type} (s s₁ s₂ : Shape) (d : Fin s.rank) (x : s₁.Idx → α) (y : s₂.Idx → α)
    (h : Shape.Concatenates [s₁, s₂] s d) : concatenate s d [⟨s₁, x⟩, ⟨s₂, y⟩] h = cat2 s s₁ s₂ d x y h := rfl
theorem cat2_E2 (f g : ℕ → ℕ → ℝ) (h : Shape.Concatenates [⟨2, ![n, m]⟩, ⟨2, ![k, m]⟩] ⟨2, ![l, m]⟩ 0) :
    cat2 (⟨2, ![l, m]⟩ : Shape) ⟨2, ![n, m]⟩ ⟨2, ![k, m]⟩ 0 (E2 n m f) (E2 k m g) h
      = E2 l m (fun i j => if i < n then f i j else g (i - n) j) := concat_E2 f g h
theorem transpose_E2 (f : ℕ → ℕ → ℝ) (h : (⟨2, ![n, m]⟩ : Shape).Transposes [1, 0] ⟨2, ![m, n]⟩) :
    transpose (⟨2, ![m, n]⟩ : Shape) [1, 0] (E2 n m f) h = E2 m n (fun i j => f j i) := by
  funext i
  rw [Pointwise.transpose_apply]
  simp only [E2, Shape.Idx.norm_def, Shape.Transposes.src_apply_val]
  rfl
theorem cast_1_row (f : ℕ → ℝ) (h : (⟨1, ![n]⟩ : Shape).ShapeCasts ⟨2, ![1, n]⟩) :
    shapeCast (⟨2, ![1, n]⟩ : Shape) (E1 n f) h = E2 1 n (fun _ j => f j) := by
  funext i
  have h0 : (i 0).val < 1 := (i 0).isLt
  rw [Pointwise.shapeCast_apply, Shape.reshapeEquiv_eq_of_vals h i (ix1 (i 1)) _ _ (rowMajor_val1 _)
    (rowMajor_val2 i n rfl) (by show (i 1).val = (i 0).val * n + (i 1).val; rw [Nat.lt_one_iff.1 h0]; omega)]
  rfl
theorem cast_1_col (f : ℕ → ℝ) (h : (⟨1, ![n]⟩ : Shape).ShapeCasts ⟨2, ![n, 1]⟩) :
    shapeCast (⟨2, ![n, 1]⟩ : Shape) (E1 n f) h = E2 n 1 (fun i _ => f i) := by
  funext i
  have h0 : (i 1).val < 1 := (i 1).isLt
  rw [Pointwise.shapeCast_apply, Shape.reshapeEquiv_eq_of_vals h i (ix1 (i 0)) _ _ (rowMajor_val1 _)
    (rowMajor_val2 i 1 rfl) (by show (i 0).val = (i 0).val * 1 + (i 1).val; omega)]
  rfl
theorem cast_row_1 (f : ℕ → ℕ → ℝ) (h : (⟨2, ![1, n]⟩ : Shape).ShapeCasts ⟨1, ![n]⟩) :
    shapeCast (⟨1, ![n]⟩ : Shape) (E2 1 n f) h = E1 n (fun i => f 0 i) := by
  funext i
  rw [Pointwise.shapeCast_apply, Shape.reshapeEquiv_eq_of_vals h i (ix2 0 (i 0)) _ _ (rowMajor_val2 _ n rfl)
    (rowMajor_val1 i) (by show 0 * n + (i 0).val = (i 0).val; omega)]
  rfl
theorem cast_2_3 (f : ℕ → ℕ → ℝ) (h : (⟨2, ![n, m]⟩ : Shape).ShapeCasts ⟨3, ![1, n, m]⟩) :
    shapeCast (⟨3, ![1, n, m]⟩ : Shape) (E2 n m f) h = E3 1 n m (fun _ i j => f i j) := by
  funext i
  have h0 : (i 0).val < 1 := (i 0).isLt
  rw [Pointwise.shapeCast_apply, Shape.reshapeEquiv_eq_of_vals h i (ix2 (i 1) (i 2)) _ _ (rowMajor_val2 _ m rfl)
    (rowMajor_val3 i (n * m) m rfl rfl) (by
      show (i 1).val * m + (i 2).val = (i 0).val * (n * m) + (i 1).val * m + (i 2).val
      rw [Nat.lt_one_iff.1 h0]; omega)]
  rfl
theorem cast_3_2 (f : ℕ → ℕ → ℕ → ℝ) (h : (⟨3, ![1, n, m]⟩ : Shape).ShapeCasts ⟨2, ![n, m]⟩) :
    shapeCast (⟨2, ![n, m]⟩ : Shape) (E3 1 n m f) h = E2 n m (fun i j => f 0 i j) := by
  funext i
  rw [Pointwise.shapeCast_apply, Shape.reshapeEquiv_eq_of_vals h i (ix3 0 (i 0) (i 1)) _ _
    (rowMajor_val3 _ (n * m) m rfl rfl) (rowMajor_val2 i m rfl) (by
      show 0 * (n * m) + (i 0).val * m + (i 1).val = (i 0).val * m + (i 1).val
      omega)]
  rfl
theorem cast_4_2 (f : ℕ → ℕ → ℕ → ℕ → ℝ) (h : (⟨4, ![1, 1, n, m]⟩ : Shape).ShapeCasts ⟨2, ![n, m]⟩) :
    shapeCast (⟨2, ![n, m]⟩ : Shape) (E4 1 1 n m f) h = E2 n m (fun i j => f 0 0 i j) := by
  funext i
  rw [Pointwise.shapeCast_apply, Shape.reshapeEquiv_eq_of_vals h i (ix4 0 0 (i 0) (i 1)) _ _
    (rowMajor_val4 _ (1 * (n * m)) (n * m) m rfl rfl rfl) (rowMajor_val2 i m rfl) (by
      show 0 * (1 * (n * m)) + 0 * (n * m) + (i 0).val * m + (i 1).val = (i 0).val * m + (i 1).val
      omega)]
  rfl
theorem cast_same {s : Shape} (x : s.Idx → EReal) (h : s.ShapeCasts s) : shapeCast s x h = x := shapeCast_id x h
end Layout

section Sums
variable {n m k : ℕ}

theorem msum_0 (f : ℕ → ℕ → ℝ) (h : (⟨2, ![n, m]⟩ : Shape).Reduces [0] ⟨1, ![m]⟩) (w : BitVec FTy.f32.bits) (h2 h3) :
    multiReduction (F := Ideal) (φ := .f32) .add [0] (⟨1, ![m]⟩ : Shape) (E2 n m f) w h h2 h3
      = E1 m (fun j => ∑ i ∈ Finset.range n, f i j) := by
  funext j
  refine (Ideal.reduceAdd_r2_a0 h (E2 n m f) j).trans ?_
  exact coe_sum_fin n (fun i => f i (j 0).val)
theorem msum_1 (f : ℕ → ℕ → ℝ) (h : (⟨2, ![n, m]⟩ : Shape).Reduces [1] ⟨1, ![n]⟩) (w : BitVec FTy.f32.bits) (h2 h3) :
    multiReduction (F := Ideal) (φ := .f32) .add [1] (⟨1, ![n]⟩ : Shape) (E2 n m f) w h h2 h3
      = E1 n (fun i => ∑ j ∈ Finset.range m, f i j) := by
  funext j
  refine (Ideal.reduceAdd_r2_a1 h (E2 n m f) j).trans ?_
  exact coe_sum_fin m (fun i => f (j 0).val i)
theorem hsum_0 (f : ℕ → ℕ → ℝ) (h : (⟨2, ![n, m]⟩ : Shape).ReducesTo [0] ⟨1, ![m]⟩) (h2) :
    Host.reduceAdd (F := Ideal) (φ := .f32) (E2 n m f) (E0 0) h h2
      = E1 m (fun j => ∑ i ∈ Finset.range n, f i j) := by
  funext j
  refine (Ideal.hostReduceAdd_r2_a0 h (E2 n m f) _ j).trans ?_
  refine (congrArg _ (coe_sum_fin n (fun i => f i (j 0).val))).trans ((EReal.coe_add _ _).symm.trans (congrArg Real.toEReal (zero_add _)))
theorem hsum_1 (f : ℕ → ℕ → ℝ) (h : (⟨2, ![n, m]⟩ : Shape).ReducesTo [1] ⟨1, ![n]⟩) (h2) :
    Host.reduceAdd (F := Ideal) (φ := .f32) (E2 n m f) (E0 0) h h2
      = E1 n (fun i => ∑ j ∈ Finset.range m, f i j) := by
  funext j
  refine (Ideal.hostReduceAdd_r2_a1 h (E2 n m f) _ j).trans ?_
  refine (congrArg _ (coe_sum_fin m (fun i => f (j 0).val i))).trans ((EReal.coe_add _ _).symm.trans (congrArg Real.toEReal (zero_add _)))

/-- The product of two real matrices through dimension numbers that contract `K` places, read at every index. -/
theorem dot_real {sl sr so : Shape} (d : DotDims sl sr so) {a : Fin sl.rank} (hc : d.lhsContracting = [a]) {K : ℕ}
    (hK : sl.size a = K) (lhs : sl.Idx → EReal) (rhs : sr.Idx → EReal) (acc : so.Idx → EReal) (j : so.Idx)
    (x : ℝ) (f g : ℕ → ℝ) (hx : acc j = (x : EReal))
    (hl : ∀ k : Fin K, lhs (d.lhsIdx j (d.contrIdx₁ hc hK k)) = ((f k.val : ℝ) : EReal))
    (hr : ∀ k : Fin K, rhs (d.rhsIdx j (d.contrIdx₁ hc hK k)) = ((g k.val : ℝ) : EReal)) :
    Ideal.matmul d lhs rhs acc j = ((x + ∑ k ∈ Finset.range K, f k * g k : ℝ) : EReal) := by
  rw [Ideal.matmul_apply₁ d hc hK, hx, EReal.coe_add, ← coe_sum_fin K (fun k => f k * g k)]
  congr 1
  refine Finset.sum_congr rfl fun k _ => ?_
  rw [EReal.coe_mul, ← hl k, ← hr k]; rfl
theorem dot_10 (f g : ℕ → ℕ → ℝ) (wf) :
    Ideal.matmul (⟨[1], [0], [0], [1], [], [], wf⟩ : DotDims ⟨2, ![n, k]⟩ ⟨2, ![k, m]⟩ ⟨2, ![n, m]⟩) (E2 n k f) (E2 k m g)
      (E2 n m fun _ _ => 0) = E2 n m (fun i j => ∑ q ∈ Finset.range k, f i q * g q j) := by
  funext j
  refine (dot_real _ (a := 1) rfl (K := k) rfl _ _ _ j 0 (fun q => f (j 0).val q) (fun q => g q (j 1).val) rfl
    (fun q => ?_) (fun q => ?_)).trans (congrArg Real.toEReal (zero_add _))
  · simp only [E2, pointwise]
  · simp only [E2, pointwise]
theorem dot_11 (f g : ℕ → ℕ → ℝ) (wf) :
    Ideal.matmul (⟨[1], [1], [0], [0], [], [], wf⟩ : DotDims ⟨2, ![n, k]⟩ ⟨2, ![m, k]⟩ ⟨2, ![n, m]⟩) (E2 n k f) (E2 m k g)
      (E2 n m fun _ _ => 0) = E2 n m (fun i j => ∑ q ∈ Finset.range k, f i q * g j q) := by
  funext j
  refine (dot_real _ (a := 1) rfl (K := k) rfl _ _ _ j 0 (fun q => f (j 0).val q) (fun q => g (j 1).val q) rfl
    (fun q => ?_) (fun q => ?_)).trans (congrArg Real.toEReal (zero_add _))
  · simp only [E2, pointwise]
  · simp only [E2, pointwise]
theorem dot_00 (f g : ℕ → ℕ → ℝ) (wf) :
    Ideal.matmul (⟨[0], [0], [1], [1], [], [], wf⟩ : DotDims ⟨2, ![k, n]⟩ ⟨2, ![k, m]⟩ ⟨2, ![n, m]⟩) (E2 k n f) (E2 k m g)
      (E2 n m fun _ _ => 0) = E2 n m (fun i j => ∑ q ∈ Finset.range k, f q i * g q j) := by
  funext j
  refine (dot_real _ (a := 0) rfl (K := k) rfl _ _ _ j 0 (fun q => f q (j 0).val) (fun q => g q (j 1).val) rfl
    (fun q => ?_) (fun q => ?_)).trans (congrArg Real.toEReal (zero_add _))
  · simp only [E2, pointwise]
  · simp only [E2, pointwise]
end Sums

end Cert.Emb
-- ==== Proof.Host.lean ====
/- What the host's operations do to vectors of real numbers given by functions of natural-number indices. -/
module

public import proofs.«01_k».proof.Proof.Real

@[expose] public section

set_option maxRecDepth 16384

noncomputable section

namespace Cert.Emb

open Idealize.ShloMosaic

section Elementwise
variable {n m : ℕ}

theorem const_E0 {w : BitVec 32} {x : ℝ} (h : Ideal.ofBits .f32 w = (x : EReal)) :
    constant (F := Ideal) (⟨0, ![]⟩ : Shape) .f32 w = E0 x := funext fun _ => h
theorem hneg_E1 (f : ℕ → ℝ) : Host.negf (F := Ideal) (φ := .f32) (E1 n f) = E1 n (fun i => -f i) :=
  funext fun _ => (EReal.coe_neg _).symm
theorem hneg_E2 (f : ℕ → ℕ → ℝ) : Host.negf (F := Ideal) (φ := .f32) (E2 n m f) = E2 n m (fun i j => -f i j) :=
  funext fun _ => (EReal.coe_neg _).symm
theorem hexp_E2 (f : ℕ → ℕ → ℝ) :
    Host.exp (F := Ideal) (φ := .f32) (E2 n m f) = E2 n m (fun i j => Real.exp (f i j)) := funext fun _ => Ideal.exp_coe _
theorem hexpm1_E2 (f : ℕ → ℕ → ℝ) :
    Host.expm1 (F := Ideal) (φ := .f32) (E2 n m f) = E2 n m (fun i j => Real.exp (f i j) - 1) :=
  funext fun _ => (congrArg (· - 1) (Ideal.exp_coe _)).trans (EReal.coe_sub _ _).symm
theorem hsqrt_E2 (f : ℕ → ℕ → ℝ) (h : ∀ i < n, ∀ j < m, 0 ≤ f i j) :
    Host.sqrt (F := Ideal) (φ := .f32) (E2 n m f) = E2 n m (fun i j => Real.sqrt (f i j)) := sqrt_E2 f h
theorem hrsqrt_E2 (f : ℕ → ℕ → ℝ) (h : ∀ i < n, ∀ j < m, 0 < f i j) :
    Host.rsqrt (F := Ideal) (φ := .f32) (E2 n m f) = E2 n m (fun i j => (Real.sqrt (f i j))⁻¹) := rsqrt_E2 f h
theorem htanh_E2 (f : ℕ → ℕ → ℝ) :
    Host.tanh (F := Ideal) (φ := .f32) (E2 n m f) = E2 n m (fun i j => Real.tanh (f i j)) := tanh_E2 f
theorem hdiv_E2 (f g : ℕ → ℕ → ℝ) (h : ∀ i < n, ∀ j < m, g i j ≠ 0) :
    Host.divf (F := Ideal) (φ := .f32) (E2 n m f) (E2 n m g) = E2 n m (fun i j => f i j / g i j) := divf_E2 f g h
/-- The host's logistic quotient. -/
theorem hsig_E2 (f : ℕ → ℕ → ℝ) :
    Host.divf (F := Ideal) (φ := .f32) (E2 n m fun _ _ => 1) (E2 n m fun i j => 1 + Real.exp (-f i j))
      = E2 n m (fun i j => sig (f i j)) := by
  rw [hdiv_E2 _ _ fun i _ j _ => (by positivity)]
  simp only [sig, one_div]
/-- The host's softplus of a vector of reals: no element is a NaN, so the guarded branch is never taken. -/
theorem hsoft_E1 (f : ℕ → ℝ) :
    select (cmpf (F := Ideal) (φ := .f32) .une (subf (F := Ideal) (φ := .f32) (E1 n f) (E1 n fun _ => 0))
        (subf (F := Ideal) (φ := .f32) (E1 n f) (E1 n fun _ => 0)))
      (addf (F := Ideal) (φ := .f32) (E1 n f) (E1 n fun _ => 0))
      (addf (F := Ideal) (φ := .f32) (maximumf (F := Ideal) (φ := .f32) (E1 n f) (E1 n fun _ => 0))
        (Host.log1p (F := Ideal) (φ := .f32) (Host.exp (F := Ideal) (φ := .f32) (Host.negf (F := Ideal) (φ := .f32)
          (Host.absf (F := Ideal) (φ := .f32) (subf (F := Ideal) (φ := .f32) (E1 n f) (E1 n fun _ => 0)))))))
      = E1 n (fun i => spl (f i)) := by
  funext i
  refine (if_neg ?_ : (if Ideal.cmp .une (E1 n f i - (0 : ℝ)) (E1 n f i - (0 : ℝ)) = 1 then _ else _) = _).trans ?_
  · simp [Ideal.cmp]
  · refine Eq.trans ?_ (softplus_real (f (i 0).val))
    rw [EReal.coe_zero, zero_sub]
    rfl

end Elementwise

section Broadcasts
variable {n m k l : ℕ}

theorem bin_01 (x : ℝ) (h) : broadcastInDim (⟨1, ![n]⟩ : Shape) (no_index ![]) h (E0 x) = E1 n (fun _ => x) := rfl
theorem bin_02 (x : ℝ) (h) : broadcastInDim (⟨2, ![n, m]⟩ : Shape) (no_index ![]) h (E0 x) = E2 n m (fun _ _ => x) := rfl
theorem bin_03 (x : ℝ) (h) : broadcastInDim (⟨3, ![n, m, k]⟩ : Shape) (no_index ![]) h (E0 x) = E3 n m k (fun _ _ _ => x) := rfl

/-- The place a broadcast reads along an axis. -/
theorem bin_val {n i : ℕ} (hi : i < n) (h1 : 0 < n) (h2 : ¬ n = 1 → i < n) :
    (if h : n = 1 then (⟨0, h1⟩ : Fin n) else ⟨i, h2 h⟩).val = i := by
  split
  · simp only; omega
  · rfl

theorem bin_12 (f : ℕ → ℝ) (h) : broadcastInDim (⟨2, ![n, m]⟩ : Shape) (no_index ![1]) h (E1 m f) = E2 n m (fun _ j => f j) := by
  funext i
  refine congrArg (fun k => ((f k : ℝ) : EReal)) ?_
  have := (i 1).isLt
  exact bin_val (n := m) this (Nat.lt_of_le_of_lt (Nat.zero_le _) this) fun _ => this
theorem bin_10 (f : ℕ → ℝ) (h) : broadcastInDim (⟨2, ![n, m]⟩ : Shape) (no_index ![0]) h (E1 n f) = E2 n m (fun i _ => f i) := by
  funext i
  refine congrArg (fun k => ((f k : ℝ) : EReal)) ?_
  have := (i 0).isLt
  exact bin_val (n := n) this (Nat.lt_of_le_of_lt (Nat.zero_le _) this) fun _ => this
theorem bin_row (f : ℕ → ℕ → ℝ) (h) :
    broadcastInDim (⟨2, ![n, m]⟩ : Shape) (no_index ![0, 1]) h (E2 1 m f) = E2 n m (fun _ j => f 0 j) := by
  funext i
  refine congrArg (fun k => ((f 0 k : ℝ) : EReal)) ?_
  have := (i 1).isLt
  exact bin_val (n := m) this (Nat.lt_of_le_of_lt (Nat.zero_le _) this) fun _ => this
theorem bin_col (f : ℕ → ℕ → ℝ) (h) :
    broadcastInDim (⟨2, ![n, m]⟩ : Shape) (no_index ![0, 1]) h (E2 n 1 f) = E2 n m (fun i _ => f i 0) := by
  funext i
  refine congrArg (fun k => ((f k 0 : ℝ) : EReal)) ?_
  have := (i 0).isLt
  exact bin_val (n := n) this (Nat.lt_of_le_of_lt (Nat.zero_le _) this) fun _ => this
theorem bin_13 (f : ℕ → ℝ) (h) :
    broadcastInDim (⟨3, ![n, m, k]⟩ : Shape) (no_index ![2]) h (E1 k f) = E3 n m k (fun _ _ j => f j) := by
  funext i
  refine congrArg (fun k => ((f k : ℝ) : EReal)) ?_
  have := (i 2).isLt
  exact bin_val (n := k) this (Nat.lt_of_le_of_lt (Nat.zero_le _) this) fun _ => this
theorem bin_23 (f : ℕ → ℕ → ℝ) (h) :
    broadcastInDim (⟨3, ![n, m, k]⟩ : Shape) (no_index ![1, 2]) h (E2 m k f) = E3 n m k (fun _ i j => f i j) := by
  funext i
  refine congrArg₂ (fun k l => ((f k l : ℝ) : EReal)) ?_ ?_
  · have := (i 1).isLt
    exact bin_val (n := m) this (Nat.lt_of_le_of_lt (Nat.zero_le _) this) fun _ => this
  · have := (i 2).isLt
    exact bin_val (n := k) this (Nat.lt_of_le_of_lt (Nat.zero_le _) this) fun _ => this
theorem bin_34 (f : ℕ → ℕ → ℕ → ℝ) (h) :
    broadcastInDim (⟨4, ![n, m, k, l]⟩ : Shape) (no_index ![1, 2, 3]) h (E3 m k l f) = E4 n m k l (fun _ i j q => f i j q) := by
  funext i
  have h1 := (i 1).isLt
  have h2 := (i 2).isLt
  have h3 := (i 3).isLt
  have e1 := bin_val (n := m) h1 (Nat.lt_of_le_of_lt (Nat.zero_le _) h1) fun _ => h1
  have e2 := bin_val (n := k) h2 (Nat.lt_of_le_of_lt (Nat.zero_le _) h2) fun _ => h2
  have e3 := bin_val (n := l) h3 (Nat.lt_of_le_of_lt (Nat.zero_le _) h3) fun _ => h3
  exact (congrArg (fun q => ((f q _ _ : ℝ) : EReal)) e1).trans ((congrArg (fun q => ((f _ q _ : ℝ) : EReal)) e2).trans
    (congrArg (fun q => ((f _ _ q : ℝ) : EReal)) e3))

end Broadcasts

section Layout
variable {n m k l a b : ℕ}

/-- Rows put between, before and after the rows of a matrix, all zero. -/
theorem pad_E2 (f : ℕ → ℕ → ℝ) (p q s : ℕ) (h : (⟨2, ![n, m]⟩ : Shape).Pads ![p, 0] ![q, 0] ![s, 0] ⟨2, ![l, m]⟩) (hu) :
    pad (⟨2, ![l, m]⟩ : Shape) ![p, 0] ![q, 0] ![s, 0] (E2 n m f) (E0 0) h hu
      = E2 l m (fun i j => if p ≤ i ∧ (i - p) % (s + 1) = 0 ∧ (i - p) / (s + 1) < n then f ((i - p) / (s + 1)) j else 0) := by
  funext i
  have hm := (i 1).isLt
  by_cases hc : p ≤ (i 0).val ∧ ((i 0).val - p) % (s + 1) = 0 ∧ ((i 0).val - p) / (s + 1) < n
  · refine (dif_pos (fun a => ?_)).trans ?_
    · match a with
      | 0 => exact hc
      | 1 =>
        refine ⟨Nat.zero_le _, Nat.mod_one _, ?_⟩
        show ((i 1).val - 0) / 1 < m
        rw [Nat.sub_zero, Nat.div_one]; exact hm
    · refine Eq.trans ?_ (congrArg Real.toEReal (if_pos hc).symm)
      show ((f (((i 0).val - p) / (s + 1)) (((i 1).val - 0) / 1) : ℝ) : EReal) = _
      rw [Nat.sub_zero, Nat.div_one]
  · refine (dif_neg (fun h' => hc (h' 0))).trans ?_
    exact congrArg Real.toEReal (if_neg hc).symm

theorem cat2_E3 (f g : ℕ → ℕ → ℕ → ℝ)
    (h : Shape.Concatenates [⟨3, ![n, m, a]⟩, ⟨3, ![k, m, a]⟩] ⟨3, ![l, m, a]⟩ 0) :
    cat2 (⟨3, ![l, m, a]⟩ : Shape) ⟨3, ![n, m, a]⟩ ⟨3, ![k, m, a]⟩ 0 (E3 n m a f) (E3 k m a g) h
      = E3 l m a (fun i j q => if i < n then f i j q else g (i - n) j q) := by
  funext i
  rw [cat2, concatenate_pair_apply]
  by_cases hi : (i 0).val < n
  · refine (dif_pos hi).trans (congrArg Real.toEReal ?_)
    exact (if_pos hi).symm
  · refine (dif_neg hi).trans (congrArg Real.toEReal ?_)
    exact (if_neg hi).symm

theorem slice_E3 (f : ℕ → ℕ → ℕ → ℝ) (o p q n' m' k' : ℕ)
    (h : (⟨3, ![n, m, k]⟩ : Shape).Slices ![o, p, q] ⟨3, ![n', m', k']⟩) :
    extractStridedSlice (⟨3, ![n', m', k']⟩ : Shape) ![o, p, q] (E3 n m k f) h
      = E3 n' m' k' (fun i j r => f (i + o) (j + p) (r + q)) := by
  funext i
  show ((f (o + (i 0).val) (p + (i 1).val) (q + (i 2).val) : ℝ) : EReal) = _
  rw [Nat.add_comm o, Nat.add_comm p, Nat.add_comm q]; rfl

/-- A matrix of `n * k` rows cut into `n` blocks of `k` rows. -/
theorem cast_blocks (f : ℕ → ℕ → ℝ) (N : ℕ) (h : (⟨2, ![N, m]⟩ : Shape).ShapeCasts ⟨3, ![n, k, m]⟩) :
    shapeCast (⟨3, ![n, k, m]⟩ : Shape) (E2 N m f) h = E3 n k m (fun c i j => f (k * c + i) j) := by
  funext i
  have h0 := (i 0).isLt
  have h1 := (i 1).isLt
  have hN : N * m = n * (k * m) := by
    have e : (⟨3, ![n, k, m]⟩ : Shape).numel = (⟨2, ![N, m]⟩ : Shape).numel := h
    have e' : n * (k * m) = N * m := by simpa [Shape.numel, Fin.prod_univ_succ] using e
    exact e'.symm
  by_cases hm : m = 0
  · exact absurd (i 2).isLt (by subst hm; simp)
  have hlt : k * (i 0).val + (i 1).val < N := by
    have h0' : (i 0).val < n := h0
    have h1' : (i 1).val < k := h1
    have e : N = n * k := Nat.eq_of_mul_eq_mul_right (Nat.pos_of_ne_zero hm) (by rw [hN]; ring)
    rw [e]
    calc k * (i 0).val + (i 1).val < k * (i 0).val + k := by omega
      _ = ((i 0).val + 1) * k := by ring
      _ ≤ n * k := Nat.mul_le_mul_right _ h0'
  rw [Pointwise.shapeCast_apply, Shape.reshapeEquiv_eq_of_vals h i (ix2 ⟨k * (i 0).val + (i 1).val, hlt⟩ (i 2)) _ _
    (rowMajor_val2 _ m rfl) (rowMajor_val3 i (k * m) m rfl rfl) (by
      show (k * (i 0).val + (i 1).val) * m + (i 2).val = (i 0).val * (k * m) + (i 1).val * m + (i 2).val
      ring)]
  rfl

end Layout

section Products
variable {n m k : ℕ}

theorem hdot_10 (f g : ℕ → ℕ → ℝ) (wf) :
    Host.dotGeneral (F := Ideal) (φ₁ := .f32) (φ₂ := .f32) (no_index (⟨[1], [0], [0], [1], [], [], wf⟩ : DotDims ⟨2, ![n, k]⟩ ⟨2, ![k, m]⟩ ⟨2, ![n, m]⟩)) none
      (E2 n k f) (E2 k m g) = E2 n m (fun i j => ∑ q ∈ Finset.range k, f i q * g q j) := dot_10 f g wf
theorem hdot_11 (f g : ℕ → ℕ → ℝ) (wf) :
    Host.dotGeneral (F := Ideal) (φ₁ := .f32) (φ₂ := .f32) (no_index (⟨[1], [1], [0], [0], [], [], wf⟩ : DotDims ⟨2, ![n, k]⟩ ⟨2, ![m, k]⟩ ⟨2, ![n, m]⟩)) none
      (E2 n k f) (E2 m k g) = E2 n m (fun i j => ∑ q ∈ Finset.range k, f i q * g j q) := dot_11 f g wf
theorem hdot_00 (f g : ℕ → ℕ → ℝ) (wf) :
    Host.dotGeneral (F := Ideal) (φ₁ := .f32) (φ₂ := .f32) (no_index (⟨[0], [0], [1], [1], [], [], wf⟩ : DotDims ⟨2, ![k, n]⟩ ⟨2, ![k, m]⟩ ⟨2, ![n, m]⟩)) none
      (E2 k n f) (E2 k m g) = E2 n m (fun i j => ∑ q ∈ Finset.range k, f q i * g q j) := dot_00 f g wf

end Products

end Cert.Emb
-- ==== Proof.Assoc.lean ====
/- The linear recurrence `s (i+1) = A (i+1) * s i + B (i+1)` computed by halving: the rows taken in pairs on the way down,
the odd and the even rows put between one another on the way up. -/
module

public import proofs.«01_k».proof.Proof.Host

@[expose] public section

set_option maxRecDepth 16384

noncomputable section

namespace Cert.Emb

open Idealize.ShloMosaic

/-- The factor of a pair of rows. -/
def dnA (A : ℕ → ℕ → ℝ) : ℕ → ℕ → ℝ := fun k j => A (2 * k) j * A (2 * k + 1) j
/-- The summand of a pair of rows. -/
def dnB (A B : ℕ → ℕ → ℝ) : ℕ → ℕ → ℝ := fun k j => A (2 * k + 1) j * B (2 * k) j + B (2 * k + 1) j
/-- All rows, from those at odd places. -/
def upr (A B s : ℕ → ℕ → ℝ) : ℕ → ℕ → ℝ := fun i j =>
  if i = 0 then B 0 j else if i % 2 = 1 then s (i / 2) j else A i j * s (i / 2 - 1) j + B i j

/-- The first `N` rows of `s` follow the recurrence. -/
def Follows (A B : ℕ → ℕ → ℝ) (N : ℕ) (s : ℕ → ℕ → ℝ) : Prop :=
  ∀ j, s 0 j = B 0 j ∧ ∀ i, i + 1 < N → s (i + 1) j = A (i + 1) j * s i j + B (i + 1) j

/-- One row follows it. -/
theorem follows_one (A B : ℕ → ℕ → ℝ) : Follows A B 1 B := fun _ => ⟨rfl, fun _ h => absurd h (by omega)⟩

/-- Rows at odd places that follow the recurrence of the pairs give rows that follow the recurrence. -/
theorem follows_up {A B s : ℕ → ℕ → ℝ} {N K : ℕ} (hN : N ≤ 2 * K + 1) (h : Follows (dnA A) (dnB A B) K s) :
    Follows A B N (upr A B s) := by
  intro j
  refine ⟨if_pos rfl, fun i hi => ?_⟩
  obtain ⟨h0, hs⟩ := h j
  rcases Nat.even_or_odd' i with ⟨k, rfl | rfl⟩
  · rcases k with _ | k
    · simp only [upr]
      norm_num
      rw [h0]
      simp [dnB]
    · have e := hs k (by omega)
      have e1 : (2 * (k + 1) + 1) / 2 = k + 1 := by omega
      have e2 : 2 * (k + 1) / 2 - 1 = k := by omega
      have e3 : (2 * (k + 1) + 1) % 2 = 1 := by omega
      have e4 : ¬ 2 * (k + 1) % 2 = 1 := by omega
      simp only [upr, e1, e2, if_pos e3, if_neg e4, if_neg (Nat.succ_ne_zero _), if_neg (by omega : ¬ 2 * (k + 1) = 0)]
      rw [e]
      simp only [dnA, dnB]
      ring
  · have e1 : (2 * k + 1 + 1) / 2 - 1 = k := by omega
    have e2 : (2 * k + 1) / 2 = k := by omega
    have e3 : (2 * k + 1) % 2 = 1 := by omega
    have e4 : ¬ (2 * k + 1 + 1) % 2 = 1 := by omega
    simp only [upr, e1, e2, if_pos e3, if_neg e4, if_neg (Nat.succ_ne_zero _)]

/-- The recurrence has one solution. -/
theorem follows_eq {A B s s' : ℕ → ℕ → ℝ} {N : ℕ} (h : Follows A B N s) (h' : Follows A B N s') :
    ∀ i < N, ∀ j, s i j = s' i j := by
  intro i
  induction i with
  | zero => intro _ j; rw [(h j).1, (h' j).1]
  | succ i ih => intro hi j; rw [(h j).2 i hi, (h' j).2 i hi, ih (by omega) j]

section Steps
variable {n k m q : ℕ}

theorem down_A (A : ℕ → ℕ → ℝ) (h h') :
    mulf (F := Ideal) (φ := .f32) (Host.slice (⟨2, ![k, m]⟩ : Shape) ![0, 0] ![2, 1] (E2 n m A) h)
      (Host.slice (⟨2, ![k, m]⟩ : Shape) ![1, 0] ![2, 1] (E2 n m A) h') = E2 k m (dnA A) := by
  rw [hslice_E2, hslice_E2, mulf_E2]
  exact E2_congr fun i _ j _ => by simp only [dnA, zero_add, one_mul]; rw [Nat.add_comm 1]
theorem down_B (A B : ℕ → ℕ → ℝ) (h h') :
    addf (F := Ideal) (φ := .f32) (mulf (F := Ideal) (φ := .f32) (Host.slice (⟨2, ![k, m]⟩ : Shape) ![1, 0] ![2, 1] (E2 n m A) h')
      (Host.slice (⟨2, ![k, m]⟩ : Shape) ![0, 0] ![2, 1] (E2 n m B) h))
      (Host.slice (⟨2, ![k, m]⟩ : Shape) ![1, 0] ![2, 1] (E2 n m B) h') = E2 k m (dnB A B) := by
  rw [hslice_E2, hslice_E2, hslice_E2, mulf_E2, addf_E2]
  exact E2_congr fun i _ j _ => by simp only [dnB, zero_add, one_mul]; rw [Nat.add_comm 1]

/-- The odd and the even rows, each put between zero rows and added. -/
theorem up_rows (A B s : ℕ → ℕ → ℝ) (k' e e' : ℕ) (hk' : n ≤ 2 * k') (hk : n ≤ 2 * k + 1) (ha hb hu hc hu') :
    addf (F := Ideal) (φ := .f32)
      (pad (⟨2, ![n, m]⟩ : Shape) ![0, 0] ![e, 0] ![1, 0]
        (cat2 (⟨2, ![k', m]⟩ : Shape) ⟨2, ![1, m]⟩ ⟨2, ![q, m]⟩ 0 (E2 1 m fun i j => B (i + 0) (j + 0))
          (E2 q m fun i j => A (2 + 2 * i) (0 + 1 * j) * s i j + B (2 + 2 * i) (0 + 1 * j)) ha) (E0 0) hb hu)
      (pad (⟨2, ![n, m]⟩ : Shape) ![1, 0] ![e', 0] ![1, 0] (E2 k m s) (E0 0) hc hu') = E2 n m (upr A B s) := by
  rw [cat2_E2, pad_E2, pad_E2, addf_E2]
  refine E2_congr fun i hi j _ => ?_
  rcases Nat.even_or_odd' i with ⟨p, rfl | rfl⟩
  · rw [if_pos ⟨Nat.zero_le _, by omega, by omega⟩,
      if_neg (show ¬ (1 ≤ 2 * p ∧ (2 * p - 1) % (1 + 1) = 0 ∧ (2 * p - 1) / (1 + 1) < k) by omega), add_zero]
    have e : (2 * p - 0) / (1 + 1) = p := by omega
    rw [e]
    rcases p with _ | p
    · simp [upr]
    · have e1 : p + 1 - 1 = p := rfl
      have e2 : 2 * (p + 1) / 2 - 1 = p := by omega
      have e3 : 2 + 2 * p = 2 * (p + 1) := by ring
      rw [if_neg (by omega), e1, upr, if_neg (by omega), if_neg (by omega), e2, e3, zero_add, one_mul]
  · have e : (2 * p + 1 - 1) / (1 + 1) = p := by omega
    have e' : (2 * p + 1) / 2 = p := by omega
    rw [if_neg (show ¬ (0 ≤ 2 * p + 1 ∧ (2 * p + 1 - 0) % (1 + 1) = 0 ∧ (2 * p + 1 - 0) / (1 + 1) < k') by omega), zero_add,
      if_pos ⟨by omega, by omega, by omega⟩, e, upr, if_neg (by omega), if_pos (by omega), e']

theorem up_even (A B s : ℕ → ℕ → ℝ) (k' e e' : ℕ) (hk' : n ≤ 2 * k') (hk : n ≤ 2 * k + 1) (ha hb hu hc hu' h1 h2 h3 h4) :
    addf (F := Ideal) (φ := .f32)
      (pad (⟨2, ![n, m]⟩ : Shape) ![0, 0] ![e, 0] ![1, 0]
        (cat2 (⟨2, ![k', m]⟩ : Shape) ⟨2, ![1, m]⟩ ⟨2, ![q, m]⟩ 0
          (extractStridedSlice (⟨2, ![1, m]⟩ : Shape) ![0, 0] (E2 n m B) h1)
          (addf (F := Ideal) (φ := .f32) (mulf (F := Ideal) (φ := .f32)
            (Host.slice (⟨2, ![q, m]⟩ : Shape) ![2, 0] ![2, 1] (E2 n m A) h2)
            (extractStridedSlice (⟨2, ![q, m]⟩ : Shape) ![0, 0] (E2 k m s) h3))
            (Host.slice (⟨2, ![q, m]⟩ : Shape) ![2, 0] ![2, 1] (E2 n m B) h4)) ha) (E0 0) hb hu)
      (pad (⟨2, ![n, m]⟩ : Shape) ![1, 0] ![e', 0] ![1, 0] (E2 k m s) (E0 0) hc hu') = E2 n m (upr A B s) := by
  rw [slice_E2, slice_E2, hslice_E2, hslice_E2, mulf_E2, addf_E2]
  exact up_rows A B s k' e e' hk' hk ha hb hu hc hu'
theorem up_odd (A B s : ℕ → ℕ → ℝ) (k' e e' : ℕ) (hk' : n ≤ 2 * k') (hk : n ≤ 2 * k + 1) (ha hb hu hc hu' h1 h2 h4) :
    addf (F := Ideal) (φ := .f32)
      (pad (⟨2, ![n, m]⟩ : Shape) ![0, 0] ![e, 0] ![1, 0]
        (cat2 (⟨2, ![k', m]⟩ : Shape) ⟨2, ![1, m]⟩ ⟨2, ![k, m]⟩ 0
          (extractStridedSlice (⟨2, ![1, m]⟩ : Shape) ![0, 0] (E2 n m B) h1)
          (addf (F := Ideal) (φ := .f32) (mulf (F := Ideal) (φ := .f32)
            (Host.slice (⟨2, ![k, m]⟩ : Shape) ![2, 0] ![2, 1] (E2 n m A) h2) (E2 k m s))
            (Host.slice (⟨2, ![k, m]⟩ : Shape) ![2, 0] ![2, 1] (E2 n m B) h4)) ha) (E0 0) hb hu)
      (pad (⟨2, ![n, m]⟩ : Shape) ![1, 0] ![e', 0] ![1, 0] (E2 k m s) (E0 0) hc hu') = E2 n m (upr A B s) := by
  rw [slice_E2, hslice_E2, hslice_E2, mulf_E2, addf_E2]
  exact up_rows A B s k' e e' hk' hk ha hb hu hc hu'
end Steps

end Cert.Emb
-- ==== Proof.Rows.lean ====
/- The gated linear recurrence on real numbers: the layer's row functions, its gradient's row functions, and the
identities the kernel's way of computing them rests on. -/
module

public import proofs.«01_k».proof.Proof.Real

@[expose] public section

noncomputable section

namespace Cert.Emb

theorem spl_pos (x : ℝ) : 0 < spl x := by
  have h : 0 < Real.log (1 + Real.exp (-|x|)) := Real.log_pos (by linarith [Real.exp_pos (-|x|)])
  have := le_max_right x 0
  unfold spl; linarith

theorem sig_pos (x : ℝ) : 0 < sig x := by unfold sig; positivity

/-- The rows of the layer's inputs and its parameters. `ue q` is the recurrent branch's input at row `q - 8`, so that a
row can read the three rows before it; `g` is the gate's branch, `d` the gradient of the result, `ma` the rows' mask. -/
structure Rows where
  ue : ℕ → ℕ → ℝ
  g : ℕ → ℕ → ℝ
  d : ℕ → ℕ → ℝ
  ma : ℕ → ℝ
  cw : ℕ → ℕ → ℝ
  cb : ℕ → ℝ
  wa : ℕ → ℕ → ℝ
  ba : ℕ → ℝ
  wi : ℕ → ℕ → ℝ
  bi : ℕ → ℝ
  lam : ℕ → ℝ
  ng : ℕ → ℝ

namespace Rows

variable (K : Rows)

/-- The rows from row `s` on. -/
def shift (s : ℕ) : Rows :=
  { K with ue := fun q => K.ue (s + q), g := fun q => K.g (s + q), d := fun q => K.d (s + q), ma := fun q => K.ma (s + q) }

/-- The convolution. -/
def xc (r j : ℕ) : ℝ :=
  K.cw 0 j * K.ue (r + 5) j + K.cw 1 j * K.ue (r + 6) j + K.cw 2 j * K.ue (r + 7) j + K.cw 3 j * K.ue (r + 8) j + K.cb j
/-- The recurrence gate. -/
def rg (r j : ℕ) : ℝ := sig ((∑ k ∈ Finset.range 512, K.xc r k * K.wa k j) + K.ba j)
/-- The input gate. -/
def ig (r j : ℕ) : ℝ := sig ((∑ k ∈ Finset.range 512, K.xc r k * K.wi k j) + K.bi j)
/-- The softplus of the negated decay parameter. -/
def sp (j : ℕ) : ℝ := spl (0 - K.lam j)
/-- The logarithm of the decay. -/
def la (r j : ℕ) : ℝ := -8 * K.rg r j * K.sp j
/-- The decay. -/
def a (r j : ℕ) : ℝ := Real.exp (K.la r j)
/-- The hyperbolic tangent the kernel computes the input's scale from. -/
def tt (r j : ℕ) : ℝ := Real.tanh (1 / 2 * (2 * K.la r j))
/-- The input's scale. -/
def be (r j : ℕ) : ℝ := Real.sqrt (1 - Real.exp (2 * K.la r j))
/-- The recurrence's input, masked. -/
def bm (r j : ℕ) : ℝ := K.be r j * (K.ig r j * K.xc r j) * K.ma r

/-- The activation's inner tangent. -/
def gt (r j : ℕ) : ℝ := Real.tanh (slo * (K.g r j + cub * (K.g r j * (K.g r j * K.g r j))))
/-- Half of one plus the inner tangent. -/
def gh (r j : ℕ) : ℝ := 1 / 2 * (1 + K.gt r j)
/-- The activated gate. -/
def ge (r j : ℕ) : ℝ := K.g r j * K.gh r j

section Back
variable (h hp L : ℕ → ℕ → ℝ)
/-- The gated state. -/
def y (r j : ℕ) : ℝ := K.ge r j * h r j
/-- The mean square of the gated state plus the small constant. -/
def ms (r : ℕ) : ℝ := (∑ k ∈ Finset.range 512, K.y h r k * K.y h r k) / 512 + eps
/-- The reciprocal root mean square. -/
def rs (r : ℕ) : ℝ := (Real.sqrt (K.ms h r))⁻¹
/-- The masked gradient of the result. -/
def dm (r j : ℕ) : ℝ := K.d r j * K.ma r
/-- The gradient at the normalised state. -/
def dn (r j : ℕ) : ℝ := K.dm r j * K.ng j
/-- The gradient at the mean square, spread over the row. -/
def dq (r : ℕ) : ℝ := (∑ k ∈ Finset.range 512, K.y h r k * K.dn r k) * (-1 / 2 * (K.rs h r / K.ms h r)) / 512
/-- The gradient at the gated state. -/
def dy (r j : ℕ) : ℝ := K.dn r j * K.rs h r + K.y h r j * K.dq h r + K.dq h r * K.y h r j
/-- The gradient at the gate's branch. -/
def dg (r j : ℕ) : ℝ :=
  K.dy h r j * h r j * K.gh r j
    + slo * (1 / 2 * (K.g r j * (K.dy h r j * h r j)) * ((1 + K.gt r j) * (1 - K.gt r j)))
    + cub * (slo * (1 / 2 * (K.g r j * (K.dy h r j * h r j)) * ((1 + K.gt r j) * (1 - K.gt r j)))) * (3 * (K.g r j * K.g r j))
/-- The gradient at the state from the row's own result. -/
def gs (r j : ℕ) : ℝ := K.ge r j * K.dy h r j
/-- The gradient at the normalisation's weight from one row. -/
def dnr (r j : ℕ) : ℝ := K.y h r j * K.rs h r * K.dm r j

/-- The masked gradient at the recurrence's input. -/
def lm (r j : ℕ) : ℝ := L r j * K.ma r
/-- The gradient at the input gate. -/
def dig (r j : ℕ) : ℝ := K.be r j * K.lm L r j * K.xc r j
/-- The gradient at the input gate's argument. -/
def dzi (r j : ℕ) : ℝ := K.dig L r j * (K.ig r j * (1 - K.ig r j))
/-- The gradient at the logarithm of the decay. -/
def dla (r j : ℕ) : ℝ :=
  2 * -(K.lm L r j * (K.ig r j * K.xc r j) * (1 / 2 / K.be r j) * Real.exp (2 * K.la r j)) + L r j * hp r j * K.a r j
/-- The gradient at the decay parameter from one row. -/
def dlr (r j : ℕ) : ℝ := -8 * K.rg r j * K.dla hp L r j
/-- The gradient at the recurrence gate's argument. -/
def dza (r j : ℕ) : ℝ := -8 * (K.dla hp L r j * K.sp j) * (K.rg r j * (1 - K.rg r j))
/-- The gradient at the convolution's result. -/
def dxc (r j : ℕ) : ℝ :=
  K.ig r j * (K.be r j * K.lm L r j) + (∑ k ∈ Finset.range 512, K.dzi L r k * K.wi j k)
    + ∑ k ∈ Finset.range 512, K.dza hp L r k * K.wa j k
end Back

/-- The derivative of the softplus. -/
def dsp (j : ℕ) : ℝ := Real.exp (0 - K.lam j - K.sp j)

theorem la_neg (r j : ℕ) : K.la r j < 0 := by
  have h1 : 0 < K.rg r j := sig_pos _
  have h2 : 0 < K.sp j := spl_pos _
  have := mul_pos h1 h2
  unfold la; nlinarith

theorem tt_lt (r j : ℕ) : K.tt r j < 1 := Real.tanh_lt_one _
theorem neg_lt_tt (r j : ℕ) : -1 < K.tt r j := Real.neg_one_lt_tanh _
theorem tt_ne (r j : ℕ) : 1 - K.tt r j ≠ 0 := by have := K.tt_lt r j; linarith

/-- The kernel's quotient of tangents is one minus the squared decay. -/
theorem tt_quot (r j : ℕ) : -2 * K.tt r j / (1 - K.tt r j) = 1 - Real.exp (2 * K.la r j) := by
  have h := K.tt_ne r j
  rw [div_eq_iff h]
  have e : K.tt r j = (Real.exp (2 * K.la r j) - 1) / (Real.exp (2 * K.la r j) + 1) := by
    unfold tt
    rw [show 1 / 2 * (2 * K.la r j) = K.la r j by ring, Real.tanh_eq_sinh_div_cosh, Real.sinh_eq, Real.cosh_eq, two_mul,
      Real.exp_add, Real.exp_neg]
    have := Real.exp_pos (K.la r j)
    field_simp
  have h0 := Real.exp_pos (2 * K.la r j)
  rw [e]
  field_simp
  ring

theorem tt_ratio (r j : ℕ) : (1 + K.tt r j) / (1 - K.tt r j) = Real.exp (2 * K.la r j) := by
  have h := K.tt_ne r j
  have e := K.tt_quot r j
  rw [div_eq_iff h] at e ⊢
  linarith

theorem quot_pos (r j : ℕ) : 0 < 1 - Real.exp (2 * K.la r j) := by
  have := K.la_neg r j
  have : Real.exp (2 * K.la r j) < 1 := by
    rw [← Real.exp_zero]; exact Real.exp_lt_exp.2 (by linarith)
  linarith

theorem be_pos (r j : ℕ) : 0 < K.be r j := Real.sqrt_pos.2 (K.quot_pos r j)

theorem ms_pos (h : ℕ → ℕ → ℝ) (r : ℕ) : 0 < K.ms h r := by
  have h1 : 0 ≤ ∑ k ∈ Finset.range 512, K.y h r k * K.y h r k := Finset.sum_nonneg fun k _ => mul_self_nonneg _
  have := eps_pos
  unfold ms; positivity

end Rows

end Cert.Emb
-- ==== Proof.Body1.lean ====
/- The kernel's payloads at real arguments, first part: the layer's row functions. -/
module

public import proofs.«01_k».proof.Proof.Rows
public import proofs.«01_k».proof.Proof.Gen.KernelIdeal.Skeleton

@[expose] public section

set_option maxRecDepth 16384

noncomputable section

namespace Cert.Emb

open Idealize.ShloMosaic Cert.KernelIdeal Cert.KernelIdeal.Gen

local notation "M" => E2 192 512
local notation "R" => E2 1 512
local notation "Q" => E2 512 512

variable (K : Rows)

/-- The kernel's product of rows with a matrix. -/
theorem mm_10 (f g : ℕ → ℕ → ℝ) : Ideal.matmul dot_S192x512_S512x512_S192x512_1_0_0_1_n_n (M f) (Q g) (M fun _ _ => 0)
    = M fun i j => ∑ q ∈ Finset.range 512, f i q * g q j := dot_10 f g _
/-- The kernel's product of rows with a transposed matrix. -/
theorem mm_11 (f g : ℕ → ℕ → ℝ) : Ideal.matmul dot_S192x512_S512x512_S192x512_1_1_0_0_n_n (M f) (Q g) (M fun _ _ => 0)
    = M fun i j => ∑ q ∈ Finset.range 512, f i q * g j q := dot_11 f g _
/-- The kernel's product of a transposed block of rows with a block of rows. -/
theorem mm_00 (f g : ℕ → ℕ → ℝ) : Ideal.matmul dot_S192x512_S192x512_S512x512_0_0_1_1_n_n (M f) (M g) (Q fun _ _ => 0)
    = Q fun i j => ∑ q ∈ Finset.range 192, f q i * g q j := dot_00 f g _

/-- The eight rows before the chunk. -/
def Rows.tl (i j : ℕ) : ℝ := K.ue i j
/-- The chunk's rows of the recurrent branch. -/
def Rows.u (i j : ℕ) : ℝ := K.ue (i + 8) j

theorem pay24 : k0_pay24 (F := Ideal) (M K.u) (E2 8 512 K.tl) = E2 200 512 K.ue := by
  simp only [k0_pay24, concat_E2]
  refine E2_congr fun i _ j _ => ?_
  by_cases h : i < 8
  · rw [if_pos h]; rfl
  · rw [if_neg h, Rows.u, Nat.sub_add_cancel (by omega)]
theorem pay25 : k0_pay25 (F := Ideal) (E2 4 512 K.cw) = R fun _ j => K.cw 0 j := by
  simp only [k0_pay25, slice_E2]
  exact E2_congr fun i hi j _ => by rw [Nat.lt_one_iff.1 hi]; rfl
theorem pay27 : k0_pay27 (F := Ideal) (E2 4 512 K.cw) = R fun _ j => K.cw 1 j := by
  simp only [k0_pay27, slice_E2]
  exact E2_congr fun i hi j _ => by rw [Nat.lt_one_iff.1 hi]; rfl
theorem pay29 : k0_pay29 (F := Ideal) (E2 4 512 K.cw) = R fun _ j => K.cw 2 j := by
  simp only [k0_pay29, slice_E2]
  exact E2_congr fun i hi j _ => by rw [Nat.lt_one_iff.1 hi]; rfl
theorem pay31 : k0_pay31 (F := Ideal) (E2 4 512 K.cw) = R fun _ j => K.cw 3 j := by
  simp only [k0_pay31, slice_E2]
  exact E2_congr fun i hi j _ => by rw [Nat.lt_one_iff.1 hi]; rfl
theorem pay26 : k0_pay26 (F := Ideal) (M K.u) (E2 8 512 K.tl) = M fun r j => K.ue (r + 5) j := by
  simp only [k0_pay26, pay24, slice_E2]; rfl
theorem pay28 : k0_pay28 (F := Ideal) (M K.u) (E2 8 512 K.tl) = M fun r j => K.ue (r + 6) j := by
  simp only [k0_pay28, pay24, slice_E2]; rfl
theorem pay30 : k0_pay30 (F := Ideal) (M K.u) (E2 8 512 K.tl) = M fun r j => K.ue (r + 7) j := by
  simp only [k0_pay30, pay24, slice_E2]; rfl
theorem pay32 : k0_pay32 (F := Ideal) (M K.u) (E2 8 512 K.tl) = M fun r j => K.ue (r + 8) j := by
  simp only [k0_pay32, pay24, slice_E2]; rfl
theorem pay33 : k0_pay33 (F := Ideal) (E2 4 512 K.cw) (R fun _ j => K.cb j) (M K.u) (E2 8 512 K.tl) = M K.xc := by
  simp only [k0_pay33, pay25, pay26, pay27, pay28, pay29, pay30, pay31, pay32, bto_row, mulf_E2, addf_E2]; rfl
theorem pay34 : k0_pay34 (F := Ideal) (E2 4 512 K.cw) (R fun _ j => K.cb j) (Q K.wa) (R fun _ j => K.ba j) (M K.u)
    (E2 8 512 K.tl) = M K.rg := by
  simp only [k0_pay34, pay33, truncf_E2, matmul_ideal, constant_lit, lit_zero, broadcast_E2, mm_10,
    bto_row, addf_E2, logistic_E2]
  rfl
theorem pay36 : k0_pay36 (F := Ideal) (E2 4 512 K.cw) (R fun _ j => K.cb j) (Q K.wi) (R fun _ j => K.bi j) (M K.u)
    (E2 8 512 K.tl) = M K.ig := by
  simp only [k0_pay36, pay33, truncf_E2, matmul_ideal, constant_lit, lit_zero, broadcast_E2, mm_10,
    bto_row, addf_E2, logistic_E2]
  rfl
theorem pay35 : k0_pay35 (F := Ideal) (E2 4 512 K.cw) (R fun _ j => K.cb j) (Q K.wa) (R fun _ j => K.ba j) (M K.u)
    (E2 8 512 K.tl) = M fun r j => K.rg r j * (1 - K.rg r j) := by
  simp only [k0_pay35, pay34, broadcast_lit, lit_one, broadcast_E2, subf_E2, mulf_E2]
theorem pay37 : k0_pay37 (F := Ideal) (M K.ig) = M fun r j => K.ig r j * (1 - K.ig r j) := by
  simp only [k0_pay37, broadcast_lit, lit_one, broadcast_E2, subf_E2, mulf_E2]
theorem pay38 : k0_pay38 (F := Ideal) (M K.rg) = M fun r j => -8 * K.rg r j := by
  simp only [k0_pay38, broadcast_lit, lit_neg_eight, broadcast_E2, mulf_E2]
theorem pay39 : k0_pay39 (F := Ideal) (R fun _ j => K.lam j) = R fun _ j => 0 - K.lam j := by
  simp only [k0_pay39, broadcast_lit, lit_zero, broadcast_E2, subf_E2]
theorem pay40 : k0_pay40 (F := Ideal) (R fun _ j => K.lam j) = R fun _ j => K.sp j := by
  simp only [k0_pay40, pay39, broadcast_lit, lit_zero, broadcast_E2, softplus_E2]; rfl
theorem pay41 : k0_pay41 (F := Ideal) (R fun _ j => K.lam j) = R fun _ j => K.dsp j := by
  simp only [k0_pay41, pay39, pay40, broadcast_lit, lit_top, top_E2, subf_E2, exp_E2]; rfl
theorem pay42 : k0_pay42 (F := Ideal) (R fun _ j => K.lam j) (M K.rg) = M K.la := by
  simp only [k0_pay42, pay38, pay40, bto_row, mulf_E2]; rfl
theorem pay43 : k0_pay43 (F := Ideal) (R fun _ j => K.lam j) (M K.rg) = M K.a := by
  simp only [k0_pay43, pay42, exp_E2]; rfl
theorem pay44 : k0_pay44 (F := Ideal) (R fun _ j => K.lam j) (M K.rg) = M K.tt := by
  simp only [k0_pay44, pay42, broadcast_lit, lit_two, lit_half, broadcast_E2, mulf_E2, tanh_E2]; rfl
theorem pay45 : k0_pay45 (F := Ideal) (R fun _ j => K.lam j) (M K.rg) = M fun r j => (1 + K.tt r j) * (1 - K.tt r j) := by
  simp only [k0_pay45, pay44, broadcast_lit, lit_one, broadcast_E2, subf_E2, addf_E2, mulf_E2]
theorem pay46 : k0_pay46 (F := Ideal) (R fun _ j => K.lam j) (M K.rg) = M fun r j => -2 * K.tt r j := by
  simp only [k0_pay46, pay44, broadcast_lit, lit_neg_two, broadcast_E2, mulf_E2]
theorem pay47 : k0_pay47 (F := Ideal) (M K.tt) = M fun r j => 1 - K.tt r j := by
  simp only [k0_pay47, broadcast_lit, lit_one, broadcast_E2, subf_E2]
theorem pay48 : k0_pay48 (F := Ideal) (M K.tt) = M fun r j => 1 / ((1 - K.tt r j) * (1 - K.tt r j)) := by
  simp only [k0_pay48, pay47, broadcast_lit, lit_one, broadcast_E2, mulf_E2]
  exact divf_E2 _ _ fun i _ j _ => mul_ne_zero (K.tt_ne i j) (K.tt_ne i j)
theorem pay49 : k0_pay49 (F := Ideal) (M K.tt) (M fun r j => -2 * K.tt r j) = M K.be := by
  simp only [k0_pay49, pay47]
  rw [divf_E2 _ _ fun i _ j _ => K.tt_ne i j]
  simp only [K.tt_quot]
  exact sqrt_E2 _ fun i _ j _ => (K.quot_pos i j).le
theorem pay50 : k0_pay50 (F := Ideal) (M K.tt) (M fun r j => -2 * K.tt r j) = M fun r j => 1 / 2 / K.be r j := by
  simp only [k0_pay50, pay49, broadcast_lit, lit_half, broadcast_E2]
  exact divf_E2 _ _ fun i _ j _ => (K.be_pos i j).ne'
theorem pay51 : k0_pay51 (F := Ideal) (M K.xc) (M K.ig) = M fun r j => K.ig r j * K.xc r j := by
  simp only [k0_pay51, mulf_E2]

end Cert.Emb
-- ==== Proof.Scan.lean ====
/- The recurrence `h_r = a_r h_{r-1} + b_r` by doubling, and its gradient by the same levels backwards. -/
module

public import proofs.«01_k».proof.Proof.Real

@[expose] public section

noncomputable section

namespace Cert.Emb

/-- The sequence moved down by `s` places, `c` in front. -/
def sh (c : ℝ) (s : ℕ) (f : ℕ → ℝ) (r : ℕ) : ℝ := if r < s then c else f (r - s)
/-- The first `N` values moved up by `s` places, zeros behind. -/
def up (N s : ℕ) (f : ℕ → ℝ) (r : ℕ) : ℝ := if r < N - s then f (r + s) else 0

/-- The products of `2^k` neighbouring factors. -/
def sA (a : ℕ → ℝ) : ℕ → ℕ → ℝ
  | 0 => a
  | k + 1 => fun r => sA a k r * sh 1 (2 ^ k) (sA a k) r
/-- The recurrence's partial values over `2^k` places. -/
def sB (a b : ℕ → ℝ) : ℕ → ℕ → ℝ
  | 0 => b
  | k + 1 => fun r => sA a k r * sh 0 (2 ^ k) (sB a b k) r + sB a b k r
/-- The gradient at level `8 - n`'s partial values. -/
def sL (a G : ℕ → ℝ) : ℕ → ℕ → ℝ
  | 0 => G
  | n + 1 => fun r => sL a G n r + up 192 (2 ^ (7 - n)) (fun q => sA a (7 - n) q * sL a G n q) r
/-- The gradient at level `7 - n`'s products. -/
def sD (a b G : ℕ → ℝ) : ℕ → ℕ → ℝ
  | 0 => fun r => sL a G 0 r * sh 0 128 (sB a b 7) r
  | n + 1 => fun r => sD a b G n r * sh 1 (2 ^ (6 - n)) (sA a (6 - n)) r
      + up 192 (2 ^ (6 - n)) (fun q => sA a (6 - n) q * sD a b G n q) r
      + sL a G (n + 1) r * sh 0 (2 ^ (6 - n)) (sB a b (6 - n)) r
/-- The recurrence itself, from zero. -/
def sq (a b : ℕ → ℝ) : ℕ → ℝ
  | 0 => b 0
  | r + 1 => a (r + 1) * sq a b r + b (r + 1)

/-- At each level the recurrence reads the value `2^k` places back. -/
theorem sq_level (a b : ℕ → ℝ) (k r : ℕ) : sq a b r = sA a k r * sh 0 (2 ^ k) (sq a b) r + sB a b k r := by
  induction k generalizing r with
  | zero =>
    cases r with
    | zero => simp [sh, sq, sB]
    | succ r => simp [sh, sq, sB, sA]
  | succ k ih =>
    rw [ih r]
    simp only [sA, sB, sh, pow_succ]
    by_cases h1 : r < 2 ^ k
    · have h2 : r < 2 ^ k * 2 := by omega
      simp [h1, h2]
    · rw [if_neg h1, if_neg h1, if_neg h1, ih (r - 2 ^ k)]
      by_cases h2 : r < 2 ^ k * 2
      · have h3 : r - 2 ^ k < 2 ^ k := by omega
        simp [sh, h2, h3]
      · have h3 : ¬ r - 2 ^ k < 2 ^ k := by omega
        rw [if_neg h2, sh, if_neg h3, show r - 2 ^ k * 2 = r - 2 ^ k - 2 ^ k by omega]
        ring

/-- Eight levels cover a chunk. -/
theorem sB_eq (a b : ℕ → ℝ) (r : ℕ) (h : r < 192) : sB a b 8 r = sq a b r := by
  rw [sq_level a b 8 r, sh, if_pos (by norm_num; omega), mul_zero, zero_add]

/-- One level of the gradient. -/
theorem up_step (N s : ℕ) (A G L : ℕ → ℝ)
    (hL : ∀ r < N, L r = G r + up N (2 * s) (fun q => A q * sh 1 s A q * L q) r) (r : ℕ) (hr : r < N) :
    L r + up N s (fun q => A q * L q) r = G r + up N s (fun q => A q * (L q + up N s (fun q => A q * L q) q)) r := by
  rw [hL r hr]
  simp only [up]
  by_cases h1 : r < N - s
  · rw [if_pos h1, if_pos h1]
    by_cases h2 : r < N - 2 * s
    · rw [if_pos h2, if_pos (by omega), sh, if_neg (by omega), show r + 2 * s - s = r + s by omega,
        show r + s + s = r + 2 * s by omega]
      ring
    · rw [if_neg h2, if_neg (by omega)]; ring
  · rw [if_neg h1, if_neg h1, if_neg (by omega), add_zero]

theorem sL_level (a G : ℕ → ℝ) (n : ℕ) (hn : n ≤ 8) (r : ℕ) (hr : r < 192) :
    sL a G n r = G r + up 192 (2 ^ (8 - n)) (fun q => sA a (8 - n) q * sL a G n q) r := by
  induction n generalizing r with
  | zero => simp [sL, up]
  | succ n ih =>
    obtain ⟨k, hk⟩ : ∃ k, 7 - n = k := ⟨_, rfl⟩
    have h8 : 8 - n = k + 1 := by omega
    have h9 : 8 - (n + 1) = k := by omega
    simp only [sL, h9, hk]
    refine up_step 192 (2 ^ k) (sA a k) G (sL a G n) (fun r hr => ?_) r hr
    rw [ih (by omega) r hr, h8, pow_succ, mul_comm (2 ^ k) 2]
    rfl

/-- The gradient at the recurrence's input, from the row after. -/
theorem sL_rec (a G : ℕ → ℝ) (r : ℕ) (hr : r < 192) :
    sL a G 8 r = G r + if r < 191 then a (r + 1) * sL a G 8 (r + 1) else 0 := by
  have := sL_level a G 8 le_rfl r hr
  simpa [up, sA] using this

theorem sD_level (a b G : ℕ → ℝ) (n : ℕ) (hn : n ≤ 7) (r : ℕ) (hr : r < 192) :
    sD a b G n r = sL a G (n + 1) r * sh 0 (2 ^ (7 - n)) (sq a b) r := by
  induction n generalizing r with
  | zero =>
    simp only [sD, sL, up, sh]
    norm_num
    by_cases h : r < 128
    · simp [h]
    · rw [if_neg h, if_neg h, if_neg (by omega), add_zero, sq_level a b 7 (r - 128), sh, if_pos (by norm_num; omega)]
      ring
  | succ n ih =>
    obtain ⟨k, hk⟩ : ∃ k, 6 - n = k := ⟨_, rfl⟩
    have h7 : 7 - n = k + 1 := by omega
    have h8 : 7 - (n + 1) = k := by omega
    have hp : 0 < 2 ^ k := by positivity
    show sD a b G n r * sh 1 (2 ^ (6 - n)) (sA a (6 - n)) r
      + up 192 (2 ^ (6 - n)) (fun q => sA a (6 - n) q * sD a b G n q) r
      + sL a G (n + 1) r * sh 0 (2 ^ (6 - n)) (sB a b (6 - n)) r = _
    rw [ih (by omega) r hr, hk, h7, h8, pow_succ,
      show sL a G (n + 1 + 1) r = sL a G (n + 1) r + up 192 (2 ^ k) (fun q => sA a k q * sL a G (n + 1) q) r by
        simp only [sL, h8]]
    have e : up 192 (2 ^ k) (fun q => sA a k q * sD a b G n q) r
        = up 192 (2 ^ k) (fun q => sA a k q * sL a G (n + 1) q) r * sh 0 (2 ^ k) (sq a b) r := by
      simp only [up]
      by_cases h1 : r < 192 - 2 ^ k
      · rw [if_pos h1, if_pos h1, ih (by omega) _ (by omega), h7, pow_succ, sh, sh]
        by_cases h2 : r < 2 ^ k
        · rw [if_pos h2, if_pos (by omega)]; ring
        · rw [if_neg h2, if_neg (by omega), show r + 2 ^ k - 2 ^ k * 2 = r - 2 ^ k by omega]; ring
      · rw [if_neg h1, if_neg h1, zero_mul]
    rw [e]
    by_cases h2 : r < 2 ^ k
    · simp only [sh, if_pos h2, if_pos (show r < 2 ^ k * 2 by omega)]; ring
    · have hs := sq_level a b k (r - 2 ^ k)
      simp only [sh, if_neg h2] at hs ⊢
      rw [hs]
      by_cases h3 : r < 2 ^ k * 2
      · rw [if_pos h3, if_pos (by omega)]; ring
      · rw [if_neg h3, if_neg (by omega), show r - 2 ^ k * 2 = r - 2 ^ k - 2 ^ k by omega]; ring

/-- The gradient at the recurrence's factor is the input's gradient times the state before. -/
theorem sD_eq (a b G : ℕ → ℝ) (r : ℕ) (hr : r < 192) : sD a b G 7 r = sL a G 8 r * sh 0 1 (sq a b) r := by
  simpa using sD_level a b G 7 le_rfl r hr

end Cert.Emb
-- ==== Proof.Body2.lean ====
/- The kernel's payloads at real arguments, second part: the recurrence by doubling. -/
module

public import proofs.«01_k».proof.Proof.Body1
public import proofs.«01_k».proof.Proof.Scan

@[expose] public section

set_option maxRecDepth 16384

noncomputable section

namespace Cert.Emb

open Idealize.ShloMosaic Cert.KernelIdeal Cert.KernelIdeal.Gen

local notation "M" => E2 192 512
local notation "R" => E2 1 512
local notation "Q" => E2 512 512
local notation "C" => E2 192 1

/-- The kernel's sum over its rows. -/
theorem ks_0 (f : ℕ → ℕ → ℝ) (h2 : FTy.f32 = FTy.f32 ∨ FTy.f32 = FTy.bf16)
    (h3 : (0x00000000#32 : BitVec FTy.f32.bits) = 0x00000000#32) : multiReduction (F := Ideal) (φ := .f32) .add [0] S512 (M f) 0x00000000#32 reduces_S192x512_S512 h2 h3
    = E1 512 fun j => ∑ i ∈ Finset.range 192, f i j := msum_0 f _ _ _ _
/-- The kernel's sum over its columns. -/
theorem ks_1 (f : ℕ → ℕ → ℝ) (h2 : FTy.f32 = FTy.f32 ∨ FTy.f32 = FTy.bf16)
    (h3 : (0x00000000#32 : BitVec FTy.f32.bits) = 0x00000000#32) : multiReduction (F := Ideal) (φ := .f32) .add [1] S192 (M f) 0x00000000#32 reduces_S192x512_S192 h2 h3
    = E1 192 fun i => ∑ j ∈ Finset.range 512, f i j := msum_1 f _ _ _ _
/-- The kernel's sum over a single column. -/
theorem ks_c (f : ℕ → ℕ → ℝ) (h2 : FTy.f32 = FTy.f32 ∨ FTy.f32 = FTy.bf16)
    (h3 : (0x00000000#32 : BitVec FTy.f32.bits) = 0x00000000#32) : multiReduction (F := Ideal) (φ := .f32) .add [1] S192 (C f) 0x00000000#32 reduces_S192x1_S192 h2 h3
    = E1 192 fun i => ∑ j ∈ Finset.range 1, f i j := msum_1 f _ _ _ _

variable (K : Rows) (h0 : ℕ → ℝ)

/-- The recurrence's input with the state before the chunk in the first row. -/
def Rows.b0 (r j : ℕ) : ℝ := K.bm r j + (if r = 0 then 1 else 0) * (K.a r j * h0 j)
/-- The products of the decays at level `k`. -/
def Rows.cA (k r j : ℕ) : ℝ := sA (fun q => K.a q j) k r
/-- The states' partial values at level `k`. -/
def Rows.cB (k r j : ℕ) : ℝ := sB (fun q => K.a q j) (fun q => K.b0 h0 q j) k r
/-- The states of the chunk. -/
def Rows.hh (r j : ℕ) : ℝ := sq (fun q => K.a q j) (fun q => K.b0 h0 q j) r
/-- The rows moved down by `s`, `c` in front. -/
def mh (c : ℝ) (s : ℕ) (f : ℕ → ℕ → ℝ) (r j : ℕ) : ℝ := sh c s (fun q => f q j) r

/-- The word of a row number read as at least 48, as a number. -/
theorem sge_48 (n : ℕ) (h : n < 4096) :
    (((BitVec.setWidth 32 (IntOp.cmpi .sge (BitVec.ofNat 32 n) 48#32)).toInt : ℤ) : ℝ) = if n < 48 then 0 else 1 := by
  have e : (BitVec.ofNat 32 n).toInt = n := by
    rw [BitVec.toInt_eq_toNat_cond, BitVec.toNat_ofNat, Nat.mod_eq_of_lt (by omega), if_pos (by omega)]
  by_cases hn : n < 48
  · have : BitVec.sle 48#32 (BitVec.ofNat 32 n) = false := by
      rw [BitVec.sle, e]; simp; omega
    simp [IntOp.cmpi, this, hn]
  · have : BitVec.sle 48#32 (BitVec.ofNat 32 n) = true := by
      rw [BitVec.sle, e]; simp; omega
    simp [IntOp.cmpi, this, hn]
/-- The word of a row number read as zero, as a number. -/
theorem eq_0 (n : ℕ) (h : n < 4096) :
    (((BitVec.setWidth 32 (IntOp.cmpi .eq (BitVec.ofNat 32 n) 0#32)).toInt : ℤ) : ℝ) = if n = 0 then 1 else 0 := by
  have : (BitVec.ofNat 32 n == 0#32) = decide (n = 0) := by
    rw [Bool.eq_iff_iff]; simp [← BitVec.toNat_inj]; omega
  unfold IntOp.cmpi; rw [this]
  by_cases hn : n = 0 <;> simp [hn]
theorem pay23 (i : ℕ) (hi : i < 11) : k0_pay23 (F := Ideal) (BitVec.ofNat 32 (192 * i))
    = C fun r _ => if 192 * i + r < 48 then 0 else 1 := by
  funext x
  have hx : (x 0).val < 192 := (x 0).isLt
  show (((((BitVec.setWidth 32 (IntOp.cmpi .sge (BitVec.ofNat 32 (192 * i) + BitVec.ofNat 32 (0 * 192 + (x 0).val)) 48#32)).toInt : ℤ) : ℝ)) : EReal) = _
  rw [← BitVec.ofNat_add, Nat.zero_mul, Nat.zero_add, sge_48 _ (by omega)]
  rfl
theorem pay52 : k0_pay52 (F := Ideal) = C fun r _ => if r = 0 then 1 else 0 := by
  funext x
  have hx : (x 0).val < 192 := (x 0).isLt
  show (((((BitVec.setWidth 32 (IntOp.cmpi .eq (BitVec.ofNat 32 (0 * 192 + (x 0).val)) 0#32)).toInt : ℤ) : ℝ)) : EReal) = _
  rw [Nat.zero_mul, Nat.zero_add, eq_0 _ (by omega)]
  rfl

theorem pay53 : k0_pay53 (F := Ideal) (R fun _ j => h0 j) (C fun r _ => K.ma r) (M K.xc) (M K.ig) (M K.a) (M K.tt)
    (M fun r j => -2 * K.tt r j) = M (K.cB h0 0) := by
  simp only [k0_pay53, pay49, pay51, pay52, bto_row, bto_col, mulf_E2, addf_E2]; rfl
theorem pay54 : k0_pay54 (F := Ideal) (R fun _ j => h0 j) (C fun r _ => K.ma r) (M K.xc) (M K.ig) (M K.a) (M K.tt)
    (M fun r j => -2 * K.tt r j) = M (mh 0 1 (K.cB h0 0)) := by
  simp only [k0_pay54, broadcast_lit]
  rw [pay53, lit_zero, broadcast_E2, slice_E2, concat_E2]; rfl
theorem pay55 : k0_pay55 (F := Ideal) (R fun _ j => h0 j) (C fun r _ => K.ma r) (M K.xc) (M K.ig) (M K.a) (M K.tt)
    (M fun r j => -2 * K.tt r j) = M (K.cB h0 1) := by
  simp only [k0_pay55, pay53, pay54, mulf_E2, addf_E2]; rfl
theorem pay56 : k0_pay56 (F := Ideal) (M K.a) = M (mh 1 1 (K.cA 0)) := by
  simp only [k0_pay56, broadcast_lit]
  rw [lit_one, broadcast_E2, slice_E2, concat_E2]; rfl
theorem pay57 : k0_pay57 (F := Ideal) (M K.a) = M (K.cA 1) := by
  simp only [k0_pay57, pay56, mulf_E2]; rfl
theorem pay58 : k0_pay58 (F := Ideal) (R fun _ j => h0 j) (C fun r _ => K.ma r) (M K.xc) (M K.ig) (M K.a) (M K.tt)
    (M fun r j => -2 * K.tt r j) = M (mh 0 2 (K.cB h0 1)) := by
  simp only [k0_pay58, broadcast_lit]
  rw [pay55, lit_zero, broadcast_E2, slice_E2, concat_E2]; rfl
theorem pay59 : k0_pay59 (F := Ideal) (R fun _ j => h0 j) (C fun r _ => K.ma r) (M K.xc) (M K.ig) (M K.a) (M K.tt)
    (M fun r j => -2 * K.tt r j) = M (K.cB h0 2) := by
  simp only [k0_pay59, pay55, pay57, pay58, mulf_E2, addf_E2]; rfl
theorem pay60 : k0_pay60 (F := Ideal) (M K.a) = M (mh 1 2 (K.cA 1)) := by
  simp only [k0_pay60, broadcast_lit]
  rw [pay57, lit_one, broadcast_E2, slice_E2, concat_E2]; rfl
theorem pay61 : k0_pay61 (F := Ideal) (M K.a) = M (K.cA 2) := by
  simp only [k0_pay61, pay57, pay60, mulf_E2]; rfl
theorem pay62 : k0_pay62 (F := Ideal) (R fun _ j => h0 j) (C fun r _ => K.ma r) (M K.xc) (M K.ig) (M K.a) (M K.tt)
    (M fun r j => -2 * K.tt r j) = M (mh 0 4 (K.cB h0 2)) := by
  simp only [k0_pay62, broadcast_lit]
  rw [pay59, lit_zero, broadcast_E2, slice_E2, concat_E2]; rfl
theorem pay63 : k0_pay63 (F := Ideal) (R fun _ j => h0 j) (C fun r _ => K.ma r) (M K.xc) (M K.ig) (M K.a) (M K.tt)
    (M fun r j => -2 * K.tt r j) = M (K.cB h0 3) := by
  simp only [k0_pay63, pay59, pay61, pay62, mulf_E2, addf_E2]; rfl
theorem pay64 : k0_pay64 (F := Ideal) (M K.a) = M (mh 1 4 (K.cA 2)) := by
  simp only [k0_pay64, broadcast_lit]
  rw [pay61, lit_one, broadcast_E2, slice_E2, concat_E2]; rfl
theorem pay65 : k0_pay65 (F := Ideal) (M K.a) = M (K.cA 3) := by
  simp only [k0_pay65, pay61, pay64, mulf_E2]; rfl
theorem pay66 : k0_pay66 (F := Ideal) (M (K.cB h0 3)) = M (mh 0 8 (K.cB h0 3)) := by
  simp only [k0_pay66, broadcast_lit]
  rw [lit_zero, broadcast_E2, slice_E2, concat_E2]; rfl
theorem pay67 : k0_pay67 (F := Ideal) (M (K.cB h0 3)) (M (K.cA 3)) = M (K.cB h0 4) := by
  simp only [k0_pay67, pay66, mulf_E2, addf_E2]; rfl
theorem pay68 : k0_pay68 (F := Ideal) (M (K.cA 3)) = M (mh 1 8 (K.cA 3)) := by
  simp only [k0_pay68, broadcast_lit]
  rw [lit_one, broadcast_E2, slice_E2, concat_E2]; rfl
theorem pay69 : k0_pay69 (F := Ideal) (M (K.cA 3)) = M (K.cA 4) := by
  simp only [k0_pay69, pay68, mulf_E2]; rfl
theorem pay70 : k0_pay70 (F := Ideal) (M (K.cB h0 3)) (M (K.cA 3)) = M (mh 0 16 (K.cB h0 4)) := by
  simp only [k0_pay70, broadcast_lit]
  rw [pay67, lit_zero, broadcast_E2, slice_E2, concat_E2]; rfl
theorem pay71 : k0_pay71 (F := Ideal) (M (K.cB h0 3)) (M (K.cA 3)) = M (K.cB h0 5) := by
  simp only [k0_pay71, pay67, pay69, pay70, mulf_E2, addf_E2]; rfl
theorem pay72 : k0_pay72 (F := Ideal) (M (K.cA 3)) = M (mh 1 16 (K.cA 4)) := by
  simp only [k0_pay72, broadcast_lit]
  rw [pay69, lit_one, broadcast_E2, slice_E2, concat_E2]; rfl
theorem pay73 : k0_pay73 (F := Ideal) (M (K.cA 3)) = M (K.cA 5) := by
  simp only [k0_pay73, pay69, pay72, mulf_E2]; rfl
theorem pay74 : k0_pay74 (F := Ideal) (M (K.cB h0 3)) (M (K.cA 3)) = M (mh 0 32 (K.cB h0 5)) := by
  simp only [k0_pay74, broadcast_lit]
  rw [pay71, lit_zero, broadcast_E2, slice_E2, concat_E2]; rfl
theorem pay75 : k0_pay75 (F := Ideal) (M (K.cB h0 3)) (M (K.cA 3)) = M (K.cB h0 6) := by
  simp only [k0_pay75, pay71, pay73, pay74, mulf_E2, addf_E2]; rfl
theorem pay76 : k0_pay76 (F := Ideal) (M (K.cA 3)) = M (mh 1 32 (K.cA 5)) := by
  simp only [k0_pay76, broadcast_lit]
  rw [pay73, lit_one, broadcast_E2, slice_E2, concat_E2]; rfl
theorem pay77 : k0_pay77 (F := Ideal) (M (K.cA 3)) = M (K.cA 6) := by
  simp only [k0_pay77, pay73, pay76, mulf_E2]; rfl
theorem pay78 : k0_pay78 (F := Ideal) (M (K.cB h0 3)) (M (K.cA 3)) = M (mh 0 64 (K.cB h0 6)) := by
  simp only [k0_pay78, broadcast_lit]
  rw [pay75, lit_zero, broadcast_E2, slice_E2, concat_E2]; rfl
theorem pay79 : k0_pay79 (F := Ideal) (M (K.cB h0 3)) (M (K.cA 3)) = M (K.cB h0 7) := by
  simp only [k0_pay79, pay75, pay77, pay78, mulf_E2, addf_E2]; rfl
theorem pay80 : k0_pay80 (F := Ideal) (M (K.cA 3)) = M (mh 1 64 (K.cA 6)) := by
  simp only [k0_pay80, broadcast_lit]
  rw [pay77, lit_one, broadcast_E2, slice_E2, concat_E2]; rfl
theorem pay81 : k0_pay81 (F := Ideal) (M (K.cA 3)) = M (K.cA 7) := by
  simp only [k0_pay81, pay77, pay80, mulf_E2]; rfl
theorem pay82 : k0_pay82 (F := Ideal) (M (K.cB h0 3)) (M (K.cA 3)) = M (mh 0 128 (K.cB h0 7)) := by
  simp only [k0_pay82, broadcast_lit]
  rw [pay79, lit_zero, broadcast_E2, slice_E2, concat_E2]; rfl
theorem pay83_level : k0_pay83 (F := Ideal) (M (K.cB h0 3)) (M (K.cA 3)) = M (K.cB h0 8) := by
  simp only [k0_pay83, pay79, pay81, pay82, mulf_E2, addf_E2]; rfl
theorem pay83 : k0_pay83 (F := Ideal) (M (K.cB h0 3)) (M (K.cA 3)) = M (K.hh h0) :=
  (pay83_level K h0).trans (E2_congr fun r hr _ _ => sB_eq _ _ r hr)

end Cert.Emb
-- ==== Proof.Body3.lean ====
/- The kernel's payloads at real arguments, third part: the gate, the norm and the recurrence backwards by doubling. -/
module

public import proofs.«01_k».proof.Proof.Body2

@[expose] public section

set_option maxRecDepth 16384

noncomputable section

namespace Cert.Emb

open Idealize.ShloMosaic Cert.KernelIdeal Cert.KernelIdeal.Gen

local notation "M" => E2 192 512
local notation "R" => E2 1 512
local notation "Q" => E2 512 512
local notation "C" => E2 192 1

variable (K : Rows) (h0 dc : ℕ → ℝ) (dt h L : ℕ → ℕ → ℝ)

/-- The argument of the activation's inner tangent, unscaled. -/
def Rows.gi (r j : ℕ) : ℝ := K.g r j + cub * (K.g r j * (K.g r j * K.g r j))
/-- The gradient carried in from the next chunk, at the last row. -/
def cin (r j : ℕ) : ℝ := if r < 191 then 0 else dc j
/-- The gradient carried in from the next chunk, at the last eight rows. -/
def tin (r j : ℕ) : ℝ := if r < 184 then 0 else dt (r - 184) j
/-- The gradient at the states before the recurrence runs backwards. -/
def Rows.gG (r j : ℕ) : ℝ := cin dc r j + K.gs h r j
/-- The rows moved up by `s`, zero behind. -/
def mu (s : ℕ) (f : ℕ → ℕ → ℝ) (r j : ℕ) : ℝ := up 192 s (fun q => f q j) r
/-- The backward recurrence's partial values at level `n`. -/
def Rows.cL (n r j : ℕ) : ℝ := sL (fun q => K.a q j) (fun q => K.gG dc h q j) n r
/-- The decays' gradient's partial values at level `n`. -/
def Rows.cD (n r j : ℕ) : ℝ := sD (fun q => K.a q j) (fun q => K.b0 h0 q j) (fun q => K.gG dc h q j) n r

theorem pay84 : k0_pay84 (F := Ideal) (M K.g) = M fun r j => 3 * (K.g r j * K.g r j) := by
  simp only [k0_pay84, broadcast_lit, lit_three, broadcast_E2, mulf_E2]
theorem pay85 : k0_pay85 (F := Ideal) (M K.g) = M K.gi := by
  simp only [k0_pay85, broadcast_lit, lit_cub, broadcast_E2, mulf_E2, addf_E2]; rfl
theorem pay86 : k0_pay86 (F := Ideal) (M K.gi) = M K.gt := by
  simp only [k0_pay86, broadcast_lit, lit_slo, broadcast_E2, mulf_E2, tanh_E2]; rfl
theorem pay87 : k0_pay87 (F := Ideal) (M K.gi) = M fun r j => (1 + K.gt r j) * (1 - K.gt r j) := by
  simp only [k0_pay87, pay86, broadcast_lit, lit_one, broadcast_E2, mulf_E2, addf_E2, subf_E2]
theorem pay88 : k0_pay88 (F := Ideal) (M K.gi) = M K.gh := by
  simp only [k0_pay88, pay86, broadcast_lit, lit_one, lit_half, broadcast_E2, mulf_E2, addf_E2]; rfl
theorem pay89 : k0_pay89 (F := Ideal) (M K.g) (M K.gi) = M K.ge := by
  simp only [k0_pay89, pay88, mulf_E2]; rfl
theorem pay90 : k0_pay90 (F := Ideal) (M K.g) (M h) (M K.gi) = M (K.y h) := by
  simp only [k0_pay90, pay89, mulf_E2]; rfl
theorem pay91 : k0_pay91 (F := Ideal) (M K.g) (M h) (M K.gi) = C fun r _ => K.ms h r := by
  simp only [k0_pay91, pay90, mulf_E2, broadcast_lit, lit_512, lit_eps, broadcast_E2]
  erw [ks_1]
  rw [cast_1_col, divf_E2 _ _ fun _ _ _ _ => by norm_num, addf_E2]; rfl
theorem pay92 : k0_pay92 (F := Ideal) (M K.g) (M h) (M K.gi) = C fun r _ => K.rs h r := by
  simp only [k0_pay92, pay91]
  exact rsqrt_E2 _ fun r _ _ _ => K.ms_pos h r
theorem pay93 : k0_pay93 (F := Ideal) (R fun _ j => dc j) = M (cin dc) := by
  simp only [k0_pay93, cat2_eq, broadcast_lit, lit_zero, broadcast_E2, cat2_E2]; rfl
theorem pay94 : k0_pay94 (F := Ideal) (E2 8 512 dt) = M (tin dt) := by
  simp only [k0_pay94, cat2_eq, broadcast_lit, lit_zero, broadcast_E2, cat2_E2]; rfl
theorem pay95 : k0_pay95 (F := Ideal) (M K.d) (C fun r _ => K.ma r) = M K.dm := by
  simp only [k0_pay95, bto_col, mulf_E2]; rfl
theorem pay96 : k0_pay96 (F := Ideal) (M K.g) (M K.d) (C fun r _ => K.ma r) (M h) (M K.gi)
    = R fun _ j => ∑ r ∈ Finset.range 192, K.dnr h r j := by
  simp only [k0_pay96, pay90, pay92, pay95, bto_col, mulf_E2]
  erw [ks_0]
  rw [cast_1_row]; rfl
theorem pay97 : k0_pay97 (F := Ideal) (R fun _ j => K.ng j) (M K.d) (C fun r _ => K.ma r) = M K.dn := by
  simp only [k0_pay97, pay95, bto_row, mulf_E2]; rfl
theorem pay98 : k0_pay98 (F := Ideal) (R fun _ j => K.ng j) (M K.g) (M K.d) (C fun r _ => K.ma r) (M h) (M K.gi)
    = M fun r j => K.dn r j * K.rs h r := by
  simp only [k0_pay98, pay92, pay97, bto_col, mulf_E2]
theorem pay99 : k0_pay99 (F := Ideal) (R fun _ j => K.ng j) (M K.g) (M K.d) (C fun r _ => K.ma r) (M h) (M K.gi)
    = C fun r _ => K.dq h r := by
  simp only [k0_pay99, pay90, pay91, pay92, pay97, mulf_E2, broadcast_lit, lit_512, lit_neg_half, broadcast_E2]
  erw [ks_1]
  rw [cast_1_col, divf_E2 _ _ fun r _ _ _ => (K.ms_pos h r).ne', mulf_E2, mulf_E2, divf_E2 _ _ fun _ _ _ _ => by norm_num]; rfl
theorem pay100 : k0_pay100 (F := Ideal) (M (K.y h)) (M fun r j => K.dn r j * K.rs h r) (C fun r _ => K.dq h r)
    = M (K.dy h) := by
  simp only [k0_pay100]
  erw [ks_c]
  simp only [cast_1_col, bto_col, mulf_E2, addf_E2, Finset.sum_range_one]; rfl
theorem pay101 : k0_pay101 (F := Ideal) (M K.ge) (M (K.y h)) (M (cin dc)) (M fun r j => K.dn r j * K.rs h r)
    (C fun r _ => K.dq h r) = M (K.cL dc h 0) := by
  simp only [k0_pay101, pay100, mulf_E2, addf_E2]; rfl
theorem pay102 : k0_pay102 (F := Ideal) (M K.g) (M h) (M fun r j => 3 * (K.g r j * K.g r j))
    (M fun r j => (1 + K.gt r j) * (1 - K.gt r j)) (M K.gh) (M (K.y h)) (M fun r j => K.dn r j * K.rs h r)
    (C fun r _ => K.dq h r) = M (K.dg h) := by
  simp only [k0_pay102, pay100, broadcast_lit, lit_half, lit_slo, lit_cub, broadcast_E2, mulf_E2, addf_E2]; rfl

/-- The gradient at the states, by eight levels. -/
def Rows.LL (r j : ℕ) : ℝ := K.cL dc h 8 r j
/-- The decays' gradient's partial value at level two before the last summand is added. -/
def Rows.cE (r j : ℕ) : ℝ :=
  K.cD h0 dc h 1 r j * mh 1 32 (K.cA 5) r j + mu 32 (fun q j => K.cA 5 q j * K.cD h0 dc h 1 q j) r j

theorem pay103 : k0_pay103 (F := Ideal) (M (K.cA 7)) (M K.ge) (M (K.y h)) (M (cin dc)) (M fun r j => K.dn r j * K.rs h r) (C fun r _ => K.dq h r)
    = M fun r j => K.cA 7 r j * K.cL dc h 0 r j := by
  simp only [k0_pay103, pay101, mulf_E2]
theorem pay104 : k0_pay104 (F := Ideal) (M (K.cA 7)) (M K.ge) (M (K.y h)) (M (cin dc)) (M fun r j => K.dn r j * K.rs h r) (C fun r _ => K.dq h r)
    = M (K.cL dc h 1) := by
  simp only [k0_pay104, pay101, pay103, cat2_eq, slice_E2, broadcast_lit, lit_zero, broadcast_E2, cat2_E2, mulf_E2, addf_E2]; rfl
theorem pay105 : k0_pay105 (F := Ideal) (M (K.cA 6)) (M (K.cA 7)) (M K.ge) (M (K.y h)) (M (cin dc)) (M fun r j => K.dn r j * K.rs h r) (C fun r _ => K.dq h r)
    = M (K.cL dc h 2) := by
  simp only [k0_pay105, pay104, cat2_eq, slice_E2, broadcast_lit, lit_zero, broadcast_E2, cat2_E2, mulf_E2, addf_E2]; rfl
theorem pay106 : k0_pay106 (F := Ideal) (M (K.cA 5)) (M (mh 1 32 (K.cA 5))) (M (K.cA 6)) (M (mh 0 64 (K.cB h0 6))) (M (mh 1 64 (K.cA 6))) (M (K.cA 7)) (M (mh 0 128 (K.cB h0 7))) (M K.ge) (M (K.y h)) (M (cin dc)) (M fun r j => K.dn r j * K.rs h r) (C fun r _ => K.dq h r)
    = M (K.cE h0 dc h) := by
  simp only [k0_pay106, pay101, pay104, cat2_eq, slice_E2, broadcast_lit, lit_zero, broadcast_E2, cat2_E2, mulf_E2, addf_E2]; rfl
theorem pay107 : k0_pay107 (F := Ideal) (M (K.cA 5)) (M (K.cA 6)) (M (K.cA 7)) (M K.ge) (M (K.y h)) (M (cin dc)) (M fun r j => K.dn r j * K.rs h r) (C fun r _ => K.dq h r)
    = M fun r j => K.cA 5 r j * K.cL dc h 2 r j := by
  simp only [k0_pay107, pay105, mulf_E2]
theorem pay108 : k0_pay108 (F := Ideal) (M (K.cL dc h 2)) (M fun r j => K.cA 5 r j * K.cL dc h 2 r j)
    = M (K.cL dc h 3) := by
  simp only [k0_pay108, cat2_eq, slice_E2, broadcast_lit, lit_zero, broadcast_E2, cat2_E2, mulf_E2, addf_E2]; rfl
theorem pay109 : k0_pay109 (F := Ideal) (M (K.cA 4)) (M (K.cL dc h 2)) (M fun r j => K.cA 5 r j * K.cL dc h 2 r j)
    = M fun r j => K.cA 4 r j * K.cL dc h 3 r j := by
  simp only [k0_pay109, pay108, mulf_E2]
theorem pay110 : k0_pay110 (F := Ideal) (M (K.cA 4)) (M (K.cL dc h 2)) (M fun r j => K.cA 5 r j * K.cL dc h 2 r j)
    = M (K.cL dc h 4) := by
  simp only [k0_pay110, pay108, pay109, cat2_eq, slice_E2, broadcast_lit, lit_zero, broadcast_E2, cat2_E2, mulf_E2, addf_E2]; rfl
theorem pay111 : k0_pay111 (F := Ideal) (M (K.cA 3)) (M (K.cA 4)) (M (K.cL dc h 2)) (M fun r j => K.cA 5 r j * K.cL dc h 2 r j)
    = M fun r j => K.cA 3 r j * K.cL dc h 4 r j := by
  simp only [k0_pay111, pay110, mulf_E2]
theorem pay112 : k0_pay112 (F := Ideal) (M (K.cA 3)) (M (K.cA 4)) (M (K.cL dc h 2)) (M fun r j => K.cA 5 r j * K.cL dc h 2 r j)
    = M (K.cL dc h 5) := by
  simp only [k0_pay112, pay110, pay111, cat2_eq, slice_E2, broadcast_lit, lit_zero, broadcast_E2, cat2_E2, mulf_E2, addf_E2]; rfl
theorem pay113 : k0_pay113 (F := Ideal) (M (K.cA 2)) (M (mh 0 4 (K.cB h0 2))) (M (mh 1 4 (K.cA 2))) (M (K.cA 3)) (M (mh 0 8 (K.cB h0 3))) (M (mh 1 8 (K.cA 3))) (M (K.cA 4)) (M (mh 0 16 (K.cB h0 4))) (M (mh 1 16 (K.cA 4))) (M (mh 0 32 (K.cB h0 5))) (M (K.cL dc h 2)) (M (K.cE h0 dc h)) (M fun r j => K.cA 5 r j * K.cL dc h 2 r j)
    = M (K.cD h0 dc h 5) := by
  simp only [k0_pay113, pay108, pay110, pay112, cat2_eq, slice_E2, broadcast_lit, lit_zero, broadcast_E2, cat2_E2, mulf_E2, addf_E2]; rfl
theorem pay114 : k0_pay114 (F := Ideal) (M (K.cA 2)) (M (K.cA 3)) (M (K.cA 4)) (M (K.cL dc h 2)) (M fun r j => K.cA 5 r j * K.cL dc h 2 r j)
    = M (K.cL dc h 6) := by
  simp only [k0_pay114, pay112, cat2_eq, slice_E2, broadcast_lit, lit_zero, broadcast_E2, cat2_E2, mulf_E2, addf_E2]; rfl
theorem pay115 : k0_pay115 (F := Ideal) (M (K.cA 1)) (M (K.cA 2)) (M (mh 0 4 (K.cB h0 2))) (M (mh 1 4 (K.cA 2))) (M (K.cA 3)) (M (mh 0 8 (K.cB h0 3))) (M (mh 1 8 (K.cA 3))) (M (K.cA 4)) (M (mh 0 16 (K.cB h0 4))) (M (mh 1 16 (K.cA 4))) (M (mh 0 32 (K.cB h0 5))) (M (K.cL dc h 2)) (M (K.cE h0 dc h)) (M fun r j => K.cA 5 r j * K.cL dc h 2 r j)
    = M fun r j => K.cA 1 r j * K.cD h0 dc h 5 r j := by
  simp only [k0_pay115, pay113, mulf_E2]
theorem pay116 : k0_pay116 (F := Ideal) (M (K.cA 1)) (M (K.cL dc h 6))
    = M fun r j => K.cA 1 r j * K.cL dc h 6 r j := by
  simp only [k0_pay116, mulf_E2]
theorem pay117 : k0_pay117 (F := Ideal) (M (K.cA 1)) (M (K.cL dc h 6))
    = M (K.cL dc h 7) := by
  simp only [k0_pay117, pay116, cat2_eq, slice_E2, broadcast_lit, lit_zero, broadcast_E2, cat2_E2, mulf_E2, addf_E2]; rfl
theorem pay118 : k0_pay118 (F := Ideal) (M K.a) (M (K.cA 1)) (M (K.cL dc h 6))
    = M fun r j => K.a r j * K.cL dc h 7 r j := by
  simp only [k0_pay118, pay117, mulf_E2]
theorem pay119 : k0_pay119 (F := Ideal) (M K.a) (M (K.cA 1)) (M (K.cL dc h 6))
    = M (K.LL dc h) := by
  simp only [k0_pay119, pay117, pay118, cat2_eq, slice_E2, broadcast_lit, lit_zero, broadcast_E2, cat2_E2, mulf_E2, addf_E2]; rfl
theorem pay120 : k0_pay120 (F := Ideal) (M K.a) (C fun r _ => if r = 0 then 1 else 0) (M (K.cA 1)) (M (K.cL dc h 6))
    = M fun r j => (if r = 0 then 1 else 0) * K.LL dc h r j := by
  simp only [k0_pay120, pay119, bto_col, mulf_E2]
theorem pay121 : k0_pay121 (F := Ideal) (M K.a) (C fun r _ => if r = 0 then 1 else 0) (M (K.cA 1)) (M (K.cL dc h 6))
    = R fun _ j => ∑ r ∈ Finset.range 192, K.a r j * ((if r = 0 then 1 else 0) * K.LL dc h r j) := by
  simp only [k0_pay121, pay120, mulf_E2]
  erw [ks_0]
  rw [cast_1_row]
theorem pay122 : k0_pay122 (F := Ideal) (R fun _ j => h0 j) (M K.a) (C fun r _ => if r = 0 then 1 else 0) (M (mh 0 1 (K.cB h0 0))) (M (mh 1 1 (K.cA 0))) (M (K.cA 1)) (M (mh 0 2 (K.cB h0 1))) (M (mh 1 2 (K.cA 1))) (M (K.cD h0 dc h 5)) (M (K.cL dc h 6)) (M fun r j => K.cA 1 r j * K.cD h0 dc h 5 r j)
    = M fun r j => K.cD h0 dc h 7 r j + (if r = 0 then 1 else 0) * K.LL dc h r j * h0 j := by
  simp only [k0_pay122, pay117, pay120, bto_row, cat2_eq, slice_E2, broadcast_lit, lit_zero, broadcast_E2, cat2_E2, mulf_E2, addf_E2]; rfl

/-- The states before each row of the chunk. -/
def Rows.hp (r j : ℕ) : ℝ := if r = 0 then h0 j else K.hh h0 (r - 1) j
theorem pay121' : k0_pay121 (F := Ideal) (M K.a) (C fun r _ => if r = 0 then 1 else 0) (M (K.cA 1)) (M (K.cL dc h 6))
    = R fun _ j => K.a 0 j * K.LL dc h 0 j := by
  rw [pay121]
  refine E2_congr fun _ _ j _ => ?_
  simp
theorem pay122' : k0_pay122 (F := Ideal) (R fun _ j => h0 j) (M K.a) (C fun r _ => if r = 0 then 1 else 0) (M (mh 0 1 (K.cB h0 0))) (M (mh 1 1 (K.cA 0))) (M (K.cA 1)) (M (mh 0 2 (K.cB h0 1))) (M (mh 1 2 (K.cA 1))) (M (K.cD h0 dc h 5)) (M (K.cL dc h 6)) (M fun r j => K.cA 1 r j * K.cD h0 dc h 5 r j)
    = M fun r j => K.LL dc h r j * K.hp h0 r j := by
  rw [pay122]
  refine E2_congr fun r hr j _ => ?_
  have e : K.cD h0 dc h 7 r j = K.LL dc h r j * sh 0 1 (fun q => K.hh h0 q j) r := sD_eq _ _ _ r hr
  rw [e]
  by_cases h1 : r = 0
  · simp [h1, sh, Rows.hp]
  · simp [h1, sh, Rows.hp]

end Cert.Emb
-- ==== Proof.Body4.lean ====
/- The kernel's payloads at real arguments, fourth part: the gradients of a chunk. -/
module

public import proofs.«01_k».proof.Proof.Body3

@[expose] public section

set_option maxRecDepth 16384

noncomputable section

namespace Cert.Emb

open Idealize.ShloMosaic Cert.KernelIdeal Cert.KernelIdeal.Gen

local notation "M" => E2 192 512
local notation "R" => E2 1 512
local notation "Q" => E2 512 512
local notation "C" => E2 192 1

variable (K : Rows) (h0 dc : ℕ → ℝ) (dt h hp L : ℕ → ℕ → ℝ)

/-- The gradient at the squared scale of the input. -/
def Rows.w14 (r j : ℕ) : ℝ := K.lm L r j * (K.ig r j * K.xc r j) * (1 / 2 / K.be r j)
/-- The gradient at the tangent in the numerator of the kernel's quotient, up to its factor. -/
def Rows.w19 (r j : ℕ) : ℝ := K.w14 L r j / (1 - K.tt r j)
/-- The gradient at the tangent in the denominator of the kernel's quotient. -/
def Rows.w21 (r j : ℕ) : ℝ := 0 - (0 - K.w14 L r j * (1 / ((1 - K.tt r j) * (1 - K.tt r j))) * (-2 * K.tt r j))

/-- The gradient at the decay's logarithm the kernel computes through the tangent. -/
theorem Rows.dla_eq (r j : ℕ) :
    2 * (1 / 2 * ((K.w21 L r j + -2 * K.w19 L r j) * ((1 + K.tt r j) * (1 - K.tt r j)))) + L r j * hp r j * K.a r j
      = K.dla hp L r j := by
  unfold Rows.dla
  rw [← K.tt_ratio r j]
  have := K.tt_ne r j
  unfold Rows.w21 Rows.w19 Rows.w14
  field_simp
  ring

/-- The gradient at the recurrent branch's rows, the eight rows before the chunk first. -/
def Rows.du (q j : ℕ) : ℝ :=
  (if q < 8 then 0 else K.cw 3 j * K.dxc hp L (q - 8) j)
    + (if q < 199 then if q < 7 then 0 else K.cw 2 j * K.dxc hp L (q - 7) j else 0)
    + (if q < 198 then if q < 6 then 0 else K.cw 1 j * K.dxc hp L (q - 6) j else 0)
    + if q < 197 then if q < 5 then 0 else K.cw 0 j * K.dxc hp L (q - 5) j else 0
/-- The gradient at the convolution's taps from the chunk. -/
def Rows.dcw (k j : ℕ) : ℝ := ∑ r ∈ Finset.range 192, K.dxc hp L r j * K.ue (r + 5 + k) j
theorem Rows.dcw_eq (r j : ℕ) (hr : r < 4) :
    (((if r < 3 then 0 else ∑ q ∈ Finset.range 192, K.dxc hp L q j * K.ue (q + 8) j)
      + if r < 3 then if r < 2 then 0 else ∑ q ∈ Finset.range 192, K.dxc hp L q j * K.ue (q + 7) j else 0)
      + if r < 2 then if r < 1 then 0 else ∑ q ∈ Finset.range 192, K.dxc hp L q j * K.ue (q + 6) j else 0)
      + (if r < 1 then ∑ q ∈ Finset.range 192, K.dxc hp L q j * K.ue (q + 5) j else 0) = K.dcw hp L r j := by
  unfold Rows.dcw
  interval_cases r <;> simp

theorem pay123 : k0_pay123 (F := Ideal) (C fun r _ => K.ma r) (M K.a) (M (K.cA 1)) (M (K.cL dc h 6))
    = M (K.lm (K.LL dc h)) := by
  simp only [k0_pay123, pay119, bto_col, mulf_E2]; rfl
theorem pay124 : k0_pay124 (F := Ideal) (C fun r _ => K.ma r) (M K.a) (M K.be) (M (K.cA 1)) (M (K.cL dc h 6))
    = M fun r j => K.be r j * K.lm (K.LL dc h) r j := by
  simp only [k0_pay124, pay123, mulf_E2]
theorem pay125 : k0_pay125 (F := Ideal) (C fun r _ => K.ma r) (M K.ig) (M K.a) (M K.be) (M (K.cA 1)) (M (K.cL dc h 6))
    = M fun r j => K.ig r j * (K.be r j * K.lm (K.LL dc h) r j) := by
  simp only [k0_pay125, pay124, mulf_E2]
theorem pay126 : k0_pay126 (F := Ideal) (C fun r _ => K.ma r) (M K.xc) (M K.a) (M K.be) (M (K.cA 1)) (M (K.cL dc h 6))
    = M (K.dig (K.LL dc h)) := by
  simp only [k0_pay126, pay124, mulf_E2]; rfl
theorem pay127 : k0_pay127 (F := Ideal) (C fun r _ => K.ma r) (M K.a) (M fun r j => 1 / 2 / K.be r j) (M fun r j => K.ig r j * K.xc r j) (M (K.cA 1)) (M (K.cL dc h 6))
    = M (K.w14 (K.LL dc h)) := by
  simp only [k0_pay127, pay123, mulf_E2]; rfl
theorem pay128 : k0_pay128 (F := Ideal) (C fun r _ => K.ma r) (M K.a) (M fun r j => 1 - K.tt r j) (M fun r j => 1 / 2 / K.be r j) (M fun r j => K.ig r j * K.xc r j) (M (K.cA 1)) (M (K.cL dc h 6))
    = M (K.w19 (K.LL dc h)) := by
  simp only [k0_pay128, pay127]
  exact divf_E2 _ _ fun r _ j _ => K.tt_ne r j
theorem pay129 : k0_pay129 (F := Ideal) (C fun r _ => K.ma r) (M K.a) (M fun r j => -2 * K.tt r j) (M fun r j => 1 / ((1 - K.tt r j) * (1 - K.tt r j))) (M fun r j => 1 / 2 / K.be r j) (M fun r j => K.ig r j * K.xc r j) (M (K.cA 1)) (M (K.cL dc h 6))
    = M (K.w21 (K.LL dc h)) := by
  simp only [k0_pay129, pay127, broadcast_lit, lit_zero, broadcast_E2, mulf_E2, subf_E2]; rfl
theorem pay130 : k0_pay130 (F := Ideal)
    = M fun _ _ => -2 := by
  simp only [k0_pay130, broadcast_lit, lit_neg_two, broadcast_E2]
theorem pay131 : k0_pay131 (F := Ideal) (M K.a) (M fun r j => (1 + K.tt r j) * (1 - K.tt r j)) (M fun r j => L r j * hp r j) (M (K.w19 L)) (M (K.w21 L)) (M fun _ _ => -2)
    = M (K.dla hp L) := by
  simp only [k0_pay131, broadcast_lit, lit_half, lit_two, broadcast_E2, mulf_E2, addf_E2]
  exact E2_congr fun r _ j _ => K.dla_eq hp L r j
theorem pay132 : k0_pay132 (F := Ideal) (M fun r j => -8 * K.rg r j) (R fun _ j => K.dsp j) (M K.a) (M fun r j => (1 + K.tt r j) * (1 - K.tt r j)) (M fun r j => L r j * hp r j) (M (K.w19 L)) (M (K.w21 L)) (M fun _ _ => -2)
    = R fun _ j => 0 - (∑ r ∈ Finset.range 192, K.dlr hp L r j) * K.dsp j := by
  simp only [k0_pay132, pay131, mulf_E2, broadcast_lit, lit_zero, broadcast_E2]
  erw [ks_0]
  rw [cast_1_row, mulf_E2, subf_E2]; rfl
theorem pay133 : k0_pay133 (F := Ideal) (M fun r j => K.ig r j * (1 - K.ig r j)) (M (K.dig L))
    = M (K.dzi L) := by
  simp only [k0_pay133, mulf_E2]; rfl
theorem pay134 : k0_pay134 (F := Ideal) (M fun r j => K.ig r j * (1 - K.ig r j)) (M (K.dig L))
    = R fun _ j => ∑ r ∈ Finset.range 192, K.dzi L r j := by
  simp only [k0_pay134, pay133]
  erw [ks_0]
  rw [cast_1_row]
theorem pay135 : k0_pay135 (F := Ideal) (M K.xc) (M fun r j => K.ig r j * (1 - K.ig r j)) (M (K.dig L))
    = Q fun i j => ∑ r ∈ Finset.range 192, K.xc r i * K.dzi L r j := by
  simp only [k0_pay135, pay133, truncf_E2, matmul_ideal, constant_lit, lit_zero, broadcast_E2, mm_00]
theorem pay136 : k0_pay136 (F := Ideal) (M fun r j => K.rg r j * (1 - K.rg r j)) (R fun _ j => K.sp j) (M K.a) (M fun r j => (1 + K.tt r j) * (1 - K.tt r j)) (M fun r j => L r j * hp r j) (M (K.w19 L)) (M (K.w21 L)) (M fun _ _ => -2)
    = M (K.dza hp L) := by
  simp only [k0_pay136, pay131, bto_row, broadcast_lit, lit_neg_eight, broadcast_E2, mulf_E2]; rfl
theorem pay137 : k0_pay137 (F := Ideal) (M fun r j => K.rg r j * (1 - K.rg r j)) (R fun _ j => K.sp j) (M K.a) (M fun r j => (1 + K.tt r j) * (1 - K.tt r j)) (M fun r j => L r j * hp r j) (M (K.w19 L)) (M (K.w21 L)) (M fun _ _ => -2)
    = R fun _ j => ∑ r ∈ Finset.range 192, K.dza hp L r j := by
  simp only [k0_pay137, pay136]
  erw [ks_0]
  rw [cast_1_row]
theorem pay138 : k0_pay138 (F := Ideal) (M K.xc) (M fun r j => K.rg r j * (1 - K.rg r j)) (R fun _ j => K.sp j) (M K.a) (M fun r j => (1 + K.tt r j) * (1 - K.tt r j)) (M fun r j => L r j * hp r j) (M (K.w19 L)) (M (K.w21 L)) (M fun _ _ => -2)
    = Q fun i j => ∑ r ∈ Finset.range 192, K.xc r i * K.dza hp L r j := by
  simp only [k0_pay138, pay136, truncf_E2, matmul_ideal, constant_lit, lit_zero, broadcast_E2, mm_00]
theorem pay139 : k0_pay139 (F := Ideal) (Q K.wa) (Q K.wi) (M fun r j => K.rg r j * (1 - K.rg r j)) (M fun r j => K.ig r j * (1 - K.ig r j)) (R fun _ j => K.sp j) (M K.a) (M fun r j => (1 + K.tt r j) * (1 - K.tt r j)) (M fun r j => L r j * hp r j) (M fun r j => K.ig r j * (K.be r j * K.lm L r j)) (M (K.dig L)) (M (K.w19 L)) (M (K.w21 L)) (M fun _ _ => -2)
    = M (K.dxc hp L) := by
  simp only [k0_pay139, pay133, pay136, truncf_E2, matmul_ideal, constant_lit, lit_zero, broadcast_E2, mm_11, addf_E2]; rfl
theorem pay140 : k0_pay140 (F := Ideal) (Q K.wa) (Q K.wi) (M fun r j => K.rg r j * (1 - K.rg r j)) (M fun r j => K.ig r j * (1 - K.ig r j)) (R fun _ j => K.sp j) (M K.a) (M fun r j => (1 + K.tt r j) * (1 - K.tt r j)) (M fun r j => L r j * hp r j) (M fun r j => K.ig r j * (K.be r j * K.lm L r j)) (M (K.dig L)) (M (K.w19 L)) (M (K.w21 L)) (M fun _ _ => -2)
    = R fun _ j => ∑ r ∈ Finset.range 192, K.dxc hp L r j := by
  simp only [k0_pay140, pay139]
  erw [ks_0]
  rw [cast_1_row]
theorem pay141 : k0_pay141 (F := Ideal) (Q K.wa) (Q K.wi) (R fun _ j => K.cw 3 j) (M fun r j => K.rg r j * (1 - K.rg r j)) (M fun r j => K.ig r j * (1 - K.ig r j)) (R fun _ j => K.sp j) (M K.a) (M fun r j => (1 + K.tt r j) * (1 - K.tt r j)) (M fun r j => L r j * hp r j) (M fun r j => K.ig r j * (K.be r j * K.lm L r j)) (M (K.dig L)) (M (K.w19 L)) (M (K.w21 L)) (M fun _ _ => -2)
    = M fun r j => K.cw 3 j * K.dxc hp L r j := by
  simp only [k0_pay141, pay139, bto_row, mulf_E2]
theorem pay142 : k0_pay142 (F := Ideal) (Q K.wa) (Q K.wi) (M fun r j => K.ue (r + 8) j) (M fun r j => K.rg r j * (1 - K.rg r j)) (M fun r j => K.ig r j * (1 - K.ig r j)) (R fun _ j => K.sp j) (M K.a) (M fun r j => (1 + K.tt r j) * (1 - K.tt r j)) (M fun r j => L r j * hp r j) (M fun r j => K.ig r j * (K.be r j * K.lm L r j)) (M (K.dig L)) (M (K.w19 L)) (M (K.w21 L)) (M fun _ _ => -2)
    = R fun _ j => ∑ r ∈ Finset.range 192, K.dxc hp L r j * K.ue (r + 8) j := by
  simp only [k0_pay142, pay139, mulf_E2]
  erw [ks_0]
  rw [cast_1_row]
theorem pay143 : k0_pay143 (F := Ideal) (R fun _ j => K.cw 0 j) (R fun _ j => K.cw 1 j) (R fun _ j => K.cw 2 j) (M (K.dxc hp L)) (M fun r j => K.cw 3 j * K.dxc hp L r j) (Scalar.ofBits (F := Ideal) .f32 0x00000000#32)
    = E2 200 512 (K.du hp L) := by
  simp only [k0_pay143, bto_row, mulf_E2, cat2_eq, broadcast_lit, lit_zero, broadcast_E2, cat2_E2, addf_E2]; rfl
theorem pay144 : k0_pay144 (F := Ideal) (M fun r j => K.ue (r + 5) j) (M fun r j => K.ue (r + 6) j) (M fun r j => K.ue (r + 7) j) (M (K.dxc hp L)) (R fun _ j => ∑ r ∈ Finset.range 192, K.dxc hp L r j * K.ue (r + 8) j)
    = E2 4 512 (K.dcw hp L) := by
  simp only [k0_pay144, mulf_E2, cat2_eq]
  erw [ks_0, ks_0, ks_0]
  simp only [cast_1_row, broadcast_lit, lit_zero, broadcast_E2, cat2_E2, addf_E2]
  exact E2_congr fun r hr j _ => K.dcw_eq hp L r j hr
theorem pay145 : k0_pay145 (F := Ideal) (R fun _ j => K.cw 0 j) (R fun _ j => K.cw 1 j) (R fun _ j => K.cw 2 j) (M (K.dxc hp L)) (M fun r j => K.cw 3 j * K.dxc hp L r j) (Scalar.ofBits (F := Ideal) .f32 0x00000000#32)
    = E2 8 512 (K.du hp L) := by
  simp only [k0_pay145, pay143, slice_E2]; rfl
theorem pay146 : k0_pay146 (F := Ideal) (R fun _ j => K.cw 0 j) (R fun _ j => K.cw 1 j) (R fun _ j => K.cw 2 j) (M (tin dt)) (M (K.dxc hp L)) (M fun r j => K.cw 3 j * K.dxc hp L r j) (Scalar.ofBits (F := Ideal) .f32 0x00000000#32)
    = M fun r j => tin dt r j + K.du hp L (r + 8) j := by
  simp only [k0_pay146, pay143, slice_E2, addf_E2]; rfl
theorem pay147 (f : ℕ → ℕ → ℕ → ℝ) (g : ℕ → ℕ → ℝ) : k0_pay147 (F := Ideal) (E2 4 512 g) (E3 1 4 512 f)
    = E3 1 4 512 fun _ i j => f 0 i j + g i j := by
  simp only [k0_pay147, cast_3_2, addf_E2, cast_2_3]
theorem pay148 (f : ℕ → ℕ → ℕ → ℝ) (g : ℕ → ℕ → ℝ) : k0_pay148 (F := Ideal) (R g) (E3 1 1 512 f)
    = E3 1 1 512 fun _ i j => f 0 i j + g i j := by
  simp only [k0_pay148, cast_3_2, addf_E2, cast_2_3]
theorem pay149 (f : ℕ → ℕ → ℕ → ℝ) (g : ℕ → ℕ → ℝ) : k0_pay149 (F := Ideal) (Q g) (E3 1 512 512 f)
    = E3 1 512 512 fun _ i j => f 0 i j + g i j := by
  simp only [k0_pay149, cast_3_2, addf_E2, cast_2_3]
theorem pay150 (f : ℕ → ℕ → ℕ → ℝ) (g : ℕ → ℕ → ℝ) : k0_pay150 (F := Ideal) (R g) (E3 1 1 512 f)
    = E3 1 1 512 fun _ i j => f 0 i j + g i j := by
  simp only [k0_pay150, cast_3_2, addf_E2, cast_2_3]
theorem pay151 (f : ℕ → ℕ → ℕ → ℝ) (g : ℕ → ℕ → ℝ) : k0_pay151 (F := Ideal) (Q g) (E3 1 512 512 f)
    = E3 1 512 512 fun _ i j => f 0 i j + g i j := by
  simp only [k0_pay151, cast_3_2, addf_E2, cast_2_3]
theorem pay152 (f : ℕ → ℕ → ℕ → ℝ) (g : ℕ → ℕ → ℝ) : k0_pay152 (F := Ideal) (R g) (E3 1 1 512 f)
    = E3 1 1 512 fun _ i j => f 0 i j + g i j := by
  simp only [k0_pay152, cast_3_2, addf_E2, cast_2_3]
theorem pay153 (f : ℕ → ℕ → ℕ → ℝ) (g : ℕ → ℕ → ℝ) : k0_pay153 (F := Ideal) (R g) (E3 1 1 512 f)
    = E3 1 1 512 fun _ i j => f 0 i j + g i j := by
  simp only [k0_pay153, cast_3_2, addf_E2, cast_2_3]
theorem pay154 (f : ℕ → ℕ → ℕ → ℝ) (g : ℕ → ℕ → ℝ) : k0_pay154 (F := Ideal) (R g) (E3 1 1 512 f)
    = E3 1 1 512 fun _ i j => f 0 i j + g i j := by
  simp only [k0_pay154, cast_3_2, addf_E2, cast_2_3]
theorem pay155 (x : FVec Ideal S8x512 .f32) : k0_pay155 (F := Ideal) x
    = x := by
  simp only [k0_pay155, cast_same]

theorem pay1 (x : FVec Ideal S1x512 .f32) : k0_pay1 x = x := by simp only [k0_pay1, cast_same]
theorem pay2 : k0_pay2 (F := Ideal) = E2 8 512 fun _ _ => 0 := by simp only [k0_pay2, broadcast_lit, lit_zero, broadcast_E2, cast_same]
theorem pay3 : k0_pay3 (F := Ideal) = R fun _ _ => 0 := by simp only [k0_pay3, broadcast_lit, lit_zero, broadcast_E2, cast_same]
theorem pay4 : k0_pay4 (F := Ideal) = E3 1 4 512 fun _ _ _ => 0 := by simp only [k0_pay4, broadcast_lit, lit_zero, broadcast_E2, cast_2_3]
theorem pay6 : k0_pay6 (F := Ideal) = E3 1 512 512 fun _ _ _ => 0 := by simp only [k0_pay6, broadcast_lit, lit_zero, broadcast_E2, cast_2_3]
theorem pay8 : k0_pay8 (F := Ideal) = E3 1 512 512 fun _ _ _ => 0 := by simp only [k0_pay8, broadcast_lit, lit_zero, broadcast_E2, cast_2_3]
theorem pay5 : k0_pay5 (F := Ideal) = E3 1 1 512 fun _ _ _ => 0 := by simp only [k0_pay5, broadcast_lit, lit_zero, broadcast_E2, cast_2_3]
theorem pay7 : k0_pay7 (F := Ideal) = E3 1 1 512 fun _ _ _ => 0 := by simp only [k0_pay7, broadcast_lit, lit_zero, broadcast_E2, cast_2_3]
theorem pay9 : k0_pay9 (F := Ideal) = E3 1 1 512 fun _ _ _ => 0 := by simp only [k0_pay9, broadcast_lit, lit_zero, broadcast_E2, cast_2_3]
theorem pay10 : k0_pay10 (F := Ideal) = E3 1 1 512 fun _ _ _ => 0 := by simp only [k0_pay10, broadcast_lit, lit_zero, broadcast_E2, cast_2_3]
theorem pay11 : k0_pay11 (F := Ideal) = E3 1 1 512 fun _ _ _ => 0 := by simp only [k0_pay11, broadcast_lit, lit_zero, broadcast_E2, cast_2_3]
theorem pay12 (x : FVec Ideal S1x512 .f32) : k0_pay12 x = x := by simp only [k0_pay12, cast_same]
theorem pay13 (x : FVec Ideal S512x512 .f32) : k0_pay13 x = x := by simp only [k0_pay13, cast_same]
theorem pay14 (x : FVec Ideal S1x512 .f32) : k0_pay14 x = x := by simp only [k0_pay14, cast_same]
theorem pay15 (x : FVec Ideal S512x512 .f32) : k0_pay15 x = x := by simp only [k0_pay15, cast_same]
theorem pay16 (x : FVec Ideal S1x512 .f32) : k0_pay16 x = x := by simp only [k0_pay16, cast_same]
theorem pay17 (x : FVec Ideal S1x512 .f32) : k0_pay17 x = x := by simp only [k0_pay17, cast_same]
theorem pay18 (x : FVec Ideal S1x512 .f32) : k0_pay18 x = x := by simp only [k0_pay18, cast_same]
theorem pay19 (x : FVec Ideal S192x512 .f32) : k0_pay19 x = x := by simp only [k0_pay19, cast_same]
theorem pay20 (x : FVec Ideal S192x512 .f32) : k0_pay20 x = x := by simp only [k0_pay20, cast_same]
theorem pay21 (f : ℕ → ℕ → ℕ → ℕ → ℝ) : k0_pay21 (F := Ideal) (E4 1 1 8 512 f) = E2 8 512 fun i j => f 0 0 i j := by
  simp only [k0_pay21, cast_4_2]
theorem pay22 (f : ℕ → ℕ → ℕ → ℕ → ℝ) : k0_pay22 (F := Ideal) (E4 1 1 1 512 f) = R fun i j => f 0 0 i j := by
  simp only [k0_pay22, cast_4_2]

end Cert.Emb
-- ==== Proof.Glob.lean ====
/- The layer on all its rows, and how a chunk of rows and the rows behind the front padding sit in it. -/
module

public import proofs.«01_k».proof.Proof.Body4

@[expose] public section

noncomputable section

namespace Cert.Emb

namespace Rows

variable (X : Rows)

/-- The states. -/
def H (p j : ℕ) : ℝ := sq (fun q => X.a q j) (fun q => X.bm q j) p
/-- The states one row earlier. -/
def Hp (p j : ℕ) : ℝ := if p = 0 then 0 else X.H (p - 1) j
/-- The gradient at the recurrence's input, of the first `n + 1` rows; it runs from the last of them backwards. -/
def Lam (n p j : ℕ) : ℝ := sq (fun k => X.a (n + 1 - k) j) (fun k => X.gs X.H (n - k) j) (n - p)

theorem H_zero (j : ℕ) : X.H 0 j = X.bm 0 j := rfl
theorem H_succ (p j : ℕ) : X.H (p + 1) j = X.a (p + 1) j * X.H p j + X.bm (p + 1) j := rfl

theorem Lam_last (n j : ℕ) : X.Lam n n j = X.gs X.H n j := by
  unfold Lam; rw [Nat.sub_self]; rfl
theorem Lam_rec (n p j : ℕ) (h : p < n) : X.Lam n p j = X.gs X.H p j + X.a (p + 1) j * X.Lam n (p + 1) j := by
  unfold Lam
  obtain ⟨k, hk⟩ : ∃ k, n - p = k + 1 := ⟨n - p - 1, by omega⟩
  rw [hk, show n - (p + 1) = k by omega, sq, show n + 1 - (k + 1) = p + 1 by omega, show n - (k + 1) = p by omega, add_comm]

/-- The state before chunk `i`. -/
def h0 (i j : ℕ) : ℝ := if i = 0 then 0 else X.H (192 * i - 1) j
/-- The gradient carried into chunk `i` from the next one. -/
def dc (i j : ℕ) : ℝ := if i = 10 then 0 else X.a (192 * (i + 1)) j * X.Lam 2111 (192 * (i + 1)) j

/-- The rows of chunk `i`. -/
abbrev ch (i : ℕ) : Rows := X.shift (192 * i)
/-- The states one row earlier, in chunk `i`. -/
abbrev hpc (i : ℕ) : ℕ → ℕ → ℝ := (X.ch i).hp (X.h0 i)
/-- The gradient at the recurrence's input, in chunk `i`. -/
abbrev Lc (i : ℕ) : ℕ → ℕ → ℝ := (X.ch i).LL (X.dc i) ((X.ch i).hh (X.h0 i))

theorem hh_shift (i : ℕ) : (X.ch i).hh (X.h0 i) = fun r j => X.H (192 * i + r) j := by
  funext r j
  induction r with
  | zero =>
    show X.bm (192 * i + 0) j + (if 0 = 0 then 1 else 0) * (X.a (192 * i + 0) j * X.h0 i j) = _
    rw [if_pos rfl, h0]
    rcases Nat.eq_zero_or_pos i with rfl | h
    · simp [H_zero]
    · obtain ⟨k, hk⟩ : ∃ k, 192 * i = k + 1 := ⟨192 * i - 1, by omega⟩
      rw [if_neg h.ne', add_zero, hk, Nat.add_sub_cancel, H_succ]; ring
  | succ r ih =>
    show X.a (192 * i + (r + 1)) j * (X.ch i).hh (X.h0 i) r j
      + (X.bm (192 * i + (r + 1)) j + (if r + 1 = 0 then 1 else 0) * (X.a (192 * i + (r + 1)) j * X.h0 i j)) = _
    rw [ih, if_neg (by omega), ← Nat.add_assoc, H_succ]; ring

theorem hp_shift (i : ℕ) : X.hpc i = fun r j => X.Hp (192 * i + r) j := by
  funext r j
  simp only [hpc, hp, hh_shift, Hp]
  rcases Nat.eq_zero_or_pos r with rfl | h
  · rw [if_pos rfl, h0]
    by_cases hz : i = 0
    · rw [if_pos hz, if_pos (by omega)]
    · rw [if_neg hz, if_neg (by omega)]; rfl
  · rw [if_neg h.ne', if_neg (by omega), show 192 * i + (r - 1) = 192 * i + r - 1 by omega]

/-- The chunk's gradient at the recurrence's input is the whole one's, when the carry is. -/
theorem LL_shift (i : ℕ) (hi : i < 11) (r j : ℕ) (hr : r < 192) :
    X.Lc i r j = X.Lam 2111 (192 * i + r) j := by
  obtain ⟨k, hk⟩ : ∃ k, 191 - r = k := ⟨_, rfl⟩
  have e : ∀ r < 192, X.Lc i r j
      = ((if r < 191 then 0 else X.dc i j) + X.gs X.H (192 * i + r) j)
        + if r < 191 then X.a (192 * i + (r + 1)) j * X.Lc i (r + 1) j else 0 := by
    intro r hr
    refine (sL_rec _ _ r hr).trans ?_
    rw [gG, congrFun (congrFun (congrArg (X.ch i).gs (X.hh_shift i)) r) j]; rfl
  induction k generalizing r with
  | zero =>
    obtain rfl : r = 191 := by omega
    rw [e 191 (by omega), if_neg (by omega), if_neg (by omega), dc, add_zero]
    by_cases h : i = 10
    · rw [if_pos h, h, zero_add]; exact (X.Lam_last 2111 j).symm
    · rw [if_neg h, X.Lam_rec 2111 (192 * i + 191) j (by omega), show 192 * i + 191 + 1 = 192 * (i + 1) by omega, add_comm]
  | succ k ih =>
    rw [e r hr, if_pos (by omega), if_pos (by omega), ih (r + 1) (by omega) (by omega), zero_add,
      X.Lam_rec 2111 (192 * i + r) j (by omega)]; rfl

/-- The gradient at the convolution, zero behind the `n` rows. -/
def D (n p j : ℕ) : ℝ := if p < n + 1 then X.dxc X.Hp (X.Lam n) p j else 0
/-- The gradient at the recurrent branch's rows. -/
def Du (n p j : ℕ) : ℝ :=
  X.cw 3 j * X.D n p j + X.cw 2 j * X.D n (p + 1) j + X.cw 1 j * X.D n (p + 2) j + X.cw 0 j * X.D n (p + 3) j

/-- The gradient of the rows' tail before chunk `i`. -/
def dt (i q j : ℕ) : ℝ :=
  if i = 10 then 0 else (X.ch (i + 1)).du (X.hpc (i + 1)) (X.Lc (i + 1)) q j

section Chunk
variable (i : ℕ) (hi : i < 11)

include hi

theorem dzi_shift (r j : ℕ) (hr : r < 192) : (X.ch i).dzi (X.Lc i) r j = X.dzi (X.Lam 2111) (192 * i + r) j := by
  unfold dzi dig lm; rw [X.LL_shift i hi r j hr]; rfl
theorem dla_shift (r j : ℕ) (hr : r < 192) : (X.ch i).dla (X.hpc i) (X.Lc i) r j = X.dla X.Hp (X.Lam 2111) (192 * i + r) j := by
  unfold dla lm; rw [X.LL_shift i hi r j hr, X.hp_shift]; rfl
theorem dlr_shift (r j : ℕ) (hr : r < 192) : (X.ch i).dlr (X.hpc i) (X.Lc i) r j = X.dlr X.Hp (X.Lam 2111) (192 * i + r) j := by
  unfold dlr; rw [X.dla_shift i hi r j hr]; rfl
theorem dza_shift (r j : ℕ) (hr : r < 192) : (X.ch i).dza (X.hpc i) (X.Lc i) r j = X.dza X.Hp (X.Lam 2111) (192 * i + r) j := by
  unfold dza; rw [X.dla_shift i hi r j hr]; rfl
theorem dxc_shift (r j : ℕ) (hr : r < 192) : (X.ch i).dxc (X.hpc i) (X.Lc i) r j = X.dxc X.Hp (X.Lam 2111) (192 * i + r) j := by
  unfold dxc lm; rw [X.LL_shift i hi r j hr]
  simp only [X.dzi_shift i hi r _ hr, X.dza_shift i hi r _ hr]; rfl
theorem dxc_D (r j : ℕ) (hr : r < 192) : (X.ch i).dxc (X.hpc i) (X.Lc i) r j = X.D 2111 (192 * i + r) j := by
  rw [D, if_pos (by omega), X.dxc_shift i hi r j hr]
omit hi in
theorem dnr_shift (r j : ℕ) : (X.ch i).dnr ((X.ch i).hh (X.h0 i)) r j = X.dnr X.H (192 * i + r) j := by
  rw [X.hh_shift]; rfl
omit hi in
theorem dg_shift (r j : ℕ) : (X.ch i).dg ((X.ch i).hh (X.h0 i)) r j = X.dg X.H (192 * i + r) j := by
  rw [X.hh_shift]; rfl

/-- The carried gradient of the state that chunk `i` leaves. -/
theorem dc_step (j : ℕ) (h : 0 < i) : (X.ch i).a 0 j * (X.Lc i) 0 j = X.dc (i - 1) j := by
  rw [X.LL_shift i hi 0 j (by omega), dc, if_neg (by omega), show i - 1 + 1 = i by omega]; rfl

/-- The gradient of the rows' tail that chunk `i` leaves. -/
theorem dt_step (q j : ℕ) (h : 0 < i) : (X.ch i).du (X.hpc i) (X.Lc i) q j = X.dt (i - 1) q j := by
  rw [dt, if_neg (by omega), show i - 1 + 1 = i by omega]

/-- The tail's gradient in the whole rows' words. -/
theorem dt_eq (q j : ℕ) (hq : q < 8) :
    X.dt i q j = (if q < 7 then 0 else X.cw 2 j * X.D 2111 (192 * i + 185 + q) j)
      + (if q < 6 then 0 else X.cw 1 j * X.D 2111 (192 * i + 186 + q) j)
      + if q < 5 then 0 else X.cw 0 j * X.D 2111 (192 * i + 187 + q) j := by
  rw [dt]
  by_cases h : i = 10
  · rw [if_pos h]
    have e : ∀ p, 192 * i + 192 ≤ p → X.D 2111 p j = 0 := fun p hq => by rw [D, if_neg (by omega)]
    by_cases h7 : q < 7
    · by_cases h6 : q < 6
      · by_cases h5 : q < 5
        · simp [h7, h6, h5]
        · rw [if_pos h7, if_pos h6, if_neg h5, e _ (by omega)]; ring
      · rw [if_pos h7, if_neg h6, if_neg (by omega), e _ (by omega), e _ (by omega)]; ring
    · rw [if_neg h7, if_neg (by omega), if_neg (by omega), e _ (by omega), e _ (by omega), e _ (by omega)]; ring
  · have hi' : i + 1 < 11 := by omega
    rw [if_neg h, du, if_pos hq, if_pos (show q < 199 by omega), if_pos (show q < 198 by omega), if_pos (show q < 197 by omega), zero_add]
    congr 1
    · congr 1
      · split_ifs with h7
        · rfl
        · rw [X.dxc_D (i + 1) hi' _ j (by omega), show 192 * (i + 1) + (q - 7) = 192 * i + 185 + q by omega]; rfl
      · split_ifs with h7
        · rfl
        · rw [X.dxc_D (i + 1) hi' _ j (by omega), show 192 * (i + 1) + (q - 6) = 192 * i + 186 + q by omega]; rfl
    · split_ifs with h7
      · rfl
      · rw [X.dxc_D (i + 1) hi' _ j (by omega), show 192 * (i + 1) + (q - 5) = 192 * i + 187 + q by omega]; rfl

/-- The recurrent branch's gradient in one chunk. -/
theorem du_shift (r j : ℕ) (hr : r < 192) :
    tin (X.dt i) r j + (X.ch i).du (X.hpc i) (X.Lc i) (r + 8) j = X.Du 2111 (192 * i + r) j := by
  have e3 : (if r + 8 < 8 then 0 else (X.ch i).cw 3 j * (X.ch i).dxc (X.hpc i) (X.Lc i) (r + 8 - 8) j) = X.cw 3 j * X.D 2111 (192 * i + r) j := by
    rw [if_neg (by omega), Nat.add_sub_cancel, X.dxc_D i hi r j hr]; rfl
  have e (s : ℕ) (w : ℝ) (h : r + s < 192) : w * (X.ch i).dxc (X.hpc i) (X.Lc i) (r + s) j = w * X.D 2111 (192 * i + r + s) j := by
    rw [X.dxc_D i hi _ j h, Nat.add_assoc]
  rw [du, e3, Du, tin, show r + 8 - 7 = r + 1 by omega, show r + 8 - 6 = r + 2 by omega, show r + 8 - 5 = r + 3 by omega,
    if_neg (show ¬ r + 8 < 7 by omega), if_neg (show ¬ r + 8 < 6 by omega), if_neg (show ¬ r + 8 < 5 by omega)]
  by_cases h1 : r < 189
  · rw [if_pos (show r + 8 < 199 by omega), if_pos (show r + 8 < 198 by omega), if_pos (show r + 8 < 197 by omega),
      e 1 _ (by omega), e 2 _ (by omega), e 3 _ (by omega)]
    by_cases h2 : r < 184
    · rw [if_pos h2, zero_add]; rfl
    · rw [if_neg h2, X.dt_eq i hi _ j (by omega), if_pos (by omega), if_pos (by omega), if_pos (by omega)]
      simp only [add_zero, zero_add]; rfl
  · obtain ⟨q, hq⟩ : ∃ q, r - 184 = q := ⟨_, rfl⟩
    rw [if_neg (show ¬ r < 184 by omega), hq, X.dt_eq i hi _ j (by omega), if_neg (show ¬ r + 8 < 197 by omega),
      show 192 * i + 185 + q = 192 * i + r + 1 by omega, show 192 * i + 186 + q = 192 * i + r + 2 by omega,
      show 192 * i + 187 + q = 192 * i + r + 3 by omega, if_neg (show ¬ q < 5 by omega)]
    by_cases h2 : r < 190
    · rw [if_pos (show r + 8 < 199 by omega), if_pos (show r + 8 < 198 by omega), if_pos (show q < 7 by omega),
        if_pos (show q < 6 by omega), e 1 _ (by omega), e 2 _ (by omega)]
      show _ + (_ + X.cw 2 j * _ + X.cw 1 j * _ + _) = _
      ring
    · rw [if_neg (show ¬ r + 8 < 198 by omega), if_neg (show ¬ q < 6 by omega)]
      by_cases h3 : r < 191
      · rw [if_pos (show r + 8 < 199 by omega), if_pos (show q < 7 by omega), e 1 _ (by omega)]
        show _ + (_ + X.cw 2 j * _ + _ + _) = _
        ring
      · rw [if_neg (show ¬ r + 8 < 199 by omega), if_neg (show ¬ q < 7 by omega)]
        ring

end Chunk

/-- The sum of `f` over the rows of the first `n` chunks counted from the last one. -/
def acc (f : ℕ → ℝ) (n : ℕ) : ℝ := ∑ k ∈ Finset.range n, ∑ r ∈ Finset.range 192, f (192 * (10 - k) + r)

theorem acc_succ (f : ℕ → ℝ) (n : ℕ) : acc f (n + 1) = acc f n + ∑ r ∈ Finset.range 192, f (192 * (10 - n) + r) :=
  Finset.sum_range_succ _ _

theorem sum_chunks (f : ℕ → ℝ) (n : ℕ) :
    ∑ i ∈ Finset.range n, ∑ r ∈ Finset.range 192, f (192 * i + r) = ∑ p ∈ Finset.range (192 * n), f p := by
  induction n with
  | zero => simp
  | succ n ih => rw [Finset.sum_range_succ, ih, Nat.mul_succ, Finset.sum_range_add]

theorem acc_all (f : ℕ → ℝ) : acc f 11 = ∑ p ∈ Finset.range 2112, f p := by
  unfold acc
  rw [Finset.sum_range_reflect (fun i => ∑ r ∈ Finset.range 192, f (192 * i + r)) 11]
  exact sum_chunks f 11

/-! The rows behind the padding. -/
section Pad
variable (hm : ∀ p < 48, X.ma p = 0) (h1 : ∀ p, X.ma (48 + p) = 1)

include hm in
theorem H_pad (p j : ℕ) (hp : p < 48) : X.H p j = 0 := by
  induction p with
  | zero => rw [H_zero, bm, hm 0 hp, mul_zero]
  | succ p ih => rw [H_succ, ih (by omega), bm, hm _ hp]; ring

include hm in
theorem Hp_pad (p j : ℕ) (hp : p < 49) : X.Hp p j = 0 := by
  rw [Hp]; split_ifs with h
  · rfl
  · exact X.H_pad hm _ j (by omega)

include hm in
theorem H_tail : (fun p j => X.H (48 + p) j) = (X.shift 48).H := by
  funext p j
  induction p with
  | zero => rw [H_zero, show 48 + 0 = 47 + 1 from rfl, H_succ, X.H_pad hm 47 j (by omega), mul_zero, zero_add]; rfl
  | succ p ih => rw [H_succ, ← ih, ← Nat.add_assoc, H_succ]; rfl

include hm in
theorem Hp_tail : (fun p j => X.Hp (48 + p) j) = (X.shift 48).Hp := by
  funext p j
  rcases p with _ | p
  · exact X.Hp_pad hm 48 j (by omega)
  · rw [Hp, Hp, if_neg (by omega), if_neg (by omega), show 48 + (p + 1) - 1 = 48 + p by omega, Nat.add_sub_cancel,
      ← congrFun (congrFun (X.H_tail hm) p) j]

include hm in
theorem Lam_tail (p j : ℕ) (hp : p < 2064) : X.Lam 2111 (48 + p) j = (X.shift 48).Lam 2063 p j := by
  obtain ⟨k, hk⟩ : ∃ k, 2063 - p = k := ⟨_, rfl⟩
  have eg (p : ℕ) : X.gs X.H (48 + p) j = (X.shift 48).gs (X.shift 48).H p j := by rw [← X.H_tail hm]; rfl
  induction k generalizing p with
  | zero =>
    obtain rfl : p = 2063 := by omega
    exact (X.Lam_last 2111 j).trans ((eg 2063).trans ((X.shift 48).Lam_last 2063 j).symm)
  | succ k ih =>
    rw [X.Lam_rec 2111 (48 + p) j (by omega), (X.shift 48).Lam_rec 2063 p j (by omega), eg, Nat.add_assoc,
      ih (p + 1) (by omega) (by omega)]; rfl

include hm in
theorem dzi_tail (p j : ℕ) (hp : p < 2064) :
    X.dzi (X.Lam 2111) (48 + p) j = (X.shift 48).dzi ((X.shift 48).Lam 2063) p j := by
  unfold dzi dig lm; rw [X.Lam_tail hm p j hp]; rfl
include hm in
theorem dla_tail (p j : ℕ) (hp : p < 2064) :
    X.dla X.Hp (X.Lam 2111) (48 + p) j = (X.shift 48).dla (X.shift 48).Hp ((X.shift 48).Lam 2063) p j := by
  unfold dla lm; rw [X.Lam_tail hm p j hp, ← X.Hp_tail hm]; rfl
include hm in
theorem dza_tail (p j : ℕ) (hp : p < 2064) :
    X.dza X.Hp (X.Lam 2111) (48 + p) j = (X.shift 48).dza (X.shift 48).Hp ((X.shift 48).Lam 2063) p j := by
  unfold dza; rw [X.dla_tail hm p j hp]; rfl
include hm in
theorem dlr_tail (p j : ℕ) (hp : p < 2064) :
    X.dlr X.Hp (X.Lam 2111) (48 + p) j = (X.shift 48).dlr (X.shift 48).Hp ((X.shift 48).Lam 2063) p j := by
  unfold dlr; rw [X.dla_tail hm p j hp]; rfl
include hm in
theorem dxc_tail (p j : ℕ) (hp : p < 2064) :
    X.dxc X.Hp (X.Lam 2111) (48 + p) j = (X.shift 48).dxc (X.shift 48).Hp ((X.shift 48).Lam 2063) p j := by
  unfold dxc lm; rw [X.Lam_tail hm p j hp]
  simp only [X.dzi_tail hm p _ hp, X.dza_tail hm p _ hp]; rfl
include hm in
theorem dnr_tail (p j : ℕ) : X.dnr X.H (48 + p) j = (X.shift 48).dnr (X.shift 48).H p j := by
  rw [← X.H_tail hm]; rfl
include hm in
theorem dg_tail (p j : ℕ) : X.dg X.H (48 + p) j = (X.shift 48).dg (X.shift 48).H p j := by
  rw [← X.H_tail hm]; rfl

include hm in
theorem dzi_pad (L : ℕ → ℕ → ℝ) (p j : ℕ) (hp : p < 48) : X.dzi L p j = 0 := by
  unfold dzi dig lm; rw [hm p hp]; ring
include hm in
theorem dla_pad (L : ℕ → ℕ → ℝ) (p j : ℕ) (hp : p < 48) : X.dla X.Hp L p j = 0 := by
  unfold dla lm; rw [hm p hp, X.Hp_pad hm p j (by omega)]; ring
include hm in
theorem dza_pad (L : ℕ → ℕ → ℝ) (p j : ℕ) (hp : p < 48) : X.dza X.Hp L p j = 0 := by
  unfold dza; rw [X.dla_pad hm L p j hp]; ring
include hm in
theorem dlr_pad (L : ℕ → ℕ → ℝ) (p j : ℕ) (hp : p < 48) : X.dlr X.Hp L p j = 0 := by
  unfold dlr; rw [X.dla_pad hm L p j hp]; ring
include hm in
theorem dxc_pad (L : ℕ → ℕ → ℝ) (p j : ℕ) (hp : p < 48) : X.dxc X.Hp L p j = 0 := by
  unfold dxc lm; rw [hm p hp]
  simp only [X.dzi_pad hm L p _ hp, X.dza_pad hm L p _ hp]; simp
include hm in
theorem dnr_pad (h : ℕ → ℕ → ℝ) (p j : ℕ) (hp : p < 48) : X.dnr h p j = 0 := by
  unfold dnr dm; rw [hm p hp]; ring
include hm in
theorem dg_pad (h : ℕ → ℕ → ℝ) (p j : ℕ) (hp : p < 48) : X.dg h p j = 0 := by
  have e (j : ℕ) : X.dn p j = 0 := by unfold dn dm; rw [hm p hp]; ring
  have q : X.dq h p = 0 := by unfold dq; simp only [e]; simp
  unfold dg dy; rw [e, q]; ring

/-- A sum over all rows whose padding adds nothing. -/
theorem sum_tail (f g : ℕ → ℝ) (h0 : ∀ p < 48, f p = 0) (h : ∀ p < 2064, f (48 + p) = g p) :
    ∑ p ∈ Finset.range 2112, f p = ∑ p ∈ Finset.range 2064, g p := by
  rw [show 2112 = 48 + 2064 from rfl, Finset.sum_range_add, Finset.sum_eq_zero (fun p hp => h0 p (Finset.mem_range.1 hp)), zero_add]
  exact Finset.sum_congr rfl fun p hp => h p (Finset.mem_range.1 hp)

end Pad

end Rows

end Cert.Emb
-- ==== Proof.Inp.lean ====
/- The arguments as real numbers and the rows they give. -/
module

public import proofs.«01_k».proof.Proof.Assoc
public import proofs.«01_k».proof.Proof.Glob

@[expose] public section

set_option maxRecDepth 16384

noncomputable section

namespace Cert.Emb

open Idealize.ShloMosaic

/-- The arguments: the projected rows, the convolution, the two gates' blocks and offsets, the decay parameter, the
normalisation's weight and the gradient of the result. -/
structure Inp where
  proj : ℕ → ℕ → ℝ
  cw : ℕ → ℕ → ℝ
  cb : ℕ → ℝ
  wa : ℕ → ℕ → ℕ → ℝ
  ba : ℕ → ℝ
  wi : ℕ → ℕ → ℕ → ℝ
  bi : ℕ → ℝ
  lam : ℕ → ℝ
  ng : ℕ → ℝ
  d : ℕ → ℕ → ℝ

/-- The matrix with the blocks `w` of 64 rows on its diagonal. -/
def blk (w : ℕ → ℕ → ℕ → ℝ) (i j : ℕ) : ℝ := if i / 64 = j / 64 then w (i / 64) (i % 64) (j % 64) else 0

namespace Inp
variable (P : Inp)

/-- The projected rows after 48 rows of zeros. -/
def pp (p j : ℕ) : ℝ := if p < 48 then 0 else P.proj (p - 48) j

/-- All 2112 rows. -/
def X : Rows where
  ue := fun q j => if q < 8 then 0 else P.pp (q - 8) j
  g := fun p j => P.pp p (j + 512)
  d := P.d
  ma := fun p => if p < 48 then 0 else 1
  cw := P.cw
  cb := P.cb
  wa := blk P.wa
  ba := P.ba
  wi := blk P.wi
  bi := P.bi
  lam := P.lam
  ng := P.ng

/-- The 2064 rows the layer works on. -/
def Y : Rows := P.X.shift 48

theorem ma_lt (p : ℕ) (hp : p < 48) : P.X.ma p = 0 := if_pos hp
theorem ma_ge (p : ℕ) : P.X.ma (48 + p) = 1 := if_neg (by omega)
theorem maY (p : ℕ) : P.Y.ma p = 1 := P.ma_ge p

theorem ueY (q j : ℕ) : P.Y.ue q j = P.pp (q + 40) j := by
  show (if 48 + q < 8 then 0 else P.pp (48 + q - 8) j) = _
  rw [if_neg (by omega), show 48 + q - 8 = q + 40 by omega]
theorem gY (p j : ℕ) : P.Y.g p j = P.pp (p + 48) (j + 512) := by
  rw [Nat.add_comm p]; rfl
theorem dY (p j : ℕ) : P.Y.d p j = P.d (p + 48) j := by
  rw [Nat.add_comm p]; rfl

theorem xcY (r j : ℕ) : P.Y.xc r j
    = P.cw 0 j * P.pp (r + 45) j + P.cw 1 j * P.pp (r + 46) j + P.cw 2 j * P.pp (r + 47) j + P.cw 3 j * P.pp (r + 48) j
      + P.cb j := by
  unfold Rows.xc
  simp only [ueY]
  rfl
theorem spY (j : ℕ) : P.Y.sp j = spl (-P.lam j) := by
  rw [Rows.sp, zero_sub]; rfl
theorem laY (r j : ℕ) : P.Y.la r j
    = -8 * sig ((∑ k ∈ Finset.range 512, P.Y.xc r k * blk P.wa k j) + P.ba j) * spl (-P.lam j) := by
  rw [Rows.la, spY]; rfl
theorem bmY (r j : ℕ) : P.Y.bm r j = P.Y.be r j * (P.Y.ig r j * P.Y.xc r j) := by rw [Rows.bm, maY, mul_one]

/-- The states follow the recurrence. -/
theorem followsY : Follows P.Y.a P.Y.bm 2064 P.Y.H := fun j => ⟨P.Y.H_zero j, fun i _ => P.Y.H_succ i j⟩
end Inp

section Layout
variable {n m l : ℕ}
theorem sitofp_zero : sitofp (F := Ideal) .f32 (constantI (⟨0, ![]⟩ : Shape) 32 0#32) = E0 0 := by
  funext i
  show ((((0#32 : BitVec 32).toInt : ℝ)) : EReal) = ((0 : ℝ) : EReal)
  norm_num
/-- Zero rows put before a matrix. -/
theorem pad_front (f : ℕ → ℕ → ℝ) (p : ℕ) (h : (⟨2, ![n, m]⟩ : Shape).Pads ![p, 0] ![0, 0] ![0, 0] ⟨2, ![l, m]⟩) (hu)
    (hl : l ≤ n + p) :
    pad (⟨2, ![l, m]⟩ : Shape) ![p, 0] ![0, 0] ![0, 0] (E2 n m f) (E0 0) h hu
      = E2 l m (fun i j => if i < p then 0 else f (i - p) j) := by
  rw [pad_E2]
  refine E2_congr fun i hi j _ => ?_
  have e : (i - p) / (0 + 1) = i - p := Nat.div_one _
  by_cases hp : i < p
  · rw [if_neg (by omega), if_pos hp]
  · rw [if_pos (by omega), if_neg hp, e]

/-- The blocks of 64 rows put on the diagonal by a product with the unit matrix. -/
theorem blk_mul (w : ℕ → ℕ → ℕ → ℝ) (h1 h2 h3 h4 h5 h6) :
    shapeCast (⟨2, ![512, 512]⟩ : Shape) (mulf (F := Ideal) (φ := .f32)
      (broadcastInDim (⟨4, ![8, 64, 8, 64]⟩ : Shape) (no_index ![0, 1, 2, 3]) h1
        (broadcastInDim (⟨4, ![8, 64, 1, 64]⟩ : Shape) (no_index ![0, 1, 3]) h2 (E3 8 64 64 w)))
      (broadcastInDim (⟨4, ![8, 64, 8, 64]⟩ : Shape) (no_index ![0, 1, 2, 3]) h3
        (broadcastInDim (⟨4, ![8, 1, 8, 1]⟩ : Shape) (no_index ![0, 2]) h4
          (uitofp (F := Ideal) .f32 (cmpi .eq (addi (iotaInDim (⟨2, ![8, 8]⟩ : Shape) 32 0)
            (broadcastInDim (⟨2, ![8, 8]⟩ : Shape) (no_index ![]) h5 (constantI (⟨0, ![]⟩ : Shape) 32 0#32)))
            (iotaInDim (⟨2, ![8, 8]⟩ : Shape) 32 1)))))) h6 = E2 512 512 (blk w) := by
  have hm : uitofp (F := Ideal) .f32 (cmpi .eq (addi (iotaInDim (⟨2, ![8, 8]⟩ : Shape) 32 0)
      (broadcastInDim (⟨2, ![8, 8]⟩ : Shape) (no_index ![]) h5 (constantI (⟨0, ![]⟩ : Shape) 32 0#32)))
      (iotaInDim (⟨2, ![8, 8]⟩ : Shape) 32 1)) = E2 8 8 (fun i j => if i = j then 1 else 0) := by
    funext i
    show (((IntOp.cmpi .eq (IntOp.addi (BitVec.ofNat 32 (i 0).val) 0#32) (BitVec.ofNat 32 (i 1).val)).toNat : ℝ) : EReal)
      = ((if (i 0).val = (i 1).val then (1 : ℝ) else 0 : ℝ) : EReal)
    have h0 : (i 0).val < 8 := (i 0).isLt
    have h1 : (i 1).val < 8 := (i 1).isLt
    generalize (i 0).val = a at *
    generalize (i 1).val = b at *
    interval_cases a <;> interval_cases b <;> norm_num [IntOp.cmpi, IntOp.addi] <;> rfl
  rw [hm]
  funext i
  have h0 : (i 0).val < 512 := (i 0).isLt
  have h1' : (i 1).val < 512 := (i 1).isLt
  rw [Pointwise.shapeCast_apply, Shape.reshapeEquiv_eq_of_vals h6 i
    (ix4 ⟨(i 0).val / 64, by omega⟩ ⟨(i 0).val % 64, by omega⟩ ⟨(i 1).val / 64, by omega⟩ ⟨(i 1).val % 64, by omega⟩) _ _
    (rowMajor_val4 _ (64 * (8 * 64)) (8 * 64) 64 rfl rfl rfl) (rowMajor_val2 i 512 rfl) (by
      show (i 0).val / 64 * (64 * (8 * 64)) + (i 0).val % 64 * (8 * 64) + (i 1).val / 64 * 64 + (i 1).val % 64
        = (i 0).val * 512 + (i 1).val
      omega)]
  show ((w ((i 0).val / 64) ((i 0).val % 64) ((i 1).val % 64) : ℝ) : EReal)
    * ((if (i 0).val / 64 = (i 1).val / 64 then (1 : ℝ) else 0 : ℝ) : EReal) = ((blk w (i 0).val (i 1).val : ℝ) : EReal)
  rw [← EReal.coe_mul, blk]
  split_ifs with h
  · rw [mul_one]
  · rw [mul_zero]
end Layout

end Cert.Emb
-- ==== Proof.Prefix.lean ====
/- What the kernel's host prepares for the launch, as functions of the arguments. -/
module

public import proofs.«01_k».proof.Proof.Inp
public import proofs.«01_k».proof.Proof.Gen.KernelIdeal.Launch
public import Idealize.ShloMosaic.Lib.StableHlo.RunRead

@[expose] public section

set_option maxRecDepth 16384

noncomputable section

namespace Cert.KernelIdeal.Prefix

open Idealize.ShloMosaic Cert.KernelIdeal Cert.KernelIdeal.Gen Cert.Emb

set_option maxHeartbeats 4000000 in
/-- The rows of the recurrence, computed by halving. -/
theorem scan_read (W : Valuation τ sig (Elt Ideal)) (A B : ℕ → ℕ → ℝ)
    (hA : W (no_index (Proc.devRef .tc main_v88)) = E2 2064 512 A)
    (hB : W (no_index (Proc.devRef .tc main_v95)) = E2 2064 512 B) :
    ∃ s, StableHlo.after (((hostOps0_4 (F := Ideal)).drop 12).take 306) W (Proc.devRef .tc main_v357) = E2 2064 512 s
      ∧ Follows A B 2064 s := by
  refine ⟨_, ?_, follows_up (K := 1032) (by norm_num) (follows_up (K := 516) (by norm_num)
    (follows_up (K := 258) (by norm_num) (follows_up (K := 129) (by norm_num) (follows_up (K := 64) (by norm_num)
    (follows_up (K := 32) (by norm_num) (follows_up (K := 16) (by norm_num) (follows_up (K := 8) (by norm_num)
    (follows_up (K := 4) (by norm_num) (follows_up (K := 2) (by norm_num) (follows_up (K := 1) (by norm_num)
    (follows_one _ _)))))))))))⟩
  after_reads_simp [hA, hB, const_E0 lit_zero, cat2_eq, down_A, down_B, up_even, up_odd]

/-- The host's arguments hold the real numbers of `P`. -/
structure Args (V : Valuation τ sig (Elt Ideal)) (P : Inp) : Prop where
  a0 : V (no_index (Proc.devRef .tc main_arg0)) = E2 2064 5376 P.proj
  a1 : V (no_index (Proc.devRef .tc main_arg1)) = E2 4 512 P.cw
  a2 : V (no_index (Proc.devRef .tc main_arg2)) = E1 512 P.cb
  a3 : V (no_index (Proc.devRef .tc main_arg3)) = E3 8 64 64 P.wa
  a4 : V (no_index (Proc.devRef .tc main_arg4)) = E1 512 P.ba
  a5 : V (no_index (Proc.devRef .tc main_arg5)) = E3 8 64 64 P.wi
  a6 : V (no_index (Proc.devRef .tc main_arg6)) = E1 512 P.bi
  a7 : V (no_index (Proc.devRef .tc main_arg7)) = E1 512 P.lam
  a8 : V (no_index (Proc.devRef .tc main_arg8)) = E1 512 P.ng
  a9 : V (no_index (Proc.devRef .tc main_arg9)) = E2 2112 512 P.d

/-- The rows of padding, at the buffers themselves. -/
abbrev padOps : List (HloOp τ sig (Elt Ideal)) :=
  [ StableHlo.unary main_c main_call0_v0 ((sitofp (F := Ideal) .f32) : (⟨S_, .i32⟩ : BufTy).Contents (Elt Ideal) → (⟨S_, .f32⟩ : BufTy).Contents (Elt Ideal)),
    StableHlo.binary main_arg0 main_call0_v0 main_v0 ((fun x v => pad S2112x5376 ![48, 0] ![0, 0] ![0, 0] x v pads_S2064x5376_S2112x5376_4800_000 h_S_) : (⟨S2064x5376, .f32⟩ : BufTy).Contents (Elt Ideal) → (⟨S_, .f32⟩ : BufTy).Contents (Elt Ideal) → (⟨S2112x5376, .f32⟩ : BufTy).Contents (Elt Ideal)) ]
theorem padOps_eq : padOps = hostOps0_1 := rfl
/-- The softplus, at the buffers themselves. -/
abbrev softOps : List (HloOp τ sig (Elt Ideal)) :=
  [ StableHlo.nullary main_call1_cst ((constant (F := Ideal) S_ .f32 0x00000000#32) : (⟨S_, .f32⟩ : BufTy).Contents (Elt Ideal)),
    StableHlo.unary main_call1_cst main_call1_v0 ((broadcastInDim S512 ![] bcast_S_S512) : (⟨S_, .f32⟩ : BufTy).Contents (Elt Ideal) → (⟨S512, .f32⟩ : BufTy).Contents (Elt Ideal)),
    StableHlo.binary main_v83 main_call1_v0 main_call1_v1 ((maximumf (F := Ideal) (φ := .f32)) : (⟨S512, .f32⟩ : BufTy).Contents (Elt Ideal) → (⟨S512, .f32⟩ : BufTy).Contents (Elt Ideal) → (⟨S512, .f32⟩ : BufTy).Contents (Elt Ideal)),
    StableHlo.unary main_call1_cst main_call1_v2 ((broadcastInDim S512 ![] bcast_S_S512) : (⟨S_, .f32⟩ : BufTy).Contents (Elt Ideal) → (⟨S512, .f32⟩ : BufTy).Contents (Elt Ideal)),
    StableHlo.binary main_v83 main_call1_v2 main_call1_v3 ((subf (F := Ideal) (φ := .f32)) : (⟨S512, .f32⟩ : BufTy).Contents (Elt Ideal) → (⟨S512, .f32⟩ : BufTy).Contents (Elt Ideal) → (⟨S512, .f32⟩ : BufTy).Contents (Elt Ideal)),
    StableHlo.binary main_call1_v3 main_call1_v3 main_call1_v4 ((cmpf (F := Ideal) (φ := .f32) .une) : (⟨S512, .f32⟩ : BufTy).Contents (Elt Ideal) → (⟨S512, .f32⟩ : BufTy).Contents (Elt Ideal) → (⟨S512, .i1⟩ : BufTy).Contents (Elt Ideal)),
    StableHlo.unary main_call1_cst main_call1_v5 ((broadcastInDim S512 ![] bcast_S_S512) : (⟨S_, .f32⟩ : BufTy).Contents (Elt Ideal) → (⟨S512, .f32⟩ : BufTy).Contents (Elt Ideal)),
    StableHlo.binary main_v83 main_call1_v5 main_call1_v6 ((addf (F := Ideal) (φ := .f32)) : (⟨S512, .f32⟩ : BufTy).Contents (Elt Ideal) → (⟨S512, .f32⟩ : BufTy).Contents (Elt Ideal) → (⟨S512, .f32⟩ : BufTy).Contents (Elt Ideal)),
    StableHlo.unary main_call1_v3 main_call1_v7 ((Host.absf (F := Ideal) (φ := .f32)) : (⟨S512, .f32⟩ : BufTy).Contents (Elt Ideal) → (⟨S512, .f32⟩ : BufTy).Contents (Elt Ideal)),
    StableHlo.unary main_call1_v7 main_call1_v8 ((Host.negf (F := Ideal) (φ := .f32)) : (⟨S512, .f32⟩ : BufTy).Contents (Elt Ideal) → (⟨S512, .f32⟩ : BufTy).Contents (Elt Ideal)),
    StableHlo.unary main_call1_v8 main_call1_v9 ((Host.exp (F := Ideal) (φ := .f32)) : (⟨S512, .f32⟩ : BufTy).Contents (Elt Ideal) → (⟨S512, .f32⟩ : BufTy).Contents (Elt Ideal)),
    StableHlo.unary main_call1_v9 main_call1_v10 ((Host.log1p (F := Ideal) (φ := .f32)) : (⟨S512, .f32⟩ : BufTy).Contents (Elt Ideal) → (⟨S512, .f32⟩ : BufTy).Contents (Elt Ideal)),
    StableHlo.binary main_call1_v1 main_call1_v10 main_call1_v11 ((addf (F := Ideal) (φ := .f32)) : (⟨S512, .f32⟩ : BufTy).Contents (Elt Ideal) → (⟨S512, .f32⟩ : BufTy).Contents (Elt Ideal) → (⟨S512, .f32⟩ : BufTy).Contents (Elt Ideal)),
    StableHlo.ternary main_call1_v4 main_call1_v6 main_call1_v11 main_v84 (select : (⟨S512, .i1⟩ : BufTy).Contents (Elt Ideal) → (⟨S512, .f32⟩ : BufTy).Contents (Elt Ideal) → (⟨S512, .f32⟩ : BufTy).Contents (Elt Ideal) → (⟨S512, .f32⟩ : BufTy).Contents (Elt Ideal)) ]
theorem softOps_eq : softOps = hostOps0_3 := rfl
/-- The host's operations before the recurrence. -/
abbrev pre : List (HloOp τ sig (Elt Ideal)) :=
  hostOps0 ++ (padOps ++ (hostOps0_2 ++ (softOps ++ hostOps0_4.take 12)))
/-- The recurrence. -/
abbrev mid : List (HloOp τ sig (Elt Ideal)) := (hostOps0_4.drop 12).take 306
/-- What every chunk takes from the rows before it. -/
abbrev fin : List (HloOp τ sig (Elt Ideal)) := hostOps0_4.drop 318
/-- The recurrence and what follows. -/
abbrev rest : List (HloOp τ sig (Elt Ideal)) := mid ++ fin

theorem rs_v1 : StableHlo.reshape (τ := τ) (Val := Elt Ideal) main_arg2 main_v1 (rfl : (.f32 : EltTy) = .f32) shapeCasts_S512_S1x512
    = StableHlo.unary main_arg2 main_v1 (fun u : S512.Idx → EReal => shapeCast (α := EReal) S1x512 u shapeCasts_S512_S1x512) := rfl
theorem rs_v13 : StableHlo.reshape (τ := τ) (Val := Elt Ideal) main_v12 main_v13 (rfl : (.f32 : EltTy) = .f32) shapeCasts_S8x64x8x64_S512x512
    = StableHlo.unary main_v12 main_v13 (fun u : S8x64x8x64.Idx → EReal => shapeCast (α := EReal) S512x512 u shapeCasts_S8x64x8x64_S512x512) := rfl
theorem rs_v14 : StableHlo.reshape (τ := τ) (Val := Elt Ideal) main_arg4 main_v14 (rfl : (.f32 : EltTy) = .f32) shapeCasts_S512_S1x512
    = StableHlo.unary main_arg4 main_v14 (fun u : S512.Idx → EReal => shapeCast (α := EReal) S1x512 u shapeCasts_S512_S1x512) := rfl
theorem rs_v26 : StableHlo.reshape (τ := τ) (Val := Elt Ideal) main_v25 main_v26 (rfl : (.f32 : EltTy) = .f32) shapeCasts_S8x64x8x64_S512x512
    = StableHlo.unary main_v25 main_v26 (fun u : S8x64x8x64.Idx → EReal => shapeCast (α := EReal) S512x512 u shapeCasts_S8x64x8x64_S512x512) := rfl
theorem rs_v27 : StableHlo.reshape (τ := τ) (Val := Elt Ideal) main_arg6 main_v27 (rfl : (.f32 : EltTy) = .f32) shapeCasts_S512_S1x512
    = StableHlo.unary main_arg6 main_v27 (fun u : S512.Idx → EReal => shapeCast (α := EReal) S1x512 u shapeCasts_S512_S1x512) := rfl
theorem rs_v28 : StableHlo.reshape (τ := τ) (Val := Elt Ideal) main_arg7 main_v28 (rfl : (.f32 : EltTy) = .f32) shapeCasts_S512_S1x512
    = StableHlo.unary main_arg7 main_v28 (fun u : S512.Idx → EReal => shapeCast (α := EReal) S1x512 u shapeCasts_S512_S1x512) := rfl
theorem rs_v29 : StableHlo.reshape (τ := τ) (Val := Elt Ideal) main_arg8 main_v29 (rfl : (.f32 : EltTy) = .f32) shapeCasts_S512_S1x512
    = StableHlo.unary main_arg8 main_v29 (fun u : S512.Idx → EReal => shapeCast (α := EReal) S1x512 u shapeCasts_S512_S1x512) := rfl
theorem rs_v32 : StableHlo.reshape (τ := τ) (Val := Elt Ideal) main_v31 main_v32 (rfl : (.f32 : EltTy) = .f32) shapeCasts_S1x512_S512
    = StableHlo.unary main_v31 main_v32 (fun u : S1x512.Idx → EReal => shapeCast (α := EReal) S512 u shapeCasts_S1x512_S512) := rfl
theorem rs_v38 : StableHlo.reshape (τ := τ) (Val := Elt Ideal) main_v37 main_v38 (rfl : (.f32 : EltTy) = .f32) shapeCasts_S1x512_S512
    = StableHlo.unary main_v37 main_v38 (fun u : S1x512.Idx → EReal => shapeCast (α := EReal) S512 u shapeCasts_S1x512_S512) := rfl
theorem rs_v45 : StableHlo.reshape (τ := τ) (Val := Elt Ideal) main_v44 main_v45 (rfl : (.f32 : EltTy) = .f32) shapeCasts_S1x512_S512
    = StableHlo.unary main_v44 main_v45 (fun u : S1x512.Idx → EReal => shapeCast (α := EReal) S512 u shapeCasts_S1x512_S512) := rfl
theorem rs_v52 : StableHlo.reshape (τ := τ) (Val := Elt Ideal) main_v51 main_v52 (rfl : (.f32 : EltTy) = .f32) shapeCasts_S1x512_S512
    = StableHlo.unary main_v51 main_v52 (fun u : S1x512.Idx → EReal => shapeCast (α := EReal) S512 u shapeCasts_S1x512_S512) := rfl
theorem rs_v360 : StableHlo.reshape (τ := τ) (Val := Elt Ideal) main_v359 main_v360 (rfl : (.f32 : EltTy) = .f32) shapeCasts_S2112x512_S11x192x512
    = StableHlo.unary main_v359 main_v360 (fun u : S2112x512.Idx → EReal => shapeCast (α := EReal) S11x192x512 u shapeCasts_S2112x512_S11x192x512) := rfl
theorem rs_v367 : StableHlo.reshape (τ := τ) (Val := Elt Ideal) main_v366 main_v367 (rfl : (.f32 : EltTy) = .f32) shapeCasts_S2112x512_S11x192x512
    = StableHlo.unary main_v366 main_v367 (fun u : S2112x512.Idx → EReal => shapeCast (α := EReal) S11x192x512 u shapeCasts_S2112x512_S11x192x512) := rfl

variable {V : Valuation τ sig (Elt Ideal)} {P : Inp} (ha : Args V P)
include ha

theorem read_v0 : StableHlo.after pre V (Proc.devRef .tc main_v0) = E2 2112 5376 P.pp := by
  obtain ⟨a0, a1, a2, a3, a4, a5, a6, a7, a8, a9⟩ := ha
  after_reads_simp [a0, sitofp_zero, pad_front]
  rfl

set_option maxHeartbeats 4000000 in
/-- The decay of every row. -/
theorem read_a : StableHlo.after pre V (Proc.devRef .tc main_v88) = E2 2064 512 P.Y.a := by
  obtain ⟨a0, a1, a2, a3, a4, a5, a6, a7, a8, a9⟩ := ha
  after_reads_simp [a0, a1, a2, a3, a4, a5, a6, a7, sitofp_zero, pad_front, const_E0 lit_zero, const_E0 lit_one,
    const_E0 lit_two, const_E0 lit_neg_eight, bin_01, bin_02, bin_12, bin_row, slice_E2, cast_row_1, mulf_E2, addf_E2, blk_mul,
    dot_S2064x512_S512x512_S2064x512_1_0_0_1_n_n, hdot_10, hneg_E2, hexp_E2, hexpm1_E2, hsig_E2, hneg_E1, hsoft_E1, rs_v13, rs_v26,
    rs_v32, rs_v38, rs_v45, rs_v52]
  refine E2_congr fun r _ j _ => ?_
  rw [Rows.a, Inp.laY]
  simp only [Inp.xcY]
  rfl

set_option maxHeartbeats 4000000 in
/-- What every row adds to the state. -/
theorem read_b : StableHlo.after pre V (Proc.devRef .tc main_v95) = E2 2064 512 P.Y.bm := by
  obtain ⟨a0, a1, a2, a3, a4, a5, a6, a7, a8, a9⟩ := ha
  after_reads_simp [a0, a1, a2, a3, a4, a5, a6, a7, sitofp_zero, pad_front, const_E0 lit_zero, const_E0 lit_one,
    const_E0 lit_two, const_E0 lit_neg_eight, bin_01, bin_02, bin_12, bin_row, slice_E2, cast_row_1, mulf_E2, addf_E2, blk_mul,
    dot_S2064x512_S512x512_S2064x512_1_0_0_1_n_n, hdot_10, hneg_E2, hexp_E2, hexpm1_E2, hsig_E2, hneg_E1, hsoft_E1, rs_v13, rs_v26,
    rs_v32, rs_v38, rs_v45, rs_v52]
  refine Eq.trans (congrArg₂ mulf (congrArg Host.sqrt (E2_congr (g := fun r j => 1 - Real.exp (2 * P.Y.la r j))
    fun r _ j _ => ?_)) rfl) ?_
  · rw [Inp.laY]
    simp only [Inp.xcY]
    exact neg_sub _ _
  · rw [hsqrt_E2 _ fun r _ j _ => (P.Y.quot_pos r j).le, mulf_E2]
    refine E2_congr fun r _ j _ => ?_
    rw [Inp.bmY, Rows.ig]
    simp only [Inp.xcY]
    rfl

set_option maxHeartbeats 4000000 in
theorem read_v1 : StableHlo.after pre V (Proc.devRef .tc main_v1) = E2 1 512 fun _ j => P.cb j := by
  obtain ⟨a0, a1, a2, a3, a4, a5, a6, a7, a8, a9⟩ := ha
  after_reads_simp [a2, rs_v1, cast_1_row]
set_option maxHeartbeats 4000000 in
theorem read_v13 : StableHlo.after pre V (Proc.devRef .tc main_v13) = E2 512 512 (blk P.wa) := by
  obtain ⟨a0, a1, a2, a3, a4, a5, a6, a7, a8, a9⟩ := ha
  after_reads_simp [a3, rs_v13, blk_mul]
set_option maxHeartbeats 4000000 in
theorem read_v14 : StableHlo.after pre V (Proc.devRef .tc main_v14) = E2 1 512 fun _ j => P.ba j := by
  obtain ⟨a0, a1, a2, a3, a4, a5, a6, a7, a8, a9⟩ := ha
  after_reads_simp [a4, rs_v14, cast_1_row]
set_option maxHeartbeats 4000000 in
theorem read_v26 : StableHlo.after pre V (Proc.devRef .tc main_v26) = E2 512 512 (blk P.wi) := by
  obtain ⟨a0, a1, a2, a3, a4, a5, a6, a7, a8, a9⟩ := ha
  after_reads_simp [a5, rs_v26, blk_mul]
set_option maxHeartbeats 4000000 in
theorem read_v27 : StableHlo.after pre V (Proc.devRef .tc main_v27) = E2 1 512 fun _ j => P.bi j := by
  obtain ⟨a0, a1, a2, a3, a4, a5, a6, a7, a8, a9⟩ := ha
  after_reads_simp [a6, rs_v27, cast_1_row]
set_option maxHeartbeats 4000000 in
theorem read_v28 : StableHlo.after pre V (Proc.devRef .tc main_v28) = E2 1 512 fun _ j => P.lam j := by
  obtain ⟨a0, a1, a2, a3, a4, a5, a6, a7, a8, a9⟩ := ha
  after_reads_simp [a7, rs_v28, cast_1_row]
set_option maxHeartbeats 4000000 in
theorem read_v29 : StableHlo.after pre V (Proc.devRef .tc main_v29) = E2 1 512 fun _ j => P.ng j := by
  obtain ⟨a0, a1, a2, a3, a4, a5, a6, a7, a8, a9⟩ := ha
  after_reads_simp [a8, rs_v29, cast_1_row]

omit ha in
/-- A buffer that the recurrence does not write. -/
theorem rest_keeps (W : Valuation τ sig (Elt Ideal)) :
    StableHlo.after rest W (Proc.devRef .tc main_v0) = W (Proc.devRef .tc main_v0)
    ∧ StableHlo.after rest W (Proc.devRef .tc main_v1) = W (Proc.devRef .tc main_v1)
    ∧ StableHlo.after rest W (Proc.devRef .tc main_v13) = W (Proc.devRef .tc main_v13)
    ∧ StableHlo.after rest W (Proc.devRef .tc main_v14) = W (Proc.devRef .tc main_v14)
    ∧ StableHlo.after rest W (Proc.devRef .tc main_v26) = W (Proc.devRef .tc main_v26)
    ∧ StableHlo.after rest W (Proc.devRef .tc main_v27) = W (Proc.devRef .tc main_v27)
    ∧ StableHlo.after rest W (Proc.devRef .tc main_v28) = W (Proc.devRef .tc main_v28)
    ∧ StableHlo.after rest W (Proc.devRef .tc main_v29) = W (Proc.devRef .tc main_v29) := by
  refine ⟨?_, ?_, ?_, ?_, ?_, ?_, ?_, ?_⟩ <;> after_reads_simp

theorem pre_keeps : Args (StableHlo.after pre V) P := by
  obtain ⟨a0, a1, a2, a3, a4, a5, a6, a7, a8, a9⟩ := ha
  constructor
  · after_reads_simp [a0]
  · after_reads_simp [a1]
  · after_reads_simp [a2]
  · after_reads_simp [a3]
  · after_reads_simp [a4]
  · after_reads_simp [a5]
  · after_reads_simp [a6]
  · after_reads_simp [a7]
  · after_reads_simp [a8]
  · after_reads_simp [a9]
theorem mid_keeps : Args (StableHlo.after mid V) P := by
  obtain ⟨a0, a1, a2, a3, a4, a5, a6, a7, a8, a9⟩ := ha
  constructor
  · after_reads_simp [a0]
  · after_reads_simp [a1]
  · after_reads_simp [a2]
  · after_reads_simp [a3]
  · after_reads_simp [a4]
  · after_reads_simp [a5]
  · after_reads_simp [a6]
  · after_reads_simp [a7]
  · after_reads_simp [a8]
  · after_reads_simp [a9]
theorem fin_keeps : Args (StableHlo.after fin V) P := by
  obtain ⟨a0, a1, a2, a3, a4, a5, a6, a7, a8, a9⟩ := ha
  constructor
  · after_reads_simp [a0]
  · after_reads_simp [a1]
  · after_reads_simp [a2]
  · after_reads_simp [a3]
  · after_reads_simp [a4]
  · after_reads_simp [a5]
  · after_reads_simp [a6]
  · after_reads_simp [a7]
  · after_reads_simp [a8]
  · after_reads_simp [a9]

omit ha in
theorem mid_v0 (W : Valuation τ sig (Elt Ideal)) :
    StableHlo.after mid W (Proc.devRef .tc main_v0) = W (Proc.devRef .tc main_v0) := by
  after_reads_simp

/-- The states of all rows. -/
theorem read_h : StableHlo.after mid (StableHlo.after pre V) (Proc.devRef .tc main_v357) = E2 2064 512 P.Y.H := by
  obtain ⟨s, e, hs⟩ := scan_read (StableHlo.after pre V) _ _ (read_a ha) (read_b ha)
  rw [e]
  exact E2_congr fun i hi j _ => follows_eq hs P.followsY i hi j

omit ha in
set_option maxHeartbeats 4000000 in
/-- The eight rows before every chunk. -/
theorem fin_tails (W : Valuation τ sig (Elt Ideal)) (f : ℕ → ℕ → ℝ)
    (h : W (no_index (Proc.devRef .tc main_v0)) = E2 2112 5376 f) :
    StableHlo.after fin W (Proc.devRef .tc main_v363)
      = E4 1 11 8 512 fun _ i r j => if i = 0 then 0 else f (192 * (i - 1) + 184 + r) j := by
  after_reads_simp [h, const_E0 lit_zero, bin_03, slice_E2, rs_v360, cast_blocks, slice_E3, cat2_eq, cat2_E3, bin_34]
  funext x
  refine congrArg (fun y : ℝ => (y : EReal)) ?_
  show (if (x 1).val < 1 then (0 : ℝ) else f (192 * ((x 1).val - 1 + 0) + ((x 2).val + 184) + 0) ((x 3).val + 0 + 0))
    = if (x 1).val = 0 then 0 else f (192 * ((x 1).val - 1) + 184 + (x 2).val) (x 3).val
  by_cases e : (x 1).val = 0
  · rw [if_pos (by omega), if_pos e]
  · rw [if_neg (by omega), if_neg e]
    congr 1
    omega

omit ha in
set_option maxHeartbeats 4000000 in
/-- The state before every chunk. -/
theorem fin_states (W : Valuation τ sig (Elt Ideal)) (f : ℕ → ℕ → ℝ)
    (h : W (no_index (Proc.devRef .tc main_v357)) = E2 2064 512 f) :
    StableHlo.after fin W (Proc.devRef .tc main_v370)
      = E4 1 11 1 512 fun _ i _ j => if i = 0 then 0 else f (192 * i - 49) j := by
  after_reads_simp [h, const_E0 lit_zero, bin_02, bin_03, slice_E2, rs_v367, cast_blocks, slice_E3, cat2_eq, cat2_E2, cat2_E3, bin_34]
  funext x
  refine congrArg (fun y : ℝ => (y : EReal)) ?_
  have h2 : (x 2).val < 1 := (x 2).isLt
  show (if (x 1).val < 1 then (0 : ℝ) else if 192 * ((x 1).val - 1 + 0) + ((x 2).val + 191) < 48 then 0
      else f (192 * ((x 1).val - 1 + 0) + ((x 2).val + 191) - 48) ((x 3).val + 0))
    = if (x 1).val = 0 then 0 else f (192 * (x 1).val - 49) (x 3).val
  by_cases e : (x 1).val = 0
  · rw [if_pos (by omega), if_pos e]
  · rw [if_neg (by omega), if_neg e, if_neg (by omega)]
    congr 1
    omega

/-- What the launch finds in its operands. -/
structure Ready (W : Valuation τ sig (Elt Ideal)) (P : Inp) : Prop where
  v0 : W (Proc.devRef .tc main_v0) = E2 2112 5376 P.pp
  d : W (Proc.devRef .tc main_arg9) = E2 2112 512 P.d
  cw : W (Proc.devRef .tc main_arg1) = E2 4 512 P.cw
  cb : W (Proc.devRef .tc main_v1) = E2 1 512 fun _ j => P.cb j
  wa : W (Proc.devRef .tc main_v13) = E2 512 512 (blk P.wa)
  ba : W (Proc.devRef .tc main_v14) = E2 1 512 fun _ j => P.ba j
  wi : W (Proc.devRef .tc main_v26) = E2 512 512 (blk P.wi)
  bi : W (Proc.devRef .tc main_v27) = E2 1 512 fun _ j => P.bi j
  lam : W (Proc.devRef .tc main_v28) = E2 1 512 fun _ j => P.lam j
  ng : W (Proc.devRef .tc main_v29) = E2 1 512 fun _ j => P.ng j
  tails : W (Proc.devRef .tc main_v363)
    = E4 1 11 8 512 fun _ i r j => if i = 0 then 0 else P.pp (192 * (i - 1) + 184 + r) j
  states : W (Proc.devRef .tc main_v370) = E4 1 11 1 512 fun _ i _ j => if i = 0 then 0 else P.Y.H (192 * i - 49) j

theorem ready : Ready (StableHlo.after rest (StableHlo.after pre V)) P := by
  obtain ⟨k0, k1, k13, k14, k26, k27, k28, k29⟩ := rest_keeps (StableHlo.after pre V)
  have e : StableHlo.after rest (StableHlo.after pre V)
      = StableHlo.after fin (StableHlo.after mid (StableHlo.after pre V)) := StableHlo.after_append _ _ _
  have a' := fin_keeps (mid_keeps (pre_keeps ha))
  rw [← e] at a'
  refine ⟨k0.trans (read_v0 ha), a'.a9, a'.a1, k1.trans (read_v1 ha), k13.trans (read_v13 ha), k14.trans (read_v14 ha),
    k26.trans (read_v26 ha), k27.trans (read_v27 ha), k28.trans (read_v28 ha), k29.trans (read_v29 ha), ?_, ?_⟩
  · rw [e]
    exact fin_tails _ _ ((mid_v0 _).trans (read_v0 ha))
  · rw [e]
    exact fin_states _ _ (read_h ha)

/-- The same of the operations as the launch lists them. -/
theorem ready_flat : Ready (StableHlo.after (List.flatten [hostOps0, hostOps0_1, hostOps0_2, hostOps0_3, hostOps0_4]) V) P := by
  have e : (List.flatten [hostOps0, hostOps0_1, hostOps0_2, hostOps0_3, hostOps0_4] : List (HloOp τ sig (Elt Ideal)))
      = pre ++ rest := by
    have e4 : (hostOps0_4 : List (HloOp τ sig (Elt Ideal))) = hostOps0_4.take 12 ++ rest := rfl
    rw [← padOps_eq, ← softOps_eq, e4]
    simp only [List.flatten_cons, List.flatten_nil, List.append_nil, List.append_assoc]
  rw [e, StableHlo.after_append]
  exact ready ha

end Cert.KernelIdeal.Prefix
-- ==== Proof.Point.lean ====
/- What the kernel's body leaves at one grid point, at real blocks. -/
module

public import proofs.«01_k».proof.Proof.Body4
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Emb

open Idealize.ShloMosaic Idealize.ShloMosaic.TcCoe Idealize.SL.Sem
open Cert.KernelIdeal Cert.KernelIdeal.Gen

local notation "M" => E2 192 512
local notation "R" => E2 1 512
local notation "Q" => E2 512 512
local notation "C" => E2 192 1

theorem rd_tail (h : (Memref.whole cc0_scratch0).IsWhole) (x : Vec Ideal S8x512 .f32) :
    View.read (Elt Ideal) (View.whole cc0_scratch0) (h.unread x) = x := h.read_unread x
theorem rd_dh (h : (Memref.whole cc0_scratch1).IsWhole) (x : Vec Ideal S1x512 .f32) :
    View.read (Elt Ideal) (View.whole cc0_scratch1) (h.unread x) = x := h.read_unread x

variable (m : (ℓ : Loc nD τ Cert.KernelIdeal.sig) → Buf (Elt Ideal) ℓ)

/-- The blocks of grid point `t` are the rows `K` with the state `h0` before them. -/
structure Blocks (c : Dev nD) (t : Fin cfg0.N) (K : Rows) (h0 : ℕ → ℝ) : Prop where
  u : X0_0 (F := Ideal) m c t = M K.u
  g : X0_1 (F := Ideal) m c t = M K.g
  d : iblk (F := Ideal) m c 2 t = M K.d
  cw : iblk (F := Ideal) m c 3 t = E2 4 512 K.cw
  cb : iblk (F := Ideal) m c 4 t = R fun _ j => K.cb j
  wa : iblk (F := Ideal) m c 5 t = Q K.wa
  ba : iblk (F := Ideal) m c 6 t = R fun _ j => K.ba j
  wi : iblk (F := Ideal) m c 7 t = Q K.wi
  bi : iblk (F := Ideal) m c 8 t = R fun _ j => K.bi j
  lam : iblk (F := Ideal) m c 9 t = R fun _ j => K.lam j
  ng : iblk (F := Ideal) m c 10 t = R fun _ j => K.ng j
  tl : iblk (F := Ideal) m c 11 t = E4 1 1 8 512 fun _ _ i j => K.tl i j
  h0 : iblk (F := Ideal) m c 12 t = E4 1 1 1 512 fun _ _ _ j => h0 j
  ma : k0_pay23 (F := Ideal) (Scalar.muli (Scalar.subi (10#32) (BitVec.ofNat 32 (grid0.coords t 1).val)) 192#32)
    = C fun r _ => K.ma r

/-- What the buffers hold after a point, the accumulators at `A0` to `A7` before it, the gradients carried from the next
chunk `dt` and `dc`. -/
structure Left (x : Vec Ideal S192x512 .f32 × Vec Ideal S192x512 .f32 × Vec Ideal S1x4x512 .f32 × Vec Ideal S1x1x512 .f32 × Vec Ideal S1x512x512 .f32 × Vec Ideal S1x1x512 .f32 × Vec Ideal S1x512x512 .f32 × Vec Ideal S1x1x512 .f32 × Vec Ideal S1x1x512 .f32 × Vec Ideal S1x1x512 .f32 × Vec Ideal S8x512 .f32 × Vec Ideal S1x512 .f32)
    (K : Rows) (h0 dc : ℕ → ℝ) (dt : ℕ → ℕ → ℝ) (A0 A1 A2 A3 A4 A5 A6 A7 : ℕ → ℕ → ℕ → ℝ) : Prop where
  o0 : x.1 = M fun r j => tin dt r j + K.du (K.hp h0) (K.LL dc (K.hh h0)) (r + 8) j
  o1 : x.2.1 = M (K.dg (K.hh h0))
  o2 : x.2.2.1 = E3 1 4 512 fun _ k j => A0 0 k j + K.dcw (K.hp h0) (K.LL dc (K.hh h0)) k j
  o3 : x.2.2.2.1 = E3 1 1 512 fun _ i j => A1 0 i j + ∑ r ∈ Finset.range 192, K.dxc (K.hp h0) (K.LL dc (K.hh h0)) r j
  o4 : x.2.2.2.2.1 = E3 1 512 512 fun _ i j => A2 0 i j + ∑ r ∈ Finset.range 192, K.xc r i * K.dza (K.hp h0) (K.LL dc (K.hh h0)) r j
  o5 : x.2.2.2.2.2.1 = E3 1 1 512 fun _ i j => A3 0 i j + ∑ r ∈ Finset.range 192, K.dza (K.hp h0) (K.LL dc (K.hh h0)) r j
  o6 : x.2.2.2.2.2.2.1 = E3 1 512 512 fun _ i j => A4 0 i j + ∑ r ∈ Finset.range 192, K.xc r i * K.dzi (K.LL dc (K.hh h0)) r j
  o7 : x.2.2.2.2.2.2.2.1 = E3 1 1 512 fun _ i j => A5 0 i j + ∑ r ∈ Finset.range 192, K.dzi (K.LL dc (K.hh h0)) r j
  o8 : x.2.2.2.2.2.2.2.2.1 = E3 1 1 512 fun _ i j => A6 0 i j + (0 - (∑ r ∈ Finset.range 192, K.dlr (K.hp h0) (K.LL dc (K.hh h0)) r j) * K.dsp j)
  o9 : x.2.2.2.2.2.2.2.2.2.1 = E3 1 1 512 fun _ i j => A7 0 i j + ∑ r ∈ Finset.range 192, K.dnr (K.hh h0) r j
  o10 : x.2.2.2.2.2.2.2.2.2.2.1 = E2 8 512 (K.du (K.hp h0) (K.LL dc (K.hh h0)))
  o11 : x.2.2.2.2.2.2.2.2.2.2.2 = R fun _ j => K.a 0 j * K.LL dc (K.hh h0) 0 j

variable {m}

/-- The first point: the accumulators and the carried gradients start at zero. -/
theorem left_A {c : Dev nD} {t : Fin cfg0.N} {K : Rows} {h0 : ℕ → ℝ} (b : Blocks m c t K h0) (ht : t.val % 11 = 0) :
    Left (outsAt0 (F := Ideal) m c t.val t.isLt) K h0 (fun _ => 0) (fun _ _ => 0) (fun _ _ _ => 0) (fun _ _ _ => 0) (fun _ _ _ => 0)
      (fun _ _ _ => 0) (fun _ _ _ => 0) (fun _ _ _ => 0) (fun _ _ _ => 0) (fun _ _ _ => 0) := by
  rw [outsAt0_A m c t ht]
  constructor
  all_goals
    frame_out
    simp only [b.u, b.g, b.d, b.cw, b.cb, b.wa, b.ba, b.wi, b.bi, b.lam, b.ng, b.tl, b.h0, b.ma, pay1, pay2, pay3, pay4, pay5, pay6, pay7, pay8, pay9, pay10, pay11, pay12, pay13, pay14, pay15, pay16, pay17, pay18, pay19, pay20, pay21, pay22, pay25, pay26, pay27, pay28, pay29, pay30, pay31, pay32, pay33, pay34, pay35, pay36, pay37, pay38, pay39, pay40, pay41, pay42, pay43, pay44, pay45, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay84, pay85, pay86, pay87, pay88, pay89, pay90, pay91, pay92, pay93, pay94, pay95, pay96, pay97, pay98, pay99, pay100, pay101, pay102, pay103, pay104, pay105, pay106, pay107, pay108, pay109, pay110, pay111, pay112, pay113, pay114, pay115, pay116, pay117, pay118, pay119, pay120, pay123, pay124, pay125, pay126, pay127, pay128, pay129, pay130, pay131, pay132, pay133, pay134, pay135, pay136, pay137, pay138, pay139, pay140, pay141, pay142, pay143, pay144, pay145, pay146, pay147, pay148, pay149, pay150, pay151, pay152, pay153, pay154, pay155, pay121', pay122', pay83, pay52]

/-- A later point. -/
theorem left_B {c : Dev nD} {t : Fin cfg0.N} {K : Rows} {h0 dc : ℕ → ℝ} {dt : ℕ → ℕ → ℝ} {A0 A1 A2 A3 A4 A5 A6 A7 : ℕ → ℕ → ℕ → ℝ}
    (b : Blocks m c t K h0) (ht : ¬t.val % 11 = 0)
    (e2 : (outsAt0 (F := Ideal) m c (t.val - 1) (Nat.lt_of_le_of_lt (Nat.sub_le _ _) t.isLt)).2.2.1 = E3 1 4 512 A0)
    (e3 : (outsAt0 (F := Ideal) m c (t.val - 1) (Nat.lt_of_le_of_lt (Nat.sub_le _ _) t.isLt)).2.2.2.1 = E3 1 1 512 A1)
    (e4 : (outsAt0 (F := Ideal) m c (t.val - 1) (Nat.lt_of_le_of_lt (Nat.sub_le _ _) t.isLt)).2.2.2.2.1 = E3 1 512 512 A2)
    (e5 : (outsAt0 (F := Ideal) m c (t.val - 1) (Nat.lt_of_le_of_lt (Nat.sub_le _ _) t.isLt)).2.2.2.2.2.1 = E3 1 1 512 A3)
    (e6 : (outsAt0 (F := Ideal) m c (t.val - 1) (Nat.lt_of_le_of_lt (Nat.sub_le _ _) t.isLt)).2.2.2.2.2.2.1 = E3 1 512 512 A4)
    (e7 : (outsAt0 (F := Ideal) m c (t.val - 1) (Nat.lt_of_le_of_lt (Nat.sub_le _ _) t.isLt)).2.2.2.2.2.2.2.1 = E3 1 1 512 A5)
    (e8 : (outsAt0 (F := Ideal) m c (t.val - 1) (Nat.lt_of_le_of_lt (Nat.sub_le _ _) t.isLt)).2.2.2.2.2.2.2.2.1 = E3 1 1 512 A6)
    (e9 : (outsAt0 (F := Ideal) m c (t.val - 1) (Nat.lt_of_le_of_lt (Nat.sub_le _ _) t.isLt)).2.2.2.2.2.2.2.2.2.1 = E3 1 1 512 A7)
    (e10 : (outsAt0 (F := Ideal) m c (t.val - 1) (Nat.lt_of_le_of_lt (Nat.sub_le _ _) t.isLt)).2.2.2.2.2.2.2.2.2.2.1 = E2 8 512 dt)
    (e11 : (outsAt0 (F := Ideal) m c (t.val - 1) (Nat.lt_of_le_of_lt (Nat.sub_le _ _) t.isLt)).2.2.2.2.2.2.2.2.2.2.2 = R fun _ j => dc j)
    : Left (outsAt0 (F := Ideal) m c t.val t.isLt) K h0 dc dt A0 A1 A2 A3 A4 A5 A6 A7 := by
  rw [outsAt0_B m c t ht]
  constructor
  all_goals
    frame_out
    simp only [b.u, b.g, b.d, b.cw, b.cb, b.wa, b.ba, b.wi, b.bi, b.lam, b.ng, b.tl, b.h0, b.ma, e2, e3, e4, e5, e6, e7, e8, e9, e10, e11, rd_tail, rd_dh, pay1, pay2, pay3, pay4, pay5, pay6, pay7, pay8, pay9, pay10, pay11, pay12, pay13, pay14, pay15, pay16, pay17, pay18, pay19, pay20, pay21, pay22, pay25, pay26, pay27, pay28, pay29, pay30, pay31, pay32, pay33, pay34, pay35, pay36, pay37, pay38, pay39, pay40, pay41, pay42, pay43, pay44, pay45, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay84, pay85, pay86, pay87, pay88, pay89, pay90, pay91, pay92, pay93, pay94, pay95, pay96, pay97, pay98, pay99, pay100, pay101, pay102, pay103, pay104, pay105, pay106, pay107, pay108, pay109, pay110, pay111, pay112, pay113, pay114, pay115, pay116, pay117, pay118, pay119, pay120, pay123, pay124, pay125, pay126, pay127, pay128, pay129, pay130, pay131, pay132, pay133, pay134, pay135, pay136, pay137, pay138, pay139, pay140, pay141, pay142, pay143, pay144, pay145, pay146, pay147, pay148, pay149, pay150, pay151, pay152, pay153, pay154, pay155, pay121', pay122', pay83, pay52]

end Cert.Emb
-- ==== Proof.Points.lean ====
/- What the buffers hold after each grid point, in the words of all rows. -/
module

public import proofs.«01_k».proof.Proof.Point
public import proofs.«01_k».proof.Proof.Glob

@[expose] public section

set_option maxRecDepth 16384

noncomputable section

namespace Cert.Emb

open Idealize.ShloMosaic Idealize.ShloMosaic.TcCoe Idealize.SL.Sem
open Cert.KernelIdeal Cert.KernelIdeal.Gen

local notation "M" => E2 192 512
local notation "R" => E2 1 512

namespace Rows
variable (X : Rows)
/-- What row `p` adds to the gradient at the convolution's weights. -/
def f0 (k j p : ℕ) : ℝ := X.dxc X.Hp (X.Lam 2111) p j * X.ue (p + 5 + k) j
/-- What row `p` adds to the gradient at the convolution's bias. -/
def f1 (j p : ℕ) : ℝ := X.dxc X.Hp (X.Lam 2111) p j
/-- What row `p` adds to the gradient at the recurrence gate's matrix. -/
def f2 (i j p : ℕ) : ℝ := X.xc p i * X.dza X.Hp (X.Lam 2111) p j
/-- What row `p` adds to the gradient at the recurrence gate's bias. -/
def f3 (j p : ℕ) : ℝ := X.dza X.Hp (X.Lam 2111) p j
/-- What row `p` adds to the gradient at the input gate's matrix. -/
def f4 (i j p : ℕ) : ℝ := X.xc p i * X.dzi (X.Lam 2111) p j
/-- What row `p` adds to the gradient at the input gate's bias. -/
def f5 (j p : ℕ) : ℝ := X.dzi (X.Lam 2111) p j
/-- What row `p` adds to the gradient at the decay parameter. -/
def f6 (j p : ℕ) : ℝ := -(X.dlr X.Hp (X.Lam 2111) p j * X.dsp j)
/-- What row `p` adds to the gradient at the normalisation's weights. -/
def f7 (j p : ℕ) : ℝ := X.dnr X.H p j
end Rows

/-- The buffers after the point of chunk `i = 10 - n`. -/
structure Done (x : Vec Ideal S192x512 .f32 × Vec Ideal S192x512 .f32 × Vec Ideal S1x4x512 .f32 × Vec Ideal S1x1x512 .f32 × Vec Ideal S1x512x512 .f32 × Vec Ideal S1x1x512 .f32 × Vec Ideal S1x512x512 .f32 × Vec Ideal S1x1x512 .f32 × Vec Ideal S1x1x512 .f32 × Vec Ideal S1x1x512 .f32 × Vec Ideal S8x512 .f32 × Vec Ideal S1x512 .f32)
    (X : Rows) (n : ℕ) : Prop where
  o0 : x.1 = M fun r j => X.Du 2111 (192 * (10 - n) + r) j
  o1 : x.2.1 = M fun r j => X.dg X.H (192 * (10 - n) + r) j
  o2 : x.2.2.1 = E3 1 4 512 fun _ k j => Rows.acc (X.f0 k j) (n + 1)
  o3 : x.2.2.2.1 = E3 1 1 512 fun _ _ j => Rows.acc (X.f1 j) (n + 1)
  o4 : x.2.2.2.2.1 = E3 1 512 512 fun _ i j => Rows.acc (X.f2 i j) (n + 1)
  o5 : x.2.2.2.2.2.1 = E3 1 1 512 fun _ _ j => Rows.acc (X.f3 j) (n + 1)
  o6 : x.2.2.2.2.2.2.1 = E3 1 512 512 fun _ i j => Rows.acc (X.f4 i j) (n + 1)
  o7 : x.2.2.2.2.2.2.2.1 = E3 1 1 512 fun _ _ j => Rows.acc (X.f5 j) (n + 1)
  o8 : x.2.2.2.2.2.2.2.2.1 = E3 1 1 512 fun _ _ j => Rows.acc (X.f6 j) (n + 1)
  o9 : x.2.2.2.2.2.2.2.2.2.1 = E3 1 1 512 fun _ _ j => Rows.acc (X.f7 j) (n + 1)
  o10 : n < 10 → x.2.2.2.2.2.2.2.2.2.2.1 = E2 8 512 (X.dt (9 - n))
  o11 : n < 10 → x.2.2.2.2.2.2.2.2.2.2.2 = R fun _ j => X.dc (9 - n) j

theorem Left.done {x : Vec Ideal S192x512 .f32 × Vec Ideal S192x512 .f32 × Vec Ideal S1x4x512 .f32 × Vec Ideal S1x1x512 .f32 × Vec Ideal S1x512x512 .f32 × Vec Ideal S1x1x512 .f32 × Vec Ideal S1x512x512 .f32 × Vec Ideal S1x1x512 .f32 × Vec Ideal S1x1x512 .f32 × Vec Ideal S1x1x512 .f32 × Vec Ideal S8x512 .f32 × Vec Ideal S1x512 .f32}
    {X : Rows} {n : ℕ} (hn : n < 11)
    (l : Left x (X.ch (10 - n)) (X.h0 (10 - n)) (X.dc (10 - n)) (X.dt (10 - n)) (fun _ k j => Rows.acc (X.f0 k j) n) (fun _ _ j => Rows.acc (X.f1 j) n) (fun _ i j => Rows.acc (X.f2 i j) n) (fun _ _ j => Rows.acc (X.f3 j) n) (fun _ i j => Rows.acc (X.f4 i j) n) (fun _ _ j => Rows.acc (X.f5 j) n) (fun _ _ j => Rows.acc (X.f6 j) n) (fun _ _ j => Rows.acc (X.f7 j) n)) : Done x X n := by
  have hi : 10 - n < 11 := by omega
  constructor
  · rw [l.o0]; exact E2_congr fun r hr j _ => X.du_shift _ hi r j hr
  · rw [l.o1]; exact E2_congr fun r _ j _ => X.dg_shift _ r j
  · rw [l.o2]; exact E3_congr fun _ _ k _ j _ => by
      rw [Rows.acc_succ]; exact congrArg _ (Finset.sum_congr rfl fun r hr => by
        rw [X.dxc_shift _ hi r j (Finset.mem_range.1 hr), Rows.f0, Nat.add_assoc _ r 5, Nat.add_assoc _ (r + 5) k]; rfl)
  · rw [l.o3]; exact E3_congr fun _ _ k _ j _ => by
      rw [Rows.acc_succ]; exact congrArg _ (Finset.sum_congr rfl fun r hr => by rw [X.dxc_shift _ hi r j (Finset.mem_range.1 hr)]; rfl)
  · rw [l.o4]; exact E3_congr fun _ _ k _ j _ => by
      rw [Rows.acc_succ]; exact congrArg _ (Finset.sum_congr rfl fun r hr => by rw [X.dza_shift _ hi r j (Finset.mem_range.1 hr)]; rfl)
  · rw [l.o5]; exact E3_congr fun _ _ k _ j _ => by
      rw [Rows.acc_succ]; exact congrArg _ (Finset.sum_congr rfl fun r hr => by rw [X.dza_shift _ hi r j (Finset.mem_range.1 hr)]; rfl)
  · rw [l.o6]; exact E3_congr fun _ _ k _ j _ => by
      rw [Rows.acc_succ]; exact congrArg _ (Finset.sum_congr rfl fun r hr => by rw [X.dzi_shift _ hi r j (Finset.mem_range.1 hr)]; rfl)
  · rw [l.o7]; exact E3_congr fun _ _ k _ j _ => by
      rw [Rows.acc_succ]; exact congrArg _ (Finset.sum_congr rfl fun r hr => by rw [X.dzi_shift _ hi r j (Finset.mem_range.1 hr)]; rfl)
  · rw [l.o8]; exact E3_congr fun _ _ k _ j _ => by
      rw [Rows.acc_succ, Finset.sum_mul, zero_sub, ← Finset.sum_neg_distrib]
      exact congrArg _ (Finset.sum_congr rfl fun r hr => by rw [X.dlr_shift _ hi r j (Finset.mem_range.1 hr)]; rfl)
  · rw [l.o9]; exact E3_congr fun _ _ k _ j _ => by
      rw [Rows.acc_succ]; exact congrArg _ (Finset.sum_congr rfl fun r hr => by rw [X.dnr_shift _ r j]; rfl)
  · intro h; rw [l.o10]
    exact E2_congr fun q _ j _ => (X.dt_step _ hi q j (by omega)).trans (by rw [show 10 - n - 1 = 9 - n by omega])
  · intro h; rw [l.o11]
    exact E2_congr fun _ _ j _ => (X.dc_step _ hi j (by omega)).trans (by rw [show 10 - n - 1 = 9 - n by omega])

variable {m : (ℓ : Loc nD τ Cert.KernelIdeal.sig) → Buf (Elt Ideal) ℓ}

/-- After every point, when the blocks are the chunks of `X`. -/
theorem done_all {c : Dev nD} {X : Rows}
    (b : ∀ t : Fin cfg0.N, Blocks m c t (X.ch (10 - t.val)) (X.h0 (10 - t.val))) (n : ℕ) (hn : n < cfg0.N) :
    Done (outsAt0 (F := Ideal) m c n hn) X n := by
  have h11 : n < 11 := hn
  induction n with
  | zero =>
    refine Left.done h11 ?_
    have := left_A (b ⟨0, hn⟩) rfl
    simp only [Rows.acc, Finset.sum_range_zero]
    exact this
  | succ n ih =>
    have d := ih (Nat.lt_of_succ_lt hn) (by omega)
    refine Left.done h11 ?_
    refine left_B (b ⟨n + 1, hn⟩) (by show ¬ (n + 1) % 11 = 0; omega) d.o2 d.o3 d.o4 d.o5 d.o6 d.o7 d.o8 d.o9 ?_ ?_
    · rw [show 10 - (n + 1) = 9 - n by omega]; exact d.o10 (by omega)
    · rw [show 10 - (n + 1) = 9 - n by omega]; exact d.o11 (by omega)

end Cert.Emb
-- ==== Proof.Finals.lean ====
/- The kernel's arrays after the last grid point. -/
module

public import proofs.«01_k».proof.Proof.Points

@[expose] public section

set_option maxRecDepth 16384

noncomputable section

namespace Cert.Emb

open Idealize.ShloMosaic Idealize.ShloMosaic.TcCoe Idealize.SL.Sem
open Cert.KernelIdeal Cert.KernelIdeal.Gen

/-- The point `t` works on chunk `10 - t`. -/
theorem idx13 : ∀ t : Fin grid0.N, win0_13.index t 0 = 10 - t.val ∧ win0_13.index t 1 = 0 := by decide +kernel
theorem idx14 : ∀ t : Fin grid0.N, win0_14.index t 0 = 10 - t.val ∧ win0_14.index t 1 = 0 := by decide +kernel

variable {m : (ℓ : Loc nD τ Cert.KernelIdeal.sig) → Buf (Elt Ideal) ℓ} {c : Dev nD} {X : Rows}

theorem final13 (b : ∀ t : Fin cfg0.N, Blocks m c t (X.ch (10 - t.val)) (X.h0 (10 - t.val))) :
    (dats (F := Ideal) m 0 c).arrAt 13 cfg0.N = E2 2112 512 (X.Du 2111) := by
  refine (dats m 0 c).arrAt_eq_of_covers 13 _ (by decide +kernel) fun t _ y => ?_
  blk_simp
  rw [after0_13, (done_all b t.val t.isLt).o0]
  simp only [E2]
  blk_simp
  rw [(idx13 t).1, (idx13 t).2, Nat.mul_comm 192, Nat.zero_mul, Nat.zero_add]
theorem final14 (b : ∀ t : Fin cfg0.N, Blocks m c t (X.ch (10 - t.val)) (X.h0 (10 - t.val))) :
    (dats (F := Ideal) m 0 c).arrAt 14 cfg0.N = E2 2112 512 (X.dg X.H) := by
  refine (dats m 0 c).arrAt_eq_of_covers 14 _ (by decide +kernel) fun t _ y => ?_
  blk_simp
  rw [after0_14, (done_all b t.val t.isLt).o1]
  simp only [E2]
  blk_simp
  rw [(idx14 t).1, (idx14 t).2, Nat.mul_comm 192, Nat.zero_mul, Nat.zero_add]
theorem final15 (b : ∀ t : Fin cfg0.N, Blocks m c t (X.ch (10 - t.val)) (X.h0 (10 - t.val))) :
    (dats (F := Ideal) m 0 c).arrAt 15 cfg0.N = E3 1 4 512 fun _ k j => ∑ p ∈ Finset.range 2112, X.f0 k j p := by
  refine (dats m 0 c).arrAt_eq_of_after_last 15 t0_10 (by decide +kernel) _ fun j => ?_
  blk_simp
  rw [after0_15, (done_all b _ t0_10.isLt).o2]
  simp only [show t0_10.val + 1 = 11 from rfl, Rows.acc_all]

theorem final16 (b : ∀ t : Fin cfg0.N, Blocks m c t (X.ch (10 - t.val)) (X.h0 (10 - t.val))) :
    (dats (F := Ideal) m 0 c).arrAt 16 cfg0.N = E3 1 1 512 fun _ _ j => ∑ p ∈ Finset.range 2112, X.f1 j p := by
  refine (dats m 0 c).arrAt_eq_of_after_last 16 t0_10 (by decide +kernel) _ fun j => ?_
  blk_simp
  rw [after0_16, (done_all b _ t0_10.isLt).o3]
  simp only [show t0_10.val + 1 = 11 from rfl, Rows.acc_all]

theorem final17 (b : ∀ t : Fin cfg0.N, Blocks m c t (X.ch (10 - t.val)) (X.h0 (10 - t.val))) :
    (dats (F := Ideal) m 0 c).arrAt 17 cfg0.N = E3 1 512 512 fun _ i j => ∑ p ∈ Finset.range 2112, X.f2 i j p := by
  refine (dats m 0 c).arrAt_eq_of_after_last 17 t0_10 (by decide +kernel) _ fun j => ?_
  blk_simp
  rw [after0_17, (done_all b _ t0_10.isLt).o4]
  simp only [show t0_10.val + 1 = 11 from rfl, Rows.acc_all]

theorem final18 (b : ∀ t : Fin cfg0.N, Blocks m c t (X.ch (10 - t.val)) (X.h0 (10 - t.val))) :
    (dats (F := Ideal) m 0 c).arrAt 18 cfg0.N = E3 1 1 512 fun _ _ j => ∑ p ∈ Finset.range 2112, X.f3 j p := by
  refine (dats m 0 c).arrAt_eq_of_after_last 18 t0_10 (by decide +kernel) _ fun j => ?_
  blk_simp
  rw [after0_18, (done_all b _ t0_10.isLt).o5]
  simp only [show t0_10.val + 1 = 11 from rfl, Rows.acc_all]

theorem final19 (b : ∀ t : Fin cfg0.N, Blocks m c t (X.ch (10 - t.val)) (X.h0 (10 - t.val))) :
    (dats (F := Ideal) m 0 c).arrAt 19 cfg0.N = E3 1 512 512 fun _ i j => ∑ p ∈ Finset.range 2112, X.f4 i j p := by
  refine (dats m 0 c).arrAt_eq_of_after_last 19 t0_10 (by decide +kernel) _ fun j => ?_
  blk_simp
  rw [after0_19, (done_all b _ t0_10.isLt).o6]
  simp only [show t0_10.val + 1 = 11 from rfl, Rows.acc_all]

theorem final20 (b : ∀ t : Fin cfg0.N, Blocks m c t (X.ch (10 - t.val)) (X.h0 (10 - t.val))) :
    (dats (F := Ideal) m 0 c).arrAt 20 cfg0.N = E3 1 1 512 fun _ _ j => ∑ p ∈ Finset.range 2112, X.f5 j p := by
  refine (dats m 0 c).arrAt_eq_of_after_last 20 t0_10 (by decide +kernel) _ fun j => ?_
  blk_simp
  rw [after0_20, (done_all b _ t0_10.isLt).o7]
  simp only [show t0_10.val + 1 = 11 from rfl, Rows.acc_all]

theorem final21 (b : ∀ t : Fin cfg0.N, Blocks m c t (X.ch (10 - t.val)) (X.h0 (10 - t.val))) :
    (dats (F := Ideal) m 0 c).arrAt 21 cfg0.N = E3 1 1 512 fun _ _ j => ∑ p ∈ Finset.range 2112, X.f6 j p := by
  refine (dats m 0 c).arrAt_eq_of_after_last 21 t0_10 (by decide +kernel) _ fun j => ?_
  blk_simp
  rw [after0_21, (done_all b _ t0_10.isLt).o8]
  simp only [show t0_10.val + 1 = 11 from rfl, Rows.acc_all]

theorem final22 (b : ∀ t : Fin cfg0.N, Blocks m c t (X.ch (10 - t.val)) (X.h0 (10 - t.val))) :
    (dats (F := Ideal) m 0 c).arrAt 22 cfg0.N = E3 1 1 512 fun _ _ j => ∑ p ∈ Finset.range 2112, X.f7 j p := by
  refine (dats m 0 c).arrAt_eq_of_after_last 22 t0_10 (by decide +kernel) _ fun j => ?_
  blk_simp
  rw [after0_22, (done_all b _ t0_10.isLt).o9]
  simp only [show t0_10.val + 1 = 11 from rfl, Rows.acc_all]

end Cert.Emb
-- ==== Proof.Feed.lean ====
/- The blocks every grid point reads, as rows of the arguments. -/
module

public import proofs.«01_k».proof.Proof.Prefix
public import proofs.«01_k».proof.Proof.Finals

@[expose] public section

set_option maxRecDepth 16384

noncomputable section

namespace Cert.Emb

open Idealize.ShloMosaic Idealize.ShloMosaic.Pipeline
open Cert.KernelIdeal Cert.KernelIdeal.Gen Cert.KernelIdeal.Prefix

/-- The block of every operand at the point `t`. -/
theorem idx_in : ∀ t : Fin grid0.N,
    (win0_0.index t 0 = 10 - t.val ∧ win0_0.index t 1 = 0) ∧ (win0_1.index t 0 = 10 - t.val ∧ win0_1.index t 1 = 1)
    ∧ (win0_2.index t 0 = 10 - t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0)
    ∧ (win0_11.index t 0 = 0 ∧ win0_11.index t 1 = 10 - t.val ∧ win0_11.index t 2 = 0 ∧ win0_11.index t 3 = 0)
    ∧ (win0_12.index t 0 = 0 ∧ win0_12.index t 1 = 10 - t.val ∧ win0_12.index t 2 = 0 ∧ win0_12.index t 3 = 0) := by
  decide +kernel

/-- The number of the chunk the point `t` works on. -/
theorem word_in : ∀ t : Fin grid0.N,
    Scalar.muli (Scalar.subi (10#32) (BitVec.ofNat 32 (grid0.coords t 1).val)) 192#32 = BitVec.ofNat 32 (192 * (10 - t.val)) := by
  decide +kernel

variable {m : (ℓ : Loc nD τ Cert.KernelIdeal.sig) → Buf (Elt Ideal) ℓ} {c : Dev nD} {P : Inp}
  (hr : Ready (StableHlo.after (List.flatten [hostOps0, hostOps0_1, hostOps0_2, hostOps0_3, hostOps0_4]) fun b => m (c, b)) P)
include hr

set_option maxHeartbeats 4000000 in
theorem feed (t : Fin cfg0.N) : Blocks m c t (P.X.ch (10 - t.val)) (P.X.h0 (10 - t.val)) := by
  obtain ⟨⟨i00, i01⟩, ⟨i10, i11⟩, ⟨i20, i21⟩, ⟨i30, i31⟩, ⟨i40, i41⟩, ⟨i50, i51⟩, ⟨i60, i61⟩, ⟨i70, i71⟩, ⟨i80, i81⟩,
    ⟨i90, i91⟩, ⟨ia0, ia1⟩, ⟨ib0, ib1, ib2, ib3⟩, ⟨ic0, ic1, ic2, ic3⟩⟩ := idx_in t
  constructor
  · funext y
    unfold X0_0 Pipeline.Window.fill
    rw [dif_pos (moved0_0 t y)]
    unfold iblk
    rw [show V m c (Pipeline.arrRef spec0 0) = E2 2112 5376 P.pp from hr.v0]
    blk_simp
    simp only [E2]
    blk_simp
    rw [i00, i01]
    show _ = ((if 192 * (10 - t.val) + ((y 0).val + 8) < 8 then 0 else P.pp (192 * (10 - t.val) + ((y 0).val + 8) - 8) (y 1).val : ℝ) : EReal)
    rw [if_neg (by omega), show 192 * (10 - t.val) + ((y 0).val + 8) - 8 = (10 - t.val) * 192 + (y 0).val by omega,
      Nat.zero_mul, Nat.zero_add]
  · funext y
    unfold X0_1 Pipeline.Window.fill
    rw [dif_pos (moved0_1 t y)]
    unfold iblk
    rw [show V m c (Pipeline.arrRef spec0 1) = E2 2112 5376 P.pp from hr.v0]
    blk_simp
    simp only [E2]
    blk_simp
    rw [i10, i11]
    show _ = ((P.pp (192 * (10 - t.val) + (y 0).val) ((y 1).val + 512) : ℝ) : EReal)
    rw [Nat.mul_comm 192, Nat.one_mul, Nat.add_comm 512]
  · funext y
    unfold iblk
    rw [show V m c (Pipeline.arrRef spec0 2) = E2 2112 512 P.d from hr.d]
    blk_simp
    simp only [E2]
    blk_simp
    rw [i20, i21]
    rw [Nat.mul_comm _ 192, Nat.zero_mul, Nat.zero_add]
    rfl
  · funext y
    unfold iblk
    rw [show V m c (Pipeline.arrRef spec0 3) = E2 4 512 P.cw from hr.cw]
    blk_simp
    simp only [E2]
    blk_simp
    rw [i31]
    rw [i30]
    simp only [Nat.zero_mul, Nat.zero_add]
    rfl
  · funext y
    unfold iblk
    rw [show V m c (Pipeline.arrRef spec0 4) = E2 1 512 fun _ j => P.cb j from hr.cb]
    blk_simp
    simp only [E2]
    blk_simp
    rw [i41]
    simp only [Nat.zero_mul, Nat.zero_add]
    rfl
  · funext y
    unfold iblk
    rw [show V m c (Pipeline.arrRef spec0 5) = E2 512 512 (blk P.wa) from hr.wa]
    blk_simp
    simp only [E2]
    blk_simp
    rw [i51]
    rw [i50]
    simp only [Nat.zero_mul, Nat.zero_add]
    rfl
  · funext y
    unfold iblk
    rw [show V m c (Pipeline.arrRef spec0 6) = E2 1 512 fun _ j => P.ba j from hr.ba]
    blk_simp
    simp only [E2]
    blk_simp
    rw [i61]
    simp only [Nat.zero_mul, Nat.zero_add]
    rfl
  · funext y
    unfold iblk
    rw [show V m c (Pipeline.arrRef spec0 7) = E2 512 512 (blk P.wi) from hr.wi]
    blk_simp
    simp only [E2]
    blk_simp
    rw [i71]
    rw [i70]
    simp only [Nat.zero_mul, Nat.zero_add]
    rfl
  · funext y
    unfold iblk
    rw [show V m c (Pipeline.arrRef spec0 8) = E2 1 512 fun _ j => P.bi j from hr.bi]
    blk_simp
    simp only [E2]
    blk_simp
    rw [i81]
    simp only [Nat.zero_mul, Nat.zero_add]
    rfl
  · funext y
    unfold iblk
    rw [show V m c (Pipeline.arrRef spec0 9) = E2 1 512 fun _ j => P.lam j from hr.lam]
    blk_simp
    simp only [E2]
    blk_simp
    rw [i91]
    simp only [Nat.zero_mul, Nat.zero_add]
    rfl
  · funext y
    unfold iblk
    rw [show V m c (Pipeline.arrRef spec0 10) = E2 1 512 fun _ j => P.ng j from hr.ng]
    blk_simp
    simp only [E2]
    blk_simp
    rw [ia1]
    simp only [Nat.zero_mul, Nat.zero_add]
    rfl
  · funext y
    unfold iblk
    rw [show V m c (Pipeline.arrRef spec0 11) = E4 1 11 8 512 fun _ i r j => if i = 0 then 0 else P.pp (192 * (i - 1) + 184 + r) j from hr.tails]
    blk_simp
    simp only [E4]
    blk_simp
    rw [ib1, ib2, ib3]
    have hy : (y 2).val < 8 := (y 2).isLt
    simp only [Nat.zero_mul, Nat.zero_add]
    refine congrArg (fun z : ℝ => (z : EReal)) ?_
    show _ = if 192 * (10 - t.val) + (y 2).val < 8 then 0 else P.pp (192 * (10 - t.val) + (y 2).val - 8) (y 3).val
    by_cases e : 10 - t.val = 0
    · rw [if_pos e, if_pos (by omega)]
    · rw [if_neg e, if_neg (by omega)]
      congr 1
      omega
  · funext y
    unfold iblk
    rw [show V m c (Pipeline.arrRef spec0 12) = E4 1 11 1 512 fun _ i _ j => if i = 0 then 0 else P.Y.H (192 * i - 49) j from hr.states]
    blk_simp
    simp only [E4]
    blk_simp
    rw [ic1, ic3]
    rw [Nat.zero_mul, Nat.zero_add]
    refine congrArg (fun z : ℝ => (z : EReal)) ?_
    rw [Rows.h0]
    by_cases e : 10 - t.val = 0
    · rw [if_pos e, if_pos e]
    · rw [if_neg e, if_neg e, Inp.Y, ← P.X.H_tail P.ma_lt]
      show P.X.H (48 + (192 * (10 - t.val) - 49)) (y 3).val = _
      congr 1
      omega
  · rw [word_in t]
    have ht : t.val < 11 := t.isLt
    rw [pay23 _ (by omega)]
    rfl

end Cert.Emb
-- ==== Proof.RefCat.lean ====
module

public import proofs.«01_k».proof.Proof.Host
public import proofs.«01_k».proof.Proof.Inp

@[expose] public section

set_option maxRecDepth 16384

noncomputable section

/-! Eight blocks put side by side, and eight rows of blocks put one below the other. -/

open Idealize Idealize.ShloMosaic

namespace Cert.Emb

/-- The `k`-th of eight. -/
def sel8 {α : Sort*} (a b c d e f g h : α) : ℕ → α
  | 0 => a
  | 1 => b
  | 2 => c
  | 3 => d
  | 4 => e
  | 5 => f
  | 6 => g
  | _ => h

/-- Eight arrays of one shape put one after the other along an axis. -/
def cat8 {α : Type} (s s₁ : Shape) (d : Fin s.rank) (x0 x1 x2 x3 x4 x5 x6 x7 : s₁.Idx → α)
    (h : Shape.Concatenates [s₁, s₁, s₁, s₁, s₁, s₁, s₁, s₁] s d) : s.Idx → α :=
  concatenate s d [⟨s₁, x0⟩, ⟨s₁, x1⟩, ⟨s₁, x2⟩, ⟨s₁, x3⟩, ⟨s₁, x4⟩, ⟨s₁, x5⟩, ⟨s₁, x6⟩, ⟨s₁, x7⟩] h

theorem cat8_eq {α : Type} (s s₁ : Shape) (d : Fin s.rank) (x0 x1 x2 x3 x4 x5 x6 x7 : s₁.Idx → α)
    (h : Shape.Concatenates [s₁, s₁, s₁, s₁, s₁, s₁, s₁, s₁] s d) :
    concatenate s d [⟨s₁, x0⟩, ⟨s₁, x1⟩, ⟨s₁, x2⟩, ⟨s₁, x3⟩, ⟨s₁, x4⟩, ⟨s₁, x5⟩, ⟨s₁, x6⟩, ⟨s₁, x7⟩] h
      = cat8 s s₁ d x0 x1 x2 x3 x4 x5 x6 x7 h := rfl

/-- Eight blocks of 64 columns side by side: column `j` is column `j % 64` of block `j / 64`. -/
theorem cat8_cols (f0 f1 f2 f3 f4 f5 f6 f7 : ℕ → ℕ → ℝ) (h) :
    cat8 (⟨2, ![64, 512]⟩ : Shape) ⟨2, ![64, 64]⟩ 1 (E2 64 64 f0) (E2 64 64 f1) (E2 64 64 f2) (E2 64 64 f3)
      (E2 64 64 f4) (E2 64 64 f5) (E2 64 64 f6) (E2 64 64 f7) h
      = E2 64 512 (fun i j => sel8 f0 f1 f2 f3 f4 f5 f6 f7 (j / 64) i (j % 64)) := by
  funext j
  have hj : (j 1).val < 512 := (j 1).isLt
  have hk : (j 1).val / 64 < 8 := by omega
  refine (concatenate_apply_piece (t := ⟨2, ![64, 512]⟩) (1 : Fin 2)
    [⟨⟨2, ![64, 64]⟩, E2 64 64 f0⟩, ⟨⟨2, ![64, 64]⟩, E2 64 64 f1⟩, ⟨⟨2, ![64, 64]⟩, E2 64 64 f2⟩, ⟨⟨2, ![64, 64]⟩, E2 64 64 f3⟩, ⟨⟨2, ![64, 64]⟩, E2 64 64 f4⟩, ⟨⟨2, ![64, 64]⟩, E2 64 64 f5⟩, ⟨⟨2, ![64, 64]⟩, E2 64 64 f6⟩, ⟨⟨2, ![64, 64]⟩, E2 64 64 f7⟩] h j ((j 1).val / 64) hk ⟨2, ![64, 64]⟩
    (E2 64 64 (sel8 f0 f1 f2 f3 f4 f5 f6 f7 ((j 1).val / 64))) ?_ rfl (64 * ((j 1).val / 64)) ?_
    (ix2 (n0 := 64) (n1 := 64) (j 0) ⟨(j 1).val % 64, Nat.mod_lt _ (by decide)⟩) ?_ ?_).trans rfl
  · generalize (j 1).val / 64 = k at hk ⊢
    interval_cases k <;> rfl
  · generalize (j 1).val / 64 = k at hk ⊢
    interval_cases k <;> rfl
  · intro b hb
    match b with
    | 0 => rfl
    | 1 => exact absurd rfl hb
  · exact Nat.div_add_mod _ _

/-- Eight rows of blocks one below the other: row `i` is row `i % 64` of the `i / 64`-th. -/
theorem cat8_rows (f0 f1 f2 f3 f4 f5 f6 f7 : ℕ → ℕ → ℝ) (h) :
    cat8 (⟨2, ![512, 512]⟩ : Shape) ⟨2, ![64, 512]⟩ 0 (E2 64 512 f0) (E2 64 512 f1) (E2 64 512 f2) (E2 64 512 f3)
      (E2 64 512 f4) (E2 64 512 f5) (E2 64 512 f6) (E2 64 512 f7) h
      = E2 512 512 (fun i j => sel8 f0 f1 f2 f3 f4 f5 f6 f7 (i / 64) (i % 64) j) := by
  funext j
  have hj : (j 0).val < 512 := (j 0).isLt
  have hk : (j 0).val / 64 < 8 := by omega
  refine (concatenate_apply_piece (t := ⟨2, ![512, 512]⟩) (0 : Fin 2)
    [⟨⟨2, ![64, 512]⟩, E2 64 512 f0⟩, ⟨⟨2, ![64, 512]⟩, E2 64 512 f1⟩, ⟨⟨2, ![64, 512]⟩, E2 64 512 f2⟩, ⟨⟨2, ![64, 512]⟩, E2 64 512 f3⟩, ⟨⟨2, ![64, 512]⟩, E2 64 512 f4⟩, ⟨⟨2, ![64, 512]⟩, E2 64 512 f5⟩, ⟨⟨2, ![64, 512]⟩, E2 64 512 f6⟩, ⟨⟨2, ![64, 512]⟩, E2 64 512 f7⟩] h j ((j 0).val / 64) hk ⟨2, ![64, 512]⟩
    (E2 64 512 (sel8 f0 f1 f2 f3 f4 f5 f6 f7 ((j 0).val / 64))) ?_ rfl (64 * ((j 0).val / 64)) ?_
    (ix2 (n0 := 64) (n1 := 512) ⟨(j 0).val % 64, Nat.mod_lt _ (by decide)⟩ (j 1)) ?_ ?_).trans rfl
  · generalize (j 0).val / 64 = k at hk ⊢
    interval_cases k <;> rfl
  · generalize (j 0).val / 64 = k at hk ⊢
    interval_cases k <;> rfl
  · intro b hb
    match b with
    | 0 => exact absurd rfl hb
    | 1 => rfl
  · exact Nat.div_add_mod _ _

/-- The block-diagonal matrix, block by block. -/
theorem sel8_blk (w : ℕ → ℕ → ℕ → ℝ) (i j : ℕ) (hi : i < 512) (hj : j < 512) :
    (sel8 (fun i j => sel8 (w 0) (fun _ _ => 0) (fun _ _ => 0) (fun _ _ => 0) (fun _ _ => 0) (fun _ _ => 0) (fun _ _ => 0) (fun _ _ => 0) (j / 64) i (j % 64))
      (fun i j => sel8 (fun _ _ => 0) (w 1) (fun _ _ => 0) (fun _ _ => 0) (fun _ _ => 0) (fun _ _ => 0) (fun _ _ => 0) (fun _ _ => 0) (j / 64) i (j % 64))
      (fun i j => sel8 (fun _ _ => 0) (fun _ _ => 0) (w 2) (fun _ _ => 0) (fun _ _ => 0) (fun _ _ => 0) (fun _ _ => 0) (fun _ _ => 0) (j / 64) i (j % 64))
      (fun i j => sel8 (fun _ _ => 0) (fun _ _ => 0) (fun _ _ => 0) (w 3) (fun _ _ => 0) (fun _ _ => 0) (fun _ _ => 0) (fun _ _ => 0) (j / 64) i (j % 64))
      (fun i j => sel8 (fun _ _ => 0) (fun _ _ => 0) (fun _ _ => 0) (fun _ _ => 0) (w 4) (fun _ _ => 0) (fun _ _ => 0) (fun _ _ => 0) (j / 64) i (j % 64))
      (fun i j => sel8 (fun _ _ => 0) (fun _ _ => 0) (fun _ _ => 0) (fun _ _ => 0) (fun _ _ => 0) (w 5) (fun _ _ => 0) (fun _ _ => 0) (j / 64) i (j % 64))
      (fun i j => sel8 (fun _ _ => 0) (fun _ _ => 0) (fun _ _ => 0) (fun _ _ => 0) (fun _ _ => 0) (fun _ _ => 0) (w 6) (fun _ _ => 0) (j / 64) i (j % 64))
      (fun i j => sel8 (fun _ _ => 0) (fun _ _ => 0) (fun _ _ => 0) (fun _ _ => 0) (fun _ _ => 0) (fun _ _ => 0) (fun _ _ => 0) (w 7) (j / 64) i (j % 64))
      (i / 64) (i % 64) j : ℝ) = blk w i j := by
  unfold blk
  have h1 : i / 64 < 8 := by omega
  have h2 : j / 64 < 8 := by omega
  generalize i / 64 = a at h1 ⊢
  interval_cases a <;> simp only [sel8] <;> generalize j / 64 = b at h2 ⊢ <;> interval_cases b <;> simp [sel8]

end Cert.Emb
end
-- ==== Proof.RefOps.lean ====
/- The reference's operations in order, in stretches, with the two loops between them. -/
module

public import proofs.«01_k».proof.ReferenceIdeal
public import Idealize.ShloMosaic.Lib.StableHlo.RunLoop
public import proofs.«01_k».proof.Proof.RefCat
public import Idealize.ShloMosaic.Lib.Pipeline.Kit
public import Idealize.ShloMosaic.Lib.Pipeline.Regions
public import proofs.«01_k».proof.Proof.Gen.ReferenceIdeal

@[expose] public section

set_option maxRecDepth 16384

noncomputable section

namespace Cert.ReferenceIdeal.Run

open Idealize.ShloMosaic Idealize.ShloMosaic.TcCoe Cert.ReferenceIdeal Cert.ReferenceIdeal.Gen
open Idealize.ShloMosaic.StableHlo (nullary unary binary nary)
open Idealize.SL Idealize.SL.RA Idealize.SL.BI
open scoped Idealize.SL.BI
open Idealize.SL.BI.BIBase Idealize.SL.Sem

/-- The values of a shape. -/
abbrev C (S : Shape) : Type := (⟨S, .f32⟩ : BufTy).Contents (Elt Ideal)

/-- The operation writes one value, numbered from `lo` to below `hi`. -/
def Writes (lo hi : ℕ) (op : HloOp τ sig (Elt Ideal)) : Prop :=
  ∃ y : Ref sig .tc, op.writes = {(Proc.devRef .tc y : DevRef τ sig)} ∧ lo ≤ y.idx.val ∧ y.idx.val < hi

/-- A value with another number is kept. -/
theorem keep {lo hi : ℕ} {ops : List (HloOp τ sig (Elt Ideal))} (h : ops.Forall (Writes lo hi)) (V : Valuation τ sig (Elt Ideal))
    (b : Ref sig .tc) (hb : b.idx.val < lo ∨ hi ≤ b.idx.val) : StableHlo.after ops V (Proc.devRef .tc b) = V (Proc.devRef .tc b) :=
  StableHlo.after_of_forall_not_mem ops V fun op hop hm => by
    obtain ⟨y, hy, h1, h2⟩ := List.forall_iff_forall_mem.mp h op hop
    rw [hy, Finset.mem_singleton] at hm
    have e : b = y := Proc.devRef_injective .tc hm
    subst e
    omega

/-- 60 operations of part 0. -/
abbrev ops0_0 : List (HloOp τ sig (Elt Ideal)) :=
  ( nullary main_cst (constant (F := Ideal) S_ .f32 0x00000000#32)
  :: unary main_cst main_v0 (broadcastInDim S48x5376 ![] bcast_S_S48x5376 : C S_ → C S48x5376)
  :: binary main_v0 main_arg0 main_v1 ((fun a b => concatenate S2112x5376 0 [⟨S48x5376, a⟩, ⟨S2064x5376, b⟩] concatenates_S48x5376_S2064x5376_S2112x5376_d0) : C S48x5376 → C S2064x5376 → C S2112x5376)
  :: unary main_v1 main_v2 ((extractStridedSlice S2112x512 ![0, 0] · slices_S2112x5376_S2112x512_0_0) : C S2112x5376 → C S2112x512)
  :: unary main_v1 main_v3 ((extractStridedSlice S2112x512 ![0, 512] · slices_S2112x5376_S2112x512_0_512) : C S2112x5376 → C S2112x512)
  :: nullary main_cst_0 (constant (F := Ideal) S_ .f32 0x00000000#32)
  :: unary main_cst_0 main_v4 (broadcastInDim S64x64 ![] bcast_S_S64x64 : C S_ → C S64x64)
  :: unary main_arg3 main_v5 ((extractStridedSlice S1x64x64 ![0, 0, 0] · slices_S8x64x64_S1x64x64_0_0_0) : C S8x64x64 → C S1x64x64)
  :: unary main_v5 main_v6 (fun u : S1x64x64.Idx → EReal => shapeCast (α := EReal) S64x64 u shapeCasts_S1x64x64_S64x64)
  :: nary ![main_v6, main_v4, main_v4, main_v4, main_v4, main_v4, main_v4, main_v4] main_v7 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg3 main_v8 ((extractStridedSlice S1x64x64 ![1, 0, 0] · slices_S8x64x64_S1x64x64_1_0_0) : C S8x64x64 → C S1x64x64)
  :: unary main_v8 main_v9 (fun u : S1x64x64.Idx → EReal => shapeCast (α := EReal) S64x64 u shapeCasts_S1x64x64_S64x64)
  :: nary ![main_v4, main_v9, main_v4, main_v4, main_v4, main_v4, main_v4, main_v4] main_v10 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg3 main_v11 ((extractStridedSlice S1x64x64 ![2, 0, 0] · slices_S8x64x64_S1x64x64_2_0_0) : C S8x64x64 → C S1x64x64)
  :: unary main_v11 main_v12 (fun u : S1x64x64.Idx → EReal => shapeCast (α := EReal) S64x64 u shapeCasts_S1x64x64_S64x64)
  :: nary ![main_v4, main_v4, main_v12, main_v4, main_v4, main_v4, main_v4, main_v4] main_v13 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg3 main_v14 ((extractStridedSlice S1x64x64 ![3, 0, 0] · slices_S8x64x64_S1x64x64_3_0_0) : C S8x64x64 → C S1x64x64)
  :: unary main_v14 main_v15 (fun u : S1x64x64.Idx → EReal => shapeCast (α := EReal) S64x64 u shapeCasts_S1x64x64_S64x64)
  :: nary ![main_v4, main_v4, main_v4, main_v15, main_v4, main_v4, main_v4, main_v4] main_v16 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg3 main_v17 ((extractStridedSlice S1x64x64 ![4, 0, 0] · slices_S8x64x64_S1x64x64_4_0_0) : C S8x64x64 → C S1x64x64)
  :: unary main_v17 main_v18 (fun u : S1x64x64.Idx → EReal => shapeCast (α := EReal) S64x64 u shapeCasts_S1x64x64_S64x64)
  :: nary ![main_v4, main_v4, main_v4, main_v4, main_v18, main_v4, main_v4, main_v4] main_v19 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg3 main_v20 ((extractStridedSlice S1x64x64 ![5, 0, 0] · slices_S8x64x64_S1x64x64_5_0_0) : C S8x64x64 → C S1x64x64)
  :: unary main_v20 main_v21 (fun u : S1x64x64.Idx → EReal => shapeCast (α := EReal) S64x64 u shapeCasts_S1x64x64_S64x64)
  :: nary ![main_v4, main_v4, main_v4, main_v4, main_v4, main_v21, main_v4, main_v4] main_v22 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg3 main_v23 ((extractStridedSlice S1x64x64 ![6, 0, 0] · slices_S8x64x64_S1x64x64_6_0_0) : C S8x64x64 → C S1x64x64)
  :: unary main_v23 main_v24 (fun u : S1x64x64.Idx → EReal => shapeCast (α := EReal) S64x64 u shapeCasts_S1x64x64_S64x64)
  :: nary ![main_v4, main_v4, main_v4, main_v4, main_v4, main_v4, main_v24, main_v4] main_v25 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg3 main_v26 ((extractStridedSlice S1x64x64 ![7, 0, 0] · slices_S8x64x64_S1x64x64_7_0_0) : C S8x64x64 → C S1x64x64)
  :: unary main_v26 main_v27 (fun u : S1x64x64.Idx → EReal => shapeCast (α := EReal) S64x64 u shapeCasts_S1x64x64_S64x64)
  :: nary ![main_v4, main_v4, main_v4, main_v4, main_v4, main_v4, main_v4, main_v27] main_v28 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: nary ![main_v7, main_v10, main_v13, main_v16, main_v19, main_v22, main_v25, main_v28] main_v29 (fun u => (Emb.cat8 S512x512 S64x512 0 (u 0 : C S64x512) (u 1 : C S64x512) (u 2 : C S64x512) (u 3 : C S64x512) (u 4 : C S64x512) (u 5 : C S64x512) (u 6 : C S64x512) (u 7 : C S64x512) concatenates_S64x512_S64x512_S64x512_S64x512_S64x512_S64x512_S64x512_S64x512_S512x512_d0 : C S512x512))
  :: nullary main_cst_1 (constant (F := Ideal) S_ .f32 0x00000000#32)
  :: unary main_cst_1 main_v30 (broadcastInDim S64x64 ![] bcast_S_S64x64 : C S_ → C S64x64)
  :: unary main_arg5 main_v31 ((extractStridedSlice S1x64x64 ![0, 0, 0] · slices_S8x64x64_S1x64x64_0_0_0) : C S8x64x64 → C S1x64x64)
  :: unary main_v31 main_v32 (fun u : S1x64x64.Idx → EReal => shapeCast (α := EReal) S64x64 u shapeCasts_S1x64x64_S64x64)
  :: nary ![main_v32, main_v30, main_v30, main_v30, main_v30, main_v30, main_v30, main_v30] main_v33 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg5 main_v34 ((extractStridedSlice S1x64x64 ![1, 0, 0] · slices_S8x64x64_S1x64x64_1_0_0) : C S8x64x64 → C S1x64x64)
  :: unary main_v34 main_v35 (fun u : S1x64x64.Idx → EReal => shapeCast (α := EReal) S64x64 u shapeCasts_S1x64x64_S64x64)
  :: nary ![main_v30, main_v35, main_v30, main_v30, main_v30, main_v30, main_v30, main_v30] main_v36 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg5 main_v37 ((extractStridedSlice S1x64x64 ![2, 0, 0] · slices_S8x64x64_S1x64x64_2_0_0) : C S8x64x64 → C S1x64x64)
  :: unary main_v37 main_v38 (fun u : S1x64x64.Idx → EReal => shapeCast (α := EReal) S64x64 u shapeCasts_S1x64x64_S64x64)
  :: nary ![main_v30, main_v30, main_v38, main_v30, main_v30, main_v30, main_v30, main_v30] main_v39 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg5 main_v40 ((extractStridedSlice S1x64x64 ![3, 0, 0] · slices_S8x64x64_S1x64x64_3_0_0) : C S8x64x64 → C S1x64x64)
  :: unary main_v40 main_v41 (fun u : S1x64x64.Idx → EReal => shapeCast (α := EReal) S64x64 u shapeCasts_S1x64x64_S64x64)
  :: nary ![main_v30, main_v30, main_v30, main_v41, main_v30, main_v30, main_v30, main_v30] main_v42 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg5 main_v43 ((extractStridedSlice S1x64x64 ![4, 0, 0] · slices_S8x64x64_S1x64x64_4_0_0) : C S8x64x64 → C S1x64x64)
  :: unary main_v43 main_v44 (fun u : S1x64x64.Idx → EReal => shapeCast (α := EReal) S64x64 u shapeCasts_S1x64x64_S64x64)
  :: nary ![main_v30, main_v30, main_v30, main_v30, main_v44, main_v30, main_v30, main_v30] main_v45 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg5 main_v46 ((extractStridedSlice S1x64x64 ![5, 0, 0] · slices_S8x64x64_S1x64x64_5_0_0) : C S8x64x64 → C S1x64x64)
  :: unary main_v46 main_v47 (fun u : S1x64x64.Idx → EReal => shapeCast (α := EReal) S64x64 u shapeCasts_S1x64x64_S64x64)
  :: nary ![main_v30, main_v30, main_v30, main_v30, main_v30, main_v47, main_v30, main_v30] main_v48 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg5 main_v49 ((extractStridedSlice S1x64x64 ![6, 0, 0] · slices_S8x64x64_S1x64x64_6_0_0) : C S8x64x64 → C S1x64x64)
  :: unary main_v49 main_v50 (fun u : S1x64x64.Idx → EReal => shapeCast (α := EReal) S64x64 u shapeCasts_S1x64x64_S64x64)
  :: nary ![main_v30, main_v30, main_v30, main_v30, main_v30, main_v30, main_v50, main_v30] main_v51 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: unary main_arg5 main_v52 ((extractStridedSlice S1x64x64 ![7, 0, 0] · slices_S8x64x64_S1x64x64_7_0_0) : C S8x64x64 → C S1x64x64)
  :: unary main_v52 main_v53 (fun u : S1x64x64.Idx → EReal => shapeCast (α := EReal) S64x64 u shapeCasts_S1x64x64_S64x64)
  :: nary ![main_v30, main_v30, main_v30, main_v30, main_v30, main_v30, main_v30, main_v53] main_v54 (fun u => (Emb.cat8 S64x512 S64x64 1 (u 0 : C S64x64) (u 1 : C S64x64) (u 2 : C S64x64) (u 3 : C S64x64) (u 4 : C S64x64) (u 5 : C S64x64) (u 6 : C S64x64) (u 7 : C S64x64) concatenates_S64x64_S64x64_S64x64_S64x64_S64x64_S64x64_S64x64_S64x64_S64x512_d1 : C S64x512))
  :: nary ![main_v33, main_v36, main_v39, main_v42, main_v45, main_v48, main_v51, main_v54] main_v55 (fun u => (Emb.cat8 S512x512 S64x512 0 (u 0 : C S64x512) (u 1 : C S64x512) (u 2 : C S64x512) (u 3 : C S64x512) (u 4 : C S64x512) (u 5 : C S64x512) (u 6 : C S64x512) (u 7 : C S64x512) concatenates_S64x512_S64x512_S64x512_S64x512_S64x512_S64x512_S64x512_S64x512_S512x512_d0 : C S512x512))
  :: unary main_arg1 main_v56 ((extractStridedSlice S1x512 ![0, 0] · slices_S4x512_S1x512_0_0) : C S4x512 → C S1x512)
  :: [])
/-- They touch references of the core only. -/
theorem ops0_0_sub : ops0_0.Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.nary_bufs_sub .., StableHlo.nullary_bufs_sub .., StableHlo.unary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.nary_bufs_sub .., StableHlo.unary_bufs_sub ..⟩
/-- None of them allocates. -/
theorem ops0_0_fresh : ops0_0.Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- They write the values numbered 10 to 69. -/
theorem ops0_0_writes : ops0_0.Forall (Writes 10 70) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 60 operations of part 1. -/
abbrev ops1_0 : List (HloOp τ sig (Elt Ideal)) :=
  ( unary main_v56 main_v57 (fun u : S1x512.Idx → EReal => shapeCast (α := EReal) S512 u shapeCasts_S1x512_S512)
  :: unary main_v2 main_v58 ((extractStridedSlice S2064x512 ![45, 0] · slices_S2112x512_S2064x512_45_0) : C S2112x512 → C S2064x512)
  :: unary main_v57 main_v59 (broadcastInDim S1x512 ![1] bcast_S512_S1x512_1 : C S512 → C S1x512)
  :: unary main_v59 main_v60 (broadcastInDim S2064x512 ![0, 1] bcast_S1x512_S2064x512_0_1 : C S1x512 → C S2064x512)
  :: binary main_v60 main_v58 main_v61 (mulf (F := Ideal) (φ := .f32) : C S2064x512 → C S2064x512 → C S2064x512)
  :: unary main_arg1 main_v62 ((extractStridedSlice S1x512 ![1, 0] · slices_S4x512_S1x512_1_0) : C S4x512 → C S1x512)
  :: unary main_v62 main_v63 (fun u : S1x512.Idx → EReal => shapeCast (α := EReal) S512 u shapeCasts_S1x512_S512)
  :: unary main_v2 main_v64 ((extractStridedSlice S2064x512 ![46, 0] · slices_S2112x512_S2064x512_46_0) : C S2112x512 → C S2064x512)
  :: unary main_v63 main_v65 (broadcastInDim S1x512 ![1] bcast_S512_S1x512_1 : C S512 → C S1x512)
  :: unary main_v65 main_v66 (broadcastInDim S2064x512 ![0, 1] bcast_S1x512_S2064x512_0_1 : C S1x512 → C S2064x512)
  :: binary main_v66 main_v64 main_v67 (mulf (F := Ideal) (φ := .f32) : C S2064x512 → C S2064x512 → C S2064x512)
  :: binary main_v61 main_v67 main_v68 (addf (F := Ideal) (φ := .f32) : C S2064x512 → C S2064x512 → C S2064x512)
  :: unary main_arg1 main_v69 ((extractStridedSlice S1x512 ![2, 0] · slices_S4x512_S1x512_2_0) : C S4x512 → C S1x512)
  :: unary main_v69 main_v70 (fun u : S1x512.Idx → EReal => shapeCast (α := EReal) S512 u shapeCasts_S1x512_S512)
  :: unary main_v2 main_v71 ((extractStridedSlice S2064x512 ![47, 0] · slices_S2112x512_S2064x512_47_0) : C S2112x512 → C S2064x512)
  :: unary main_v70 main_v72 (broadcastInDim S1x512 ![1] bcast_S512_S1x512_1 : C S512 → C S1x512)
  :: unary main_v72 main_v73 (broadcastInDim S2064x512 ![0, 1] bcast_S1x512_S2064x512_0_1 : C S1x512 → C S2064x512)
  :: binary main_v73 main_v71 main_v74 (mulf (F := Ideal) (φ := .f32) : C S2064x512 → C S2064x512 → C S2064x512)
  :: binary main_v68 main_v74 main_v75 (addf (F := Ideal) (φ := .f32) : C S2064x512 → C S2064x512 → C S2064x512)
  :: unary main_arg1 main_v76 ((extractStridedSlice S1x512 ![3, 0] · slices_S4x512_S1x512_3_0) : C S4x512 → C S1x512)
  :: unary main_v76 main_v77 (fun u : S1x512.Idx → EReal => shapeCast (α := EReal) S512 u shapeCasts_S1x512_S512)
  :: unary main_v2 main_v78 ((extractStridedSlice S2064x512 ![48, 0] · slices_S2112x512_S2064x512_48_0) : C S2112x512 → C S2064x512)
  :: unary main_v77 main_v79 (broadcastInDim S1x512 ![1] bcast_S512_S1x512_1 : C S512 → C S1x512)
  :: unary main_v79 main_v80 (broadcastInDim S2064x512 ![0, 1] bcast_S1x512_S2064x512_0_1 : C S1x512 → C S2064x512)
  :: binary main_v80 main_v78 main_v81 (mulf (F := Ideal) (φ := .f32) : C S2064x512 → C S2064x512 → C S2064x512)
  :: binary main_v75 main_v81 main_v82 (addf (F := Ideal) (φ := .f32) : C S2064x512 → C S2064x512 → C S2064x512)
  :: unary main_arg2 main_v83 (broadcastInDim S1x512 ![1] bcast_S512_S1x512_1 : C S512 → C S1x512)
  :: unary main_v83 main_v84 (broadcastInDim S2064x512 ![0, 1] bcast_S1x512_S2064x512_0_1 : C S1x512 → C S2064x512)
  :: binary main_v82 main_v84 main_v85 (addf (F := Ideal) (φ := .f32) : C S2064x512 → C S2064x512 → C S2064x512)
  :: binary main_v85 main_v29 main_v86 ((fun l r => Host.dotGeneral (F := Ideal) (φ₁ := .f32) (φ₂ := .f32) dot_S2064x512_S512x512_S2064x512_1_0_0_1_n_n none l r) : C S2064x512 → C S512x512 → C S2064x512)
  :: unary main_arg4 main_v87 (broadcastInDim S1x512 ![1] bcast_S512_S1x512_1 : C S512 → C S1x512)
  :: unary main_v87 main_v88 (broadcastInDim S2064x512 ![0, 1] bcast_S1x512_S2064x512_0_1 : C S1x512 → C S2064x512)
  :: binary main_v86 main_v88 main_v89 (addf (F := Ideal) (φ := .f32) : C S2064x512 → C S2064x512 → C S2064x512)
  :: unary main_v89 main_v90 (Host.negf (F := Ideal) (φ := .f32) : C S2064x512 → C S2064x512)
  :: unary main_v90 main_v91 (Host.exp (F := Ideal) (φ := .f32) : C S2064x512 → C S2064x512)
  :: nullary main_cst_2 (constant (F := Ideal) S_ .f32 0x3F800000#32)
  :: unary main_cst_2 main_v92 (broadcastInDim S2064x512 ![] bcast_S_S2064x512 : C S_ → C S2064x512)
  :: binary main_v92 main_v91 main_v93 (addf (F := Ideal) (φ := .f32) : C S2064x512 → C S2064x512 → C S2064x512)
  :: nullary main_cst_3 (constant (F := Ideal) S_ .f32 0x3F800000#32)
  :: unary main_cst_3 main_v94 (broadcastInDim S2064x512 ![] bcast_S_S2064x512 : C S_ → C S2064x512)
  :: binary main_v94 main_v93 main_v95 (Host.divf (F := Ideal) (φ := .f32) : C S2064x512 → C S2064x512 → C S2064x512)
  :: nullary main_cst_4 (constant (F := Ideal) S_ .f32 0x3F800000#32)
  :: unary main_cst_4 main_v96 (broadcastInDim S2064x512 ![] bcast_S_S2064x512 : C S_ → C S2064x512)
  :: binary main_v96 main_v95 main_v97 (subf (F := Ideal) (φ := .f32) : C S2064x512 → C S2064x512 → C S2064x512)
  :: binary main_v95 main_v97 main_v98 (mulf (F := Ideal) (φ := .f32) : C S2064x512 → C S2064x512 → C S2064x512)
  :: binary main_v85 main_v55 main_v99 ((fun l r => Host.dotGeneral (F := Ideal) (φ₁ := .f32) (φ₂ := .f32) dot_S2064x512_S512x512_S2064x512_1_0_0_1_n_n none l r) : C S2064x512 → C S512x512 → C S2064x512)
  :: unary main_arg6 main_v100 (broadcastInDim S1x512 ![1] bcast_S512_S1x512_1 : C S512 → C S1x512)
  :: unary main_v100 main_v101 (broadcastInDim S2064x512 ![0, 1] bcast_S1x512_S2064x512_0_1 : C S1x512 → C S2064x512)
  :: binary main_v99 main_v101 main_v102 (addf (F := Ideal) (φ := .f32) : C S2064x512 → C S2064x512 → C S2064x512)
  :: unary main_v102 main_v103 (Host.negf (F := Ideal) (φ := .f32) : C S2064x512 → C S2064x512)
  :: unary main_v103 main_v104 (Host.exp (F := Ideal) (φ := .f32) : C S2064x512 → C S2064x512)
  :: nullary main_cst_5 (constant (F := Ideal) S_ .f32 0x3F800000#32)
  :: unary main_cst_5 main_v105 (broadcastInDim S2064x512 ![] bcast_S_S2064x512 : C S_ → C S2064x512)
  :: binary main_v105 main_v104 main_v106 (addf (F := Ideal) (φ := .f32) : C S2064x512 → C S2064x512 → C S2064x512)
  :: nullary main_cst_6 (constant (F := Ideal) S_ .f32 0x3F800000#32)
  :: unary main_cst_6 main_v107 (broadcastInDim S2064x512 ![] bcast_S_S2064x512 : C S_ → C S2064x512)
  :: binary main_v107 main_v106 main_v108 (Host.divf (F := Ideal) (φ := .f32) : C S2064x512 → C S2064x512 → C S2064x512)
  :: nullary main_cst_7 (constant (F := Ideal) S_ .f32 0x3F800000#32)
  :: unary main_cst_7 main_v109 (broadcastInDim S2064x512 ![] bcast_S_S2064x512 : C S_ → C S2064x512)
  :: binary main_v109 main_v108 main_v110 (subf (F := Ideal) (φ := .f32) : C S2064x512 → C S2064x512 → C S2064x512)
  :: [])
/-- They touch references of the core only. -/
theorem ops1_0_sub : ops1_0.Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
/-- None of them allocates. -/
theorem ops1_0_fresh : ops1_0.Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- They write the values numbered 70 to 129. -/
theorem ops1_0_writes : ops1_0.Forall (Writes 70 130) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 5 operations of part 2. -/
abbrev ops2_0 : List (HloOp τ sig (Elt Ideal)) :=
  ( binary main_v108 main_v110 main_v111 (mulf (F := Ideal) (φ := .f32) : C S2064x512 → C S2064x512 → C S2064x512)
  :: nullary main_cst_8 (constant (F := Ideal) S_ .f32 0xC1000000#32)
  :: unary main_cst_8 main_v112 (broadcastInDim S2064x512 ![] bcast_S_S2064x512 : C S_ → C S2064x512)
  :: binary main_v112 main_v95 main_v113 (mulf (F := Ideal) (φ := .f32) : C S2064x512 → C S2064x512 → C S2064x512)
  :: unary main_arg7 main_v114 (Host.negf (F := Ideal) (φ := .f32) : C S512 → C S512)
  :: [])
/-- They touch references of the core only. -/
theorem ops2_0_sub : ops2_0.Forall fun op => op.bufs ⊆ StableHlo.tcRefs τ sig :=
  ⟨StableHlo.binary_bufs_sub .., StableHlo.nullary_bufs_sub .., StableHlo.unary_bufs_sub .., StableHlo.binary_bufs_sub .., StableHlo.unary_bufs_sub ..⟩
/-- None of them allocates. -/
theorem ops2_0_fresh : ops2_0.Forall fun op => op.fresh = ∅ :=
  ⟨rfl, rfl, rfl, rfl, rfl⟩
/-- They write the values numbered 130 to 134. -/
theorem ops2_0_writes : ops2_0.Forall (Writes 130 135) :=
  ⟨⟨_, rfl, by decide⟩, ⟨_, rfl, by decide⟩, ⟨_, rfl, by decide⟩, ⟨_, rfl, by decide⟩, ⟨_, rfl, by decide⟩⟩

/-- 46 operations of part 2. -/
abbrev ops2_1 : List (HloOp τ sig (Elt Ideal)) :=
  ( nullary main_call0_cst ((constant (F := Ideal) S_ .f32 0x00000000#32) : C S_)
  :: unary main_call0_cst main_call0_v0 ((broadcastInDim S512 ![] bcast_S_S512) : C S_ → C S512)
  :: binary main_v114 main_call0_v0 main_call0_v1 ((maximumf (F := Ideal) (φ := .f32)) : C S512 → C S512 → C S512)
  :: unary main_call0_cst main_call0_v2 ((broadcastInDim S512 ![] bcast_S_S512) : C S_ → C S512)
  :: binary main_v114 main_call0_v2 main_call0_v3 ((subf (F := Ideal) (φ := .f32)) : C S512 → C S512 → C S512)
  :: binary main_call0_v3 main_call0_v3 main_call0_v4 ((cmpf (F := Ideal) (φ := .f32) .une) : C S512 → C S512 → (⟨S512, .i1⟩ : BufTy).Contents (Elt Ideal))
  :: unary main_call0_cst main_call0_v5 ((broadcastInDim S512 ![] bcast_S_S512) : C S_ → C S512)
  :: binary main_v114 main_call0_v5 main_call0_v6 ((addf (F := Ideal) (φ := .f32)) : C S512 → C S512 → C S512)
  :: unary main_call0_v3 main_call0_v7 ((Host.absf (F := Ideal) (φ := .f32)) : C S512 → C S512)
  :: unary main_call0_v7 main_call0_v8 ((Host.negf (F := Ideal) (φ := .f32)) : C S512 → C S512)
  :: unary main_call0_v8 main_call0_v9 ((Host.exp (F := Ideal) (φ := .f32)) : C S512 → C S512)
  :: unary main_call0_v9 main_call0_v10 ((Host.log1p (F := Ideal) (φ := .f32)) : C S512 → C S512)
  :: binary main_call0_v1 main_call0_v10 main_call0_v11 ((addf (F := Ideal) (φ := .f32)) : C S512 → C S512 → C S512)
  :: StableHlo.ternary main_call0_v4 main_call0_v6 main_call0_v11 main_v115_0 (select : (⟨S512, .i1⟩ : BufTy).Contents (Elt Ideal) → C S512 → C S512 → C S512)
  :: nullary main_call0_cst_0 ((constant (F := Ideal) S_ .f32 0x7F800000#32) : C S_)
  :: unary main_call0_cst_0 main_call0_v13 ((broadcastInDim S512 ![] bcast_S_S512) : C S_ → C S512)
  :: binary main_v114 main_call0_v13 main_call0_v14 ((cmpf (F := Ideal) (φ := .f32) .oeq) : C S512 → C S512 → (⟨S512, .i1⟩ : BufTy).Contents (Elt Ideal))
  :: nullary main_call0_cst_1 ((constant (F := Ideal) S_ .f32 0x00000000#32) : C S_)
  :: unary main_call0_cst_1 main_call0_v15 ((broadcastInDim S512 ![] bcast_S_S512) : C S_ → C S512)
  :: StableHlo.ternary main_call0_v14 main_call0_v15 main_v114 main_call0_v16 (select : (⟨S512, .i1⟩ : BufTy).Contents (Elt Ideal) → C S512 → C S512 → C S512)
  :: nullary main_call0_cst_2 ((constant (F := Ideal) S_ .f32 0x7F800000#32) : C S_)
  :: unary main_call0_cst_2 main_call0_v17 ((broadcastInDim S512 ![] bcast_S_S512) : C S_ → C S512)
  :: binary main_v115_0 main_call0_v17 main_call0_v18 ((cmpf (F := Ideal) (φ := .f32) .oeq) : C S512 → C S512 → (⟨S512, .i1⟩ : BufTy).Contents (Elt Ideal))
  :: nullary main_call0_cst_3 ((constant (F := Ideal) S_ .f32 0x00000000#32) : C S_)
  :: unary main_call0_cst_3 main_call0_v19 ((broadcastInDim S512 ![] bcast_S_S512) : C S_ → C S512)
  :: StableHlo.ternary main_call0_v18 main_call0_v19 main_v115_0 main_call0_v20 (select : (⟨S512, .i1⟩ : BufTy).Contents (Elt Ideal) → C S512 → C S512 → C S512)
  :: binary main_call0_v16 main_call0_v20 main_call0_v21 ((subf (F := Ideal) (φ := .f32)) : C S512 → C S512 → C S512)
  :: unary main_call0_v21 main_v115_1 ((Host.exp (F := Ideal) (φ := .f32)) : C S512 → C S512)
  :: nullary main_call0_cst_4 ((constant (F := Ideal) S_ .f32 0x00000000#32) : C S_)
  :: nullary main_call0_cst_5 ((constant (F := Ideal) S_ .f32 0x7F800000#32) : C S_)
  :: binary main_call0_cst_4 main_call0_cst_5 main_call0_v23 ((cmpf (F := Ideal) (φ := .f32) .oeq) : C S_ → C S_ → (⟨S_, .i1⟩ : BufTy).Contents (Elt Ideal))
  :: nullary main_call0_cst_6 ((constant (F := Ideal) S_ .f32 0x00000000#32) : C S_)
  :: nullary main_call0_cst_7 ((constant (F := Ideal) S_ .f32 0x00000000#32) : C S_)
  :: StableHlo.ternary main_call0_v23 main_call0_cst_7 main_call0_cst_6 main_call0_v24 (select : (⟨S_, .i1⟩ : BufTy).Contents (Elt Ideal) → C S_ → C S_ → C S_)
  :: nullary main_call0_cst_8 ((constant (F := Ideal) S_ .f32 0x7F800000#32) : C S_)
  :: unary main_call0_cst_8 main_call0_v25 ((broadcastInDim S512 ![] bcast_S_S512) : C S_ → C S512)
  :: binary main_v115_0 main_call0_v25 main_call0_v26 ((cmpf (F := Ideal) (φ := .f32) .oeq) : C S512 → C S512 → (⟨S512, .i1⟩ : BufTy).Contents (Elt Ideal))
  :: nullary main_call0_cst_9 ((constant (F := Ideal) S_ .f32 0x00000000#32) : C S_)
  :: unary main_call0_cst_9 main_call0_v27 ((broadcastInDim S512 ![] bcast_S_S512) : C S_ → C S512)
  :: StableHlo.ternary main_call0_v26 main_call0_v27 main_v115_0 main_call0_v28 (select : (⟨S512, .i1⟩ : BufTy).Contents (Elt Ideal) → C S512 → C S512 → C S512)
  :: unary main_call0_v24 main_call0_v29 ((broadcastInDim S512 ![] bcast_S_S512) : C S_ → C S512)
  :: binary main_call0_v29 main_call0_v28 main_call0_v30 ((subf (F := Ideal) (φ := .f32)) : C S512 → C S512 → C S512)
  :: unary main_call0_v30 main_call0_v31 ((Host.exp (F := Ideal) (φ := .f32)) : C S512 → C S512)
  :: nullary main_call0_cst_10 ((constant (F := Ideal) S_ .f32 0x00000000#32) : C S_)
  :: unary main_call0_cst_10 main_call0_v32 ((broadcastInDim S512 ![] bcast_S_S512) : C S_ → C S512)
  :: binary main_call0_v32 main_call0_v31 main_v115_2 ((mulf (F := Ideal) (φ := .f32)) : C S512 → C S512 → C S512)
  :: [])
/-- They touch references of the core only. -/
theorem ops2_1_sub : ops2_1.Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub ..⟩
/-- None of them allocates. -/
theorem ops2_1_fresh : ops2_1.Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- They write the values numbered 135 to 180. -/
theorem ops2_1_writes : ops2_1.Forall (Writes 135 181) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 29 operations of part 2. -/
abbrev ops2_2 : List (HloOp τ sig (Elt Ideal)) :=
  ( unary main_v115_0 main_v116 (broadcastInDim S1x512 ![1] bcast_S512_S1x512_1 : C S512 → C S1x512)
  :: unary main_v116 main_v117 (broadcastInDim S2064x512 ![0, 1] bcast_S1x512_S2064x512_0_1 : C S1x512 → C S2064x512)
  :: binary main_v113 main_v117 main_v118 (mulf (F := Ideal) (φ := .f32) : C S2064x512 → C S2064x512 → C S2064x512)
  :: unary main_v118 main_v119 (Host.exp (F := Ideal) (φ := .f32) : C S2064x512 → C S2064x512)
  :: nullary main_cst_9 (constant (F := Ideal) S_ .f32 0x40000000#32)
  :: unary main_cst_9 main_v120 (broadcastInDim S2064x512 ![] bcast_S_S2064x512 : C S_ → C S2064x512)
  :: binary main_v120 main_v118 main_v121 (mulf (F := Ideal) (φ := .f32) : C S2064x512 → C S2064x512 → C S2064x512)
  :: unary main_v121 main_v122 (Host.expm1 (F := Ideal) (φ := .f32) : C S2064x512 → C S2064x512)
  :: unary main_v121 main_v123 (Host.exp (F := Ideal) (φ := .f32) : C S2064x512 → C S2064x512)
  :: unary main_v122 main_v124 (Host.negf (F := Ideal) (φ := .f32) : C S2064x512 → C S2064x512)
  :: unary main_v124 main_v125 (Host.sqrt (F := Ideal) (φ := .f32) : C S2064x512 → C S2064x512)
  :: nullary main_cst_10 (constant (F := Ideal) S_ .f32 0x3F000000#32)
  :: unary main_cst_10 main_v126 (broadcastInDim S2064x512 ![] bcast_S_S2064x512 : C S_ → C S2064x512)
  :: binary main_v126 main_v125 main_v127 (Host.divf (F := Ideal) (φ := .f32) : C S2064x512 → C S2064x512 → C S2064x512)
  :: binary main_v108 main_v85 main_v128 (mulf (F := Ideal) (φ := .f32) : C S2064x512 → C S2064x512 → C S2064x512)
  :: binary main_v125 main_v128 main_v129 (mulf (F := Ideal) (φ := .f32) : C S2064x512 → C S2064x512 → C S2064x512)
  :: nullary main_cst_11 (constant (F := Ideal) S_ .f32 0x00000000#32)
  :: unary main_cst_11 main_v130 (broadcastInDim S512 ![] bcast_S_S512 : C S_ → C S512)
  :: nullary main_cst_12 (constant (F := Ideal) S_ .f32 0x00000000#32)
  :: unary main_cst_12 main_v131 (broadcastInDim S2064x512 ![] bcast_S_S2064x512 : C S_ → C S2064x512)
  :: nullary main_cst_13 (constant (F := Ideal) S_ .f32 0x00000000#32)
  :: unary main_cst_13 main_v132 (broadcastInDim S2064x512 ![] bcast_S_S2064x512 : C S_ → C S2064x512)
  :: nullary main_c (constantI S_ 32 0#32)
  :: unary main_v119 main_v133_0 id
  :: unary main_v129 main_v133_1 id
  :: unary main_c main_v133_2 id
  :: unary main_v130 main_v133_3 id
  :: unary main_v131 main_v133_4 id
  :: unary main_v132 main_v133_5 id
  :: [])
/-- They touch references of the core only. -/
theorem ops2_2_sub : ops2_2.Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- None of them allocates. -/
theorem ops2_2_fresh : ops2_2.Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
/-- They write the values numbered 181 to 209. -/
theorem ops2_2_writes : ops2_2.Forall (Writes 181 210) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 24 operations of part 2. -/
abbrev ops2_4 : List (HloOp τ sig (Elt Ideal)) :=
  ( unary main_v3 main_v134 ((extractStridedSlice S2064x512 ![48, 0] · slices_S2112x512_S2064x512_48_0) : C S2112x512 → C S2064x512)
  :: binary main_v134 main_v134 main_v135 (mulf (F := Ideal) (φ := .f32) : C S2064x512 → C S2064x512 → C S2064x512)
  :: binary main_v135 main_v134 main_v136 (mulf (F := Ideal) (φ := .f32) : C S2064x512 → C S2064x512 → C S2064x512)
  :: binary main_v134 main_v134 main_v137 (mulf (F := Ideal) (φ := .f32) : C S2064x512 → C S2064x512 → C S2064x512)
  :: nullary main_cst_14 (constant (F := Ideal) S_ .f32 0x40400000#32)
  :: unary main_cst_14 main_v138 (broadcastInDim S2064x512 ![] bcast_S_S2064x512 : C S_ → C S2064x512)
  :: binary main_v138 main_v137 main_v139 (mulf (F := Ideal) (φ := .f32) : C S2064x512 → C S2064x512 → C S2064x512)
  :: nullary main_cst_15 (constant (F := Ideal) S_ .f32 0x3D372713#32)
  :: unary main_cst_15 main_v140 (broadcastInDim S2064x512 ![] bcast_S_S2064x512 : C S_ → C S2064x512)
  :: binary main_v140 main_v136 main_v141 (mulf (F := Ideal) (φ := .f32) : C S2064x512 → C S2064x512 → C S2064x512)
  :: binary main_v134 main_v141 main_v142 (addf (F := Ideal) (φ := .f32) : C S2064x512 → C S2064x512 → C S2064x512)
  :: nullary main_cst_16 (constant (F := Ideal) S_ .f32 0x3F4C422A#32)
  :: unary main_cst_16 main_v143 (broadcastInDim S2064x512 ![] bcast_S_S2064x512 : C S_ → C S2064x512)
  :: binary main_v143 main_v142 main_v144 (mulf (F := Ideal) (φ := .f32) : C S2064x512 → C S2064x512 → C S2064x512)
  :: unary main_v144 main_v145 (Host.tanh (F := Ideal) (φ := .f32) : C S2064x512 → C S2064x512)
  :: nullary main_cst_17 (constant (F := Ideal) S_ .f32 0x3F800000#32)
  :: unary main_cst_17 main_v146 (broadcastInDim S2064x512 ![] bcast_S_S2064x512 : C S_ → C S2064x512)
  :: binary main_v146 main_v145 main_v147 (addf (F := Ideal) (φ := .f32) : C S2064x512 → C S2064x512 → C S2064x512)
  :: nullary main_cst_18 (constant (F := Ideal) S_ .f32 0x3F800000#32)
  :: unary main_cst_18 main_v148 (broadcastInDim S2064x512 ![] bcast_S_S2064x512 : C S_ → C S2064x512)
  :: binary main_v148 main_v145 main_v149 (subf (F := Ideal) (φ := .f32) : C S2064x512 → C S2064x512 → C S2064x512)
  :: binary main_v147 main_v149 main_v150 (mulf (F := Ideal) (φ := .f32) : C S2064x512 → C S2064x512 → C S2064x512)
  :: nullary main_cst_19 (constant (F := Ideal) S_ .f32 0x3F800000#32)
  :: unary main_cst_19 main_v151 (broadcastInDim S2064x512 ![] bcast_S_S2064x512 : C S_ → C S2064x512)
  :: [])
/-- They touch references of the core only. -/
theorem ops2_4_sub : ops2_4.Forall fun op => op.bufs ⊆ StableHlo.tcRefs τ sig :=
  ⟨StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub ..⟩
/-- None of them allocates. -/
theorem ops2_4_fresh : ops2_4.Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- They write the values numbered 228 to 251. -/
theorem ops2_4_writes : ops2_4.Forall (Writes 228 252) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 60 operations of part 3. -/
abbrev ops3_0 : List (HloOp τ sig (Elt Ideal)) :=
  ( binary main_v151 main_v145 main_v152 (addf (F := Ideal) (φ := .f32) : C S2064x512 → C S2064x512 → C S2064x512)
  :: nullary main_cst_20 (constant (F := Ideal) S_ .f32 0x3F000000#32)
  :: unary main_cst_20 main_v153 (broadcastInDim S2064x512 ![] bcast_S_S2064x512 : C S_ → C S2064x512)
  :: binary main_v153 main_v152 main_v154 (mulf (F := Ideal) (φ := .f32) : C S2064x512 → C S2064x512 → C S2064x512)
  :: binary main_v134 main_v154 main_v155 (mulf (F := Ideal) (φ := .f32) : C S2064x512 → C S2064x512 → C S2064x512)
  :: binary main_v155 main_v133_4 main_v156 (mulf (F := Ideal) (φ := .f32) : C S2064x512 → C S2064x512 → C S2064x512)
  :: binary main_v156 main_v156 main_v157 (mulf (F := Ideal) (φ := .f32) : C S2064x512 → C S2064x512 → C S2064x512)
  :: nullary main_cst_21 (constant (F := Ideal) S_ .f32 0x00000000#32)
  :: binary main_v157 main_cst_21 main_v158 ((fun x v => Host.reduceAdd (F := Ideal) (φ := .f32) x v reducesTo_S2064x512_S2064_d1 h_S_) : C S2064x512 → C S_ → C S2064)
  :: unary main_v158 main_v159 (broadcastInDim S2064x1 ![0] bcast_S2064_S2064x1_0 : C S2064 → C S2064x1)
  :: nullary main_cst_22 (constant (F := Ideal) S_ .f32 0x44000000#32)
  :: unary main_cst_22 main_v160 (broadcastInDim S2064x1 ![] bcast_S_S2064x1 : C S_ → C S2064x1)
  :: binary main_v159 main_v160 main_v161 (Host.divf (F := Ideal) (φ := .f32) : C S2064x1 → C S2064x1 → C S2064x1)
  :: nullary main_cst_23 (constant (F := Ideal) S_ .f32 0x358637BD#32)
  :: unary main_cst_23 main_v162 (broadcastInDim S2064x1 ![] bcast_S_S2064x1 : C S_ → C S2064x1)
  :: binary main_v161 main_v162 main_v163 (addf (F := Ideal) (φ := .f32) : C S2064x1 → C S2064x1 → C S2064x1)
  :: unary main_v163 main_v164 (Host.rsqrt (F := Ideal) (φ := .f32) : C S2064x1 → C S2064x1)
  :: binary main_v164 main_v163 main_v165 (Host.divf (F := Ideal) (φ := .f32) : C S2064x1 → C S2064x1 → C S2064x1)
  :: nullary main_cst_24 (constant (F := Ideal) S_ .f32 0xBF000000#32)
  :: unary main_cst_24 main_v166 (broadcastInDim S2064x1 ![] bcast_S_S2064x1 : C S_ → C S2064x1)
  :: binary main_v166 main_v165 main_v167 (mulf (F := Ideal) (φ := .f32) : C S2064x1 → C S2064x1 → C S2064x1)
  :: unary main_v164 main_v168 (broadcastInDim S2064x512 ![0, 1] bcast_S2064x1_S2064x512_0_1 : C S2064x1 → C S2064x512)
  :: binary main_v156 main_v168 main_v169 (mulf (F := Ideal) (φ := .f32) : C S2064x512 → C S2064x512 → C S2064x512)
  :: unary main_arg8 main_v170 (broadcastInDim S1x512 ![1] bcast_S512_S1x512_1 : C S512 → C S1x512)
  :: unary main_v170 main_v171 (broadcastInDim S2064x512 ![0, 1] bcast_S1x512_S2064x512_0_1 : C S1x512 → C S2064x512)
  :: binary main_v169 main_v171 main_v172 (mulf (F := Ideal) (φ := .f32) : C S2064x512 → C S2064x512 → C S2064x512)
  :: unary main_arg9 main_v173 ((extractStridedSlice S2064x512 ![48, 0] · slices_S2112x512_S2064x512_48_0) : C S2112x512 → C S2064x512)
  :: nullary main_cst_25 (constant (F := Ideal) S_ .f32 0x00000000#32)
  :: unary main_cst_25 main_v174 (broadcastInDim S512 ![] bcast_S_S512 : C S_ → C S512)
  :: binary main_v169 main_v173 main_v175 (mulf (F := Ideal) (φ := .f32) : C S2064x512 → C S2064x512 → C S2064x512)
  :: nullary main_cst_26 (constant (F := Ideal) S_ .f32 0x00000000#32)
  :: binary main_v175 main_cst_26 main_v176 ((fun x v => Host.reduceAdd (F := Ideal) (φ := .f32) x v reducesTo_S2064x512_S512_d0 h_S_) : C S2064x512 → C S_ → C S512)
  :: unary main_v176 main_v177 (fun u : S512.Idx → EReal => shapeCast (α := EReal) S1x512 u shapeCasts_S512_S1x512)
  :: unary main_v170 main_v178 (broadcastInDim S2064x512 ![0, 1] bcast_S1x512_S2064x512_0_1 : C S1x512 → C S2064x512)
  :: binary main_v173 main_v178 main_v179 (mulf (F := Ideal) (φ := .f32) : C S2064x512 → C S2064x512 → C S2064x512)
  :: nullary main_cst_27 (constant (F := Ideal) S_ .f32 0x00000000#32)
  :: binary main_v177 main_cst_27 main_v180 ((fun x v => Host.reduceAdd (F := Ideal) (φ := .f32) x v reducesTo_S1x512_S512_d0 h_S_) : C S1x512 → C S_ → C S512)
  :: binary main_v156 main_v179 main_v181 (mulf (F := Ideal) (φ := .f32) : C S2064x512 → C S2064x512 → C S2064x512)
  :: nullary main_cst_28 (constant (F := Ideal) S_ .f32 0x00000000#32)
  :: binary main_v181 main_cst_28 main_v182 ((fun x v => Host.reduceAdd (F := Ideal) (φ := .f32) x v reducesTo_S2064x512_S2064_d1 h_S_) : C S2064x512 → C S_ → C S2064)
  :: unary main_v182 main_v183 (fun u : S2064.Idx → EReal => shapeCast (α := EReal) S2064x1 u shapeCasts_S2064_S2064x1)
  :: unary main_v164 main_v184 (broadcastInDim S2064x512 ![0, 1] bcast_S2064x1_S2064x512_0_1 : C S2064x1 → C S2064x512)
  :: binary main_v179 main_v184 main_v185 (mulf (F := Ideal) (φ := .f32) : C S2064x512 → C S2064x512 → C S2064x512)
  :: binary main_v183 main_v167 main_v186 (mulf (F := Ideal) (φ := .f32) : C S2064x1 → C S2064x1 → C S2064x1)
  :: nullary main_cst_29 (constant (F := Ideal) S_ .f32 0x44000000#32)
  :: unary main_cst_29 main_v187 (broadcastInDim S2064x1 ![] bcast_S_S2064x1 : C S_ → C S2064x1)
  :: binary main_v186 main_v187 main_v188 (Host.divf (F := Ideal) (φ := .f32) : C S2064x1 → C S2064x1 → C S2064x1)
  :: nullary main_cst_30 (constant (F := Ideal) S_ .f32 0x00000000#32)
  :: binary main_v188 main_cst_30 main_v189 ((fun x v => Host.reduceAdd (F := Ideal) (φ := .f32) x v reducesTo_S2064x1_S2064_d1 h_S_) : C S2064x1 → C S_ → C S2064)
  :: unary main_v189 main_v190 (broadcastInDim S2064x512 ![0] bcast_S2064_S2064x512_0 : C S2064 → C S2064x512)
  :: binary main_v156 main_v190 main_v191 (mulf (F := Ideal) (φ := .f32) : C S2064x512 → C S2064x512 → C S2064x512)
  :: binary main_v185 main_v191 main_v192 (addf (F := Ideal) (φ := .f32) : C S2064x512 → C S2064x512 → C S2064x512)
  :: binary main_v190 main_v156 main_v193 (mulf (F := Ideal) (φ := .f32) : C S2064x512 → C S2064x512 → C S2064x512)
  :: binary main_v192 main_v193 main_v194 (addf (F := Ideal) (φ := .f32) : C S2064x512 → C S2064x512 → C S2064x512)
  :: binary main_v155 main_v194 main_v195 (mulf (F := Ideal) (φ := .f32) : C S2064x512 → C S2064x512 → C S2064x512)
  :: binary main_v194 main_v133_4 main_v196 (mulf (F := Ideal) (φ := .f32) : C S2064x512 → C S2064x512 → C S2064x512)
  :: binary main_v134 main_v196 main_v197 (mulf (F := Ideal) (φ := .f32) : C S2064x512 → C S2064x512 → C S2064x512)
  :: binary main_v196 main_v154 main_v198 (mulf (F := Ideal) (φ := .f32) : C S2064x512 → C S2064x512 → C S2064x512)
  :: nullary main_cst_31 (constant (F := Ideal) S_ .f32 0x3F000000#32)
  :: unary main_cst_31 main_v199 (broadcastInDim S2064x512 ![] bcast_S_S2064x512 : C S_ → C S2064x512)
  :: [])
/-- They touch references of the core only. -/
theorem ops3_0_sub : ops3_0.Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub ..⟩
/-- None of them allocates. -/
theorem ops3_0_fresh : ops3_0.Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- They write the values numbered 252 to 311. -/
theorem ops3_0_writes : ops3_0.Forall (Writes 252 312) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 27 operations of part 4. -/
abbrev ops4_0 : List (HloOp τ sig (Elt Ideal)) :=
  ( binary main_v199 main_v197 main_v200 (mulf (F := Ideal) (φ := .f32) : C S2064x512 → C S2064x512 → C S2064x512)
  :: binary main_v200 main_v150 main_v201 (mulf (F := Ideal) (φ := .f32) : C S2064x512 → C S2064x512 → C S2064x512)
  :: nullary main_cst_32 (constant (F := Ideal) S_ .f32 0x3F4C422A#32)
  :: unary main_cst_32 main_v202 (broadcastInDim S2064x512 ![] bcast_S_S2064x512 : C S_ → C S2064x512)
  :: binary main_v202 main_v201 main_v203 (mulf (F := Ideal) (φ := .f32) : C S2064x512 → C S2064x512 → C S2064x512)
  :: binary main_v198 main_v203 main_v204 (addf (F := Ideal) (φ := .f32) : C S2064x512 → C S2064x512 → C S2064x512)
  :: nullary main_cst_33 (constant (F := Ideal) S_ .f32 0x3D372713#32)
  :: unary main_cst_33 main_v205 (broadcastInDim S2064x512 ![] bcast_S_S2064x512 : C S_ → C S2064x512)
  :: binary main_v205 main_v203 main_v206 (mulf (F := Ideal) (φ := .f32) : C S2064x512 → C S2064x512 → C S2064x512)
  :: binary main_v206 main_v139 main_v207 (mulf (F := Ideal) (φ := .f32) : C S2064x512 → C S2064x512 → C S2064x512)
  :: binary main_v204 main_v207 main_v208 (addf (F := Ideal) (φ := .f32) : C S2064x512 → C S2064x512 → C S2064x512)
  :: nullary main_cst_34 (constant (F := Ideal) S_ .f32 0x00000000#32)
  :: binary main_v208 main_cst_34 main_v209 ((fun x v => pad S2112x512 ![48, 0] ![0, 0] ![0, 0] x v pads_S2064x512_S2112x512_4800_000 h_S_) : C S2064x512 → C S_ → C S2112x512)
  :: nullary main_cst_35 (constant (F := Ideal) S_ .f32 0x00000000#32)
  :: unary main_cst_35 main_v210 (broadcastInDim S512 ![] bcast_S_S512 : C S_ → C S512)
  :: nullary main_cst_36 (constant (F := Ideal) S_ .f32 0x00000000#32)
  :: unary main_cst_36 main_v211 (broadcastInDim S2064x512 ![] bcast_S_S2064x512 : C S_ → C S2064x512)
  :: nullary main_cst_37 (constant (F := Ideal) S_ .f32 0x00000000#32)
  :: unary main_cst_37 main_v212 (broadcastInDim S2064x512 ![] bcast_S_S2064x512 : C S_ → C S2064x512)
  :: nullary main_c_38 (constantI S_ 32 0#32)
  :: unary main_v195 main_v213_0 id
  :: unary main_v133_5 main_v213_1 id
  :: unary main_v119 main_v213_2 id
  :: unary main_c_38 main_v213_3 id
  :: unary main_v210 main_v213_4 id
  :: unary main_v211 main_v213_5 id
  :: unary main_v212 main_v213_6 id
  :: [])
/-- They touch references of the core only. -/
theorem ops4_0_sub : ops4_0.Forall fun op => op.bufs ⊆ StableHlo.tcRefs τ sig :=
  ⟨StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- None of them allocates. -/
theorem ops4_0_fresh : ops4_0.Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- They write the values numbered 312 to 338. -/
theorem ops4_0_writes : ops4_0.Forall (Writes 312 339) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 20 operations of part 4. -/
abbrev ops4_2 : List (HloOp τ sig (Elt Ideal)) :=
  ( binary main_v125 main_v213_6 main_v214 (mulf (F := Ideal) (φ := .f32) : C S2064x512 → C S2064x512 → C S2064x512)
  :: binary main_v213_6 main_v128 main_v215 (mulf (F := Ideal) (φ := .f32) : C S2064x512 → C S2064x512 → C S2064x512)
  :: binary main_v108 main_v214 main_v216 (mulf (F := Ideal) (φ := .f32) : C S2064x512 → C S2064x512 → C S2064x512)
  :: binary main_v214 main_v85 main_v217 (mulf (F := Ideal) (φ := .f32) : C S2064x512 → C S2064x512 → C S2064x512)
  :: binary main_v215 main_v127 main_v218 (mulf (F := Ideal) (φ := .f32) : C S2064x512 → C S2064x512 → C S2064x512)
  :: unary main_v218 main_v219 (Host.negf (F := Ideal) (φ := .f32) : C S2064x512 → C S2064x512)
  :: binary main_v219 main_v123 main_v220 (mulf (F := Ideal) (φ := .f32) : C S2064x512 → C S2064x512 → C S2064x512)
  :: nullary main_cst_39 (constant (F := Ideal) S_ .f32 0x40000000#32)
  :: unary main_cst_39 main_v221 (broadcastInDim S2064x512 ![] bcast_S_S2064x512 : C S_ → C S2064x512)
  :: binary main_v221 main_v220 main_v222 (mulf (F := Ideal) (φ := .f32) : C S2064x512 → C S2064x512 → C S2064x512)
  :: binary main_v213_5 main_v119 main_v223 (mulf (F := Ideal) (φ := .f32) : C S2064x512 → C S2064x512 → C S2064x512)
  :: binary main_v222 main_v223 main_v224 (addf (F := Ideal) (φ := .f32) : C S2064x512 → C S2064x512 → C S2064x512)
  :: binary main_v113 main_v224 main_v225 (mulf (F := Ideal) (φ := .f32) : C S2064x512 → C S2064x512 → C S2064x512)
  :: nullary main_cst_40 (constant (F := Ideal) S_ .f32 0x00000000#32)
  :: binary main_v225 main_cst_40 main_v226 ((fun x v => Host.reduceAdd (F := Ideal) (φ := .f32) x v reducesTo_S2064x512_S512_d0 h_S_) : C S2064x512 → C S_ → C S512)
  :: unary main_v226 main_v227 (fun u : S512.Idx → EReal => shapeCast (α := EReal) S1x512 u shapeCasts_S512_S1x512)
  :: unary main_v116 main_v228 (broadcastInDim S2064x512 ![0, 1] bcast_S1x512_S2064x512_0_1 : C S1x512 → C S2064x512)
  :: binary main_v224 main_v228 main_v229 (mulf (F := Ideal) (φ := .f32) : C S2064x512 → C S2064x512 → C S2064x512)
  :: nullary main_cst_41 (constant (F := Ideal) S_ .f32 0x00000000#32)
  :: binary main_v227 main_cst_41 main_v230 ((fun x v => Host.reduceAdd (F := Ideal) (φ := .f32) x v reducesTo_S1x512_S512_d0 h_S_) : C S1x512 → C S_ → C S512)
  :: [])
/-- They touch references of the core only. -/
theorem ops4_2_sub : ops4_2.Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub ..⟩
/-- None of them allocates. -/
theorem ops4_2_fresh : ops4_2.Forall fun op => op.fresh = ∅ :=
  ⟨rfl, rfl, rfl, rfl, rfl, rfl, rfl, rfl, rfl, rfl, rfl, rfl, rfl, rfl, rfl, rfl, rfl, rfl, rfl, rfl⟩
/-- They write the values numbered 365 to 384. -/
theorem ops4_2_writes : ops4_2.Forall (Writes 365 385) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 1 operations of part 4. -/
abbrev ops4_3 : List (HloOp τ sig (Elt Ideal)) :=
  ( binary main_v230 main_v115_1 main_v231 ((mulf (F := Ideal) (φ := .f32)) : C S512 → C S512 → C S512)
  :: [])
/-- They touch references of the core only. -/
theorem ops4_3_sub : ops4_3.Forall fun op => op.bufs ⊆ StableHlo.tcRefs τ sig :=
  StableHlo.binary_bufs_sub ..
/-- None of them allocates. -/
theorem ops4_3_fresh : ops4_3.Forall fun op => op.fresh = ∅ :=
  rfl
/-- They write the values numbered 385 to 385. -/
theorem ops4_3_writes : ops4_3.Forall (Writes 385 386) :=
  ⟨_, rfl, by decide⟩

/-- 11 operations of part 4. -/
abbrev ops4_4 : List (HloOp τ sig (Elt Ideal)) :=
  ( unary main_v231 main_v232 (Host.negf (F := Ideal) (φ := .f32) : C S512 → C S512)
  :: nullary main_cst_42 (constant (F := Ideal) S_ .f32 0xC1000000#32)
  :: unary main_cst_42 main_v233 (broadcastInDim S2064x512 ![] bcast_S_S2064x512 : C S_ → C S2064x512)
  :: binary main_v233 main_v229 main_v234 (mulf (F := Ideal) (φ := .f32) : C S2064x512 → C S2064x512 → C S2064x512)
  :: binary main_v217 main_v111 main_v235 (mulf (F := Ideal) (φ := .f32) : C S2064x512 → C S2064x512 → C S2064x512)
  :: nullary main_cst_43 (constant (F := Ideal) S_ .f32 0x00000000#32)
  :: binary main_v235 main_cst_43 main_v236 ((fun x v => Host.reduceAdd (F := Ideal) (φ := .f32) x v reducesTo_S2064x512_S512_d0 h_S_) : C S2064x512 → C S_ → C S512)
  :: unary main_v236 main_v237 (fun u : S512.Idx → EReal => shapeCast (α := EReal) S1x512 u shapeCasts_S512_S1x512)
  :: nullary main_cst_44 (constant (F := Ideal) S_ .f32 0x00000000#32)
  :: binary main_v237 main_cst_44 main_v238 ((fun x v => Host.reduceAdd (F := Ideal) (φ := .f32) x v reducesTo_S1x512_S512_d0 h_S_) : C S1x512 → C S_ → C S512)
  :: binary main_v235 main_v85 main_v239 ((fun l r => Host.dotGeneral (F := Ideal) (φ₁ := .f32) (φ₂ := .f32) dot_S2064x512_S2064x512_S512x512_0_0_1_1_n_n none l r) : C S2064x512 → C S2064x512 → C S512x512)
  :: [])
/-- They touch references of the core only. -/
theorem ops4_4_sub : ops4_4.Forall fun op => op.bufs ⊆ StableHlo.tcRefs τ sig :=
  ⟨StableHlo.unary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.binary_bufs_sub ..⟩
/-- None of them allocates. -/
theorem ops4_4_fresh : ops4_4.Forall fun op => op.fresh = ∅ :=
  ⟨rfl, rfl, rfl, rfl, rfl, rfl, rfl, rfl, rfl, rfl, rfl⟩
/-- They write the values numbered 386 to 396. -/
theorem ops4_4_writes : ops4_4.Forall (Writes 386 397) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 60 operations of part 5. -/
abbrev ops5_0 : List (HloOp τ sig (Elt Ideal)) :=
  ( unary main_v239 main_v240 ((transpose S512x512 [1, 0] · transposes_S512x512_S512x512_1_0) : C S512x512 → C S512x512)
  :: binary main_v235 main_v55 main_v241 ((fun l r => Host.dotGeneral (F := Ideal) (φ₁ := .f32) (φ₂ := .f32) dot_S2064x512_S512x512_S2064x512_1_1_0_0_n_n none l r) : C S2064x512 → C S512x512 → C S2064x512)
  :: binary main_v216 main_v241 main_v242 (addf (F := Ideal) (φ := .f32) : C S2064x512 → C S2064x512 → C S2064x512)
  :: binary main_v234 main_v98 main_v243 (mulf (F := Ideal) (φ := .f32) : C S2064x512 → C S2064x512 → C S2064x512)
  :: nullary main_cst_45 (constant (F := Ideal) S_ .f32 0x00000000#32)
  :: binary main_v243 main_cst_45 main_v244 ((fun x v => Host.reduceAdd (F := Ideal) (φ := .f32) x v reducesTo_S2064x512_S512_d0 h_S_) : C S2064x512 → C S_ → C S512)
  :: unary main_v244 main_v245 (fun u : S512.Idx → EReal => shapeCast (α := EReal) S1x512 u shapeCasts_S512_S1x512)
  :: nullary main_cst_46 (constant (F := Ideal) S_ .f32 0x00000000#32)
  :: binary main_v245 main_cst_46 main_v246 ((fun x v => Host.reduceAdd (F := Ideal) (φ := .f32) x v reducesTo_S1x512_S512_d0 h_S_) : C S1x512 → C S_ → C S512)
  :: binary main_v243 main_v85 main_v247 ((fun l r => Host.dotGeneral (F := Ideal) (φ₁ := .f32) (φ₂ := .f32) dot_S2064x512_S2064x512_S512x512_0_0_1_1_n_n none l r) : C S2064x512 → C S2064x512 → C S512x512)
  :: unary main_v247 main_v248 ((transpose S512x512 [1, 0] · transposes_S512x512_S512x512_1_0) : C S512x512 → C S512x512)
  :: binary main_v243 main_v29 main_v249 ((fun l r => Host.dotGeneral (F := Ideal) (φ₁ := .f32) (φ₂ := .f32) dot_S2064x512_S512x512_S2064x512_1_1_0_0_n_n none l r) : C S2064x512 → C S512x512 → C S2064x512)
  :: binary main_v242 main_v249 main_v250 (addf (F := Ideal) (φ := .f32) : C S2064x512 → C S2064x512 → C S2064x512)
  :: nullary main_cst_47 (constant (F := Ideal) S_ .f32 0x00000000#32)
  :: binary main_v250 main_cst_47 main_v251 ((fun x v => Host.reduceAdd (F := Ideal) (φ := .f32) x v reducesTo_S2064x512_S512_d0 h_S_) : C S2064x512 → C S_ → C S512)
  :: unary main_v251 main_v252 (fun u : S512.Idx → EReal => shapeCast (α := EReal) S1x512 u shapeCasts_S512_S1x512)
  :: nullary main_cst_48 (constant (F := Ideal) S_ .f32 0x00000000#32)
  :: binary main_v252 main_cst_48 main_v253 ((fun x v => Host.reduceAdd (F := Ideal) (φ := .f32) x v reducesTo_S1x512_S512_d0 h_S_) : C S1x512 → C S_ → C S512)
  :: unary main_v79 main_v254 (broadcastInDim S2064x512 ![0, 1] bcast_S1x512_S2064x512_0_1 : C S1x512 → C S2064x512)
  :: binary main_v254 main_v250 main_v255 (mulf (F := Ideal) (φ := .f32) : C S2064x512 → C S2064x512 → C S2064x512)
  :: binary main_v250 main_v78 main_v256 (mulf (F := Ideal) (φ := .f32) : C S2064x512 → C S2064x512 → C S2064x512)
  :: nullary main_cst_49 (constant (F := Ideal) S_ .f32 0x00000000#32)
  :: binary main_v256 main_cst_49 main_v257 ((fun x v => Host.reduceAdd (F := Ideal) (φ := .f32) x v reducesTo_S2064x512_S512_d0 h_S_) : C S2064x512 → C S_ → C S512)
  :: unary main_v257 main_v258 (fun u : S512.Idx → EReal => shapeCast (α := EReal) S1x512 u shapeCasts_S512_S1x512)
  :: nullary main_cst_50 (constant (F := Ideal) S_ .f32 0x00000000#32)
  :: binary main_v258 main_cst_50 main_v259 ((fun x v => Host.reduceAdd (F := Ideal) (φ := .f32) x v reducesTo_S1x512_S512_d0 h_S_) : C S1x512 → C S_ → C S512)
  :: nullary main_cst_51 (constant (F := Ideal) S_ .f32 0x00000000#32)
  :: binary main_v255 main_cst_51 main_v260 ((fun x v => pad S2112x512 ![48, 0] ![0, 0] ![0, 0] x v pads_S2064x512_S2112x512_4800_000 h_S_) : C S2064x512 → C S_ → C S2112x512)
  :: unary main_v259 main_v261 (broadcastInDim S1x512 ![1] bcast_S512_S1x512_1 : C S512 → C S1x512)
  :: nullary main_cst_52 (constant (F := Ideal) S_ .f32 0x00000000#32)
  :: binary main_v261 main_cst_52 main_v262 ((fun x v => pad S4x512 ![3, 0] ![0, 0] ![0, 0] x v pads_S1x512_S4x512_300_000 h_S_) : C S1x512 → C S_ → C S4x512)
  :: unary main_v72 main_v263 (broadcastInDim S2064x512 ![0, 1] bcast_S1x512_S2064x512_0_1 : C S1x512 → C S2064x512)
  :: binary main_v263 main_v250 main_v264 (mulf (F := Ideal) (φ := .f32) : C S2064x512 → C S2064x512 → C S2064x512)
  :: binary main_v250 main_v71 main_v265 (mulf (F := Ideal) (φ := .f32) : C S2064x512 → C S2064x512 → C S2064x512)
  :: nullary main_cst_53 (constant (F := Ideal) S_ .f32 0x00000000#32)
  :: binary main_v265 main_cst_53 main_v266 ((fun x v => Host.reduceAdd (F := Ideal) (φ := .f32) x v reducesTo_S2064x512_S512_d0 h_S_) : C S2064x512 → C S_ → C S512)
  :: unary main_v266 main_v267 (fun u : S512.Idx → EReal => shapeCast (α := EReal) S1x512 u shapeCasts_S512_S1x512)
  :: nullary main_cst_54 (constant (F := Ideal) S_ .f32 0x00000000#32)
  :: binary main_v267 main_cst_54 main_v268 ((fun x v => Host.reduceAdd (F := Ideal) (φ := .f32) x v reducesTo_S1x512_S512_d0 h_S_) : C S1x512 → C S_ → C S512)
  :: nullary main_cst_55 (constant (F := Ideal) S_ .f32 0x00000000#32)
  :: binary main_v264 main_cst_55 main_v269 ((fun x v => pad S2112x512 ![47, 0] ![1, 0] ![0, 0] x v pads_S2064x512_S2112x512_4710_000 h_S_) : C S2064x512 → C S_ → C S2112x512)
  :: binary main_v260 main_v269 main_v270 (addf (F := Ideal) (φ := .f32) : C S2112x512 → C S2112x512 → C S2112x512)
  :: unary main_v268 main_v271 (broadcastInDim S1x512 ![1] bcast_S512_S1x512_1 : C S512 → C S1x512)
  :: nullary main_cst_56 (constant (F := Ideal) S_ .f32 0x00000000#32)
  :: binary main_v271 main_cst_56 main_v272 ((fun x v => pad S4x512 ![2, 0] ![1, 0] ![0, 0] x v pads_S1x512_S4x512_210_000 h_S_) : C S1x512 → C S_ → C S4x512)
  :: binary main_v262 main_v272 main_v273 (addf (F := Ideal) (φ := .f32) : C S4x512 → C S4x512 → C S4x512)
  :: unary main_v65 main_v274 (broadcastInDim S2064x512 ![0, 1] bcast_S1x512_S2064x512_0_1 : C S1x512 → C S2064x512)
  :: binary main_v274 main_v250 main_v275 (mulf (F := Ideal) (φ := .f32) : C S2064x512 → C S2064x512 → C S2064x512)
  :: binary main_v250 main_v64 main_v276 (mulf (F := Ideal) (φ := .f32) : C S2064x512 → C S2064x512 → C S2064x512)
  :: nullary main_cst_57 (constant (F := Ideal) S_ .f32 0x00000000#32)
  :: binary main_v276 main_cst_57 main_v277 ((fun x v => Host.reduceAdd (F := Ideal) (φ := .f32) x v reducesTo_S2064x512_S512_d0 h_S_) : C S2064x512 → C S_ → C S512)
  :: unary main_v277 main_v278 (fun u : S512.Idx → EReal => shapeCast (α := EReal) S1x512 u shapeCasts_S512_S1x512)
  :: nullary main_cst_58 (constant (F := Ideal) S_ .f32 0x00000000#32)
  :: binary main_v278 main_cst_58 main_v279 ((fun x v => Host.reduceAdd (F := Ideal) (φ := .f32) x v reducesTo_S1x512_S512_d0 h_S_) : C S1x512 → C S_ → C S512)
  :: nullary main_cst_59 (constant (F := Ideal) S_ .f32 0x00000000#32)
  :: binary main_v275 main_cst_59 main_v280 ((fun x v => pad S2112x512 ![46, 0] ![2, 0] ![0, 0] x v pads_S2064x512_S2112x512_4620_000 h_S_) : C S2064x512 → C S_ → C S2112x512)
  :: binary main_v270 main_v280 main_v281 (addf (F := Ideal) (φ := .f32) : C S2112x512 → C S2112x512 → C S2112x512)
  :: unary main_v279 main_v282 (broadcastInDim S1x512 ![1] bcast_S512_S1x512_1 : C S512 → C S1x512)
  :: nullary main_cst_60 (constant (F := Ideal) S_ .f32 0x00000000#32)
  :: binary main_v282 main_cst_60 main_v283 ((fun x v => pad S4x512 ![1, 0] ![2, 0] ![0, 0] x v pads_S1x512_S4x512_120_000 h_S_) : C S1x512 → C S_ → C S4x512)
  :: [])
/-- They touch references of the core only. -/
theorem ops5_0_sub : ops5_0.Forall fun op => op.bufs ⊆ StableHlo.tcRefs τ sig :=
  ⟨StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.unary_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.unary_bufs_sub .., StableHlo.nullary_bufs_sub .., StableHlo.binary_bufs_sub ..⟩
/-- None of them allocates. -/
theorem ops5_0_fresh : ops5_0.Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- They write the values numbered 397 to 456. -/
theorem ops5_0_writes : ops5_0.Forall (Writes 397 457) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 24 operations of part 6. -/
abbrev ops6_0 : List (HloOp τ sig (Elt Ideal)) :=
  ( binary main_v273 main_v283 main_v284 (addf (F := Ideal) (φ := .f32) : C S4x512 → C S4x512 → C S4x512)
  :: unary main_v59 main_v285 (broadcastInDim S2064x512 ![0, 1] bcast_S1x512_S2064x512_0_1 : C S1x512 → C S2064x512)
  :: binary main_v285 main_v250 main_v286 (mulf (F := Ideal) (φ := .f32) : C S2064x512 → C S2064x512 → C S2064x512)
  :: binary main_v250 main_v58 main_v287 (mulf (F := Ideal) (φ := .f32) : C S2064x512 → C S2064x512 → C S2064x512)
  :: nullary main_cst_61 (constant (F := Ideal) S_ .f32 0x00000000#32)
  :: binary main_v287 main_cst_61 main_v288 ((fun x v => Host.reduceAdd (F := Ideal) (φ := .f32) x v reducesTo_S2064x512_S512_d0 h_S_) : C S2064x512 → C S_ → C S512)
  :: unary main_v288 main_v289 (fun u : S512.Idx → EReal => shapeCast (α := EReal) S1x512 u shapeCasts_S512_S1x512)
  :: nullary main_cst_62 (constant (F := Ideal) S_ .f32 0x00000000#32)
  :: binary main_v289 main_cst_62 main_v290 ((fun x v => Host.reduceAdd (F := Ideal) (φ := .f32) x v reducesTo_S1x512_S512_d0 h_S_) : C S1x512 → C S_ → C S512)
  :: nullary main_cst_63 (constant (F := Ideal) S_ .f32 0x00000000#32)
  :: binary main_v286 main_cst_63 main_v291 ((fun x v => pad S2112x512 ![45, 0] ![3, 0] ![0, 0] x v pads_S2064x512_S2112x512_4530_000 h_S_) : C S2064x512 → C S_ → C S2112x512)
  :: binary main_v281 main_v291 main_v292 (addf (F := Ideal) (φ := .f32) : C S2112x512 → C S2112x512 → C S2112x512)
  :: unary main_v290 main_v293 (broadcastInDim S1x512 ![1] bcast_S512_S1x512_1 : C S512 → C S1x512)
  :: nullary main_cst_64 (constant (F := Ideal) S_ .f32 0x00000000#32)
  :: binary main_v293 main_cst_64 main_v294 ((fun x v => pad S4x512 ![0, 0] ![3, 0] ![0, 0] x v pads_S1x512_S4x512_030_000 h_S_) : C S1x512 → C S_ → C S4x512)
  :: binary main_v284 main_v294 main_v295 (addf (F := Ideal) (φ := .f32) : C S4x512 → C S4x512 → C S4x512)
  :: unary main_v295 main_v296 (broadcastInDim S1x4x512 ![1, 2] bcast_S4x512_S1x4x512_1_2 : C S4x512 → C S1x4x512)
  :: unary main_v253 main_v297 (broadcastInDim S1x1x512 ![2] bcast_S512_S1x1x512_2 : C S512 → C S1x1x512)
  :: unary main_v248 main_v298 (broadcastInDim S1x512x512 ![1, 2] bcast_S512x512_S1x512x512_1_2 : C S512x512 → C S1x512x512)
  :: unary main_v246 main_v299 (broadcastInDim S1x1x512 ![2] bcast_S512_S1x1x512_2 : C S512 → C S1x1x512)
  :: unary main_v240 main_v300 (broadcastInDim S1x512x512 ![1, 2] bcast_S512x512_S1x512x512_1_2 : C S512x512 → C S1x512x512)
  :: unary main_v238 main_v301 (broadcastInDim S1x1x512 ![2] bcast_S512_S1x1x512_2 : C S512 → C S1x1x512)
  :: unary main_v232 main_v302 (broadcastInDim S1x1x512 ![2] bcast_S512_S1x1x512_2 : C S512 → C S1x1x512)
  :: unary main_v180 main_v303 (broadcastInDim S1x1x512 ![2] bcast_S512_S1x1x512_2 : C S512 → C S1x1x512)
  :: [])
/-- They touch references of the core only. -/
theorem ops6_0_sub : ops6_0.Forall fun op => op.bufs ⊆ StableHlo.tcRefs τ sig :=
  ⟨StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.unary_bufs_sub .., StableHlo.nullary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- None of them allocates. -/
theorem ops6_0_fresh : ops6_0.Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- They write the values numbered 457 to 480. -/
theorem ops6_0_writes : ops6_0.Forall (Writes 457 481) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- 3 operations of the trip of loop 0. -/
abbrev body0_0 : List (HloOp τ sig (Elt Ideal)) :=
  ( nullary main_while0b_call1_c ((constantI S_ 32 0#32) : (⟨S_, .i32⟩ : BufTy).Contents (Elt Ideal))
  :: StableHlo.unaryIndexed main_v133_0 (fun k => ((![.of main_v133_2, .of main_while0b_call1_c] : Fin 2 → StableHlo.TRef sig ⟨S_, .i32⟩) k).ref) ⟨S_, .i32⟩ main_while0b_call1_v0 ((fun x i => Host.dynamicSlice S1x512 x (fun k => (i k (Shape.Idx.first h_S_)).toInt) sliceFits_S2064x512_S1x512) : C S2064x512 → (Fin 2 → (⟨S_, .i32⟩ : BufTy).Contents (Elt Ideal)) → C S1x512) (fun k => ((![.of main_v133_2, .of main_while0b_call1_c] : Fin 2 → StableHlo.TRef sig ⟨S_, .i32⟩) k).ty_eq) (by exact ⟨by decide, rfl⟩) (fun k => ((![.of main_v133_2, .of main_while0b_call1_c] : Fin 2 → StableHlo.TRef sig ⟨S_, .i32⟩) k).dev)
  :: unary main_while0b_call1_v0 main_while0b_v304 (fun u : S1x512.Idx → EReal => shapeCast (α := EReal) S512 u shapeCasts_S1x512_S512)
  :: [])
/-- They touch references of the core only. -/
theorem body0_0_sub : body0_0.Forall fun op => op.bufs ⊆ StableHlo.tcRefs τ sig :=
  ⟨StableHlo.nullary_bufs_sub .., StableHlo.unaryIndexed_bufs_sub .., StableHlo.unary_bufs_sub ..⟩
/-- None of them allocates. -/
theorem body0_0_fresh : body0_0.Forall fun op => op.fresh = ∅ :=
  ⟨rfl, rfl, rfl⟩
/-- They write the values numbered 212 to 214. -/
theorem body0_0_writes : body0_0.Forall (Writes 212 215) :=
  ⟨⟨_, rfl, by decide⟩, ⟨_, rfl, by decide⟩, ⟨_, rfl, by decide⟩⟩

/-- 3 operations of the trip of loop 0. -/
abbrev body0_1 : List (HloOp τ sig (Elt Ideal)) :=
  ( nullary main_while0b_call2_c ((constantI S_ 32 0#32) : (⟨S_, .i32⟩ : BufTy).Contents (Elt Ideal))
  :: StableHlo.unaryIndexed main_v133_1 (fun k => ((![.of main_v133_2, .of main_while0b_call2_c] : Fin 2 → StableHlo.TRef sig ⟨S_, .i32⟩) k).ref) ⟨S_, .i32⟩ main_while0b_call2_v0 ((fun x i => Host.dynamicSlice S1x512 x (fun k => (i k (Shape.Idx.first h_S_)).toInt) sliceFits_S2064x512_S1x512) : C S2064x512 → (Fin 2 → (⟨S_, .i32⟩ : BufTy).Contents (Elt Ideal)) → C S1x512) (fun k => ((![.of main_v133_2, .of main_while0b_call2_c] : Fin 2 → StableHlo.TRef sig ⟨S_, .i32⟩) k).ty_eq) (by exact ⟨by decide, rfl⟩) (fun k => ((![.of main_v133_2, .of main_while0b_call2_c] : Fin 2 → StableHlo.TRef sig ⟨S_, .i32⟩) k).dev)
  :: unary main_while0b_call2_v0 main_while0b_v305 (fun u : S1x512.Idx → EReal => shapeCast (α := EReal) S512 u shapeCasts_S1x512_S512)
  :: [])
/-- They touch references of the core only. -/
theorem body0_1_sub : body0_1.Forall fun op => op.bufs ⊆ StableHlo.tcRefs τ sig :=
  ⟨StableHlo.nullary_bufs_sub .., StableHlo.unaryIndexed_bufs_sub .., StableHlo.unary_bufs_sub ..⟩
/-- None of them allocates. -/
theorem body0_1_fresh : body0_1.Forall fun op => op.fresh = ∅ :=
  ⟨rfl, rfl, rfl⟩
/-- They write the values numbered 215 to 217. -/
theorem body0_1_writes : body0_1.Forall (Writes 215 218) :=
  ⟨⟨_, rfl, by decide⟩, ⟨_, rfl, by decide⟩, ⟨_, rfl, by decide⟩⟩

/-- 2 operations of the trip of loop 0. -/
abbrev body0_2 : List (HloOp τ sig (Elt Ideal)) :=
  ( binary main_while0b_v304 main_v133_3 main_while0b_v306 (mulf (F := Ideal) (φ := .f32) : C S512 → C S512 → C S512)
  :: binary main_while0b_v306 main_while0b_v305 main_while0b_v307 (addf (F := Ideal) (φ := .f32) : C S512 → C S512 → C S512)
  :: [])
/-- They touch references of the core only. -/
theorem body0_2_sub : body0_2.Forall fun op => op.bufs ⊆ StableHlo.tcRefs τ sig :=
  ⟨StableHlo.binary_bufs_sub .., StableHlo.binary_bufs_sub ..⟩
/-- None of them allocates. -/
theorem body0_2_fresh : body0_2.Forall fun op => op.fresh = ∅ :=
  ⟨rfl, rfl⟩
/-- They write the values numbered 218 to 219. -/
theorem body0_2_writes : body0_2.Forall (Writes 218 220) :=
  ⟨⟨_, rfl, by decide⟩, ⟨_, rfl, by decide⟩⟩

/-- 3 operations of the trip of loop 0. -/
abbrev body0_3 : List (HloOp τ sig (Elt Ideal)) :=
  ( unary main_while0b_v307 main_while0b_call3_v0 ((broadcastInDim S1x512 ![1] bcast_S512_S1x512_1) : C S512 → C S1x512)
  :: nullary main_while0b_call3_c ((constantI S_ 32 0#32) : (⟨S_, .i32⟩ : BufTy).Contents (Elt Ideal))
  :: StableHlo.binaryIndexed main_v133_4 main_while0b_call3_v0 (fun k => ((![.of main_v133_2, .of main_while0b_call3_c] : Fin 2 → StableHlo.TRef sig ⟨S_, .i32⟩) k).ref) ⟨S_, .i32⟩ main_while0b_v308 ((fun x u i => Host.dynamicUpdateSlice x u (fun k => (i k (Shape.Idx.first h_S_)).toInt) updateFits_S2064x512_S1x512) : C S2064x512 → C S1x512 → (Fin 2 → (⟨S_, .i32⟩ : BufTy).Contents (Elt Ideal)) → C S2064x512) (fun k => ((![.of main_v133_2, .of main_while0b_call3_c] : Fin 2 → StableHlo.TRef sig ⟨S_, .i32⟩) k).ty_eq) (by exact ⟨by decide, rfl⟩) (by exact ⟨by decide, rfl⟩) (fun k => ((![.of main_v133_2, .of main_while0b_call3_c] : Fin 2 → StableHlo.TRef sig ⟨S_, .i32⟩) k).dev)
  :: [])
/-- They touch references of the core only. -/
theorem body0_3_sub : body0_3.Forall fun op => op.bufs ⊆ StableHlo.tcRefs τ sig :=
  ⟨StableHlo.unary_bufs_sub .., StableHlo.nullary_bufs_sub .., StableHlo.binaryIndexed_bufs_sub ..⟩
/-- None of them allocates. -/
theorem body0_3_fresh : body0_3.Forall fun op => op.fresh = ∅ :=
  ⟨rfl, rfl, rfl⟩
/-- They write the values numbered 220 to 222. -/
theorem body0_3_writes : body0_3.Forall (Writes 220 223) :=
  ⟨⟨_, rfl, by decide⟩, ⟨_, rfl, by decide⟩, ⟨_, rfl, by decide⟩⟩

/-- 3 operations of the trip of loop 0. -/
abbrev body0_4 : List (HloOp τ sig (Elt Ideal)) :=
  ( unary main_v133_3 main_while0b_call4_v0 ((broadcastInDim S1x512 ![1] bcast_S512_S1x512_1) : C S512 → C S1x512)
  :: nullary main_while0b_call4_c ((constantI S_ 32 0#32) : (⟨S_, .i32⟩ : BufTy).Contents (Elt Ideal))
  :: StableHlo.binaryIndexed main_v133_5 main_while0b_call4_v0 (fun k => ((![.of main_v133_2, .of main_while0b_call4_c] : Fin 2 → StableHlo.TRef sig ⟨S_, .i32⟩) k).ref) ⟨S_, .i32⟩ main_while0b_v309 ((fun x u i => Host.dynamicUpdateSlice x u (fun k => (i k (Shape.Idx.first h_S_)).toInt) updateFits_S2064x512_S1x512) : C S2064x512 → C S1x512 → (Fin 2 → (⟨S_, .i32⟩ : BufTy).Contents (Elt Ideal)) → C S2064x512) (fun k => ((![.of main_v133_2, .of main_while0b_call4_c] : Fin 2 → StableHlo.TRef sig ⟨S_, .i32⟩) k).ty_eq) (by exact ⟨by decide, rfl⟩) (by exact ⟨by decide, rfl⟩) (fun k => ((![.of main_v133_2, .of main_while0b_call4_c] : Fin 2 → StableHlo.TRef sig ⟨S_, .i32⟩) k).dev)
  :: [])
/-- They touch references of the core only. -/
theorem body0_4_sub : body0_4.Forall fun op => op.bufs ⊆ StableHlo.tcRefs τ sig :=
  ⟨StableHlo.unary_bufs_sub .., StableHlo.nullary_bufs_sub .., StableHlo.binaryIndexed_bufs_sub ..⟩
/-- None of them allocates. -/
theorem body0_4_fresh : body0_4.Forall fun op => op.fresh = ∅ :=
  ⟨rfl, rfl, rfl⟩
/-- They write the values numbered 223 to 225. -/
theorem body0_4_writes : body0_4.Forall (Writes 223 226) :=
  ⟨⟨_, rfl, by decide⟩, ⟨_, rfl, by decide⟩, ⟨_, rfl, by decide⟩⟩

/-- 6 operations of the trip of loop 0. -/
abbrev body0_5 : List (HloOp τ sig (Elt Ideal)) :=
  ( nullary main_while0b_c_70 (constantI S_ 32 1#32)
  :: binary main_v133_2 main_while0b_c_70 main_while0b_v310 (addi : (⟨S_, .i32⟩ : BufTy).Contents (Elt Ideal) → (⟨S_, .i32⟩ : BufTy).Contents (Elt Ideal) → (⟨S_, .i32⟩ : BufTy).Contents (Elt Ideal))
  :: unary main_while0b_v310 main_v133_2 id
  :: unary main_while0b_v307 main_v133_3 id
  :: unary main_while0b_v308 main_v133_4 id
  :: unary main_while0b_v309 main_v133_5 id
  :: [])
/-- They touch references of the core only. -/
theorem body0_5_sub : body0_5.Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- None of them allocates. -/
theorem body0_5_fresh : body0_5.Forall fun op => op.fresh = ∅ :=
  ⟨rfl, rfl, rfl, rfl, rfl, rfl⟩
/-- They write the values numbered 206 to 227. -/
theorem body0_5_writes : body0_5.Forall (Writes 206 228) :=
  ⟨⟨_, rfl, by decide⟩, ⟨_, rfl, by decide⟩, ⟨_, rfl, by decide⟩, ⟨_, rfl, by decide⟩, ⟨_, rfl, by decide⟩, ⟨_, rfl, by decide⟩⟩

/-- The test of loop 0. -/
abbrev cond0 : List (HloOp τ sig (Elt Ideal)) :=
  ( nullary main_while0c_c_70 (constantI S_ 32 2064#32)
  :: binary main_v133_2 main_while0c_c_70 main_while0c_v304 (cmpi .slt : (⟨S_, .i32⟩ : BufTy).Contents (Elt Ideal) → (⟨S_, .i32⟩ : BufTy).Contents (Elt Ideal) → (⟨S_, .i1⟩ : BufTy).Contents (Elt Ideal))
  :: [])
/-- They write the values numbered 210 to 211. -/
theorem cond0_writes : cond0.Forall (Writes 210 212) :=
  ⟨⟨_, rfl, by decide⟩, ⟨_, rfl, by decide⟩⟩

/-- 4 operations of the trip of loop 1. -/
abbrev body1_0 : List (HloOp τ sig (Elt Ideal)) :=
  ( nullary main_while1b_c_71 (constantI S_ 32 2064#32)
  :: binary main_while1b_c_71 main_v213_3 main_while1b_v304 (subi : (⟨S_, .i32⟩ : BufTy).Contents (Elt Ideal) → (⟨S_, .i32⟩ : BufTy).Contents (Elt Ideal) → (⟨S_, .i32⟩ : BufTy).Contents (Elt Ideal))
  :: nullary main_while1b_c_72 (constantI S_ 32 1#32)
  :: binary main_while1b_v304 main_while1b_c_72 main_while1b_v305 (subi : (⟨S_, .i32⟩ : BufTy).Contents (Elt Ideal) → (⟨S_, .i32⟩ : BufTy).Contents (Elt Ideal) → (⟨S_, .i32⟩ : BufTy).Contents (Elt Ideal))
  :: [])
/-- They touch references of the core only. -/
theorem body1_0_sub : body1_0.Forall fun op => op.bufs ⊆ StableHlo.tcRefs τ sig :=
  ⟨StableHlo.nullary_bufs_sub .., StableHlo.binary_bufs_sub .., StableHlo.nullary_bufs_sub .., StableHlo.binary_bufs_sub ..⟩
/-- None of them allocates. -/
theorem body1_0_fresh : body1_0.Forall fun op => op.fresh = ∅ :=
  ⟨rfl, rfl, rfl, rfl⟩
/-- They write the values numbered 341 to 344. -/
theorem body1_0_writes : body1_0.Forall (Writes 341 345) :=
  ⟨⟨_, rfl, by decide⟩, ⟨_, rfl, by decide⟩, ⟨_, rfl, by decide⟩, ⟨_, rfl, by decide⟩⟩

/-- 3 operations of the trip of loop 1. -/
abbrev body1_1 : List (HloOp τ sig (Elt Ideal)) :=
  ( nullary main_while1b_call5_c ((constantI S_ 32 0#32) : (⟨S_, .i32⟩ : BufTy).Contents (Elt Ideal))
  :: StableHlo.unaryIndexed main_v213_0 (fun k => ((![.of main_while1b_v305, .of main_while1b_call5_c] : Fin 2 → StableHlo.TRef sig ⟨S_, .i32⟩) k).ref) ⟨S_, .i32⟩ main_while1b_call5_v0 ((fun x i => Host.dynamicSlice S1x512 x (fun k => (i k (Shape.Idx.first h_S_)).toInt) sliceFits_S2064x512_S1x512) : C S2064x512 → (Fin 2 → (⟨S_, .i32⟩ : BufTy).Contents (Elt Ideal)) → C S1x512) (fun k => ((![.of main_while1b_v305, .of main_while1b_call5_c] : Fin 2 → StableHlo.TRef sig ⟨S_, .i32⟩) k).ty_eq) (by exact ⟨by decide, rfl⟩) (fun k => ((![.of main_while1b_v305, .of main_while1b_call5_c] : Fin 2 → StableHlo.TRef sig ⟨S_, .i32⟩) k).dev)
  :: unary main_while1b_call5_v0 main_while1b_v306 (fun u : S1x512.Idx → EReal => shapeCast (α := EReal) S512 u shapeCasts_S1x512_S512)
  :: [])
/-- They touch references of the core only. -/
theorem body1_1_sub : body1_1.Forall fun op => op.bufs ⊆ StableHlo.tcRefs τ sig :=
  ⟨StableHlo.nullary_bufs_sub .., StableHlo.unaryIndexed_bufs_sub .., StableHlo.unary_bufs_sub ..⟩
/-- None of them allocates. -/
theorem body1_1_fresh : body1_1.Forall fun op => op.fresh = ∅ :=
  ⟨rfl, rfl, rfl⟩
/-- They write the values numbered 345 to 347. -/
theorem body1_1_writes : body1_1.Forall (Writes 345 348) :=
  ⟨⟨_, rfl, by decide⟩, ⟨_, rfl, by decide⟩, ⟨_, rfl, by decide⟩⟩

/-- 3 operations of the trip of loop 1. -/
abbrev body1_2 : List (HloOp τ sig (Elt Ideal)) :=
  ( nullary main_while1b_call6_c ((constantI S_ 32 0#32) : (⟨S_, .i32⟩ : BufTy).Contents (Elt Ideal))
  :: StableHlo.unaryIndexed main_v213_1 (fun k => ((![.of main_while1b_v305, .of main_while1b_call6_c] : Fin 2 → StableHlo.TRef sig ⟨S_, .i32⟩) k).ref) ⟨S_, .i32⟩ main_while1b_call6_v0 ((fun x i => Host.dynamicSlice S1x512 x (fun k => (i k (Shape.Idx.first h_S_)).toInt) sliceFits_S2064x512_S1x512) : C S2064x512 → (Fin 2 → (⟨S_, .i32⟩ : BufTy).Contents (Elt Ideal)) → C S1x512) (fun k => ((![.of main_while1b_v305, .of main_while1b_call6_c] : Fin 2 → StableHlo.TRef sig ⟨S_, .i32⟩) k).ty_eq) (by exact ⟨by decide, rfl⟩) (fun k => ((![.of main_while1b_v305, .of main_while1b_call6_c] : Fin 2 → StableHlo.TRef sig ⟨S_, .i32⟩) k).dev)
  :: unary main_while1b_call6_v0 main_while1b_v307 (fun u : S1x512.Idx → EReal => shapeCast (α := EReal) S512 u shapeCasts_S1x512_S512)
  :: [])
/-- They touch references of the core only. -/
theorem body1_2_sub : body1_2.Forall fun op => op.bufs ⊆ StableHlo.tcRefs τ sig :=
  ⟨StableHlo.nullary_bufs_sub .., StableHlo.unaryIndexed_bufs_sub .., StableHlo.unary_bufs_sub ..⟩
/-- None of them allocates. -/
theorem body1_2_fresh : body1_2.Forall fun op => op.fresh = ∅ :=
  ⟨rfl, rfl, rfl⟩
/-- They write the values numbered 348 to 350. -/
theorem body1_2_writes : body1_2.Forall (Writes 348 351) :=
  ⟨⟨_, rfl, by decide⟩, ⟨_, rfl, by decide⟩, ⟨_, rfl, by decide⟩⟩

/-- 3 operations of the trip of loop 1. -/
abbrev body1_3 : List (HloOp τ sig (Elt Ideal)) :=
  ( nullary main_while1b_call7_c ((constantI S_ 32 0#32) : (⟨S_, .i32⟩ : BufTy).Contents (Elt Ideal))
  :: StableHlo.unaryIndexed main_v213_2 (fun k => ((![.of main_while1b_v305, .of main_while1b_call7_c] : Fin 2 → StableHlo.TRef sig ⟨S_, .i32⟩) k).ref) ⟨S_, .i32⟩ main_while1b_call7_v0 ((fun x i => Host.dynamicSlice S1x512 x (fun k => (i k (Shape.Idx.first h_S_)).toInt) sliceFits_S2064x512_S1x512) : C S2064x512 → (Fin 2 → (⟨S_, .i32⟩ : BufTy).Contents (Elt Ideal)) → C S1x512) (fun k => ((![.of main_while1b_v305, .of main_while1b_call7_c] : Fin 2 → StableHlo.TRef sig ⟨S_, .i32⟩) k).ty_eq) (by exact ⟨by decide, rfl⟩) (fun k => ((![.of main_while1b_v305, .of main_while1b_call7_c] : Fin 2 → StableHlo.TRef sig ⟨S_, .i32⟩) k).dev)
  :: unary main_while1b_call7_v0 main_while1b_v308 (fun u : S1x512.Idx → EReal => shapeCast (α := EReal) S512 u shapeCasts_S1x512_S512)
  :: [])
/-- They touch references of the core only. -/
theorem body1_3_sub : body1_3.Forall fun op => op.bufs ⊆ StableHlo.tcRefs τ sig :=
  ⟨StableHlo.nullary_bufs_sub .., StableHlo.unaryIndexed_bufs_sub .., StableHlo.unary_bufs_sub ..⟩
/-- None of them allocates. -/
theorem body1_3_fresh : body1_3.Forall fun op => op.fresh = ∅ :=
  ⟨rfl, rfl, rfl⟩
/-- They write the values numbered 351 to 353. -/
theorem body1_3_writes : body1_3.Forall (Writes 351 354) :=
  ⟨⟨_, rfl, by decide⟩, ⟨_, rfl, by decide⟩, ⟨_, rfl, by decide⟩⟩

/-- 3 operations of the trip of loop 1. -/
abbrev body1_4 : List (HloOp τ sig (Elt Ideal)) :=
  ( binary main_v213_4 main_while1b_v306 main_while1b_v309 (addf (F := Ideal) (φ := .f32) : C S512 → C S512 → C S512)
  :: binary main_while1b_v308 main_while1b_v309 main_while1b_v310 (mulf (F := Ideal) (φ := .f32) : C S512 → C S512 → C S512)
  :: binary main_while1b_v309 main_while1b_v307 main_while1b_v311 (mulf (F := Ideal) (φ := .f32) : C S512 → C S512 → C S512)
  :: [])
/-- They touch references of the core only. -/
theorem body1_4_sub : body1_4.Forall fun op => op.bufs ⊆ StableHlo.tcRefs τ sig :=
  ⟨StableHlo.binary_bufs_sub .., StableHlo.binary_bufs_sub .., StableHlo.binary_bufs_sub ..⟩
/-- None of them allocates. -/
theorem body1_4_fresh : body1_4.Forall fun op => op.fresh = ∅ :=
  ⟨rfl, rfl, rfl⟩
/-- They write the values numbered 354 to 356. -/
theorem body1_4_writes : body1_4.Forall (Writes 354 357) :=
  ⟨⟨_, rfl, by decide⟩, ⟨_, rfl, by decide⟩, ⟨_, rfl, by decide⟩⟩

/-- 3 operations of the trip of loop 1. -/
abbrev body1_5 : List (HloOp τ sig (Elt Ideal)) :=
  ( unary main_while1b_v311 main_while1b_call8_v0 ((broadcastInDim S1x512 ![1] bcast_S512_S1x512_1) : C S512 → C S1x512)
  :: nullary main_while1b_call8_c ((constantI S_ 32 0#32) : (⟨S_, .i32⟩ : BufTy).Contents (Elt Ideal))
  :: StableHlo.binaryIndexed main_v213_5 main_while1b_call8_v0 (fun k => ((![.of main_while1b_v305, .of main_while1b_call8_c] : Fin 2 → StableHlo.TRef sig ⟨S_, .i32⟩) k).ref) ⟨S_, .i32⟩ main_while1b_v312 ((fun x u i => Host.dynamicUpdateSlice x u (fun k => (i k (Shape.Idx.first h_S_)).toInt) updateFits_S2064x512_S1x512) : C S2064x512 → C S1x512 → (Fin 2 → (⟨S_, .i32⟩ : BufTy).Contents (Elt Ideal)) → C S2064x512) (fun k => ((![.of main_while1b_v305, .of main_while1b_call8_c] : Fin 2 → StableHlo.TRef sig ⟨S_, .i32⟩) k).ty_eq) (by exact ⟨by decide, rfl⟩) (by exact ⟨by decide, rfl⟩) (fun k => ((![.of main_while1b_v305, .of main_while1b_call8_c] : Fin 2 → StableHlo.TRef sig ⟨S_, .i32⟩) k).dev)
  :: [])
/-- They touch references of the core only. -/
theorem body1_5_sub : body1_5.Forall fun op => op.bufs ⊆ StableHlo.tcRefs τ sig :=
  ⟨StableHlo.unary_bufs_sub .., StableHlo.nullary_bufs_sub .., StableHlo.binaryIndexed_bufs_sub ..⟩
/-- None of them allocates. -/
theorem body1_5_fresh : body1_5.Forall fun op => op.fresh = ∅ :=
  ⟨rfl, rfl, rfl⟩
/-- They write the values numbered 357 to 359. -/
theorem body1_5_writes : body1_5.Forall (Writes 357 360) :=
  ⟨⟨_, rfl, by decide⟩, ⟨_, rfl, by decide⟩, ⟨_, rfl, by decide⟩⟩

/-- 3 operations of the trip of loop 1. -/
abbrev body1_6 : List (HloOp τ sig (Elt Ideal)) :=
  ( unary main_while1b_v309 main_while1b_call9_v0 ((broadcastInDim S1x512 ![1] bcast_S512_S1x512_1) : C S512 → C S1x512)
  :: nullary main_while1b_call9_c ((constantI S_ 32 0#32) : (⟨S_, .i32⟩ : BufTy).Contents (Elt Ideal))
  :: StableHlo.binaryIndexed main_v213_6 main_while1b_call9_v0 (fun k => ((![.of main_while1b_v305, .of main_while1b_call9_c] : Fin 2 → StableHlo.TRef sig ⟨S_, .i32⟩) k).ref) ⟨S_, .i32⟩ main_while1b_v313 ((fun x u i => Host.dynamicUpdateSlice x u (fun k => (i k (Shape.Idx.first h_S_)).toInt) updateFits_S2064x512_S1x512) : C S2064x512 → C S1x512 → (Fin 2 → (⟨S_, .i32⟩ : BufTy).Contents (Elt Ideal)) → C S2064x512) (fun k => ((![.of main_while1b_v305, .of main_while1b_call9_c] : Fin 2 → StableHlo.TRef sig ⟨S_, .i32⟩) k).ty_eq) (by exact ⟨by decide, rfl⟩) (by exact ⟨by decide, rfl⟩) (fun k => ((![.of main_while1b_v305, .of main_while1b_call9_c] : Fin 2 → StableHlo.TRef sig ⟨S_, .i32⟩) k).dev)
  :: [])
/-- They touch references of the core only. -/
theorem body1_6_sub : body1_6.Forall fun op => op.bufs ⊆ StableHlo.tcRefs τ sig :=
  ⟨StableHlo.unary_bufs_sub .., StableHlo.nullary_bufs_sub .., StableHlo.binaryIndexed_bufs_sub ..⟩
/-- None of them allocates. -/
theorem body1_6_fresh : body1_6.Forall fun op => op.fresh = ∅ :=
  ⟨rfl, rfl, rfl⟩
/-- They write the values numbered 360 to 362. -/
theorem body1_6_writes : body1_6.Forall (Writes 360 363) :=
  ⟨⟨_, rfl, by decide⟩, ⟨_, rfl, by decide⟩, ⟨_, rfl, by decide⟩⟩

/-- 6 operations of the trip of loop 1. -/
abbrev body1_7 : List (HloOp τ sig (Elt Ideal)) :=
  ( nullary main_while1b_c_73 (constantI S_ 32 1#32)
  :: binary main_v213_3 main_while1b_c_73 main_while1b_v314 (addi : (⟨S_, .i32⟩ : BufTy).Contents (Elt Ideal) → (⟨S_, .i32⟩ : BufTy).Contents (Elt Ideal) → (⟨S_, .i32⟩ : BufTy).Contents (Elt Ideal))
  :: unary main_while1b_v314 main_v213_3 id
  :: unary main_while1b_v310 main_v213_4 id
  :: unary main_while1b_v312 main_v213_5 id
  :: unary main_while1b_v313 main_v213_6 id
  :: [])
/-- They touch references of the core only. -/
theorem body1_7_sub : body1_7.Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- None of them allocates. -/
theorem body1_7_fresh : body1_7.Forall fun op => op.fresh = ∅ :=
  ⟨rfl, rfl, rfl, rfl, rfl, rfl⟩
/-- They write the values numbered 335 to 364. -/
theorem body1_7_writes : body1_7.Forall (Writes 335 365) :=
  ⟨⟨_, rfl, by decide⟩, ⟨_, rfl, by decide⟩, ⟨_, rfl, by decide⟩, ⟨_, rfl, by decide⟩, ⟨_, rfl, by decide⟩, ⟨_, rfl, by decide⟩⟩

/-- The test of loop 1. -/
abbrev cond1 : List (HloOp τ sig (Elt Ideal)) :=
  ( nullary main_while1c_c_71 (constantI S_ 32 2064#32)
  :: binary main_v213_3 main_while1c_c_71 main_while1c_v304 (cmpi .slt : (⟨S_, .i32⟩ : BufTy).Contents (Elt Ideal) → (⟨S_, .i32⟩ : BufTy).Contents (Elt Ideal) → (⟨S_, .i1⟩ : BufTy).Contents (Elt Ideal))
  :: [])
/-- They write the values numbered 339 to 340. -/
theorem cond1_writes : cond1.Forall (Writes 339 341) :=
  ⟨⟨_, rfl, by decide⟩, ⟨_, rfl, by decide⟩⟩

/-- The part is the chain of its stretches. -/
theorem part0_chain (c : Dev nD) : main_part0 (F := Ideal) c = (Pipeline.chainK [  ] (StableHlo.seq ops0_0) : Prog (TpuEff nD τ sig (Elt Ideal) (HostLoop.Sig (Pipeline.Sig Λ₀ (Fin 0) fun p => (pcfgs (F := Ideal) p).Adm) 2) .tc) PUnit) := by
  chain_rfl

/-- The part is the chain of its stretches. -/
theorem part1_chain (c : Dev nD) : main_part1 (F := Ideal) c = (Pipeline.chainK [  ] (StableHlo.seq ops1_0) : Prog (TpuEff nD τ sig (Elt Ideal) (HostLoop.Sig (Pipeline.Sig Λ₀ (Fin 0) fun p => (pcfgs (F := Ideal) p).Adm) 2) .tc) PUnit) := by
  chain_rfl

/-- The part is the chain of its stretches. -/
theorem part2_chain (c : Dev nD) : main_part2 (F := Ideal) c = (Pipeline.chainK [ StableHlo.seq ops2_0, StableHlo.seq ops2_1, StableHlo.seq ops2_2, HostLoop.enter 0 ] (StableHlo.seq ops2_4) : Prog (TpuEff nD τ sig (Elt Ideal) (HostLoop.Sig (Pipeline.Sig Λ₀ (Fin 0) fun p => (pcfgs (F := Ideal) p).Adm) 2) .tc) PUnit) := by
  rewrite [StableHlo.chainK_seq_cons, StableHlo.chainK_seq_cons, StableHlo.chainK_seq_cons, Pipeline.chainK_cons]
  chain_rfl

/-- The part is the chain of its stretches. -/
theorem part3_chain (c : Dev nD) : main_part3 (F := Ideal) c = (Pipeline.chainK [  ] (StableHlo.seq ops3_0) : Prog (TpuEff nD τ sig (Elt Ideal) (HostLoop.Sig (Pipeline.Sig Λ₀ (Fin 0) fun p => (pcfgs (F := Ideal) p).Adm) 2) .tc) PUnit) := by
  chain_rfl

/-- The part is the chain of its stretches. -/
theorem part4_chain (c : Dev nD) : main_part4 (F := Ideal) c = (Pipeline.chainK [ StableHlo.seq ops4_0, HostLoop.enter 1, StableHlo.seq ops4_2, StableHlo.seq ops4_3 ] (StableHlo.seq ops4_4) : Prog (TpuEff nD τ sig (Elt Ideal) (HostLoop.Sig (Pipeline.Sig Λ₀ (Fin 0) fun p => (pcfgs (F := Ideal) p).Adm) 2) .tc) PUnit) := by
  rewrite [StableHlo.chainK_seq_cons, Pipeline.chainK_cons, StableHlo.chainK_seq_cons, StableHlo.chainK_seq_cons]
  chain_rfl

/-- The part is the chain of its stretches. -/
theorem part5_chain (c : Dev nD) : main_part5 (F := Ideal) c = (Pipeline.chainK [  ] (StableHlo.seq ops5_0) : Prog (TpuEff nD τ sig (Elt Ideal) (HostLoop.Sig (Pipeline.Sig Λ₀ (Fin 0) fun p => (pcfgs (F := Ideal) p).Adm) 2) .tc) PUnit) := by
  chain_rfl

/-- The part is the chain of its stretches. -/
theorem part6_chain (c : Dev nD) : main_part6 (F := Ideal) c = (Pipeline.chain [ StableHlo.seq ops6_0 ] : Prog (TpuEff nD τ sig (Elt Ideal) (HostLoop.Sig (Pipeline.Sig Λ₀ (Fin 0) fun p => (pcfgs (F := Ideal) p).Adm) 2) .tc) PUnit) := by
  rewrite [StableHlo.chain_seq_cons]
  chain_rfl

theorem main_chain (c : Dev nD) : main (F := Ideal) c = (Pipeline.chain [ StableHlo.seq ops0_0, StableHlo.seq ops1_0, StableHlo.seq ops2_0, StableHlo.seq ops2_1, StableHlo.seq ops2_2, HostLoop.enter 0, StableHlo.seq ops2_4, StableHlo.seq ops3_0, StableHlo.seq ops4_0, HostLoop.enter 1, StableHlo.seq ops4_2, StableHlo.seq ops4_3, StableHlo.seq ops4_4, StableHlo.seq ops5_0, StableHlo.seq ops6_0 ] : Prog (TpuEff nD τ sig (Elt Ideal) (HostLoop.Sig (Pipeline.Sig Λ₀ (Fin 0) fun p => (pcfgs (F := Ideal) p).Adm) 2) .tc) PUnit) := by
  show (main_part0 (F := Ideal) c >>= fun _ => main_part1 (F := Ideal) c >>= fun _ => main_part2 (F := Ideal) c >>= fun _ => main_part3 (F := Ideal) c >>= fun _ => main_part4 (F := Ideal) c >>= fun _ => main_part5 (F := Ideal) c >>= fun _ => main_part6 (F := Ideal) c) = _
  rewrite [part6_chain, part5_chain, Pipeline.chainK_bind_chain, part4_chain, Pipeline.chainK_bind_chain, part3_chain, Pipeline.chainK_bind_chain, part2_chain, Pipeline.chainK_bind_chain, part1_chain, Pipeline.chainK_bind_chain, part0_chain, Pipeline.chainK_bind_chain]
  chain_rfl

theorem body0_chain : main_while0_body (F := Ideal) = (Pipeline.chain [ StableHlo.seq body0_0, StableHlo.seq body0_1, StableHlo.seq body0_2, StableHlo.seq body0_3, StableHlo.seq body0_4, StableHlo.seq body0_5 ] : Prog (TpuEff nD τ sig (Elt Ideal) (HostLoop.Sig (Pipeline.Sig Λ₀ (Fin 0) fun p => (pcfgs (F := Ideal) p).Adm) 2) .tc) PUnit) := by
  rewrite [StableHlo.chain_seq_cons, StableHlo.chain_seq_cons, StableHlo.chain_seq_cons, StableHlo.chain_seq_cons, StableHlo.chain_seq_cons, StableHlo.chain_seq_cons]
  chain_rfl

theorem body1_chain : main_while1_body (F := Ideal) = (Pipeline.chain [ StableHlo.seq body1_0, StableHlo.seq body1_1, StableHlo.seq body1_2, StableHlo.seq body1_3, StableHlo.seq body1_4, StableHlo.seq body1_5, StableHlo.seq body1_6, StableHlo.seq body1_7 ] : Prog (TpuEff nD τ sig (Elt Ideal) (HostLoop.Sig (Pipeline.Sig Λ₀ (Fin 0) fun p => (pcfgs (F := Ideal) p).Adm) 2) .tc) PUnit) := by
  rewrite [StableHlo.chain_seq_cons, StableHlo.chain_seq_cons, StableHlo.chain_seq_cons, StableHlo.chain_seq_cons, StableHlo.chain_seq_cons, StableHlo.chain_seq_cons, StableHlo.chain_seq_cons, StableHlo.chain_seq_cons]
  chain_rfl

/-- The stretches before the first loop. -/
abbrev pre : List (List (HloOp τ sig (Elt Ideal))) := [ops0_0, ops1_0, ops2_0, ops2_1, ops2_2]
theorem pre_plain : StableHlo.Plain pre := .cons ops0_0_sub (.cons ops1_0_sub (.cons ops2_0_sub (.cons ops2_1_sub (.cons ops2_2_sub (.nil) (List.forall_iff_forall_mem.mp ops2_2_fresh)) (List.forall_iff_forall_mem.mp ops2_1_fresh)) (List.forall_iff_forall_mem.mp ops2_0_fresh)) (List.forall_iff_forall_mem.mp ops1_0_fresh)) (List.forall_iff_forall_mem.mp ops0_0_fresh)

/-- The stretches between the loops. -/
abbrev mid : List (List (HloOp τ sig (Elt Ideal))) := [ops2_4, ops3_0, ops4_0]
theorem mid_plain : StableHlo.Plain mid := .cons ops2_4_sub (.cons ops3_0_sub (.cons ops4_0_sub (.nil) (List.forall_iff_forall_mem.mp ops4_0_fresh)) (List.forall_iff_forall_mem.mp ops3_0_fresh)) (List.forall_iff_forall_mem.mp ops2_4_fresh)

/-- The stretches after the second loop. -/
abbrev post : List (List (HloOp τ sig (Elt Ideal))) := [ops4_2, ops4_3, ops4_4, ops5_0, ops6_0]
theorem post_plain : StableHlo.Plain post := .cons ops4_2_sub (.cons ops4_3_sub (.cons ops4_4_sub (.cons ops5_0_sub (.cons ops6_0_sub (.nil) (List.forall_iff_forall_mem.mp ops6_0_fresh)) (List.forall_iff_forall_mem.mp ops5_0_fresh)) (List.forall_iff_forall_mem.mp ops4_4_fresh)) (List.forall_iff_forall_mem.mp ops4_3_fresh)) (List.forall_iff_forall_mem.mp ops4_2_fresh)

/-- The trip of loop 0. -/
abbrev trip0 : List (List (HloOp τ sig (Elt Ideal))) := [body0_0, body0_1, body0_2, body0_3, body0_4, body0_5]
theorem trip0_plain : StableHlo.Plain trip0 := .cons body0_0_sub (.cons body0_1_sub (.cons body0_2_sub (.cons body0_3_sub (.cons body0_4_sub (.cons body0_5_sub (.nil) (List.forall_iff_forall_mem.mp body0_5_fresh)) (List.forall_iff_forall_mem.mp body0_4_fresh)) (List.forall_iff_forall_mem.mp body0_3_fresh)) (List.forall_iff_forall_mem.mp body0_2_fresh)) (List.forall_iff_forall_mem.mp body0_1_fresh)) (List.forall_iff_forall_mem.mp body0_0_fresh)

/-- The trip of loop 1. -/
abbrev trip1 : List (List (HloOp τ sig (Elt Ideal))) := [body1_0, body1_1, body1_2, body1_3, body1_4, body1_5, body1_6, body1_7]
theorem trip1_plain : StableHlo.Plain trip1 := .cons body1_0_sub (.cons body1_1_sub (.cons body1_2_sub (.cons body1_3_sub (.cons body1_4_sub (.cons body1_5_sub (.cons body1_6_sub (.cons body1_7_sub (.nil) (List.forall_iff_forall_mem.mp body1_7_fresh)) (List.forall_iff_forall_mem.mp body1_6_fresh)) (List.forall_iff_forall_mem.mp body1_5_fresh)) (List.forall_iff_forall_mem.mp body1_4_fresh)) (List.forall_iff_forall_mem.mp body1_3_fresh)) (List.forall_iff_forall_mem.mp body1_2_fresh)) (List.forall_iff_forall_mem.mp body1_1_fresh)) (List.forall_iff_forall_mem.mp body1_0_fresh)

end Cert.ReferenceIdeal.Run

end

end
-- ==== Proof.RefRun.lean ====
/- The reference's run: the stretches and the two counted loops, from the launch to the results. -/
module

public import proofs.«01_k».proof.Proof.RefOps
public import Idealize.ShloMosaic.Lib.StableHlo.RunRead
public import Idealize.ShloMosaic.Lib.Scf.ExitTest

@[expose] public section

set_option maxRecDepth 16384

noncomputable section

namespace Cert.ReferenceIdeal.Run

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.StableHlo Cert.ReferenceIdeal Cert.ReferenceIdeal.Gen
open Idealize.ShloMosaic.Pipeline (CSeg Ticket ucRefs sub_ucRefs)

/-- What one trip of a loop does: its test, then its body. -/
abbrev trips (cond : List (HloOp τ sig (Elt Ideal))) (body : List (List (HloOp τ sig (Elt Ideal)))) (V : Valuation τ sig (Elt Ideal)) :
    ℕ → Valuation τ sig (Elt Ideal)
  | 0 => V
  | k + 1 => afterL body (after cond (trips cond body V k))

theorem trips_succ (cond : List (HloOp τ sig (Elt Ideal))) (body : List (List (HloOp τ sig (Elt Ideal)))) (V : Valuation τ sig (Elt Ideal)) (k : ℕ) :
    trips cond body V (k + 1) = afterL body (after cond (trips cond body V k)) := rfl

theorem atTrip_eq (cond : List (HloOp τ sig (Elt Ideal))) (body : List (List (HloOp τ sig (Elt Ideal))))
    (W : Dev nD → Valuation τ sig (Elt Ideal)) (c : Dev nD) : ∀ k, atTrip cond body W k c = trips cond body (W c) k
  | 0 => rfl
  | k + 1 => by rw [atTrip_succ, atTrip_eq cond body W c k]

/-- The buffers at the first loop. -/
def W0 (V : Valuation τ sig (Elt Ideal)) : Valuation τ sig (Elt Ideal) := afterL pre V
/-- The buffers after the first loop. -/
def W1 (V : Valuation τ sig (Elt Ideal)) : Valuation τ sig (Elt Ideal) := after cond0 (trips cond0 trip0 (W0 V) 2064)
/-- The buffers at the second loop. -/
def W2 (V : Valuation τ sig (Elt Ideal)) : Valuation τ sig (Elt Ideal) := afterL mid (W1 V)
/-- The buffers after the second loop. -/
def W3 (V : Valuation τ sig (Elt Ideal)) : Valuation τ sig (Elt Ideal) := after cond1 (trips cond1 trip1 (W2 V) 2064)
/-- The buffers at the end. -/
def W4 (V : Valuation τ sig (Elt Ideal)) : Valuation τ sig (Elt Ideal) := afterL post (W3 V)

theorem ctr0_entry (V : Valuation τ sig (Elt Ideal)) : W0 V (Proc.devRef .tc main_v133_2) = fun _ => 0#32 := by
  unfold W0 pre
  simp only [afterL_cons, afterL_nil]
  generalize after ops2_1 (after ops2_0 (after ops1_0 (after ops0_0 V))) = U
  after_reads_simp
  rfl

theorem ctr1_entry (V : Valuation τ sig (Elt Ideal)) : W2 V (Proc.devRef .tc main_v213_3) = fun _ => 0#32 := by
  unfold W2 mid
  simp only [afterL_cons, afterL_nil]
  generalize after ops3_0 (after ops2_4 (W1 V)) = U
  after_reads_simp
  rfl

theorem ctr0_step (V : Valuation τ sig (Elt Ideal)) :
    afterL trip0 (after cond0 V) (Proc.devRef .tc main_v133_2) = addi (V (Proc.devRef .tc main_v133_2)) (constantI S_ 32 1#32) := by
  rw [afterL_eq_after_flatten, ← after_append]
  after_reads_simp
  rfl

theorem ctr1_step (V : Valuation τ sig (Elt Ideal)) :
    afterL trip1 (after cond1 V) (Proc.devRef .tc main_v213_3) = addi (V (Proc.devRef .tc main_v213_3)) (constantI S_ 32 1#32) := by
  rw [afterL_eq_after_flatten, ← after_append]
  after_reads_simp
  rfl

theorem ctr0 (V : Valuation τ sig (Elt Ideal)) : ∀ k, trips cond0 trip0 (W0 V) k (Proc.devRef .tc main_v133_2) = fun _ => Scf.iv 0#32 1#32 k
  | 0 => by rw [Scf.iv_zero]; exact ctr0_entry V
  | k + 1 => by rw [trips_succ, ctr0_step, ctr0 V k, Scf.iv_succ]; rfl

theorem ctr1 (V : Valuation τ sig (Elt Ideal)) : ∀ k, trips cond1 trip1 (W2 V) k (Proc.devRef .tc main_v213_3) = fun _ => Scf.iv 0#32 1#32 k
  | 0 => by rw [Scf.iv_zero]; exact ctr1_entry V
  | k + 1 => by rw [trips_succ, ctr1_step, ctr1 V k, Scf.iv_succ]; rfl

local notation "𝕄" => MT nD τ sig Unit (Elt Ideal) ℕ (Option PUnit) ℕ

abbrev adm : (p : Fin 0) → (pcfgs (F := Ideal) p).Adm := fun p => p.elim0
abbrev tickets : Fin 0 → Ticket (Ix := Unit) (Name := ℕ) (U := Option PUnit) (Lvl := ℕ) (nD := nD) (τ := τ) (pcfgs (F := Ideal)) adm := fun j => j.elim0
abbrev noLevels : GSem nD τ sig → Finset Unit := fun _ => ∅
abbrev level : GSem nD τ sig → Unit → ℕ := fun _ _ => 0

theorem cells_injective : Function.Injective (Pipeline.cellOf (nD := nD) (τ := τ) (Pipeline.pin (pcfgs (F := Ideal)) adm)) :=
  fun k => k.1.elim0

/-- What rides beside the buffers. -/
abbrev Rides (c : Dev nD) : sProp 𝕄 := iprop(∃ W, owes (c : Thread nD τ) (0 : CellTallies nD τ sig Unit) W)

set_option backward.isDefEq.respectTransparency.types false in
/-- The first loop's test says whether trips are left. -/
theorem cond0_spec (m : (ℓ : Loc nD τ sig) → Buf (Elt Ideal) ℓ) :
    LoopCond (pcfgs (F := Ideal)) defs₀ Variants.none loops Rides (main_while0_cond (F := Ideal)) cond0 trip0
      (fun c => W0 (launchContents m c)) 2064 := by
  intro k hk c bd
  rw [atTrip_eq]
  have hctr := ctr0 (launchContents m c) k
  generalize trips cond0 trip0 (W0 (launchContents m c)) k = U at hctr ⊢
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ U main_v133_2 HostLoop.idx0) (HloOp.result _ U main_while0c_c_70 HostLoop.idx0) = 1#1) (k < 2064)
    rw [nullary_result_ne _ _ _ _ (by decide), nullary_result, hctr]
    exact Scf.cmpi_slt_iv_ub_iff (lb := 0#32) (ub := 2064#32) (st := 1#32) (by decide) (show k ≤ Scf.trips 0#32 2064#32 1#32 from hk)
  isplitl [Hb]; · iexact Hb
  isplitl [Hh]; · rw [after_cons, after_cons, after_nil]; iexact Hh
  iexact HR

set_option backward.isDefEq.respectTransparency.types false in
/-- The second loop's test says whether trips are left. -/
theorem cond1_spec (m : (ℓ : Loc nD τ sig) → Buf (Elt Ideal) ℓ) :
    LoopCond (pcfgs (F := Ideal)) defs₀ Variants.none loops Rides (main_while1_cond (F := Ideal)) cond1 trip1
      (fun c => W2 (launchContents m c)) 2064 := by
  intro k hk c bd
  rw [atTrip_eq]
  have hctr := ctr1 (launchContents m c) k
  generalize trips cond1 trip1 (W2 (launchContents m c)) k = U at hctr ⊢
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ U main_v213_3 HostLoop.idx0) (HloOp.result _ U main_while1c_c_71 HostLoop.idx0) = 1#1) (k < 2064)
    rw [nullary_result_ne _ _ _ _ (by decide), nullary_result, hctr]
    exact Scf.cmpi_slt_iv_ub_iff (lb := 0#32) (ub := 2064#32) (st := 1#32) (by decide) (show k ≤ Scf.trips 0#32 2064#32 1#32 from hk)
  isplitl [Hb]; · iexact Hb
  isplitl [Hh]; · rw [after_cons, after_cons, after_nil]; iexact Hh
  iexact HR

/-- The segments of the run: a stretch, a loop, a stretch, a loop, a stretch. -/
def segsG (a b d : List (List (HloOp τ sig (Elt Ideal)))) (ha : Plain a) (hb : Plain b) (hd : Plain d)
    (c0 c1 : List (HloOp τ sig (Elt Ideal))) (t0 t1 : List (List (HloOp τ sig (Elt Ideal)))) (h0 : Plain t0) (h1 : Plain t1)
    (e0 : main_while0_body (F := Ideal) = Pipeline.chain (t0.map fun ops => (seq ops : Prog _ PUnit)))
    (e1 : main_while1_body (F := Ideal) = Pipeline.chain (t1.map fun ops => (seq ops : Prog _ PUnit)))
    (V0 V1 V2 V3 V4 : Dev nD → Valuation τ sig (Elt Ideal))
    (s0 : LoopCond (pcfgs (F := Ideal)) defs₀ Variants.none loops Rides (main_while0_cond (F := Ideal)) c0 t0 V1 2064)
    (s1 : LoopCond (pcfgs (F := Ideal)) defs₀ Variants.none loops Rides (main_while1_cond (F := Ideal)) c1 t1 V3 2064) :
    List (CSeg (pcfgs (F := Ideal)) adm defs₀ Variants.none noLevels level loops tickets) :=
  segsOf _ _ _ _ _ _ _ _ Rides a ha V0
    ++ loopSeg _ _ _ _ _ _ _ _ 0 main_while0_cond main_while0_body rfl c0 t0 h0 e0 2064 V1 Rides s0
    :: (segsOf _ _ _ _ _ _ _ _ Rides b hb V2
      ++ loopSeg _ _ _ _ _ _ _ _ 1 main_while1_cond main_while1_body rfl c1 t1 h1 e1 2064 V3 Rides s1
      :: segsOf _ _ _ _ _ _ _ _ Rides d hd V4)

theorem segsG_prog (a b d : List (List (HloOp τ sig (Elt Ideal)))) (ha : Plain a) (hb : Plain b) (hd : Plain d)
    (c0 c1 : List (HloOp τ sig (Elt Ideal))) (t0 t1 : List (List (HloOp τ sig (Elt Ideal)))) (h0 : Plain t0) (h1 : Plain t1)
    (e0 e1) (V0 V1 V2 V3 V4 : Dev nD → Valuation τ sig (Elt Ideal)) (s0 s1) :
    (segsG a b d ha hb hd c0 c1 t0 t1 h0 h1 e0 e1 V0 V1 V2 V3 V4 s0 s1).map CSeg.prog
      = (a.map fun ops => (seq ops : Prog _ PUnit)) ++ HostLoop.enter 0 :: ((b.map fun ops => (seq ops : Prog _ PUnit))
      ++ HostLoop.enter 1 :: d.map fun ops => (seq ops : Prog _ PUnit)) := by
  unfold segsG
  rw [List.map_append, List.map_cons, List.map_append, List.map_cons, segsOf_prog, segsOf_prog, segsOf_prog]
  rfl

theorem segsG_chains (a b d : List (List (HloOp τ sig (Elt Ideal)))) (ha : Plain a) (hb : Plain b) (hd : Plain d)
    (c0 c1 : List (HloOp τ sig (Elt Ideal))) (t0 t1 : List (List (HloOp τ sig (Elt Ideal)))) (h0 : Plain t0) (h1 : Plain t1)
    (e0 e1) (V0 V1 V2 V3 V4 V5 : Dev nD → Valuation τ sig (Elt Ideal)) (s0 s1)
    (q1 : V1 = fun c => afterL a (V0 c)) (q2 : V2 = fun c => after c0 (atTrip c0 t0 V1 2064 c))
    (q3 : V3 = fun c => afterL b (V2 c)) (q4 : V4 = fun c => after c1 (atTrip c1 t1 V3 2064 c))
    (q5 : V5 = fun c => afterL d (V4 c)) :
    CSeg.Chains (fun c => iprop(held (c : Thread nD τ) (ucRefs τ sig) (V0 c) ∗ Rides c))
      (segsG a b d ha hb hd c0 c1 t0 t1 h0 h1 e0 e1 V0 V1 V2 V3 V4 s0 s1)
      (fun c => iprop(iprop(held (c : Thread nD τ) (ucRefs τ sig) (V5 c)) ∗ ∃ W, owes (c : Thread nD τ) (0 : CellTallies nD τ sig Unit) W)) := by
  subst q1 q2 q3 q4 q5
  unfold segsG
  exact CSeg.Chains.append (segsOf_chains _ _ _ _ _ _ _ _ Rides a ha _) ⟨fun _ => .rfl,
    CSeg.Chains.append (segsOf_chains _ _ _ _ _ _ _ _ Rides b hb _) ⟨fun _ => .rfl, segsOf_chains _ _ _ _ _ _ _ _ Rides d hd _⟩⟩

/-- The segments of the reference. -/
def segs (m : (ℓ : Loc nD τ sig) → Buf (Elt Ideal) ℓ) : List (CSeg (pcfgs (F := Ideal)) adm defs₀ Variants.none noLevels level loops tickets) :=
  segsG pre mid post pre_plain mid_plain post_plain cond0 cond1 trip0 trip1 trip0_plain trip1_plain body0_chain body1_chain
    (fun c => launchContents m c) (fun c => W0 (launchContents m c)) (fun c => W1 (launchContents m c)) (fun c => W2 (launchContents m c))
    (fun c => W3 (launchContents m c)) (cond0_spec m) (cond1_spec m)

theorem segs_chains (m : (ℓ : Loc nD τ sig) → Buf (Elt Ideal) ℓ) :
    CSeg.Chains (fun c => iprop(held (c : Thread nD τ) (ucRefs τ sig) (launchContents m c) ∗ Rides c)) (segs m)
      (fun c => iprop(iprop(held (c : Thread nD τ) (ucRefs τ sig) (W4 (launchContents m c))) ∗ ∃ W, owes (c : Thread nD τ) (0 : CellTallies nD τ sig Unit) W)) := by
  unfold segs
  exact segsG_chains (V5 := fun c => W4 (launchContents m c)) (q1 := by funext c; unfold W0; with_reducible rfl)
    (q2 := by funext c; rw [atTrip_eq]; unfold W1; with_reducible rfl)
    (q3 := by funext c; unfold W2; with_reducible rfl) (q4 := by funext c; rw [atTrip_eq]; unfold W3; with_reducible rfl)
    (q5 := by funext c; unfold W4; with_reducible rfl) ..

theorem main_segs (m : (ℓ : Loc nD τ sig) → Buf (Elt Ideal) ℓ) (c : Dev nD) :
    main (F := Ideal) c = Pipeline.chain ((segs m).map CSeg.prog) := by
  rw [main_chain c]
  unfold segs
  rw [segsG_prog]
  unfold pre mid post
  simp only [List.map_cons, List.map_nil, List.cons_append, List.nil_append]

/-- Every execution of the reference ends, each value of its program at `W4` of the launch. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩
      (fun r => ∀ (c : Dev nD) (b : Ref sig .tc), (Proc.devRef .tc b : DevRef τ sig).isScoped = false →
        r.2.mem ((c.tc : Thread nD τ).loc b) = W4 (launchContents m c) (Proc.devRef .tc b)) :=
  Pipeline.θ_run_regions_loop_kit (Ix := Unit) (Name := ℕ) (U := Option PUnit) (Lvl := ℕ) (J := Fin 0) (P := Fin 0) (Val := Elt Ideal)
    (pcfgs (F := Ideal)) adm cells_injective defs₀ Variants.none noLevels level loops tickets m ρ main (segs m)
    (fun c Q => by
      rw [main_segs m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rides c))
    (Tₙ := fun c => iprop(held (c : Thread nD τ) (ucRefs τ sig) (W4 (launchContents m c))))
    (hch := segs_chains m)
    (hinit := by
      refine Pipeline.initEach noLevels level fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W4 (launchContents m c) b)
    (hfin := fun c s' => by
      unfold held
      iintro ⟨Hh, HSI⟩
      ihave Hr := (pointsTo_read_all (ucRefs τ sig) (fun b => ((c : Dev nD), b)) (fun b => W4 (launchContents m c) b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- The stretches before the first loop keep the arguments. -/
theorem pre_keep (V : Valuation τ sig (Elt Ideal)) (b : Ref sig .tc) (hb : b.idx.val < 10) :
    afterL pre V (Proc.devRef .tc b) = V (Proc.devRef .tc b) := by
  simp only [afterL_cons, afterL_nil]
  rw [keep ops2_2_writes _ b (.inl (by omega)), keep ops2_1_writes _ b (.inl (by omega)), keep ops2_0_writes _ b (.inl (by omega)), keep ops1_0_writes _ b (.inl (by omega)), keep ops0_0_writes _ b (.inl (by omega))]

/-- So do those between the loops. -/
theorem mid_keep (V : Valuation τ sig (Elt Ideal)) (b : Ref sig .tc) (hb : b.idx.val < 10) :
    afterL mid V (Proc.devRef .tc b) = V (Proc.devRef .tc b) := by
  simp only [afterL_cons, afterL_nil]
  rw [keep ops4_0_writes _ b (.inl (by omega)), keep ops3_0_writes _ b (.inl (by omega)), keep ops2_4_writes _ b (.inl (by omega))]

/-- And those after the second. -/
theorem post_keep (V : Valuation τ sig (Elt Ideal)) (b : Ref sig .tc) (hb : b.idx.val < 10) :
    afterL post V (Proc.devRef .tc b) = V (Proc.devRef .tc b) := by
  simp only [afterL_cons, afterL_nil]
  rw [keep ops6_0_writes _ b (.inl (by omega)), keep ops5_0_writes _ b (.inl (by omega)), keep ops4_4_writes _ b (.inl (by omega)), keep ops4_3_writes _ b (.inl (by omega)), keep ops4_2_writes _ b (.inl (by omega))]

/-- The trip of the first loop keeps them. -/
theorem trip0_keep (V : Valuation τ sig (Elt Ideal)) (b : Ref sig .tc) (hb : b.idx.val < 10) :
    afterL trip0 (after cond0 V) (Proc.devRef .tc b) = V (Proc.devRef .tc b) := by
  simp only [afterL_cons, afterL_nil]
  rw [keep body0_5_writes _ b (.inl (by omega)), keep body0_4_writes _ b (.inl (by omega)), keep body0_3_writes _ b (.inl (by omega)), keep body0_2_writes _ b (.inl (by omega)), keep body0_1_writes _ b (.inl (by omega)), keep body0_0_writes _ b (.inl (by omega)), keep cond0_writes _ b (.inl (by omega))]

/-- And that of the second. -/
theorem trip1_keep (V : Valuation τ sig (Elt Ideal)) (b : Ref sig .tc) (hb : b.idx.val < 10) :
    afterL trip1 (after cond1 V) (Proc.devRef .tc b) = V (Proc.devRef .tc b) := by
  simp only [afterL_cons, afterL_nil]
  rw [keep body1_7_writes _ b (.inl (by omega)), keep body1_6_writes _ b (.inl (by omega)), keep body1_5_writes _ b (.inl (by omega)), keep body1_4_writes _ b (.inl (by omega)), keep body1_3_writes _ b (.inl (by omega)), keep body1_2_writes _ b (.inl (by omega)), keep body1_1_writes _ b (.inl (by omega)), keep body1_0_writes _ b (.inl (by omega)), keep cond1_writes _ b (.inl (by omega))]

/-- What each trip keeps, the trips keep. -/
theorem trips_keep (b : Ref sig .tc) (c : List (HloOp τ sig (Elt Ideal))) (ls : List (List (HloOp τ sig (Elt Ideal))))
    (h : ∀ V : Valuation τ sig (Elt Ideal), afterL ls (after c V) (Proc.devRef .tc b) = V (Proc.devRef .tc b))
    (V : Valuation τ sig (Elt Ideal)) : ∀ k, trips c ls V k (Proc.devRef .tc b) = V (Proc.devRef .tc b)
  | 0 => rfl
  | k + 1 => by rw [trips_succ, h, trips_keep b c ls h V k]

/-- An argument is at the end what it was at the launch. -/
theorem W4_keep (V : Valuation τ sig (Elt Ideal)) (b : Ref sig .tc) (hb : b.idx.val < 10) :
    W4 V (Proc.devRef .tc b) = V (Proc.devRef .tc b) := by
  unfold W4
  rw [post_keep _ b hb]
  unfold W3
  rw [keep cond1_writes _ b (.inl (by omega)), trips_keep b _ _ (fun V => trip1_keep V b hb)]
  unfold W2
  rw [mid_keep _ b hb]
  unfold W1
  rw [keep cond0_writes _ b (.inl (by omega)), trips_keep b _ _ (fun V => trip0_keep V b hb)]
  unfold W0
  rw [pre_keep _ b hb]

/-- The reference ends, its arguments as they were and no counter raised. -/
theorem frame (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩
      (fun r => (∀ (c : Dev nD) (b : Ref sig .tc), (Proc.devRef .tc b : DevRef τ sig).isScoped = false → b.idx.val < 10 →
        r.2.mem ((c.tc : Thread nD τ).loc b) = m ((c.tc : Thread nD τ).loc b)) ∧ r.2.sem = fun _ => 0) :=
  (θ_run _ _ _).mono (fun r h => ⟨fun c b hb hi => (h c b hb).trans (W4_keep _ b hi), by
    funext g
    rcases g with ⟨t, s⟩
    cases s with
    | reg s => exact s.elim0
    | dma s => exact s.elim0⟩) (run m ρ)

end Cert.ReferenceIdeal.Run

end

end
-- ==== Proof.RefPre.lean ====
module

public import proofs.«01_k».proof.Proof.RefCat
public import proofs.«01_k».proof.Proof.RefRun
public import Idealize.ShloMosaic.Lib.StableHlo.RunRead

@[expose] public section

set_option maxRecDepth 16384

noncomputable section

/-! What the reference computes before its recurrence, as functions of the arguments. -/

namespace Cert.ReferenceIdeal.Run

open Idealize.ShloMosaic Cert.ReferenceIdeal Cert.Emb

/-- The reference's arguments hold the real numbers of `P`. -/
structure Args (V : Valuation τ sig (Elt Ideal)) (P : Inp) : Prop where
  a0 : V (no_index (Proc.devRef .tc main_arg0)) = E2 2064 5376 P.proj
  a1 : V (no_index (Proc.devRef .tc main_arg1)) = E2 4 512 P.cw
  a2 : V (no_index (Proc.devRef .tc main_arg2)) = E1 512 P.cb
  a3 : V (no_index (Proc.devRef .tc main_arg3)) = E3 8 64 64 P.wa
  a4 : V (no_index (Proc.devRef .tc main_arg4)) = E1 512 P.ba
  a5 : V (no_index (Proc.devRef .tc main_arg5)) = E3 8 64 64 P.wi
  a6 : V (no_index (Proc.devRef .tc main_arg6)) = E1 512 P.bi
  a7 : V (no_index (Proc.devRef .tc main_arg7)) = E1 512 P.lam
  a8 : V (no_index (Proc.devRef .tc main_arg8)) = E1 512 P.ng
  a9 : V (no_index (Proc.devRef .tc main_arg9)) = E2 2112 512 P.d

variable {V W : Valuation τ sig (Elt Ideal)} {P : Inp}

/-- Operations that write none of the arguments keep them. -/
theorem Args.after (ha : Args W P) {lo hi : ℕ} {ops : List (HloOp τ sig (Elt Ideal))} (h : ops.Forall (Writes lo hi)) (hl : 10 ≤ lo) :
    Args (StableHlo.after ops W) P := by
  have k (b : Ref sig .tc) (hb : b.idx.val < 10) := keep h W b (Or.inl (hb.trans_le hl))
  obtain ⟨a0, a1, a2, a3, a4, a5, a6, a7, a8, a9⟩ := ha
  exact ⟨(k main_arg0 (by decide)).trans a0, (k main_arg1 (by decide)).trans a1, (k main_arg2 (by decide)).trans a2,
    (k main_arg3 (by decide)).trans a3, (k main_arg4 (by decide)).trans a4, (k main_arg5 (by decide)).trans a5,
    (k main_arg6 (by decide)).trans a6, (k main_arg7 (by decide)).trans a7, (k main_arg8 (by decide)).trans a8,
    (k main_arg9 (by decide)).trans a9⟩

/-! ### The padded rows and the two block-diagonal matrices -/

section Stage0
variable (ha : Args W P)
include ha

set_option maxHeartbeats 2000000 in
theorem s0_v2 : StableHlo.after ops0_0 W (Proc.devRef .tc main_v2) = E2 2112 512 P.pp := by
  obtain ⟨a0, a1, a2, a3, a4, a5, a6, a7, a8, a9⟩ := ha
  after_reads_simp [a0, const_E0 lit_zero, bin_02, cat2_eq, cat2_E2, slice_E2]
  rfl
set_option maxHeartbeats 2000000 in
theorem s0_v3 : StableHlo.after ops0_0 W (Proc.devRef .tc main_v3) = E2 2112 512 fun p j => P.pp p (j + 512) := by
  obtain ⟨a0, a1, a2, a3, a4, a5, a6, a7, a8, a9⟩ := ha
  after_reads_simp [a0, const_E0 lit_zero, bin_02, cat2_eq, cat2_E2, slice_E2]
  rfl
set_option maxHeartbeats 2000000 in
theorem s0_v29 : StableHlo.after ops0_0 W (Proc.devRef .tc main_v29) = E2 512 512 (blk P.wa) := by
  obtain ⟨a0, a1, a2, a3, a4, a5, a6, a7, a8, a9⟩ := ha
  after_reads_simp [a3, const_E0 lit_zero, bin_02, slice_E3, cast_3_2, Matrix.cons_val, cat8_cols, cat8_rows]
  exact E2_congr fun i hi j hj => sel8_blk P.wa i j hi hj
set_option maxHeartbeats 2000000 in
theorem s0_v55 : StableHlo.after ops0_0 W (Proc.devRef .tc main_v55) = E2 512 512 (blk P.wi) := by
  obtain ⟨a0, a1, a2, a3, a4, a5, a6, a7, a8, a9⟩ := ha
  after_reads_simp [a5, const_E0 lit_zero, bin_02, slice_E3, cast_3_2, Matrix.cons_val, cat8_cols, cat8_rows]
  exact E2_congr fun i hi j hj => sel8_blk P.wi i j hi hj
set_option maxHeartbeats 2000000 in
theorem s0_v56 : StableHlo.after ops0_0 W (Proc.devRef .tc main_v56) = E2 1 512 P.cw := by
  obtain ⟨a0, a1, a2, a3, a4, a5, a6, a7, a8, a9⟩ := ha
  after_reads_simp [a1, slice_E2]
  rfl
end Stage0

/-! ### The convolution and the two gates -/

section Stage1
variable (ha : Args W P) (h2 : W (no_index (Proc.devRef .tc main_v2)) = E2 2112 512 P.pp)
  (h29 : W (no_index (Proc.devRef .tc main_v29)) = E2 512 512 (blk P.wa))
  (h55 : W (no_index (Proc.devRef .tc main_v55)) = E2 512 512 (blk P.wi))
  (h56 : W (no_index (Proc.devRef .tc main_v56)) = E2 1 512 P.cw)
include ha h2 h29 h55 h56

set_option maxHeartbeats 2000000 in
theorem s1_v58 : StableHlo.after ops1_0 W (Proc.devRef .tc main_v58) = E2 2064 512 fun r j => P.Y.ue (r + 5) j := by
  obtain ⟨a0, a1, a2, a3, a4, a5, a6, a7, a8, a9⟩ := ha
  after_reads_simp [h2, slice_E2]
  exact E2_congr fun r _ j _ => (P.ueY (r + 5) j).symm
set_option maxHeartbeats 2000000 in
theorem s1_v59 : StableHlo.after ops1_0 W (Proc.devRef .tc main_v59) = E2 1 512 fun _ j => P.cw 0 j := by
  obtain ⟨a0, a1, a2, a3, a4, a5, a6, a7, a8, a9⟩ := ha
  after_reads_simp [h56, a1, slice_E2, cast_row_1, bin_12]
  try rfl
set_option maxHeartbeats 2000000 in
theorem s1_v64 : StableHlo.after ops1_0 W (Proc.devRef .tc main_v64) = E2 2064 512 fun r j => P.Y.ue (r + 6) j := by
  obtain ⟨a0, a1, a2, a3, a4, a5, a6, a7, a8, a9⟩ := ha
  after_reads_simp [h2, slice_E2]
  exact E2_congr fun r _ j _ => (P.ueY (r + 6) j).symm
set_option maxHeartbeats 2000000 in
theorem s1_v65 : StableHlo.after ops1_0 W (Proc.devRef .tc main_v65) = E2 1 512 fun _ j => P.cw 1 j := by
  obtain ⟨a0, a1, a2, a3, a4, a5, a6, a7, a8, a9⟩ := ha
  after_reads_simp [h56, a1, slice_E2, cast_row_1, bin_12]
  try rfl
set_option maxHeartbeats 2000000 in
theorem s1_v71 : StableHlo.after ops1_0 W (Proc.devRef .tc main_v71) = E2 2064 512 fun r j => P.Y.ue (r + 7) j := by
  obtain ⟨a0, a1, a2, a3, a4, a5, a6, a7, a8, a9⟩ := ha
  after_reads_simp [h2, slice_E2]
  exact E2_congr fun r _ j _ => (P.ueY (r + 7) j).symm
set_option maxHeartbeats 2000000 in
theorem s1_v72 : StableHlo.after ops1_0 W (Proc.devRef .tc main_v72) = E2 1 512 fun _ j => P.cw 2 j := by
  obtain ⟨a0, a1, a2, a3, a4, a5, a6, a7, a8, a9⟩ := ha
  after_reads_simp [h56, a1, slice_E2, cast_row_1, bin_12]
  try rfl
set_option maxHeartbeats 2000000 in
theorem s1_v78 : StableHlo.after ops1_0 W (Proc.devRef .tc main_v78) = E2 2064 512 fun r j => P.Y.ue (r + 8) j := by
  obtain ⟨a0, a1, a2, a3, a4, a5, a6, a7, a8, a9⟩ := ha
  after_reads_simp [h2, slice_E2]
  exact E2_congr fun r _ j _ => (P.ueY (r + 8) j).symm
set_option maxHeartbeats 2000000 in
theorem s1_v79 : StableHlo.after ops1_0 W (Proc.devRef .tc main_v79) = E2 1 512 fun _ j => P.cw 3 j := by
  obtain ⟨a0, a1, a2, a3, a4, a5, a6, a7, a8, a9⟩ := ha
  after_reads_simp [h56, a1, slice_E2, cast_row_1, bin_12]
  try rfl
set_option maxHeartbeats 2000000 in
theorem s1_v85 : StableHlo.after ops1_0 W (Proc.devRef .tc main_v85) = E2 2064 512 P.Y.xc := by
  obtain ⟨a0, a1, a2, a3, a4, a5, a6, a7, a8, a9⟩ := ha
  after_reads_simp [h56, h2, a1, a2, slice_E2, cast_row_1, bin_12, bin_row, mulf_E2, addf_E2]
  exact E2_congr fun r _ j _ => (P.xcY r j).symm
set_option maxHeartbeats 2000000 in
theorem s1_v95 : StableHlo.after ops1_0 W (Proc.devRef .tc main_v95) = E2 2064 512 P.Y.rg := by
  obtain ⟨a0, a1, a2, a3, a4, a5, a6, a7, a8, a9⟩ := ha
  after_reads_simp [h56, h2, a1, a2, slice_E2, cast_row_1, bin_12, bin_row, mulf_E2, addf_E2, h29, h55, a4, a6, const_E0 lit_one, bin_02, subf_E2,
    dot_S2064x512_S512x512_S2064x512_1_0_0_1_n_n, hdot_10, hneg_E2, hexp_E2, hsig_E2]
  refine E2_congr fun r _ j _ => ?_
  simp only [Rows.rg, Rows.ig, Inp.xcY]
  rfl
set_option maxHeartbeats 2000000 in
theorem s1_v98 : StableHlo.after ops1_0 W (Proc.devRef .tc main_v98) = E2 2064 512 (fun r j => P.Y.rg r j * (1 - P.Y.rg r j)) := by
  obtain ⟨a0, a1, a2, a3, a4, a5, a6, a7, a8, a9⟩ := ha
  after_reads_simp [h56, h2, a1, a2, slice_E2, cast_row_1, bin_12, bin_row, mulf_E2, addf_E2, h29, h55, a4, a6, const_E0 lit_one, bin_02, subf_E2,
    dot_S2064x512_S512x512_S2064x512_1_0_0_1_n_n, hdot_10, hneg_E2, hexp_E2, hsig_E2]
  refine E2_congr fun r _ j _ => ?_
  simp only [Rows.rg, Rows.ig, Inp.xcY]
  rfl
set_option maxHeartbeats 2000000 in
theorem s1_v108 : StableHlo.after ops1_0 W (Proc.devRef .tc main_v108) = E2 2064 512 P.Y.ig := by
  obtain ⟨a0, a1, a2, a3, a4, a5, a6, a7, a8, a9⟩ := ha
  after_reads_simp [h56, h2, a1, a2, slice_E2, cast_row_1, bin_12, bin_row, mulf_E2, addf_E2, h29, h55, a4, a6, const_E0 lit_one, bin_02, subf_E2,
    dot_S2064x512_S512x512_S2064x512_1_0_0_1_n_n, hdot_10, hneg_E2, hexp_E2, hsig_E2]
  refine E2_congr fun r _ j _ => ?_
  simp only [Rows.rg, Rows.ig, Inp.xcY]
  rfl
set_option maxHeartbeats 2000000 in
theorem s1_v110 : StableHlo.after ops1_0 W (Proc.devRef .tc main_v110) = E2 2064 512 (fun r j => 1 - P.Y.ig r j) := by
  obtain ⟨a0, a1, a2, a3, a4, a5, a6, a7, a8, a9⟩ := ha
  after_reads_simp [h56, h2, a1, a2, slice_E2, cast_row_1, bin_12, bin_row, mulf_E2, addf_E2, h29, h55, a4, a6, const_E0 lit_one, bin_02, subf_E2,
    dot_S2064x512_S512x512_S2064x512_1_0_0_1_n_n, hdot_10, hneg_E2, hexp_E2, hsig_E2]
  refine E2_congr fun r _ j _ => ?_
  simp only [Rows.rg, Rows.ig, Inp.xcY]
  rfl
end Stage1

/-! ### The decay and the scale of the input -/

section Stage2
variable (ha : Args W P) (h95 : W (no_index (Proc.devRef .tc main_v95)) = E2 2064 512 P.Y.rg)
  (h108 : W (no_index (Proc.devRef .tc main_v108)) = E2 2064 512 P.Y.ig)
  (h110 : W (no_index (Proc.devRef .tc main_v110)) = E2 2064 512 fun r j => 1 - P.Y.ig r j)
include ha h95 h108 h110

set_option maxHeartbeats 2000000 in
theorem s2_v111 : StableHlo.after ops2_0 W (Proc.devRef .tc main_v111) = E2 2064 512 fun r j => P.Y.ig r j * (1 - P.Y.ig r j) := by
  obtain ⟨a0, a1, a2, a3, a4, a5, a6, a7, a8, a9⟩ := ha
  after_reads_simp [h108, h110, mulf_E2]
set_option maxHeartbeats 2000000 in
theorem s2_v113 : StableHlo.after ops2_0 W (Proc.devRef .tc main_v113) = E2 2064 512 fun r j => -8 * P.Y.rg r j := by
  obtain ⟨a0, a1, a2, a3, a4, a5, a6, a7, a8, a9⟩ := ha
  after_reads_simp [h95, const_E0 lit_neg_eight, bin_02, mulf_E2]
set_option maxHeartbeats 2000000 in
theorem s2_v114 : StableHlo.after ops2_0 W (Proc.devRef .tc main_v114) = E1 512 fun j => -P.lam j := by
  obtain ⟨a0, a1, a2, a3, a4, a5, a6, a7, a8, a9⟩ := ha
  after_reads_simp [a7, hneg_E1]
end Stage2

/-- A finite value is not the top: the choice between zero and the value is the value. -/
theorem sel_top {n : ℕ} (f g : ℕ → ℝ) (h) :
    select (cmpf (F := Ideal) (φ := .f32) .oeq (E1 n f) (broadcastInDim (⟨1, ![n]⟩ : Shape) (no_index ![]) h
      (constant (F := Ideal) (⟨0, ![]⟩ : Shape) .f32 0x7F800000#32))) (E1 n g) (E1 n f) = E1 n f := by
  funext i
  refine (if_neg ?_ : (if Ideal.cmp .oeq (E1 n f i) (Ideal.ofBits .f32 0x7F800000#32) = 1 then E1 n g i else E1 n f i) = _)
  rw [lit_top]
  simp [Ideal.cmp, E1]
theorem hexp_E1 {n : ℕ} (f : ℕ → ℝ) : Host.exp (F := Ideal) (φ := .f32) (E1 n f) = E1 n (fun i => Real.exp (f i)) :=
  funext fun _ => Ideal.exp_coe _

section Stage3
variable (h114 : W (no_index (Proc.devRef .tc main_v114)) = E1 512 fun j => -P.lam j)
include h114

set_option maxHeartbeats 2000000 in
theorem s3_v115_0 : StableHlo.after ops2_1 W (Proc.devRef .tc main_v115_0) = E1 512 P.Y.sp := by
  after_reads_simp [h114, const_E0 lit_zero, bin_01, hsoft_E1]
  exact E1_congr fun j _ => (P.spY j).symm
set_option maxHeartbeats 2000000 in
theorem s3_v115_1 : StableHlo.after ops2_1 W (Proc.devRef .tc main_v115_1) = E1 512 P.Y.dsp := by
  after_reads_simp [h114, const_E0 lit_zero, bin_01, hsoft_E1, sel_top]
  rw [subf_E1, hexp_E1]
  refine E1_congr fun j _ => ?_
  rw [Rows.dsp, P.spY, zero_sub]
  rfl
end Stage3

/-- The square root of one minus the squared decay, as the reference writes it. -/
theorem root_be : Host.sqrt (F := Ideal) (φ := .f32) (E2 2064 512 fun r j => -(Real.exp (2 * (-8 * P.Y.rg r j * P.Y.sp j)) - 1))
    = E2 2064 512 P.Y.be := by
  refine (congrArg _ (E2_congr (g := fun r j => 1 - Real.exp (2 * P.Y.la r j)) fun r _ j _ => ?_)).trans
    (hsqrt_E2 _ fun r _ j _ => (P.Y.quot_pos r j).le)
  exact neg_sub _ _
theorem half_be : Host.divf (F := Ideal) (φ := .f32) (E2 2064 512 fun _ _ => 1 / 2) (E2 2064 512 P.Y.be)
    = E2 2064 512 fun r j => 1 / 2 / P.Y.be r j := hdiv_E2 _ _ fun r _ j _ => (P.Y.be_pos r j).ne'

section Stage4
variable (h115 : W (no_index (Proc.devRef .tc main_v115_0)) = E1 512 P.Y.sp)
  (h113 : W (no_index (Proc.devRef .tc main_v113)) = E2 2064 512 fun r j => -8 * P.Y.rg r j)
  (h108 : W (no_index (Proc.devRef .tc main_v108)) = E2 2064 512 P.Y.ig)
  (h85 : W (no_index (Proc.devRef .tc main_v85)) = E2 2064 512 P.Y.xc)
include h115 h113 h108 h85

set_option maxHeartbeats 2000000 in
theorem s4_v116 : StableHlo.after ops2_2 W (Proc.devRef .tc main_v116) = E2 1 512 fun _ j => P.Y.sp j := by
  after_reads_simp [h115, h113, const_E0 lit_two, const_E0 lit_half, bin_02, bin_12, bin_row, mulf_E2, hexp_E2]
set_option maxHeartbeats 2000000 in
theorem s4_v119 : StableHlo.after ops2_2 W (Proc.devRef .tc main_v119) = E2 2064 512 P.Y.a := by
  after_reads_simp [h115, h113, const_E0 lit_two, const_E0 lit_half, bin_02, bin_12, bin_row, mulf_E2, hexp_E2]
  rfl
set_option maxHeartbeats 2000000 in
theorem s4_v123 : StableHlo.after ops2_2 W (Proc.devRef .tc main_v123) = E2 2064 512 fun r j => Real.exp (2 * P.Y.la r j) := by
  after_reads_simp [h115, h113, const_E0 lit_two, const_E0 lit_half, bin_02, bin_12, bin_row, mulf_E2, hexp_E2]
  rfl
set_option maxHeartbeats 2000000 in
theorem s4_v125 : StableHlo.after ops2_2 W (Proc.devRef .tc main_v125) = E2 2064 512 P.Y.be := by
  after_reads_simp [h115, h113, const_E0 lit_two, const_E0 lit_half, bin_02, bin_12, bin_row, mulf_E2, hexp_E2, hexpm1_E2, hneg_E2, root_be, half_be, h108, h85]
set_option maxHeartbeats 2000000 in
theorem s4_v127 : StableHlo.after ops2_2 W (Proc.devRef .tc main_v127) = E2 2064 512 fun r j => 1 / 2 / P.Y.be r j := by
  after_reads_simp [h115, h113, const_E0 lit_two, const_E0 lit_half, bin_02, bin_12, bin_row, mulf_E2, hexp_E2, hexpm1_E2, hneg_E2, root_be, half_be, h108, h85]
set_option maxHeartbeats 2000000 in
theorem s4_v128 : StableHlo.after ops2_2 W (Proc.devRef .tc main_v128) = E2 2064 512 fun r j => P.Y.ig r j * P.Y.xc r j := by
  after_reads_simp [h115, h113, const_E0 lit_two, const_E0 lit_half, bin_02, bin_12, bin_row, mulf_E2, hexp_E2, hexpm1_E2, hneg_E2, root_be, half_be, h108, h85]
set_option maxHeartbeats 2000000 in
theorem s4_v133_0 : StableHlo.after ops2_2 W (Proc.devRef .tc main_v133_0) = E2 2064 512 P.Y.a := by
  after_reads_simp [h115, h113, const_E0 lit_two, const_E0 lit_half, bin_02, bin_12, bin_row, mulf_E2, hexp_E2, hexpm1_E2, hneg_E2, root_be, half_be, h108, h85]
  rfl
set_option maxHeartbeats 2000000 in
theorem s4_v133_1 : StableHlo.after ops2_2 W (Proc.devRef .tc main_v133_1) = E2 2064 512 P.Y.bm := by
  after_reads_simp [h115, h113, const_E0 lit_two, const_E0 lit_half, bin_02, bin_12, bin_row, mulf_E2, hexp_E2, hexpm1_E2, hneg_E2, root_be, half_be, h108, h85]
  exact E2_congr fun r _ j _ => (P.bmY r j).symm
set_option maxHeartbeats 2000000 in
theorem s4_v133_3 : StableHlo.after ops2_2 W (Proc.devRef .tc main_v133_3) = E1 512 fun _ => 0 := by
  after_reads_simp [const_E0 lit_zero, bin_01, bin_02]
  rfl
set_option maxHeartbeats 2000000 in
theorem s4_v133_4 : StableHlo.after ops2_2 W (Proc.devRef .tc main_v133_4) = E2 2064 512 fun _ _ => 0 := by
  after_reads_simp [const_E0 lit_zero, bin_01, bin_02]
  rfl
set_option maxHeartbeats 2000000 in
theorem s4_v133_5 : StableHlo.after ops2_2 W (Proc.devRef .tc main_v133_5) = E2 2064 512 fun _ _ => 0 := by
  after_reads_simp [const_E0 lit_zero, bin_01, bin_02]
  rfl
end Stage4

end Cert.ReferenceIdeal.Run
end
-- ==== Proof.RefLoop.lean ====
module

public import proofs.«01_k».proof.Proof.RefPre
public import proofs.«01_k».proof.Proof.Glob

@[expose] public section

set_option maxRecDepth 16384

noncomputable section

/-! The reference's two loops: the states row by row, and their gradients row by row backwards. -/

namespace Cert.Emb
open Idealize Idealize.ShloMosaic
variable {n m : ℕ}

/-- One row read at a place inside the array. -/
theorem dslice_E2 (f : ℕ → ℕ → ℝ) (start : Fin 2 → Int) (k : ℕ) (h0 : start 0 = k) (h1 : start 1 = 0) (hk : k < n)
    (h : (⟨2, ![n, m]⟩ : Shape).Slices (fun _ => 0) ⟨2, ![1, m]⟩) :
    Host.dynamicSlice (⟨2, ![1, m]⟩ : Shape) (E2 n m f) start h = E2 1 m fun _ j => f k j := by
  funext i
  have hi : (i 0).val < 1 := (i 0).isLt
  show ((f ((min (max (start 0) 0) ((n - 1 : ℕ) : Int)).toNat + (i 0).val)
    ((min (max (start 1) 0) ((m - m : ℕ) : Int)).toNat + (i 1).val) : ℝ) : EReal) = ((f k (i 1).val : ℝ) : EReal)
  have e0 : (min (max (start 0) 0) ((n - 1 : ℕ) : Int)).toNat + (i 0).val = k := by rw [h0]; omega
  have e1 : (min (max (start 1) 0) ((m - m : ℕ) : Int)).toNat + (i 1).val = (i 1).val := by rw [h1]; omega
  rw [e0, e1]

/-- One row written at a place inside the array. -/
theorem dupdate_E2 (f g : ℕ → ℕ → ℝ) (start : Fin 2 → Int) (k : ℕ) (h0 : start 0 = k) (h1 : start 1 = 0) (hk : k < n)
    (h : (⟨2, ![n, m]⟩ : Shape).Slices (fun _ => 0) ⟨2, ![1, m]⟩) :
    Host.dynamicUpdateSlice (E2 n m f) (E2 1 m g) start h = E2 n m fun i j => if i = k then g 0 j else f i j := by
  funext i
  have hi : (i 0).val < n := (i 0).isLt
  have hj : (i 1).val < m := (i 1).isLt
  have e0 : (min (max (start 0) 0) ((n - 1 : ℕ) : Int)).toNat = k := by rw [h0]; omega
  have e1 : (min (max (start 1) 0) ((m - m : ℕ) : Int)).toNat = 0 := by rw [h1]; omega
  unfold Host.dynamicUpdateSlice updateSlice
  by_cases hik : (i 0).val = k
  · rw [dif_pos (by
      intro a
      match a with
      | 0 => exact ⟨by show (min (max (start 0) 0) ((n - 1 : ℕ) : Int)).toNat ≤ (i 0).val; omega,
          by show (i 0).val < (min (max (start 0) 0) ((n - 1 : ℕ) : Int)).toNat + 1; omega⟩
      | 1 => exact ⟨by show (min (max (start 1) 0) ((m - m : ℕ) : Int)).toNat ≤ (i 1).val; omega,
          by show (i 1).val < (min (max (start 1) 0) ((m - m : ℕ) : Int)).toNat + m; omega⟩)]
    show ((g ((i 0).val - (min (max (start 0) 0) ((n - 1 : ℕ) : Int)).toNat)
      ((i 1).val - (min (max (start 1) 0) ((m - m : ℕ) : Int)).toNat) : ℝ) : EReal)
      = (((if (i 0).val = k then g 0 (i 1).val else f (i 0).val (i 1).val : ℝ)) : EReal)
    rw [e0, e1, if_pos hik, hik, Nat.sub_self, Nat.sub_zero]
  · rw [dif_neg (fun hh => by
      have := hh 0
      have h1 : (min (max (start 0) 0) ((n - 1 : ℕ) : Int)).toNat ≤ (i 0).val := this.1
      have h2 : (i 0).val < (min (max (start 0) 0) ((n - 1 : ℕ) : Int)).toNat + 1 := this.2
      omega)]
    show ((f (i 0).val (i 1).val : ℝ) : EReal)
      = (((if (i 0).val = k then g 0 (i 1).val else f (i 0).val (i 1).val : ℝ)) : EReal)
    rw [if_neg hik]

end Cert.Emb

namespace Cert.ReferenceIdeal.Run

open Idealize.ShloMosaic Cert.ReferenceIdeal Cert.Emb Idealize.ShloMosaic.StableHlo

/-- The counter, read as a signed number. -/
theorem ofNat_toInt (k : ℕ) (hk : k < 2064) : (BitVec.ofNat 32 k).toInt = k := by
  rw [BitVec.toInt_eq_toNat_of_lt (by rw [BitVec.toNat_ofNat]; omega), BitVec.toNat_ofNat]
  omega
theorem iv_eq (k : ℕ) : Scf.iv 0#32 1#32 k = BitVec.ofNat 32 k := by simp [Scf.iv]
theorem iv_toInt (k : ℕ) (hk : k < 2064) : (Scf.iv 0#32 1#32 k).toInt = k := by rw [iv_eq]; exact ofNat_toInt k hk
/-- The row the backward loop is at, counted from the last. -/
theorem back_toInt (k : ℕ) (hk : k < 2064) : (2064#32 - Scf.iv 0#32 1#32 k - 1#32).toInt = (2063 - k : ℕ) := by
  have : 2064#32 - Scf.iv 0#32 1#32 k - 1#32 = BitVec.ofNat 32 (2063 - k) := by
    rw [iv_eq]
    apply BitVec.eq_of_toNat_eq
    simp only [BitVec.toNat_sub, BitVec.toNat_ofNat]
    omega
  rw [this]
  exact ofNat_toInt _ (by omega)

section Trip0
variable {U : Valuation τ sig (Elt Ideal)} {A B F G : ℕ → ℕ → ℝ} {s : ℕ → ℝ} {k : ℕ} (hk : k < 2064)
  (h0 : U (no_index (Proc.devRef .tc main_v133_0)) = E2 2064 512 A)
  (h1 : U (no_index (Proc.devRef .tc main_v133_1)) = E2 2064 512 B)
  (h2 : U (no_index (Proc.devRef .tc main_v133_2)) = fun _ => Scf.iv 0#32 1#32 k)
  (h3 : U (no_index (Proc.devRef .tc main_v133_3)) = E1 512 s)
  (h4 : U (no_index (Proc.devRef .tc main_v133_4)) = E2 2064 512 F)
  (h5 : U (no_index (Proc.devRef .tc main_v133_5)) = E2 2064 512 G)
include hk h0 h1 h2 h3 h4 h5

/-- A trip leaves the next state. -/
theorem t0_v3 : afterL trip0 (after cond0 U) (Proc.devRef .tc main_v133_3) = E1 512 fun j => A k j * s j + B k j := by
  rw [afterL_eq_after_flatten, ← after_append]
  after_reads_simp [h0, h1, h2, h3, h4, h5, unaryIndexed_result_read, binaryIndexed_result_read, indexContents_tref_cons, indexContents_tref_empty]
  rw [dslice_E2 A _ k ?_ ?_ hk, dslice_E2 B _ k ?_ ?_ hk, cast_row_1, cast_row_1, mulf_E1, addf_E1]
  · rfl
  · exact iv_toInt k hk
  · rfl
  · exact iv_toInt k hk
  · rfl
/-- A trip writes the next state into its row. -/
theorem t0_v4 : afterL trip0 (after cond0 U) (Proc.devRef .tc main_v133_4)
    = E2 2064 512 fun i j => if i = k then A k j * s j + B k j else F i j := by
  rw [afterL_eq_after_flatten, ← after_append]
  after_reads_simp [h0, h1, h2, h3, h4, h5, unaryIndexed_result_read, binaryIndexed_result_read, indexContents_tref_cons, indexContents_tref_empty]
  rw [dslice_E2 A _ k ?_ ?_ hk, dslice_E2 B _ k ?_ ?_ hk, cast_row_1, cast_row_1, mulf_E1, addf_E1, bin_12, dupdate_E2 F _ _ k ?_ ?_ hk]
  · rfl
  · exact iv_toInt k hk
  · rfl
  · exact iv_toInt k hk
  · rfl
  · exact iv_toInt k hk
  · rfl
/-- A trip writes the state before into its row. -/
theorem t0_v5 : afterL trip0 (after cond0 U) (Proc.devRef .tc main_v133_5)
    = E2 2064 512 fun i j => if i = k then s j else G i j := by
  rw [afterL_eq_after_flatten, ← after_append]
  after_reads_simp [h0, h1, h2, h3, h4, h5, unaryIndexed_result_read, binaryIndexed_result_read, indexContents_tref_cons, indexContents_tref_empty]
  rw [bin_12, dupdate_E2 G _ _ k ?_ ?_ hk]
  · rfl
  · exact iv_toInt k hk
  · rfl
end Trip0

section Trip1
variable {U : Valuation τ sig (Elt Ideal)} {S Q A F G : ℕ → ℕ → ℝ} {s : ℕ → ℝ} {k : ℕ} (hk : k < 2064)
  (h0 : U (no_index (Proc.devRef .tc main_v213_0)) = E2 2064 512 S)
  (h1 : U (no_index (Proc.devRef .tc main_v213_1)) = E2 2064 512 Q)
  (h2 : U (no_index (Proc.devRef .tc main_v213_2)) = E2 2064 512 A)
  (h3 : U (no_index (Proc.devRef .tc main_v213_3)) = fun _ => Scf.iv 0#32 1#32 k)
  (h4 : U (no_index (Proc.devRef .tc main_v213_4)) = E1 512 s)
  (h5 : U (no_index (Proc.devRef .tc main_v213_5)) = E2 2064 512 F)
  (h6 : U (no_index (Proc.devRef .tc main_v213_6)) = E2 2064 512 G)
include hk h0 h1 h2 h3 h4 h5 h6

/-- A trip leaves what the row before receives. -/
theorem t1_v4 : afterL trip1 (after cond1 U) (Proc.devRef .tc main_v213_4)
    = E1 512 fun j => A (2063 - k) j * (s j + S (2063 - k) j) := by
  have hk' : 2063 - k < 2064 := by omega
  rw [afterL_eq_after_flatten, ← after_append]
  after_reads_simp [h0, h1, h2, h3, h4, h5, h6, unaryIndexed_result_read, binaryIndexed_result_read, indexContents_tref_cons, indexContents_tref_empty]
  rw [dslice_E2 S _ (2063 - k) ?_ ?_ hk', dslice_E2 A _ (2063 - k) ?_ ?_ hk', cast_row_1, cast_row_1, addf_E1, mulf_E1]
  · rfl
  · exact back_toInt k hk
  · rfl
  · exact back_toInt k hk
  · rfl
theorem t1_v5 : afterL trip1 (after cond1 U) (Proc.devRef .tc main_v213_5)
    = E2 2064 512 fun i j => if i = 2063 - k then (s j + S (2063 - k) j) * Q (2063 - k) j else F i j := by
  have hk' : 2063 - k < 2064 := by omega
  rw [afterL_eq_after_flatten, ← after_append]
  after_reads_simp [h0, h1, h2, h3, h4, h5, h6, unaryIndexed_result_read, binaryIndexed_result_read, indexContents_tref_cons, indexContents_tref_empty]
  rw [dslice_E2 S _ (2063 - k) ?_ ?_ hk', dslice_E2 Q _ (2063 - k) ?_ ?_ hk', cast_row_1, cast_row_1, addf_E1, mulf_E1, bin_12,
    dupdate_E2 F _ _ (2063 - k) ?_ ?_ hk']
  · rfl
  · exact back_toInt k hk
  · rfl
  · exact back_toInt k hk
  · rfl
  · exact back_toInt k hk
  · rfl
theorem t1_v6 : afterL trip1 (after cond1 U) (Proc.devRef .tc main_v213_6)
    = E2 2064 512 fun i j => if i = 2063 - k then s j + S (2063 - k) j else G i j := by
  have hk' : 2063 - k < 2064 := by omega
  rw [afterL_eq_after_flatten, ← after_append]
  after_reads_simp [h0, h1, h2, h3, h4, h5, h6, unaryIndexed_result_read, binaryIndexed_result_read, indexContents_tref_cons, indexContents_tref_empty]
  rw [dslice_E2 S _ (2063 - k) ?_ ?_ hk', cast_row_1, addf_E1, bin_12, dupdate_E2 G _ _ (2063 - k) ?_ ?_ hk']
  · rfl
  · exact back_toInt k hk
  · rfl
  · exact back_toInt k hk
  · rfl
end Trip1

/-- The first loop keeps what it does not write. -/
theorem loop0_keep (V : Valuation τ sig (Elt Ideal)) (b : Ref sig .tc) (hb : b.idx.val < 206 ∨ 228 ≤ b.idx.val) (k : ℕ) :
    trips cond0 trip0 V k (Proc.devRef .tc b) = V (Proc.devRef .tc b) := by
  refine trips_keep b _ _ (fun V => ?_) V k
  simp only [afterL_cons, afterL_nil]
  rw [keep body0_5_writes _ b (by omega), keep body0_4_writes _ b (by omega), keep body0_3_writes _ b (by omega), keep body0_2_writes _ b (by omega), keep body0_1_writes _ b (by omega), keep body0_0_writes _ b (by omega), keep cond0_writes _ b (by omega)]
/-- And the second. -/
theorem loop1_keep (V : Valuation τ sig (Elt Ideal)) (b : Ref sig .tc) (hb : b.idx.val < 335 ∨ 365 ≤ b.idx.val) (k : ℕ) :
    trips cond1 trip1 V k (Proc.devRef .tc b) = V (Proc.devRef .tc b) := by
  refine trips_keep b _ _ (fun V => ?_) V k
  simp only [afterL_cons, afterL_nil]
  rw [keep body1_7_writes _ b (by omega), keep body1_6_writes _ b (by omega), keep body1_5_writes _ b (by omega), keep body1_4_writes _ b (by omega), keep body1_3_writes _ b (by omega), keep body1_2_writes _ b (by omega), keep body1_1_writes _ b (by omega), keep body1_0_writes _ b (by omega), keep cond1_writes _ b (by omega)]

/-- The first loop after `k` trips: the states of the first `k` rows. -/
theorem loop0_inv (V : Valuation τ sig (Elt Ideal)) (X : Rows)
    (h0 : W0 V (Proc.devRef .tc main_v133_0) = E2 2064 512 X.a) (h1 : W0 V (Proc.devRef .tc main_v133_1) = E2 2064 512 X.bm)
    (h3 : W0 V (Proc.devRef .tc main_v133_3) = E1 512 fun _ => 0) (h4 : W0 V (Proc.devRef .tc main_v133_4) = E2 2064 512 fun _ _ => 0)
    (h5 : W0 V (Proc.devRef .tc main_v133_5) = E2 2064 512 fun _ _ => 0) (k : ℕ) (hk : k ≤ 2064) :
    trips cond0 trip0 (W0 V) k (Proc.devRef .tc main_v133_3) = E1 512 (fun j => X.Hp k j)
    ∧ trips cond0 trip0 (W0 V) k (Proc.devRef .tc main_v133_4) = E2 2064 512 (fun i j => if i < k then X.H i j else 0)
    ∧ trips cond0 trip0 (W0 V) k (Proc.devRef .tc main_v133_5) = E2 2064 512 (fun i j => if i < k then X.Hp i j else 0) := by
  induction k with
  | zero =>
    refine ⟨h3.trans (E1_congr fun j _ => ?_), h4.trans (E2_congr fun i _ j _ => ?_), h5.trans (E2_congr fun i _ j _ => ?_)⟩
    · rw [Rows.Hp, if_pos rfl]
    · rw [if_neg (Nat.not_lt_zero _)]
    · rw [if_neg (Nat.not_lt_zero _)]
  | succ k ih =>
    obtain ⟨i3, i4, i5⟩ := ih (by omega)
    have g0 := (loop0_keep (W0 V) main_v133_0 (Or.inl (by decide)) k).trans h0
    have g1 := (loop0_keep (W0 V) main_v133_1 (Or.inl (by decide)) k).trans h1
    have g2 := ctr0 V k
    have e (j : ℕ) : X.a k j * X.Hp k j + X.bm k j = X.H k j := by
      rcases k with _ | k
      · rw [Rows.Hp, if_pos rfl, mul_zero, zero_add, X.H_zero]
      · rw [Rows.Hp, if_neg (by omega), Nat.add_sub_cancel, X.H_succ]
    rw [trips_succ]
    refine ⟨(t0_v3 (by omega) g0 g1 g2 i3 i4 i5).trans (E1_congr fun j _ => ?_), (t0_v4 (by omega) g0 g1 g2 i3 i4 i5).trans (E2_congr fun i _ j _ => ?_),
      (t0_v5 (by omega) g0 g1 g2 i3 i4 i5).trans (E2_congr fun i _ j _ => ?_)⟩
    · rw [e, Rows.Hp, if_neg (by omega), Nat.add_sub_cancel]
    · rw [e]
      by_cases h : i = k
      · rw [if_pos h, if_pos (by omega), h]
      · rw [if_neg h]
        by_cases h' : i < k
        · rw [if_pos h', if_pos (by omega)]
        · rw [if_neg h', if_neg (by omega)]
    · by_cases h : i = k
      · rw [if_pos h, if_pos (by omega), h]
      · rw [if_neg h]
        by_cases h' : i < k
        · rw [if_pos h', if_pos (by omega)]
        · rw [if_neg h', if_neg (by omega)]

/-- The second loop after `k` trips: the gradients at the states of the last `k` rows. -/
theorem loop1_inv (V : Valuation τ sig (Elt Ideal)) (X : Rows)
    (h0 : W2 V (Proc.devRef .tc main_v213_0) = E2 2064 512 (X.gs X.H)) (h1 : W2 V (Proc.devRef .tc main_v213_1) = E2 2064 512 X.Hp)
    (h2 : W2 V (Proc.devRef .tc main_v213_2) = E2 2064 512 X.a)
    (h4 : W2 V (Proc.devRef .tc main_v213_4) = E1 512 fun _ => 0) (h5 : W2 V (Proc.devRef .tc main_v213_5) = E2 2064 512 fun _ _ => 0)
    (h6 : W2 V (Proc.devRef .tc main_v213_6) = E2 2064 512 fun _ _ => 0) (k : ℕ) (hk : k ≤ 2064) :
    trips cond1 trip1 (W2 V) k (Proc.devRef .tc main_v213_4)
      = E1 512 (fun j => if k = 0 then 0 else X.a (2064 - k) j * X.Lam 2063 (2064 - k) j)
    ∧ trips cond1 trip1 (W2 V) k (Proc.devRef .tc main_v213_5)
      = E2 2064 512 (fun i j => if 2064 - k ≤ i then X.Lam 2063 i j * X.Hp i j else 0)
    ∧ trips cond1 trip1 (W2 V) k (Proc.devRef .tc main_v213_6)
      = E2 2064 512 (fun i j => if 2064 - k ≤ i then X.Lam 2063 i j else 0) := by
  induction k with
  | zero =>
    refine ⟨h4.trans (E1_congr fun j _ => ?_), h5.trans (E2_congr fun i hi j _ => ?_), h6.trans (E2_congr fun i hi j _ => ?_)⟩
    · rw [if_pos rfl]
    · rw [if_neg (by omega)]
    · rw [if_neg (by omega)]
  | succ k ih =>
    obtain ⟨i4, i5, i6⟩ := ih (by omega)
    have g0 := (loop1_keep (W2 V) main_v213_0 (Or.inl (by decide)) k).trans h0
    have g1 := (loop1_keep (W2 V) main_v213_1 (Or.inl (by decide)) k).trans h1
    have g2 := (loop1_keep (W2 V) main_v213_2 (Or.inl (by decide)) k).trans h2
    have g3 := ctr1 V k
    have e (j : ℕ) : (if k = 0 then 0 else X.a (2064 - k) j * X.Lam 2063 (2064 - k) j) + X.gs X.H (2063 - k) j
        = X.Lam 2063 (2063 - k) j := by
      by_cases h : k = 0
      · subst h
        rw [if_pos rfl, zero_add]
        exact (X.Lam_last 2063 j).symm
      · rw [if_neg h, X.Lam_rec 2063 (2063 - k) j (by omega), show 2063 - k + 1 = 2064 - k by omega, add_comm]
    rw [trips_succ]
    refine ⟨(t1_v4 (by omega) g0 g1 g2 g3 i4 i5 i6).trans (E1_congr fun j _ => ?_),
      (t1_v5 (by omega) g0 g1 g2 g3 i4 i5 i6).trans (E2_congr fun i _ j _ => ?_),
      (t1_v6 (by omega) g0 g1 g2 g3 i4 i5 i6).trans (E2_congr fun i _ j _ => ?_)⟩
    · rw [e, if_neg (by omega), show 2064 - (k + 1) = 2063 - k by omega]
    · rw [e]
      by_cases h : i = 2063 - k
      · rw [if_pos h, if_pos (by omega), h]
      · rw [if_neg h]
        by_cases h' : 2064 - k ≤ i
        · rw [if_pos h', if_pos (by omega)]
        · rw [if_neg h', if_neg (by omega)]
    · rw [e]
      by_cases h : i = 2063 - k
      · rw [if_pos h, if_pos (by omega), h]
      · rw [if_neg h]
        by_cases h' : 2064 - k ≤ i
        · rw [if_pos h', if_pos (by omega)]
        · rw [if_neg h', if_neg (by omega)]

end Cert.ReferenceIdeal.Run
end
-- ==== Proof.RefMid.lean ====
module

public import proofs.«01_k».proof.Proof.RefLoop

@[expose] public section

set_option maxRecDepth 16384

noncomputable section

/-! What the reference computes between its two loops: the normalisation and its gradients. -/

namespace Cert.Emb
open Idealize Idealize.ShloMosaic
variable {n m : ℕ}

/-- The mean square and the small constant together are above zero. -/
theorem msum_pos (f : ℕ → ℕ → ℝ) (i : ℕ) : 0 < (∑ q ∈ Finset.range 512, f i q * f i q) / 512 + eps := by
  have h1 : 0 ≤ ∑ k ∈ Finset.range 512, f i k * f i k := Finset.sum_nonneg fun k _ => mul_self_nonneg _
  have := eps_pos
  positivity
theorem hrsqrt_ms (f : ℕ → ℕ → ℝ) :
    Host.rsqrt (F := Ideal) (φ := .f32) (E2 n m fun i _ => (∑ q ∈ Finset.range 512, f i q * f i q) / 512 + eps)
      = E2 n m fun i _ => (Real.sqrt ((∑ q ∈ Finset.range 512, f i q * f i q) / 512 + eps))⁻¹ :=
  hrsqrt_E2 _ fun i _ _ _ => msum_pos f i
theorem hdiv_ms (r f : ℕ → ℕ → ℝ) :
    Host.divf (F := Ideal) (φ := .f32) (E2 n m r) (E2 n m fun i _ => (∑ q ∈ Finset.range 512, f i q * f i q) / 512 + eps)
      = E2 n m fun i j => r i j / ((∑ q ∈ Finset.range 512, f i q * f i q) / 512 + eps) :=
  hdiv_E2 _ _ fun i _ _ _ => (msum_pos f i).ne'
theorem hdiv_512 (f : ℕ → ℕ → ℝ) :
    Host.divf (F := Ideal) (φ := .f32) (E2 n m f) (E2 n m fun _ _ => 512) = E2 n m fun i j => f i j / 512 :=
  hdiv_E2 _ _ fun _ _ _ _ => by norm_num
/-- Rows put after `p` rows of zeros, with zeros after them. -/
theorem pad_rows (f : ℕ → ℕ → ℝ) (p q : ℕ) (h : (⟨2, ![n, 512]⟩ : Shape).Pads ![p, 0] ![q, 0] ![0, 0] ⟨2, ![m, 512]⟩) (hu) :
    pad (⟨2, ![m, 512]⟩ : Shape) ![p, 0] ![q, 0] ![0, 0] (E2 n 512 f) (E0 0) h hu
      = E2 m 512 fun i j => if p ≤ i ∧ i - p < n then f (i - p) j else 0 := by
  refine (pad_E2 f p q 0 h hu).trans (E2_congr fun i _ j _ => ?_)
  simp only [Nat.zero_add, Nat.mod_one, Nat.div_one, true_and]

end Cert.Emb

namespace Cert.ReferenceIdeal.Run

open Idealize.ShloMosaic Cert.ReferenceIdeal Cert.Emb Idealize.ShloMosaic.StableHlo

variable {W : Valuation τ sig (Elt Ideal)} {P : Inp}

section Mid1
variable (h3 : W (no_index (Proc.devRef .tc main_v3)) = E2 2112 512 fun p j => P.pp p (j + 512))
include h3
theorem m1_v134 : after ops2_4 W (Proc.devRef .tc main_v134) = E2 2064 512 P.Y.g := by
  after_reads_simp [h3, slice_E2]
  exact E2_congr fun r _ j _ => (P.gY r j).symm
theorem m1_v139 : after ops2_4 W (Proc.devRef .tc main_v139) = E2 2064 512 fun r j => 3 * (P.Y.g r j * P.Y.g r j) := by
  after_reads_simp [h3, slice_E2, const_E0 lit_three, bin_02, mulf_E2]
  exact E2_congr fun r _ j _ => by rw [P.gY]
theorem m1_v145 : after ops2_4 W (Proc.devRef .tc main_v145) = E2 2064 512 P.Y.gt := by
  after_reads_simp [h3, slice_E2, const_E0 lit_one, const_E0 lit_cub, const_E0 lit_slo, bin_02, mulf_E2, addf_E2, htanh_E2]
  refine E2_congr fun r _ j _ => ?_
  rw [Rows.gt, P.gY, mul_assoc (P.pp (r + 48) (j + 512))]
theorem m1_v150 : after ops2_4 W (Proc.devRef .tc main_v150) = E2 2064 512 fun r j => (1 + P.Y.gt r j) * (1 - P.Y.gt r j) := by
  after_reads_simp [h3, slice_E2, const_E0 lit_one, const_E0 lit_cub, const_E0 lit_slo, bin_02, mulf_E2, addf_E2, subf_E2, htanh_E2]
  refine E2_congr fun r _ j _ => ?_
  rw [Rows.gt, P.gY, mul_assoc (P.pp (r + 48) (j + 512))]
omit h3 in
theorem m1_v151 : after ops2_4 W (Proc.devRef .tc main_v151) = E2 2064 512 fun _ _ => 1 := by
  after_reads_simp [const_E0 lit_one, bin_02]
end Mid1

section Mid2
variable (ha : Args W P) (h134 : W (no_index (Proc.devRef .tc main_v134)) = E2 2064 512 P.Y.g)
  (h145 : W (no_index (Proc.devRef .tc main_v145)) = E2 2064 512 P.Y.gt)
  (h151 : W (no_index (Proc.devRef .tc main_v151)) = E2 2064 512 fun _ _ => 1)
  (hH : W (no_index (Proc.devRef .tc main_v133_4)) = E2 2064 512 P.Y.H)
include ha h134 h145 h151 hH

theorem m2_v180 : after ops3_0 W (Proc.devRef .tc main_v180)
    = E1 512 fun j => ∑ p ∈ Finset.range 2064, P.Y.dnr P.Y.H p j := by
  obtain ⟨a0, a1, a2, a3, a4, a5, a6, a7, a8, a9⟩ := ha
  after_reads_simp [h134, h145, h151, hH, a8, a9, const_E0 lit_zero, const_E0 lit_one, const_E0 lit_half, const_E0 lit_512, const_E0 lit_eps,
    bin_02, bin_10, bin_12, bin_col, bin_row, slice_E2, cast_1_row, mulf_E2, addf_E2, hsum_0, hsum_1, hrsqrt_ms, hdiv_512,
    Finset.sum_range_one]
  refine E1_congr fun j _ => Finset.sum_congr rfl fun p _ => ?_
  rw [Rows.dnr, Rows.dm, P.maY, mul_one, P.dY]
  rfl
theorem m2_v195 : after ops3_0 W (Proc.devRef .tc main_v195) = E2 2064 512 (P.Y.gs P.Y.H) := by
  obtain ⟨a0, a1, a2, a3, a4, a5, a6, a7, a8, a9⟩ := ha
  after_reads_simp [h134, h145, h151, hH, a8, a9, const_E0 lit_zero, const_E0 lit_one, const_E0 lit_half, const_E0 lit_512, const_E0 lit_eps,
    const_E0 lit_neg_half, bin_02, bin_10, bin_12, bin_col, bin_row, slice_E2, cast_1_row, cast_1_col, mulf_E2, addf_E2, hsum_0, hsum_1, hrsqrt_ms,
    hdiv_ms, hdiv_512, Finset.sum_range_one]
  refine E2_congr fun p _ j _ => ?_
  simp only [Rows.gs, Rows.dy, Rows.dq, Rows.dn, Rows.dm, P.maY, mul_one, P.dY]
  rfl
theorem m2_v197 : after ops3_0 W (Proc.devRef .tc main_v197) = E2 2064 512 fun p j => P.Y.g p j * (P.Y.dy P.Y.H p j * P.Y.H p j) := by
  obtain ⟨a0, a1, a2, a3, a4, a5, a6, a7, a8, a9⟩ := ha
  after_reads_simp [h134, h145, h151, hH, a8, a9, const_E0 lit_zero, const_E0 lit_one, const_E0 lit_half, const_E0 lit_512, const_E0 lit_eps,
    const_E0 lit_neg_half, bin_02, bin_10, bin_12, bin_col, bin_row, slice_E2, cast_1_row, cast_1_col, mulf_E2, addf_E2, hsum_0, hsum_1, hrsqrt_ms,
    hdiv_ms, hdiv_512, Finset.sum_range_one]
  refine E2_congr fun p _ j _ => ?_
  simp only [Rows.dy, Rows.dq, Rows.dn, Rows.dm, P.maY, mul_one, P.dY]
  rfl
theorem m2_v198 : after ops3_0 W (Proc.devRef .tc main_v198) = E2 2064 512 fun p j => P.Y.dy P.Y.H p j * P.Y.H p j * P.Y.gh p j := by
  obtain ⟨a0, a1, a2, a3, a4, a5, a6, a7, a8, a9⟩ := ha
  after_reads_simp [h134, h145, h151, hH, a8, a9, const_E0 lit_zero, const_E0 lit_one, const_E0 lit_half, const_E0 lit_512, const_E0 lit_eps,
    const_E0 lit_neg_half, bin_02, bin_10, bin_12, bin_col, bin_row, slice_E2, cast_1_row, cast_1_col, mulf_E2, addf_E2, hsum_0, hsum_1, hrsqrt_ms,
    hdiv_ms, hdiv_512, Finset.sum_range_one]
  refine E2_congr fun p _ j _ => ?_
  simp only [Rows.dy, Rows.dq, Rows.dn, Rows.dm, P.maY, mul_one, P.dY]
  rfl
omit ha h134 h145 h151 hH in
theorem m2_v199 : after ops3_0 W (Proc.devRef .tc main_v199) = E2 2064 512 fun _ _ => 1 / 2 := by
  after_reads_simp [const_E0 lit_half, bin_02]
end Mid2

section Mid3
variable (h139 : W (no_index (Proc.devRef .tc main_v139)) = E2 2064 512 fun r j => 3 * (P.Y.g r j * P.Y.g r j))
  (h150 : W (no_index (Proc.devRef .tc main_v150)) = E2 2064 512 fun r j => (1 + P.Y.gt r j) * (1 - P.Y.gt r j))
  (h197 : W (no_index (Proc.devRef .tc main_v197)) = E2 2064 512 fun p j => P.Y.g p j * (P.Y.dy P.Y.H p j * P.Y.H p j))
  (h198 : W (no_index (Proc.devRef .tc main_v198)) = E2 2064 512 fun p j => P.Y.dy P.Y.H p j * P.Y.H p j * P.Y.gh p j)
  (h199 : W (no_index (Proc.devRef .tc main_v199)) = E2 2064 512 fun _ _ => 1 / 2)
include h139 h150 h197 h198 h199
theorem m3_v209 : after ops4_0 W (Proc.devRef .tc main_v209)
    = E2 2112 512 fun p j => if 48 ≤ p ∧ p - 48 < 2064 then P.Y.dg P.Y.H (p - 48) j else 0 := by
  after_reads_simp [h139, h150, h197, h198, h199, const_E0 lit_zero, const_E0 lit_cub, const_E0 lit_slo, bin_02, mulf_E2, addf_E2, pad_rows]
  rfl
end Mid3

section Mid4
variable (h195 : W (no_index (Proc.devRef .tc main_v195)) = E2 2064 512 (P.Y.gs P.Y.H))
  (h5 : W (no_index (Proc.devRef .tc main_v133_5)) = E2 2064 512 P.Y.Hp)
  (h119 : W (no_index (Proc.devRef .tc main_v119)) = E2 2064 512 P.Y.a)
include h195 h5 h119
theorem m4_0 : after ops4_0 W (Proc.devRef .tc main_v213_0) = E2 2064 512 (P.Y.gs P.Y.H) := by
  after_reads_simp [h195]
  rfl
theorem m4_1 : after ops4_0 W (Proc.devRef .tc main_v213_1) = E2 2064 512 P.Y.Hp := by
  after_reads_simp [h5]
  rfl
theorem m4_2 : after ops4_0 W (Proc.devRef .tc main_v213_2) = E2 2064 512 P.Y.a := by
  after_reads_simp [h119]
  rfl
theorem m4_4 : after ops4_0 W (Proc.devRef .tc main_v213_4) = E1 512 fun _ => 0 := by
  after_reads_simp [const_E0 lit_zero, bin_01]
  rfl
theorem m4_5 : after ops4_0 W (Proc.devRef .tc main_v213_5) = E2 2064 512 fun _ _ => 0 := by
  after_reads_simp [const_E0 lit_zero, bin_02]
  rfl
theorem m4_6 : after ops4_0 W (Proc.devRef .tc main_v213_6) = E2 2064 512 fun _ _ => 0 := by
  after_reads_simp [const_E0 lit_zero, bin_02]
  rfl
end Mid4

end Cert.ReferenceIdeal.Run
end
-- ==== Proof.RefBack.lean ====
module

public import proofs.«01_k».proof.Proof.RefMid

@[expose] public section

set_option maxRecDepth 16384

noncomputable section

/-! What the reference computes after its second loop: the gradients at the parameters and at the projected rows. -/

namespace Cert.ReferenceIdeal.Run

open Idealize.ShloMosaic Cert.ReferenceIdeal Cert.Emb Idealize.ShloMosaic.StableHlo

variable {W : Valuation τ sig (Elt Ideal)} {P : Inp}

section Back1
variable (h125 : W (no_index (Proc.devRef .tc main_v125)) = E2 2064 512 P.Y.be)
  (h213_6 : W (no_index (Proc.devRef .tc main_v213_6)) = E2 2064 512 (P.Y.Lam 2063))
  (h213_5 : W (no_index (Proc.devRef .tc main_v213_5)) = E2 2064 512 fun r j => P.Y.Lam 2063 r j * P.Y.Hp r j)
  (h128 : W (no_index (Proc.devRef .tc main_v128)) = E2 2064 512 fun r j => P.Y.ig r j * P.Y.xc r j)
  (h108 : W (no_index (Proc.devRef .tc main_v108)) = E2 2064 512 P.Y.ig)
  (h85 : W (no_index (Proc.devRef .tc main_v85)) = E2 2064 512 P.Y.xc)
  (h127 : W (no_index (Proc.devRef .tc main_v127)) = E2 2064 512 fun r j => 1 / 2 / P.Y.be r j)
  (h123 : W (no_index (Proc.devRef .tc main_v123)) = E2 2064 512 fun r j => Real.exp (2 * P.Y.la r j))
  (h119 : W (no_index (Proc.devRef .tc main_v119)) = E2 2064 512 P.Y.a)
  (h113 : W (no_index (Proc.devRef .tc main_v113)) = E2 2064 512 fun r j => -8 * P.Y.rg r j)
  (h116 : W (no_index (Proc.devRef .tc main_v116)) = E2 1 512 fun _ j => P.Y.sp j)
include h125 h213_6 h213_5 h128 h108 h85 h127 h123 h119 h113 h116
theorem b1_v216 : after ops4_2 W (Proc.devRef .tc main_v216)
    = E2 2064 512 fun r j => P.Y.ig r j * (P.Y.be r j * P.Y.lm (P.Y.Lam 2063) r j) := by
  after_reads_simp [h125, h213_6, h213_5, h128, h108, h85, h127, h123, h119, h113, h116, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  refine E2_congr fun r _ j _ => ?_
  simp only [Rows.dig, Rows.dla, Rows.lm, P.maY, mul_one, neg_mul]
theorem b1_v217 : after ops4_2 W (Proc.devRef .tc main_v217)
    = E2 2064 512 (P.Y.dig (P.Y.Lam 2063)) := by
  after_reads_simp [h125, h213_6, h213_5, h128, h108, h85, h127, h123, h119, h113, h116, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  refine E2_congr fun r _ j _ => ?_
  simp only [Rows.dig, Rows.dla, Rows.lm, P.maY, mul_one, neg_mul]
theorem b1_v229 : after ops4_2 W (Proc.devRef .tc main_v229)
    = E2 2064 512 fun r j => P.Y.dla P.Y.Hp (P.Y.Lam 2063) r j * P.Y.sp j := by
  after_reads_simp [h125, h213_6, h213_5, h128, h108, h85, h127, h123, h119, h113, h116, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  refine E2_congr fun r _ j _ => ?_
  simp only [Rows.dig, Rows.dla, Rows.lm, P.maY, mul_one, neg_mul]
theorem b1_v230 : after ops4_2 W (Proc.devRef .tc main_v230)
    = E1 512 fun j => ∑ p ∈ Finset.range 2064, P.Y.dlr P.Y.Hp (P.Y.Lam 2063) p j := by
  after_reads_simp [h125, h213_6, h213_5, h128, h108, h85, h127, h123, h119, h113, h116, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  refine E1_congr fun j _ => Finset.sum_congr rfl fun p _ => ?_
  simp only [Rows.dlr, Rows.dla, Rows.lm, P.maY, mul_one, neg_mul]
end Back1

section Back2
variable (h230 : W (no_index (Proc.devRef .tc main_v230)) = E1 512 fun j => ∑ p ∈ Finset.range 2064, P.Y.dlr P.Y.Hp (P.Y.Lam 2063) p j)
  (h115_1 : W (no_index (Proc.devRef .tc main_v115_1)) = E1 512 P.Y.dsp)
include h230 h115_1
theorem b2_v231 : after ops4_3 W (Proc.devRef .tc main_v231)
    = E1 512 fun j => (∑ p ∈ Finset.range 2064, P.Y.dlr P.Y.Hp (P.Y.Lam 2063) p j) * P.Y.dsp j := by
  after_reads_simp [h230, h115_1, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
end Back2

section Back3
variable (h231 : W (no_index (Proc.devRef .tc main_v231)) = E1 512 fun j => (∑ p ∈ Finset.range 2064, P.Y.dlr P.Y.Hp (P.Y.Lam 2063) p j) * P.Y.dsp j)
  (h229 : W (no_index (Proc.devRef .tc main_v229)) = E2 2064 512 fun r j => P.Y.dla P.Y.Hp (P.Y.Lam 2063) r j * P.Y.sp j)
  (h217 : W (no_index (Proc.devRef .tc main_v217)) = E2 2064 512 (P.Y.dig (P.Y.Lam 2063)))
  (h111 : W (no_index (Proc.devRef .tc main_v111)) = E2 2064 512 fun r j => P.Y.ig r j * (1 - P.Y.ig r j))
  (h85 : W (no_index (Proc.devRef .tc main_v85)) = E2 2064 512 P.Y.xc)
include h231 h229 h217 h111 h85
theorem b3_v232 : after ops4_4 W (Proc.devRef .tc main_v232)
    = E1 512 fun j => -((∑ p ∈ Finset.range 2064, P.Y.dlr P.Y.Hp (P.Y.Lam 2063) p j) * P.Y.dsp j) := by
  after_reads_simp [h231, h229, h217, h111, h85, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
theorem b3_v234 : after ops4_4 W (Proc.devRef .tc main_v234)
    = E2 2064 512 fun r j => -8 * (P.Y.dla P.Y.Hp (P.Y.Lam 2063) r j * P.Y.sp j) := by
  after_reads_simp [h231, h229, h217, h111, h85, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
theorem b3_v235 : after ops4_4 W (Proc.devRef .tc main_v235)
    = E2 2064 512 (P.Y.dzi (P.Y.Lam 2063)) := by
  after_reads_simp [h231, h229, h217, h111, h85, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
theorem b3_v238 : after ops4_4 W (Proc.devRef .tc main_v238)
    = E1 512 fun j => ∑ p ∈ Finset.range 2064, P.Y.dzi (P.Y.Lam 2063) p j := by
  after_reads_simp [h231, h229, h217, h111, h85, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
theorem b3_v239 : after ops4_4 W (Proc.devRef .tc main_v239)
    = E2 512 512 fun i j => ∑ p ∈ Finset.range 2064, P.Y.dzi (P.Y.Lam 2063) p i * P.Y.xc p j := by
  after_reads_simp [h231, h229, h217, h111, h85, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
end Back3

section Back4
variable (h239 : W (no_index (Proc.devRef .tc main_v239)) = E2 512 512 fun i j => ∑ p ∈ Finset.range 2064, P.Y.dzi (P.Y.Lam 2063) p i * P.Y.xc p j)
  (h235 : W (no_index (Proc.devRef .tc main_v235)) = E2 2064 512 (P.Y.dzi (P.Y.Lam 2063)))
  (h55 : W (no_index (Proc.devRef .tc main_v55)) = E2 512 512 (blk P.wi))
  (h29 : W (no_index (Proc.devRef .tc main_v29)) = E2 512 512 (blk P.wa))
  (h216 : W (no_index (Proc.devRef .tc main_v216)) = E2 2064 512 fun r j => P.Y.ig r j * (P.Y.be r j * P.Y.lm (P.Y.Lam 2063) r j))
  (h234 : W (no_index (Proc.devRef .tc main_v234)) = E2 2064 512 fun r j => -8 * (P.Y.dla P.Y.Hp (P.Y.Lam 2063) r j * P.Y.sp j))
  (h98 : W (no_index (Proc.devRef .tc main_v98)) = E2 2064 512 fun r j => P.Y.rg r j * (1 - P.Y.rg r j))
  (h85 : W (no_index (Proc.devRef .tc main_v85)) = E2 2064 512 P.Y.xc)
  (h79 : W (no_index (Proc.devRef .tc main_v79)) = E2 1 512 fun _ j => P.cw 3 j)
  (h78 : W (no_index (Proc.devRef .tc main_v78)) = E2 2064 512 fun r j => P.Y.ue (r + 8) j)
  (h72 : W (no_index (Proc.devRef .tc main_v72)) = E2 1 512 fun _ j => P.cw 2 j)
  (h71 : W (no_index (Proc.devRef .tc main_v71)) = E2 2064 512 fun r j => P.Y.ue (r + 7) j)
  (h65 : W (no_index (Proc.devRef .tc main_v65)) = E2 1 512 fun _ j => P.cw 1 j)
  (h64 : W (no_index (Proc.devRef .tc main_v64)) = E2 2064 512 fun r j => P.Y.ue (r + 6) j)
include h239 h235 h55 h29 h216 h234 h98 h85 h79 h78 h72 h71 h65 h64
theorem b4_v240 : after ops5_0 W (Proc.devRef .tc main_v240)
    = E2 512 512 fun i j => ∑ p ∈ Finset.range 2064, P.Y.dzi (P.Y.Lam 2063) p j * P.Y.xc p i := by
  after_reads_simp [h239, h235, h55, h29, h216, h234, h98, h85, h79, h78, h72, h71, h65, h64, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
theorem b4_v246 : after ops5_0 W (Proc.devRef .tc main_v246)
    = E1 512 fun j => ∑ p ∈ Finset.range 2064, P.Y.dza P.Y.Hp (P.Y.Lam 2063) p j := by
  after_reads_simp [h239, h235, h55, h29, h216, h234, h98, h85, h79, h78, h72, h71, h65, h64, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
theorem b4_v248 : after ops5_0 W (Proc.devRef .tc main_v248)
    = E2 512 512 fun i j => ∑ p ∈ Finset.range 2064, P.Y.dza P.Y.Hp (P.Y.Lam 2063) p j * P.Y.xc p i := by
  after_reads_simp [h239, h235, h55, h29, h216, h234, h98, h85, h79, h78, h72, h71, h65, h64, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
theorem b4_v250 : after ops5_0 W (Proc.devRef .tc main_v250)
    = E2 2064 512 (P.Y.dxc P.Y.Hp (P.Y.Lam 2063)) := by
  after_reads_simp [h239, h235, h55, h29, h216, h234, h98, h85, h79, h78, h72, h71, h65, h64, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
theorem b4_v253 : after ops5_0 W (Proc.devRef .tc main_v253)
    = E1 512 fun j => ∑ p ∈ Finset.range 2064, P.Y.dxc P.Y.Hp (P.Y.Lam 2063) p j := by
  after_reads_simp [h239, h235, h55, h29, h216, h234, h98, h85, h79, h78, h72, h71, h65, h64, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
theorem b4_v281 : after ops5_0 W (Proc.devRef .tc main_v281)
    = E2 2112 512 fun i j => (if 48 ≤ i ∧ i - 48 < 2064 then P.cw 3 j * P.Y.dxc P.Y.Hp (P.Y.Lam 2063) (i - 48) j else 0) + (if 47 ≤ i ∧ i - 47 < 2064 then P.cw 2 j * P.Y.dxc P.Y.Hp (P.Y.Lam 2063) (i - 47) j else 0) + (if 46 ≤ i ∧ i - 46 < 2064 then P.cw 1 j * P.Y.dxc P.Y.Hp (P.Y.Lam 2063) (i - 46) j else 0) := by
  after_reads_simp [h239, h235, h55, h29, h216, h234, h98, h85, h79, h78, h72, h71, h65, h64, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
theorem b4_v273 : after ops5_0 W (Proc.devRef .tc main_v273)
    = E2 4 512 fun i j => (if 3 ≤ i ∧ i - 3 < 1 then ∑ p ∈ Finset.range 2064, P.Y.dxc P.Y.Hp (P.Y.Lam 2063) p j * P.Y.ue (p + 8) j else 0) + (if 2 ≤ i ∧ i - 2 < 1 then ∑ p ∈ Finset.range 2064, P.Y.dxc P.Y.Hp (P.Y.Lam 2063) p j * P.Y.ue (p + 7) j else 0) := by
  after_reads_simp [h239, h235, h55, h29, h216, h234, h98, h85, h79, h78, h72, h71, h65, h64, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
theorem b4_v283 : after ops5_0 W (Proc.devRef .tc main_v283)
    = E2 4 512 fun i j => (if 1 ≤ i ∧ i - 1 < 1 then ∑ p ∈ Finset.range 2064, P.Y.dxc P.Y.Hp (P.Y.Lam 2063) p j * P.Y.ue (p + 6) j else 0) := by
  after_reads_simp [h239, h235, h55, h29, h216, h234, h98, h85, h79, h78, h72, h71, h65, h64, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
  rfl
end Back4

section Back5
variable (h281 : W (no_index (Proc.devRef .tc main_v281)) = E2 2112 512 fun i j => (if 48 ≤ i ∧ i - 48 < 2064 then P.cw 3 j * P.Y.dxc P.Y.Hp (P.Y.Lam 2063) (i - 48) j else 0) + (if 47 ≤ i ∧ i - 47 < 2064 then P.cw 2 j * P.Y.dxc P.Y.Hp (P.Y.Lam 2063) (i - 47) j else 0) + (if 46 ≤ i ∧ i - 46 < 2064 then P.cw 1 j * P.Y.dxc P.Y.Hp (P.Y.Lam 2063) (i - 46) j else 0))
  (h273 : W (no_index (Proc.devRef .tc main_v273)) = E2 4 512 fun i j => (if 3 ≤ i ∧ i - 3 < 1 then ∑ p ∈ Finset.range 2064, P.Y.dxc P.Y.Hp (P.Y.Lam 2063) p j * P.Y.ue (p + 8) j else 0) + (if 2 ≤ i ∧ i - 2 < 1 then ∑ p ∈ Finset.range 2064, P.Y.dxc P.Y.Hp (P.Y.Lam 2063) p j * P.Y.ue (p + 7) j else 0))
  (h283 : W (no_index (Proc.devRef .tc main_v283)) = E2 4 512 fun i j => (if 1 ≤ i ∧ i - 1 < 1 then ∑ p ∈ Finset.range 2064, P.Y.dxc P.Y.Hp (P.Y.Lam 2063) p j * P.Y.ue (p + 6) j else 0))
  (h59 : W (no_index (Proc.devRef .tc main_v59)) = E2 1 512 fun _ j => P.cw 0 j)
  (h58 : W (no_index (Proc.devRef .tc main_v58)) = E2 2064 512 fun r j => P.Y.ue (r + 5) j)
  (h250 : W (no_index (Proc.devRef .tc main_v250)) = E2 2064 512 (P.Y.dxc P.Y.Hp (P.Y.Lam 2063)))
include h281 h273 h283 h59 h58 h250
theorem b5_v292 : after ops6_0 W (Proc.devRef .tc main_v292)
    = E2 2112 512 fun i j => (if 48 ≤ i ∧ i - 48 < 2064 then P.cw 3 j * P.Y.dxc P.Y.Hp (P.Y.Lam 2063) (i - 48) j else 0) + (if 47 ≤ i ∧ i - 47 < 2064 then P.cw 2 j * P.Y.dxc P.Y.Hp (P.Y.Lam 2063) (i - 47) j else 0) + (if 46 ≤ i ∧ i - 46 < 2064 then P.cw 1 j * P.Y.dxc P.Y.Hp (P.Y.Lam 2063) (i - 46) j else 0) + (if 45 ≤ i ∧ i - 45 < 2064 then P.cw 0 j * P.Y.dxc P.Y.Hp (P.Y.Lam 2063) (i - 45) j else 0) := by
  after_reads_simp [h281, h273, h283, h59, h58, h250, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
theorem b5_v296 : after ops6_0 W (Proc.devRef .tc main_v296)
    = E3 1 4 512 fun _ i j => (if 3 ≤ i ∧ i - 3 < 1 then ∑ p ∈ Finset.range 2064, P.Y.dxc P.Y.Hp (P.Y.Lam 2063) p j * P.Y.ue (p + 8) j else 0) + (if 2 ≤ i ∧ i - 2 < 1 then ∑ p ∈ Finset.range 2064, P.Y.dxc P.Y.Hp (P.Y.Lam 2063) p j * P.Y.ue (p + 7) j else 0) + (if 1 ≤ i ∧ i - 1 < 1 then ∑ p ∈ Finset.range 2064, P.Y.dxc P.Y.Hp (P.Y.Lam 2063) p j * P.Y.ue (p + 6) j else 0) + (if 0 ≤ i ∧ i - 0 < 1 then ∑ p ∈ Finset.range 2064, P.Y.dxc P.Y.Hp (P.Y.Lam 2063) p j * P.Y.ue (p + 5) j else 0) := by
  after_reads_simp [h281, h273, h283, h59, h58, h250, bin_23, const_E0 lit_zero, const_E0 lit_two, const_E0 lit_neg_eight, bin_02, bin_row, mulf_E2, addf_E2, hneg_E2, hneg_E1, mulf_E1, cast_1_row, hsum_0, Finset.sum_range_one,
    dot_S2064x512_S512x512_S2064x512_1_1_0_0_n_n, dot_S2064x512_S2064x512_S512x512_0_0_1_1_n_n, hdot_11, hdot_00, transpose_E2, bin_12, pad_rows]
end Back5

theorem b6_v297 (f : ℕ → ℝ) (h : W (no_index (Proc.devRef .tc main_v253)) = E1 512 f) :
    after ops6_0 W (Proc.devRef .tc main_v297) = E3 1 1 512 fun _ _ j => f j := by
  after_reads_simp [h, bin_13, bin_23]
theorem b6_v298 (f : ℕ → ℕ → ℝ) (h : W (no_index (Proc.devRef .tc main_v248)) = E2 512 512 f) :
    after ops6_0 W (Proc.devRef .tc main_v298) = E3 1 512 512 fun _ i j => f i j := by
  after_reads_simp [h, bin_13, bin_23]
theorem b6_v299 (f : ℕ → ℝ) (h : W (no_index (Proc.devRef .tc main_v246)) = E1 512 f) :
    after ops6_0 W (Proc.devRef .tc main_v299) = E3 1 1 512 fun _ _ j => f j := by
  after_reads_simp [h, bin_13, bin_23]
theorem b6_v300 (f : ℕ → ℕ → ℝ) (h : W (no_index (Proc.devRef .tc main_v240)) = E2 512 512 f) :
    after ops6_0 W (Proc.devRef .tc main_v300) = E3 1 512 512 fun _ i j => f i j := by
  after_reads_simp [h, bin_13, bin_23]
theorem b6_v301 (f : ℕ → ℝ) (h : W (no_index (Proc.devRef .tc main_v238)) = E1 512 f) :
    after ops6_0 W (Proc.devRef .tc main_v301) = E3 1 1 512 fun _ _ j => f j := by
  after_reads_simp [h, bin_13, bin_23]
theorem b6_v302 (f : ℕ → ℝ) (h : W (no_index (Proc.devRef .tc main_v232)) = E1 512 f) :
    after ops6_0 W (Proc.devRef .tc main_v302) = E3 1 1 512 fun _ _ j => f j := by
  after_reads_simp [h, bin_13, bin_23]
theorem b6_v303 (f : ℕ → ℝ) (h : W (no_index (Proc.devRef .tc main_v180)) = E1 512 f) :
    after ops6_0 W (Proc.devRef .tc main_v303) = E3 1 1 512 fun _ _ j => f j := by
  after_reads_simp [h, bin_13, bin_23]

end Cert.ReferenceIdeal.Run
end
-- ==== Proof.RefVals.lean ====
module

public import proofs.«01_k».proof.Proof.RefBack

@[expose] public section

set_option maxRecDepth 16384

noncomputable section

/-! The reference from its arguments to its ten results. -/

namespace Cert.ReferenceIdeal.Run

open Idealize.ShloMosaic Cert.ReferenceIdeal Cert.Emb Idealize.ShloMosaic.StableHlo

variable {V W : Valuation τ sig (Elt Ideal)} {P : Inp}

/-- A buffer that a stretch does not write holds after it what it held before. -/
theorem stays {lo hi : ℕ} {ops : List (HloOp τ sig (Elt Ideal))} (h : ops.Forall (Writes lo hi)) (b : Ref sig .tc)
    {v} (e : W (Proc.devRef .tc b) = v) (hb : b.idx.val < lo ∨ hi ≤ b.idx.val) :
    after ops W (Proc.devRef .tc b) = v := (keep h W b hb).trans e

/-- The buffers of the forward pass that the backward pass reads, with their values. -/
structure Known (V : Valuation τ sig (Elt Ideal)) (P : Inp) : Prop where
  args : Args V P
  v3 : V (no_index (Proc.devRef .tc main_v3)) = E2 2112 512 fun p j => P.pp p (j + 512)
  v29 : V (no_index (Proc.devRef .tc main_v29)) = E2 512 512 (blk P.wa)
  v55 : V (no_index (Proc.devRef .tc main_v55)) = E2 512 512 (blk P.wi)
  v59 : V (no_index (Proc.devRef .tc main_v59)) = E2 1 512 fun _ j => P.cw 0 j
  v58 : V (no_index (Proc.devRef .tc main_v58)) = E2 2064 512 fun r j => P.Y.ue (r + 5) j
  v65 : V (no_index (Proc.devRef .tc main_v65)) = E2 1 512 fun _ j => P.cw 1 j
  v64 : V (no_index (Proc.devRef .tc main_v64)) = E2 2064 512 fun r j => P.Y.ue (r + 6) j
  v72 : V (no_index (Proc.devRef .tc main_v72)) = E2 1 512 fun _ j => P.cw 2 j
  v71 : V (no_index (Proc.devRef .tc main_v71)) = E2 2064 512 fun r j => P.Y.ue (r + 7) j
  v79 : V (no_index (Proc.devRef .tc main_v79)) = E2 1 512 fun _ j => P.cw 3 j
  v78 : V (no_index (Proc.devRef .tc main_v78)) = E2 2064 512 fun r j => P.Y.ue (r + 8) j
  v85 : V (no_index (Proc.devRef .tc main_v85)) = E2 2064 512 P.Y.xc
  v98 : V (no_index (Proc.devRef .tc main_v98)) = E2 2064 512 fun r j => P.Y.rg r j * (1 - P.Y.rg r j)
  v108 : V (no_index (Proc.devRef .tc main_v108)) = E2 2064 512 P.Y.ig
  v111 : V (no_index (Proc.devRef .tc main_v111)) = E2 2064 512 fun r j => P.Y.ig r j * (1 - P.Y.ig r j)
  v113 : V (no_index (Proc.devRef .tc main_v113)) = E2 2064 512 fun r j => -8 * P.Y.rg r j
  v115_1 : V (no_index (Proc.devRef .tc main_v115_1)) = E1 512 P.Y.dsp
  v116 : V (no_index (Proc.devRef .tc main_v116)) = E2 1 512 fun _ j => P.Y.sp j
  v119 : V (no_index (Proc.devRef .tc main_v119)) = E2 2064 512 P.Y.a
  v123 : V (no_index (Proc.devRef .tc main_v123)) = E2 2064 512 fun r j => Real.exp (2 * P.Y.la r j)
  v125 : V (no_index (Proc.devRef .tc main_v125)) = E2 2064 512 P.Y.be
  v127 : V (no_index (Proc.devRef .tc main_v127)) = E2 2064 512 fun r j => 1 / 2 / P.Y.be r j
  v128 : V (no_index (Proc.devRef .tc main_v128)) = E2 2064 512 fun r j => P.Y.ig r j * P.Y.xc r j

/-- Operations that write none of them keep them. -/
theorem Known.of_eq (hk : Known V P) (h : ∀ b : Ref sig .tc, b.idx.val < 206 → W (Proc.devRef .tc b) = V (Proc.devRef .tc b)) : Known W P := by
  obtain ⟨⟨a0, a1, a2, a3, a4, a5, a6, a7, a8, a9⟩, v3, v29, v55, v59, v58, v65, v64, v72, v71, v79, v78, v85, v98, v108, v111, v113, v115_1, v116, v119, v123, v125, v127, v128⟩ := hk
  exact ⟨⟨(h main_arg0 (by decide)).trans a0, (h main_arg1 (by decide)).trans a1, (h main_arg2 (by decide)).trans a2, (h main_arg3 (by decide)).trans a3, (h main_arg4 (by decide)).trans a4, (h main_arg5 (by decide)).trans a5, (h main_arg6 (by decide)).trans a6, (h main_arg7 (by decide)).trans a7, (h main_arg8 (by decide)).trans a8, (h main_arg9 (by decide)).trans a9⟩,
    (h main_v3 (by decide)).trans v3,
    (h main_v29 (by decide)).trans v29,
    (h main_v55 (by decide)).trans v55,
    (h main_v59 (by decide)).trans v59,
    (h main_v58 (by decide)).trans v58,
    (h main_v65 (by decide)).trans v65,
    (h main_v64 (by decide)).trans v64,
    (h main_v72 (by decide)).trans v72,
    (h main_v71 (by decide)).trans v71,
    (h main_v79 (by decide)).trans v79,
    (h main_v78 (by decide)).trans v78,
    (h main_v85 (by decide)).trans v85,
    (h main_v98 (by decide)).trans v98,
    (h main_v108 (by decide)).trans v108,
    (h main_v111 (by decide)).trans v111,
    (h main_v113 (by decide)).trans v113,
    (h main_v115_1 (by decide)).trans v115_1,
    (h main_v116 (by decide)).trans v116,
    (h main_v119 (by decide)).trans v119,
    (h main_v123 (by decide)).trans v123,
    (h main_v125 (by decide)).trans v125,
    (h main_v127 (by decide)).trans v127,
    (h main_v128 (by decide)).trans v128⟩
theorem Known.after (hk : Known W P) {lo hi : ℕ} {ops : List (HloOp τ sig (Elt Ideal))} (h : ops.Forall (Writes lo hi)) (hl : 206 ≤ lo) :
    Known (StableHlo.after ops W) P := hk.of_eq fun b hb => keep h W b (.inl (hb.trans_le hl))

set_option maxHeartbeats 2000000 in
/-- At the first loop: the values of the forward pass, the decay and the input of the recurrence, and zeros to start from. -/
theorem at_W0 (ha : Args V P) : Known (W0 V) P ∧ W0 V (Proc.devRef .tc main_v133_0) = E2 2064 512 P.Y.a
    ∧ W0 V (Proc.devRef .tc main_v133_1) = E2 2064 512 P.Y.bm ∧ W0 V (Proc.devRef .tc main_v133_3) = (E1 512 fun _ => 0)
    ∧ W0 V (Proc.devRef .tc main_v133_4) = (E2 2064 512 fun _ _ => 0) ∧ W0 V (Proc.devRef .tc main_v133_5) = (E2 2064 512 fun _ _ => 0) := by
  have v2 := s0_v2 ha
  have v3 := s0_v3 ha
  have v29 := s0_v29 ha
  have v55 := s0_v55 ha
  have v56 := s0_v56 ha
  replace ha := ha.after ops0_0_writes (by decide)
  have v59 := s1_v59 ha v2 v29 v55 v56
  have v58 := s1_v58 ha v2 v29 v55 v56
  have v65 := s1_v65 ha v2 v29 v55 v56
  have v64 := s1_v64 ha v2 v29 v55 v56
  have v72 := s1_v72 ha v2 v29 v55 v56
  have v71 := s1_v71 ha v2 v29 v55 v56
  have v79 := s1_v79 ha v2 v29 v55 v56
  have v78 := s1_v78 ha v2 v29 v55 v56
  have v85 := s1_v85 ha v2 v29 v55 v56
  have v95 := s1_v95 ha v2 v29 v55 v56
  have v98 := s1_v98 ha v2 v29 v55 v56
  have v108 := s1_v108 ha v2 v29 v55 v56
  have v110 := s1_v110 ha v2 v29 v55 v56
  replace ha := ha.after ops1_0_writes (by decide)
  replace v3 := stays ops1_0_writes main_v3 v3 (.inl (by decide))
  replace v29 := stays ops1_0_writes main_v29 v29 (.inl (by decide))
  replace v55 := stays ops1_0_writes main_v55 v55 (.inl (by decide))
  have v111 := s2_v111 ha v95 v108 v110
  have v113 := s2_v113 ha v95 v108 v110
  have v114 := s2_v114 ha v95 v108 v110
  replace ha := ha.after ops2_0_writes (by decide)
  replace v3 := stays ops2_0_writes main_v3 v3 (.inl (by decide))
  replace v29 := stays ops2_0_writes main_v29 v29 (.inl (by decide))
  replace v55 := stays ops2_0_writes main_v55 v55 (.inl (by decide))
  replace v59 := stays ops2_0_writes main_v59 v59 (.inl (by decide))
  replace v58 := stays ops2_0_writes main_v58 v58 (.inl (by decide))
  replace v65 := stays ops2_0_writes main_v65 v65 (.inl (by decide))
  replace v64 := stays ops2_0_writes main_v64 v64 (.inl (by decide))
  replace v72 := stays ops2_0_writes main_v72 v72 (.inl (by decide))
  replace v71 := stays ops2_0_writes main_v71 v71 (.inl (by decide))
  replace v79 := stays ops2_0_writes main_v79 v79 (.inl (by decide))
  replace v78 := stays ops2_0_writes main_v78 v78 (.inl (by decide))
  replace v85 := stays ops2_0_writes main_v85 v85 (.inl (by decide))
  replace v98 := stays ops2_0_writes main_v98 v98 (.inl (by decide))
  replace v108 := stays ops2_0_writes main_v108 v108 (.inl (by decide))
  have v115_0 := s3_v115_0 v114
  have v115_1 := s3_v115_1 v114
  replace ha := ha.after ops2_1_writes (by decide)
  replace v3 := stays ops2_1_writes main_v3 v3 (.inl (by decide))
  replace v29 := stays ops2_1_writes main_v29 v29 (.inl (by decide))
  replace v55 := stays ops2_1_writes main_v55 v55 (.inl (by decide))
  replace v59 := stays ops2_1_writes main_v59 v59 (.inl (by decide))
  replace v58 := stays ops2_1_writes main_v58 v58 (.inl (by decide))
  replace v65 := stays ops2_1_writes main_v65 v65 (.inl (by decide))
  replace v64 := stays ops2_1_writes main_v64 v64 (.inl (by decide))
  replace v72 := stays ops2_1_writes main_v72 v72 (.inl (by decide))
  replace v71 := stays ops2_1_writes main_v71 v71 (.inl (by decide))
  replace v79 := stays ops2_1_writes main_v79 v79 (.inl (by decide))
  replace v78 := stays ops2_1_writes main_v78 v78 (.inl (by decide))
  replace v85 := stays ops2_1_writes main_v85 v85 (.inl (by decide))
  replace v98 := stays ops2_1_writes main_v98 v98 (.inl (by decide))
  replace v108 := stays ops2_1_writes main_v108 v108 (.inl (by decide))
  replace v111 := stays ops2_1_writes main_v111 v111 (.inl (by decide))
  replace v113 := stays ops2_1_writes main_v113 v113 (.inl (by decide))
  have v116 := s4_v116 v115_0 v113 v108 v85
  have v119 := s4_v119 v115_0 v113 v108 v85
  have v123 := s4_v123 v115_0 v113 v108 v85
  have v125 := s4_v125 v115_0 v113 v108 v85
  have v127 := s4_v127 v115_0 v113 v108 v85
  have v128 := s4_v128 v115_0 v113 v108 v85
  have v133_0 := s4_v133_0 v115_0 v113 v108 v85
  have v133_1 := s4_v133_1 v115_0 v113 v108 v85
  have v133_3 := s4_v133_3 v115_0 v113 v108 v85
  have v133_4 := s4_v133_4 v115_0 v113 v108 v85
  have v133_5 := s4_v133_5 v115_0 v113 v108 v85
  replace ha := ha.after ops2_2_writes (by decide)
  replace v3 := stays ops2_2_writes main_v3 v3 (.inl (by decide))
  replace v29 := stays ops2_2_writes main_v29 v29 (.inl (by decide))
  replace v55 := stays ops2_2_writes main_v55 v55 (.inl (by decide))
  replace v59 := stays ops2_2_writes main_v59 v59 (.inl (by decide))
  replace v58 := stays ops2_2_writes main_v58 v58 (.inl (by decide))
  replace v65 := stays ops2_2_writes main_v65 v65 (.inl (by decide))
  replace v64 := stays ops2_2_writes main_v64 v64 (.inl (by decide))
  replace v72 := stays ops2_2_writes main_v72 v72 (.inl (by decide))
  replace v71 := stays ops2_2_writes main_v71 v71 (.inl (by decide))
  replace v79 := stays ops2_2_writes main_v79 v79 (.inl (by decide))
  replace v78 := stays ops2_2_writes main_v78 v78 (.inl (by decide))
  replace v85 := stays ops2_2_writes main_v85 v85 (.inl (by decide))
  replace v98 := stays ops2_2_writes main_v98 v98 (.inl (by decide))
  replace v108 := stays ops2_2_writes main_v108 v108 (.inl (by decide))
  replace v111 := stays ops2_2_writes main_v111 v111 (.inl (by decide))
  replace v113 := stays ops2_2_writes main_v113 v113 (.inl (by decide))
  replace v115_1 := stays ops2_2_writes main_v115_1 v115_1 (.inl (by decide))
  exact ⟨⟨ha, v3, v29, v55, v59, v58, v65, v64, v72, v71, v79, v78, v85, v98, v108, v111, v113, v115_1, v116, v119, v123, v125, v127, v128⟩, v133_0, v133_1, v133_3, v133_4, v133_5⟩

/-- After the first loop: the states, and the states before them. -/
theorem at_W1 (ha : Args V P) : Known (W1 V) P ∧ W1 V (Proc.devRef .tc main_v133_4) = E2 2064 512 P.Y.H
    ∧ W1 V (Proc.devRef .tc main_v133_5) = E2 2064 512 P.Y.Hp := by
  obtain ⟨hk, h0, h1, h3, h4, h5⟩ := at_W0 ha
  obtain ⟨-, e4, e5⟩ := loop0_inv V P.Y h0 h1 h3 h4 h5 2064 le_rfl
  refine ⟨(hk.of_eq fun b hb => loop0_keep _ b (.inl hb) 2064).after cond0_writes (by decide), ?_, ?_⟩
  · exact stays cond0_writes main_v133_4 (e4.trans (E2_congr fun i hi j _ => if_pos hi)) (.inl (by decide))
  · exact stays cond0_writes main_v133_5 (e5.trans (E2_congr fun i hi j _ => if_pos hi)) (.inl (by decide))

set_option maxHeartbeats 2000000 in
/-- At the second loop: the gradient that reaches each state, what the loop reads, and two of the results. -/
theorem at_W2 (ha : Args V P) : Known (W2 V) P ∧ W2 V (Proc.devRef .tc main_v213_0) = E2 2064 512 (P.Y.gs P.Y.H)
    ∧ W2 V (Proc.devRef .tc main_v213_1) = E2 2064 512 P.Y.Hp ∧ W2 V (Proc.devRef .tc main_v213_2) = E2 2064 512 P.Y.a
    ∧ W2 V (Proc.devRef .tc main_v213_4) = (E1 512 fun _ => 0) ∧ W2 V (Proc.devRef .tc main_v213_5) = (E2 2064 512 fun _ _ => 0)
    ∧ W2 V (Proc.devRef .tc main_v213_6) = (E2 2064 512 fun _ _ => 0)
    ∧ W2 V (Proc.devRef .tc main_v180) = (E1 512 fun j => ∑ p ∈ Finset.range 2064, P.Y.dnr P.Y.H p j)
    ∧ W2 V (Proc.devRef .tc main_v209) = (E2 2112 512 fun p j => if 48 ≤ p ∧ p - 48 < 2064 then P.Y.dg P.Y.H (p - 48) j else 0) := by
  obtain ⟨hk, hH, hP⟩ := at_W1 ha
  have v134 := m1_v134 hk.v3
  have v139 := m1_v139 hk.v3
  have v145 := m1_v145 hk.v3
  have v150 := m1_v150 hk.v3
  have v151 := m1_v151 (W := W1 V)
  replace hk := hk.after ops2_4_writes (by decide)
  replace hH := stays ops2_4_writes main_v133_4 hH (.inl (by decide))
  replace hP := stays ops2_4_writes main_v133_5 hP (.inl (by decide))
  have v180 := m2_v180 hk.args v134 v145 v151 hH
  have v195 := m2_v195 hk.args v134 v145 v151 hH
  have v197 := m2_v197 hk.args v134 v145 v151 hH
  have v198 := m2_v198 hk.args v134 v145 v151 hH
  have v199 := m2_v199 (W := StableHlo.after ops2_4 (W1 V))
  replace hk := hk.after ops3_0_writes (by decide)
  replace v139 := stays ops3_0_writes main_v139 v139 (.inl (by decide))
  replace v150 := stays ops3_0_writes main_v150 v150 (.inl (by decide))
  replace hP := stays ops3_0_writes main_v133_5 hP (.inl (by decide))
  rw [show W2 V = StableHlo.after ops4_0 (StableHlo.after ops3_0 (StableHlo.after ops2_4 (W1 V))) from rfl]
  exact ⟨hk.after ops4_0_writes (by decide), m4_0 v195 hP hk.v119, m4_1 v195 hP hk.v119, m4_2 v195 hP hk.v119,
    m4_4 v195 hP hk.v119, m4_5 v195 hP hk.v119, m4_6 v195 hP hk.v119, stays ops4_0_writes main_v180 v180 (.inl (by decide)), m3_v209 v139 v150 v197 v198 v199⟩

/-- After the second loop: the gradient at each state, and its product with the state before. -/
theorem at_W3 (ha : Args V P) : Known (W3 V) P
    ∧ W3 V (Proc.devRef .tc main_v213_5) = (E2 2064 512 fun r j => P.Y.Lam 2063 r j * P.Y.Hp r j)
    ∧ W3 V (Proc.devRef .tc main_v213_6) = E2 2064 512 (P.Y.Lam 2063)
    ∧ W3 V (Proc.devRef .tc main_v180) = (E1 512 fun j => ∑ p ∈ Finset.range 2064, P.Y.dnr P.Y.H p j)
    ∧ W3 V (Proc.devRef .tc main_v209) = (E2 2112 512 fun p j => if 48 ≤ p ∧ p - 48 < 2064 then P.Y.dg P.Y.H (p - 48) j else 0) := by
  obtain ⟨hk, h0, h1, h2, h4, h5, h6, v180, v209⟩ := at_W2 ha
  obtain ⟨-, e5, e6⟩ := loop1_inv V P.Y h0 h1 h2 h4 h5 h6 2064 le_rfl
  refine ⟨(hk.of_eq fun b hb => loop1_keep _ b (.inl (by omega)) 2064).after cond1_writes (by decide), ?_, ?_, ?_, ?_⟩
  · exact stays cond1_writes main_v213_5 (e5.trans (E2_congr fun i hi j _ => if_pos (by omega))) (.inl (by decide))
  · exact stays cond1_writes main_v213_6 (e6.trans (E2_congr fun i hi j _ => if_pos (by omega))) (.inl (by decide))
  · exact stays cond1_writes main_v180 ((loop1_keep _ main_v180 (.inl (by decide)) 2064).trans v180) (.inl (by decide))
  · exact stays cond1_writes main_v209 ((loop1_keep _ main_v209 (.inl (by decide)) 2064).trans v209) (.inl (by decide))

set_option maxHeartbeats 4000000 in
/-- The ten results of the reference. -/
theorem at_W4 (ha : Args V P) : W4 V (Proc.devRef .tc main_v292) = (E2 2112 512 fun i j => (if 48 ≤ i ∧ i - 48 < 2064 then P.cw 3 j * P.Y.dxc P.Y.Hp (P.Y.Lam 2063) (i - 48) j else 0) + (if 47 ≤ i ∧ i - 47 < 2064 then P.cw 2 j * P.Y.dxc P.Y.Hp (P.Y.Lam 2063) (i - 47) j else 0) + (if 46 ≤ i ∧ i - 46 < 2064 then P.cw 1 j * P.Y.dxc P.Y.Hp (P.Y.Lam 2063) (i - 46) j else 0) + (if 45 ≤ i ∧ i - 45 < 2064 then P.cw 0 j * P.Y.dxc P.Y.Hp (P.Y.Lam 2063) (i - 45) j else 0))
    ∧ W4 V (Proc.devRef .tc main_v209) = (E2 2112 512 fun p j => if 48 ≤ p ∧ p - 48 < 2064 then P.Y.dg P.Y.H (p - 48) j else 0)
    ∧ W4 V (Proc.devRef .tc main_v296) = (E3 1 4 512 fun _ i j => (if 3 ≤ i ∧ i - 3 < 1 then ∑ p ∈ Finset.range 2064, P.Y.dxc P.Y.Hp (P.Y.Lam 2063) p j * P.Y.ue (p + 8) j else 0) + (if 2 ≤ i ∧ i - 2 < 1 then ∑ p ∈ Finset.range 2064, P.Y.dxc P.Y.Hp (P.Y.Lam 2063) p j * P.Y.ue (p + 7) j else 0) + (if 1 ≤ i ∧ i - 1 < 1 then ∑ p ∈ Finset.range 2064, P.Y.dxc P.Y.Hp (P.Y.Lam 2063) p j * P.Y.ue (p + 6) j else 0) + (if 0 ≤ i ∧ i - 0 < 1 then ∑ p ∈ Finset.range 2064, P.Y.dxc P.Y.Hp (P.Y.Lam 2063) p j * P.Y.ue (p + 5) j else 0))
    ∧ W4 V (Proc.devRef .tc main_v297) = (E3 1 1 512 fun _ _ j => ∑ p ∈ Finset.range 2064, P.Y.dxc P.Y.Hp (P.Y.Lam 2063) p j)
    ∧ W4 V (Proc.devRef .tc main_v298) = (E3 1 512 512 fun _ i j => ∑ p ∈ Finset.range 2064, P.Y.dza P.Y.Hp (P.Y.Lam 2063) p j * P.Y.xc p i)
    ∧ W4 V (Proc.devRef .tc main_v299) = (E3 1 1 512 fun _ _ j => ∑ p ∈ Finset.range 2064, P.Y.dza P.Y.Hp (P.Y.Lam 2063) p j)
    ∧ W4 V (Proc.devRef .tc main_v300) = (E3 1 512 512 fun _ i j => ∑ p ∈ Finset.range 2064, P.Y.dzi (P.Y.Lam 2063) p j * P.Y.xc p i)
    ∧ W4 V (Proc.devRef .tc main_v301) = (E3 1 1 512 fun _ _ j => ∑ p ∈ Finset.range 2064, P.Y.dzi (P.Y.Lam 2063) p j)
    ∧ W4 V (Proc.devRef .tc main_v302) = (E3 1 1 512 fun _ _ j => -((∑ p ∈ Finset.range 2064, P.Y.dlr P.Y.Hp (P.Y.Lam 2063) p j) * P.Y.dsp j))
    ∧ W4 V (Proc.devRef .tc main_v303) = (E3 1 1 512 fun _ _ j => ∑ p ∈ Finset.range 2064, P.Y.dnr P.Y.H p j) := by
  obtain ⟨hk, h5, h6, v180, v209⟩ := at_W3 ha
  have v216 := b1_v216 hk.v125 h6 h5 hk.v128 hk.v108 hk.v85 hk.v127 hk.v123 hk.v119 hk.v113 hk.v116
  have v217 := b1_v217 hk.v125 h6 h5 hk.v128 hk.v108 hk.v85 hk.v127 hk.v123 hk.v119 hk.v113 hk.v116
  have v229 := b1_v229 hk.v125 h6 h5 hk.v128 hk.v108 hk.v85 hk.v127 hk.v123 hk.v119 hk.v113 hk.v116
  have v230 := b1_v230 hk.v125 h6 h5 hk.v128 hk.v108 hk.v85 hk.v127 hk.v123 hk.v119 hk.v113 hk.v116
  replace hk := hk.after ops4_2_writes (by decide)
  have v231 := b2_v231 v230 hk.v115_1
  replace hk := hk.after ops4_3_writes (by decide)
  replace v216 := stays ops4_3_writes main_v216 v216 (.inl (by decide))
  replace v217 := stays ops4_3_writes main_v217 v217 (.inl (by decide))
  replace v229 := stays ops4_3_writes main_v229 v229 (.inl (by decide))
  have v232 := b3_v232 v231 v229 v217 hk.v111 hk.v85
  have v234 := b3_v234 v231 v229 v217 hk.v111 hk.v85
  have v235 := b3_v235 v231 v229 v217 hk.v111 hk.v85
  have v238 := b3_v238 v231 v229 v217 hk.v111 hk.v85
  have v239 := b3_v239 v231 v229 v217 hk.v111 hk.v85
  replace hk := hk.after ops4_4_writes (by decide)
  replace v216 := stays ops4_4_writes main_v216 v216 (.inl (by decide))
  have v240 := b4_v240 v239 v235 hk.v55 hk.v29 v216 v234 hk.v98 hk.v85 hk.v79 hk.v78 hk.v72 hk.v71 hk.v65 hk.v64
  have v246 := b4_v246 v239 v235 hk.v55 hk.v29 v216 v234 hk.v98 hk.v85 hk.v79 hk.v78 hk.v72 hk.v71 hk.v65 hk.v64
  have v248 := b4_v248 v239 v235 hk.v55 hk.v29 v216 v234 hk.v98 hk.v85 hk.v79 hk.v78 hk.v72 hk.v71 hk.v65 hk.v64
  have v250 := b4_v250 v239 v235 hk.v55 hk.v29 v216 v234 hk.v98 hk.v85 hk.v79 hk.v78 hk.v72 hk.v71 hk.v65 hk.v64
  have v253 := b4_v253 v239 v235 hk.v55 hk.v29 v216 v234 hk.v98 hk.v85 hk.v79 hk.v78 hk.v72 hk.v71 hk.v65 hk.v64
  have v281 := b4_v281 v239 v235 hk.v55 hk.v29 v216 v234 hk.v98 hk.v85 hk.v79 hk.v78 hk.v72 hk.v71 hk.v65 hk.v64
  have v273 := b4_v273 v239 v235 hk.v55 hk.v29 v216 v234 hk.v98 hk.v85 hk.v79 hk.v78 hk.v72 hk.v71 hk.v65 hk.v64
  have v283 := b4_v283 v239 v235 hk.v55 hk.v29 v216 v234 hk.v98 hk.v85 hk.v79 hk.v78 hk.v72 hk.v71 hk.v65 hk.v64
  replace hk := hk.after ops5_0_writes (by decide)
  replace v232 := stays ops5_0_writes main_v232 v232 (.inl (by decide))
  replace v238 := stays ops5_0_writes main_v238 v238 (.inl (by decide))
  replace v180 := stays ops4_2_writes main_v180 v180 (.inl (by decide))
  replace v209 := stays ops4_2_writes main_v209 v209 (.inl (by decide))
  replace v180 := stays ops4_3_writes main_v180 v180 (.inl (by decide))
  replace v209 := stays ops4_3_writes main_v209 v209 (.inl (by decide))
  replace v180 := stays ops4_4_writes main_v180 v180 (.inl (by decide))
  replace v209 := stays ops4_4_writes main_v209 v209 (.inl (by decide))
  replace v180 := stays ops5_0_writes main_v180 v180 (.inl (by decide))
  replace v209 := stays ops5_0_writes main_v209 v209 (.inl (by decide))
  rw [show W4 V = StableHlo.after ops6_0 (StableHlo.after ops5_0 (StableHlo.after ops4_4 (StableHlo.after ops4_3 (StableHlo.after ops4_2 (W3 V))))) from rfl]
  exact ⟨b5_v292 v281 v273 v283 hk.v59 hk.v58 v250, stays ops6_0_writes main_v209 v209 (.inl (by decide)), b5_v296 v281 v273 v283 hk.v59 hk.v58 v250, b6_v297 _ v253, b6_v298 _ v248, b6_v299 _ v246, b6_v300 _ v240,
    b6_v301 _ v238, b6_v302 _ v232, b6_v303 _ v180⟩

end Cert.ReferenceIdeal.Run
end
-- ==== Proof.Sums.lean ====
/- The ten gradients over all rows are those over the rows behind the padding, and finite arrays are arrays of real numbers. -/
module

public import proofs.«01_k».proof.Proof.Points
public import proofs.«01_k».proof.Proof.Inp

@[expose] public section

set_option maxRecDepth 16384

noncomputable section

namespace Cert.Emb

open Idealize.ShloMosaic

/-! ### Finite arrays -/

/-- A value whose absolute value is below the top is a real number. -/
theorem real_of_abs_lt (x : EReal) (h : Ideal.cmp .olt (max x (-x)) ⊤ = 1#1) : ((x.toReal : ℝ) : EReal) = x := by
  have h' : max x (-x) < ⊤ := by
    by_contra hn
    simp [Ideal.cmp, hn] at h
  refine EReal.coe_toReal (fun e => ?_) (fun e => ?_)
  · subst e; simp at h'
  · subst e; simp at h'

variable {n m k : ℕ}

/-- The test of the precondition at one element. -/
theorem real_at {s : Shape} (x : FVec Ideal s .f32) (hb : (⟨0, ![]⟩ : Shape).BroadcastsInDim s (![] : Fin 0 → Fin s.rank))
    (h : cmpf (F := Ideal) (φ := .f32) .olt (Host.absf x) (broadcastInDim s ![] hb (constant (F := Ideal) (⟨0, ![]⟩ : Shape) .f32 0x7F800000#32))
      = fun _ => 1#1) (i : s.Idx) : (((x i : EReal).toReal : ℝ) : EReal) = x i := by
  have e : Ideal.cmp .olt (max (x i : EReal) (-(x i : EReal))) (Ideal.ofBits .f32 0x7F800000#32) = 1#1 := congrFun h i
  rw [lit_top] at e
  exact real_of_abs_lt _ e

/-- A finite vector is a vector of real numbers. -/
theorem real_E1 (x : FVec Ideal (⟨1, ![n]⟩ : Shape) .f32) (hb) (h : cmpf (F := Ideal) (φ := .f32) .olt (Host.absf x)
    (broadcastInDim (⟨1, ![n]⟩ : Shape) ![] hb (constant (F := Ideal) (⟨0, ![]⟩ : Shape) .f32 0x7F800000#32)) = fun _ => 1#1) :
    ∃ f, x = E1 n f := by
  refine ⟨fun a => if ha : a < n then (x (ix1 ⟨a, ha⟩) : EReal).toReal else 0, funext fun i => ?_⟩
  have hi : (i 0).val < n := (i 0).isLt
  have e : ix1 (⟨(i 0).val, hi⟩ : Fin n) = i := funext fun d => by fin_cases d; rfl
  simp only [E1, dif_pos hi, e]
  exact (real_at x hb h i).symm
/-- A finite matrix is a matrix of real numbers. -/
theorem real_E2 (x : FVec Ideal (⟨2, ![n, m]⟩ : Shape) .f32) (hb) (h : cmpf (F := Ideal) (φ := .f32) .olt (Host.absf x)
    (broadcastInDim (⟨2, ![n, m]⟩ : Shape) ![] hb (constant (F := Ideal) (⟨0, ![]⟩ : Shape) .f32 0x7F800000#32)) = fun _ => 1#1) :
    ∃ f, x = E2 n m f := by
  refine ⟨fun a b => if hab : a < n ∧ b < m then (x (ix2 ⟨a, hab.1⟩ ⟨b, hab.2⟩) : EReal).toReal else 0, funext fun i => ?_⟩
  have hi : (i 0).val < n ∧ (i 1).val < m := ⟨(i 0).isLt, (i 1).isLt⟩
  have e : ix2 (⟨(i 0).val, hi.1⟩ : Fin n) (⟨(i 1).val, hi.2⟩ : Fin m) = i := funext fun d => by fin_cases d <;> rfl
  simp only [E2, dif_pos hi, e]
  exact (real_at x hb h i).symm
/-- A finite array of rank 3 is an array of real numbers. -/
theorem real_E3 (x : FVec Ideal (⟨3, ![n, m, k]⟩ : Shape) .f32) (hb) (h : cmpf (F := Ideal) (φ := .f32) .olt (Host.absf x)
    (broadcastInDim (⟨3, ![n, m, k]⟩ : Shape) ![] hb (constant (F := Ideal) (⟨0, ![]⟩ : Shape) .f32 0x7F800000#32)) = fun _ => 1#1) :
    ∃ f, x = E3 n m k f := by
  refine ⟨fun a b c => if h3 : a < n ∧ b < m ∧ c < k then (x (ix3 ⟨a, h3.1⟩ ⟨b, h3.2.1⟩ ⟨c, h3.2.2⟩) : EReal).toReal else 0, funext fun i => ?_⟩
  have hi : (i 0).val < n ∧ (i 1).val < m ∧ (i 2).val < k := ⟨(i 0).isLt, (i 1).isLt, (i 2).isLt⟩
  have e : ix3 (⟨(i 0).val, hi.1⟩ : Fin n) (⟨(i 1).val, hi.2.1⟩ : Fin m) (⟨(i 2).val, hi.2.2⟩ : Fin k) = i :=
    funext fun d => by fin_cases d <;> rfl
  simp only [E3, dif_pos hi, e]
  exact (real_at x hb h i).symm

/-! ### The gradients over all rows and over the rows behind the padding -/

namespace Inp
variable (P : Inp)

/-- The gradient at a row of the convolution's result, from all rows. -/
theorem D_eq (q j : ℕ) : P.X.D 2111 q j
    = if 48 ≤ q ∧ q - 48 < 2064 then P.Y.dxc P.Y.Hp (P.Y.Lam 2063) (q - 48) j else 0 := by
  unfold Rows.D
  by_cases h : 48 ≤ q ∧ q - 48 < 2064
  · rw [if_pos h, if_pos (by omega)]
    obtain ⟨p, rfl⟩ : ∃ p, q = 48 + p := ⟨q - 48, by omega⟩
    rw [P.X.dxc_tail P.ma_lt p j (by omega), Nat.add_sub_cancel_left]
    rfl
  · rw [if_neg h]
    split
    · exact P.X.dxc_pad P.ma_lt _ q j (by omega)
    · rfl
theorem Du_eq (i j : ℕ) : P.X.Du 2111 i j
    = (if 48 ≤ i ∧ i - 48 < 2064 then P.cw 3 j * P.Y.dxc P.Y.Hp (P.Y.Lam 2063) (i - 48) j else 0)
      + (if 47 ≤ i ∧ i - 47 < 2064 then P.cw 2 j * P.Y.dxc P.Y.Hp (P.Y.Lam 2063) (i - 47) j else 0)
      + (if 46 ≤ i ∧ i - 46 < 2064 then P.cw 1 j * P.Y.dxc P.Y.Hp (P.Y.Lam 2063) (i - 46) j else 0)
      + (if 45 ≤ i ∧ i - 45 < 2064 then P.cw 0 j * P.Y.dxc P.Y.Hp (P.Y.Lam 2063) (i - 45) j else 0) := by
  have e (s : ℕ) (hs : s ≤ 48) (w : ℝ) : w * P.X.D 2111 (i + s) j
      = if 48 - s ≤ i ∧ i - (48 - s) < 2064 then w * P.Y.dxc P.Y.Hp (P.Y.Lam 2063) (i - (48 - s)) j else 0 := by
    rw [D_eq, show i + s - 48 = i - (48 - s) by omega, mul_ite, mul_zero]
    exact if_congr (by omega) rfl rfl
  unfold Rows.Du
  exact congrArg₂ _ (congrArg₂ _ (congrArg₂ _ (e 0 (by omega) _) (e 1 (by omega) _)) (e 2 (by omega) _)) (e 3 (by omega) _)
theorem dg_eq (i j : ℕ) (hi : i < 2112) : P.X.dg P.X.H i j = if 48 ≤ i ∧ i - 48 < 2064 then P.Y.dg P.Y.H (i - 48) j else 0 := by
  by_cases h : 48 ≤ i
  · rw [if_pos (by omega)]
    obtain ⟨p, rfl⟩ : ∃ p, i = 48 + p := ⟨i - 48, by omega⟩
    rw [P.X.dg_tail P.ma_lt p j, Nat.add_sub_cancel_left]
    rfl
  · rw [if_neg (by omega), P.X.dg_pad P.ma_lt _ i j (by omega)]

theorem f1_eq (j : ℕ) : ∑ p ∈ Finset.range 2112, P.X.f1 j p = ∑ p ∈ Finset.range 2064, P.Y.dxc P.Y.Hp (P.Y.Lam 2063) p j :=
  Rows.sum_tail _ _ (fun p hp => P.X.dxc_pad P.ma_lt _ p j hp) fun p hp => P.X.dxc_tail P.ma_lt p j hp
theorem f0_eq (k j : ℕ) : ∑ p ∈ Finset.range 2112, P.X.f0 k j p
    = ∑ p ∈ Finset.range 2064, P.Y.dxc P.Y.Hp (P.Y.Lam 2063) p j * P.Y.ue (p + (5 + k)) j :=
  Rows.sum_tail _ _ (fun p hp => by rw [Rows.f0, P.X.dxc_pad P.ma_lt _ p j hp, zero_mul]) fun p hp => by
    rw [Rows.f0, P.X.dxc_tail P.ma_lt p j hp, Nat.add_assoc, Nat.add_assoc]; rfl
/-- The four rows of the gradient at the convolution's weights, one padded row each. -/
theorem f0_rows (i j : ℕ) (hi : i < 4) : ∑ p ∈ Finset.range 2112, P.X.f0 i j p
    = (if 3 ≤ i ∧ i - 3 < 1 then ∑ p ∈ Finset.range 2064, P.Y.dxc P.Y.Hp (P.Y.Lam 2063) p j * P.Y.ue (p + 8) j else 0)
      + (if 2 ≤ i ∧ i - 2 < 1 then ∑ p ∈ Finset.range 2064, P.Y.dxc P.Y.Hp (P.Y.Lam 2063) p j * P.Y.ue (p + 7) j else 0)
      + (if 1 ≤ i ∧ i - 1 < 1 then ∑ p ∈ Finset.range 2064, P.Y.dxc P.Y.Hp (P.Y.Lam 2063) p j * P.Y.ue (p + 6) j else 0)
      + (if 0 ≤ i ∧ i - 0 < 1 then ∑ p ∈ Finset.range 2064, P.Y.dxc P.Y.Hp (P.Y.Lam 2063) p j * P.Y.ue (p + 5) j else 0) := by
  rw [f0_eq]
  interval_cases i <;> simp
theorem f2_eq (i j : ℕ) : ∑ p ∈ Finset.range 2112, P.X.f2 i j p
    = ∑ p ∈ Finset.range 2064, P.Y.dza P.Y.Hp (P.Y.Lam 2063) p j * P.Y.xc p i :=
  Rows.sum_tail _ _ (fun p hp => by rw [Rows.f2, P.X.dza_pad P.ma_lt _ p j hp, mul_zero]) fun p hp => by
    rw [Rows.f2, P.X.dza_tail P.ma_lt p j hp, mul_comm]; rfl
theorem f3_eq (j : ℕ) : ∑ p ∈ Finset.range 2112, P.X.f3 j p = ∑ p ∈ Finset.range 2064, P.Y.dza P.Y.Hp (P.Y.Lam 2063) p j :=
  Rows.sum_tail _ _ (fun p hp => P.X.dza_pad P.ma_lt _ p j hp) fun p hp => P.X.dza_tail P.ma_lt p j hp
theorem f4_eq (i j : ℕ) : ∑ p ∈ Finset.range 2112, P.X.f4 i j p
    = ∑ p ∈ Finset.range 2064, P.Y.dzi (P.Y.Lam 2063) p j * P.Y.xc p i :=
  Rows.sum_tail _ _ (fun p hp => by rw [Rows.f4, P.X.dzi_pad P.ma_lt _ p j hp, mul_zero]) fun p hp => by
    rw [Rows.f4, P.X.dzi_tail P.ma_lt p j hp, mul_comm]; rfl
theorem f5_eq (j : ℕ) : ∑ p ∈ Finset.range 2112, P.X.f5 j p = ∑ p ∈ Finset.range 2064, P.Y.dzi (P.Y.Lam 2063) p j :=
  Rows.sum_tail _ _ (fun p hp => P.X.dzi_pad P.ma_lt _ p j hp) fun p hp => P.X.dzi_tail P.ma_lt p j hp
theorem f6_eq (j : ℕ) : ∑ p ∈ Finset.range 2112, P.X.f6 j p
    = -((∑ p ∈ Finset.range 2064, P.Y.dlr P.Y.Hp (P.Y.Lam 2063) p j) * P.Y.dsp j) := by
  rw [Finset.sum_mul, ← Finset.sum_neg_distrib]
  exact Rows.sum_tail _ _ (fun p hp => by rw [Rows.f6, P.X.dlr_pad P.ma_lt _ p j hp, zero_mul, neg_zero]) fun p hp => by
    rw [Rows.f6, P.X.dlr_tail P.ma_lt p j hp]; rfl
theorem f7_eq (j : ℕ) : ∑ p ∈ Finset.range 2112, P.X.f7 j p = ∑ p ∈ Finset.range 2064, P.Y.dnr P.Y.H p j :=
  Rows.sum_tail _ _ (fun p hp => P.X.dnr_pad P.ma_lt _ p j hp) fun p _ => P.X.dnr_tail P.ma_lt p j

end Inp

end Cert.Emb

end
-- ==== Proof.Final.lean ====
/- The kernel and the reference end with equal results. -/
module

public import proofs.«01_k».proof.Defs
public import proofs.«01_k».proof.Proof.Gen.KernelIdeal.Value
public import proofs.«01_k».proof.Proof.Feed
public import proofs.«01_k».proof.Proof.Finals
public import proofs.«01_k».proof.Proof.RefVals
public import proofs.«01_k».proof.Proof.Sums

@[expose] public section

set_option maxRecDepth 16384

noncomputable section

namespace Cert.Final

open Idealize.ShloMosaic Idealize.ShloMosaic.TcCoe Idealize.SL.Sem Cert.Emb

/-- The side conditions of the precondition's operations. -/
instance preFacts : Cert.Pre_finite.Facts where
  bcast_S_S2064x5376 := by decide
  bcast_S_S4x512 := by decide
  bcast_S_S512 := by decide
  bcast_S_S8x64x64 := by decide
  bcast_S_S2112x512 := by decide

section Equal
open Cert.KernelIdeal Cert.KernelIdeal.Gen

variable {m : (ℓ : Loc nD τ sig) → Buf (Elt Ideal) ℓ}

/-- Under the precondition each argument is an array of real numbers. -/
theorem args_real (h : Cert.Pre_KernelIdeal_finite m) (c : Dev nD) : ∃ P : Inp, Cert.KernelIdeal.Prefix.Args (fun b => m (c, b)) P := by
  obtain ⟨h0, h1, h2, h3, h4, h5, h6, h7, h8, h9⟩ := h c
  obtain ⟨f0, e0⟩ := real_E2 _ _ h0
  obtain ⟨f1, e1⟩ := real_E2 _ _ h1
  obtain ⟨f2, e2⟩ := real_E1 _ _ h2
  obtain ⟨f3, e3⟩ := real_E3 _ _ h3
  obtain ⟨f4, e4⟩ := real_E1 _ _ h4
  obtain ⟨f5, e5⟩ := real_E3 _ _ h5
  obtain ⟨f6, e6⟩ := real_E1 _ _ h6
  obtain ⟨f7, e7⟩ := real_E1 _ _ h7
  obtain ⟨f8, e8⟩ := real_E1 _ _ h8
  obtain ⟨f9, e9⟩ := real_E2 _ _ h9
  exact ⟨⟨f0, f1, f2, f3, f4, f5, f6, f7, f8, f9⟩, e0, e1, e2, e3, e4, e5, e6, e7, e8, e9⟩

set_option maxHeartbeats 4000000 in
/-- The reference's results are the kernel's arrays after its last grid point. -/
theorem equal {P : Inp} {c : Dev nD} {V : Valuation Cert.ReferenceIdeal.τ Cert.ReferenceIdeal.sig (Elt Ideal)}
    (hk : Cert.KernelIdeal.Prefix.Args (fun b => m (c, b)) P) (hr : Cert.ReferenceIdeal.Run.Args V P) :
Cert.ReferenceIdeal.Run.W4 V (Proc.devRef .tc Cert.ReferenceIdeal.main_v292) = (dats (F := Ideal) m 0 c).arrAt 13 cfg0.N
    ∧ Cert.ReferenceIdeal.Run.W4 V (Proc.devRef .tc Cert.ReferenceIdeal.main_v209) = (dats (F := Ideal) m 0 c).arrAt 14 cfg0.N
    ∧ Cert.ReferenceIdeal.Run.W4 V (Proc.devRef .tc Cert.ReferenceIdeal.main_v296) = (dats (F := Ideal) m 0 c).arrAt 15 cfg0.N
    ∧ Cert.ReferenceIdeal.Run.W4 V (Proc.devRef .tc Cert.ReferenceIdeal.main_v297) = (dats (F := Ideal) m 0 c).arrAt 16 cfg0.N
    ∧ Cert.ReferenceIdeal.Run.W4 V (Proc.devRef .tc Cert.ReferenceIdeal.main_v298) = (dats (F := Ideal) m 0 c).arrAt 17 cfg0.N
    ∧ Cert.ReferenceIdeal.Run.W4 V (Proc.devRef .tc Cert.ReferenceIdeal.main_v299) = (dats (F := Ideal) m 0 c).arrAt 18 cfg0.N
    ∧ Cert.ReferenceIdeal.Run.W4 V (Proc.devRef .tc Cert.ReferenceIdeal.main_v300) = (dats (F := Ideal) m 0 c).arrAt 19 cfg0.N
    ∧ Cert.ReferenceIdeal.Run.W4 V (Proc.devRef .tc Cert.ReferenceIdeal.main_v301) = (dats (F := Ideal) m 0 c).arrAt 20 cfg0.N
    ∧ Cert.ReferenceIdeal.Run.W4 V (Proc.devRef .tc Cert.ReferenceIdeal.main_v302) = (dats (F := Ideal) m 0 c).arrAt 21 cfg0.N
    ∧ Cert.ReferenceIdeal.Run.W4 V (Proc.devRef .tc Cert.ReferenceIdeal.main_v303) = (dats (F := Ideal) m 0 c).arrAt 22 cfg0.N := by
  have hb := fun t => feed (Cert.KernelIdeal.Prefix.ready_flat hk) t
  obtain ⟨r0, r1, r2, r3, r4, r5, r6, r7, r8, r9⟩ := Cert.ReferenceIdeal.Run.at_W4 hr
  exact ⟨r0.trans (((E2_congr fun i _ j _ => (P.Du_eq i j).symm).trans (final13 hb).symm)),
    r1.trans (((E2_congr fun i hi j _ => (P.dg_eq i j hi).symm).trans (final14 hb).symm)),
    r2.trans (((E3_congr fun _ _ i hi j _ => (P.f0_rows i j hi).symm).trans (final15 hb).symm)),
    r3.trans (((E3_congr fun _ _ _ _ j _ => (P.f1_eq j).symm).trans (final16 hb).symm)),
    r4.trans (((E3_congr fun _ _ i _ j _ => (P.f2_eq i j).symm).trans (final17 hb).symm)),
    r5.trans (((E3_congr fun _ _ _ _ j _ => (P.f3_eq j).symm).trans (final18 hb).symm)),
    r6.trans (((E3_congr fun _ _ i _ j _ => (P.f4_eq i j).symm).trans (final19 hb).symm)),
    r7.trans (((E3_congr fun _ _ _ _ j _ => (P.f5_eq j).symm).trans (final20 hb).symm)),
    r8.trans (((E3_congr fun _ _ _ _ j _ => (P.f6_eq j).symm).trans (final21 hb).symm)),
    r9.trans (((E3_congr fun _ _ _ _ j _ => (P.f7_eq j).symm).trans (final22 hb).symm))⟩

end Equal

/-- The frame of the reference, argument by argument. -/
theorem frameRI (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0) :=
  (θ_run _ _ _).mono (fun r h => ⟨fun c => ⟨h.1 c Cert.ReferenceIdeal.main_arg0 rfl (by decide), h.1 c Cert.ReferenceIdeal.main_arg1 rfl (by decide), h.1 c Cert.ReferenceIdeal.main_arg2 rfl (by decide), h.1 c Cert.ReferenceIdeal.main_arg3 rfl (by decide), h.1 c Cert.ReferenceIdeal.main_arg4 rfl (by decide), h.1 c Cert.ReferenceIdeal.main_arg5 rfl (by decide), h.1 c Cert.ReferenceIdeal.main_arg6 rfl (by decide), h.1 c Cert.ReferenceIdeal.main_arg7 rfl (by decide), h.1 c Cert.ReferenceIdeal.main_arg8 rfl (by decide), h.1 c Cert.ReferenceIdeal.main_arg9 rfl (by decide)⟩, h.2⟩)
    (Cert.ReferenceIdeal.Run.frame m g)

set_option maxHeartbeats 4000000 in
/-- From memories agreeing on finite arguments the kernel and the reference end with equal results. -/
theorem algebraic : Cert.algebraic_KernelIdeal_ReferenceIdeal_pre_finite := by
  intro m g m' g' hpre hm
  refine ⟨fun c => (Cert.KernelIdeal.Gen.dats (F := Ideal) m 0 c).arrAt 13 Cert.KernelIdeal.cfg0.N, fun c => (Cert.KernelIdeal.Gen.dats (F := Ideal) m 0 c).arrAt 14 Cert.KernelIdeal.cfg0.N, fun c => (Cert.KernelIdeal.Gen.dats (F := Ideal) m 0 c).arrAt 15 Cert.KernelIdeal.cfg0.N, fun c => (Cert.KernelIdeal.Gen.dats (F := Ideal) m 0 c).arrAt 16 Cert.KernelIdeal.cfg0.N, fun c => (Cert.KernelIdeal.Gen.dats (F := Ideal) m 0 c).arrAt 17 Cert.KernelIdeal.cfg0.N, fun c => (Cert.KernelIdeal.Gen.dats (F := Ideal) m 0 c).arrAt 18 Cert.KernelIdeal.cfg0.N, fun c => (Cert.KernelIdeal.Gen.dats (F := Ideal) m 0 c).arrAt 19 Cert.KernelIdeal.cfg0.N, fun c => (Cert.KernelIdeal.Gen.dats (F := Ideal) m 0 c).arrAt 20 Cert.KernelIdeal.cfg0.N, fun c => (Cert.KernelIdeal.Gen.dats (F := Ideal) m 0 c).arrAt 21 Cert.KernelIdeal.cfg0.N, fun c => (Cert.KernelIdeal.Gen.dats (F := Ideal) m 0 c).arrAt 22 Cert.KernelIdeal.cfg0.N,
    Cert.KernelIdeal.Value.run_blocks m g, (θ_run _ _ _).mono (fun r h c => ?_) (Cert.ReferenceIdeal.Run.run m' g')⟩
  obtain ⟨P, hk⟩ := args_real hpre c
  obtain ⟨q0, q1, q2, q3, q4, q5, q6, q7, q8, q9⟩ := hm c
  have hr : Cert.ReferenceIdeal.Run.Args (StableHlo.launchContents m' c) P :=
    ⟨q0.trans hk.a0, q1.trans hk.a1, q2.trans hk.a2, q3.trans hk.a3, q4.trans hk.a4, q5.trans hk.a5, q6.trans hk.a6, q7.trans hk.a7, q8.trans hk.a8, q9.trans hk.a9⟩
  obtain ⟨e0, e1, e2, e3, e4, e5, e6, e7, e8, e9⟩ := equal hk hr
  exact ⟨(h c Cert.ReferenceIdeal.main_v292 rfl).trans e0,
    (h c Cert.ReferenceIdeal.main_v209 rfl).trans e1,
    (h c Cert.ReferenceIdeal.main_v296 rfl).trans e2,
    (h c Cert.ReferenceIdeal.main_v297 rfl).trans e3,
    (h c Cert.ReferenceIdeal.main_v298 rfl).trans e4,
    (h c Cert.ReferenceIdeal.main_v299 rfl).trans e5,
    (h c Cert.ReferenceIdeal.main_v300 rfl).trans e6,
    (h c Cert.ReferenceIdeal.main_v301 rfl).trans e7,
    (h c Cert.ReferenceIdeal.main_v302 rfl).trans e8,
    (h c Cert.ReferenceIdeal.main_v303 rfl).trans e9,
    (h c Cert.ReferenceIdeal.main_arg0 rfl).trans (Cert.ReferenceIdeal.Run.W4_keep _ Cert.ReferenceIdeal.main_arg0 (by decide)),
    (h c Cert.ReferenceIdeal.main_arg1 rfl).trans (Cert.ReferenceIdeal.Run.W4_keep _ Cert.ReferenceIdeal.main_arg1 (by decide)),
    (h c Cert.ReferenceIdeal.main_arg2 rfl).trans (Cert.ReferenceIdeal.Run.W4_keep _ Cert.ReferenceIdeal.main_arg2 (by decide)),
    (h c Cert.ReferenceIdeal.main_arg3 rfl).trans (Cert.ReferenceIdeal.Run.W4_keep _ Cert.ReferenceIdeal.main_arg3 (by decide)),
    (h c Cert.ReferenceIdeal.main_arg4 rfl).trans (Cert.ReferenceIdeal.Run.W4_keep _ Cert.ReferenceIdeal.main_arg4 (by decide)),
    (h c Cert.ReferenceIdeal.main_arg5 rfl).trans (Cert.ReferenceIdeal.Run.W4_keep _ Cert.ReferenceIdeal.main_arg5 (by decide)),
    (h c Cert.ReferenceIdeal.main_arg6 rfl).trans (Cert.ReferenceIdeal.Run.W4_keep _ Cert.ReferenceIdeal.main_arg6 (by decide)),
    (h c Cert.ReferenceIdeal.main_arg7 rfl).trans (Cert.ReferenceIdeal.Run.W4_keep _ Cert.ReferenceIdeal.main_arg7 (by decide)),
    (h c Cert.ReferenceIdeal.main_arg8 rfl).trans (Cert.ReferenceIdeal.Run.W4_keep _ Cert.ReferenceIdeal.main_arg8 (by decide)),
    (h c Cert.ReferenceIdeal.main_arg9 rfl).trans (Cert.ReferenceIdeal.Run.W4_keep _ Cert.ReferenceIdeal.main_arg9 (by decide))⟩

end Cert.Final

end
-- ==== Proof.Ext.lean ====
/- Matrices of extended reals, given by functions of natural-number indices, and the products of two of them. -/
module

public import proofs.«01_k».proof.Proof.Sums
public import Idealize.ShloMosaic.Lib.ValueLayout

@[expose] public section

set_option maxRecDepth 16384

noncomputable section

namespace Cert.Emb

open Idealize.ShloMosaic

/-- The `n` by `m` matrix of the extended reals of `f`. -/
def X2 (n m : ℕ) (f : ℕ → ℕ → EReal) : (⟨2, ![n, m]⟩ : Shape).Idx → EReal := fun i => f (i 0).val (i 1).val

variable {n m k : ℕ}

/-- Two matrices agree when their values in range do. -/
theorem X2_congr {f g : ℕ → ℕ → EReal} (h : ∀ i < n, ∀ j < m, f i j = g i j) : X2 n m f = X2 n m g :=
  funext fun i => h _ (i 0).isLt _ (i 1).isLt

/-- Every matrix is given by a function of natural-number indices. -/
theorem exists_X2 (x : (⟨2, ![n, m]⟩ : Shape).Idx → EReal) : ∃ f, x = X2 n m f := by
  refine ⟨fun a b => if hab : a < n ∧ b < m then x (ix2 ⟨a, hab.1⟩ ⟨b, hab.2⟩) else 0, funext fun i => ?_⟩
  have hi : (i 0).val < n ∧ (i 1).val < m := ⟨(i 0).isLt, (i 1).isLt⟩
  have e : ix2 (⟨(i 0).val, hi.1⟩ : Fin n) (⟨(i 1).val, hi.2⟩ : Fin m) = i := funext fun d => by fin_cases d <;> rfl
  simp only [X2, dif_pos hi, e]

/-- The product through dimension numbers that contract `K` places, read at an index. -/
theorem dot_ext {sl sr so : Shape} (d : DotDims sl sr so) {a : Fin sl.rank} (hc : d.lhsContracting = [a]) {K : ℕ}
    (hK : sl.size a = K) (lhs : sl.Idx → EReal) (rhs : sr.Idx → EReal) (acc : so.Idx → EReal) (j : so.Idx)
    (f g : ℕ → EReal) (hx : acc j = 0)
    (hl : ∀ k : Fin K, lhs (d.lhsIdx j (d.contrIdx₁ hc hK k)) = f k.val)
    (hr : ∀ k : Fin K, rhs (d.rhsIdx j (d.contrIdx₁ hc hK k)) = g k.val) :
    Ideal.matmul d lhs rhs acc j = ∑ k ∈ Finset.range K, f k * g k := by
  rw [Ideal.matmul_apply₁ d hc hK, hx, zero_add, Finset.sum_range]
  exact Finset.sum_congr rfl fun k _ => by rw [← hl k, ← hr k]; rfl

/-- Rows of the left factor against columns of the right one. -/
theorem xdot_10 (f g : ℕ → ℕ → EReal) (wf) :
    Ideal.matmul (⟨[1], [0], [0], [1], [], [], wf⟩ : DotDims ⟨2, ![n, k]⟩ ⟨2, ![k, m]⟩ ⟨2, ![n, m]⟩) (X2 n k f) (X2 k m g)
      (X2 n m fun _ _ => 0) = X2 n m (fun i j => ∑ q ∈ Finset.range k, f i q * g q j) := by
  funext j
  refine dot_ext _ (a := 1) rfl (K := k) rfl _ _ _ j (fun q => f (j 0).val q) (fun q => g q (j 1).val) rfl
    (fun q => ?_) (fun q => ?_)
  · simp only [X2, pointwise]
  · simp only [X2, pointwise]
/-- Rows of the left factor against rows of the right one. -/
theorem xdot_11 (f g : ℕ → ℕ → EReal) (wf) :
    Ideal.matmul (⟨[1], [1], [0], [0], [], [], wf⟩ : DotDims ⟨2, ![n, k]⟩ ⟨2, ![m, k]⟩ ⟨2, ![n, m]⟩) (X2 n k f) (X2 m k g)
      (X2 n m fun _ _ => 0) = X2 n m (fun i j => ∑ q ∈ Finset.range k, f i q * g j q) := by
  funext j
  refine dot_ext _ (a := 1) rfl (K := k) rfl _ _ _ j (fun q => f (j 0).val q) (fun q => g (j 1).val q) rfl
    (fun q => ?_) (fun q => ?_)
  · simp only [X2, pointwise]
  · simp only [X2, pointwise]
/-- Columns of the left factor against columns of the right one. -/
theorem xdot_00 (f g : ℕ → ℕ → EReal) (wf) :
    Ideal.matmul (⟨[0], [0], [1], [1], [], [], wf⟩ : DotDims ⟨2, ![k, n]⟩ ⟨2, ![k, m]⟩ ⟨2, ![n, m]⟩) (X2 k n f) (X2 k m g)
      (X2 n m fun _ _ => 0) = X2 n m (fun i j => ∑ q ∈ Finset.range k, f q i * g q j) := by
  funext j
  refine dot_ext _ (a := 0) rfl (K := k) rfl _ _ _ j (fun q => f q (j 0).val) (fun q => g q (j 1).val) rfl
    (fun q => ?_) (fun q => ?_)
  · simp only [X2, pointwise]
  · simp only [X2, pointwise]

/-- A constant of the kernel is the number its bits stand for. -/
theorem lit (w : BitVec 32) : (FloatOps.ofBits .f32 w : Ideal .f32) = Ideal.ofBits .f32 w := rfl
/-- The zero accumulator. -/
theorem zero_X2 : constant (F := Ideal) (⟨2, ![n, m]⟩ : Shape) .f32 0x00000000#32 = X2 n m fun _ _ => 0 := by
  rw [constant_lit, lit_zero]; rfl
theorem truncf_X2 (f : ℕ → ℕ → EReal) (h : FTy.bf16.bits < FTy.f32.bits) :
    truncf (F := Ideal) (φ := .f32) .bf16 (X2 n m f) h = X2 n m f := rfl
theorem addf_X2 (f g : ℕ → ℕ → EReal) :
    addf (F := Ideal) (φ := .f32) (X2 n m f) (X2 n m g) = X2 n m (fun i j => f i j + g i j) := rfl
theorem transpose_X2 (f : ℕ → ℕ → EReal) (h : (⟨2, ![n, m]⟩ : Shape).Transposes [1, 0] ⟨2, ![m, n]⟩) :
    transpose (⟨2, ![m, n]⟩ : Shape) [1, 0] (X2 n m f) h = X2 m n (fun i j => f j i) := by
  funext i
  rw [Pointwise.transpose_apply]
  simp only [X2, Shape.Idx.norm_def, Shape.Transposes.src_apply_val]
  rfl

theorem extf_X2 (f : ℕ → ℕ → EReal) (h : FTy.bf16.bits < FTy.f32.bits) :
    extf (F := Ideal) (φ := .bf16) .f32 (X2 n m f) h = X2 n m f := rfl
theorem mulf_X2 (f g : ℕ → ℕ → EReal) :
    mulf (F := Ideal) (φ := .f32) (X2 n m f) (X2 n m g) = X2 n m (fun i j => f i j * g i j) := rfl
/-- The logistic function, element by element. -/
theorem logistic_X2 (f : ℕ → ℕ → EReal) :
    logistic (F := Ideal) (φ := .f32) (X2 n m f) = X2 n m (fun i j => Ideal.logistic (f i j)) := rfl
/-- One number everywhere. -/
theorem broadcast_X2 (a : EReal) : broadcast (⟨2, ![n, m]⟩ : Shape) a = X2 n m fun _ _ => a := rfl
/-- A block cut out of a matrix. -/
theorem slice_X2 {k l : ℕ} (f : ℕ → ℕ → EReal) (o p : ℕ) (h : (⟨2, ![n, m]⟩ : Shape).Slices ![o, p] ⟨2, ![k, l]⟩) :
    extractStridedSlice (⟨2, ![k, l]⟩ : Shape) ![o, p] (X2 n m f) h = X2 k l (fun i j => f (o + i) (p + j)) := rfl
/-- Two matrices one below the other. -/
theorem concat_X2 {l : ℕ} {f g : ℕ → ℕ → EReal} {A : (⟨2, ![n, m]⟩ : Shape).Idx → EReal} {B : (⟨2, ![k, m]⟩ : Shape).Idx → EReal}
    (hA : A = X2 n m f) (hB : B = X2 k m g) (h) :
    concatenate (⟨2, ![l, m]⟩ : Shape) 0 [⟨⟨2, ![n, m]⟩, A⟩, ⟨⟨2, ![k, m]⟩, B⟩] h
      = X2 l m (fun i j => if i < n then f i j else g (i - n) j) := by
  subst hA hB
  funext i
  rw [concatenate_pair_apply]
  by_cases hi : (i 0).val < n
  · exact (dif_pos hi).trans (if_pos (c := (i 0).val < n) hi).symm
  · exact (dif_neg hi).trans (if_neg (c := (i 0).val < n) hi).symm

/-- One matrix of extended reals, as a stack of one. -/
def X3 (n m : ℕ) (f : ℕ → ℕ → EReal) : (⟨3, ![1, n, m]⟩ : Shape).Idx → EReal := fun i => f (i 1).val (i 2).val
/-- Two stacks of one matrix agree when their values in range do. -/
theorem X3_congr {f g : ℕ → ℕ → EReal} (h : ∀ i < n, ∀ j < m, f i j = g i j) : X3 n m f = X3 n m g :=
  funext fun i => h _ (i 1).isLt _ (i 2).isLt
/-- A matrix laid out as a stack of one. -/
theorem stack_X2 (f : ℕ → ℕ → EReal) (h : (⟨2, ![n, m]⟩ : Shape).ShapeCasts ⟨3, ![1, n, m]⟩) :
    shapeCast (⟨3, ![1, n, m]⟩ : Shape) (X2 n m f) h = X3 n m f := by
  funext i
  obtain ⟨u, p, q, rfl⟩ : ∃ u p q, i = ix3 u p q := ⟨i 0, i 1, i 2, funext fun d => by fin_cases d <;> rfl⟩
  exact ValueIdx.shapeCast_ab_1ab_apply (X2 n m f) h u p q
/-- The matrix of a stack of one. -/
theorem unstack_X3 (f : ℕ → ℕ → EReal) (h : (⟨3, ![1, n, m]⟩ : Shape).ShapeCasts ⟨2, ![n, m]⟩) :
    shapeCast (⟨2, ![n, m]⟩ : Shape) (X3 n m f) h = X2 n m f := by
  funext i
  obtain ⟨p, q, rfl⟩ : ∃ p q, i = ix2 p q := ⟨i 0, i 1, funext fun d => by fin_cases d <;> rfl⟩
  exact ValueIdx.shapeCast_1ab_ab_apply (X3 n m f) h p q

/-- The element of the `k`-th of four matrices. -/
def sel4 (a b c d : ℕ → ℕ → EReal) : ℕ → ℕ → ℕ → EReal
  | 0 => a
  | 1 => b
  | 2 => c
  | _ => d
/-- Four matrices of 512 columns side by side. -/
def cols4 (a b c d : ℕ → ℕ → EReal) : ℕ → ℕ → EReal := fun i j => sel4 a b c d (j / 512) i (j % 512)
/-- Column `512 k + q` of the four side by side is column `q` of the `k`-th. -/
theorem cols4_at (a b c d : ℕ → ℕ → EReal) (i k q : ℕ) (hq : q < 512) : cols4 a b c d i (512 * k + q) = sel4 a b c d k i q := by
  unfold cols4
  rw [show (512 * k + q) / 512 = k by omega, show (512 * k + q) % 512 = q by omega]
/-- Four matrices without their first `o` rows, side by side. -/
theorem cols4_rows (a b c d : ℕ → ℕ → EReal) (o i j : ℕ) :
    cols4 (fun i j => a (o + i) j) (fun i j => b (o + i) j) (fun i j => c (o + i) j) (fun i j => d (o + i) j) i j = cols4 a b c d (o + i) j := by
  unfold cols4
  generalize j / 512 = k
  match k with
  | 0 => rfl
  | 1 => rfl
  | 2 => rfl
  | _ + 3 => rfl
/-- Four matrices side by side, joined by the host. -/
theorem concat4_X2 (a b c d : ℕ → ℕ → EReal) (h) :
    concatenate (⟨2, ![2112, 2048]⟩ : Shape) 1 [⟨⟨2, ![2112, 512]⟩, X2 2112 512 a⟩, ⟨⟨2, ![2112, 512]⟩, X2 2112 512 b⟩,
      ⟨⟨2, ![2112, 512]⟩, X2 2112 512 c⟩, ⟨⟨2, ![2112, 512]⟩, X2 2112 512 d⟩] h = X2 2112 2048 (cols4 a b c d) := by
  funext j
  have hj : (j 1).val < 2048 := (j 1).isLt
  have hk : (j 1).val / 512 < 4 := by omega
  refine (concatenate_apply_piece (t := ⟨2, ![2112, 2048]⟩) (1 : Fin 2)
    [⟨⟨2, ![2112, 512]⟩, X2 2112 512 a⟩, ⟨⟨2, ![2112, 512]⟩, X2 2112 512 b⟩, ⟨⟨2, ![2112, 512]⟩, X2 2112 512 c⟩, ⟨⟨2, ![2112, 512]⟩, X2 2112 512 d⟩]
    h j ((j 1).val / 512) hk ⟨2, ![2112, 512]⟩ (X2 2112 512 (sel4 a b c d ((j 1).val / 512))) ?_ rfl (512 * ((j 1).val / 512)) ?_
    (ix2 (n0 := 2112) (n1 := 512) (j 0) ⟨(j 1).val % 512, Nat.mod_lt _ (by decide)⟩) ?_ ?_).trans rfl
  · generalize (j 1).val / 512 = k at hk ⊢
    interval_cases k <;> rfl
  · generalize (j 1).val / 512 = k at hk ⊢
    interval_cases k <;> rfl
  · intro b hb
    match b with
    | 0 => rfl
    | 1 => exact absurd rfl hb
  · exact Nat.div_add_mod _ _

/-- A sum over 2048 places, as its four quarters. -/
theorem sum_quarters (f : ℕ → EReal) : ∑ q ∈ Finset.range 2048, f q
    = ((∑ q ∈ Finset.range 512, f q + ∑ q ∈ Finset.range 512, f (512 + q)) + ∑ q ∈ Finset.range 512, f (1024 + q))
      + ∑ q ∈ Finset.range 512, f (1536 + q) := by
  rw [Finset.sum_range_add f 1536 512, Finset.sum_range_add f 1024 512, Finset.sum_range_add f 512 512]

/-- A sum over blocks of `k` places is the sum over all of them. -/
theorem sum_blocks (f : ℕ → EReal) (k b : ℕ) :
    ∑ t ∈ Finset.range b, ∑ q ∈ Finset.range k, f (k * t + q) = ∑ q ∈ Finset.range (k * b), f q := by
  induction b with
  | zero => simp
  | succ b ih => rw [Finset.sum_range_succ, ih, Nat.mul_succ, Finset.sum_range_add]

end Cert.Emb

end
-- ==== Proof.Mix.lean ====
/- The backward of the mixer's input projection: both of its gradients, tile by tile, are the reference's. -/
module

public import proofs.«01_k».proof.Proof.Ext
public import proofs.«01_k».proof.Proof.Gen.Kernel2Ideal.Value
public import proofs.«01_k».proof.Proof.Gen.Reference2Ideal
public import proofs.«01_k».proof.Defs
public import Idealize.ShloMosaic.Lib.Claim

@[expose] public section

set_option maxRecDepth 16384

noncomputable section

namespace Cert.Mix

open Idealize.ShloMosaic Idealize.ShloMosaic.TcCoe Idealize.SL.Sem
open Cert.Emb Cert.Kernel2Ideal Cert.Kernel2Ideal.Gen

/-! ## What one grid point computes -/

theorem pay2 (y x : ℕ → ℕ → EReal) : k0_pay2 (F := Ideal) (X2 2112 256 y) (X2 2112 1024 x)
    = X2 1024 256 fun i j => ∑ q ∈ Finset.range 2112, x q i * y q j := by
  simp only [k0_pay2, k0_pay1, cast_same, truncf_X2, zero_X2, matmul_ideal]
  exact xdot_00 x y _
theorem pay3 (y w : ℕ → ℕ → EReal) : k0_pay3 (F := Ideal) (X2 2112 256 y) (X2 1024 256 w)
    = X2 2112 1024 fun i j => ∑ q ∈ Finset.range 256, y i q * w j q := by
  simp only [k0_pay3, k0_pay1, cast_same, truncf_X2, zero_X2, matmul_ideal]
  exact xdot_11 y w _
theorem pay4 (y w a : ℕ → ℕ → EReal) : k0_pay4 (F := Ideal) (X2 2112 256 y) (X2 1024 256 w) (X2 2112 1024 a)
    = X2 2112 1024 fun i j => a i j + ∑ q ∈ Finset.range 256, y i q * w j q := by
  simp only [k0_pay4, cast_same, pay3, addf_X2]

/-! ## The grid -/

/-- The point `t` works on the `t`-th tile of 256 columns. -/
theorem idx : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val) ∧ (win0_4.index t 0 = 0 ∧ win0_4.index t 1 = t.val) := by decide +kernel

variable {m : (ℓ : Loc nD τ Cert.Kernel2Ideal.sig) → Buf (Elt Ideal) ℓ} {c : Dev nD} {x y w : ℕ → ℕ → EReal}

/-- The arguments, as functions of natural-number indices. -/
structure Args (m : (ℓ : Loc nD τ Cert.Kernel2Ideal.sig) → Buf (Elt Ideal) ℓ) (c : Dev nD) (x y w : ℕ → ℕ → EReal) : Prop where
  x : m ((c : Thread nD τ).loc main_arg0) = X2 2112 1024 x
  y : m ((c : Thread nD τ).loc main_arg1) = X2 2112 5376 y
  w : m ((c : Thread nD τ).loc main_arg2) = X2 1024 5376 w

section Reads
variable (h : Args m c x y w)
include h

theorem blk0 (t : Fin cfg0.N) : iblk (F := Ideal) m c 0 t = X2 2112 1024 x := by
  obtain ⟨⟨i00, i01⟩, -⟩ := idx t
  have e : V m c main_v0 = X2 2112 1024 x := by
    entry_read
    rw [show m (c, main_arg0) = X2 2112 1024 x from h.x]; rfl
  funext p
  unfold iblk
  rw [show V m c (Pipeline.arrRef spec0 0) = X2 2112 1024 x from e]
  blk_simp
  simp only [X2]
  blk_simp
  simp only [i00, i01, Nat.zero_mul, Nat.zero_add]
theorem blk1 (t : Fin cfg0.N) : iblk (F := Ideal) m c 1 t = X2 2112 256 fun i j => y i (256 * t.val + j) := by
  obtain ⟨-, ⟨i00, i01⟩, -⟩ := idx t
  funext p
  unfold iblk
  rw [show V m c (Pipeline.arrRef spec0 1) = X2 2112 5376 y from (V_main_arg1 m c).trans h.y]
  blk_simp
  simp only [X2]
  blk_simp
  rw [i00, i01, Nat.zero_mul, Nat.zero_add, Nat.mul_comm 256]
theorem blk2 (t : Fin cfg0.N) : iblk (F := Ideal) m c 2 t = X2 1024 256 fun i j => w i (256 * t.val + j) := by
  obtain ⟨-, -, ⟨i00, i01⟩, -⟩ := idx t
  have e : V m c main_v1 = X2 1024 5376 w := by
    entry_read
    rw [show m (c, main_arg2) = X2 1024 5376 w from h.w]; rfl
  funext p
  unfold iblk
  rw [show V m c (Pipeline.arrRef spec0 2) = X2 1024 5376 w from e]
  blk_simp
  simp only [X2]
  blk_simp
  rw [i00, i01, Nat.zero_mul, Nat.zero_add, Nat.mul_comm 256]

/-- After every point: the gradient at the input summed over the tiles so far, the gradient at the tile of the weights. -/
theorem after_all (n : ℕ) (hn : n < cfg0.N) :
    (outsAt0 (F := Ideal) m c n hn).1 = X2 2112 1024 (fun i j => ∑ t ∈ Finset.range (n + 1), ∑ q ∈ Finset.range 256,
        y i (256 * t + q) * w j (256 * t + q))
    ∧ (outsAt0 (F := Ideal) m c n hn).2 = X2 1024 256 (fun i j => ∑ q ∈ Finset.range 2112, x q i * y q (256 * n + j)) := by
  have h21 : n < 21 := hn
  induction n with
  | zero =>
    rw [outsAt0_A m c ⟨0, hn⟩ rfl (by simp)]
    constructor
    · frame_out
      rw [blk1 h, blk2 h, pay3]
      exact X2_congr fun i _ j _ => (Finset.sum_range_one (fun t => ∑ q ∈ Finset.range 256, y i (256 * t + q) * w j (256 * t + q))).symm
    · frame_out
      rw [blk0 h, blk1 h, pay2]
  | succ n ih =>
    have d := ih (Nat.lt_of_succ_lt hn) (by omega)
    rw [outsAt0_B m c ⟨n + 1, hn⟩ (by show ¬ (n + 1) % 21 = 0; omega) (by show 1 ≤ n + 1; omega)]
    constructor
    · frame_out
      simp only [Nat.add_sub_cancel, d.1]
      rw [blk1 h, blk2 h, pay4]
      exact X2_congr fun i _ j _ => (Finset.sum_range_succ _ _).symm
    · frame_out
      rw [blk0 h, blk1 h, pay2]

/-- The last point. -/
def last : Fin cfg0.N := ⟨20, by decide⟩

/-- The gradient at the input, after the last point. -/
theorem final3 : (dats (F := Ideal) m 0 c).arrAt 3 cfg0.N
    = X2 2112 1024 fun i j => ∑ q ∈ Finset.range 5376, y i q * w j q := by
  refine (dats m 0 c).arrAt_eq_of_after_last 3 last (by decide +kernel) _ fun j => ?_
  blk_simp
  rw [after0_3, (after_all h _ last.isLt).1]
  simp only [X2]
  exact sum_blocks (fun q => y (j 0).val q * w (j 1).val q) 256 21

/-- The gradient at the weights, after the last point. -/
theorem final4 : (dats (F := Ideal) m 0 c).arrAt 4 cfg0.N
    = X2 1024 5376 fun i j => ∑ q ∈ Finset.range 2112, x q i * y q j := by
  refine (dats m 0 c).arrAt_eq_of_covers 4 _ (by decide +kernel) fun t _ p => ?_
  obtain ⟨-, -, -, i00, i01⟩ := idx t
  blk_simp
  rw [after0_4, (after_all h t.val t.isLt).2]
  simp only [X2]
  blk_simp
  rw [i00, i01, Nat.mul_comm 256, Nat.zero_mul, Nat.zero_add]

end Reads

/-! ## The reference -/

/-- The frame of the reference. -/
theorem frameRI : Cert.quiescent_Reference2Ideal := by
  intro m ρ _
  hlo_run
  · exact fun _ => ⟨trivial, trivial, trivial⟩
  · funext g
    rcases g with ⟨t, s⟩
    cases s with
    | reg s => exact s.elim0
    | dma s => exact s.elim0

/-- From memories agreeing on the arguments the kernel and the reference end with equal gradients. -/
theorem algebraic : Cert.algebraic_Kernel2Ideal_Reference2Ideal := by
  pair_intro
  · run_from Cert.Kernel2Ideal.Value.run_blocks m g
  · hlo_run
    · obtain ⟨x, hx⟩ := exists_X2 (m (c.tc.loc main_arg0))
      obtain ⟨y, hy⟩ := exists_X2 (m (c.tc.loc main_arg1))
      obtain ⟨w, hw⟩ := exists_X2 (m (c.tc.loc main_arg2))
      rw [final3 (m := m) (c := c) ⟨hx, hy, hw⟩, hy, hw]
      exact xdot_11 y w _
    · obtain ⟨x, hx⟩ := exists_X2 (m (c.tc.loc main_arg0))
      obtain ⟨y, hy⟩ := exists_X2 (m (c.tc.loc main_arg1))
      obtain ⟨w, hw⟩ := exists_X2 (m (c.tc.loc main_arg2))
      rw [final4 (m := m) (c := c) ⟨hx, hy, hw⟩, hx, hy, show Host.dotGeneral (F := Ideal) (φ₁ := .f32) (φ₂ := .f32)
        Cert.Reference2Ideal.dot_S2112x5376_S2112x1024_S5376x1024_0_0_1_1_n_n none (X2 2112 5376 y) (X2 2112 1024 x) = _ from xdot_00 y x _]
      exact (transpose_X2 (n := 5376) (m := 1024) (fun i j => ∑ q ∈ Finset.range 2112, y q i * x q j) _).trans (X2_congr fun i _ j _ => Finset.sum_congr rfl fun q _ => mul_comm _ _)

end Cert.Mix

end
-- ==== Proof.MixOut.lean ====
/- The backward of the mixer's output projection: the gradients of the four heads and of the weights, block of rows by
   block of rows from the last to the first, are the reference's. -/
module

public import proofs.«01_k».proof.Proof.Ext
public import proofs.«01_k».proof.Proof.Gen.Kernel3Ideal.Value
public import proofs.«01_k».proof.Proof.Gen.Reference3Ideal
public import proofs.«01_k».proof.Defs
public import Idealize.ShloMosaic.Lib.Claim

@[expose] public section

set_option maxRecDepth 16384

noncomputable section

namespace Cert.MixOut

open Idealize.ShloMosaic Idealize.ShloMosaic.TcCoe Idealize.SL.Sem
open Cert.Emb Cert.Kernel3Ideal Cert.Kernel3Ideal.Gen

/-! ## What one grid point computes -/

/-- Rows of the gradient against rows of the weights. -/
theorem dot11 (x w : ℕ → ℕ → EReal) : Ideal.matmul dot_S192x1024_S512x1024_S192x512_1_1_0_0_n_n (X2 192 1024 x) (X2 512 1024 w) (X2 192 512 fun _ _ => 0)
    = X2 192 512 fun i j => ∑ q ∈ Finset.range 1024, x i q * w j q := xdot_11 x w _
/-- Columns of a head against columns of the gradient. -/
theorem dot00 (a x : ℕ → ℕ → EReal) : Ideal.matmul dot_S192x512_S192x1024_S512x1024_0_0_1_1_n_n (X2 192 512 a) (X2 192 1024 x) (X2 512 1024 fun _ _ => 0)
    = X2 512 1024 fun i j => ∑ q ∈ Finset.range 192, a q i * x q j := xdot_00 a x _

/-- The gradient of the first head. -/
theorem pay2 (w x : ℕ → ℕ → EReal) : k0_pay2 (F := Ideal) (k0_pay6 (X2 2048 1024 w)) (k0_pay8 (X2 192 1024 x))
    = X2 192 512 fun i j => ∑ q ∈ Finset.range 1024, x i q * w j q := by
  simp only [k0_pay2, k0_pay5, k0_pay6, k0_pay8, cast_same, extf_X2, slice_X2, truncf_X2, zero_X2, matmul_ideal, dot11, Nat.zero_add]
/-- The gradient of the second head. -/
theorem pay1 (w x : ℕ → ℕ → EReal) : k0_pay1 (F := Ideal) (k0_pay7 (X2 2048 1024 w)) (k0_pay13 (X2 192 1024 x))
    = X2 192 512 fun i j => ∑ q ∈ Finset.range 1024, x i q * w (512 + j) q := by
  simp only [k0_pay1, k0_pay5, k0_pay7, k0_pay8, k0_pay13, cast_same, extf_X2, slice_X2, truncf_X2, zero_X2, matmul_ideal, dot11, Nat.zero_add]
/-- The gradient of the third head. -/
theorem pay11 (w x : ℕ → ℕ → EReal) : k0_pay11 (F := Ideal) (X2 2048 1024 w) (X2 192 1024 x)
    = X2 192 512 fun i j => ∑ q ∈ Finset.range 1024, x i q * w (1024 + j) q := by
  simp only [k0_pay11, k0_pay5, k0_pay8, cast_same, extf_X2, slice_X2, truncf_X2, zero_X2, matmul_ideal, dot11, Nat.zero_add]
/-- The gradient of the fourth head. -/
theorem pay10 (w x : ℕ → ℕ → EReal) : k0_pay10 (F := Ideal) (X2 2048 1024 w) (X2 192 1024 x)
    = X2 192 512 fun i j => ∑ q ∈ Finset.range 1024, x i q * w (1536 + j) q := by
  simp only [k0_pay10, k0_pay5, k0_pay9, cast_same, extf_X2, slice_X2, truncf_X2, zero_X2, matmul_ideal, dot11, Nat.zero_add]

/-- The four quarters of the gradient at the weights, each padded with zeros to all the rows, add up to the gradient. -/
theorem padded (a b d e x : ℕ → ℕ → EReal) (i j : ℕ) (hi : i < 2048) :
    (((if i < 1536 then ((0 : ℝ) : EReal) else ∑ q ∈ Finset.range 192, e q (i - 1536) * x q j)
        + (if i < 1536 then (if i < 1024 then ((0 : ℝ) : EReal) else ∑ q ∈ Finset.range 192, d q (i - 1024) * x q j) else ((0 : ℝ) : EReal)))
      + (if i < 1024 then (if i < 512 then ((0 : ℝ) : EReal) else ∑ q ∈ Finset.range 192, b q (i - 512) * x q j) else ((0 : ℝ) : EReal)))
      + (if i < 512 then ∑ q ∈ Finset.range 192, a q i * x q j else ((0 : ℝ) : EReal))
    = ∑ q ∈ Finset.range 192, cols4 a b d e q i * x q j := by
  obtain ⟨k, p, hk, hp, rfl⟩ : ∃ k p, k < 4 ∧ p < 512 ∧ i = 512 * k + p := ⟨i / 512, i % 512, by omega, Nat.mod_lt _ (by decide), (Nat.div_add_mod _ _).symm⟩
  simp only [cols4_at a b d e _ k p hp]
  interval_cases k
  · rw [if_pos (by omega), if_pos (by omega), if_pos (by omega), if_pos (by omega), if_pos (by omega), if_pos (by omega)]
    simp [sel4]
  · rw [if_pos (by omega), if_pos (by omega), if_pos (by omega), if_pos (by omega), if_neg (by omega), if_neg (by omega),
      show 512 * 1 + p - 512 = p by omega]
    simp [sel4]
  · rw [if_pos (by omega), if_pos (by omega), if_neg (by omega), if_neg (by omega), if_neg (by omega),
      show 512 * 2 + p - 1024 = p by omega]
    simp [sel4]
  · rw [if_neg (by omega), if_neg (by omega), if_neg (by omega), if_neg (by omega),
      show 512 * 3 + p - 1536 = p by omega]
    simp [sel4]

/-- The gradient at the weights, with a block of rows added. -/
theorem pay3 (a b d e x s : ℕ → ℕ → EReal) : k0_pay3 (F := Ideal) (X2 192 512 a) (X2 192 512 b) (k0_pay8 (X2 192 1024 x))
      (k0_pay12 (X2 192 512 d) (X2 192 512 e) (X2 192 1024 x)) (X3 2048 1024 s)
    = X3 2048 1024 fun i j => s i j + ∑ q ∈ Finset.range 192, cols4 a b d e q i * x q j := by
  have G (a : ℕ → ℕ → EReal) : Ideal.matmul dot_S192x512_S192x1024_S512x1024_0_0_1_1_n_n (X2 192 512 a)
      (truncf (F := Ideal) (φ := .f32) .bf16 (shapeCast S192x1024 (X2 192 1024 x) shapeCasts_S192x1024_S192x1024) bitsLt_bf16_f32)
      (constant (F := Ideal) S512x1024 .f32 0x00000000#32) = X2 512 1024 fun i j => ∑ q ∈ Finset.range 192, a q i * x q j := by
    simp only [cast_same, truncf_X2, zero_X2, dot00]
  simp only [k0_pay3, k0_pay8, k0_pay9, k0_pay12, truncf_X2, matmul_ideal, lit, lit_zero, broadcast_X2, unstack_X3]
  rw [concat_X2 rfl (G e), concat_X2 (concat_X2 rfl (G d) _) rfl, concat_X2 (concat_X2 rfl (G b) _) rfl, concat_X2 (G a) rfl]
  simp only [addf_X2, stack_X2, lit_zero]
  exact X3_congr fun i hi j _ => congrArg (s i j + ·) (padded a b d e x i j hi)
/-- The gradient at the weights before the first block. -/
theorem pay4 : k0_pay4 (F := Ideal) = X3 2048 1024 fun _ _ => 0 := by
  simp only [k0_pay4, lit, lit_zero, broadcast_X2, stack_X2, EReal.coe_zero]

/-! ## The grid -/

/-- The point `t` works on the `t`-th block of 192 rows from the end. -/
theorem idx : ∀ t : Fin grid0.N, (win0_0.index t 0 = 10 - t.val ∧ win0_0.index t 1 = 0)
    ∧ (win0_1.index t 0 = 10 - t.val ∧ win0_1.index t 1 = 0)
    ∧ (win0_2.index t 0 = 10 - t.val ∧ win0_2.index t 1 = 0)
    ∧ (win0_3.index t 0 = 10 - t.val ∧ win0_3.index t 1 = 0)
    ∧ (win0_4.index t 0 = 10 - t.val ∧ win0_4.index t 1 = 0)
    ∧ (win0_6.index t 0 = 10 - t.val ∧ win0_6.index t 1 = 0)
    ∧ (win0_7.index t 0 = 10 - t.val ∧ win0_7.index t 1 = 0)
    ∧ (win0_8.index t 0 = 10 - t.val ∧ win0_8.index t 1 = 0)
    ∧ (win0_9.index t 0 = 10 - t.val ∧ win0_9.index t 1 = 0)
    ∧ (win0_5.index t 0 = 0 ∧ win0_5.index t 1 = 0) := by decide +kernel

variable {m : (ℓ : Loc nD τ Cert.Kernel3Ideal.sig) → Buf (Elt Ideal) ℓ} {c : Dev nD} {a b d e w x : ℕ → ℕ → EReal}

/-- The arguments, as functions of natural-number indices. -/
structure Args (m : (ℓ : Loc nD τ Cert.Kernel3Ideal.sig) → Buf (Elt Ideal) ℓ) (c : Dev nD) (a b d e w x : ℕ → ℕ → EReal) : Prop where
  a : m ((c : Thread nD τ).loc main_arg0) = X2 2112 512 a
  b : m ((c : Thread nD τ).loc main_arg1) = X2 2112 512 b
  d : m ((c : Thread nD τ).loc main_arg2) = X2 2112 512 d
  e : m ((c : Thread nD τ).loc main_arg3) = X2 2112 512 e
  w : m ((c : Thread nD τ).loc main_arg4) = X2 2048 1024 w
  x : m ((c : Thread nD τ).loc main_arg5) = X2 2112 1024 x

section Reads
variable (h : Args m c a b d e w x)
include h

/-- The block of rows of the first head. -/
theorem blk0 (t : Fin cfg0.N) : iblk (F := Ideal) m c 0 t = X2 192 512 fun i j => a (192 * (10 - t.val) + i) j := by
  obtain ⟨⟨i00, i01⟩, -⟩ := idx t
  funext p
  unfold iblk
  rw [show V m c (Pipeline.arrRef spec0 0) = X2 2112 512 a from (V_main_arg0 m c).trans h.a]
  blk_simp
  simp only [X2]
  blk_simp
  rw [i00, i01, Nat.zero_mul, Nat.zero_add, Nat.mul_comm 192]
/-- The block of rows of the second head. -/
theorem blk1 (t : Fin cfg0.N) : iblk (F := Ideal) m c 1 t = X2 192 512 fun i j => b (192 * (10 - t.val) + i) j := by
  obtain ⟨-, ⟨i00, i01⟩, -⟩ := idx t
  funext p
  unfold iblk
  rw [show V m c (Pipeline.arrRef spec0 1) = X2 2112 512 b from (V_main_arg1 m c).trans h.b]
  blk_simp
  simp only [X2]
  blk_simp
  rw [i00, i01, Nat.zero_mul, Nat.zero_add, Nat.mul_comm 192]
/-- The block of rows of the third head. -/
theorem blk2 (t : Fin cfg0.N) : iblk (F := Ideal) m c 2 t = X2 192 512 fun i j => d (192 * (10 - t.val) + i) j := by
  obtain ⟨-, -, ⟨i00, i01⟩, -⟩ := idx t
  funext p
  unfold iblk
  rw [show V m c (Pipeline.arrRef spec0 2) = X2 2112 512 d from (V_main_arg2 m c).trans h.d]
  blk_simp
  simp only [X2]
  blk_simp
  rw [i00, i01, Nat.zero_mul, Nat.zero_add, Nat.mul_comm 192]
/-- The block of rows of the fourth head. -/
theorem blk3 (t : Fin cfg0.N) : iblk (F := Ideal) m c 3 t = X2 192 512 fun i j => e (192 * (10 - t.val) + i) j := by
  obtain ⟨-, -, -, ⟨i00, i01⟩, -⟩ := idx t
  funext p
  unfold iblk
  rw [show V m c (Pipeline.arrRef spec0 3) = X2 2112 512 e from (V_main_arg3 m c).trans h.e]
  blk_simp
  simp only [X2]
  blk_simp
  rw [i00, i01, Nat.zero_mul, Nat.zero_add, Nat.mul_comm 192]
/-- The block of rows of the gradient. -/
theorem blk4 (t : Fin cfg0.N) : iblk (F := Ideal) m c 4 t = X2 192 1024 fun i j => x (192 * (10 - t.val) + i) j := by
  obtain ⟨-, -, -, -, ⟨i00, i01⟩, -⟩ := idx t
  funext p
  unfold iblk
  rw [show V m c (Pipeline.arrRef spec0 4) = X2 2112 1024 x from (V_main_arg5 m c).trans h.x]
  blk_simp
  simp only [X2]
  blk_simp
  rw [i00, i01, Nat.zero_mul, Nat.zero_add, Nat.mul_comm 192]
/-- The weights, whole at every point. -/
theorem blk5 (t : Fin cfg0.N) : iblk (F := Ideal) m c 5 t = X2 2048 1024 w := by
  obtain ⟨-, -, -, -, -, -, -, -, -, i00, i01⟩ := idx t
  have e : V m c main_v0 = X2 2048 1024 w := by
    entry_read
    rw [show m (c, main_arg4) = X2 2048 1024 w from h.w]; rfl
  funext p
  unfold iblk
  rw [show V m c (Pipeline.arrRef spec0 5) = X2 2048 1024 w from e]
  blk_simp
  simp only [X2]
  blk_simp
  simp only [i00, i01, Nat.zero_mul, Nat.zero_add]

/-- After every point: the gradients of the heads in its block of rows. -/
theorem heads (n : ℕ) (hn : n < cfg0.N) :
(outsAt0 (F := Ideal) m c n hn).1 = X2 192 512 (fun i j => ∑ q ∈ Finset.range 1024, x (192 * (10 - n) + i) q * w j q)
    ∧ (outsAt0 (F := Ideal) m c n hn).2.1 = X2 192 512 (fun i j => ∑ q ∈ Finset.range 1024, x (192 * (10 - n) + i) q * w (512 + j) q)
    ∧ (outsAt0 (F := Ideal) m c n hn).2.2.1 = X2 192 512 (fun i j => ∑ q ∈ Finset.range 1024, x (192 * (10 - n) + i) q * w (1024 + j) q)
    ∧ (outsAt0 (F := Ideal) m c n hn).2.2.2.1 = X2 192 512 (fun i j => ∑ q ∈ Finset.range 1024, x (192 * (10 - n) + i) q * w (1536 + j) q) := by
  by_cases h0 : n % 11 = 0
  · rw [outsAt0_A m c ⟨n, hn⟩ h0]
    refine ⟨?_, ?_, ?_, ?_⟩
    · frame_out
      rw [blk4 h, blk5 h, pay2]
    · frame_out
      rw [blk4 h, blk5 h, pay1]
    · frame_out
      rw [blk4 h, blk5 h, pay11]
    · frame_out
      rw [blk4 h, blk5 h, pay10]
  · rw [outsAt0_B m c ⟨n, hn⟩ h0]
    refine ⟨?_, ?_, ?_, ?_⟩
    · frame_out
      rw [blk4 h, blk5 h, pay2]
    · frame_out
      rw [blk4 h, blk5 h, pay1]
    · frame_out
      rw [blk4 h, blk5 h, pay11]
    · frame_out
      rw [blk4 h, blk5 h, pay10]

/-- After every point: the gradient at the weights summed over the blocks so far. -/
theorem acc_all (n : ℕ) (hn : n < cfg0.N) :
    (outsAt0 (F := Ideal) m c n hn).2.2.2.2 = X3 2048 1024 (fun i j => ∑ t ∈ Finset.range (n + 1), ∑ q ∈ Finset.range 192,
        cols4 a b d e (192 * (10 - t) + q) i * x (192 * (10 - t) + q) j) := by
  have h11 : n < 11 := hn
  induction n with
  | zero =>
    rw [outsAt0_A m c ⟨0, hn⟩ rfl]
    frame_out
    rw [pay4, blk0 h, blk1 h, blk2 h, blk3 h, blk4 h, pay3]
    simp only [cols4_rows]
    exact X3_congr fun i _ j _ => (zero_add _).trans (Finset.sum_range_one (fun t => ∑ q ∈ Finset.range 192,
      cols4 a b d e (192 * (10 - t) + q) i * x (192 * (10 - t) + q) j)).symm
  | succ n ih =>
    have s := ih (Nat.lt_of_succ_lt hn) (by omega)
    rw [outsAt0_B m c ⟨n + 1, hn⟩ (by show ¬ (n + 1) % 11 = 0; omega)]
    frame_out
    simp only [Nat.add_sub_cancel, s]
    rw [blk0 h, blk1 h, blk2 h, blk3 h, blk4 h, pay3]
    simp only [cols4_rows]
    exact X3_congr fun i _ j _ => (Finset.sum_range_succ _ _).symm

/-- The last point. -/
def last : Fin cfg0.N := ⟨10, by decide⟩

/-- The gradient at the weights, after the last point. -/
theorem final10 : (dats (F := Ideal) m 0 c).arrAt 10 cfg0.N
    = X3 2048 1024 fun i j => ∑ q ∈ Finset.range 2112, cols4 a b d e q i * x q j := by
  refine (dats m 0 c).arrAt_eq_of_after_last 10 last (by decide +kernel) _ fun j => ?_
  blk_simp
  rw [after0_10, acc_all h _ last.isLt]
  simp only [X3]
  refine (Finset.sum_range_reflect (fun t => ∑ q ∈ Finset.range 192, cols4 a b d e (192 * t + q) (j 1).val * x (192 * t + q) (j 2).val) 11).trans ?_
  exact sum_blocks (fun q => cols4 a b d e q (j 1).val * x q (j 2).val) 192 11

/-- The gradient of the first head, after the last point. -/
theorem final6 : (dats (F := Ideal) m 0 c).arrAt 6 cfg0.N = X2 2112 512 fun i j => ∑ q ∈ Finset.range 1024, x i q * w j q := by
  refine (dats m 0 c).arrAt_eq_of_covers 6 _ (by decide +kernel) fun t _ p => ?_
  obtain ⟨-, -, -, -, -, ⟨i00, i01⟩, -⟩ := idx t
  blk_simp
  rw [after0_6, (heads h t.val t.isLt).1]
  simp only [X2]
  blk_simp
  rw [i00, i01, Nat.mul_comm 192, Nat.zero_mul, Nat.zero_add]
/-- The gradient of the second head, after the last point. -/
theorem final7 : (dats (F := Ideal) m 0 c).arrAt 7 cfg0.N = X2 2112 512 fun i j => ∑ q ∈ Finset.range 1024, x i q * w (512 + j) q := by
  refine (dats m 0 c).arrAt_eq_of_covers 7 _ (by decide +kernel) fun t _ p => ?_
  obtain ⟨-, -, -, -, -, -, ⟨i00, i01⟩, -⟩ := idx t
  blk_simp
  rw [after0_7, (heads h t.val t.isLt).2.1]
  simp only [X2]
  blk_simp
  rw [i00, i01, Nat.mul_comm 192, Nat.zero_mul, Nat.zero_add]
/-- The gradient of the third head, after the last point. -/
theorem final8 : (dats (F := Ideal) m 0 c).arrAt 8 cfg0.N = X2 2112 512 fun i j => ∑ q ∈ Finset.range 1024, x i q * w (1024 + j) q := by
  refine (dats m 0 c).arrAt_eq_of_covers 8 _ (by decide +kernel) fun t _ p => ?_
  obtain ⟨-, -, -, -, -, -, -, ⟨i00, i01⟩, -⟩ := idx t
  blk_simp
  rw [after0_8, (heads h t.val t.isLt).2.2.1]
  simp only [X2]
  blk_simp
  rw [i00, i01, Nat.mul_comm 192, Nat.zero_mul, Nat.zero_add]
/-- The gradient of the fourth head, after the last point. -/
theorem final9 : (dats (F := Ideal) m 0 c).arrAt 9 cfg0.N = X2 2112 512 fun i j => ∑ q ∈ Finset.range 1024, x i q * w (1536 + j) q := by
  refine (dats m 0 c).arrAt_eq_of_covers 9 _ (by decide +kernel) fun t _ p => ?_
  obtain ⟨-, -, -, -, -, -, -, -, ⟨i00, i01⟩, -⟩ := idx t
  blk_simp
  rw [after0_9, (heads h t.val t.isLt).2.2.2]
  simp only [X2]
  blk_simp
  rw [i00, i01, Nat.mul_comm 192, Nat.zero_mul, Nat.zero_add]

end Reads

/-! ## The reference -/

/-- The frame of the reference. -/
theorem frameRI : Cert.quiescent_Reference3Ideal := by
  intro m ρ _
  hlo_run
  · exact fun _ => ⟨trivial, trivial, trivial, trivial, trivial, trivial⟩
  · funext g
    rcases g with ⟨t, s⟩
    cases s with
    | reg s => exact s.elim0
    | dma s => exact s.elim0

/-- The gradient at the joined heads, cut at a head. -/
theorem cut (x w : ℕ → ℕ → EReal) (o : ℕ) (h : (⟨2, ![2112, 2048]⟩ : Shape).Slices ![0, o] ⟨2, ![2112, 512]⟩) :
    extractStridedSlice (⟨2, ![2112, 512]⟩ : Shape) ![0, o] (Host.dotGeneral (F := Ideal) (φ₁ := .f32) (φ₂ := .f32)
      Cert.Reference3Ideal.dot_S2112x1024_S2048x1024_S2112x2048_1_1_0_0_n_n none (X2 2112 1024 x) (X2 2048 1024 w)) h
      = X2 2112 512 fun i j => ∑ q ∈ Finset.range 1024, x i q * w (o + j) q := by
  rw [show Host.dotGeneral (F := Ideal) (φ₁ := .f32) (φ₂ := .f32) Cert.Reference3Ideal.dot_S2112x1024_S2048x1024_S2112x2048_1_1_0_0_n_n none
    (X2 2112 1024 x) (X2 2048 1024 w) = _ from xdot_11 x w _, slice_X2]
  simp only [Nat.zero_add]

/-- The gradient at the weights, from the joined heads. -/
theorem joined {a b d e x : ℕ → ℕ → EReal} {A B D E : Cert.Reference3Ideal.S2112x512.Idx → EReal} (hA : A = X2 2112 512 a) (hB : B = X2 2112 512 b)
    (hD : D = X2 2112 512 d) (hE : E = X2 2112 512 e) (hb) (ht) (hc) :
    broadcastInDim Cert.Reference3Ideal.S1x2048x1024 ![1, 2] hb (transpose Cert.Reference3Ideal.S2048x1024 [1, 0]
      (Host.dotGeneral (F := Ideal) (φ₁ := .f32) (φ₂ := .f32) Cert.Reference3Ideal.dot_S2112x1024_S2112x2048_S1024x2048_0_0_1_1_n_n none (X2 2112 1024 x)
        (concatenate Cert.Reference3Ideal.S2112x2048 1 [⟨Cert.Reference3Ideal.S2112x512, A⟩, ⟨Cert.Reference3Ideal.S2112x512, B⟩,
          ⟨Cert.Reference3Ideal.S2112x512, D⟩, ⟨Cert.Reference3Ideal.S2112x512, E⟩] hc)) ht)
      = X3 2048 1024 fun i j => ∑ q ∈ Finset.range 2112, cols4 a b d e q i * x q j := by
  subst hA hB hD hE
  rw [concat4_X2, show Host.dotGeneral (F := Ideal) (φ₁ := .f32) (φ₂ := .f32) Cert.Reference3Ideal.dot_S2112x1024_S2112x2048_S1024x2048_0_0_1_1_n_n none
      (X2 2112 1024 x) (X2 2112 2048 (cols4 a b d e)) = _ from xdot_00 x (cols4 a b d e) _]
  refine (congrArg (broadcastInDim Cert.Reference3Ideal.S1x2048x1024 ![1, 2] hb) ((transpose_X2 (n := 1024) (m := 2048)
    (fun i j => ∑ q ∈ Finset.range 2112, x q i * cols4 a b d e q j) ht).trans
      (X2_congr fun i _ j _ => Finset.sum_congr rfl fun q _ => mul_comm _ _))).trans ?_
  rfl

/-- From memories agreeing on the arguments the kernel and the reference end with equal gradients. -/
theorem algebraic : Cert.algebraic_Kernel3Ideal_Reference3Ideal := by
  pair_intro
  · run_from Cert.Kernel3Ideal.Value.run_blocks m g
  · hlo_run
    all_goals
      obtain ⟨a, ha⟩ := exists_X2 (m (c.tc.loc main_arg0))
      obtain ⟨b, hb⟩ := exists_X2 (m (c.tc.loc main_arg1))
      obtain ⟨d, hd⟩ := exists_X2 (m (c.tc.loc main_arg2))
      obtain ⟨e, he⟩ := exists_X2 (m (c.tc.loc main_arg3))
      obtain ⟨w, hw⟩ := exists_X2 (m (c.tc.loc main_arg4))
      obtain ⟨x, hx⟩ := exists_X2 (m (c.tc.loc main_arg5))
      have h : Args m c a b d e w x := ⟨ha, hb, hd, he, hw, hx⟩
    · rw [final6 h, hw, hx]
      exact (cut x w 0 _).trans (X2_congr fun i _ j _ => by rw [Nat.zero_add])
    · rw [final7 h, hw, hx]
      exact cut x w 512 _
    · rw [final8 h, hw, hx]
      exact cut x w 1024 _
    · rw [final9 h, hw, hx]
      exact cut x w 1536 _
    · rw [final10 h, hx]
      exact joined ((hagree c).1.trans ha) ((hagree c).2.1.trans hb) ((hagree c).2.2.1.trans hd) ((hagree c).2.2.2.1.trans he) _ _ _

end Cert.MixOut

end
-- ==== Proof.Ffn.lean ====
/- The feed-forward half step: its rows, accumulated over the tiles of the hidden columns, are the reference's. -/
module

public import proofs.«01_k».proof.Proof.Ext
public import proofs.«01_k».proof.Proof.Gen.Kernel4Ideal.Value
public import proofs.«01_k».proof.Proof.Gen.Reference4Ideal
public import proofs.«01_k».proof.Defs
public import Idealize.ShloMosaic.Lib.Claim

@[expose] public section

set_option maxRecDepth 16384

noncomputable section

namespace Cert.Ffn

open Idealize.ShloMosaic Idealize.ShloMosaic.TcCoe Idealize.SL.Sem
open Cert.Emb Cert.Kernel4Ideal Cert.Kernel4Ideal.Gen

/-- One tile of hidden columns: what it adds to the accumulator. -/
theorem pay2 (x g u a d : ℕ → ℕ → EReal) :
    k0_pay2 (F := Ideal) (X2 1056 1024 x) (X2 1024 256 g) (X2 1024 256 u) (X2 1056 1024 a) (X2 256 1024 d)
      = X2 1056 1024 fun i j => a i j + ∑ p ∈ Finset.range 256,
          (∑ q ∈ Finset.range 1024, x i q * g q p) * Ideal.logistic (∑ q ∈ Finset.range 1024, x i q * g q p)
            * (∑ q ∈ Finset.range 1024, x i q * u q p) * d p j := by
  simp only [k0_pay2, cast_same, zero_X2, matmul_ideal]
  rw [show Ideal.matmul dot_S1056x1024_S1024x256_S1056x256_1_0_0_1_n_n (X2 1056 1024 x) (X2 1024 256 g) (X2 1056 256 fun _ _ => 0) = _ from xdot_10 x g _,
    show Ideal.matmul dot_S1056x1024_S1024x256_S1056x256_1_0_0_1_n_n (X2 1056 1024 x) (X2 1024 256 u) (X2 1056 256 fun _ _ => 0) = _ from xdot_10 x u _,
    logistic_X2, mulf_X2, mulf_X2, truncf_X2,
    show Ideal.matmul dot_S1056x256_S256x1024_S1056x1024_1_0_0_1_n_n (X2 1056 256 _) (X2 256 1024 d) (X2 1056 1024 fun _ _ => 0) = _ from xdot_10 _ d _, addf_X2]
/-- The accumulator before the first tile. -/
theorem pay1 : k0_pay1 (F := Ideal) = X2 1056 1024 fun _ _ => 0 := by
  simp only [k0_pay1, cast_same, lit, lit_zero]; rfl
/-- The rows written after the last tile. -/
theorem pay3 (h a : ℕ → ℕ → EReal) : k0_pay3 (F := Ideal) (X2 1056 1024 h) (X2 1056 1024 a)
    = X2 1056 1024 fun i j => h i j + ((1 / 2 : ℝ) : EReal) * a i j := by
  simp only [k0_pay3, lit, lit_half, broadcast_X2, mulf_X2, addf_X2]

/-- What is stored whole in the scratch is read back from it. -/
theorem read_scratch (hw : (Memref.whole cc0_scratch0).IsWhole) (y : Vec Ideal S1056x1024 .f32) :
    View.read (Elt Ideal) (View.whole cc0_scratch0) (hw.unread y) = y := hw.read_unread y

/-- The point `t` works on the block `t / 11` of 1056 rows and the tile `t % 11` of 256 hidden columns. -/
theorem idx : ∀ t : Fin grid0.N, (win0_0.index t 0 = t.val / 11 ∧ win0_0.index t 1 = 0) ∧ (win0_1.index t 0 = t.val / 11 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = t.val / 11 ∧ win0_5.index t 1 = 0) := by decide +kernel

variable {m : (ℓ : Loc nD τ Cert.Kernel4Ideal.sig) → Buf (Elt Ideal) ℓ} {c : Dev nD} {r x g u d : ℕ → ℕ → EReal}

/-- The arguments, as functions of natural-number indices. -/
structure Args (m : (ℓ : Loc nD τ Cert.Kernel4Ideal.sig) → Buf (Elt Ideal) ℓ) (c : Dev nD) (r x g u d : ℕ → ℕ → EReal) : Prop where
  r : m ((c : Thread nD τ).loc main_arg0) = X2 2112 1024 r
  x : m ((c : Thread nD τ).loc main_arg1) = X2 2112 1024 x
  g : m ((c : Thread nD τ).loc main_arg2) = X2 1024 2816 g
  u : m ((c : Thread nD τ).loc main_arg3) = X2 1024 2816 u
  d : m ((c : Thread nD τ).loc main_arg4) = X2 2816 1024 d

/-- What the hidden column `p` adds to the element at row `i` and column `j`. -/
def term (x g u d : ℕ → ℕ → EReal) (i j p : ℕ) : EReal :=
  (∑ q ∈ Finset.range 1024, x i q * g q p) * Ideal.logistic (∑ q ∈ Finset.range 1024, x i q * g q p)
    * (∑ q ∈ Finset.range 1024, x i q * u q p) * d p j

section Reads
variable (h : Args m c r x g u d)
include h

/-- The rows of the residual. -/
theorem blk0 (t : Fin cfg0.N) : iblk (F := Ideal) m c 0 t = X2 1056 1024 fun i j => r (1056 * (t.val / 11) + i) j := by
  obtain ⟨⟨i00, i01⟩, -⟩ := idx t
  funext p
  unfold iblk
  rw [show V m c (Pipeline.arrRef spec0 0) = X2 2112 1024 r from (V_main_arg0 m c).trans h.r]
  blk_simp
  simp only [X2]
  blk_simp
  rw [i00, i01, Nat.zero_mul, Nat.zero_add, Nat.mul_comm 1056]
/-- The rows of the normalised input. -/
theorem blk1 (t : Fin cfg0.N) : iblk (F := Ideal) m c 1 t = X2 1056 1024 fun i j => x (1056 * (t.val / 11) + i) j := by
  obtain ⟨-, ⟨i00, i01⟩, -⟩ := idx t
  have e : V m c main_v0 = X2 2112 1024 x := by
    entry_read
    rw [show m (c, main_arg1) = X2 2112 1024 x from h.x]; rfl
  funext p
  unfold iblk
  rw [show V m c (Pipeline.arrRef spec0 1) = X2 2112 1024 x from e]
  blk_simp
  simp only [X2]
  blk_simp
  rw [i00, i01, Nat.zero_mul, Nat.zero_add, Nat.mul_comm 1056]
/-- The tile of the gate's weights. -/
theorem blk2 (t : Fin cfg0.N) : iblk (F := Ideal) m c 2 t = X2 1024 256 fun i j => g i (256 * (t.val % 11) + j) := by
  obtain ⟨-, -, ⟨i00, i01⟩, -⟩ := idx t
  have e : V m c main_v1 = X2 1024 2816 g := by
    entry_read
    rw [show m (c, main_arg2) = X2 1024 2816 g from h.g]; rfl
  funext p
  unfold iblk
  rw [show V m c (Pipeline.arrRef spec0 2) = X2 1024 2816 g from e]
  blk_simp
  simp only [X2]
  blk_simp
  rw [i00, i01, Nat.zero_mul, Nat.zero_add, Nat.mul_comm 256]
/-- The tile of the other factor's weights. -/
theorem blk3 (t : Fin cfg0.N) : iblk (F := Ideal) m c 3 t = X2 1024 256 fun i j => u i (256 * (t.val % 11) + j) := by
  obtain ⟨-, -, -, ⟨i00, i01⟩, -⟩ := idx t
  have e : V m c main_v2 = X2 1024 2816 u := by
    entry_read
    rw [show m (c, main_arg3) = X2 1024 2816 u from h.u]; rfl
  funext p
  unfold iblk
  rw [show V m c (Pipeline.arrRef spec0 3) = X2 1024 2816 u from e]
  blk_simp
  simp only [X2]
  blk_simp
  rw [i00, i01, Nat.zero_mul, Nat.zero_add, Nat.mul_comm 256]
/-- The tile of the output weights. -/
theorem blk4 (t : Fin cfg0.N) : iblk (F := Ideal) m c 4 t = X2 256 1024 fun i j => d (256 * (t.val % 11) + i) j := by
  obtain ⟨-, -, -, -, ⟨i00, i01⟩, -⟩ := idx t
  have e : V m c main_v3 = X2 2816 1024 d := by
    entry_read
    rw [show m (c, main_arg4) = X2 2816 1024 d from h.d]; rfl
  funext p
  unfold iblk
  rw [show V m c (Pipeline.arrRef spec0 4) = X2 2816 1024 d from e]
  blk_simp
  simp only [X2]
  blk_simp
  rw [i00, i01, Nat.zero_mul, Nat.zero_add, Nat.mul_comm 256]

/-- The accumulator after a point: the terms of the tiles so far. -/
theorem acc_all (n : ℕ) (hn : n < cfg0.N) :
    (outsAt0 (F := Ideal) m c n hn).2 = X2 1056 1024 (fun i j => ∑ s ∈ Finset.range (n % 11 + 1), ∑ p ∈ Finset.range 256,
        term x g u d (1056 * (n / 11) + i) j (256 * s + p)) := by
  have h22 : n < 22 := hn
  induction n with
  | zero =>
    rw [outsAt0_A m c ⟨0, hn⟩ rfl (by simp)]
    frame_out
    rw [pay1, blk1 h, blk2 h, blk3 h, blk4 h, pay2]
    exact X2_congr fun i _ j _ => (zero_add _).trans (Finset.sum_range_one (fun s => ∑ p ∈ Finset.range 256, term x g u d (1056 * (0 / 11) + i) j (256 * s + p))).symm
  | succ n ih =>
    by_cases h0 : (n + 1) % 11 = 0
    · rw [outsAt0_A m c ⟨n + 1, hn⟩ h0 (by show ¬ (n + 1) % 11 = 10; omega)]
      frame_out
      rw [pay1, blk1 h, blk2 h, blk3 h, blk4 h, pay2]
      rw [show (⟨n + 1, hn⟩ : Fin cfg0.N).val % 11 = 0 from h0]
      exact X2_congr fun i _ j _ => (zero_add _).trans (Finset.sum_range_one (fun s => ∑ p ∈ Finset.range 256, term x g u d (1056 * ((n + 1) / 11) + i) j (256 * s + p))).symm
    · have e := ih (Nat.lt_of_succ_lt hn) (by omega)
      have e1 : (n + 1) / 11 = n / 11 := by omega
      have e2 : (n + 1) % 11 = n % 11 + 1 := by omega
      by_cases h1 : (n + 1) % 11 = 10
      · rw [outsAt0_C m c ⟨n + 1, hn⟩ h0 h1]
        frame_out
        simp only [Nat.add_sub_cancel, e]
        rw [read_scratch, blk1 h, blk2 h, blk3 h, blk4 h, pay2]
        simp only [e1, e2]
        exact X2_congr fun i _ j _ => (Finset.sum_range_succ _ _).symm
      · rw [outsAt0_B m c ⟨n + 1, hn⟩ h0 h1]
        frame_out
        simp only [Nat.add_sub_cancel, e]
        rw [read_scratch, blk1 h, blk2 h, blk3 h, blk4 h, pay2]
        simp only [e1, e2]
        exact X2_congr fun i _ j _ => (Finset.sum_range_succ _ _).symm

/-- The rows a point writes that works on the last tile. -/
theorem out_all (n : ℕ) (hn : n < cfg0.N) (h1 : n % 11 = 10) :
    (outsAt0 (F := Ideal) m c n hn).1 = X2 1056 1024 (fun i j => r (1056 * (n / 11) + i) j + ((1 / 2 : ℝ) : EReal)
      * ∑ p ∈ Finset.range 2816, term x g u d (1056 * (n / 11) + i) j p) := by
  have h22 : n < 22 := hn
  obtain ⟨k, rfl⟩ : ∃ k, n = k + 1 := ⟨n - 1, by omega⟩
  have e := acc_all h k (Nat.lt_of_succ_lt hn)
  have e1 : (k + 1) / 11 = k / 11 := by omega
  have e2 : k % 11 = 9 := by omega
  rw [outsAt0_C m c ⟨k + 1, hn⟩ (by show ¬ (k + 1) % 11 = 0; omega) h1]
  frame_out
  simp only [Nat.add_sub_cancel, e]
  rw [read_scratch, blk0 h, blk1 h, blk2 h, blk3 h, blk4 h, pay2, pay3]
  simp only [e1, e2, h1]
  refine X2_congr fun i _ j _ => ?_
  rw [← sum_blocks (fun p => term x g u d (1056 * (k / 11) + i) j p) 256 11, Finset.sum_range_succ _ 10]
  rfl

/-- The result, after the last point. -/
theorem final5 : (dats (F := Ideal) m 0 c).arrAt 5 cfg0.N
    = X2 2112 1024 fun i j => r i j + ((1 / 2 : ℝ) : EReal) * ∑ p ∈ Finset.range 2816, term x g u d i j p := by
  refine (dats m 0 c).arrAt_eq_of_covers 5 _ (by decide +kernel) fun t ht p => ?_
  have h1 : t.val % 11 = 10 := (flush0_5 t).mp ht
  obtain ⟨-, -, -, -, -, i00, i01⟩ := idx t
  blk_simp
  rw [after0_5, out_all h t.val t.isLt h1]
  simp only [X2]
  blk_simp
  rw [i00, i01, Nat.mul_comm 1056, Nat.zero_mul, Nat.zero_add]

end Reads

/-- The frame of the reference. -/
theorem frameRI : Cert.quiescent_Reference4Ideal := by
  intro m ρ _
  hlo_run
  · exact fun _ => ⟨trivial, trivial, trivial, trivial, trivial⟩
  · funext g
    rcases g with ⟨t, s⟩
    cases s with
    | reg s => exact s.elim0
    | dma s => exact s.elim0

/-- The reference's silu: `v * (1 / (1 + exp (-v)))`. -/
theorem hsilu_X2 (f : ℕ → ℕ → EReal) (hb) :
    mulf (F := Ideal) (φ := .f32) (X2 2112 2816 f) (Host.divf (F := Ideal) (φ := .f32)
      (broadcastInDim Cert.Reference4Ideal.S2112x2816 ![] hb (constant (F := Ideal) Cert.Reference4Ideal.S_ .f32 0x3F800000#32))
      (addf (F := Ideal) (φ := .f32)
        (broadcastInDim Cert.Reference4Ideal.S2112x2816 ![] hb (constant (F := Ideal) Cert.Reference4Ideal.S_ .f32 0x3F800000#32))
        (Host.exp (F := Ideal) (φ := .f32) (Host.negf (F := Ideal) (φ := .f32) (X2 2112 2816 f)))))
      = X2 2112 2816 fun i j => f i j * Ideal.logistic (f i j) := by
  rw [constant_lit, lit_one]; rfl
/-- The reference's hidden columns. -/
theorem hidden (x g u : ℕ → ℕ → EReal) (hb) :
    mulf (F := Ideal) (φ := .f32) (mulf (F := Ideal) (φ := .f32)
      (Host.dotGeneral (F := Ideal) (φ₁ := .f32) (φ₂ := .f32) Cert.Reference4Ideal.dot_S2112x1024_S1024x2816_S2112x2816_1_0_0_1_n_n none (X2 2112 1024 x) (X2 1024 2816 g))
      (Host.divf (F := Ideal) (φ := .f32)
      (broadcastInDim Cert.Reference4Ideal.S2112x2816 ![] hb (constant (F := Ideal) Cert.Reference4Ideal.S_ .f32 0x3F800000#32))
      (addf (F := Ideal) (φ := .f32)
        (broadcastInDim Cert.Reference4Ideal.S2112x2816 ![] hb (constant (F := Ideal) Cert.Reference4Ideal.S_ .f32 0x3F800000#32))
        (Host.exp (F := Ideal) (φ := .f32) (Host.negf (F := Ideal) (φ := .f32)
          (Host.dotGeneral (F := Ideal) (φ₁ := .f32) (φ₂ := .f32) Cert.Reference4Ideal.dot_S2112x1024_S1024x2816_S2112x2816_1_0_0_1_n_n none (X2 2112 1024 x) (X2 1024 2816 g)))))))
      (Host.dotGeneral (F := Ideal) (φ₁ := .f32) (φ₂ := .f32) Cert.Reference4Ideal.dot_S2112x1024_S1024x2816_S2112x2816_1_0_0_1_n_n none (X2 2112 1024 x) (X2 1024 2816 u))
      = X2 2112 2816 fun i p => (∑ q ∈ Finset.range 1024, x i q * g q p) * Ideal.logistic (∑ q ∈ Finset.range 1024, x i q * g q p)
            * (∑ q ∈ Finset.range 1024, x i q * u q p) := by
  rw [show Host.dotGeneral (F := Ideal) (φ₁ := .f32) (φ₂ := .f32) Cert.Reference4Ideal.dot_S2112x1024_S1024x2816_S2112x2816_1_0_0_1_n_n none
      (X2 2112 1024 x) (X2 1024 2816 g) = _ from xdot_10 x g _,
    show Host.dotGeneral (F := Ideal) (φ₁ := .f32) (φ₂ := .f32) Cert.Reference4Ideal.dot_S2112x1024_S1024x2816_S2112x2816_1_0_0_1_n_n none
      (X2 2112 1024 x) (X2 1024 2816 u) = _ from xdot_10 x u _, hsilu_X2, mulf_X2]
/-- The reference's product with the output weights, halved and added to the residual. -/
theorem outer (r a d : ℕ → ℕ → EReal) (hb) :
    addf (F := Ideal) (φ := .f32) (X2 2112 1024 r) (mulf (F := Ideal) (φ := .f32)
      (broadcastInDim Cert.Reference4Ideal.S2112x1024 ![] hb (constant (F := Ideal) Cert.Reference4Ideal.S_ .f32 0x3F000000#32))
      (Host.dotGeneral (F := Ideal) (φ₁ := .f32) (φ₂ := .f32) Cert.Reference4Ideal.dot_S2112x2816_S2816x1024_S2112x1024_1_0_0_1_n_n none
        (X2 2112 2816 a) (X2 2816 1024 d)))
      = X2 2112 1024 fun i j => r i j + ((1 / 2 : ℝ) : EReal) * ∑ p ∈ Finset.range 2816, a i p * d p j := by
  rw [constant_lit, lit_half, show Host.dotGeneral (F := Ideal) (φ₁ := .f32) (φ₂ := .f32) Cert.Reference4Ideal.dot_S2112x2816_S2816x1024_S2112x1024_1_0_0_1_n_n none
      (X2 2112 2816 a) (X2 2816 1024 d) = _ from xdot_10 a d _]
  rfl

/-- The whole reference. -/
theorem halved (r x g u d : ℕ → ℕ → EReal) (hb) (hb') :
    addf (F := Ideal) (φ := .f32) (X2 2112 1024 r) (mulf (F := Ideal) (φ := .f32)
      (broadcastInDim Cert.Reference4Ideal.S2112x1024 ![] hb (constant (F := Ideal) Cert.Reference4Ideal.S_ .f32 0x3F000000#32))
      (Host.dotGeneral (F := Ideal) (φ₁ := .f32) (φ₂ := .f32) Cert.Reference4Ideal.dot_S2112x2816_S2816x1024_S2112x1024_1_0_0_1_n_n none
        (mulf (F := Ideal) (φ := .f32) (mulf (F := Ideal) (φ := .f32)
      (Host.dotGeneral (F := Ideal) (φ₁ := .f32) (φ₂ := .f32) Cert.Reference4Ideal.dot_S2112x1024_S1024x2816_S2112x2816_1_0_0_1_n_n none (X2 2112 1024 x) (X2 1024 2816 g))
      (Host.divf (F := Ideal) (φ := .f32)
      (broadcastInDim Cert.Reference4Ideal.S2112x2816 ![] hb' (constant (F := Ideal) Cert.Reference4Ideal.S_ .f32 0x3F800000#32))
      (addf (F := Ideal) (φ := .f32)
        (broadcastInDim Cert.Reference4Ideal.S2112x2816 ![] hb' (constant (F := Ideal) Cert.Reference4Ideal.S_ .f32 0x3F800000#32))
        (Host.exp (F := Ideal) (φ := .f32) (Host.negf (F := Ideal) (φ := .f32)
          (Host.dotGeneral (F := Ideal) (φ₁ := .f32) (φ₂ := .f32) Cert.Reference4Ideal.dot_S2112x1024_S1024x2816_S2112x2816_1_0_0_1_n_n none (X2 2112 1024 x) (X2 1024 2816 g)))))))
      (Host.dotGeneral (F := Ideal) (φ₁ := .f32) (φ₂ := .f32) Cert.Reference4Ideal.dot_S2112x1024_S1024x2816_S2112x2816_1_0_0_1_n_n none (X2 2112 1024 x) (X2 1024 2816 u)))
        (X2 2816 1024 d)))
      = X2 2112 1024 fun i j => r i j + ((1 / 2 : ℝ) : EReal) * ∑ p ∈ Finset.range 2816, term x g u d i j p := by
  rw [hidden, outer]
  rfl

/-- From memories agreeing on the arguments the kernel and the reference end with equal rows. -/
theorem algebraic : Cert.algebraic_Kernel4Ideal_Reference4Ideal := by
  pair_intro
  · run_from Cert.Kernel4Ideal.Value.run_blocks m g
  · hlo_run
    obtain ⟨r, hr⟩ := exists_X2 (m (c.tc.loc main_arg0))
    obtain ⟨x, hx⟩ := exists_X2 (m (c.tc.loc main_arg1))
    obtain ⟨g, hg⟩ := exists_X2 (m (c.tc.loc main_arg2))
    obtain ⟨u, hu⟩ := exists_X2 (m (c.tc.loc main_arg3))
    obtain ⟨d, hd⟩ := exists_X2 (m (c.tc.loc main_arg4))
    rw [final5 (m := m) (c := c) ⟨hr, hx, hg, hu, hd⟩, hr, hx, hg, hu, hd]
    simp only [StableHlo.TRef.ofBuf_toBuf]
    exact halved r x g u d _ _

end Cert.Ffn

end
-- ==== Proof.MixIn.lean ====
/- The mixer's input projection, tile by tile, is the reference's product. -/
module

public import proofs.«01_k».proof.Proof.Ext
public import proofs.«01_k».proof.Proof.Gen.Kernel5Ideal.Value
public import proofs.«01_k».proof.Proof.Gen.Reference5Ideal
public import proofs.«01_k».proof.Defs
public import Idealize.ShloMosaic.Lib.Claim

@[expose] public section

set_option maxRecDepth 16384

noncomputable section

namespace Cert.MixIn

open Idealize.ShloMosaic Idealize.ShloMosaic.TcCoe Idealize.SL.Sem
open Cert.Emb Cert.Kernel5Ideal Cert.Kernel5Ideal.Gen

/-- One tile of the product. -/
theorem pay1 (x w : ℕ → ℕ → EReal) : k0_pay1 (F := Ideal) (X2 2112 1024 x) (X2 1024 256 w)
    = X2 2112 256 fun i j => ∑ q ∈ Finset.range 1024, x i q * w q j := by
  simp only [k0_pay1, cast_same, zero_X2, matmul_ideal]
  exact xdot_10 x w _

/-- The point `t` works on the `t`-th tile of 256 columns. -/
theorem idx : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val) := by decide +kernel

variable {m : (ℓ : Loc nD τ Cert.Kernel5Ideal.sig) → Buf (Elt Ideal) ℓ} {c : Dev nD} {x w : ℕ → ℕ → EReal}

/-- The arguments, as functions of natural-number indices. -/
structure Args (m : (ℓ : Loc nD τ Cert.Kernel5Ideal.sig) → Buf (Elt Ideal) ℓ) (c : Dev nD) (x w : ℕ → ℕ → EReal) : Prop where
  x : m ((c : Thread nD τ).loc main_arg0) = X2 2112 1024 x
  w : m ((c : Thread nD τ).loc main_arg1) = X2 1024 5376 w

section Reads
variable (h : Args m c x w)
include h

/-- The rows, whole at every point. -/
theorem blk0 (t : Fin cfg0.N) : iblk (F := Ideal) m c 0 t = X2 2112 1024 x := by
  obtain ⟨⟨i00, i01⟩, -⟩ := idx t
  have e : V m c main_v0 = X2 2112 1024 x := by
    entry_read
    rw [show m (c, main_arg0) = X2 2112 1024 x from h.x]; rfl
  funext p
  unfold iblk
  rw [show V m c (Pipeline.arrRef spec0 0) = X2 2112 1024 x from e]
  blk_simp
  simp only [X2]
  blk_simp
  simp only [i00, i01, Nat.zero_mul, Nat.zero_add]
/-- The tile of the weights. -/
theorem blk1 (t : Fin cfg0.N) : iblk (F := Ideal) m c 1 t = X2 1024 256 fun i j => w i (256 * t.val + j) := by
  obtain ⟨-, ⟨i00, i01⟩, -⟩ := idx t
  have e : V m c main_v1 = X2 1024 5376 w := by
    entry_read
    rw [show m (c, main_arg1) = X2 1024 5376 w from h.w]; rfl
  funext p
  unfold iblk
  rw [show V m c (Pipeline.arrRef spec0 1) = X2 1024 5376 w from e]
  blk_simp
  simp only [X2]
  blk_simp
  rw [i00, i01, Nat.zero_mul, Nat.zero_add, Nat.mul_comm 256]

/-- The product, after the last point. -/
theorem final2 : (dats (F := Ideal) m 0 c).arrAt 2 cfg0.N
    = X2 2112 5376 fun i j => ∑ q ∈ Finset.range 1024, x i q * w q j := by
  refine (dats m 0 c).arrAt_eq_of_covers 2 _ (by decide +kernel) fun t _ p => ?_
  obtain ⟨-, -, i00, i01⟩ := idx t
  blk_simp
  have e : (dats (F := Ideal) m 0 c).after 2 t = X2 2112 256 fun i j => ∑ q ∈ Finset.range 1024, x i q * w q (256 * t.val + j) := by
    rw [after0_2]
    frame_out
    rw [blk0 h, blk1 h, pay1]
  rw [e]
  simp only [X2]
  blk_simp
  rw [i00, i01, Nat.mul_comm 256, Nat.zero_mul, Nat.zero_add]

end Reads

/-- The frame of the reference. -/
theorem frameRI : Cert.quiescent_Reference5Ideal := by
  intro m ρ _
  hlo_run
  · exact fun _ => ⟨trivial, trivial⟩
  · funext g
    rcases g with ⟨t, s⟩
    cases s with
    | reg s => exact s.elim0
    | dma s => exact s.elim0

/-- From memories agreeing on the arguments the kernel and the reference end with equal products. -/
theorem algebraic : Cert.algebraic_Kernel5Ideal_Reference5Ideal := by
  pair_intro
  · run_from Cert.Kernel5Ideal.Value.run_blocks m g
  · hlo_run
    obtain ⟨x, hx⟩ := exists_X2 (m (c.tc.loc main_arg0))
    obtain ⟨w, hw⟩ := exists_X2 (m (c.tc.loc main_arg1))
    rw [final2 (m := m) (c := c) ⟨hx, hw⟩, hx, hw]
    exact xdot_10 x w _

end Cert.MixIn

end
-- ==== Proof.MixOutFwd.lean ====
/- The mixer's output projection, block of rows by block of rows, is the reference's product of the joined heads. -/
module

public import proofs.«01_k».proof.Proof.Ext
public import proofs.«01_k».proof.Proof.Gen.Kernel6Ideal.Value
public import proofs.«01_k».proof.Proof.Gen.Reference6Ideal
public import proofs.«01_k».proof.Defs
public import Idealize.ShloMosaic.Lib.Claim

@[expose] public section

set_option maxRecDepth 16384

noncomputable section

namespace Cert.MixOutFwd

open Idealize.ShloMosaic Idealize.ShloMosaic.TcCoe Idealize.SL.Sem
open Cert.Emb Cert.Kernel6Ideal Cert.Kernel6Ideal.Gen

/-- A block of rows of the result. -/
theorem pay1 (w r a b d e : ℕ → ℕ → EReal) : k0_pay1 (F := Ideal) (X2 2048 1024 w) (X2 192 1024 r) (X2 192 512 a) (X2 192 512 b) (X2 192 512 d) (X2 192 512 e)
    = X2 192 1024 fun i j => r i j + (((∑ q ∈ Finset.range 512, a i q * w q j + ∑ q ∈ Finset.range 512, b i q * w (512 + q) j)
        + ∑ q ∈ Finset.range 512, d i q * w (1024 + q) j) + ∑ q ∈ Finset.range 512, e i q * w (1536 + q) j) := by
  have dot (f g : ℕ → ℕ → EReal) : Ideal.matmul dot_S192x512_S512x1024_S192x1024_1_0_0_1_n_n (X2 192 512 f) (X2 512 1024 g) (X2 192 1024 fun _ _ => 0)
      = X2 192 1024 fun i j => ∑ q ∈ Finset.range 512, f i q * g q j := xdot_10 f g _
  simp only [k0_pay1, cast_same, slice_X2, truncf_X2, zero_X2, matmul_ideal, dot, addf_X2, Nat.zero_add]

/-- The point `t` works on the `t`-th block of 192 rows. -/
theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) := by decide +kernel

variable {m : (ℓ : Loc nD τ Cert.Kernel6Ideal.sig) → Buf (Elt Ideal) ℓ} {c : Dev nD} {r a b d e w : ℕ → ℕ → EReal}

/-- The arguments, as functions of natural-number indices. -/
structure Args (m : (ℓ : Loc nD τ Cert.Kernel6Ideal.sig) → Buf (Elt Ideal) ℓ) (c : Dev nD) (r a b d e w : ℕ → ℕ → EReal) : Prop where
  r : m ((c : Thread nD τ).loc main_arg0) = X2 2112 1024 r
  a : m ((c : Thread nD τ).loc main_arg1) = X2 2112 512 a
  b : m ((c : Thread nD τ).loc main_arg2) = X2 2112 512 b
  d : m ((c : Thread nD τ).loc main_arg3) = X2 2112 512 d
  e : m ((c : Thread nD τ).loc main_arg4) = X2 2112 512 e
  w : m ((c : Thread nD τ).loc main_arg5) = X2 2048 1024 w

section Reads
variable (h : Args m c r a b d e w)
include h

/-- The block of rows of the residual. -/
theorem blk0 (t : Fin cfg0.N) : iblk (F := Ideal) m c 0 t = X2 192 1024 fun i j => r (192 * t.val + i) j := by
  obtain ⟨⟨i00, i01⟩, -⟩ := idx t
  funext p
  unfold iblk
  rw [show V m c (Pipeline.arrRef spec0 0) = X2 2112 1024 r from (V_main_arg0 m c).trans h.r]
  blk_simp
  simp only [X2]
  blk_simp
  rw [i00, i01, Nat.zero_mul, Nat.zero_add, Nat.mul_comm 192]
/-- The block of rows of the first head. -/
theorem blk1 (t : Fin cfg0.N) : iblk (F := Ideal) m c 1 t = X2 192 512 fun i j => a (192 * t.val + i) j := by
  obtain ⟨-, ⟨i00, i01⟩, -⟩ := idx t
  funext p
  unfold iblk
  rw [show V m c (Pipeline.arrRef spec0 1) = X2 2112 512 a from (V_main_arg1 m c).trans h.a]
  blk_simp
  simp only [X2]
  blk_simp
  rw [i00, i01, Nat.zero_mul, Nat.zero_add, Nat.mul_comm 192]
/-- The block of rows of the second head. -/
theorem blk2 (t : Fin cfg0.N) : iblk (F := Ideal) m c 2 t = X2 192 512 fun i j => b (192 * t.val + i) j := by
  obtain ⟨-, -, ⟨i00, i01⟩, -⟩ := idx t
  funext p
  unfold iblk
  rw [show V m c (Pipeline.arrRef spec0 2) = X2 2112 512 b from (V_main_arg2 m c).trans h.b]
  blk_simp
  simp only [X2]
  blk_simp
  rw [i00, i01, Nat.zero_mul, Nat.zero_add, Nat.mul_comm 192]
/-- The block of rows of the third head. -/
theorem blk3 (t : Fin cfg0.N) : iblk (F := Ideal) m c 3 t = X2 192 512 fun i j => d (192 * t.val + i) j := by
  obtain ⟨-, -, -, ⟨i00, i01⟩, -⟩ := idx t
  funext p
  unfold iblk
  rw [show V m c (Pipeline.arrRef spec0 3) = X2 2112 512 d from (V_main_arg3 m c).trans h.d]
  blk_simp
  simp only [X2]
  blk_simp
  rw [i00, i01, Nat.zero_mul, Nat.zero_add, Nat.mul_comm 192]
/-- The block of rows of the fourth head. -/
theorem blk4 (t : Fin cfg0.N) : iblk (F := Ideal) m c 4 t = X2 192 512 fun i j => e (192 * t.val + i) j := by
  obtain ⟨-, -, -, -, ⟨i00, i01⟩, -⟩ := idx t
  funext p
  unfold iblk
  rw [show V m c (Pipeline.arrRef spec0 4) = X2 2112 512 e from (V_main_arg4 m c).trans h.e]
  blk_simp
  simp only [X2]
  blk_simp
  rw [i00, i01, Nat.zero_mul, Nat.zero_add, Nat.mul_comm 192]
/-- The weights, whole at every point. -/
theorem blk5 (t : Fin cfg0.N) : iblk (F := Ideal) m c 5 t = X2 2048 1024 w := by
  obtain ⟨-, -, -, -, -, ⟨i00, i01⟩, -⟩ := idx t
  have e : V m c main_v0 = X2 2048 1024 w := by
    entry_read
    rw [show m (c, main_arg5) = X2 2048 1024 w from h.w]; rfl
  funext p
  unfold iblk
  rw [show V m c (Pipeline.arrRef spec0 5) = X2 2048 1024 w from e]
  blk_simp
  simp only [X2]
  blk_simp
  simp only [i00, i01, Nat.zero_mul, Nat.zero_add]

/-- The result, after the last point. -/
theorem final6 : (dats (F := Ideal) m 0 c).arrAt 6 cfg0.N
    = X2 2112 1024 fun i j => r i j + (((∑ q ∈ Finset.range 512, a i q * w q j + ∑ q ∈ Finset.range 512, b i q * w (512 + q) j)
        + ∑ q ∈ Finset.range 512, d i q * w (1024 + q) j) + ∑ q ∈ Finset.range 512, e i q * w (1536 + q) j) := by
  refine (dats m 0 c).arrAt_eq_of_covers 6 _ (by decide +kernel) fun t _ p => ?_
  obtain ⟨-, -, -, -, -, -, i00, i01⟩ := idx t
  blk_simp
  have e : (dats (F := Ideal) m 0 c).after 6 t = k0_pay1 (F := Ideal) (iblk m c 5 t) (iblk m c 0 t) (iblk m c 1 t) (iblk m c 2 t) (iblk m c 3 t) (iblk m c 4 t) := by
    rw [after0_6]
    frame_out
  rw [e, blk0 h, blk1 h, blk2 h, blk3 h, blk4 h, blk5 h, pay1]
  simp only [X2]
  blk_simp
  rw [i00, i01, Nat.mul_comm 192, Nat.zero_mul, Nat.zero_add]

end Reads

/-- The frame of the reference. -/
theorem frameRI : Cert.quiescent_Reference6Ideal := by
  intro m ρ _
  hlo_run
  · exact fun _ => ⟨trivial, trivial, trivial, trivial, trivial, trivial⟩
  · funext g
    rcases g with ⟨t, s⟩
    cases s with
    | reg s => exact s.elim0
    | dma s => exact s.elim0

/-- The product of the joined heads, quarter by quarter. -/
theorem joined (a b d e w : ℕ → ℕ → EReal) (i j : ℕ) : ∑ q ∈ Finset.range 2048, cols4 a b d e i q * w q j
    = ((∑ q ∈ Finset.range 512, a i q * w q j + ∑ q ∈ Finset.range 512, b i q * w (512 + q) j)
        + ∑ q ∈ Finset.range 512, d i q * w (1024 + q) j) + ∑ q ∈ Finset.range 512, e i q * w (1536 + q) j := by
  have at4 (k q : ℕ) (hq : q ∈ Finset.range 512) : cols4 a b d e i (512 * k + q) = sel4 a b d e k i q := cols4_at a b d e i k q (Finset.mem_range.mp hq)
  rw [sum_quarters]
  exact congr (congrArg HAdd.hAdd (congr (congrArg HAdd.hAdd (congr (congrArg HAdd.hAdd
    (Finset.sum_congr rfl fun q hq => by rw [show q = 512 * 0 + q by omega, at4 0 q hq]; rw [Nat.mul_zero, Nat.zero_add]; rfl))
    (Finset.sum_congr rfl fun q hq => by rw [show cols4 a b d e i (512 + q) = b i q from at4 1 q hq])))
    (Finset.sum_congr rfl fun q hq => by rw [show cols4 a b d e i (1024 + q) = d i q from at4 2 q hq])))
    (Finset.sum_congr rfl fun q hq => by rw [show cols4 a b d e i (1536 + q) = e i q from at4 3 q hq])

/-- The reference: the residual and the product of the joined heads. -/
theorem product {r a b d e w : ℕ → ℕ → EReal} {A B D E : Cert.Reference6Ideal.S2112x512.Idx → EReal} (hA : A = X2 2112 512 a) (hB : B = X2 2112 512 b)
    (hD : D = X2 2112 512 d) (hE : E = X2 2112 512 e) (hc) :
    addf (F := Ideal) (φ := .f32) (X2 2112 1024 r)
      (Host.dotGeneral (F := Ideal) (φ₁ := .f32) (φ₂ := .f32) Cert.Reference6Ideal.dot_S2112x2048_S2048x1024_S2112x1024_1_0_0_1_n_n none
        (concatenate Cert.Reference6Ideal.S2112x2048 1 [⟨Cert.Reference6Ideal.S2112x512, A⟩, ⟨Cert.Reference6Ideal.S2112x512, B⟩,
          ⟨Cert.Reference6Ideal.S2112x512, D⟩, ⟨Cert.Reference6Ideal.S2112x512, E⟩] hc) (X2 2048 1024 w))
      = X2 2112 1024 fun i j => r i j + (((∑ q ∈ Finset.range 512, a i q * w q j + ∑ q ∈ Finset.range 512, b i q * w (512 + q) j)
        + ∑ q ∈ Finset.range 512, d i q * w (1024 + q) j) + ∑ q ∈ Finset.range 512, e i q * w (1536 + q) j) := by
  subst hA hB hD hE
  rw [concat4_X2, show Host.dotGeneral (F := Ideal) (φ₁ := .f32) (φ₂ := .f32) Cert.Reference6Ideal.dot_S2112x2048_S2048x1024_S2112x1024_1_0_0_1_n_n none
      (X2 2112 2048 (cols4 a b d e)) (X2 2048 1024 w) = _ from xdot_10 (cols4 a b d e) w _, addf_X2]
  exact X2_congr fun i _ j _ => congrArg (r i j + ·) (joined a b d e w i j)

/-- From memories agreeing on the arguments the kernel and the reference end with equal rows. -/
theorem algebraic : Cert.algebraic_Kernel6Ideal_Reference6Ideal := by
  pair_intro
  · run_from Cert.Kernel6Ideal.Value.run_blocks m g
  · hlo_run
    obtain ⟨r, hr⟩ := exists_X2 (m (c.tc.loc main_arg0))
    obtain ⟨a, ha⟩ := exists_X2 (m (c.tc.loc main_arg1))
    obtain ⟨b, hb⟩ := exists_X2 (m (c.tc.loc main_arg2))
    obtain ⟨d, hd⟩ := exists_X2 (m (c.tc.loc main_arg3))
    obtain ⟨e, he⟩ := exists_X2 (m (c.tc.loc main_arg4))
    obtain ⟨w, hw⟩ := exists_X2 (m (c.tc.loc main_arg5))
    rw [final6 (m := m) (c := c) ⟨hr, ha, hb, hd, he, hw⟩, hr, hw]
    exact product ((hagree c).2.1.trans ha) ((hagree c).2.2.1.trans hb) ((hagree c).2.2.2.1.trans hd) ((hagree c).2.2.2.2.1.trans he) _

end Cert.MixOutFwd

end
-- ==== Proof.FfnBwd.lean ====
/- The gradients of the feed-forward half step: the body at one grid point. -/
module

public import proofs.«01_k».proof.Proof.Gen.Kernel7Ideal.Frame
public import proofs.«01_k».proof.Proof.Gen.Kernel7Ideal.Skeleton
public import Idealize.ShloMosaic.Lib.Pipeline.DatRel
public import Idealize.ShloMosaic.Lib.Pipeline.ArrRel
public import Idealize.ShloMosaic.Lib.WritesUnit
public import Idealize.ShloMosaic.Lib.VecWindow

@[expose] public section

set_option maxRecDepth 16384

noncomputable section

namespace Cert.FfnBwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The point is in the first half of the rows. -/
abbrev isFirst (i : grid0.Coords) : Prop := (Scalar.cmpi .ne (Scalar.extui (Scalar.cmpi .eq (BitVec.ofNat 32 (i 1).val) 0#32)) 0#32) = 1#1
/-- The point is in a later half of the rows. -/
abbrev isLater (i : grid0.Coords) : Prop := (Scalar.cmpi .ne (Scalar.extui (Scalar.cmpi .sgt (BitVec.ofNat 32 (i 1).val) 0#32)) 0#32) = 1#1

/-- Row `j 0`, column `j 1` of the `k`-th half of a matrix with 2112 rows. -/
def rowIdx (k : Fin 2) (j : S1056x1024.Idx) : S2112x1024.Idx := fun a =>
  match a with
  | 0 => ⟨1056 * k.val + (j 0).val, by have h1 : k.val < 2 := k.isLt; have h2 : (j 0).val < 1056 := (j 0).isLt; show 1056 * k.val + (j 0).val < 2112; omega⟩
  | 1 => ⟨(j 1).val, (j 1).isLt⟩

/-- The `k`-th half of a matrix with 2112 rows. -/
def rows {α : Type} (k : Fin 2) (x : S2112x1024.Idx → α) : S1056x1024.Idx → α := fun j => x (rowIdx k j)

/-- What one point adds to the gradient of the input. -/
def dx (r : Vec F S1056x1024 .bf16) (x1 : Vec F S1056x1024 .f32) (x2 x3 : Vec F S1024x256 .bf16) (x4 : Vec F S256x1024 .bf16) : Vec F S1056x1024 .f32 :=
  k0_pay1 (k0_pay15 x3) (k0_pay23 r x1 x2 x4) (k0_pay26 r x1 x2 x3 x4) (constant S1056x1024 .f32 0#32)

/-- The gradient of the input after one more point. -/
def dxAdd (r : Vec F S1056x1024 .bf16) (x1 : Vec F S1056x1024 .f32) (x2 x3 : Vec F S1024x256 .bf16) (x4 : Vec F S256x1024 .bf16) (z : Vec F S1056x1024 .f32) : Vec F S1056x1024 .f32 :=
  k0_pay11 (k0_pay15 x3) (k0_pay23 r x1 x2 x4) (k0_pay26 r x1 x2 x3 x4) (constant S1056x1024 .f32 0#32) z

/-- A load of half the rows reads those rows. -/
theorem readAt_rows {e : EltTy} (v : View sig .tc .vmem S2112x1024 e) (f : v.ty.Contents (Elt F)) (k : Fin 2) {off : Fin 2 → ℕ}
    (inb : ∀ a : Fin 2, off a + S1056x1024.size a ≤ S2112x1024.size a) (h : off = ![1056 * k.val, 0]) :
    v.readAt (Elt F) (Rect.unit (s := S2112x1024) off S1056x1024.size inb).toLoadRect f = rows k (v.read (Elt F) f) := by
  subst h
  funext j
  refine congrArg (v.read (Elt F) f) (funext fun a => ?_)
  match a with
  | 0 => exact Fin.ext (by show 1056 * k.val + 1 * (j 0).val = 1056 * k.val + (j 0).val; omega)
  | 1 => exact Fin.ext (by show 0 + 1 * (j 1).val = (j 1).val; omega)

/-- A store of half the rows leaves its payload there, and the other half as it was. -/
theorem read_rows {e : EltTy} (v : View sig .tc .vmem S2112x1024 e) (f : v.ty.Contents (Elt F)) (k : Fin 2) {off : Fin 2 → ℕ}
    (inb : ∀ a : Fin 2, off a + S1056x1024.size a ≤ S2112x1024.size a) (h : off = ![1056 * k.val, 0]) (w : S1056x1024.Idx → Elt F e) :
    rows k (v.read (Elt F) (v.writes (Elt F) f [⟨Rect.unit (s := S2112x1024) off S1056x1024.size inb, w⟩])) = w
      ∧ ∀ k' : Fin 2, k' ≠ k → rows k' (v.read (Elt F) (v.writes (Elt F) f [⟨Rect.unit (s := S2112x1024) off S1056x1024.size inb, w⟩])) = rows k' (v.read (Elt F) f) := by
  refine ⟨funext fun j => View.read_writes_cons_rows_of_mem v f inb w [] (rowIdx k j) j h rfl rfl, fun k' hk => funext fun j => ?_⟩
  refine View.read_writes_cons_rows_of_not_mem v f inb w [] (rowIdx k' j) h (W := 1056) rfl ?_
  have h1 : k'.val ≠ k.val := fun e => hk (Fin.ext e)
  have h2 := k.isLt
  have h3 := k'.isLt
  have h4 : (j 0).val < 1056 := (j 0).isLt
  show 1056 * k'.val + (j 0).val < 1056 * k.val ∨ 1056 * k.val + 1056 ≤ 1056 * k'.val + (j 0).val
  omega

/-- What the body leaves in the gradient of the input. -/
def Upd (i : grid0.Coords) (x0 : Vec F S2112x1024 .bf16) (x1 : Vec F S1056x1024 .f32) (x2 x3 : Vec F S1024x256 .bf16) (x4 : Vec F S256x1024 .bf16) (y X : Vec F S2112x1024 .f32) : Prop :=
  ((i 0).val = 0 → rows (i 1) X = dx (rows (i 1) x0) x1 x2 x3 x4)
    ∧ ((i 0).val ≠ 0 → rows (i 1) X = dxAdd (rows (i 1) x0) x1 x2 x3 x4 (rows (i 1) y))
    ∧ ∀ k : Fin 2, k ≠ i 1 → rows k X = rows k y

/-- What the body leaves in an output that the second half writes from its scratch buffer. -/
def Out {S : Shape} {e : EltTy} (i : grid0.Coords) (w X : S.Idx → Elt F e) : Prop := (i 1).val = 1 → X = w

/-- What the body leaves in a scratch buffer that the first half resets. -/
def Scr {S : Shape} {e : EltTy} (i : grid0.Coords) (w X : S.Idx → Elt F e) : Prop := (i 1).val = 0 → X = w

/-- What the body is given at a point. -/
abbrev Before (c : Dev nD) (arg2 : Memref sig .tc .vmem S2112x1024 .bf16) (harg2 : arg2.IsWhole) (arg3 : Memref sig .tc .vmem S1056x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S2112x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1024x256 .f32) (harg11 : arg11.IsWhole) (arg12 : Memref sig .tc .vmem S1024x256 .f32) (harg12 : arg12.IsWhole) (arg13 : Memref sig .tc .vmem S256x1024 .f32) (harg13 : arg13.IsWhole) (x0 : Vec F S2112x1024 .bf16) (x1 : Vec F S1056x1024 .f32) (x2 x3 : Vec F S1024x256 .bf16) (x4 : Vec F S256x1024 .bf16)
    (y : Vec F S2112x1024 .f32) (s0 s1 : Vec F S1024x256 .f32) (s2 : Vec F S256x1024 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1 ∗ owns (c : Thread nD τ) arg13 fullShare s2)

/-- What the body leaves at a point. -/
abbrev After (c : Dev nD) (i : grid0.Coords) (arg2 : Memref sig .tc .vmem S2112x1024 .bf16) (harg2 : arg2.IsWhole) (arg3 : Memref sig .tc .vmem S1056x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S2112x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1024x256 .f32) (harg11 : arg11.IsWhole) (arg12 : Memref sig .tc .vmem S1024x256 .f32) (harg12 : arg12.IsWhole) (arg13 : Memref sig .tc .vmem S256x1024 .f32) (harg13 : arg13.IsWhole) (x0 : Vec F S2112x1024 .bf16) (x1 : Vec F S1056x1024 .f32) (x2 x3 : Vec F S1024x256 .bf16) (x4 : Vec F S256x1024 .bf16)
    (y : Vec F S2112x1024 .f32) (s0 s1 : Vec F S1024x256 .f32) (s2 : Vec F S256x1024 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ X, ⌜Upd i x0 x1 x2 x3 x4 y X⌝ ∗ owns (c : Thread nD τ) arg7 fullShare X)
        ∗ (∃ X, ⌜Out i (k0_pay8 (k0_pay5 (k0_pay24 (rows (i 1) x0) x1 x2 x3 x4) s0)) X⌝ ∗ owns (c : Thread nD τ) arg8 fullShare X)
        ∗ (∃ X, ⌜Out i (k0_pay9 (k0_pay6 (k0_pay25 (rows (i 1) x0) x1 x2 x4) s1)) X⌝ ∗ owns (c : Thread nD τ) arg9 fullShare X)
        ∗ (∃ X, ⌜Out i (k0_pay10 (k0_pay7 (k0_pay21 (rows (i 1) x0) x1 x2 x3) s2)) X⌝ ∗ owns (c : Thread nD τ) arg10 fullShare X)
        ∗ (∃ X, ⌜Scr i (k0_pay2 (k0_pay24 (rows (i 1) x0) x1 x2 x3 x4)) X⌝ ∗ owns (c : Thread nD τ) arg11 fullShare X)
        ∗ (∃ X, ⌜Scr i (k0_pay3 (k0_pay25 (rows (i 1) x0) x1 x2 x4)) X⌝ ∗ owns (c : Thread nD τ) arg12 fullShare X)
        ∗ (∃ X, ⌜Scr i (k0_pay4 (k0_pay21 (rows (i 1) x0) x1 x2 x3)) X⌝ ∗ owns (c : Thread nD τ) arg13 fullShare X))

/-- Which of the body's branches a point takes. -/
theorem branches : ∀ i : grid0.Coords,
    (((i 0).val = 0 ∧ k0_cond4 i = 1#1 ∧ ¬ k0_cond5 i = 1#1) ∨ ((i 0).val ≠ 0 ∧ ¬ k0_cond4 i = 1#1 ∧ k0_cond5 i = 1#1))
      ∧ (((i 1).val = 0 ∧ isFirst i ∧ ¬ isLater i ∧ ¬ k0_cond3 i = 1#1) ∨ ((i 1).val = 1 ∧ ¬ isFirst i ∧ isLater i ∧ k0_cond3 i = 1#1)) := by
  decide +kernel

set_option maxHeartbeats 3200000 in
/-- The body at a point runs to its end and leaves what `After` says. -/
theorem run (c : Dev nD) (i : grid0.Coords) (arg2 : Memref sig .tc .vmem S2112x1024 .bf16) (harg2 : arg2.IsWhole) (arg3 : Memref sig .tc .vmem S1056x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S2112x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1024x256 .f32) (harg11 : arg11.IsWhole) (arg12 : Memref sig .tc .vmem S1024x256 .f32) (harg12 : arg12.IsWhole) (arg13 : Memref sig .tc .vmem S256x1024 .f32) (harg13 : arg13.IsWhole) (x0 : Vec F S2112x1024 .bf16) (x1 : Vec F S1056x1024 .f32) (x2 x3 : Vec F S1024x256 .bf16) (x4 : Vec F S256x1024 .bf16)
    (y : Vec F S2112x1024 .f32) (s0 s1 : Vec F S1024x256 .f32) (s2 : Vec F S256x1024 .f32) (E : Set ℕ) (K : PUnit → sProp 𝕄) :
    iprop(Before c arg2 harg2 arg3 harg3 arg4 harg4 arg5 harg5 arg6 harg6 arg7 harg7 arg8 harg8 arg9 harg9 arg10 harg10 arg11 harg11 arg12 harg12 arg13 harg13 x0 x1 x2 x3 x4 y s0 s1 s2 ∗ (After c i arg2 harg2 arg3 harg3 arg4 harg4 arg5 harg5 arg6 harg6 arg7 harg7 arg8 harg8 arg9 harg9 arg10 harg10 arg11 harg11 arg12 harg12 arg13 harg13 x0 x1 x2 x3 x4 y s0 s1 s2 -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13) K := by
  simp only [cc0_ffn_bwd_eq_skeleton]; unfold cc0_ffn_bwd_skel Before After
  simp only [k0_part1_eq_skeleton]
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%f11, %h11, H11⟩, ⟨%f12, %h12, H12⟩, ⟨%f13, %h13, H13⟩⟩, Hk⟩
  obtain rfl := harg2.eq_unread h2; obtain rfl := harg3.eq_unread h3; obtain rfl := harg4.eq_unread h4; obtain rfl := harg5.eq_unread h5; obtain rfl := harg6.eq_unread h6
  obtain rfl := harg7.eq_unread h7; obtain rfl := harg11.eq_unread h11; obtain rfl := harg12.eq_unread h12; obtain rfl := harg13.eq_unread h13
  obtain ⟨⟨e0, c4, c5⟩ | ⟨e0, c4, c5⟩, ⟨e1, c1, c2, c3⟩ | ⟨e1, c1, c2, c3⟩⟩ := branches i
  all_goals
    sl_exec (disch := first | sl_exact c1 | sl_exact c2 | sl_exact c3 | sl_exact c4 | sl_exact c5)
    sl_step
    iapply Hk
    have q0 := (readAt_rows arg2.view (harg2.unread x0) (i 1) (k0_off1_inb i) (k0_off1_eq i)).trans (congrArg (rows (i 1)) h2)
    have q1 := (View.readAt_full arg3.view (harg3.unread x1) inb_S1056x1024_S1056x1024_0_0).trans h3
    have q2 := (View.readAt_full arg4.view (harg4.unread x2) inb_S1024x256_S1024x256_0_0).trans h4
    have q3 := (View.readAt_full arg5.view (harg5.unread x3) inb_S1024x256_S1024x256_0_0).trans h5
    have q4 := (View.readAt_full arg6.view (harg6.unread x4) inb_S256x1024_S256x1024_0_0).trans h6
    isplitl [H2]; · iexists _; isplitr; swap; · iexact H2
                    ipureintro; exact h2
    isplitl [H3]; · iexists _; isplitr; swap; · iexact H3
                    ipureintro; exact h3
    isplitl [H4]; · iexists _; isplitr; swap; · iexact H4
                    ipureintro; exact h4
    isplitl [H5]; · iexists _; isplitr; swap; · iexact H5
                    ipureintro; exact h5
    isplitl [H6]; · iexists _; isplitr; swap; · iexact H6
                    ipureintro; exact h6
    isplitl [H7]
    · iexists _; isplitr; swap
      · iexists _; isplitr; swap; · iexact H7
        ipureintro; rfl
      ipureintro
      first
        | exact ⟨fun _ => (read_rows arg7.view (harg7.unread y) (i 1) (k0_off2_inb i c4) (k0_off2_eq i) _).1.trans (by
              show k0_pay1 (k0_pay15 _) (k0_pay23 _ _ _ _) (k0_pay26 _ _ _ _ _) (constant S1056x1024 .f32 0#32) = _
              rw [q0, q1, q2, q3, q4]; rfl),
            fun h => absurd e0 h,
            fun k hk => ((read_rows arg7.view (harg7.unread y) (i 1) (k0_off2_inb i c4) (k0_off2_eq i) _).2 k hk).trans (congrArg (rows k) h7)⟩
        | exact ⟨fun h => absurd h e0,
            fun _ => (read_rows arg7.view (harg7.unread y) (i 1) (k0_off3_inb i c5) (k0_off3_eq i) _).1.trans (by
              show k0_pay11 (k0_pay15 _) (k0_pay23 _ _ _ _) (k0_pay26 _ _ _ _ _) (constant S1056x1024 .f32 0#32) _ = _
              rw [q0, q1, q2, q3, q4]
              exact congrArg (dxAdd (rows (i 1) x0) x1 x2 x3 x4)
                ((readAt_rows arg7.view (harg7.unread y) (i 1) (k0_off3_inb i c5) (k0_off3_eq i)).trans (congrArg (rows (i 1)) h7))),
            fun k hk => ((read_rows arg7.view (harg7.unread y) (i 1) (k0_off3_inb i c5) (k0_off3_eq i) _).2 k hk).trans (congrArg (rows k) h7)⟩
    isplitl [H8]
    · iexists _; isplitr; swap
      · iexists _; isplitr; swap; · iexact H8
        ipureintro; rfl
      ipureintro
      first
        | exact fun h => absurd (e1.symm.trans h) (by decide)
        | exact fun _ => (View.read_writes_full arg8.view _ _ _ _).trans (congrArg k0_pay8 ((View.readCov_full arg11.view _ _ _ _).trans (by
            show k0_pay5 (k0_pay24 _ _ _ _ _) _ = _
            rw [q0, q1, q2, q3, q4]
            exact congrArg (k0_pay5 _) ((View.readAt_full arg11.view _ _).trans h11))))
    isplitl [H9]
    · iexists _; isplitr; swap
      · iexists _; isplitr; swap; · iexact H9
        ipureintro; rfl
      ipureintro
      first
        | exact fun h => absurd (e1.symm.trans h) (by decide)
        | exact fun _ => (View.read_writes_full arg9.view _ _ _ _).trans (congrArg k0_pay9 ((View.readCov_full arg12.view _ _ _ _).trans (by
            show k0_pay6 (k0_pay25 _ _ _ _) _ = _
            rw [q0, q1, q2, q4]
            exact congrArg (k0_pay6 _) ((View.readAt_full arg12.view _ _).trans h12))))
    isplitl [H10]
    · iexists _; isplitr; swap
      · iexists _; isplitr; swap; · iexact H10
        ipureintro; rfl
      ipureintro
      first
        | exact fun h => absurd (e1.symm.trans h) (by decide)
        | exact fun _ => (View.read_writes_full arg10.view _ _ _ _).trans (congrArg k0_pay10 ((View.readCov_full arg13.view _ _ _ _).trans (by
            show k0_pay7 (k0_pay21 _ _ _ _) _ = _
            rw [q0, q1, q2, q3]
            exact congrArg (k0_pay7 _) ((View.readAt_full arg13.view _ _).trans h13))))
    isplitl [H11]
    · iexists _; isplitr; swap
      · iexists _; isplitr; swap; · iexact H11
        ipureintro; rfl
      ipureintro
      first
        | exact fun h => absurd (e1.symm.trans h) (by decide)
        | exact fun _ => (View.read_writes_full arg11.view _ _ _ _).trans (by
            show k0_pay2 (k0_pay24 _ _ _ _ _) = _
            rw [q0, q1, q2, q3, q4])
    isplitl [H12]
    · iexists _; isplitr; swap
      · iexists _; isplitr; swap; · iexact H12
        ipureintro; rfl
      ipureintro
      first
        | exact fun h => absurd (e1.symm.trans h) (by decide)
        | exact fun _ => (View.read_writes_full arg12.view _ _ _ _).trans (by
            show k0_pay3 (k0_pay25 _ _ _ _) = _
            rw [q0, q1, q2, q4])
    iexists _; isplitr; swap
    · iexists _; isplitr; swap; · iexact H13
      ipureintro; rfl
    ipureintro
    first
      | exact fun h => absurd (e1.symm.trans h) (by decide)
      | exact fun _ => (View.read_writes_full arg13.view _ _ _ _).trans (by
          show k0_pay4 (k0_pay21 _ _ _ _) = _
          rw [q0, q1, q2, q3])

end Cert.FfnBwd

end
-- ==== Proof.FfnBwdRun.lean ====
/- The gradients of the feed-forward half step: the run of the grid, and the frame. -/
module

public import proofs.«01_k».proof.Proof.Gen.Kernel7Ideal.Frame
public import proofs.«01_k».proof.Proof.FfnBwd
public import Idealize.ShloMosaic.Lib.Pipeline.Frame
public import Idealize.ShloMosaic.Lib.Pipeline.DatRel
public import Idealize.ShloMosaic.Lib.Pipeline.ArrRel
public import Idealize.ShloMosaic.Lib.WritesUnit
public import Idealize.ShloMosaic.Lib.VecWindow

@[expose] public section

set_option maxRecDepth 16384

noncomputable section

namespace Cert.FfnBwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values a point works on -/

/-- What the body finds in input 0 at a point. -/
def in0 (c : Dev nD) (t : Fin cfg0.N) : Vec F S2112x1024 .bf16 := iblk m c 0 t
/-- What the body finds in input 1 at a point. -/
def in1 (c : Dev nD) (t : Fin cfg0.N) : Vec F S1056x1024 .f32 := iblk m c 1 t
/-- What the body finds in input 2 at a point. -/
def in2 (c : Dev nD) (t : Fin cfg0.N) : Vec F S1024x256 .bf16 := iblk m c 2 t
/-- What the body finds in input 3 at a point. -/
def in3 (c : Dev nD) (t : Fin cfg0.N) : Vec F S1024x256 .bf16 := iblk m c 3 t
/-- What the body finds in input 4 at a point. -/
def in4 (c : Dev nD) (t : Fin cfg0.N) : Vec F S256x1024 .bf16 := iblk m c 4 t
/-- The half of the rows that a point works on. -/
abbrev half (t : Fin cfg0.N) : Fin 2 := grid0.coords t 1

/-- What a point adds to the gradient of the gate's weights. -/
def p1 (c : Dev nD) (t : Fin cfg0.N) : Vec F S1024x256 .f32 := k0_pay24 (rows (half t) (in0 m c t)) (in1 m c t) (in2 m c t) (in3 m c t) (in4 m c t)
/-- What a point adds to the gradient of the second factor's weights. -/
def p2 (c : Dev nD) (t : Fin cfg0.N) : Vec F S1024x256 .f32 := k0_pay25 (rows (half t) (in0 m c t)) (in1 m c t) (in2 m c t) (in4 m c t)
/-- What a point adds to the gradient of the last weights. -/
def p3 (c : Dev nD) (t : Fin cfg0.N) : Vec F S256x1024 .f32 := k0_pay21 (rows (half t) (in0 m c t)) (in1 m c t) (in2 m c t) (in3 m c t)

/-- The point of column block `a` and half `k`. -/
def pnt (a : ℕ) (k : Fin 2) : Fin cfg0.N := ⟨(2 * a + k.val) % 22, lt_of_lt_of_eq (Nat.mod_lt _ (by decide)) (show 22 = cfg0.N from N_0.symm)⟩

/-- The `k`-th half of the gradient of the input after column blocks `0` to `a`. -/
def acc (c : Dev nD) (k : Fin 2) : ℕ → Vec F S1056x1024 .f32
  | 0 => dx (rows k (in0 m c (pnt 0 k))) (in1 m c (pnt 0 k)) (in2 m c (pnt 0 k)) (in3 m c (pnt 0 k)) (in4 m c (pnt 0 k))
  | a + 1 => dxAdd (rows k (in0 m c (pnt (a + 1) k))) (in1 m c (pnt (a + 1) k)) (in2 m c (pnt (a + 1) k)) (in3 m c (pnt (a + 1) k)) (in4 m c (pnt (a + 1) k)) (acc c k a)

/-- The point before. -/
abbrev prev (t : Fin cfg0.N) : Fin cfg0.N := ⟨t.val - 1, Nat.lt_of_le_of_lt (Nat.sub_le _ _) t.isLt⟩

/-- What the body leaves in an output. -/
def Rl (c : Dev nD) (w : Fin cfg0.W) (t : Fin cfg0.N) (X : (cfg0.win w).block.Idx → Elt F (cfg0.win w).elt) : Prop :=
  match w, X with
  | ⟨5, _⟩, X => rows (half t) (X : S2112x1024.Idx → Elt F .f32) = acc m c (half t) (t.val / 2)
      ∧ ∀ k : Fin 2, k ≠ half t → 1 ≤ t.val → rows k (X : S2112x1024.Idx → Elt F .f32) = acc m c k ((t.val - 1) / 2)
  | ⟨6, _⟩, X => t.val % 2 = 1 → (X : S1024x256.Idx → Elt F .bf16) = k0_pay8 (k0_pay5 (p1 m c t) (k0_pay2 (p1 m c (prev t))))
  | ⟨7, _⟩, X => t.val % 2 = 1 → (X : S1024x256.Idx → Elt F .bf16) = k0_pay9 (k0_pay6 (p2 m c t) (k0_pay3 (p2 m c (prev t))))
  | ⟨8, _⟩, X => t.val % 2 = 1 → (X : S256x1024.Idx → Elt F .bf16) = k0_pay10 (k0_pay7 (p3 m c t) (k0_pay4 (p3 m c (prev t))))
  | _, _ => True

/-- The outputs. -/
def fgt : Fin 9 → Bool := fun | 5 => true | 6 => true | 7 => true | 8 => true | _ => false

/-- What the scratch buffers hold after a first half. -/
def Held (c : Dev nD) (n : ℕ) (s0 s1 : Vec F S1024x256 .f32) (s2 : Vec F S256x1024 .f32) : Prop :=
  ∀ u : Fin cfg0.N, u.val + 1 = n → u.val % 2 = 0 → s0 = k0_pay2 (p1 m c u) ∧ s1 = k0_pay3 (p2 m c u) ∧ s2 = k0_pay4 (p3 m c u)

/-- The scratch accumulating the first weight's gradient. -/
abbrev sc0 : Memref sig .tc .vmem S1024x256 .f32 := Memref.whole cc0_scratch0
/-- The scratch accumulating the second weight's gradient. -/
abbrev sc1 : Memref sig .tc .vmem S1024x256 .f32 := Memref.whole cc0_scratch1
/-- The scratch accumulating the last weight's gradient. -/
abbrev sc2 : Memref sig .tc .vmem S256x1024 .f32 := Memref.whole cc0_scratch2

/-- What holds between two points. -/
def Inv (c : Dev nD) (n : ℕ) : sProp 𝕄 :=
  iprop((∃ s0 s1 s2, ⌜Held m c n s0 s1 s2⌝ ∗ owns (c : Thread nD τ) sc0 fullShare s0 ∗ owns (c : Thread nD τ) sc1 fullShare s1 ∗ owns (c : Thread nD τ) sc2 fullShare s2)
    ∗ ∃ r, prngReg c r)

/-- The scratch buffers at anything. -/
theorem anything (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The proof data -/

/-- The arrays before the grid, and each input's buffer after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := Inv m c t.val
  q _ := fullShare
  owed _ := 0

/-- The array of a window before the grid. -/
theorem A_eq (c : Dev nD) (w : Fin cfg0.W) : (dats m 0 c).A w = V m c (Pipeline.arrRef spec0 w) := by dsimp only [dats]

/-- Input 0 is unchanged in its buffer after a point. -/
theorem after0_0 (c : Dev nD) (t : Fin cfg0.N) : (dats m 0 c).after 0 t = iblk m c 0 t := by dsimp only [dats]
/-- Input 0 is in its buffer before a point. -/
theorem before0_0 (c : Dev nD) (t : Fin cfg0.N) (d) : (dats m 0 c).before 0 t d = in0 m c t :=
  before0_0_of m (dats m 0 c) (A_eq m c 0) (after0_0 m c) t d
/-- Input 1 is unchanged in its buffer after a point. -/
theorem after0_1 (c : Dev nD) (t : Fin cfg0.N) : (dats m 0 c).after 1 t = iblk m c 1 t := by dsimp only [dats]
/-- Input 1 is in its buffer before a point. -/
theorem before0_1 (c : Dev nD) (t : Fin cfg0.N) (d) : (dats m 0 c).before 1 t d = in1 m c t :=
  before0_1_of m (dats m 0 c) (A_eq m c 1) (after0_1 m c) t d
/-- Input 2 is unchanged in its buffer after a point. -/
theorem after0_2 (c : Dev nD) (t : Fin cfg0.N) : (dats m 0 c).after 2 t = iblk m c 2 t := by dsimp only [dats]
/-- Input 2 is in its buffer before a point. -/
theorem before0_2 (c : Dev nD) (t : Fin cfg0.N) (d) : (dats m 0 c).before 2 t d = in2 m c t :=
  before0_2_of m (dats m 0 c) (A_eq m c 2) (after0_2 m c) t d
/-- Input 3 is unchanged in its buffer after a point. -/
theorem after0_3 (c : Dev nD) (t : Fin cfg0.N) : (dats m 0 c).after 3 t = iblk m c 3 t := by dsimp only [dats]
/-- Input 3 is in its buffer before a point. -/
theorem before0_3 (c : Dev nD) (t : Fin cfg0.N) (d) : (dats m 0 c).before 3 t d = in3 m c t :=
  before0_3_of m (dats m 0 c) (A_eq m c 3) (after0_3 m c) t d
/-- Input 4 is unchanged in its buffer after a point. -/
theorem after0_4 (c : Dev nD) (t : Fin cfg0.N) : (dats m 0 c).after 4 t = iblk m c 4 t := by dsimp only [dats]
/-- Input 4 is in its buffer before a point. -/
theorem before0_4 (c : Dev nD) (t : Fin cfg0.N) (d) : (dats m 0 c).before 4 t d = in4 m c t :=
  before0_4_of m (dats m 0 c) (A_eq m c 4) (after0_4 m c) t d

/-- The outputs held to `Rl`. -/
abbrev rel (c : Dev nD) : Pipeline.RDat τ (Elt F) Unit ℕ (UR sig nD τ) ℕ cfg0 c := (dats m 0 c).toRRel fgt (Rl m c)

/-- After the first point the gradient of the input is what the point before left. -/
theorem finds5 (c : Dev nD) (t : Fin cfg0.N) (ht : t.val ≠ 0) (Y) (h : (rel m c).Finds 5 t Y) : Rl m c 5 (prev t) Y := by
  have hN : t.val < 22 := lt_of_lt_of_eq t.isLt (show cfg0.N = 22 from N_0)
  rw [Pipeline.RDat.finds_of_pos (rd := rel m c) rfl ht] at h
  rcases h with h | h
  · rw [flush0_5] at h; simp only at h; omega
  · exact (dats m 0 c).toRRel_leaves rfl h

/-- A point's half of the rows is its parity. -/
theorem half_val : ∀ t : Fin grid0.N, (grid0.coords t 1).val = t.val % 2 := by decide +kernel
/-- A point's tile of hidden columns is half of its number. -/
theorem block_val : ∀ t : Fin grid0.N, (grid0.coords t 0).val = t.val / 2 := by decide +kernel

/-- A point is the one of its tile and half. -/
theorem pnt_eq (t : Fin cfg0.N) : pnt (t.val / 2) (half t) = t := by
  have hN : t.val < 22 := lt_of_lt_of_eq t.isLt (show cfg0.N = 22 from N_0)
  have h : (half t).val = t.val % 2 := half_val t
  exact Fin.ext (by show (2 * (t.val / 2) + (half t).val) % 22 = t.val; rw [h]; omega)

/-- What the body leaves in the gradient of the input, the points before it known. -/
theorem upd5 (c : Dev nD) (t : Fin cfg0.N) (Y X : Vec F S2112x1024 .f32) (hY : (rel m c).Finds 5 t Y)
    (h : Upd (grid0.coords t) (in0 m c t) (in1 m c t) (in2 m c t) (in3 m c t) (in4 m c t) Y X) : Rl m c 5 t X := by
  have hN : t.val < 22 := lt_of_lt_of_eq t.isLt (show cfg0.N = 22 from N_0)
  have hh : (half t).val = t.val % 2 := half_val t
  have hb : (grid0.coords t 0).val = t.val / 2 := block_val t
  have hp := pnt_eq t
  obtain ⟨h0, h1, h2⟩ := h
  constructor
  · rcases Nat.eq_zero_or_pos (t.val / 2) with e | e
    · rw [h0 (hb.trans e), e]
      rw [e] at hp
      show _ = dx _ _ _ _ _
      rw [hp]
    · have hY' := finds5 m c t (by omega) Y hY
      have hk : half t ≠ half (prev t) := fun e' => by
        have := congrArg Fin.val e'
        rw [hh, half_val] at this
        simp only at this; omega
      obtain ⟨b, hbb⟩ : ∃ b, t.val / 2 = b + 1 := ⟨t.val / 2 - 1, by omega⟩
      have hy := hY'.2 (half t) hk (by show 1 ≤ t.val - 1; omega)
      rw [h1 (by omega), hbb]
      rw [hbb] at hp
      show _ = dxAdd _ _ _ _ _ (acc m c (half t) b)
      rw [hp]
      refine congrArg (dxAdd _ _ _ _ _) (hy.trans (congrArg (acc m c (half t)) ?_))
      show (t.val - 1 - 1) / 2 = b
      omega
  · intro k hk ht
    have hY' := finds5 m c t (by omega) Y hY
    have hk' : k = half (prev t) := by
      refine Fin.ext ?_
      have h3 : k.val ≠ (half t).val := fun e => hk (Fin.ext e)
      have h4 : (half (prev t)).val = (t.val - 1) % 2 := half_val _
      have h5 : k.val < 2 := k.isLt
      omega
    rw [h2 k hk, hk']
    exact hY'.1

/-! ## The body at a point -/

/-- The buffer of window 0 at a point. -/
abbrev ms0 (t : Fin cfg0.N) : Memref sig .tc .vmem S2112x1024 .bf16 := win0_0.stage (cfg0.slots t 0)
/-- The buffer of window 0 is a whole one. -/
abbrev hs0 (t : Fin cfg0.N) : (ms0 t).IsWhole := hstage0_0 ((cfg0.slots t 0).cast nbuf0_0)
/-- The buffer of window 1 at a point. -/
abbrev ms1 (t : Fin cfg0.N) : Memref sig .tc .vmem S1056x1024 .f32 := win0_1.stage (cfg0.slots t 1)
/-- The buffer of window 1 is a whole one. -/
abbrev hs1 (t : Fin cfg0.N) : (ms1 t).IsWhole := hstage0_1 ((cfg0.slots t 1).cast nbuf0_1)
/-- The buffer of window 2 at a point. -/
abbrev ms2 (t : Fin cfg0.N) : Memref sig .tc .vmem S1024x256 .bf16 := win0_2.stage (cfg0.slots t 2)
/-- The buffer of window 2 is a whole one. -/
abbrev hs2 (t : Fin cfg0.N) : (ms2 t).IsWhole := hstage0_2 ((cfg0.slots t 2).cast nbuf0_2)
/-- The buffer of window 3 at a point. -/
abbrev ms3 (t : Fin cfg0.N) : Memref sig .tc .vmem S1024x256 .bf16 := win0_3.stage (cfg0.slots t 3)
/-- The buffer of window 3 is a whole one. -/
abbrev hs3 (t : Fin cfg0.N) : (ms3 t).IsWhole := hstage0_3 ((cfg0.slots t 3).cast nbuf0_3)
/-- The buffer of window 4 at a point. -/
abbrev ms4 (t : Fin cfg0.N) : Memref sig .tc .vmem S256x1024 .bf16 := win0_4.stage (cfg0.slots t 4)
/-- The buffer of window 4 is a whole one. -/
abbrev hs4 (t : Fin cfg0.N) : (ms4 t).IsWhole := hstage0_4 ((cfg0.slots t 4).cast nbuf0_4)
/-- The buffer of window 5 at a point. -/
abbrev ms5 (t : Fin cfg0.N) : Memref sig .tc .vmem S2112x1024 .f32 := win0_5.stage (cfg0.slots t 5)
/-- The buffer of window 5 is a whole one. -/
abbrev hs5 (t : Fin cfg0.N) : (ms5 t).IsWhole := hstage0_5 ((cfg0.slots t 5).cast nbuf0_5)
/-- The buffer of window 6 at a point. -/
abbrev ms6 (t : Fin cfg0.N) : Memref sig .tc .vmem S1024x256 .bf16 := win0_6.stage (cfg0.slots t 6)
/-- The buffer of window 6 is a whole one. -/
abbrev hs6 (t : Fin cfg0.N) : (ms6 t).IsWhole := hstage0_6 ((cfg0.slots t 6).cast nbuf0_6)
/-- The buffer of window 7 at a point. -/
abbrev ms7 (t : Fin cfg0.N) : Memref sig .tc .vmem S1024x256 .bf16 := win0_7.stage (cfg0.slots t 7)
/-- The buffer of window 7 is a whole one. -/
abbrev hs7 (t : Fin cfg0.N) : (ms7 t).IsWhole := hstage0_7 ((cfg0.slots t 7).cast nbuf0_7)
/-- The buffer of window 8 at a point. -/
abbrev ms8 (t : Fin cfg0.N) : Memref sig .tc .vmem S256x1024 .bf16 := win0_8.stage (cfg0.slots t 8)
/-- The buffer of window 8 is a whole one. -/
abbrev hs8 (t : Fin cfg0.N) : (ms8 t).IsWhole := hstage0_8 ((cfg0.slots t 8).cast nbuf0_8)

/-- What the body is called with. -/
def bodyPre (c : Dev nD) (t : Fin cfg0.N) : sProp 𝕄 :=
  iprop(Inv m c t.val ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d))
    ∗ (∃ Y, ⌜(rel m c).Finds 5 t Y⌝ ∗ owns (c : Thread nD τ) (ms5 t) fullShare Y) ∗ (∃ Y, ⌜(rel m c).Finds 6 t Y⌝ ∗ owns (c : Thread nD τ) (ms6 t) fullShare Y) ∗ (∃ Y, ⌜(rel m c).Finds 7 t Y⌝ ∗ owns (c : Thread nD τ) (ms7 t) fullShare Y) ∗ (∃ Y, ⌜(rel m c).Finds 8 t Y⌝ ∗ owns (c : Thread nD τ) (ms8 t) fullShare Y))

/-- What it returns. -/
def bodyPost (c : Dev nD) (t : Fin cfg0.N) : sProp 𝕄 :=
  iprop(Inv m c (t.val + 1) ∗ (dats m 0 c).owesAt () t.castSucc
    ∗ owns (c : Thread nD τ) (ms0 t) fullShare (in0 m c t) ∗ owns (c : Thread nD τ) (ms1 t) fullShare (in1 m c t) ∗ owns (c : Thread nD τ) (ms2 t) fullShare (in2 m c t) ∗ owns (c : Thread nD τ) (ms3 t) fullShare (in3 m c t) ∗ owns (c : Thread nD τ) (ms4 t) fullShare (in4 m c t)
    ∗ (∃ X, ⌜Rl m c 5 t X⌝ ∗ owns (c : Thread nD τ) (ms5 t) fullShare X) ∗ (∃ X, ⌜Rl m c 6 t X⌝ ∗ owns (c : Thread nD τ) (ms6 t) fullShare X) ∗ (∃ X, ⌜Rl m c 7 t X⌝ ∗ owns (c : Thread nD τ) (ms7 t) fullShare X) ∗ (∃ X, ⌜Rl m c 8 t X⌝ ∗ owns (c : Thread nD τ) (ms8 t) fullShare X))

/-- The body at a point runs from `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  have hN : t.val < 22 := lt_of_lt_of_eq t.isLt (show cfg0.N = 22 from N_0)
  have hh : (grid0.coords t 1).val = t.val % 2 := half_val t
  unfold bodyPre bodyPost bodyAt0 Inv
  simp only [before0_0, before0_1, before0_2, before0_3, before0_4]
  iintro ⟨⟨⟨%s0, %s1, %s2, %hS, HS0, HS1, HS2⟩, Hg⟩, HO, ⟨%d0, H0⟩, ⟨%d1, H1⟩, ⟨%d2, H2⟩, ⟨%d3, H3⟩, ⟨%d4, H4⟩, ⟨%Y5, %h5, H5⟩, ⟨%Y6, %h6, H6⟩, ⟨%Y7, %h7, H7⟩, ⟨%Y8, %h8, H8⟩⟩
  iapply (run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (in0 m c t) (in1 m c t) (in2 m c t) (in3 m c t) (in4 m c t) Y5 s0 s1 s2 Set.univ _)
  isplitl [H0 H1 H2 H3 H4 H5 H6 H7 H8 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iexact HS2
  iintro ⟨H0, H1, H2, H3, H4, ⟨%X5, %g5, H5⟩, ⟨%X6, %g6, H6⟩, ⟨%X7, %g7, H7⟩, ⟨%X8, %g8, H8⟩, ⟨%z0, %k0, HS0⟩, ⟨%z1, %k1, HS1⟩, ⟨%z2, %k2, HS2⟩⟩
  isplitl [HS0 HS1 HS2 Hg]
  · isplitl [HS0 HS1 HS2]
    · iexists z0, z1, z2
      isplitr
      · ipureintro
        intro u hu he
        obtain rfl : u = t := Fin.ext (by omega)
        exact ⟨k0 (by omega), k1 (by omega), k2 (by omega)⟩
      isplitl [HS0]; · iexact HS0
      isplitl [HS1]; · iexact HS1
      iexact HS2
    iexact Hg
  isplitl [HO]; · iexact HO
  isplitl [H0]; · iexact H0
  isplitl [H1]; · iexact H1
  isplitl [H2]; · iexact H2
  isplitl [H3]; · iexact H3
  isplitl [H4]; · iexact H4
  isplitl [H5]
  · iexists X5; isplitr; swap; · iexact H5
    ipureintro; exact upd5 m c t Y5 X5 h5 g5
  have hp : t.val % 2 = 1 → s0 = k0_pay2 (p1 m c (prev t)) ∧ s1 = k0_pay3 (p2 m c (prev t)) ∧ s2 = k0_pay4 (p3 m c (prev t)) := fun ho =>
    hS (prev t) (by show t.val - 1 + 1 = t.val; omega) (by show (t.val - 1) % 2 = 0; omega)
  isplitl [H6]
  · iexists X6; isplitr; swap; · iexact H6
    ipureintro; exact fun ho => (g6 (hh.trans ho)).trans (by rw [(hp ho).1]; rfl)
  isplitl [H7]
  · iexists X7; isplitr; swap; · iexact H7
    ipureintro; exact fun ho => (g7 (hh.trans ho)).trans (by rw [(hp ho).2.1]; rfl)
  iexists X8; isplitr; swap; · iexact H8
  ipureintro; exact fun ho => (g8 (hh.trans ho)).trans (by rw [(hp ho).2.2]; rfl)

/-- The called body is the one of the point. -/
theorem defs₀_row (t : Fin cfg0.N) : defs₀ (F := F) .tc cfg0.body (cfg0.bodyArgs t (cfg0.slots t)) = bodyAt0 t := by
  unfold defs₀; rw [Defs.onTc_tc]

/-- The body's obligation, the outputs held to `Rl`. -/
theorem obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- What the grid starts with is the first invariant. -/
theorem hin (c : Dev nD) : Pipeline.ΦA spec0 c ⊢ (rel m c).Φ 0 := by
  show _ ⊢ Inv m c 0
  rw [anything]; unfold Inv
  iintro ⟨⟨⟨%s0, H0⟩, ⟨%s1, H1⟩, ⟨%s2, H2⟩⟩, Hg⟩
  isplitl [H0 H1 H2]
  · iexists s0, s1, s2
    isplitr
    · ipureintro; exact fun u hu => absurd hu (Nat.succ_ne_zero _)
    isplitl [H0]; · iexact H0
    isplitl [H1]; · iexact H1
    iexact H2
  iexact Hg

/-- The last invariant is what the grid ends with. -/
theorem hout (c : Dev nD) : (rel m c).Φ (Fin.last cfg0.N) ⊢ Pipeline.ΦA spec0 c := by
  show Inv m c (Fin.last cfg0.N).val ⊢ _
  rw [anything]; unfold Inv
  iintro ⟨⟨%s0, %s1, %s2, -, H0, H1, H2⟩, Hg⟩
  isplitl [H0 H1 H2]
  · isplitl [H0]; · iexists _; iexact H0
    isplitl [H1]; · iexists _; iexact H1
    iexists _; iexact H2
  iexact Hg

/-! ## The launch -/

set_option backward.isDefEq.respectTransparency.types false in
/-- Every execution ends, with the arrays at something the body may have left and every semaphore at zero. -/
theorem run_main :
    θ_run defs (onTc (τ := τ) (main (F := F))) (s₀ m ρ)
      (fun r => Pipeline.RDat.FramePost (cfgs 0) (rel m) (V m) r ∧ r.2.sem = fun _ => 0) :=
  Pipeline.RDat.θ_run_frame_track (Q' := _) cfgs (0 : Fin 1) launch0 defs₀ Variants.none (rel m) m ρ main
    (hbody := fun c => (obligation m c).toRRel) (hshare := fun c => (dats m 0 c).share_full fun _ => rfl)
    (howed := fun _ _ => rfl) (V := V m) (hmain := hmain m Variants.none)
    (hA := A_eq m) (hin := hin m) (hout := hout m)

/-- The arguments are as they were. -/
theorem kept (r : PUnit × MemSt nD τ sig (Elt F)) (h : Pipeline.RDat.FramePost (cfgs 0) (rel m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (show _ = (rel m c).A 1 from Eq.mp (congrFun ((rel m c).ArrAt_in 1 rfl _) _) ((h c).1 1)).trans ((A_eq m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- Every execution ends with the arguments as they were and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => kept m r h.1 c, h.2⟩) (run_main m ρ)

end Cert.FfnBwd

end
-- ==== Proof.FfnBwdVal.lean ====
/- The gradients of the feed-forward half step: what the arrays hold at the end, as sums over the rows and the hidden columns. -/
module

public import proofs.«01_k».proof.Proof.Ext
public import proofs.«01_k».proof.Proof.FfnBwdRun

@[expose] public section

set_option maxRecDepth 16384

noncomputable section

namespace Cert.FfnBwd

open Idealize.ShloMosaic Idealize.ShloMosaic.TcCoe Idealize.SL.Sem
open Cert.Emb Cert.Kernel7Ideal Cert.Kernel7Ideal.Gen

/-- The input's product with one of the two first weights. -/
def lin (x g : ℕ → ℕ → EReal) (i p : ℕ) : EReal := ∑ q ∈ Finset.range 1024, x i q * g q p
/-- Half of the cotangent. -/
def ct (d : ℕ → ℕ → EReal) (i j : ℕ) : EReal := ((1 / 2 : ℝ) : EReal) * d i j
/-- The cotangent of the hidden columns. -/
def back (d w : ℕ → ℕ → EReal) (i p : ℕ) : EReal := ∑ q ∈ Finset.range 1024, ct d i q * w p q
/-- The silu of the gate. -/
def act (x g : ℕ → ℕ → EReal) (i p : ℕ) : EReal := lin x g i p * Ideal.logistic (lin x g i p)
/-- The cotangent of the gate. -/
def dg (x d g u w : ℕ → ℕ → EReal) (i p : ℕ) : EReal := back d w i p * lin x u i p
  * (Ideal.logistic (lin x g i p) * (((1 : ℝ) : EReal) + lin x g i p * (((1 : ℝ) : EReal) - Ideal.logistic (lin x g i p))))
/-- The cotangent of the second factor. -/
def du (x d g w : ℕ → ℕ → EReal) (i p : ℕ) : EReal := back d w i p * act x g i p

/-- The difference of two matrices. -/
theorem subf_X2 {n m : ℕ} (f g : ℕ → ℕ → EReal) :
    subf (F := Ideal) (φ := .f32) (X2 n m f) (X2 n m g) = X2 n m (fun i j => f i j - g i j) := rfl

/-! ## The payloads -/

section Payloads
variable (x d g u w : ℕ → ℕ → EReal)

/-- The gate of a block. -/
theorem pay16 : k0_pay16 (F := Ideal) (X2 1056 1024 x) (X2 1024 256 g) = X2 1056 256 (lin x g) := by
  simp only [k0_pay16, k0_pay12, k0_pay14, cast_same, zero_X2, matmul_ideal]
  exact xdot_10 x g _
/-- The second factor of a block. -/
theorem pay17 : k0_pay17 (F := Ideal) (X2 1056 1024 x) (X2 1024 256 u) = X2 1056 256 (lin x u) := by
  simp only [k0_pay17, k0_pay12, k0_pay15, cast_same, zero_X2, matmul_ideal]
  exact xdot_10 x u _
/-- The gate's logistic function. -/
theorem pay18 : k0_pay18 (F := Ideal) (X2 1056 1024 x) (X2 1024 256 g) = X2 1056 256 fun i p => Ideal.logistic (lin x g i p) := by
  simp only [k0_pay18, pay16, logistic_X2]
/-- The gate's silu. -/
theorem pay19 : k0_pay19 (F := Ideal) (X2 1056 1024 x) (X2 1024 256 g) = X2 1056 256 (act x g) := by
  simp only [k0_pay19, pay16, pay18, mulf_X2]; rfl
/-- Half of the cotangent of a block. -/
theorem pay13 : k0_pay13 (F := Ideal) (X2 1056 1024 d) = X2 1056 1024 (ct d) := by
  simp only [k0_pay13, lit, lit_half, broadcast_X2, mulf_X2, truncf_X2]; rfl
/-- The cotangent of a block's hidden columns. -/
theorem pay20 : k0_pay20 (F := Ideal) (X2 1056 1024 d) (X2 256 1024 w) = X2 1056 256 (back d w) := by
  simp only [k0_pay20, pay13, cast_same, zero_X2, matmul_ideal]
  exact xdot_11 (ct d) w _
/-- A block's term of the last weight's gradient. -/
theorem pay21 : k0_pay21 (F := Ideal) (X2 1056 1024 x) (X2 1056 1024 d) (X2 1024 256 g) (X2 1024 256 u)
    = X2 256 1024 fun p j => ∑ i ∈ Finset.range 1056, act x g i p * lin x u i p * ct d i j := by
  simp only [k0_pay21, pay13, pay17, pay19, mulf_X2, truncf_X2, zero_X2, matmul_ideal]
  exact xdot_00 (fun i p => act x g i p * lin x u i p) (ct d) _
/-- The cotangent of a block's gate. -/
theorem pay22 : k0_pay22 (F := Ideal) (X2 1056 1024 x) (X2 1056 1024 d) (X2 1024 256 g) (X2 1024 256 u) (X2 256 1024 w)
    = X2 1056 256 (dg x d g u w) := by
  simp only [k0_pay22, pay16, pay17, pay18, pay20, lit, lit_one, broadcast_X2, mulf_X2, addf_X2, subf_X2, truncf_X2]
  rfl
/-- The cotangent of a block's second factor. -/
theorem pay23 : k0_pay23 (F := Ideal) (X2 1056 1024 x) (X2 1056 1024 d) (X2 1024 256 g) (X2 256 1024 w)
    = X2 1056 256 (du x d g w) := by
  simp only [k0_pay23, pay19, pay20, mulf_X2, truncf_X2]
  rfl
/-- A block's term of the first weight's gradient. -/
theorem pay24 : k0_pay24 (F := Ideal) (X2 1056 1024 x) (X2 1056 1024 d) (X2 1024 256 g) (X2 1024 256 u) (X2 256 1024 w)
    = X2 1024 256 fun q p => ∑ i ∈ Finset.range 1056, x i q * dg x d g u w i p := by
  simp only [k0_pay24, k0_pay12, pay22, cast_same, zero_X2, matmul_ideal]
  exact xdot_00 x _ _
/-- A block's term of the second weight's gradient. -/
theorem pay25 : k0_pay25 (F := Ideal) (X2 1056 1024 x) (X2 1056 1024 d) (X2 1024 256 g) (X2 256 1024 w)
    = X2 1024 256 fun q p => ∑ i ∈ Finset.range 1056, x i q * du x d g w i p := by
  simp only [k0_pay25, k0_pay12, pay23, cast_same, zero_X2, matmul_ideal]
  exact xdot_00 x _ _
/-- A tile's term of the input's gradient. -/
theorem pay26 : k0_pay26 (F := Ideal) (X2 1056 1024 x) (X2 1056 1024 d) (X2 1024 256 g) (X2 1024 256 u) (X2 256 1024 w)
    = X2 1056 1024 fun i j => ∑ p ∈ Finset.range 256, dg x d g u w i p * g j p := by
  simp only [k0_pay26, k0_pay14, pay22, cast_same, zero_X2, matmul_ideal]
  exact xdot_11 _ g _
/-- What one point adds to the gradient of the input. -/
theorem dx_eq : dx (F := Ideal) (X2 1056 1024 x) (X2 1056 1024 d) (X2 1024 256 g) (X2 1024 256 u) (X2 256 1024 w)
    = X2 1056 1024 fun i j => ∑ p ∈ Finset.range 256, dg x d g u w i p * g j p + ∑ p ∈ Finset.range 256, du x d g w i p * u j p := by
  simp only [dx, k0_pay1, k0_pay15, pay23, pay26, cast_same, zero_X2, matmul_ideal]
  rw [show Ideal.matmul dot_S1056x256_S1024x256_S1056x1024_1_1_0_0_n_n (X2 1056 256 (du x d g w)) (X2 1024 256 u) (X2 1056 1024 fun _ _ => 0) = _
    from xdot_11 (du x d g w) u _, addf_X2]
/-- The gradient of the input after one more point. -/
theorem dxAdd_eq (z : ℕ → ℕ → EReal) :
    dxAdd (F := Ideal) (X2 1056 1024 x) (X2 1056 1024 d) (X2 1024 256 g) (X2 1024 256 u) (X2 256 1024 w) (X2 1056 1024 z)
    = X2 1056 1024 fun i j => z i j + (∑ p ∈ Finset.range 256, dg x d g u w i p * g j p + ∑ p ∈ Finset.range 256, du x d g w i p * u j p) := by
  have e := dx_eq x d g u w
  unfold dx at e
  simp only [dxAdd, k0_pay11, e, cast_same, addf_X2]

end Payloads

/-! ## The blocks -/

/-- The point `t` works on the half `t % 2` of the rows and the tile `t / 2` of 256 hidden columns. -/
theorem idx : ∀ t : Fin grid0.N, (win0_0.index t 0 = 0 ∧ win0_0.index t 1 = 0) ∧ (win0_1.index t 0 = t.val % 2 ∧ win0_1.index t 1 = 0)
    ∧ (win0_2.index t 0 = 0 ∧ win0_2.index t 1 = t.val / 2) ∧ (win0_3.index t 0 = 0 ∧ win0_3.index t 1 = t.val / 2)
    ∧ (win0_4.index t 0 = t.val / 2 ∧ win0_4.index t 1 = 0) ∧ (win0_6.index t 0 = 0 ∧ win0_6.index t 1 = t.val / 2)
    ∧ (win0_7.index t 0 = 0 ∧ win0_7.index t 1 = t.val / 2) ∧ (win0_8.index t 0 = t.val / 2 ∧ win0_8.index t 1 = 0) := by decide +kernel

variable {m : (ℓ : Loc nD τ sig) → Buf (Elt Ideal) ℓ} {c : Dev nD} {x d g u w : ℕ → ℕ → EReal}

/-- The arguments, as functions of natural-number indices. -/
structure Args (m : (ℓ : Loc nD τ sig) → Buf (Elt Ideal) ℓ) (c : Dev nD) (x d g u w : ℕ → ℕ → EReal) : Prop where
  x : m ((c : Thread nD τ).loc main_arg0) = X2 2112 1024 x
  d : m ((c : Thread nD τ).loc main_arg1) = X2 2112 1024 d
  g : m ((c : Thread nD τ).loc main_arg2) = X2 1024 2816 g
  u : m ((c : Thread nD τ).loc main_arg3) = X2 1024 2816 u
  w : m ((c : Thread nD τ).loc main_arg4) = X2 2816 1024 w

/-- The rows of a half. -/
def rowsOf (x : ℕ → ℕ → EReal) (k : ℕ) : ℕ → ℕ → EReal := fun i j => x (1056 * k + i) j
/-- The columns of a tile. -/
def colsOf (g : ℕ → ℕ → EReal) (a : ℕ) : ℕ → ℕ → EReal := fun i j => g i (256 * a + j)
/-- The last weights' rows of a tile. -/
def tileOf (w : ℕ → ℕ → EReal) (a : ℕ) : ℕ → ℕ → EReal := fun i j => w (256 * a + i) j

section Reads
variable (h : Args m c x d g u w)
include h

/-- The half of the input's rows. -/
theorem blk0 (t : Fin cfg0.N) (k : Fin 2) : rows k (in0 (F := Ideal) m c t) = X2 1056 1024 (rowsOf x k.val) := by
  obtain ⟨⟨i00, i01⟩, -⟩ := idx t
  have e : V m c main_v0 = X2 2112 1024 x := by
    entry_read
    rw [show m (c, main_arg0) = X2 2112 1024 x from h.x]; rfl
  have e2 : in0 (F := Ideal) m c t = X2 2112 1024 x := by
    funext p
    unfold in0 iblk
    rw [show V m c (Pipeline.arrRef spec0 0) = X2 2112 1024 x from e]
    blk_simp
    simp only [X2]
    blk_simp
    rw [i00, i01, Nat.zero_mul, Nat.zero_add, Nat.zero_add]
  rw [e2]; rfl
/-- The half of the cotangent's rows. -/
theorem blk1 (t : Fin cfg0.N) : in1 (F := Ideal) m c t = X2 1056 1024 (rowsOf d (t.val % 2)) := by
  obtain ⟨-, ⟨i00, i01⟩, -⟩ := idx t
  funext p
  unfold in1 iblk
  rw [show V m c (Pipeline.arrRef spec0 1) = X2 2112 1024 d from (V_main_arg1 m c).trans h.d]
  blk_simp
  simp only [X2, rowsOf]
  blk_simp
  rw [i00, i01, Nat.zero_mul, Nat.zero_add, Nat.mul_comm 1056]
/-- The tile of the gate's weights. -/
theorem blk2 (t : Fin cfg0.N) : in2 (F := Ideal) m c t = X2 1024 256 (colsOf g (t.val / 2)) := by
  obtain ⟨-, -, ⟨i00, i01⟩, -⟩ := idx t
  have e : V m c main_v1 = X2 1024 2816 g := by
    entry_read
    rw [show m (c, main_arg2) = X2 1024 2816 g from h.g]; rfl
  funext p
  unfold in2 iblk
  rw [show V m c (Pipeline.arrRef spec0 2) = X2 1024 2816 g from e]
  blk_simp
  simp only [X2, colsOf]
  blk_simp
  rw [i00, i01, Nat.zero_mul, Nat.zero_add, Nat.mul_comm 256]
/-- The tile of the second factor's weights. -/
theorem blk3 (t : Fin cfg0.N) : in3 (F := Ideal) m c t = X2 1024 256 (colsOf u (t.val / 2)) := by
  obtain ⟨-, -, -, ⟨i00, i01⟩, -⟩ := idx t
  have e : V m c main_v2 = X2 1024 2816 u := by
    entry_read
    rw [show m (c, main_arg3) = X2 1024 2816 u from h.u]; rfl
  funext p
  unfold in3 iblk
  rw [show V m c (Pipeline.arrRef spec0 3) = X2 1024 2816 u from e]
  blk_simp
  simp only [X2, colsOf]
  blk_simp
  rw [i00, i01, Nat.zero_mul, Nat.zero_add, Nat.mul_comm 256]
/-- The tile of the last weights. -/
theorem blk4 (t : Fin cfg0.N) : in4 (F := Ideal) m c t = X2 256 1024 (tileOf w (t.val / 2)) := by
  obtain ⟨-, -, -, -, ⟨i00, i01⟩, -⟩ := idx t
  have e : V m c main_v3 = X2 2816 1024 w := by
    entry_read
    rw [show m (c, main_arg4) = X2 2816 1024 w from h.w]; rfl
  funext p
  unfold in4 iblk
  rw [show V m c (Pipeline.arrRef spec0 4) = X2 2816 1024 w from e]
  blk_simp
  simp only [X2, tileOf]
  blk_simp
  rw [i00, i01, Nat.zero_mul, Nat.zero_add, Nat.mul_comm 256]

/-- What a point adds to the gradient of the gate's weights. -/
theorem p1_eq (t : Fin cfg0.N) : p1 (F := Ideal) m c t = X2 1024 256 fun q p => ∑ i ∈ Finset.range 1056,
    x (1056 * (t.val % 2) + i) q * dg x d g u w (1056 * (t.val % 2) + i) (256 * (t.val / 2) + p) := by
  unfold p1
  rw [blk0 h, blk1 h, blk2 h, blk3 h, blk4 h, show (half t).val = t.val % 2 from half_val t, pay24]; rfl
/-- What a point adds to the gradient of the second factor's weights. -/
theorem p2_eq (t : Fin cfg0.N) : p2 (F := Ideal) m c t = X2 1024 256 fun q p => ∑ i ∈ Finset.range 1056,
    x (1056 * (t.val % 2) + i) q * du x d g w (1056 * (t.val % 2) + i) (256 * (t.val / 2) + p) := by
  unfold p2
  rw [blk0 h, blk1 h, blk2 h, blk4 h, show (half t).val = t.val % 2 from half_val t, pay25]; rfl
/-- What a point adds to the gradient of the last weights. -/
theorem p3_eq (t : Fin cfg0.N) : p3 (F := Ideal) m c t = X2 256 1024 fun p j => ∑ i ∈ Finset.range 1056,
    act x g (1056 * (t.val % 2) + i) (256 * (t.val / 2) + p) * lin x u (1056 * (t.val % 2) + i) (256 * (t.val / 2) + p)
      * ct d (1056 * (t.val % 2) + i) j := by
  unfold p3
  rw [blk0 h, blk1 h, blk2 h, blk3 h, show (half t).val = t.val % 2 from half_val t, pay21]; rfl

/-- The gradient of the input after the column tiles `0` to `a`. -/
theorem acc_eq (k : Fin 2) (a : ℕ) (ha : a < 11) : acc (F := Ideal) m c k a = X2 1056 1024 fun i j =>
    ∑ s ∈ Finset.range (a + 1), (∑ p ∈ Finset.range 256, dg x d g u w (1056 * k.val + i) (256 * s + p) * g j (256 * s + p)
      + ∑ p ∈ Finset.range 256, du x d g w (1056 * k.val + i) (256 * s + p) * u j (256 * s + p)) := by
  have hk : k.val < 2 := k.isLt
  have hp : ∀ b < 11, (pnt b k).val % 2 = k.val ∧ (pnt b k).val / 2 = b := fun b hb => by
    have e : (pnt b k).val = (2 * b + k.val) % 22 := rfl
    omega
  induction a with
  | zero =>
    show dx _ _ _ _ _ = _
    rw [blk0 h, blk1 h, blk2 h, blk3 h, blk4 h, (hp 0 ha).1, (hp 0 ha).2, dx_eq]
    exact X2_congr fun i _ j _ => (Finset.sum_range_one (fun s => ∑ p ∈ Finset.range 256, dg x d g u w (1056 * k.val + i) (256 * s + p) * g j (256 * s + p)
      + ∑ p ∈ Finset.range 256, du x d g w (1056 * k.val + i) (256 * s + p) * u j (256 * s + p))).symm
  | succ a ih =>
    show dxAdd _ _ _ _ _ (acc m c k a) = _
    rw [ih (by omega), blk0 h, blk1 h, blk2 h, blk3 h, blk4 h, (hp (a + 1) ha).1, (hp (a + 1) ha).2, dxAdd_eq]
    exact X2_congr fun i _ j _ => (Finset.sum_range_succ (fun s => ∑ p ∈ Finset.range 256, dg x d g u w (1056 * k.val + i) (256 * s + p) * g j (256 * s + p)
      + ∑ p ∈ Finset.range 256, du x d g w (1056 * k.val + i) (256 * s + p) * u j (256 * s + p)) (a + 1)).symm

/-- The gradient of the input after the last tile. -/
theorem acc_last (k : Fin 2) : acc (F := Ideal) m c k 10 = X2 1056 1024 fun i j =>
    ∑ p ∈ Finset.range 2816, dg x d g u w (1056 * k.val + i) p * g j p + ∑ p ∈ Finset.range 2816, du x d g w (1056 * k.val + i) p * u j p := by
  rw [acc_eq h k 10 (by omega)]
  refine X2_congr fun i _ j _ => ?_
  rw [Finset.sum_add_distrib, sum_blocks (fun p => dg x d g u w (1056 * k.val + i) p * g j p) 256 11,
    sum_blocks (fun p => du x d g w (1056 * k.val + i) p * u j p) 256 11]

end Reads

/-- A sum over 2112 places, as its two halves, the second one first. -/
theorem sum_halves (f : ℕ → EReal) : ∑ i ∈ Finset.range 1056, f (1056 * 0 + i) + ∑ i ∈ Finset.range 1056, f (1056 * 1 + i)
    = ∑ i ∈ Finset.range 2112, f i := by
  rw [Finset.sum_range_add f 1056 1056]
  simp only [Nat.mul_zero, Nat.zero_add, Nat.mul_one]

/-! ## The arrays at the end -/

/-- Every element of a matrix of 2112 rows is in one of its two halves. -/
theorem of_rows {z : S2112x1024.Idx → EReal} {f : ℕ → ℕ → EReal} (hz : ∀ k : Fin 2, rows k z = X2 1056 1024 (rowsOf f k.val)) :
    z = X2 2112 1024 f := by
  funext j
  have hj : (j 0).val < 2112 := (j 0).isLt
  have hk : (j 0).val / 1056 < 2 := by omega
  have hr : (j 0).val % 1056 < 1056 := Nat.mod_lt _ (by decide)
  have e := congrFun (hz ⟨(j 0).val / 1056, hk⟩) (ix2 (n0 := 1056) (n1 := 1024) ⟨(j 0).val % 1056, hr⟩ (j 1))
  have q : rowIdx ⟨(j 0).val / 1056, hk⟩ (ix2 (n0 := 1056) (n1 := 1024) ⟨(j 0).val % 1056, hr⟩ (j 1)) = j := funext fun a => by
    match a with
    | 0 => exact Fin.ext (Nat.div_add_mod _ _)
    | 1 => rfl
  unfold rows at e
  rw [q] at e
  rw [e]
  show f (1056 * ((j 0).val / 1056) + (j 0).val % 1056) (j 1).val = f (j 0).val (j 1).val
  rw [Nat.div_add_mod]

/-- The last point. -/
def last : Fin cfg0.N := ⟨21, by decide⟩

section Finals
variable {after : (w' : Fin cfg0.W) → Fin cfg0.N → (cfg0.win w').block.Idx → Elt Ideal (cfg0.win w').elt}
variable (h : Args m c x d g u w) (ha : ∀ (w' : Fin cfg0.W) (t : Fin cfg0.N), (cfg0.win w').flush t = true → (rel (F := Ideal) m c).Leaves w' t (after w' t))
include h ha

/-- The gradient of the input. -/
theorem final5 : ((rel (F := Ideal) m c).withAfter after).arrAt 5 cfg0.N = X2 2112 1024 fun i j =>
    ∑ p ∈ Finset.range 2816, dg x d g u w i p * g j p + ∑ p ∈ Finset.range 2816, du x d g w i p * u j p := by
  have hl : Rl m c 5 last (after 5 last) := (dats m 0 c).toRRel_leaves rfl (ha 5 last ((flush0_5 last).mpr rfl))
  have e : (after 5 last : S2112x1024.Idx → EReal) = X2 2112 1024 fun i j =>
      ∑ p ∈ Finset.range 2816, dg x d g u w i p * g j p + ∑ p ∈ Finset.range 2816, du x d g w i p * u j p := by
    refine of_rows fun k => ?_
    by_cases hk : k = half last
    · rw [hk]; exact hl.1.trans (acc_last h (half last))
    · exact (hl.2 k hk (by decide)).trans (acc_last h k)
  refine ((rel (F := Ideal) m c).withAfter after).arrAt_eq_of_after_last 5 last (by decide +kernel) _ fun j => ?_
  blk_simp
  rw [Pipeline.RDat.withAfter_after, e]

/-- The gradient of the gate's weights. -/
theorem final6 : ((rel (F := Ideal) m c).withAfter after).arrAt 6 cfg0.N = X2 1024 2816 fun q p =>
    ∑ i ∈ Finset.range 2112, x i q * dg x d g u w i p := by
  refine ((rel (F := Ideal) m c).withAfter after).arrAt_eq_of_covers 6 _ (by decide +kernel) fun t ht p => ?_
  have ho : t.val % 2 = 1 := (flush0_6 t).mp ht
  have hl : Rl m c 6 t (after 6 t) := (dats m 0 c).toRRel_leaves rfl (ha 6 t ht)
  have e1 : (prev t).val % 2 = 0 := by show (t.val - 1) % 2 = 0; omega
  have e2 : (prev t).val / 2 = t.val / 2 := by show (t.val - 1) / 2 = t.val / 2; omega
  have e : (after 6 t : S1024x256.Idx → EReal) = X2 1024 256 fun q p => ∑ i ∈ Finset.range 2112, x i q * dg x d g u w i (256 * (t.val / 2) + p) := by
    refine (hl ho).trans ?_
    rw [p1_eq h, p1_eq h, e1, e2, ho]
    simp only [k0_pay8, k0_pay5, k0_pay2, cast_same, addf_X2, truncf_X2]
    exact X2_congr fun q _ p _ => sum_halves fun i => x i q * dg x d g u w i (256 * (t.val / 2) + p)
  obtain ⟨-, -, -, -, -, ⟨i00, i01⟩, -⟩ := idx t
  blk_simp
  rw [Pipeline.RDat.withAfter_after, e]
  simp only [X2]
  blk_simp
  rw [i00, i01, Nat.mul_comm 256, Nat.zero_mul, Nat.zero_add]
/-- The gradient of the second factor's weights. -/
theorem final7 : ((rel (F := Ideal) m c).withAfter after).arrAt 7 cfg0.N = X2 1024 2816 fun q p =>
    ∑ i ∈ Finset.range 2112, x i q * du x d g w i p := by
  refine ((rel (F := Ideal) m c).withAfter after).arrAt_eq_of_covers 7 _ (by decide +kernel) fun t ht p => ?_
  have ho : t.val % 2 = 1 := (flush0_7 t).mp ht
  have hl : Rl m c 7 t (after 7 t) := (dats m 0 c).toRRel_leaves rfl (ha 7 t ht)
  have e1 : (prev t).val % 2 = 0 := by show (t.val - 1) % 2 = 0; omega
  have e2 : (prev t).val / 2 = t.val / 2 := by show (t.val - 1) / 2 = t.val / 2; omega
  have e : (after 7 t : S1024x256.Idx → EReal) = X2 1024 256 fun q p => ∑ i ∈ Finset.range 2112, x i q * du x d g w i (256 * (t.val / 2) + p) := by
    refine (hl ho).trans ?_
    rw [p2_eq h, p2_eq h, e1, e2, ho]
    simp only [k0_pay9, k0_pay6, k0_pay3, cast_same, addf_X2, truncf_X2]
    exact X2_congr fun q _ p _ => sum_halves fun i => x i q * du x d g w i (256 * (t.val / 2) + p)
  obtain ⟨-, -, -, -, -, -, ⟨i00, i01⟩, -⟩ := idx t
  blk_simp
  rw [Pipeline.RDat.withAfter_after, e]
  simp only [X2]
  blk_simp
  rw [i00, i01, Nat.mul_comm 256, Nat.zero_mul, Nat.zero_add]
/-- The gradient of the last weights. -/
theorem final8 : ((rel (F := Ideal) m c).withAfter after).arrAt 8 cfg0.N = X2 2816 1024 fun p j =>
    ∑ i ∈ Finset.range 2112, act x g i p * lin x u i p * ct d i j := by
  refine ((rel (F := Ideal) m c).withAfter after).arrAt_eq_of_covers 8 _ (by decide +kernel) fun t ht p => ?_
  have ho : t.val % 2 = 1 := (flush0_8 t).mp ht
  have hl : Rl m c 8 t (after 8 t) := (dats m 0 c).toRRel_leaves rfl (ha 8 t ht)
  have e1 : (prev t).val % 2 = 0 := by show (t.val - 1) % 2 = 0; omega
  have e2 : (prev t).val / 2 = t.val / 2 := by show (t.val - 1) / 2 = t.val / 2; omega
  have e : (after 8 t : S256x1024.Idx → EReal) = X2 256 1024 fun p j => ∑ i ∈ Finset.range 2112,
      act x g i (256 * (t.val / 2) + p) * lin x u i (256 * (t.val / 2) + p) * ct d i j := by
    refine (hl ho).trans ?_
    rw [p3_eq h, p3_eq h, e1, e2, ho]
    simp only [k0_pay10, k0_pay7, k0_pay4, cast_same, addf_X2, truncf_X2]
    exact X2_congr fun p _ j _ => sum_halves fun i => act x g i (256 * (t.val / 2) + p) * lin x u i (256 * (t.val / 2) + p) * ct d i j
  obtain ⟨-, -, -, -, -, -, -, i00, i01⟩ := idx t
  blk_simp
  rw [Pipeline.RDat.withAfter_after, e]
  simp only [X2]
  blk_simp
  rw [i00, i01, Nat.mul_comm 256, Nat.zero_mul, Nat.zero_add]

end Finals

end Cert.FfnBwd

end
-- ==== Proof.FfnBwdRef.lean ====
/- The gradients of the feed-forward half step: the kernel's are the reference's. -/
module

public import proofs.«01_k».proof.Proof.FfnBwdVal
public import proofs.«01_k».proof.Proof.Sums
public import proofs.«01_k».proof.Proof.Gen.Kernel7
public import proofs.«01_k».proof.Proof.Gen.Reference7Ideal
public import proofs.«01_k».proof.Defs
public import Idealize.ShloMosaic.Lib.Claim

@[expose] public section

set_option maxRecDepth 16384

noncomputable section

namespace Cert.FfnBwd

open Idealize.ShloMosaic Idealize.ShloMosaic.TcCoe Idealize.SL.Sem
open Cert.Emb

/-! ## The reference's operations -/

section Host
open Cert.Reference7Ideal Cert.Reference7Ideal.Gen

/-- The reference's one, everywhere. -/
theorem hone (hb) : broadcastInDim (α := Elt Ideal .f32) S2112x2816 (![] : Fin 0 → Fin 2) hb (constant (F := Ideal) S_ .f32 0x3F800000#32) = X2 2112 2816 fun _ _ => ((1 : ℝ) : EReal) := by
  rw [constant_lit, lit_one]; rfl
/-- Half of the cotangent. -/
theorem hhalf (d : ℕ → ℕ → EReal) (hb) : mulf (F := Ideal) (φ := .f32) (broadcastInDim (α := Elt Ideal .f32) S2112x1024 (![] : Fin 0 → Fin 2) hb (constant (F := Ideal) S_ .f32 0x3F000000#32))
    (X2 2112 1024 d) = X2 2112 1024 (ct d) := by
  rw [constant_lit, lit_half]; rfl
/-- The reference's logistic function: `1 / (1 + exp (-v))`. -/
theorem hlogistic (f : ℕ → ℕ → EReal) : Host.divf (F := Ideal) (φ := .f32) (X2 2112 2816 fun _ _ => ((1 : ℝ) : EReal))
    (addf (F := Ideal) (φ := .f32) (X2 2112 2816 fun _ _ => ((1 : ℝ) : EReal)) (Host.exp (F := Ideal) (φ := .f32) (Host.negf (F := Ideal) (φ := .f32) (X2 2112 2816 f))))
    = X2 2112 2816 fun i j => Ideal.logistic (f i j) := rfl
/-- The input's product with one of the two first weights. -/
theorem hlin (x g : ℕ → ℕ → EReal) : Host.dotGeneral (F := Ideal) (φ₁ := .f32) (φ₂ := .f32) dot_S2112x1024_S1024x2816_S2112x2816_1_0_0_1_n_n none
    (X2 2112 1024 x) (X2 1024 2816 g) = X2 2112 2816 (lin x g) := xdot_10 x g _
/-- The cotangent of the hidden columns. -/
theorem hback (d w : ℕ → ℕ → EReal) : Host.dotGeneral (F := Ideal) (φ₁ := .f32) (φ₂ := .f32) dot_S2112x1024_S2816x1024_S2112x2816_1_1_0_0_n_n none
    (X2 2112 1024 (ct d)) (X2 2816 1024 w) = X2 2112 2816 (back d w) := xdot_11 (ct d) w _
/-- The product of the cotangent and the hidden columns, over the rows. -/
theorem hrows1 (f g : ℕ → ℕ → EReal) : Host.dotGeneral (F := Ideal) (φ₁ := .f32) (φ₂ := .f32) dot_S2112x1024_S2112x2816_S1024x2816_0_0_1_1_n_n none
    (X2 2112 1024 f) (X2 2112 2816 g) = X2 1024 2816 fun i j => ∑ q ∈ Finset.range 2112, f q i * g q j := xdot_00 f g _
/-- The product of hidden columns and the input, over the rows. -/
theorem hrows2 (f g : ℕ → ℕ → EReal) : Host.dotGeneral (F := Ideal) (φ₁ := .f32) (φ₂ := .f32) dot_S2112x2816_S2112x1024_S2816x1024_0_0_1_1_n_n none
    (X2 2112 2816 f) (X2 2112 1024 g) = X2 2816 1024 fun i j => ∑ q ∈ Finset.range 2112, f q i * g q j := xdot_00 f g _
/-- The product of hidden columns and one of the first two weights. -/
theorem hcols (f g : ℕ → ℕ → EReal) : Host.dotGeneral (F := Ideal) (φ₁ := .f32) (φ₂ := .f32) dot_S2112x2816_S1024x2816_S2112x1024_1_1_0_0_n_n none
    (X2 2112 2816 f) (X2 1024 2816 g) = X2 2112 1024 fun i j => ∑ p ∈ Finset.range 2816, f i p * g j p := xdot_11 f g _
/-- The first transpose. -/
theorem hturn1 (f : ℕ → ℕ → EReal) (h) : transpose S2816x1024 [1, 0] (X2 1024 2816 f) h = X2 2816 1024 fun i j => f j i := transpose_X2 f h
/-- The other transposes. -/
theorem hturn2 (f : ℕ → ℕ → EReal) (h) : transpose S1024x2816 [1, 0] (X2 2816 1024 f) h = X2 1024 2816 fun i j => f j i := transpose_X2 f h

/-- A turned and narrowed product, as wide as the hidden columns. -/
theorem hwide (f : ℕ → ℕ → EReal) (h h') : truncf (F := Ideal) (φ := .f32) .bf16 (transpose S1024x2816 [1, 0] (X2 2816 1024 f) h) h' = X2 1024 2816 fun i j => f j i := by
  rw [hturn2 f h]; rfl
/-- A turned and narrowed product, as high as the hidden columns. -/
theorem htall (f : ℕ → ℕ → EReal) (h h') : truncf (F := Ideal) (φ := .f32) .bf16 (transpose S2816x1024 [1, 0] (X2 1024 2816 f) h) h' = X2 2816 1024 fun i j => f j i := by
  rw [hturn1 f h]; rfl

/-- The frame of the reference. -/
theorem frameRI : Cert.quiescent_Reference7Ideal := by
  intro m ρ _
  hlo_run
  · exact fun _ => ⟨trivial, trivial, trivial, trivial, trivial⟩
  · funext g
    rcases g with ⟨t, s⟩
    cases s with
    | reg s => exact s.elim0
    | dma s => exact s.elim0

end Host

/-! ## The derivative of silu -/

/-- The cotangent of the gate, as the reference writes it. -/
def dgRef (x d g u w : ℕ → ℕ → EReal) (i p : ℕ) : EReal := back d w i p * lin x u i p * Ideal.logistic (lin x g i p)
  + lin x g i p * (back d w i p * lin x u i p) * (Ideal.logistic (lin x g i p) * (((1 : ℝ) : EReal) - Ideal.logistic (lin x g i p)))

/-- A matrix of real numbers as one of extended reals. -/
def up (f : ℕ → ℕ → ℝ) : ℕ → ℕ → EReal := fun i j => ((f i j : ℝ) : EReal)

/-- A product of matrices of real numbers is one. -/
theorem lin_up (x g : ℕ → ℕ → ℝ) (i p : ℕ) : lin (up x) (up g) i p = ((∑ q ∈ Finset.range 1024, x i q * g q p : ℝ) : EReal) := by
  unfold lin up
  rw [← coe_sum]
  exact Finset.sum_congr rfl fun q _ => (EReal.coe_mul _ _).symm
/-- The cotangent of the hidden columns is real. -/
theorem back_up (d w : ℕ → ℕ → ℝ) (i p : ℕ) : back (up d) (up w) i p = ((∑ q ∈ Finset.range 1024, 1 / 2 * d i q * w p q : ℝ) : EReal) := by
  unfold back ct up
  rw [← coe_sum]
  exact Finset.sum_congr rfl fun q _ => by rw [← EReal.coe_mul, ← EReal.coe_mul]

/-- The logistic function of a real number is a real number. -/
theorem logistic_up (a : ℝ) : Ideal.logistic (a : EReal) = ((sig a : ℝ) : EReal) := Ideal.logistic_coe a

/-- The two forms of silu's derivative agree on real numbers. -/
theorem dg_up (x d g u w : ℕ → ℕ → ℝ) (i p : ℕ) : dgRef (up x) (up d) (up g) (up u) (up w) i p = dg (up x) (up d) (up g) (up u) (up w) i p := by
  unfold dgRef dg
  rw [lin_up, lin_up, back_up, logistic_up]
  simp only [← EReal.coe_mul, ← EReal.coe_add, ← EReal.coe_sub]
  congr 1
  ring

/-! ## The claims -/

section Run
open Cert.Kernel7Ideal Cert.Kernel7Ideal.Gen

/-- The kernel's results, from its arguments. -/
theorem run_vals (m : (ℓ : Loc nD τ sig) → Buf (Elt Ideal) ℓ) (ρ : Dev nD → PrngReg) (x d g u w : Dev nD → ℕ → ℕ → EReal)
    (h : ∀ c, Args m c (x c) (d c) (g c) (u c) (w c)) :
    θ_run (defs (F := Ideal)) (onTc (τ := τ) (main (F := Ideal))) ⟨m, fun _ => 0, ρ⟩ (fun r => ∀ c : Dev nD,
      r.2.mem ((c.tc : Thread nD τ).loc main_v4_0) = (X2 2112 1024 fun i j => ∑ p ∈ Finset.range 2816, dg (x c) (d c) (g c) (u c) (w c) i p * g c j p
          + ∑ p ∈ Finset.range 2816, du (x c) (d c) (g c) (w c) i p * u c j p)
      ∧ r.2.mem ((c.tc : Thread nD τ).loc main_v4_1) = (X2 1024 2816 fun q p => ∑ i ∈ Finset.range 2112, x c i q * dg (x c) (d c) (g c) (u c) (w c) i p)
      ∧ r.2.mem ((c.tc : Thread nD τ).loc main_v4_2) = (X2 1024 2816 fun q p => ∑ i ∈ Finset.range 2112, x c i q * du (x c) (d c) (g c) (w c) i p)
      ∧ r.2.mem ((c.tc : Thread nD τ).loc main_v4_3) = (X2 2816 1024 fun p j => ∑ i ∈ Finset.range 2112, act (x c) (g c) i p * lin (x c) (u c) i p * ct (d c) i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => by
    obtain ⟨after, hL, hA⟩ := Pipeline.RDat.FramePost.exists_exact hr.1 c
    exact ⟨(hA 5).trans (final5 (h c) hL), (hA 6).trans (final6 (h c) hL), (hA 7).trans (final7 (h c) hL), (hA 8).trans (final8 (h c) hL), kept m r hr.1 c⟩) (run_main m ρ)

/-- The side conditions of the precondition's operations. -/
instance preFacts : Cert.Pre_finite7.Facts where
  bcast_S_S2112x1024 := by decide
  bcast_S_S1024x2816 := by decide
  bcast_S_S2816x1024 := by decide

/-- Under the precondition each argument is a matrix of real numbers. -/
theorem args_real {m : (ℓ : Loc nD τ sig) → Buf (Elt Ideal) ℓ} (h : Cert.Pre_Kernel7Ideal_finite7 m) (c : Dev nD) :
    ∃ x d g u w : ℕ → ℕ → ℝ, Args m c (Cert.FfnBwd.up x) (Cert.FfnBwd.up d) (Cert.FfnBwd.up g) (Cert.FfnBwd.up u) (Cert.FfnBwd.up w) := by
  obtain ⟨h0, h1, h2, h3, h4⟩ := h c
  obtain ⟨f0, e0⟩ := real_E2 _ _ h0
  obtain ⟨f1, e1⟩ := real_E2 _ _ h1
  obtain ⟨f2, e2⟩ := real_E2 _ _ h2
  obtain ⟨f3, e3⟩ := real_E2 _ _ h3
  obtain ⟨f4, e4⟩ := real_E2 _ _ h4
  exact ⟨f0, f1, f2, f3, f4, e0, e1, e2, e3, e4⟩

end Run

/-- The reference's results are sums over the same terms. -/
theorem algebraic : Cert.algebraic_Kernel7Ideal_Reference7Ideal_pre_finite7 := by
  intro m g m' g' hpre hagree
  choose x d wg u w h using fun c => args_real hpre c
  refine ⟨_, _, _, _, run_vals m g (fun c => up (x c)) (fun c => up (d c)) (fun c => up (wg c)) (fun c => up (u c)) (fun c => up (w c)) h, ?_⟩
  hlo_run
  all_goals
    simp only [(h c).x, (h c).d, (h c).g, (h c).u, (h c).w, StableHlo.TRef.ofBuf_toBuf]
    simp only [StableHlo.TRef.ofBuf, StableHlo.TRef.toBuf, cast_eq, hlin]
    rw [hone Cert.Reference7Ideal.Gen.facts.bcast_S_S2112x2816, hhalf _ Cert.Reference7Ideal.Gen.facts.bcast_S_S2112x1024]
    simp only [hback, hlogistic, mulf_X2, subf_X2, addf_X2, hrows1, hrows2, hcols]
  · refine X2_congr fun i _ j _ => (add_comm _ _).trans (congrArg₂ _ (Finset.sum_congr rfl fun p _ => ?_) (Finset.sum_congr rfl fun p _ => ?_))
    · exact congrArg (· * _) (dg_up (x c) (d c) (wg c) (u c) (w c) i p)
    · exact congrArg (· * _) (mul_comm _ _)
  · refine (hwide _ _ _).trans (X2_congr fun q _ p _ => Finset.sum_congr rfl fun i _ => ?_)
    refine (mul_comm (dgRef (up (x c)) (up (d c)) (up (wg c)) (up (u c)) (up (w c)) i p) (up (x c) i q)).trans ?_
    rw [dg_up]
  · refine (hwide _ _ _).trans (X2_congr fun q _ p _ => Finset.sum_congr rfl fun i _ => ?_)
    refine (mul_comm (act (up (x c)) (up (wg c)) i p * back (up (d c)) (up (w c)) i p) (up (x c) i q)).trans ?_
    rw [mul_comm (act _ _ i p)]
    rfl
  · exact (htall _ _ _).trans (X2_congr fun p _ j _ => Finset.sum_congr rfl fun i _ => mul_comm _ _)

end Cert.FfnBwd

end
-- ==== Proof.FfnBwdSame.lean ====
/- The feed-forward gradients' printed program is the idealized one: nothing was rewritten, so its frame is the same. -/
module

public import proofs.«01_k».proof.Proof.FfnBwdRun
public import proofs.«01_k».proof.Proof.Gen.Kernel7
public import proofs.«01_k».proof.Proof.Gen.Kernel7Ideal
public import proofs.«01_k».proof.Defs

@[expose] public section

set_option maxRecDepth 16384

noncomputable section

namespace Cert.FfnBwd

open Idealize.ShloMosaic Idealize.ShloMosaic.TcCoe Idealize.SL.Sem

attribute [local instance] Cert.Kernel7.Gen.facts Cert.Kernel7Ideal.Gen.facts

/-- The two programs' kernel bodies are the same. -/
theorem same_bodies : @Cert.Kernel7.defs₀ Bits _ _ = @Cert.Kernel7Ideal.defs₀ Bits _ _ := by
  refine congrArg Defs.onTc (funext fun l => funext fun a => ?_)
  match l, a with
  | 0, (t, s) => rfl
/-- The two programs' pipelines are the same. -/
theorem same_defs : @Cert.Kernel7.defs Bits _ _ = @Cert.Kernel7Ideal.defs Bits _ _ :=
  congrArg (Pipeline.defs Cert.Kernel7Ideal.pcfgs) same_bodies
/-- The frame of the program at bit patterns. -/
theorem frameK : Cert.quiescent_Kernel7 (hKernel7 := Cert.Kernel7.Gen.facts) := fun m ρ _ => by
  rw [same_defs]; exact Cert.FfnBwd.frame (F := Bits) m ρ

end Cert.FfnBwd

end
-- ==== Proof.NormOps.lean ====
/- Rows and columns of extended reals: sums along an axis, vectors laid out as a row or a column, rows and columns
   repeated, and the root mean square of a row with its slope. -/
module

public import proofs.«01_k».proof.Proof.Ext

@[expose] public section

set_option maxRecDepth 16384

noncomputable section

namespace Cert.Norm

open Idealize.ShloMosaic Cert.Emb

/-- The vector of the `n` extended reals of `f`. -/
def X1 (n : ℕ) (f : ℕ → EReal) : (⟨1, ![n]⟩ : Shape).Idx → EReal := fun i => f (i 0).val

variable {n m k : ℕ}

/-- Every vector is given by a function of natural numbers. -/
theorem exists_X1 (x : (⟨1, ![n]⟩ : Shape).Idx → EReal) : ∃ f, x = X1 n f := by
  refine ⟨fun a => if ha : a < n then x (ix1 ⟨a, ha⟩) else 0, funext fun i => ?_⟩
  have e : ix1 (⟨(i 0).val, (i 0).isLt⟩ : Fin n) = i := funext fun d => by fin_cases d; rfl
  exact ((dif_pos (i 0).isLt).trans (congrArg x e)).symm

/-! ## The kernel's operations -/

/-- The sum of every column. -/
theorem colsum (f : ℕ → ℕ → EReal) (h : (⟨2, ![n, m]⟩ : Shape).Reduces [0] ⟨1, ![m]⟩) (h2 : FTy.f32 = FTy.f32 ∨ FTy.f32 = FTy.bf16)
    (h3 : (0x00000000#32 : BitVec FTy.f32.bits) = 0x00000000#32) :
    multiReduction (F := Ideal) (φ := .f32) .add [0] (⟨1, ![m]⟩ : Shape) (X2 n m f) 0x00000000#32 h h2 h3
      = X1 m (fun j => ∑ i ∈ Finset.range n, f i j) :=
  funext fun j => (Ideal.reduceAdd_r2_a0 h (X2 n m f) j).trans (Finset.sum_range fun i => f i (j 0).val).symm
/-- The sum of every row. -/
theorem rowsum (f : ℕ → ℕ → EReal) (h : (⟨2, ![n, m]⟩ : Shape).Reduces [1] ⟨1, ![n]⟩) (h2 : FTy.f32 = FTy.f32 ∨ FTy.f32 = FTy.bf16)
    (h3 : (0x00000000#32 : BitVec FTy.f32.bits) = 0x00000000#32) :
    multiReduction (F := Ideal) (φ := .f32) .add [1] (⟨1, ![n]⟩ : Shape) (X2 n m f) 0x00000000#32 h h2 h3
      = X1 n (fun i => ∑ j ∈ Finset.range m, f i j) :=
  funext fun j => (Ideal.reduceAdd_r2_a1 h (X2 n m f) j).trans (Finset.sum_range fun i => f (j 0).val i).symm
/-- A vector laid out as a row. -/
theorem as_row (f : ℕ → EReal) (h : (⟨1, ![n]⟩ : Shape).ShapeCasts ⟨2, ![1, n]⟩) :
    shapeCast (⟨2, ![1, n]⟩ : Shape) (X1 n f) h = X2 1 n (fun _ j => f j) := by
  funext i
  have h0 : (i 0).val < 1 := (i 0).isLt
  rw [Pointwise.shapeCast_apply, Shape.reshapeEquiv_eq_of_vals h i (ix1 (i 1)) _ _ (rowMajor_val1 _)
    (rowMajor_val2 i n rfl) (by show (i 1).val = (i 0).val * n + (i 1).val; rw [Nat.lt_one_iff.1 h0]; omega)]
  rfl
/-- A vector laid out as a column. -/
theorem as_col (f : ℕ → EReal) (h : (⟨1, ![n]⟩ : Shape).ShapeCasts ⟨2, ![n, 1]⟩) :
    shapeCast (⟨2, ![n, 1]⟩ : Shape) (X1 n f) h = X2 n 1 (fun i _ => f i) := by
  funext i
  have h0 : (i 1).val < 1 := (i 1).isLt
  rw [Pointwise.shapeCast_apply, Shape.reshapeEquiv_eq_of_vals h i (ix1 (i 0)) _ _ (rowMajor_val1 _)
    (rowMajor_val2 i 1 rfl) (by show (i 0).val = (i 0).val * 1 + (i 1).val; omega)]
  rfl
/-- A row repeated. -/
theorem to_rows (f : ℕ → ℕ → EReal) (h : (⟨2, ![1, m]⟩ : Shape).Broadcasts ⟨2, ![n, m]⟩) :
    broadcastTo (⟨2, ![n, m]⟩ : Shape) (X2 1 m f) h = X2 n m (fun _ j => f 0 j) := by
  funext i
  rw [Pointwise.broadcastTo_apply]
  simp only [X2, Shape.Idx.norm_def]
  congr 1
  have hb := (i 1).isLt
  by_cases h1 : m = 1
  · subst h1; simp at hb ⊢
  · rw [dif_neg (by simpa using h1)]; rfl
/-- A column repeated. -/
theorem to_cols (f : ℕ → ℕ → EReal) (h : (⟨2, ![n, 1]⟩ : Shape).Broadcasts ⟨2, ![n, m]⟩) :
    broadcastTo (⟨2, ![n, m]⟩ : Shape) (X2 n 1 f) h = X2 n m (fun i _ => f i 0) := by
  funext i
  rw [Pointwise.broadcastTo_apply]
  simp only [X2, Shape.Idx.norm_def]
  congr 1
  have hb := (i 0).isLt
  by_cases h1 : n = 1
  · subst h1; simp at hb ⊢
  · rw [dif_neg (by simpa using h1)]; rfl
/-- Quotients, element by element. -/
theorem quot (f g : ℕ → ℕ → EReal) :
    divf (F := Ideal) (φ := .f32) (X2 n m f) (X2 n m g) = X2 n m (fun i j => Ideal.div (f i j) (g i j)) := rfl
/-- Reciprocal square roots, element by element. -/
theorem root (f : ℕ → ℕ → EReal) :
    rsqrt (F := Ideal) (φ := .f32) (X2 n m f) = X2 n m (fun i j => Ideal.rsqrt (f i j)) := rfl

/-! ## The reference's operations -/

/-- The reference's sum of every column. -/
theorem hcolsum (f : ℕ → ℕ → EReal) (h : (⟨2, ![n, m]⟩ : Shape).ReducesTo [0] ⟨1, ![m]⟩) (h2) :
    Host.reduceAdd (F := Ideal) (φ := .f32) (X2 n m f) (constant (F := Ideal) (⟨0, ![]⟩ : Shape) .f32 0x00000000#32) h h2
      = X1 m (fun j => ∑ i ∈ Finset.range n, f i j) := by
  rw [constant_lit, lit_zero]
  funext j
  refine (Ideal.hostReduceAdd_r2_a0 h (X2 n m f) _ j).trans ?_
  exact (congrArg _ (Finset.sum_range fun i => f i (j 0).val).symm).trans (zero_add _)
/-- The reference's sum of every row. -/
theorem hrowsum (f : ℕ → ℕ → EReal) (h : (⟨2, ![n, m]⟩ : Shape).ReducesTo [1] ⟨1, ![n]⟩) (h2) :
    Host.reduceAdd (F := Ideal) (φ := .f32) (X2 n m f) (constant (F := Ideal) (⟨0, ![]⟩ : Shape) .f32 0x00000000#32) h h2
      = X1 n (fun i => ∑ j ∈ Finset.range m, f i j) := by
  rw [constant_lit, lit_zero]
  funext j
  refine (Ideal.hostReduceAdd_r2_a1 h (X2 n m f) _ j).trans ?_
  exact (congrArg _ (Finset.sum_range fun i => f (j 0).val i).symm).trans (zero_add _)

/-- The place a broadcast reads along an axis. -/
theorem axis {n i : ℕ} (hi : i < n) (h1 : 0 < n) (h2 : ¬ n = 1 → i < n) :
    (if h : n = 1 then (⟨0, h1⟩ : Fin n) else ⟨i, h2 h⟩).val = i := by
  split
  · simp only; omega
  · rfl

/-- A constant everywhere. -/
theorem hconst (w : BitVec 32) (h) :
    broadcastInDim (α := Elt Ideal .f32) (⟨2, ![n, m]⟩ : Shape) (![] : Fin 0 → Fin 2) h (constant (F := Ideal) (⟨0, ![]⟩ : Shape) .f32 w)
      = X2 n m fun _ _ => Ideal.ofBits .f32 w := rfl
/-- A vector as one row or as the same row many times. -/
theorem hrow1 (f : ℕ → EReal) (h) :
    broadcastInDim (α := Elt Ideal .f32) (⟨2, ![n, m]⟩ : Shape) (![1] : Fin 1 → Fin 2) h (X1 m f) = X2 n m (fun _ j => f j) := by
  funext i
  refine congrArg f ?_
  have := (i 1).isLt
  exact axis (n := m) this (Nat.lt_of_le_of_lt (Nat.zero_le _) this) fun _ => this
/-- A vector as one column or as the same column many times. -/
theorem hcol1 (f : ℕ → EReal) (h) :
    broadcastInDim (α := Elt Ideal .f32) (⟨2, ![n, m]⟩ : Shape) (![0] : Fin 1 → Fin 2) h (X1 n f) = X2 n m (fun i _ => f i) := by
  funext i
  refine congrArg f ?_
  have := (i 0).isLt
  exact axis (n := n) this (Nat.lt_of_le_of_lt (Nat.zero_le _) this) fun _ => this
/-- A row repeated. -/
theorem hrows (f : ℕ → ℕ → EReal) (h) :
    broadcastInDim (α := Elt Ideal .f32) (⟨2, ![n, m]⟩ : Shape) (![0, 1] : Fin 2 → Fin 2) h (X2 1 m f) = X2 n m (fun _ j => f 0 j) := by
  funext i
  refine congrArg (f 0) ?_
  have := (i 1).isLt
  exact axis (n := m) this (Nat.lt_of_le_of_lt (Nat.zero_le _) this) fun _ => this
/-- A column repeated. -/
theorem hcols (f : ℕ → ℕ → EReal) (h) :
    broadcastInDim (α := Elt Ideal .f32) (⟨2, ![n, m]⟩ : Shape) (![0, 1] : Fin 2 → Fin 2) h (X2 n 1 f) = X2 n m (fun i _ => f i 0) := by
  funext i
  refine congrArg (fun k => f k 0) ?_
  have := (i 0).isLt
  exact axis (n := n) this (Nat.lt_of_le_of_lt (Nat.zero_le _) this) fun _ => this
/-- A vector as a stack of one row. -/
theorem hstack (f : ℕ → EReal) (h) :
    broadcastInDim (α := Elt Ideal .f32) (⟨3, ![1, 1, m]⟩ : Shape) (![2] : Fin 1 → Fin 3) h (X1 m f) = X3 1 m (fun _ j => f j) := by
  funext i
  refine congrArg f ?_
  have := (i 2).isLt
  exact axis (n := m) this (Nat.lt_of_le_of_lt (Nat.zero_le _) this) fun _ => this
/-- The reference's quotients, element by element. -/
theorem hquot (f g : ℕ → ℕ → EReal) :
    Host.divf (F := Ideal) (φ := .f32) (X2 n m f) (X2 n m g) = X2 n m (fun i j => Ideal.div (f i j) (g i j)) := rfl
/-- The reference's reciprocal square roots, element by element. -/
theorem hroot (f : ℕ → ℕ → EReal) :
    Host.rsqrt (F := Ideal) (φ := .f32) (X2 n m f) = X2 n m (fun i j => Ideal.rsqrt (f i j)) := rfl

/-! ## The norm -/

/-- The mean of the squares of row `i`, and the small constant. -/
def ms (h : ℕ → ℕ → EReal) (i : ℕ) : EReal :=
  Ideal.div (∑ q ∈ Finset.range 1024, h i q * h i q) (Ideal.ofBits .f32 0x44800000#32) + Ideal.ofBits .f32 0x358637BD#32
/-- One over the root mean square of row `i`. -/
def rinv (h : ℕ → ℕ → EReal) (i : ℕ) : EReal := Ideal.rsqrt (ms h i)
/-- The gradient that reaches the mean of the squares of row `i`, divided over the row. -/
def slope (h d : ℕ → ℕ → EReal) (g : ℕ → EReal) (i : ℕ) : EReal :=
  Ideal.div ((∑ q ∈ Finset.range 1024, h i q * (d i q * g q)) * (Ideal.ofBits .f32 0xBF000000#32 * Ideal.div (rinv h i) (ms h i)))
    (Ideal.ofBits .f32 0x44800000#32)
/-- The gradient at the rows, added to the one that goes past the norm. -/
def dx (h d o : ℕ → ℕ → EReal) (g : ℕ → EReal) (i j : ℕ) : EReal :=
  o i j + (((d i j * g j) * rinv h i + h i j * slope h d g i) + slope h d g i * h i j)
/-- What row `i` adds to the gradient at the gain. -/
def dg (h d : ℕ → ℕ → EReal) (i j : ℕ) : EReal := h i j * rinv h i * d i j

end Cert.Norm

end
-- ==== Proof.Norm.lean ====
/- The norm's backward: the gradient at the rows, block of rows by block of rows, and the gradient at the gain, summed over
   the blocks, are the reference's. -/
module

public import proofs.«01_k».proof.Proof.NormOps
public import proofs.«01_k».proof.Proof.Gen.Kernel8Ideal.Value
public import proofs.«01_k».proof.Proof.Gen.Reference8Ideal
public import proofs.«01_k».proof.Defs
public import Idealize.ShloMosaic.Lib.Claim

@[expose] public section

set_option maxRecDepth 16384

noncomputable section

namespace Cert.Norm

open Idealize.ShloMosaic Idealize.ShloMosaic.TcCoe Idealize.SL.Sem
open Cert.Emb Cert.Kernel8Ideal Cert.Kernel8Ideal.Gen

/-! ## What one grid point computes -/

/-- The mean of the squares of every row, and the small constant. -/
theorem pay4 (h : ℕ → ℕ → EReal) : k0_pay4 (F := Ideal) (X2 1056 1024 h) = X2 1056 1 fun i _ => ms h i := by
  simp only [k0_pay4, mulf_X2, lit, broadcast_X2]
  rw [rowsum, as_col, quot, addf_X2]
  rfl
/-- One over the root mean square of every row. -/
theorem pay5 (h : ℕ → ℕ → EReal) : k0_pay5 (F := Ideal) (X2 1056 1024 h) = X2 1056 1 fun i _ => rinv h i := by
  simp only [k0_pay5, pay4, root, rinv]
/-- What the block of rows adds to the gradient at the gain. -/
theorem pay6 (h d : ℕ → ℕ → EReal) : k0_pay6 (F := Ideal) (X2 1056 1024 h) (X2 1056 1024 d)
    = X2 1 1024 fun _ j => ∑ i ∈ Finset.range 1056, dg h d i j := by
  simp only [k0_pay6, pay5, to_cols, mulf_X2]
  rw [colsum, as_row]
  rfl
/-- The gradient times the gain. -/
theorem pay7 (d : ℕ → ℕ → EReal) (g : ℕ → EReal) : k0_pay7 (F := Ideal) (X2 1 1024 fun _ j => g j) (X2 1056 1024 d)
    = X2 1056 1024 fun i j => d i j * g j := by
  simp only [k0_pay7, cast_same, to_rows, mulf_X2]
/-- The gradient that reaches the mean of the squares of every row. -/
theorem pay8 (h d : ℕ → ℕ → EReal) (g : ℕ → EReal) : k0_pay8 (F := Ideal) (X2 1 1024 fun _ j => g j) (X2 1056 1024 h) (X2 1056 1024 d)
    = X2 1056 1024 fun i _ => slope h d g i := by
  simp only [k0_pay8, pay4, pay5, pay7, quot, lit, broadcast_X2, mulf_X2]
  rw [rowsum, as_col, mulf_X2, quot, rowsum, as_col, to_cols]
  simp only [Finset.sum_range_one, slope]
/-- The two first parts of the gradient at the rows. -/
theorem pay9 (h d : ℕ → ℕ → EReal) (g : ℕ → EReal) : k0_pay9 (F := Ideal) (X2 1 1024 fun _ j => g j) (X2 1056 1024 h) (X2 1056 1024 d)
    = X2 1056 1024 fun i j => (d i j * g j) * rinv h i + h i j * slope h d g i := by
  simp only [k0_pay9, pay5, pay7, pay8, to_cols, mulf_X2, addf_X2]
/-- The gradient at the rows. -/
theorem pay1 (h d o : ℕ → ℕ → EReal) (g : ℕ → EReal) : k0_pay1 (F := Ideal) (X2 1056 1024 h) (X2 1056 1024 o)
      (k0_pay8 (X2 1 1024 fun _ j => g j) (X2 1056 1024 h) (X2 1056 1024 d)) (k0_pay9 (X2 1 1024 fun _ j => g j) (X2 1056 1024 h) (X2 1056 1024 d))
    = X2 1056 1024 fun i j => dx h d o g i j := by
  simp only [k0_pay1, pay8, pay9, mulf_X2, addf_X2, dx]
/-- The gradient at the gain, with a block of rows added. -/
theorem pay2 (h d s : ℕ → ℕ → EReal) : k0_pay2 (F := Ideal) (k0_pay6 (X2 1056 1024 h) (X2 1056 1024 d)) (X3 1 1024 s)
    = X3 1 1024 fun i j => s i j + ∑ i ∈ Finset.range 1056, dg h d i j := by
  simp only [k0_pay2, pay6, unstack_X3, addf_X2, stack_X2]
/-- The gradient at the gain before the first block. -/
theorem pay3 : k0_pay3 (F := Ideal) = X3 1 1024 fun _ _ => 0 := by
  simp only [k0_pay3, lit, lit_zero, broadcast_X2, stack_X2, EReal.coe_zero]

/-! ## The grid -/

/-- The point `t` works on the `t`-th block of 1056 rows. -/
theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) := by decide +kernel

variable {m : (ℓ : Loc nD τ Cert.Kernel8Ideal.sig) → Buf (Elt Ideal) ℓ} {c : Dev nD} {h d o : ℕ → ℕ → EReal} {g : ℕ → EReal}

/-- The arguments, as functions of natural-number indices. -/
structure Args (m : (ℓ : Loc nD τ Cert.Kernel8Ideal.sig) → Buf (Elt Ideal) ℓ) (c : Dev nD) (h d o : ℕ → ℕ → EReal) (g : ℕ → EReal) : Prop where
  h : m ((c : Thread nD τ).loc main_arg0) = X2 2112 1024 h
  d : m ((c : Thread nD τ).loc main_arg1) = X2 2112 1024 d
  o : m ((c : Thread nD τ).loc main_arg2) = X2 2112 1024 o
  g : m ((c : Thread nD τ).loc main_arg3) = X1 1024 g

section Reads
variable (a : Args m c h d o g)
include a

/-- The block of rows. -/
theorem blk0 (t : Fin cfg0.N) : iblk (F := Ideal) m c 0 t = X2 1056 1024 fun i j => h (1056 * t.val + i) j := by
  obtain ⟨⟨i00, i01⟩, -⟩ := idx t
  funext p
  unfold iblk
  rw [show V m c (Pipeline.arrRef spec0 0) = X2 2112 1024 h from (V_main_arg0 m c).trans a.h]
  blk_simp
  simp only [X2]
  blk_simp
  rw [i00, i01, Nat.zero_mul, Nat.zero_add, Nat.mul_comm 1056]
/-- The block of rows of the gradient at the norm's result. -/
theorem blk1 (t : Fin cfg0.N) : iblk (F := Ideal) m c 1 t = X2 1056 1024 fun i j => d (1056 * t.val + i) j := by
  obtain ⟨-, ⟨i00, i01⟩, -⟩ := idx t
  funext p
  unfold iblk
  rw [show V m c (Pipeline.arrRef spec0 1) = X2 2112 1024 d from (V_main_arg1 m c).trans a.d]
  blk_simp
  simp only [X2]
  blk_simp
  rw [i00, i01, Nat.zero_mul, Nat.zero_add, Nat.mul_comm 1056]
/-- The block of rows of the gradient that goes past the norm. -/
theorem blk2 (t : Fin cfg0.N) : iblk (F := Ideal) m c 2 t = X2 1056 1024 fun i j => o (1056 * t.val + i) j := by
  obtain ⟨-, -, ⟨i00, i01⟩, -⟩ := idx t
  funext p
  unfold iblk
  rw [show V m c (Pipeline.arrRef spec0 2) = X2 2112 1024 o from (V_main_arg2 m c).trans a.o]
  blk_simp
  simp only [X2]
  blk_simp
  rw [i00, i01, Nat.zero_mul, Nat.zero_add, Nat.mul_comm 1056]
/-- The gain, whole at every point. -/
theorem blk3 (t : Fin cfg0.N) : iblk (F := Ideal) m c 3 t = X2 1 1024 fun _ j => g j := by
  obtain ⟨-, -, -, ⟨i00, i01⟩, -⟩ := idx t
  have e : V m c main_v0 = X2 1 1024 fun _ j => g j := by
    entry_read
    rw [show m (c, main_arg3) = X1 1024 g from a.g]
    exact as_row g _
  funext p
  unfold iblk
  rw [show V m c (Pipeline.arrRef spec0 3) = X2 1 1024 fun _ j => g j from e]
  blk_simp
  simp only [X2]
  blk_simp
  simp only [i01, Nat.zero_mul, Nat.zero_add]

/-- After every point: the gradient at its block of rows. -/
theorem rows (n : ℕ) (hn : n < cfg0.N) : (outsAt0 (F := Ideal) m c n hn).1 = X2 1056 1024 fun i j => dx h d o g (1056 * n + i) j := by
  by_cases h0 : n % 2 = 0
  · rw [outsAt0_A m c ⟨n, hn⟩ h0]
    frame_out
    rw [blk0 a, blk1 a, blk2 a, blk3 a, pay1]
    rfl
  · rw [outsAt0_B m c ⟨n, hn⟩ h0]
    frame_out
    rw [blk0 a, blk1 a, blk2 a, blk3 a, pay1]
    rfl

/-- After every point: the gradient at the gain summed over the blocks so far. -/
theorem acc_all (n : ℕ) (hn : n < cfg0.N) :
    (outsAt0 (F := Ideal) m c n hn).2 = X3 1 1024 (fun _ j => ∑ t ∈ Finset.range (n + 1), ∑ i ∈ Finset.range 1056, dg h d (1056 * t + i) j) := by
  have h2 : n < 2 := hn
  induction n with
  | zero =>
    rw [outsAt0_A m c ⟨0, hn⟩ rfl]
    frame_out
    rw [pay3, blk0 a, blk1 a, pay2]
    exact X3_congr fun i _ j _ => (zero_add _).trans (Finset.sum_range_one (fun t => ∑ i ∈ Finset.range 1056, dg h d (1056 * t + i) j)).symm
  | succ n ih =>
    have s := ih (Nat.lt_of_succ_lt hn) (by omega)
    rw [outsAt0_B m c ⟨n + 1, hn⟩ (by show ¬ (n + 1) % 2 = 0; omega)]
    frame_out
    simp only [Nat.add_sub_cancel, s]
    rw [blk0 a, blk1 a, pay2]
    exact X3_congr fun i _ j _ => (Finset.sum_range_succ (fun t => ∑ i ∈ Finset.range 1056, dg h d (1056 * t + i) j) (n + 1)).symm

/-- The last point. -/
def last : Fin cfg0.N := ⟨1, by decide⟩

/-- The gradient at the rows, after the last point. -/
theorem final4 : (dats (F := Ideal) m 0 c).arrAt 4 cfg0.N = X2 2112 1024 fun i j => dx h d o g i j := by
  refine (dats m 0 c).arrAt_eq_of_covers 4 _ (by decide +kernel) fun t _ p => ?_
  obtain ⟨-, -, -, -, i00, i01⟩ := idx t
  blk_simp
  rw [after0_4, rows a t.val t.isLt]
  simp only [X2]
  blk_simp
  rw [i00, i01, Nat.mul_comm 1056, Nat.zero_mul, Nat.zero_add]
/-- The gradient at the gain, after the last point. -/
theorem final5 : (dats (F := Ideal) m 0 c).arrAt 5 cfg0.N = X3 1 1024 fun _ j => ∑ i ∈ Finset.range 2112, dg h d i j := by
  refine (dats m 0 c).arrAt_eq_of_after_last 5 last (by decide +kernel) _ fun j => ?_
  blk_simp
  rw [after0_5, acc_all a _ last.isLt]
  simp only [X3]
  exact sum_blocks (fun q => dg h d q (j 2).val) 1056 2

end Reads

/-! ## The reference -/

/-- The frame of the reference. -/
theorem frameRI : Cert.quiescent_Reference8Ideal := by
  intro m ρ _
  hlo_run
  · exact fun _ => ⟨trivial, trivial, trivial, trivial⟩
  · funext g
    rcases g with ⟨t, s⟩
    cases s with
    | reg s => exact s.elim0
    | dma s => exact s.elim0

/-- The sums of the rows, laid out as a column. -/
theorem ref_col (f : ℕ → EReal) (k) : (fun i => shapeCast Cert.Reference8Ideal.main_v24.ty.shape (X1 2112 f) k i) = X2 2112 1 fun i _ => f i :=
  as_col f k
/-- The sums of the columns, laid out as a row. -/
theorem ref_row (f : ℕ → EReal) (k) : (fun i => shapeCast Cert.Reference8Ideal.main_v18.ty.shape (X1 1024 f) k i) = X2 1 1024 fun _ j => f j :=
  as_row f k

/-- From memories agreeing on the arguments the kernel and the reference end with equal gradients. -/
theorem algebraic : Cert.algebraic_Kernel8Ideal_Reference8Ideal := by
  pair_intro
  · run_from Cert.Kernel8Ideal.Value.run_blocks m g
  · hlo_run
    all_goals
      obtain ⟨h, hh⟩ := exists_X2 (m (c.tc.loc main_arg0))
      obtain ⟨d, hd⟩ := exists_X2 (m (c.tc.loc main_arg1))
      obtain ⟨o, ho⟩ := exists_X2 (m (c.tc.loc main_arg2))
      obtain ⟨w, hw⟩ := exists_X1 (m (c.tc.loc main_arg3))
      have a : Args m c h d o w := ⟨hh, hd, ho, hw⟩
    · rw [final4 a]
      simp only [hh, hd, ho, hw, mulf_X2, hrowsum]
      rw [hcol1, hconst, hconst, hconst]
      simp only [hquot, addf_X2, hroot, mulf_X2]
      rw [hcols, hrow1, hrows]
      simp only [mulf_X2, hrowsum]
      rw [ref_col]
      simp only [mulf_X2, hquot, hrowsum, Finset.sum_range_one]
      rw [hcol1]
      rfl
    · rw [final5 a]
      simp only [hh, hd, mulf_X2, hrowsum]
      rw [hcol1, hconst, hconst]
      simp only [hquot, addf_X2, hroot, mulf_X2]
      rw [hcols]
      simp only [hcolsum, mulf_X2]
      rw [ref_row, hcolsum]
      simp only [Finset.sum_range_one]
      exact hstack _ _

end Cert.Norm

end
-- ==== Proof.NormFwd.lean ====
/- The norm: block of rows by block of rows, the rows over their root mean square, times the gain, are the reference's. -/
module

public import proofs.«01_k».proof.Proof.NormOps
public import proofs.«01_k».proof.Proof.Gen.Kernel9Ideal.Value
public import proofs.«01_k».proof.Proof.Gen.Reference9Ideal
public import proofs.«01_k».proof.Defs
public import Idealize.ShloMosaic.Lib.Claim

@[expose] public section

set_option maxRecDepth 16384

noncomputable section

namespace Cert.NormFwd

open Idealize.ShloMosaic Idealize.ShloMosaic.TcCoe Idealize.SL.Sem
open Cert.Emb Cert.Norm Cert.Kernel9Ideal Cert.Kernel9Ideal.Gen

/-- A block of rows of the result. -/
theorem pay1 (h : ℕ → ℕ → EReal) (g : ℕ → EReal) : k0_pay1 (F := Ideal) (X2 1 1024 fun _ j => g j) (X2 1056 1024 h)
    = X2 1056 1024 fun i j => h i j * rinv h i * g j := by
  simp only [k0_pay1, mulf_X2, lit, broadcast_X2, to_rows, cast_same]
  rw [rowsum, as_col, quot, addf_X2, root, to_cols]
  rfl

/-- The point `t` works on the `t`-th block of 1056 rows. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) := by decide +kernel

variable {m : (ℓ : Loc nD τ Cert.Kernel9Ideal.sig) → Buf (Elt Ideal) ℓ} {c : Dev nD} {h : ℕ → ℕ → EReal} {g : ℕ → EReal}

/-- The block of rows. -/
theorem blk0 (hh : m ((c : Thread nD τ).loc main_arg0) = X2 2112 1024 h) (t : Fin cfg0.N) :
    iblk (F := Ideal) m c 0 t = X2 1056 1024 fun i j => h (1056 * t.val + i) j := by
  obtain ⟨⟨i00, i01⟩, -⟩ := idx t
  funext p
  unfold iblk
  rw [show V m c (Pipeline.arrRef spec0 0) = X2 2112 1024 h from (V_main_arg0 m c).trans hh]
  blk_simp
  simp only [X2]
  blk_simp
  rw [i00, i01, Nat.zero_mul, Nat.zero_add, Nat.mul_comm 1056]
/-- The gain, whole at every point. -/
theorem blk1 (hg : m ((c : Thread nD τ).loc main_arg1) = X1 1024 g) (t : Fin cfg0.N) :
    iblk (F := Ideal) m c 1 t = X2 1 1024 fun _ j => g j := by
  obtain ⟨-, ⟨-, i01⟩, -⟩ := idx t
  have e : V m c main_v0 = X2 1 1024 fun _ j => g j := by
    entry_read
    rw [show m (c, main_arg1) = X1 1024 g from hg]
    exact as_row g _
  funext p
  unfold iblk
  rw [show V m c (Pipeline.arrRef spec0 1) = X2 1 1024 fun _ j => g j from e]
  blk_simp
  simp only [X2]
  blk_simp
  simp only [i01, Nat.zero_mul, Nat.zero_add]

/-- The result, after the last point. -/
theorem final2 (hh : m ((c : Thread nD τ).loc main_arg0) = X2 2112 1024 h) (hg : m ((c : Thread nD τ).loc main_arg1) = X1 1024 g) :
    (dats (F := Ideal) m 0 c).arrAt 2 cfg0.N = X2 2112 1024 fun i j => h i j * rinv h i * g j := by
  refine (dats m 0 c).arrAt_eq_of_covers 2 _ (by decide +kernel) fun t _ p => ?_
  obtain ⟨-, -, i00, i01⟩ := idx t
  blk_simp
  have e : (dats (F := Ideal) m 0 c).after 2 t = k0_pay1 (F := Ideal) (iblk m c 1 t) (iblk m c 0 t) := by
    rw [after0_2]
    frame_out
  rw [e, blk0 hh, blk1 hg, pay1]
  simp only [X2]
  blk_simp
  rw [i00, i01, Nat.mul_comm 1056, Nat.zero_mul, Nat.zero_add]
  rfl

/-- The frame of the reference. -/
theorem frameRI : Cert.quiescent_Reference9Ideal := by
  intro m ρ _
  hlo_run
  · exact fun _ => ⟨trivial, trivial⟩
  · funext g
    rcases g with ⟨t, s⟩
    cases s with
    | reg s => exact s.elim0
    | dma s => exact s.elim0

/-- From memories agreeing on the arguments the kernel and the reference end with equal rows. -/
theorem algebraic : Cert.algebraic_Kernel9Ideal_Reference9Ideal := by
  pair_intro
  · run_from Cert.Kernel9Ideal.Value.run_blocks m g
  · hlo_run
    obtain ⟨h, hh⟩ := exists_X2 (m (c.tc.loc main_arg0))
    obtain ⟨w, hw⟩ := exists_X1 (m (c.tc.loc main_arg1))
    rw [final2 hh hw]
    simp only [hh, hw, mulf_X2, hrowsum]
    rw [hcol1, hconst, hconst]
    simp only [hquot, addf_X2, hroot]
    rw [hcols, hrow1, hrows]
    rfl

end Cert.NormFwd

end
-- ==== Proof.Loss.lean ====
/- The loss and its gradients: the gradient at the rows, block of rows by block of rows, the loss and the gradient at the
   gain, summed over the blocks, are the reference's, which leaves the first 64 rows out instead of masking them. -/
module

public import proofs.«01_k».proof.Proof.NormOps
public import proofs.«01_k».proof.Proof.Gen.Kernel10Ideal.Value
public import proofs.«01_k».proof.Proof.Gen.Reference10Ideal
public import proofs.«01_k».proof.Defs
public import Idealize.ShloMosaic.Lib.Claim

@[expose] public section

set_option maxRecDepth 16384

noncomputable section

namespace Cert.Loss

open Idealize.ShloMosaic Idealize.ShloMosaic.TcCoe Idealize.SL.Sem
open Cert.Emb Cert.Norm Cert.Kernel10Ideal Cert.Kernel10Ideal.Gen

/-- The number 1024. -/
theorem lit_1024 : Ideal.ofBits .f32 0x44800000#32 = ((1024 : ℝ) : EReal) := by
  simp [Ideal.ofBits, Ideal.ieee, -EReal.coe_mul]; norm_num
/-- Differences, element by element. -/
theorem diff {n m : ℕ} (f g : ℕ → ℕ → EReal) :
    subf (F := Ideal) (φ := .f32) (X2 n m f) (X2 n m g) = X2 n m (fun i j => f i j - g i j) := rfl

/-! ## The mathematics -/

/-- One for the rows that count, zero for the first 64. -/
def keep (i : ℕ) : EReal := (((if i < 64 then 0 else 1 : ℝ)) : EReal)
/-- The normed and scaled row less its target. -/
def err (h t : ℕ → ℕ → EReal) (g : ℕ → EReal) (i j : ℕ) : EReal := h i j * rinv h i * g j - t i j
/-- The mean of the squared errors of row `i`, times the row's weight. -/
def sq (h t : ℕ → ℕ → EReal) (g k : ℕ → EReal) (i : ℕ) : EReal :=
  Ideal.div (∑ q ∈ Finset.range 1024, err h t g i q * err h t g i q) (Ideal.ofBits .f32 0x44800000#32) * k i
/-- The gradient that reaches a squared error of row `i`. -/
def cot (k : ℕ → EReal) (i : ℕ) : EReal :=
  Ideal.div (Ideal.ofBits .f32 0x3F000000#32 * Ideal.ofBits .f32 0x3F800000#32 * k i) (Ideal.ofBits .f32 0x44800000#32)
/-- The gradient that reaches an error. -/
def ct (h t : ℕ → ℕ → EReal) (g k : ℕ → EReal) (i j : ℕ) : EReal := err h t g i j * cot k i + cot k i * err h t g i j
/-- The gradient at the rows. -/
def dh (h d : ℕ → ℕ → EReal) (g : ℕ → EReal) (i j : ℕ) : EReal :=
  ((d i j * g j) * rinv h i + h i j * slope h d g i) + slope h d g i * h i j

/-- Half a sum of two is the sum of the halves. -/
theorem half_add (x y : EReal) : Ideal.ofBits .f32 0x3F000000#32 * (x + y) = Ideal.ofBits .f32 0x3F000000#32 * x + Ideal.ofBits .f32 0x3F000000#32 * y := by
  rw [lit_half]
  exact EReal.left_distrib_of_nonneg_of_ne_top (by norm_cast; norm_num) (EReal.coe_ne_top _) x y
/-- The halves of the blocks' sums are half of the sum. -/
theorem halves (f : ℕ → EReal) : ∑ u ∈ Finset.range 2, Ideal.ofBits .f32 0x3F000000#32 * ∑ i ∈ Finset.range 1056, f (1056 * u + i)
    = Ideal.ofBits .f32 0x3F000000#32 * ∑ i ∈ Finset.range 2112, f i := by
  rw [← sum_blocks f 1056 2, Finset.sum_range_succ _ 1, Finset.sum_range_one, Finset.sum_range_succ _ 1, Finset.sum_range_one, half_add]

/-- The target with 64 rows of zeros in front. -/
def front (t : ℕ → ℕ → EReal) (i j : ℕ) : EReal := if i < 64 then Ideal.ofBits .f32 0x00000000#32 else t (i - 64) j

/-! ## The first 64 rows and the others -/

/-- The rows that count. -/
abbrev tl (h : ℕ → ℕ → EReal) (i j : ℕ) : EReal := h (64 + i) j
/-- The reference's gradient that reaches an error. -/
def rct (h t : ℕ → ℕ → EReal) (g : ℕ → EReal) (i j : ℕ) : EReal :=
  Ideal.div (Ideal.ofBits .f32 0x3F000000#32 * Ideal.ofBits .f32 0x3F800000#32) (Ideal.ofBits .f32 0x44800000#32)
    * (Ideal.ofBits .f32 0x40000000#32 * err h t g i j)

section Rows
variable (h t : ℕ → ℕ → EReal) (g : ℕ → EReal)

/-- A row of the first 64 weighs nothing. -/
theorem keep_lo {i : ℕ} (hi : i < 64) : keep i = 0 := by rw [keep, if_pos hi]; rfl
/-- A later row weighs one. -/
theorem keep_hi (i : ℕ) : keep (64 + i) = 1 := by rw [keep, if_neg (by omega)]; rfl
/-- Zero divided by 1024 is zero. -/
theorem div_zero_1024 : Ideal.div 0 (Ideal.ofBits .f32 0x44800000#32) = 0 := by
  rw [lit_1024, Ideal.div_coe (by norm_num), zero_mul]
/-- The error of a row that counts does not see the zeros in front of the target. -/
theorem err_hi (i j : ℕ) : err h (front t) g (64 + i) j = err (tl h) t g i j := by
  simp only [err, front, if_neg (show ¬ 64 + i < 64 by omega), Nat.add_sub_cancel_left]
  rfl
/-- No gradient reaches the errors of the first 64 rows. -/
theorem ct_lo {i : ℕ} (hi : i < 64) (j : ℕ) : ct h (front t) g keep i j = 0 := by
  simp only [ct, cot, keep_lo hi, mul_zero, zero_mul, div_zero_1024, add_zero]
/-- The gradient that reaches the error of a row that counts, as the reference states it. -/
theorem ct_hi (i j : ℕ) : ct h (front t) g keep (64 + i) j = rct (tl h) t g i j := by
  simp only [ct, cot, keep_hi, mul_one, err_hi, rct]
  rw [lit_half, lit_one, lit_1024, lit_two, ← EReal.coe_mul, Ideal.div_coe (by norm_num), ← EReal.coe_mul,
    show ((2 : ℝ) : EReal) = 1 + 1 by norm_cast]
  generalize err (tl h) t g i j = e
  rw [EReal.right_distrib_of_nonneg zero_le_one zero_le_one, one_mul,
    EReal.left_distrib_of_nonneg_of_ne_top (by norm_cast; norm_num) (EReal.coe_ne_top _), mul_comm e]
/-- The first 64 rows add nothing to the loss. -/
theorem sq_lo {i : ℕ} (hi : i < 64) : sq h (front t) g keep i = 0 := by simp only [sq, keep_lo hi, mul_zero]
/-- What a row that counts adds to the loss. -/
theorem sq_hi (i : ℕ) : sq h (front t) g keep (64 + i) = sq (tl h) t g (fun _ => 1) i := by simp only [sq, keep_hi, err_hi]
/-- The gradient at the first 64 rows is zero. -/
theorem dh_lo {i : ℕ} (hi : i < 64) (j : ℕ) : dh h (ct h (front t) g keep) g i j = 0 := by
  have s : slope h (ct h (front t) g keep) g i = 0 := by
    simp only [Norm.slope, ct_lo h t g hi, zero_mul, mul_zero, Finset.sum_const_zero, div_zero_1024]
  simp only [dh, s, ct_lo h t g hi, zero_mul, mul_zero, add_zero]
/-- The gradient at a row that counts is the reference's. -/
theorem dh_hi (i j : ℕ) : dh h (ct h (front t) g keep) g (64 + i) j = dh (tl h) (rct (tl h) t g) g i j := by
  simp only [dh, Norm.slope, ct_hi]
  rfl
/-- The sum of the errors is that of the rows that count. -/
theorem sum_sq : ∑ i ∈ Finset.range 2112, sq h (front t) g keep i = ∑ i ∈ Finset.range 2048, sq (tl h) t g (fun _ => 1) i := by
  rw [show 2112 = 64 + 2048 from rfl, Finset.sum_range_add, Finset.sum_eq_zero fun i hi => sq_lo h t g (Finset.mem_range.1 hi), zero_add]
  exact Finset.sum_congr rfl fun i _ => sq_hi h t g i
/-- The gradient at the gain is that of the rows that count. -/
theorem sum_dg (j : ℕ) : ∑ i ∈ Finset.range 2112, dg h (ct h (front t) g keep) i j = ∑ i ∈ Finset.range 2048, dg (tl h) (rct (tl h) t g) i j := by
  rw [show 2112 = 64 + 2048 from rfl, Finset.sum_range_add,
    Finset.sum_eq_zero fun i hi => by simp only [dg, ct_lo h t g (Finset.mem_range.1 hi), mul_zero], zero_add]
  exact Finset.sum_congr rfl fun i _ => by simp only [dg, ct_hi]; rfl

end Rows

/-! ## What one grid point computes -/

/-- The word of a row number read as at least 64, as a number. -/
theorem sge_64 (n : ℕ) (h : n < 4096) :
    (((BitVec.setWidth 32 (IntOp.cmpi .sge (BitVec.ofNat 32 n) 64#32)).toInt : ℤ) : ℝ) = if n < 64 then 0 else 1 := by
  have e : (BitVec.ofNat 32 n).toInt = n := by
    rw [BitVec.toInt_eq_toNat_cond, BitVec.toNat_ofNat, Nat.mod_eq_of_lt (by omega), if_pos (by omega)]
  by_cases hn : n < 64
  · have : BitVec.sle 64#32 (BitVec.ofNat 32 n) = false := by
      rw [BitVec.sle, e]; simp; omega
    simp [IntOp.cmpi, this, hn]
  · have : BitVec.sle 64#32 (BitVec.ofNat 32 n) = true := by
      rw [BitVec.sle, e]; simp; omega
    simp [IntOp.cmpi, this, hn]
/-- The weights of the rows of block `u`. -/
theorem pay6 (i : grid0.Coords) (u : ℕ) (hi : (i 1).val = u) : k0_pay6 (F := Ideal) i = X2 1056 1 fun r _ => keep (1056 * u + r) := by
  funext x
  have hx : (x 0).val < 1056 := (x 0).isLt
  have hu : u < 2 := hi ▸ (i 1).isLt
  have e : BitVec.ofNat 32 (i 1).val * 1056#32 + BitVec.ofNat 32 (0 * 1056 + (x 0).val) = BitVec.ofNat 32 (1056 * u + (x 0).val) := by
    rw [hi, Nat.zero_mul, Nat.zero_add, BitVec.ofNat_add, Nat.mul_comm 1056, BitVec.ofNat_mul]
  show (((((BitVec.setWidth 32 (IntOp.cmpi .sge (BitVec.ofNat 32 (i 1).val * 1056#32 + BitVec.ofNat 32 (0 * 1056 + (x 0).val)) 64#32)).toInt : ℤ) : ℝ)) : EReal) = _
  rw [e, sge_64 _ (by omega)]
  rfl
/-- The mean of the squares of every row, and the small constant. -/
theorem pay7 (h : ℕ → ℕ → EReal) : k0_pay7 (F := Ideal) (X2 1056 1024 h) = X2 1056 1 fun i _ => ms h i := by
  simp only [k0_pay7, mulf_X2, lit, broadcast_X2]
  rw [rowsum, as_col, quot, addf_X2]
  rfl
/-- One over the root mean square of every row. -/
theorem pay8 (h : ℕ → ℕ → EReal) : k0_pay8 (F := Ideal) (X2 1056 1024 h) = X2 1056 1 fun i _ => rinv h i := by
  simp only [k0_pay8, pay7, root, rinv]
/-- The slope of one over the root of the mean of the squares. -/
theorem pay9 (h : ℕ → ℕ → EReal) : k0_pay9 (F := Ideal) (X2 1056 1024 h)
    = X2 1056 1 fun i _ => Ideal.ofBits .f32 0xBF000000#32 * Ideal.div (rinv h i) (ms h i) := by
  simp only [k0_pay9, pay7, pay8, quot, lit, broadcast_X2, mulf_X2]
/-- The normed rows. -/
theorem pay10 (h : ℕ → ℕ → EReal) : k0_pay10 (F := Ideal) (X2 1056 1024 h) = X2 1056 1024 fun i j => h i j * rinv h i := by
  simp only [k0_pay10, pay8, to_cols, mulf_X2]
/-- The errors. -/
theorem pay11 (h t : ℕ → ℕ → EReal) (g : ℕ → EReal) : k0_pay11 (F := Ideal) (X2 1 1024 fun _ j => g j) (X2 1056 1024 h) (X2 1056 1024 t)
    = X2 1056 1024 fun i j => err h t g i j := by
  simp only [k0_pay11, k0_pay5, cast_same, pay10, to_rows, mulf_X2, diff, err]
/-- The errors' mean squares, summed over the rows of a block. -/
theorem pay12 (i : grid0.Coords) (h t : ℕ → ℕ → EReal) (g k : ℕ → EReal) (hk : k0_pay6 (F := Ideal) i = X2 1056 1 fun r _ => k r) :
    k0_pay12 (F := Ideal) i (X2 1 1024 fun _ j => g j) (X2 1056 1024 h) (X2 1056 1024 t)
      = X2 1 1 fun _ _ => ∑ r ∈ Finset.range 1056, sq h t g k r := by
  simp only [k0_pay12, pay11, hk, mulf_X2, lit, broadcast_X2]
  rw [rowsum, as_col, quot, mulf_X2, colsum, as_row]
  rfl
/-- The sum of a stack of one matrix. -/
theorem boxsum {n m : ℕ} (f : ℕ → ℕ → EReal) (h : (⟨3, ![1, n, m]⟩ : Shape).Reduces [1, 2] ⟨1, ![1]⟩) (h2 : FTy.f32 = FTy.f32 ∨ FTy.f32 = FTy.bf16)
    (h3 : (0x00000000#32 : BitVec FTy.f32.bits) = 0x00000000#32) :
    multiReduction (F := Ideal) (φ := .f32) .add [1, 2] (⟨1, ![1]⟩ : Shape) (X3 n m f) 0x00000000#32 h h2 h3
      = X1 1 (fun _ => ∑ i ∈ Finset.range n, ∑ j ∈ Finset.range m, f i j) := by
  funext p
  refine (Ideal.reduceAdd_r3_a12 h (X3 n m f) p).trans ?_
  simp only [X3, X1, Finset.sum_range]
  rfl
/-- A vector of one as a stack of one row of one. -/
theorem as_box (a : EReal) (h : (⟨1, ![1]⟩ : Shape).ShapeCasts ⟨3, ![1, 1, 1]⟩) :
    shapeCast (⟨3, ![1, 1, 1]⟩ : Shape) (X1 1 fun _ => a) h = X3 1 1 (fun _ _ => a) := rfl
/-- One number, as a vector. -/
theorem broadcast_X1 (n : ℕ) (a : EReal) : broadcast (⟨1, ![n]⟩ : Shape) a = X1 n fun _ => a := rfl
/-- The gradient that reaches the errors. -/
theorem pay13 (h t : ℕ → ℕ → EReal) (g k : ℕ → EReal) : k0_pay13 (F := Ideal) (X2 1056 1 fun r _ => k r) (X2 1056 1024 fun i j => err h t g i j)
    = X2 1056 1024 fun i j => ct h t g k i j := by
  simp only [k0_pay13, lit, broadcast_X2, mulf_X2, stack_X2]
  rw [boxsum, as_box]
  simp only [Finset.sum_range_one]
  rw [show extractAt ![0, 0, 0] (X3 1 1 fun _ _ => Ideal.ofBits .f32 0x3F000000#32 * Ideal.ofBits .f32 0x3F800000#32) inpos_S1x1x1_p0_0_0
      = Ideal.ofBits .f32 0x3F000000#32 * Ideal.ofBits .f32 0x3F800000#32 from rfl, broadcast_X1, as_row, to_rows, mulf_X2, quot, rowsum, as_col, to_cols,
    mulf_X2, mulf_X2, addf_X2]
  simp only [Finset.sum_range_one]
  rfl
/-- What the block of rows adds to the gradient at the gain. -/
theorem pay14 (h t : ℕ → ℕ → EReal) (g k : ℕ → EReal) :
    k0_pay14 (F := Ideal) (X2 1056 1 fun r _ => k r) (X2 1056 1024 fun i j => h i j * rinv h i) (X2 1056 1024 fun i j => err h t g i j)
      = X2 1 1024 fun _ j => ∑ i ∈ Finset.range 1056, dg h (ct h t g k) i j := by
  simp only [k0_pay14, pay13, mulf_X2]
  rw [colsum, as_row]
  rfl
/-- The gradient at the rows of a block. -/
theorem pay15 (h t : ℕ → ℕ → EReal) (g k : ℕ → EReal) :
    k0_pay15 (F := Ideal) (X2 1 1024 fun _ j => g j) (X2 1056 1024 h) (X2 1056 1 fun r _ => k r) (X2 1056 1 fun i _ => rinv h i)
        (X2 1056 1 fun i _ => Ideal.ofBits .f32 0xBF000000#32 * Ideal.div (rinv h i) (ms h i)) (X2 1056 1024 fun i j => err h t g i j)
      = X2 1056 1024 fun i j => dh h (ct h t g k) g i j := by
  simp only [k0_pay15, pay13, to_rows, to_cols, mulf_X2, lit, broadcast_X2]
  rw [rowsum, as_col, mulf_X2, quot, rowsum, as_col, to_cols]
  simp only [Finset.sum_range_one, mulf_X2, addf_X2]
  rfl
/-- Half the sum, repeated. -/
theorem pay16 (a : EReal) : k0_pay16 (F := Ideal) (X2 1 1 fun _ _ => a) = X2 1 128 fun _ _ => Ideal.ofBits .f32 0x3F000000#32 * a := by
  simp only [k0_pay16, lit, broadcast_X2, mulf_X2, cast_same, to_cols]
/-- The loss with a block added. -/
theorem pay1 (a s : ℕ → ℕ → EReal) : k0_pay1 (F := Ideal) (X2 1 128 a) (X3 1 128 s) = X3 1 128 fun i j => s i j + a i j := by
  simp only [k0_pay1, unstack_X3, addf_X2, stack_X2]
/-- The gradient at the gain with a block added. -/
theorem pay2 (a s : ℕ → ℕ → EReal) : k0_pay2 (F := Ideal) (X2 1 1024 a) (X3 1 1024 s) = X3 1 1024 fun i j => s i j + a i j := by
  simp only [k0_pay2, unstack_X3, addf_X2, stack_X2]
/-- The loss before the first block. -/
theorem pay3 : k0_pay3 (F := Ideal) = X3 1 128 fun _ _ => 0 := by
  simp only [k0_pay3, lit, lit_zero, broadcast_X2, stack_X2, EReal.coe_zero]
/-- The gradient at the gain before the first block. -/
theorem pay4 : k0_pay4 (F := Ideal) = X3 1 1024 fun _ _ => 0 := by
  simp only [k0_pay4, lit, lit_zero, broadcast_X2, stack_X2, EReal.coe_zero]

/-! ## The grid -/

/-- The point `t` works on the `t`-th block of 1056 rows. -/
theorem idx : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (grid0.coords t 1).val = t.val := by decide +kernel

variable {m : (ℓ : Loc nD τ Cert.Kernel10Ideal.sig) → Buf (Elt Ideal) ℓ} {c : Dev nD}

variable {h t : ℕ → ℕ → EReal} {g : ℕ → EReal}

/-- The arguments, as functions of natural-number indices. -/
structure Args (m : (ℓ : Loc nD τ Cert.Kernel10Ideal.sig) → Buf (Elt Ideal) ℓ) (c : Dev nD) (h t : ℕ → ℕ → EReal) (g : ℕ → EReal) : Prop where
  h : m ((c : Thread nD τ).loc main_arg0) = X2 2112 1024 h
  t : m ((c : Thread nD τ).loc main_arg1) = X2 2048 1024 t
  g : m ((c : Thread nD τ).loc main_arg2) = X1 1024 g

section Reads
variable (a : Args m c h t g)
include a

/-- The block of rows. -/
theorem blk0 (p : Fin cfg0.N) : iblk (F := Ideal) m c 0 p = X2 1056 1024 fun i j => h (1056 * p.val + i) j := by
  obtain ⟨⟨i00, i01⟩, -⟩ := idx p
  funext q
  unfold iblk
  rw [show V m c (Pipeline.arrRef spec0 0) = X2 2112 1024 h from (V_main_arg0 m c).trans a.h]
  blk_simp
  simp only [X2]
  blk_simp
  rw [i00, i01, Nat.zero_mul, Nat.zero_add, Nat.mul_comm 1056]
/-- The block of rows of the target. -/
theorem blk1 (p : Fin cfg0.N) : iblk (F := Ideal) m c 1 p = X2 1056 1024 fun i j => front t (1056 * p.val + i) j := by
  obtain ⟨-, ⟨i00, i01⟩, -⟩ := idx p
  have e : V m c main_v1 = X2 2112 1024 (front t) := by
    entry_read
    rw [show m (c, main_arg1) = X2 2048 1024 t from a.t]
    exact concat_X2 (hconst _ _) rfl _
  funext q
  unfold iblk
  rw [show V m c (Pipeline.arrRef spec0 1) = X2 2112 1024 (front t) from e]
  blk_simp
  simp only [X2]
  blk_simp
  rw [i00, i01, Nat.zero_mul, Nat.zero_add, Nat.mul_comm 1056]
/-- The gain, whole at every point. -/
theorem blk2 (p : Fin cfg0.N) : iblk (F := Ideal) m c 2 p = X2 1 1024 fun _ j => g j := by
  obtain ⟨-, -, ⟨i00, i01⟩, -⟩ := idx p
  have e : V m c main_v2 = X2 1 1024 fun _ j => g j := by
    entry_read
    rw [show m (c, main_arg2) = X1 1024 g from a.g]
    exact as_row g _
  funext q
  unfold iblk
  rw [show V m c (Pipeline.arrRef spec0 2) = X2 1 1024 fun _ j => g j from e]
  blk_simp
  simp only [X2]
  blk_simp
  simp only [i01, Nat.zero_mul, Nat.zero_add]

/-- After every point: the gradient at its block of rows. -/
theorem rows (n : ℕ) (hn : n < cfg0.N) : (outsAt0 (F := Ideal) m c n hn).1
    = X2 1056 1024 fun i j => dh h (ct h (front t) g keep) g (1056 * n + i) j := by
  have k := pay6 (grid0.coords ⟨n, hn⟩) n (idx ⟨n, hn⟩).2.2.2.2
  by_cases h0 : n % 2 = 0
  · rw [outsAt0_A m c ⟨n, hn⟩ h0]
    frame_out
    rw [blk0 a, blk1 a, blk2 a, k, pay8, pay9, pay11, k0_pay5, cast_same, pay15]
    rfl
  · rw [outsAt0_B m c ⟨n, hn⟩ h0]
    frame_out
    rw [blk0 a, blk1 a, blk2 a, k, pay8, pay9, pay11, k0_pay5, cast_same, pay15]
    rfl

/-- After every point: half the sum of the errors over the blocks so far. -/
theorem loss_all (n : ℕ) (hn : n < cfg0.N) : (outsAt0 (F := Ideal) m c n hn).2.1
    = X3 1 128 (fun _ _ => ∑ u ∈ Finset.range (n + 1), Ideal.ofBits .f32 0x3F000000#32 * ∑ i ∈ Finset.range 1056, sq h (front t) g keep (1056 * u + i)) := by
  have h2 : n < 2 := hn
  induction n with
  | zero =>
    have k := pay6 (grid0.coords ⟨0, hn⟩) 0 (idx ⟨0, hn⟩).2.2.2.2
    rw [outsAt0_A m c ⟨0, hn⟩ rfl]
    frame_out
    rw [pay3, blk0 a, blk1 a, blk2 a, pay12 _ _ _ _ _ k, pay16, pay1]
    exact X3_congr fun i _ j _ => (zero_add _).trans (Finset.sum_range_one (fun u => Ideal.ofBits .f32 0x3F000000#32 * ∑ i ∈ Finset.range 1056, sq h (front t) g keep (1056 * u + i))).symm
  | succ n ih =>
    have k := pay6 (grid0.coords ⟨n + 1, hn⟩) (n + 1) (idx ⟨n + 1, hn⟩).2.2.2.2
    have s := ih (Nat.lt_of_succ_lt hn) (by omega)
    rw [outsAt0_B m c ⟨n + 1, hn⟩ (by show ¬ (n + 1) % 2 = 0; omega)]
    frame_out
    simp only [Nat.add_sub_cancel, s]
    rw [blk0 a, blk1 a, blk2 a, pay12 _ _ _ _ _ k, pay16, pay1]
    exact X3_congr fun i _ j _ => (Finset.sum_range_succ (fun u => Ideal.ofBits .f32 0x3F000000#32 * ∑ i ∈ Finset.range 1056, sq h (front t) g keep (1056 * u + i)) (n + 1)).symm

/-- After every point: the gradient at the gain summed over the blocks so far. -/
theorem acc_all (n : ℕ) (hn : n < cfg0.N) : (outsAt0 (F := Ideal) m c n hn).2.2
    = X3 1 1024 (fun _ j => ∑ u ∈ Finset.range (n + 1), ∑ i ∈ Finset.range 1056, dg h (ct h (front t) g keep) (1056 * u + i) j) := by
  have h2 : n < 2 := hn
  induction n with
  | zero =>
    have k := pay6 (grid0.coords ⟨0, hn⟩) 0 (idx ⟨0, hn⟩).2.2.2.2
    rw [outsAt0_A m c ⟨0, hn⟩ rfl]
    frame_out
    rw [pay4, blk0 a, blk1 a, blk2 a, k, pay10, pay11, pay14, pay2]
    exact X3_congr fun i _ j _ => (zero_add _).trans (Finset.sum_range_one (fun u => ∑ i ∈ Finset.range 1056, dg h (ct h (front t) g keep) (1056 * u + i) j)).symm
  | succ n ih =>
    have k := pay6 (grid0.coords ⟨n + 1, hn⟩) (n + 1) (idx ⟨n + 1, hn⟩).2.2.2.2
    have s := ih (Nat.lt_of_succ_lt hn) (by omega)
    rw [outsAt0_B m c ⟨n + 1, hn⟩ (by show ¬ (n + 1) % 2 = 0; omega)]
    frame_out
    simp only [Nat.add_sub_cancel, s]
    rw [blk0 a, blk1 a, blk2 a, k, pay10, pay11, pay14, pay2]
    exact X3_congr fun i _ j _ => (Finset.sum_range_succ (fun u => ∑ i ∈ Finset.range 1056, dg h (ct h (front t) g keep) (1056 * u + i) j) (n + 1)).symm

/-- The last point. -/
def last : Fin cfg0.N := ⟨1, by decide⟩

/-- The gradient at the rows, after the last point. -/
theorem final3 : (dats (F := Ideal) m 0 c).arrAt 3 cfg0.N = X2 2112 1024 fun i j => dh h (ct h (front t) g keep) g i j := by
  refine (dats m 0 c).arrAt_eq_of_covers 3 _ (by decide +kernel) fun p _ q => ?_
  obtain ⟨-, -, -, ⟨i00, i01⟩, -⟩ := idx p
  blk_simp
  rw [after0_3, rows a p.val p.isLt]
  simp only [X2]
  blk_simp
  rw [i00, i01, Nat.mul_comm 1056, Nat.zero_mul, Nat.zero_add]
/-- The loss, after the last point. -/
theorem final4 : (dats (F := Ideal) m 0 c).arrAt 4 cfg0.N
    = X3 1 128 fun _ _ => Ideal.ofBits .f32 0x3F000000#32 * ∑ i ∈ Finset.range 2112, sq h (front t) g keep i := by
  refine (dats m 0 c).arrAt_eq_of_after_last 4 last (by decide +kernel) _ fun j => ?_
  blk_simp
  rw [after0_4, loss_all a _ last.isLt]
  simp only [X3]
  exact halves (sq h (front t) g keep)
/-- The gradient at the gain, after the last point. -/
theorem final5 : (dats (F := Ideal) m 0 c).arrAt 5 cfg0.N = X3 1 1024 fun _ j => ∑ i ∈ Finset.range 2112, dg h (ct h (front t) g keep) i j := by
  refine (dats m 0 c).arrAt_eq_of_after_last 5 last (by decide +kernel) _ fun j => ?_
  blk_simp
  rw [after0_5, acc_all a _ last.isLt]
  simp only [X3]
  exact sum_blocks (fun q => dg h (ct h (front t) g keep) q (j 2).val) 1056 2

end Reads

/-! ## The reference -/

/-- The frame of the reference. -/
theorem frameRI : Cert.quiescent_Reference10Ideal := by
  intro m ρ _
  hlo_run
  · exact fun _ => ⟨trivial, trivial, trivial⟩
  · funext g
    rcases g with ⟨t, s⟩
    cases s with
    | reg s => exact s.elim0
    | dma s => exact s.elim0

/-- The sums of the rows, laid out as a column. -/
theorem ref_col (f : ℕ → EReal) (k) : (fun i => shapeCast Cert.Reference10Ideal.main_v40.ty.shape (X1 2048 f) k i) = X2 2048 1 fun i _ => f i :=
  as_col f k
/-- The sums of the columns, laid out as a row. -/
theorem ref_row (f : ℕ → EReal) (k) : (fun i => shapeCast Cert.Reference10Ideal.main_v34.ty.shape (X1 1024 f) k i) = X2 1 1024 fun _ j => f j :=
  as_row f k
/-- A constant vector. -/
theorem hvec (n : ℕ) (w : BitVec 32) (k) :
    broadcastInDim (α := Elt Ideal .f32) (⟨1, ![n]⟩ : Shape) (![] : Fin 0 → Fin 1) k (constant (F := Ideal) (⟨0, ![]⟩ : Shape) .f32 w)
      = X1 n fun _ => Ideal.ofBits .f32 w := rfl
/-- A product of constants, as a vector. -/
theorem hvec2 (n : ℕ) (v w : BitVec 32) (k) :
    broadcastInDim (α := Elt Ideal .f32) (⟨1, ![n]⟩ : Shape) (![] : Fin 0 → Fin 1) k
        (mulf (F := Ideal) (φ := .f32) (constant (F := Ideal) (⟨0, ![]⟩ : Shape) .f32 v) (constant (F := Ideal) (⟨0, ![]⟩ : Shape) .f32 w))
      = X1 n fun _ => Ideal.ofBits .f32 v * Ideal.ofBits .f32 w := rfl
/-- The reference's quotients of vectors. -/
theorem hquot1 (n : ℕ) (f g : ℕ → EReal) : Host.divf (F := Ideal) (φ := .f32) (X1 n f) (X1 n g) = X1 n fun i => Ideal.div (f i) (g i) := rfl
/-- The sum of a vector. -/
theorem hsum (n : ℕ) (f : ℕ → EReal) (k : (⟨1, ![n]⟩ : Shape).ReducesTo [0] ⟨0, ![]⟩) (k2) :
    Host.reduceAdd (F := Ideal) (φ := .f32) (X1 n f) (constant (F := Ideal) (⟨0, ![]⟩ : Shape) .f32 0x00000000#32) k k2
      = fun _ => ∑ i ∈ Finset.range n, f i := by
  rw [constant_lit, lit_zero]
  funext j
  refine (Ideal.hostReduceAdd_r1_a0 k (X1 n f) _ j).trans ?_
  exact (congrArg _ (Finset.sum_range fun i => f i).symm).trans (zero_add _)

/-- From memories agreeing on the arguments the kernel and the reference end with equal losses and gradients. -/
theorem algebraic : Cert.algebraic_Kernel10Ideal_Reference10Ideal := by
  pair_intro
  · run_from Cert.Kernel10Ideal.Value.run_blocks m g
  · hlo_run
    all_goals
      obtain ⟨h, hh⟩ := exists_X2 (m (c.tc.loc main_arg0))
      obtain ⟨t, ht⟩ := exists_X2 (m (c.tc.loc main_arg1))
      obtain ⟨w, hw⟩ := exists_X1 (m (c.tc.loc main_arg2))
      have a : Args m c h t w := ⟨hh, ht, hw⟩
    · rw [final3 a]
      refine (concat_X2 (g := dh (tl h) (rct (tl h) t w) w) (hconst _ _) ?_ _).trans (X2_congr fun i _ j _ => ?_)
      · simp only [(hagree c).2.2, hh, ht, hw, slice_X2, mulf_X2, hrowsum]
        rw [hcol1, hconst, hconst, hconst, hconst, hrow1]
        simp only [hquot, addf_X2, hroot, mulf_X2]
        rw [hcols, hrows]
        simp only [mulf_X2, diff]
        rw [hvec2, hvec, hquot1, hcol1]
        simp only [mulf_X2, hrowsum]
        rw [ref_col]
        simp only [mulf_X2, hquot, hrowsum, Finset.sum_range_one]
        rw [hcol1]
        simp only [mulf_X2, addf_X2, Nat.zero_add]
        rfl
      · by_cases hi : i < 64
        · rw [if_pos hi, dh_lo h t w hi j, lit_zero]; rfl
        · obtain ⟨k, rfl⟩ : ∃ k, i = 64 + k := ⟨i - 64, by omega⟩
          rw [if_neg hi, dh_hi h t w k j, Nat.add_sub_cancel_left]
    · rw [final4 a, sum_sq]
      simp only [hh, ht, hw, slice_X2, mulf_X2, hrowsum]
      rw [hcol1, hconst, hconst, hrow1]
      simp only [hquot, addf_X2, hroot, mulf_X2]
      rw [hcols, hrows]
      simp only [mulf_X2, diff, hrowsum]
      rw [hvec, hquot1, hsum]
      simp only [Nat.zero_add, sq, mul_one]
      rfl
    · rw [final5 a]
      simp only [sum_dg]
      simp only [hh, ht, hw, slice_X2, mulf_X2, hrowsum]
      rw [hcol1, hconst, hconst, hconst, hrow1]
      simp only [hquot, addf_X2, hroot, mulf_X2]
      rw [hcols, hrows]
      simp only [mulf_X2, diff]
      rw [hvec2, hvec, hquot1, hcol1]
      simp only [mulf_X2, hcolsum]
      rw [ref_row, hcolsum]
      simp only [Finset.sum_range_one, Nat.zero_add]
      exact hstack _ _

end Cert.Loss

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Final
public import proofs.«01_k».proof.Proof.Mix
public import proofs.«01_k».proof.Proof.MixOut
public import proofs.«01_k».proof.Proof.Ffn
public import proofs.«01_k».proof.Proof.MixIn
public import proofs.«01_k».proof.Proof.MixOutFwd
public import proofs.«01_k».proof.Proof.FfnBwdRef
public import proofs.«01_k».proof.Proof.FfnBwdSame
public import proofs.«01_k».proof.Proof.Norm
public import proofs.«01_k».proof.Proof.NormFwd
public import proofs.«01_k».proof.Proof.Loss
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Skeleton
public import proofs.«01_k».proof.Proof.Gen.Reference7Ideal
public import proofs.«01_k».proof.Proof.Gen.Kernel8.Frame
public import proofs.«01_k».proof.Proof.Gen.Kernel9.Frame
public import proofs.«01_k».proof.Proof.Gen.Kernel10.Frame
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Final.preFacts, Cert.FfnBwd.preFacts,
  fun m ρ _ => Cert.Kernel.Gen.frame m ρ, fun m ρ _ => Cert.KernelIdeal.Gen.frame m ρ, fun m ρ _ => Cert.KernelIdeal.Gen.frame m ρ,
  fun m ρ _ => Cert.Final.frameRI m ρ, fun m ρ _ => Cert.Final.frameRI m ρ,
  fun m ρ _ => Cert.Kernel2.Gen.frame m ρ, fun m ρ _ => Cert.Kernel2Ideal.Gen.frame m ρ, Cert.Mix.frameRI,
  fun m ρ _ => Cert.Kernel3.Gen.frame m ρ, fun m ρ _ => Cert.Kernel3Ideal.Gen.frame m ρ, Cert.MixOut.frameRI,
  fun m ρ _ => Cert.Kernel4.Gen.frame m ρ, fun m ρ _ => Cert.Kernel4Ideal.Gen.frame m ρ, Cert.Ffn.frameRI,
  fun m ρ _ => Cert.Kernel5.Gen.frame m ρ, fun m ρ _ => Cert.Kernel5Ideal.Gen.frame m ρ, Cert.MixIn.frameRI,
  fun m ρ _ => Cert.Kernel6.Gen.frame m ρ, fun m ρ _ => Cert.Kernel6Ideal.Gen.frame m ρ, Cert.MixOutFwd.frameRI,
  Cert.FfnBwd.frameK, fun m ρ _ => Cert.FfnBwd.frame m ρ, fun m ρ _ => Cert.FfnBwd.frame m ρ, Cert.FfnBwd.frameRI, fun m ρ _ => Cert.FfnBwd.frameRI m ρ trivial,
  fun m ρ _ => Cert.Kernel8.Gen.frame m ρ, fun m ρ _ => Cert.Kernel8Ideal.Gen.frame m ρ, Cert.Norm.frameRI,
  fun m ρ _ => Cert.Kernel9.Gen.frame m ρ, fun m ρ _ => Cert.Kernel9Ideal.Gen.frame m ρ, Cert.NormFwd.frameRI,
  fun m ρ _ => Cert.Kernel10.Gen.frame m ρ, fun m ρ _ => Cert.Kernel10Ideal.Gen.frame m ρ, Cert.Loss.frameRI,
  trivial, Cert.Final.algebraic, trivial, Cert.Mix.algebraic, trivial, Cert.MixOut.algebraic, trivial, Cert.Ffn.algebraic, trivial, Cert.MixIn.algebraic, trivial, Cert.MixOutFwd.algebraic,
  trivial, Cert.FfnBwd.algebraic, trivial, Cert.Norm.algebraic, trivial, Cert.NormFwd.algebraic, trivial, Cert.Loss.algebraic⟩

end Cert.Proof

end
